-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down0 (m : (ℓ : Loc Cert.Down0.nD Cert.Down0.τ Cert.Down0.sig) → Buf (Elt Bits) ℓ) : Prop :=
  True

def Pre_Down0Ideal (m : (ℓ : Loc Cert.Down0Ideal.nD Cert.Down0Ideal.τ Cert.Down0Ideal.sig) → Buf (Elt Ideal) ℓ) : Prop :=
  True

def Pre_Down0RefIdeal (m : (ℓ : Loc Cert.Down0RefIdeal.nD Cert.Down0RefIdeal.τ Cert.Down0RefIdeal.sig) → Buf (Elt Ideal) ℓ) : Prop :=
  True

def Pre_Down1 (m : (ℓ : Loc Cert.Down1.nD Cert.Down1.τ Cert.Down1.sig) → Buf (Elt Bits) ℓ) : Prop :=
  True

def Pre_Down1Ideal (m : (ℓ : Loc Cert.Down1Ideal.nD Cert.Down1Ideal.τ Cert.Down1Ideal.sig) → Buf (Elt Ideal) ℓ) : Prop :=
  True

def Pre_Down1RefIdeal (m : (ℓ : Loc Cert.Down1RefIdeal.nD Cert.Down1RefIdeal.τ Cert.Down1RefIdeal.sig) → Buf (Elt Ideal) ℓ) : Prop :=
  True

def Pre_Out0 (m : (ℓ : Loc Cert.Out0.nD Cert.Out0.τ Cert.Out0.sig) → Buf (Elt Bits) ℓ) : Prop :=
  True

def Pre_Out0Ideal (m : (ℓ : Loc Cert.Out0Ideal.nD Cert.Out0Ideal.τ Cert.Out0Ideal.sig) → Buf (Elt Ideal) ℓ) : Prop :=
  True

def Pre_Out0RefIdeal (m : (ℓ : Loc Cert.Out0RefIdeal.nD Cert.Out0RefIdeal.τ Cert.Out0RefIdeal.sig) → Buf (Elt Ideal) ℓ) : Prop :=
  True

def Pre_Out1 (m : (ℓ : Loc Cert.Out1.nD Cert.Out1.τ Cert.Out1.sig) → Buf (Elt Bits) ℓ) : Prop :=
  True

def Pre_Out1Ideal (m : (ℓ : Loc Cert.Out1Ideal.nD Cert.Out1Ideal.τ Cert.Out1Ideal.sig) → Buf (Elt Ideal) ℓ) : Prop :=
  True

def Pre_Out1RefIdeal (m : (ℓ : Loc Cert.Out1RefIdeal.nD Cert.Out1RefIdeal.τ Cert.Out1RefIdeal.sig) → Buf (Elt Ideal) ℓ) : Prop :=
  True

def Pre_QuantIn (m : (ℓ : Loc Cert.QuantIn.nD Cert.QuantIn.τ Cert.QuantIn.sig) → Buf (Elt Bits) ℓ) : Prop :=
  True

def Pre_QuantInIdeal (m : (ℓ : Loc Cert.QuantInIdeal.nD Cert.QuantInIdeal.τ Cert.QuantInIdeal.sig) → Buf (Elt Ideal) ℓ) : Prop :=
  True

def Pre_QuantInRefIdeal (m : (ℓ : Loc Cert.QuantInRefIdeal.nD Cert.QuantInRefIdeal.τ Cert.QuantInRefIdeal.sig) → Buf (Elt Ideal) ℓ) : Prop :=
  True

def Pre_QuantAttn (m : (ℓ : Loc Cert.QuantAttn.nD Cert.QuantAttn.τ Cert.QuantAttn.sig) → Buf (Elt Bits) ℓ) : Prop :=
  True

def Pre_QuantAttnIdeal (m : (ℓ : Loc Cert.QuantAttnIdeal.nD Cert.QuantAttnIdeal.τ Cert.QuantAttnIdeal.sig) → Buf (Elt Ideal) ℓ) : Prop :=
  True

def Pre_QuantAttnRefIdeal (m : (ℓ : Loc Cert.QuantAttnRefIdeal.nD Cert.QuantAttnRefIdeal.τ Cert.QuantAttnRefIdeal.sig) → Buf (Elt Ideal) ℓ) : Prop :=
  True

def Pre_QuantPost (m : (ℓ : Loc Cert.QuantPost.nD Cert.QuantPost.τ Cert.QuantPost.sig) → Buf (Elt Bits) ℓ) : Prop :=
  True

def Pre_QuantPostIdeal (m : (ℓ : Loc Cert.QuantPostIdeal.nD Cert.QuantPostIdeal.τ Cert.QuantPostIdeal.sig) → Buf (Elt Ideal) ℓ) : Prop :=
  True

def Pre_QuantPostRefIdeal (m : (ℓ : Loc Cert.QuantPostRefIdeal.nD Cert.QuantPostRefIdeal.τ Cert.QuantPostRefIdeal.sig) → Buf (Elt Ideal) ℓ) : Prop :=
  True

def Pre_QuantFfn (m : (ℓ : Loc Cert.QuantFfn.nD Cert.QuantFfn.τ Cert.QuantFfn.sig) → Buf (Elt Bits) ℓ) : Prop :=
  True

def Pre_QuantFfnIdeal (m : (ℓ : Loc Cert.QuantFfnIdeal.nD Cert.QuantFfnIdeal.τ Cert.QuantFfnIdeal.sig) → Buf (Elt Ideal) ℓ) : Prop :=
  True

def Pre_QuantFfnRefIdeal (m : (ℓ : Loc Cert.QuantFfnRefIdeal.nD Cert.QuantFfnRefIdeal.τ Cert.QuantFfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_keys [hPre_finite_keys : Cert.Pre_finite_keys.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_keys.fn (F := Ideal) (m ((c.tc : Thread Cert.AttentionIdeal.nD Cert.AttentionIdeal.τ).loc Cert.AttentionIdeal.main_arg0))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_finite_keys [hPre_finite_keys : Cert.Pre_finite_keys.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_finite_keys.fn (F := Ideal) (m ((c.tc : Thread Cert.AttentionRefIdeal.nD Cert.AttentionRefIdeal.τ).loc Cert.AttentionRefIdeal.main_arg0))) = (fun _ => 1#1)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def quiescent_Down0 [hDown0 : Cert.Down0.Facts] : Prop :=
  ∀ (m : (ℓ : Loc Cert.Down0.nD Cert.Down0.τ Cert.Down0.sig) → Buf (Elt Bits) ℓ) (g : Dev Cert.Down0.nD → PrngReg), Pre_Down0 m →
    θ_run (Cert.Down0.defs (F := Bits)) (onTc (τ := Cert.Down0.τ) (Cert.Down0.main (F := Bits))) ⟨m, fun _ => 0, g⟩ (fun r => (∀ c : Dev Cert.Down0.nD,
      r.2.mem ((c.tc : Thread Cert.Down0.nD Cert.Down0.τ).loc Cert.Down0.main_arg0) = m ((c.tc : Thread Cert.Down0.nD Cert.Down0.τ).loc Cert.Down0.main_arg0)
      ∧ r.2.mem ((c.tc : Thread Cert.Down0.nD Cert.Down0.τ).loc Cert.Down0.main_arg1) = m ((c.tc : Thread Cert.Down0.nD Cert.Down0.τ).loc Cert.Down0.main_arg1)
      ∧ r.2.mem ((c.tc : Thread Cert.Down0.nD Cert.Down0.τ).loc Cert.Down0.main_arg2) = m ((c.tc : Thread Cert.Down0.nD Cert.Down0.τ).loc Cert.Down0.main_arg2)
      ∧ r.2.mem ((c.tc : Thread Cert.Down0.nD Cert.Down0.τ).loc Cert.Down0.main_arg3) = m ((c.tc : Thread Cert.Down0.nD Cert.Down0.τ).loc Cert.Down0.main_arg3))
      ∧ r.2.sem = fun _ => 0)

def quiescent_Down0Ideal [hDown0Ideal : Cert.Down0Ideal.Facts] : Prop :=
  ∀ (m : (ℓ : Loc Cert.Down0Ideal.nD Cert.Down0Ideal.τ Cert.Down0Ideal.sig) → Buf (Elt Ideal) ℓ) (g : Dev Cert.Down0Ideal.nD → PrngReg), Pre_Down0Ideal m →
    θ_run (Cert.Down0Ideal.defs (F := Ideal)) (onTc (τ := Cert.Down0Ideal.τ) (Cert.Down0Ideal.main (F := Ideal))) ⟨m, fun _ => 0, g⟩ (fun r => (∀ c : Dev Cert.Down0Ideal.nD,
      r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
      ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
      ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2)
      ∧ r.2.mem ((c.tc : Thread Cert.Down0Ideal.nD Cert.Down0Ideal.τ).loc Cert.Down0Ideal.main_arg3) = m ((c.tc : Thread Cert.Down0Ideal.nD Cert.Down0Ideal.τ).loc Cert.Down0Ideal.main_arg3))
      ∧ r.2.sem = fun _ => 0)

def quiescent_Down0RefIdeal [hDown0RefIdeal : Cert.Down0RefIdeal.Facts] : Prop :=
  ∀ (m : (ℓ : Loc Cert.Down0RefIdeal.nD Cert.Down0RefIdeal.τ Cert.Down0RefIdeal.sig) → Buf (Elt Ideal) ℓ) (g : Dev Cert.Down0RefIdeal.nD → PrngReg), Pre_Down0RefIdeal m →
    θ_run (Cert.Down0RefIdeal.defs (F := Ideal)) (onTc (τ := Cert.Down0RefIdeal.τ) (Cert.Down0RefIdeal.main (F := Ideal))) ⟨m, fun _ => 0, g⟩ (fun r => (∀ c : Dev Cert.Down0RefIdeal.nD,
      r.2.mem ((c.tc : Thread Cert.Down0RefIdeal.nD Cert.Down0RefIdeal.τ).loc Cert.Down0RefIdeal.main_arg0) = m ((c.tc : Thread Cert.Down0RefIdeal.nD Cert.Down0RefIdeal.τ).loc Cert.Down0RefIdeal.main_arg0)
      ∧ r.2.mem ((c.tc : Thread Cert.Down0RefIdeal.nD Cert.Down0RefIdeal.τ).loc Cert.Down0RefIdeal.main_arg1) = m ((c.tc : Thread Cert.Down0RefIdeal.nD Cert.Down0RefIdeal.τ).loc Cert.Down0RefIdeal.main_arg1)
      ∧ r.2.mem ((c.tc : Thread Cert.Down0RefIdeal.nD Cert.Down0RefIdeal.τ).loc Cert.Down0RefIdeal.main_arg2) = m ((c.tc : Thread Cert.Down0RefIdeal.nD Cert.Down0RefIdeal.τ).loc Cert.Down0RefIdeal.main_arg2)
      ∧ r.2.mem ((c.tc : Thread Cert.Down0RefIdeal.nD Cert.Down0RefIdeal.τ).loc Cert.Down0RefIdeal.main_arg3) = m ((c.tc : Thread Cert.Down0RefIdeal.nD Cert.Down0RefIdeal.τ).loc Cert.Down0RefIdeal.main_arg3))
      ∧ r.2.sem = fun _ => 0)

def quiescent_Down1 [hDown1 : Cert.Down1.Facts] : Prop :=
  ∀ (m : (ℓ : Loc Cert.Down1.nD Cert.Down1.τ Cert.Down1.sig) → Buf (Elt Bits) ℓ) (g : Dev Cert.Down1.nD → PrngReg), Pre_Down1 m →
    θ_run (Cert.Down1.defs (F := Bits)) (onTc (τ := Cert.Down1.τ) (Cert.Down1.main (F := Bits))) ⟨m, fun _ => 0, g⟩ (fun r => (∀ c : Dev Cert.Down1.nD,
      r.2.mem ((c.tc : Thread Cert.Down1.nD Cert.Down1.τ).loc Cert.Down1.main_arg0) = m ((c.tc : Thread Cert.Down1.nD Cert.Down1.τ).loc Cert.Down1.main_arg0)
      ∧ r.2.mem ((c.tc : Thread Cert.Down1.nD Cert.Down1.τ).loc Cert.Down1.main_arg1) = m ((c.tc : Thread Cert.Down1.nD Cert.Down1.τ).loc Cert.Down1.main_arg1)
      ∧ r.2.mem ((c.tc : Thread Cert.Down1.nD Cert.Down1.τ).loc Cert.Down1.main_arg2) = m ((c.tc : Thread Cert.Down1.nD Cert.Down1.τ).loc Cert.Down1.main_arg2)
      ∧ r.2.mem ((c.tc : Thread Cert.Down1.nD Cert.Down1.τ).loc Cert.Down1.main_arg3) = m ((c.tc : Thread Cert.Down1.nD Cert.Down1.τ).loc Cert.Down1.main_arg3)
      ∧ r.2.mem ((c.tc : Thread Cert.Down1.nD Cert.Down1.τ).loc Cert.Down1.main_arg4) = m ((c.tc : Thread Cert.Down1.nD Cert.Down1.τ).loc Cert.Down1.main_arg4))
      ∧ r.2.sem = fun _ => 0)

def quiescent_Down1Ideal [hDown1Ideal : Cert.Down1Ideal.Facts] : Prop :=
  ∀ (m : (ℓ : Loc Cert.Down1Ideal.nD Cert.Down1Ideal.τ Cert.Down1Ideal.sig) → Buf (Elt Ideal) ℓ) (g : Dev Cert.Down1Ideal.nD → PrngReg), Pre_Down1Ideal m →
    θ_run (Cert.Down1Ideal.defs (F := Ideal)) (onTc (τ := Cert.Down1Ideal.τ) (Cert.Down1Ideal.main (F := Ideal))) ⟨m, fun _ => 0, g⟩ (fun r => (∀ c : Dev Cert.Down1Ideal.nD,
      r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
      ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1)
      ∧ r.2.mem ((c.tc : Thread Cert.Down1Ideal.nD Cert.Down1Ideal.τ).loc Cert.Down1Ideal.main_arg2) = m ((c.tc : Thread Cert.Down1Ideal.nD Cert.Down1Ideal.τ).loc Cert.Down1Ideal.main_arg2)
      ∧ r.2.mem ((c.tc : Thread Cert.Down1Ideal.nD Cert.Down1Ideal.τ).loc Cert.Down1Ideal.main_arg3) = m ((c.tc : Thread Cert.Down1Ideal.nD Cert.Down1Ideal.τ).loc Cert.Down1Ideal.main_arg3)
      ∧ r.2.mem ((c.tc : Thread Cert.Down1Ideal.nD Cert.Down1Ideal.τ).loc Cert.Down1Ideal.main_arg4) = m ((c.tc : Thread Cert.Down1Ideal.nD Cert.Down1Ideal.τ).loc Cert.Down1Ideal.main_arg4))
      ∧ r.2.sem = fun _ => 0)

def quiescent_Down1RefIdeal [hDown1RefIdeal : Cert.Down1RefIdeal.Facts] : Prop :=
  ∀ (m : (ℓ : Loc Cert.Down1RefIdeal.nD Cert.Down1RefIdeal.τ Cert.Down1RefIdeal.sig) → Buf (Elt Ideal) ℓ) (g : Dev Cert.Down1RefIdeal.nD → PrngReg), Pre_Down1RefIdeal m →
    θ_run (Cert.Down1RefIdeal.defs (F := Ideal)) (onTc (τ := Cert.Down1RefIdeal.τ) (Cert.Down1RefIdeal.main (F := Ideal))) ⟨m, fun _ => 0, g⟩ (fun r => (∀ c : Dev Cert.Down1RefIdeal.nD,
      r.2.mem ((c.tc : Thread Cert.Down1RefIdeal.nD Cert.Down1RefIdeal.τ).loc Cert.Down1RefIdeal.main_arg0) = m ((c.tc : Thread Cert.Down1RefIdeal.nD Cert.Down1RefIdeal.τ).loc Cert.Down1RefIdeal.main_arg0)
      ∧ r.2.mem ((c.tc : Thread Cert.Down1RefIdeal.nD Cert.Down1RefIdeal.τ).loc Cert.Down1RefIdeal.main_arg1) = m ((c.tc : Thread Cert.Down1RefIdeal.nD Cert.Down1RefIdeal.τ).loc Cert.Down1RefIdeal.main_arg1)
      ∧ r.2.mem ((c.tc : Thread Cert.Down1RefIdeal.nD Cert.Down1RefIdeal.τ).loc Cert.Down1RefIdeal.main_arg2) = m ((c.tc : Thread Cert.Down1RefIdeal.nD Cert.Down1RefIdeal.τ).loc Cert.Down1RefIdeal.main_arg2)
      ∧ r.2.mem ((c.tc : Thread Cert.Down1RefIdeal.nD Cert.Down1RefIdeal.τ).loc Cert.Down1RefIdeal.main_arg3) = m ((c.tc : Thread Cert.Down1RefIdeal.nD Cert.Down1RefIdeal.τ).loc Cert.Down1RefIdeal.main_arg3)
      ∧ r.2.mem ((c.tc : Thread Cert.Down1RefIdeal.nD Cert.Down1RefIdeal.τ).loc Cert.Down1RefIdeal.main_arg4) = m ((c.tc : Thread Cert.Down1RefIdeal.nD Cert.Down1RefIdeal.τ).loc Cert.Down1RefIdeal.main_arg4))
      ∧ r.2.sem = fun _ => 0)

def quiescent_Out0 [hOut0 : Cert.Out0.Facts] : Prop :=
  ∀ (m : (ℓ : Loc Cert.Out0.nD Cert.Out0.τ Cert.Out0.sig) → Buf (Elt Bits) ℓ) (g : Dev Cert.Out0.nD → PrngReg), Pre_Out0 m →
    θ_run (Cert.Out0.defs (F := Bits)) (onTc (τ := Cert.Out0.τ) (Cert.Out0.main (F := Bits))) ⟨m, fun _ => 0, g⟩ (fun r => (∀ c : Dev Cert.Out0.nD,
      r.2.mem ((c.tc : Thread Cert.Out0.nD Cert.Out0.τ).loc Cert.Out0.main_arg0) = m ((c.tc : Thread Cert.Out0.nD Cert.Out0.τ).loc Cert.Out0.main_arg0)
      ∧ r.2.mem ((c.tc : Thread Cert.Out0.nD Cert.Out0.τ).loc Cert.Out0.main_arg1) = m ((c.tc : Thread Cert.Out0.nD Cert.Out0.τ).loc Cert.Out0.main_arg1)
      ∧ r.2.mem ((c.tc : Thread Cert.Out0.nD Cert.Out0.τ).loc Cert.Out0.main_arg2) = m ((c.tc : Thread Cert.Out0.nD Cert.Out0.τ).loc Cert.Out0.main_arg2)
      ∧ r.2.mem ((c.tc : Thread Cert.Out0.nD Cert.Out0.τ).loc Cert.Out0.main_arg3) = m ((c.tc : Thread Cert.Out0.nD Cert.Out0.τ).loc Cert.Out0.main_arg3))
      ∧ r.2.sem = fun _ => 0)

def quiescent_Out0Ideal [hOut0Ideal : Cert.Out0Ideal.Facts] : Prop :=
  ∀ (m : (ℓ : Loc Cert.Out0Ideal.nD Cert.Out0Ideal.τ Cert.Out0Ideal.sig) → Buf (Elt Ideal) ℓ) (g : Dev Cert.Out0Ideal.nD → PrngReg), Pre_Out0Ideal m →
    θ_run (Cert.Out0Ideal.defs (F := Ideal)) (onTc (τ := Cert.Out0Ideal.τ) (Cert.Out0Ideal.main (F := Ideal))) ⟨m, fun _ => 0, g⟩ (fun r => (∀ c : Dev Cert.Out0Ideal.nD,
      r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
      ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
      ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
      ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3))
      ∧ r.2.sem = fun _ => 0)

def quiescent_Out0RefIdeal [hOut0RefIdeal : Cert.Out0RefIdeal.Facts] : Prop :=
  ∀ (m : (ℓ : Loc Cert.Out0RefIdeal.nD Cert.Out0RefIdeal.τ Cert.Out0RefIdeal.sig) → Buf (Elt Ideal) ℓ) (g : Dev Cert.Out0RefIdeal.nD → PrngReg), Pre_Out0RefIdeal m →
    θ_run (Cert.Out0RefIdeal.defs (F := Ideal)) (onTc (τ := Cert.Out0RefIdeal.τ) (Cert.Out0RefIdeal.main (F := Ideal))) ⟨m, fun _ => 0, g⟩ (fun r => (∀ c : Dev Cert.Out0RefIdeal.nD,
      r.2.mem ((c.tc : Thread Cert.Out0RefIdeal.nD Cert.Out0RefIdeal.τ).loc Cert.Out0RefIdeal.main_arg0) = m ((c.tc : Thread Cert.Out0RefIdeal.nD Cert.Out0RefIdeal.τ).loc Cert.Out0RefIdeal.main_arg0)
      ∧ r.2.mem ((c.tc : Thread Cert.Out0RefIdeal.nD Cert.Out0RefIdeal.τ).loc Cert.Out0RefIdeal.main_arg1) = m ((c.tc : Thread Cert.Out0RefIdeal.nD Cert.Out0RefIdeal.τ).loc Cert.Out0RefIdeal.main_arg1)
      ∧ r.2.mem ((c.tc : Thread Cert.Out0RefIdeal.nD Cert.Out0RefIdeal.τ).loc Cert.Out0RefIdeal.main_arg2) = m ((c.tc : Thread Cert.Out0RefIdeal.nD Cert.Out0RefIdeal.τ).loc Cert.Out0RefIdeal.main_arg2)
      ∧ r.2.mem ((c.tc : Thread Cert.Out0RefIdeal.nD Cert.Out0RefIdeal.τ).loc Cert.Out0RefIdeal.main_arg3) = m ((c.tc : Thread Cert.Out0RefIdeal.nD Cert.Out0RefIdeal.τ).loc Cert.Out0RefIdeal.main_arg3))
      ∧ r.2.sem = fun _ => 0)

def quiescent_Out1 [hOut1 : Cert.Out1.Facts] : Prop :=
  ∀ (m : (ℓ : Loc Cert.Out1.nD Cert.Out1.τ Cert.Out1.sig) → Buf (Elt Bits) ℓ) (g : Dev Cert.Out1.nD → PrngReg), Pre_Out1 m →
    θ_run (Cert.Out1.defs (F := Bits)) (onTc (τ := Cert.Out1.τ) (Cert.Out1.main (F := Bits))) ⟨m, fun _ => 0, g⟩ (fun r => (∀ c : Dev Cert.Out1.nD,
      r.2.mem ((c.tc : Thread Cert.Out1.nD Cert.Out1.τ).loc Cert.Out1.main_arg0) = m ((c.tc : Thread Cert.Out1.nD Cert.Out1.τ).loc Cert.Out1.main_arg0)
      ∧ r.2.mem ((c.tc : Thread Cert.Out1.nD Cert.Out1.τ).loc Cert.Out1.main_arg1) = m ((c.tc : Thread Cert.Out1.nD Cert.Out1.τ).loc Cert.Out1.main_arg1)
      ∧ r.2.mem ((c.tc : Thread Cert.Out1.nD Cert.Out1.τ).loc Cert.Out1.main_arg2) = m ((c.tc : Thread Cert.Out1.nD Cert.Out1.τ).loc Cert.Out1.main_arg2)
      ∧ r.2.mem ((c.tc : Thread Cert.Out1.nD Cert.Out1.τ).loc Cert.Out1.main_arg3) = m ((c.tc : Thread Cert.Out1.nD Cert.Out1.τ).loc Cert.Out1.main_arg3)
      ∧ r.2.mem ((c.tc : Thread Cert.Out1.nD Cert.Out1.τ).loc Cert.Out1.main_arg4) = m ((c.tc : Thread Cert.Out1.nD Cert.Out1.τ).loc Cert.Out1.main_arg4))
      ∧ r.2.sem = fun _ => 0)

def quiescent_Out1Ideal [hOut1Ideal : Cert.Out1Ideal.Facts] : Prop :=
  ∀ (m : (ℓ : Loc Cert.Out1Ideal.nD Cert.Out1Ideal.τ Cert.Out1Ideal.sig) → Buf (Elt Ideal) ℓ) (g : Dev Cert.Out1Ideal.nD → PrngReg), Pre_Out1Ideal m →
    θ_run (Cert.Out1Ideal.defs (F := Ideal)) (onTc (τ := Cert.Out1Ideal.τ) (Cert.Out1Ideal.main (F := Ideal))) ⟨m, fun _ => 0, g⟩ (fun r => (∀ c : Dev Cert.Out1Ideal.nD,
      r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
      ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
      ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
      ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3)
      ∧ r.2.mem ((c.tc : Thread Cert.Out1Ideal.nD Cert.Out1Ideal.τ).loc Cert.Out1Ideal.main_arg4) = m ((c.tc : Thread Cert.Out1Ideal.nD Cert.Out1Ideal.τ).loc Cert.Out1Ideal.main_arg4))
      ∧ r.2.sem = fun _ => 0)

def quiescent_Out1RefIdeal [hOut1RefIdeal : Cert.Out1RefIdeal.Facts] : Prop :=
  ∀ (m : (ℓ : Loc Cert.Out1RefIdeal.nD Cert.Out1RefIdeal.τ Cert.Out1RefIdeal.sig) → Buf (Elt Ideal) ℓ) (g : Dev Cert.Out1RefIdeal.nD → PrngReg), Pre_Out1RefIdeal m →
    θ_run (Cert.Out1RefIdeal.defs (F := Ideal)) (onTc (τ := Cert.Out1RefIdeal.τ) (Cert.Out1RefIdeal.main (F := Ideal))) ⟨m, fun _ => 0, g⟩ (fun r => (∀ c : Dev Cert.Out1RefIdeal.nD,
      r.2.mem ((c.tc : Thread Cert.Out1RefIdeal.nD Cert.Out1RefIdeal.τ).loc Cert.Out1RefIdeal.main_arg0) = m ((c.tc : Thread Cert.Out1RefIdeal.nD Cert.Out1RefIdeal.τ).loc Cert.Out1RefIdeal.main_arg0)
      ∧ r.2.mem ((c.tc : Thread Cert.Out1RefIdeal.nD Cert.Out1RefIdeal.τ).loc Cert.Out1RefIdeal.main_arg1) = m ((c.tc : Thread Cert.Out1RefIdeal.nD Cert.Out1RefIdeal.τ).loc Cert.Out1RefIdeal.main_arg1)
      ∧ r.2.mem ((c.tc : Thread Cert.Out1RefIdeal.nD Cert.Out1RefIdeal.τ).loc Cert.Out1RefIdeal.main_arg2) = m ((c.tc : Thread Cert.Out1RefIdeal.nD Cert.Out1RefIdeal.τ).loc Cert.Out1RefIdeal.main_arg2)
      ∧ r.2.mem ((c.tc : Thread Cert.Out1RefIdeal.nD Cert.Out1RefIdeal.τ).loc Cert.Out1RefIdeal.main_arg3) = m ((c.tc : Thread Cert.Out1RefIdeal.nD Cert.Out1RefIdeal.τ).loc Cert.Out1RefIdeal.main_arg3)
      ∧ r.2.mem ((c.tc : Thread Cert.Out1RefIdeal.nD Cert.Out1RefIdeal.τ).loc Cert.Out1RefIdeal.main_arg4) = m ((c.tc : Thread Cert.Out1RefIdeal.nD Cert.Out1RefIdeal.τ).loc Cert.Out1RefIdeal.main_arg4))
      ∧ r.2.sem = fun _ => 0)

def quiescent_QuantIn [hQuantIn : Cert.QuantIn.Facts] : Prop :=
  ∀ (m : (ℓ : Loc Cert.QuantIn.nD Cert.QuantIn.τ Cert.QuantIn.sig) → Buf (Elt Bits) ℓ) (g : Dev Cert.QuantIn.nD → PrngReg), Pre_QuantIn m →
    θ_run (Cert.QuantIn.defs (F := Bits)) (onTc (τ := Cert.QuantIn.τ) (Cert.QuantIn.main (F := Bits))) ⟨m, fun _ => 0, g⟩ (fun r => (∀ c : Dev Cert.QuantIn.nD,
      r.2.mem ((c.tc : Thread Cert.QuantIn.nD Cert.QuantIn.τ).loc Cert.QuantIn.main_arg0) = m ((c.tc : Thread Cert.QuantIn.nD Cert.QuantIn.τ).loc Cert.QuantIn.main_arg0)
      ∧ r.2.mem ((c.tc : Thread Cert.QuantIn.nD Cert.QuantIn.τ).loc Cert.QuantIn.main_arg1) = m ((c.tc : Thread Cert.QuantIn.nD Cert.QuantIn.τ).loc Cert.QuantIn.main_arg1))
      ∧ r.2.sem = fun _ => 0)

def quiescent_QuantInIdeal [hQuantInIdeal : Cert.QuantInIdeal.Facts] : Prop :=
  ∀ (m : (ℓ : Loc Cert.QuantInIdeal.nD Cert.QuantInIdeal.τ Cert.QuantInIdeal.sig) → Buf (Elt Ideal) ℓ) (g : Dev Cert.QuantInIdeal.nD → PrngReg), Pre_QuantInIdeal m →
    θ_run (Cert.QuantInIdeal.defs (F := Ideal)) (onTc (τ := Cert.QuantInIdeal.τ) (Cert.QuantInIdeal.main (F := Ideal))) ⟨m, fun _ => 0, g⟩ (fun r => (∀ c : Dev Cert.QuantInIdeal.nD,
      r.2.mem ((c.tc : Thread Cert.QuantInIdeal.nD Cert.QuantInIdeal.τ).loc Cert.QuantInIdeal.main_arg0) = m ((c.tc : Thread Cert.QuantInIdeal.nD Cert.QuantInIdeal.τ).loc Cert.QuantInIdeal.main_arg0)
      ∧ r.2.mem ((c.tc : Thread Cert.QuantInIdeal.nD Cert.QuantInIdeal.τ).loc Cert.QuantInIdeal.main_arg1) = m ((c.tc : Thread Cert.QuantInIdeal.nD Cert.QuantInIdeal.τ).loc Cert.QuantInIdeal.main_arg1))
      ∧ r.2.sem = fun _ => 0)

def quiescent_QuantInRefIdeal [hQuantInRefIdeal : Cert.QuantInRefIdeal.Facts] : Prop :=
  ∀ (m : (ℓ : Loc Cert.QuantInRefIdeal.nD Cert.QuantInRefIdeal.τ Cert.QuantInRefIdeal.sig) → Buf (Elt Ideal) ℓ) (g : Dev Cert.QuantInRefIdeal.nD → PrngReg), Pre_QuantInRefIdeal m →
    θ_run (Cert.QuantInRefIdeal.defs (F := Ideal)) (onTc (τ := Cert.QuantInRefIdeal.τ) (Cert.QuantInRefIdeal.main (F := Ideal))) ⟨m, fun _ => 0, g⟩ (fun r => (∀ c : Dev Cert.QuantInRefIdeal.nD,
      r.2.mem ((c.tc : Thread Cert.QuantInRefIdeal.nD Cert.QuantInRefIdeal.τ).loc Cert.QuantInRefIdeal.main_arg0) = m ((c.tc : Thread Cert.QuantInRefIdeal.nD Cert.QuantInRefIdeal.τ).loc Cert.QuantInRefIdeal.main_arg0)
      ∧ r.2.mem ((c.tc : Thread Cert.QuantInRefIdeal.nD Cert.QuantInRefIdeal.τ).loc Cert.QuantInRefIdeal.main_arg1) = m ((c.tc : Thread Cert.QuantInRefIdeal.nD Cert.QuantInRefIdeal.τ).loc Cert.QuantInRefIdeal.main_arg1))
      ∧ r.2.sem = fun _ => 0)

def quiescent_QuantAttn [hQuantAttn : Cert.QuantAttn.Facts] : Prop :=
  ∀ (m : (ℓ : Loc Cert.QuantAttn.nD Cert.QuantAttn.τ Cert.QuantAttn.sig) → Buf (Elt Bits) ℓ) (g : Dev Cert.QuantAttn.nD → PrngReg), Pre_QuantAttn m →
    θ_run (Cert.QuantAttn.defs (F := Bits)) (onTc (τ := Cert.QuantAttn.τ) (Cert.QuantAttn.main (F := Bits))) ⟨m, fun _ => 0, g⟩ (fun r => (∀ c : Dev Cert.QuantAttn.nD,
      r.2.mem ((c.tc : Thread Cert.QuantAttn.nD Cert.QuantAttn.τ).loc Cert.QuantAttn.main_arg0) = m ((c.tc : Thread Cert.QuantAttn.nD Cert.QuantAttn.τ).loc Cert.QuantAttn.main_arg0)
      ∧ r.2.mem ((c.tc : Thread Cert.QuantAttn.nD Cert.QuantAttn.τ).loc Cert.QuantAttn.main_arg1) = m ((c.tc : Thread Cert.QuantAttn.nD Cert.QuantAttn.τ).loc Cert.QuantAttn.main_arg1))
      ∧ r.2.sem = fun _ => 0)

def quiescent_QuantAttnIdeal [hQuantAttnIdeal : Cert.QuantAttnIdeal.Facts] : Prop :=
  ∀ (m : (ℓ : Loc Cert.QuantAttnIdeal.nD Cert.QuantAttnIdeal.τ Cert.QuantAttnIdeal.sig) → Buf (Elt Ideal) ℓ) (g : Dev Cert.QuantAttnIdeal.nD → PrngReg), Pre_QuantAttnIdeal m →
    θ_run (Cert.QuantAttnIdeal.defs (F := Ideal)) (onTc (τ := Cert.QuantAttnIdeal.τ) (Cert.QuantAttnIdeal.main (F := Ideal))) ⟨m, fun _ => 0, g⟩ (fun r => (∀ c : Dev Cert.QuantAttnIdeal.nD,
      r.2.mem ((c.tc : Thread Cert.QuantAttnIdeal.nD Cert.QuantAttnIdeal.τ).loc Cert.QuantAttnIdeal.main_arg0) = m ((c.tc : Thread Cert.QuantAttnIdeal.nD Cert.QuantAttnIdeal.τ).loc Cert.QuantAttnIdeal.main_arg0)
      ∧ r.2.mem ((c.tc : Thread Cert.QuantAttnIdeal.nD Cert.QuantAttnIdeal.τ).loc Cert.QuantAttnIdeal.main_arg1) = m ((c.tc : Thread Cert.QuantAttnIdeal.nD Cert.QuantAttnIdeal.τ).loc Cert.QuantAttnIdeal.main_arg1))
      ∧ r.2.sem = fun _ => 0)

def quiescent_QuantAttnRefIdeal [hQuantAttnRefIdeal : Cert.QuantAttnRefIdeal.Facts] : Prop :=
  ∀ (m : (ℓ : Loc Cert.QuantAttnRefIdeal.nD Cert.QuantAttnRefIdeal.τ Cert.QuantAttnRefIdeal.sig) → Buf (Elt Ideal) ℓ) (g : Dev Cert.QuantAttnRefIdeal.nD → PrngReg), Pre_QuantAttnRefIdeal m →
    θ_run (Cert.QuantAttnRefIdeal.defs (F := Ideal)) (onTc (τ := Cert.QuantAttnRefIdeal.τ) (Cert.QuantAttnRefIdeal.main (F := Ideal))) ⟨m, fun _ => 0, g⟩ (fun r => (∀ c : Dev Cert.QuantAttnRefIdeal.nD,
      r.2.mem ((c.tc : Thread Cert.QuantAttnRefIdeal.nD Cert.QuantAttnRefIdeal.τ).loc Cert.QuantAttnRefIdeal.main_arg0) = m ((c.tc : Thread Cert.QuantAttnRefIdeal.nD Cert.QuantAttnRefIdeal.τ).loc Cert.QuantAttnRefIdeal.main_arg0)
      ∧ r.2.mem ((c.tc : Thread Cert.QuantAttnRefIdeal.nD Cert.QuantAttnRefIdeal.τ).loc Cert.QuantAttnRefIdeal.main_arg1) = m ((c.tc : Thread Cert.QuantAttnRefIdeal.nD Cert.QuantAttnRefIdeal.τ).loc Cert.QuantAttnRefIdeal.main_arg1))
      ∧ r.2.sem = fun _ => 0)

def quiescent_QuantPost [hQuantPost : Cert.QuantPost.Facts] : Prop :=
  ∀ (m : (ℓ : Loc Cert.QuantPost.nD Cert.QuantPost.τ Cert.QuantPost.sig) → Buf (Elt Bits) ℓ) (g : Dev Cert.QuantPost.nD → PrngReg), Pre_QuantPost m →
    θ_run (Cert.QuantPost.defs (F := Bits)) (onTc (τ := Cert.QuantPost.τ) (Cert.QuantPost.main (F := Bits))) ⟨m, fun _ => 0, g⟩ (fun r => (∀ c : Dev Cert.QuantPost.nD,
      r.2.mem ((c.tc : Thread Cert.QuantPost.nD Cert.QuantPost.τ).loc Cert.QuantPost.main_arg0) = m ((c.tc : Thread Cert.QuantPost.nD Cert.QuantPost.τ).loc Cert.QuantPost.main_arg0)
      ∧ r.2.mem ((c.tc : Thread Cert.QuantPost.nD Cert.QuantPost.τ).loc Cert.QuantPost.main_arg1) = m ((c.tc : Thread Cert.QuantPost.nD Cert.QuantPost.τ).loc Cert.QuantPost.main_arg1))
      ∧ r.2.sem = fun _ => 0)

def quiescent_QuantPostIdeal [hQuantPostIdeal : Cert.QuantPostIdeal.Facts] : Prop :=
  ∀ (m : (ℓ : Loc Cert.QuantPostIdeal.nD Cert.QuantPostIdeal.τ Cert.QuantPostIdeal.sig) → Buf (Elt Ideal) ℓ) (g : Dev Cert.QuantPostIdeal.nD → PrngReg), Pre_QuantPostIdeal m →
    θ_run (Cert.QuantPostIdeal.defs (F := Ideal)) (onTc (τ := Cert.QuantPostIdeal.τ) (Cert.QuantPostIdeal.main (F := Ideal))) ⟨m, fun _ => 0, g⟩ (fun r => (∀ c : Dev Cert.QuantPostIdeal.nD,
      r.2.mem ((c.tc : Thread Cert.QuantPostIdeal.nD Cert.QuantPostIdeal.τ).loc Cert.QuantPostIdeal.main_arg0) = m ((c.tc : Thread Cert.QuantPostIdeal.nD Cert.QuantPostIdeal.τ).loc Cert.QuantPostIdeal.main_arg0)
      ∧ r.2.mem ((c.tc : Thread Cert.QuantPostIdeal.nD Cert.QuantPostIdeal.τ).loc Cert.QuantPostIdeal.main_arg1) = m ((c.tc : Thread Cert.QuantPostIdeal.nD Cert.QuantPostIdeal.τ).loc Cert.QuantPostIdeal.main_arg1))
      ∧ r.2.sem = fun _ => 0)

def quiescent_QuantPostRefIdeal [hQuantPostRefIdeal : Cert.QuantPostRefIdeal.Facts] : Prop :=
  ∀ (m : (ℓ : Loc Cert.QuantPostRefIdeal.nD Cert.QuantPostRefIdeal.τ Cert.QuantPostRefIdeal.sig) → Buf (Elt Ideal) ℓ) (g : Dev Cert.QuantPostRefIdeal.nD → PrngReg), Pre_QuantPostRefIdeal m →
    θ_run (Cert.QuantPostRefIdeal.defs (F := Ideal)) (onTc (τ := Cert.QuantPostRefIdeal.τ) (Cert.QuantPostRefIdeal.main (F := Ideal))) ⟨m, fun _ => 0, g⟩ (fun r => (∀ c : Dev Cert.QuantPostRefIdeal.nD,
      r.2.mem ((c.tc : Thread Cert.QuantPostRefIdeal.nD Cert.QuantPostRefIdeal.τ).loc Cert.QuantPostRefIdeal.main_arg0) = m ((c.tc : Thread Cert.QuantPostRefIdeal.nD Cert.QuantPostRefIdeal.τ).loc Cert.QuantPostRefIdeal.main_arg0)
      ∧ r.2.mem ((c.tc : Thread Cert.QuantPostRefIdeal.nD Cert.QuantPostRefIdeal.τ).loc Cert.QuantPostRefIdeal.main_arg1) = m ((c.tc : Thread Cert.QuantPostRefIdeal.nD Cert.QuantPostRefIdeal.τ).loc Cert.QuantPostRefIdeal.main_arg1))
      ∧ r.2.sem = fun _ => 0)

def quiescent_QuantFfn [hQuantFfn : Cert.QuantFfn.Facts] : Prop :=
  ∀ (m : (ℓ : Loc Cert.QuantFfn.nD Cert.QuantFfn.τ Cert.QuantFfn.sig) → Buf (Elt Bits) ℓ) (g : Dev Cert.QuantFfn.nD → PrngReg), Pre_QuantFfn m →
    θ_run (Cert.QuantFfn.defs (F := Bits)) (onTc (τ := Cert.QuantFfn.τ) (Cert.QuantFfn.main (F := Bits))) ⟨m, fun _ => 0, g⟩ (fun r => (∀ c : Dev Cert.QuantFfn.nD,
      r.2.mem ((c.tc : Thread Cert.QuantFfn.nD Cert.QuantFfn.τ).loc Cert.QuantFfn.main_arg0) = m ((c.tc : Thread Cert.QuantFfn.nD Cert.QuantFfn.τ).loc Cert.QuantFfn.main_arg0)
      ∧ r.2.mem ((c.tc : Thread Cert.QuantFfn.nD Cert.QuantFfn.τ).loc Cert.QuantFfn.main_arg1) = m ((c.tc : Thread Cert.QuantFfn.nD Cert.QuantFfn.τ).loc Cert.QuantFfn.main_arg1))
      ∧ r.2.sem = fun _ => 0)

def quiescent_QuantFfnIdeal [hQuantFfnIdeal : Cert.QuantFfnIdeal.Facts] : Prop :=
  ∀ (m : (ℓ : Loc Cert.QuantFfnIdeal.nD Cert.QuantFfnIdeal.τ Cert.QuantFfnIdeal.sig) → Buf (Elt Ideal) ℓ) (g : Dev Cert.QuantFfnIdeal.nD → PrngReg), Pre_QuantFfnIdeal m →
    θ_run (Cert.QuantFfnIdeal.defs (F := Ideal)) (onTc (τ := Cert.QuantFfnIdeal.τ) (Cert.QuantFfnIdeal.main (F := Ideal))) ⟨m, fun _ => 0, g⟩ (fun r => (∀ c : Dev Cert.QuantFfnIdeal.nD,
      r.2.mem ((c.tc : Thread Cert.QuantFfnIdeal.nD Cert.QuantFfnIdeal.τ).loc Cert.QuantFfnIdeal.main_arg0) = m ((c.tc : Thread Cert.QuantFfnIdeal.nD Cert.QuantFfnIdeal.τ).loc Cert.QuantFfnIdeal.main_arg0)
      ∧ r.2.mem ((c.tc : Thread Cert.QuantFfnIdeal.nD Cert.QuantFfnIdeal.τ).loc Cert.QuantFfnIdeal.main_arg1) = m ((c.tc : Thread Cert.QuantFfnIdeal.nD Cert.QuantFfnIdeal.τ).loc Cert.QuantFfnIdeal.main_arg1))
      ∧ r.2.sem = fun _ => 0)

def quiescent_QuantFfnRefIdeal [hQuantFfnRefIdeal : Cert.QuantFfnRefIdeal.Facts] : Prop :=
  ∀ (m : (ℓ : Loc Cert.QuantFfnRefIdeal.nD Cert.QuantFfnRefIdeal.τ Cert.QuantFfnRefIdeal.sig) → Buf (Elt Ideal) ℓ) (g : Dev Cert.QuantFfnRefIdeal.nD → PrngReg), Pre_QuantFfnRefIdeal m →
    θ_run (Cert.QuantFfnRefIdeal.defs (F := Ideal)) (onTc (τ := Cert.QuantFfnRefIdeal.τ) (Cert.QuantFfnRefIdeal.main (F := Ideal))) ⟨m, fun _ => 0, g⟩ (fun r => (∀ c : Dev Cert.QuantFfnRefIdeal.nD,
      r.2.mem ((c.tc : Thread Cert.QuantFfnRefIdeal.nD Cert.QuantFfnRefIdeal.τ).loc Cert.QuantFfnRefIdeal.main_arg0) = m ((c.tc : Thread Cert.QuantFfnRefIdeal.nD Cert.QuantFfnRefIdeal.τ).loc Cert.QuantFfnRefIdeal.main_arg0)
      ∧ r.2.mem ((c.tc : Thread Cert.QuantFfnRefIdeal.nD Cert.QuantFfnRefIdeal.τ).loc Cert.QuantFfnRefIdeal.main_arg1) = m ((c.tc : Thread Cert.QuantFfnRefIdeal.nD Cert.QuantFfnRefIdeal.τ).loc Cert.QuantFfnRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0))
      ∧ r.2.sem = fun _ => 0)

def quiescent_AttentionIdeal_pre_finite_keys [hAttentionIdeal : Cert.AttentionIdeal.Facts] [hPre_finite_keys : Cert.Pre_finite_keys.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_keys m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0))
      ∧ r.2.sem = fun _ => 0)

def quiescent_AttentionRefIdeal_pre_finite_keys [hAttentionRefIdeal : Cert.AttentionRefIdeal.Facts] [hPre_finite_keys : Cert.Pre_finite_keys.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_finite_keys m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v96) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3))

def preserves_Down0_Down0Ideal : Prop :=
  True

def algebraic_Down0Ideal_Down0RefIdeal_on_first_rows_Down0Ideal [hDown0Ideal : Cert.Down0Ideal.Facts] [hDown0RefIdeal : Cert.Down0RefIdeal.Facts] [hOn_first_rows_Down0Ideal : Cert.On_first_rows_Down0Ideal.Facts] : Prop :=
  ∀ (m : (ℓ : Loc Cert.Down0Ideal.nD Cert.Down0Ideal.τ Cert.Down0Ideal.sig) → Buf (Elt Ideal) ℓ) (g : Dev Cert.Down0Ideal.nD → PrngReg)
    (m' : (ℓ : Loc Cert.Down0RefIdeal.nD Cert.Down0RefIdeal.τ Cert.Down0RefIdeal.sig) → Buf (Elt Ideal) ℓ) (g' : Dev Cert.Down0RefIdeal.nD → PrngReg), Pre_Down0Ideal m →
    (∀ c : Dev Cert.Down0Ideal.nD,
      m' ((c.tc : Thread Cert.Down0RefIdeal.nD Cert.Down0RefIdeal.τ).loc Cert.Down0RefIdeal.main_arg0) = m ((c.tc : Thread Cert.Down0Ideal.nD Cert.Down0Ideal.τ).loc Cert.Down0Ideal.main_arg0)
      ∧ m' ((c.tc : Thread Cert.Down0RefIdeal.nD Cert.Down0RefIdeal.τ).loc Cert.Down0RefIdeal.main_arg1) = m ((c.tc : Thread Cert.Down0Ideal.nD Cert.Down0Ideal.τ).loc Cert.Down0Ideal.main_arg1)
      ∧ m' ((c.tc : Thread Cert.Down0RefIdeal.nD Cert.Down0RefIdeal.τ).loc Cert.Down0RefIdeal.main_arg2) = m ((c.tc : Thread Cert.Down0Ideal.nD Cert.Down0Ideal.τ).loc Cert.Down0Ideal.main_arg2)
      ∧ m' ((c.tc : Thread Cert.Down0RefIdeal.nD Cert.Down0RefIdeal.τ).loc Cert.Down0RefIdeal.main_arg3) = m ((c.tc : Thread Cert.Down0Ideal.nD Cert.Down0Ideal.τ).loc Cert.Down0Ideal.main_arg3)) →
    ∃ (v0 : (c : Dev Cert.Down0Ideal.nD) → Buf (Elt Ideal) ((c.tc : Thread Cert.Down0Ideal.nD Cert.Down0Ideal.τ).loc Cert.Down0Ideal.main_v1)),
      θ_run (Cert.Down0Ideal.defs (F := Ideal)) (onTc (τ := Cert.Down0Ideal.τ) (Cert.Down0Ideal.main (F := Ideal))) ⟨m, fun _ => 0, g⟩ (fun r => ∀ c : Dev Cert.Down0Ideal.nD,
          (∀ i : (⟨2, ![1280, 7168]⟩ : Shape).Idx, (Cert.On_first_rows_Down0Ideal.fn (F := Ideal) (m ((c.tc : Thread Cert.Down0Ideal.nD Cert.Down0Ideal.τ).loc Cert.Down0Ideal.main_arg0)) (m ((c.tc : Thread Cert.Down0Ideal.nD Cert.Down0Ideal.τ).loc Cert.Down0Ideal.main_arg1)) (m ((c.tc : Thread Cert.Down0Ideal.nD Cert.Down0Ideal.τ).loc Cert.Down0Ideal.main_arg2)) (m ((c.tc : Thread Cert.Down0Ideal.nD Cert.Down0Ideal.τ).loc Cert.Down0Ideal.main_arg3))) i = 1#1 → r.2.mem ((c.tc : Thread Cert.Down0Ideal.nD Cert.Down0Ideal.τ).loc Cert.Down0Ideal.main_v1) i = v0 c i)
          ∧ r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
          ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
          ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2)
          ∧ r.2.mem ((c.tc : Thread Cert.Down0Ideal.nD Cert.Down0Ideal.τ).loc Cert.Down0Ideal.main_arg3) = m ((c.tc : Thread Cert.Down0Ideal.nD Cert.Down0Ideal.τ).loc Cert.Down0Ideal.main_arg3))
      ∧ θ_run (Cert.Down0RefIdeal.defs (F := Ideal)) (onTc (τ := Cert.Down0RefIdeal.τ) (Cert.Down0RefIdeal.main (F := Ideal))) ⟨m', fun _ => 0, g'⟩ (fun r => ∀ c : Dev Cert.Down0RefIdeal.nD,
          (∀ i : (⟨2, ![1280, 7168]⟩ : Shape).Idx, (Cert.On_first_rows_Down0Ideal.fn (F := Ideal) (m ((c.tc : Thread Cert.Down0Ideal.nD Cert.Down0Ideal.τ).loc Cert.Down0Ideal.main_arg0)) (m ((c.tc : Thread Cert.Down0Ideal.nD Cert.Down0Ideal.τ).loc Cert.Down0Ideal.main_arg1)) (m ((c.tc : Thread Cert.Down0Ideal.nD Cert.Down0Ideal.τ).loc Cert.Down0Ideal.main_arg2)) (m ((c.tc : Thread Cert.Down0Ideal.nD Cert.Down0Ideal.τ).loc Cert.Down0Ideal.main_arg3))) i = 1#1 → r.2.mem ((c.tc : Thread Cert.Down0RefIdeal.nD Cert.Down0RefIdeal.τ).loc Cert.Down0RefIdeal.main_v46) i = v0 c i)
          ∧ r.2.mem ((c.tc : Thread Cert.Down0RefIdeal.nD Cert.Down0RefIdeal.τ).loc Cert.Down0RefIdeal.main_arg0) = m' ((c.tc : Thread Cert.Down0RefIdeal.nD Cert.Down0RefIdeal.τ).loc Cert.Down0RefIdeal.main_arg0)
          ∧ r.2.mem ((c.tc : Thread Cert.Down0RefIdeal.nD Cert.Down0RefIdeal.τ).loc Cert.Down0RefIdeal.main_arg1) = m' ((c.tc : Thread Cert.Down0RefIdeal.nD Cert.Down0RefIdeal.τ).loc Cert.Down0RefIdeal.main_arg1)
          ∧ r.2.mem ((c.tc : Thread Cert.Down0RefIdeal.nD Cert.Down0RefIdeal.τ).loc Cert.Down0RefIdeal.main_arg2) = m' ((c.tc : Thread Cert.Down0RefIdeal.nD Cert.Down0RefIdeal.τ).loc Cert.Down0RefIdeal.main_arg2)
          ∧ r.2.mem ((c.tc : Thread Cert.Down0RefIdeal.nD Cert.Down0RefIdeal.τ).loc Cert.Down0RefIdeal.main_arg3) = m' ((c.tc : Thread Cert.Down0RefIdeal.nD Cert.Down0RefIdeal.τ).loc Cert.Down0RefIdeal.main_arg3))

def preserves_Down1_Down1Ideal : Prop :=
  True

def algebraic_Down1Ideal_Down1RefIdeal [hDown1Ideal : Cert.Down1Ideal.Facts] [hDown1RefIdeal : Cert.Down1RefIdeal.Facts] : Prop :=
  ∀ (m : (ℓ : Loc Cert.Down1Ideal.nD Cert.Down1Ideal.τ Cert.Down1Ideal.sig) → Buf (Elt Ideal) ℓ) (g : Dev Cert.Down1Ideal.nD → PrngReg)
    (m' : (ℓ : Loc Cert.Down1RefIdeal.nD Cert.Down1RefIdeal.τ Cert.Down1RefIdeal.sig) → Buf (Elt Ideal) ℓ) (g' : Dev Cert.Down1RefIdeal.nD → PrngReg), Pre_Down1Ideal m →
    (∀ c : Dev Cert.Down1Ideal.nD,
      m' ((c.tc : Thread Cert.Down1RefIdeal.nD Cert.Down1RefIdeal.τ).loc Cert.Down1RefIdeal.main_arg0) = m ((c.tc : Thread Cert.Down1Ideal.nD Cert.Down1Ideal.τ).loc Cert.Down1Ideal.main_arg0)
      ∧ m' ((c.tc : Thread Cert.Down1RefIdeal.nD Cert.Down1RefIdeal.τ).loc Cert.Down1RefIdeal.main_arg1) = m ((c.tc : Thread Cert.Down1Ideal.nD Cert.Down1Ideal.τ).loc Cert.Down1Ideal.main_arg1)
      ∧ m' ((c.tc : Thread Cert.Down1RefIdeal.nD Cert.Down1RefIdeal.τ).loc Cert.Down1RefIdeal.main_arg2) = m ((c.tc : Thread Cert.Down1Ideal.nD Cert.Down1Ideal.τ).loc Cert.Down1Ideal.main_arg2)
      ∧ m' ((c.tc : Thread Cert.Down1RefIdeal.nD Cert.Down1RefIdeal.τ).loc Cert.Down1RefIdeal.main_arg3) = m ((c.tc : Thread Cert.Down1Ideal.nD Cert.Down1Ideal.τ).loc Cert.Down1Ideal.main_arg3)
      ∧ m' ((c.tc : Thread Cert.Down1RefIdeal.nD Cert.Down1RefIdeal.τ).loc Cert.Down1RefIdeal.main_arg4) = m ((c.tc : Thread Cert.Down1Ideal.nD Cert.Down1Ideal.τ).loc Cert.Down1Ideal.main_arg4)) →
    ∃ (v0 : (c : Dev Cert.Down1Ideal.nD) → Buf (Elt Ideal) ((c.tc : Thread Cert.Down1Ideal.nD Cert.Down1Ideal.τ).loc Cert.Down1Ideal.main_v1)),
      θ_run (Cert.Down1Ideal.defs (F := Ideal)) (onTc (τ := Cert.Down1Ideal.τ) (Cert.Down1Ideal.main (F := Ideal))) ⟨m, fun _ => 0, g⟩ (fun r => ∀ c : Dev Cert.Down1Ideal.nD,
          r.2.mem ((c.tc : Thread Cert.Down1Ideal.nD Cert.Down1Ideal.τ).loc Cert.Down1Ideal.main_v1) = v0 c
          ∧ r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
          ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1)
          ∧ r.2.mem ((c.tc : Thread Cert.Down1Ideal.nD Cert.Down1Ideal.τ).loc Cert.Down1Ideal.main_arg2) = m ((c.tc : Thread Cert.Down1Ideal.nD Cert.Down1Ideal.τ).loc Cert.Down1Ideal.main_arg2)
          ∧ r.2.mem ((c.tc : Thread Cert.Down1Ideal.nD Cert.Down1Ideal.τ).loc Cert.Down1Ideal.main_arg3) = m ((c.tc : Thread Cert.Down1Ideal.nD Cert.Down1Ideal.τ).loc Cert.Down1Ideal.main_arg3)
          ∧ r.2.mem ((c.tc : Thread Cert.Down1Ideal.nD Cert.Down1Ideal.τ).loc Cert.Down1Ideal.main_arg4) = m ((c.tc : Thread Cert.Down1Ideal.nD Cert.Down1Ideal.τ).loc Cert.Down1Ideal.main_arg4))
      ∧ θ_run (Cert.Down1RefIdeal.defs (F := Ideal)) (onTc (τ := Cert.Down1RefIdeal.τ) (Cert.Down1RefIdeal.main (F := Ideal))) ⟨m', fun _ => 0, g'⟩ (fun r => ∀ c : Dev Cert.Down1RefIdeal.nD,
          r.2.mem ((c.tc : Thread Cert.Down1RefIdeal.nD Cert.Down1RefIdeal.τ).loc Cert.Down1RefIdeal.main_v50) = v0 c
          ∧ r.2.mem ((c.tc : Thread Cert.Down1RefIdeal.nD Cert.Down1RefIdeal.τ).loc Cert.Down1RefIdeal.main_arg0) = m' ((c.tc : Thread Cert.Down1RefIdeal.nD Cert.Down1RefIdeal.τ).loc Cert.Down1RefIdeal.main_arg0)
          ∧ r.2.mem ((c.tc : Thread Cert.Down1RefIdeal.nD Cert.Down1RefIdeal.τ).loc Cert.Down1RefIdeal.main_arg1) = m' ((c.tc : Thread Cert.Down1RefIdeal.nD Cert.Down1RefIdeal.τ).loc Cert.Down1RefIdeal.main_arg1)
          ∧ r.2.mem ((c.tc : Thread Cert.Down1RefIdeal.nD Cert.Down1RefIdeal.τ).loc Cert.Down1RefIdeal.main_arg2) = m' ((c.tc : Thread Cert.Down1RefIdeal.nD Cert.Down1RefIdeal.τ).loc Cert.Down1RefIdeal.main_arg2)
          ∧ r.2.mem ((c.tc : Thread Cert.Down1RefIdeal.nD Cert.Down1RefIdeal.τ).loc Cert.Down1RefIdeal.main_arg3) = m' ((c.tc : Thread Cert.Down1RefIdeal.nD Cert.Down1RefIdeal.τ).loc Cert.Down1RefIdeal.main_arg3)
          ∧ r.2.mem ((c.tc : Thread Cert.Down1RefIdeal.nD Cert.Down1RefIdeal.τ).loc Cert.Down1RefIdeal.main_arg4) = m' ((c.tc : Thread Cert.Down1RefIdeal.nD Cert.Down1RefIdeal.τ).loc Cert.Down1RefIdeal.main_arg4))

def preserves_Out0_Out0Ideal : Prop :=
  True

def algebraic_Out0Ideal_Out0RefIdeal_on_first_rows_Out0Ideal [hOut0Ideal : Cert.Out0Ideal.Facts] [hOut0RefIdeal : Cert.Out0RefIdeal.Facts] [hOn_first_rows_Out0Ideal : Cert.On_first_rows_Out0Ideal.Facts] : Prop :=
  ∀ (m : (ℓ : Loc Cert.Out0Ideal.nD Cert.Out0Ideal.τ Cert.Out0Ideal.sig) → Buf (Elt Ideal) ℓ) (g : Dev Cert.Out0Ideal.nD → PrngReg)
    (m' : (ℓ : Loc Cert.Out0RefIdeal.nD Cert.Out0RefIdeal.τ Cert.Out0RefIdeal.sig) → Buf (Elt Ideal) ℓ) (g' : Dev Cert.Out0RefIdeal.nD → PrngReg), Pre_Out0Ideal m →
    (∀ c : Dev Cert.Out0Ideal.nD,
      m' ((c.tc : Thread Cert.Out0RefIdeal.nD Cert.Out0RefIdeal.τ).loc Cert.Out0RefIdeal.main_arg0) = m ((c.tc : Thread Cert.Out0Ideal.nD Cert.Out0Ideal.τ).loc Cert.Out0Ideal.main_arg0)
      ∧ m' ((c.tc : Thread Cert.Out0RefIdeal.nD Cert.Out0RefIdeal.τ).loc Cert.Out0RefIdeal.main_arg1) = m ((c.tc : Thread Cert.Out0Ideal.nD Cert.Out0Ideal.τ).loc Cert.Out0Ideal.main_arg1)
      ∧ m' ((c.tc : Thread Cert.Out0RefIdeal.nD Cert.Out0RefIdeal.τ).loc Cert.Out0RefIdeal.main_arg2) = m ((c.tc : Thread Cert.Out0Ideal.nD Cert.Out0Ideal.τ).loc Cert.Out0Ideal.main_arg2)
      ∧ m' ((c.tc : Thread Cert.Out0RefIdeal.nD Cert.Out0RefIdeal.τ).loc Cert.Out0RefIdeal.main_arg3) = m ((c.tc : Thread Cert.Out0Ideal.nD Cert.Out0Ideal.τ).loc Cert.Out0Ideal.main_arg3)) →
    ∃ (v0 : (c : Dev Cert.Out0Ideal.nD) → Buf (Elt Ideal) ((c.tc : Thread Cert.Out0Ideal.nD Cert.Out0Ideal.τ).loc Cert.Out0Ideal.main_v1)),
      θ_run (Cert.Out0Ideal.defs (F := Ideal)) (onTc (τ := Cert.Out0Ideal.τ) (Cert.Out0Ideal.main (F := Ideal))) ⟨m, fun _ => 0, g⟩ (fun r => ∀ c : Dev Cert.Out0Ideal.nD,
          (∀ i : (⟨2, ![1280, 7168]⟩ : Shape).Idx, (Cert.On_first_rows_Out0Ideal.fn (F := Ideal) (m ((c.tc : Thread Cert.Out0Ideal.nD Cert.Out0Ideal.τ).loc Cert.Out0Ideal.main_arg0)) (m ((c.tc : Thread Cert.Out0Ideal.nD Cert.Out0Ideal.τ).loc Cert.Out0Ideal.main_arg1)) (m ((c.tc : Thread Cert.Out0Ideal.nD Cert.Out0Ideal.τ).loc Cert.Out0Ideal.main_arg2)) (m ((c.tc : Thread Cert.Out0Ideal.nD Cert.Out0Ideal.τ).loc Cert.Out0Ideal.main_arg3))) i = 1#1 → r.2.mem ((c.tc : Thread Cert.Out0Ideal.nD Cert.Out0Ideal.τ).loc Cert.Out0Ideal.main_v1) i = v0 c i)
          ∧ r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
          ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
          ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
          ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3))
      ∧ θ_run (Cert.Out0RefIdeal.defs (F := Ideal)) (onTc (τ := Cert.Out0RefIdeal.τ) (Cert.Out0RefIdeal.main (F := Ideal))) ⟨m', fun _ => 0, g'⟩ (fun r => ∀ c : Dev Cert.Out0RefIdeal.nD,
          (∀ i : (⟨2, ![1280, 7168]⟩ : Shape).Idx, (Cert.On_first_rows_Out0Ideal.fn (F := Ideal) (m ((c.tc : Thread Cert.Out0Ideal.nD Cert.Out0Ideal.τ).loc Cert.Out0Ideal.main_arg0)) (m ((c.tc : Thread Cert.Out0Ideal.nD Cert.Out0Ideal.τ).loc Cert.Out0Ideal.main_arg1)) (m ((c.tc : Thread Cert.Out0Ideal.nD Cert.Out0Ideal.τ).loc Cert.Out0Ideal.main_arg2)) (m ((c.tc : Thread Cert.Out0Ideal.nD Cert.Out0Ideal.τ).loc Cert.Out0Ideal.main_arg3))) i = 1#1 → r.2.mem ((c.tc : Thread Cert.Out0RefIdeal.nD Cert.Out0RefIdeal.τ).loc Cert.Out0RefIdeal.main_v46) i = v0 c i)
          ∧ r.2.mem ((c.tc : Thread Cert.Out0RefIdeal.nD Cert.Out0RefIdeal.τ).loc Cert.Out0RefIdeal.main_arg0) = m' ((c.tc : Thread Cert.Out0RefIdeal.nD Cert.Out0RefIdeal.τ).loc Cert.Out0RefIdeal.main_arg0)
          ∧ r.2.mem ((c.tc : Thread Cert.Out0RefIdeal.nD Cert.Out0RefIdeal.τ).loc Cert.Out0RefIdeal.main_arg1) = m' ((c.tc : Thread Cert.Out0RefIdeal.nD Cert.Out0RefIdeal.τ).loc Cert.Out0RefIdeal.main_arg1)
          ∧ r.2.mem ((c.tc : Thread Cert.Out0RefIdeal.nD Cert.Out0RefIdeal.τ).loc Cert.Out0RefIdeal.main_arg2) = m' ((c.tc : Thread Cert.Out0RefIdeal.nD Cert.Out0RefIdeal.τ).loc Cert.Out0RefIdeal.main_arg2)
          ∧ r.2.mem ((c.tc : Thread Cert.Out0RefIdeal.nD Cert.Out0RefIdeal.τ).loc Cert.Out0RefIdeal.main_arg3) = m' ((c.tc : Thread Cert.Out0RefIdeal.nD Cert.Out0RefIdeal.τ).loc Cert.Out0RefIdeal.main_arg3))

def preserves_Out1_Out1Ideal : Prop :=
  True

def algebraic_Out1Ideal_Out1RefIdeal [hOut1Ideal : Cert.Out1Ideal.Facts] [hOut1RefIdeal : Cert.Out1RefIdeal.Facts] : Prop :=
  ∀ (m : (ℓ : Loc Cert.Out1Ideal.nD Cert.Out1Ideal.τ Cert.Out1Ideal.sig) → Buf (Elt Ideal) ℓ) (g : Dev Cert.Out1Ideal.nD → PrngReg)
    (m' : (ℓ : Loc Cert.Out1RefIdeal.nD Cert.Out1RefIdeal.τ Cert.Out1RefIdeal.sig) → Buf (Elt Ideal) ℓ) (g' : Dev Cert.Out1RefIdeal.nD → PrngReg), Pre_Out1Ideal m →
    (∀ c : Dev Cert.Out1Ideal.nD,
      m' ((c.tc : Thread Cert.Out1RefIdeal.nD Cert.Out1RefIdeal.τ).loc Cert.Out1RefIdeal.main_arg0) = m ((c.tc : Thread Cert.Out1Ideal.nD Cert.Out1Ideal.τ).loc Cert.Out1Ideal.main_arg0)
      ∧ m' ((c.tc : Thread Cert.Out1RefIdeal.nD Cert.Out1RefIdeal.τ).loc Cert.Out1RefIdeal.main_arg1) = m ((c.tc : Thread Cert.Out1Ideal.nD Cert.Out1Ideal.τ).loc Cert.Out1Ideal.main_arg1)
      ∧ m' ((c.tc : Thread Cert.Out1RefIdeal.nD Cert.Out1RefIdeal.τ).loc Cert.Out1RefIdeal.main_arg2) = m ((c.tc : Thread Cert.Out1Ideal.nD Cert.Out1Ideal.τ).loc Cert.Out1Ideal.main_arg2)
      ∧ m' ((c.tc : Thread Cert.Out1RefIdeal.nD Cert.Out1RefIdeal.τ).loc Cert.Out1RefIdeal.main_arg3) = m ((c.tc : Thread Cert.Out1Ideal.nD Cert.Out1Ideal.τ).loc Cert.Out1Ideal.main_arg3)
      ∧ m' ((c.tc : Thread Cert.Out1RefIdeal.nD Cert.Out1RefIdeal.τ).loc Cert.Out1RefIdeal.main_arg4) = m ((c.tc : Thread Cert.Out1Ideal.nD Cert.Out1Ideal.τ).loc Cert.Out1Ideal.main_arg4)) →
    ∃ (v0 : (c : Dev Cert.Out1Ideal.nD) → Buf (Elt Ideal) ((c.tc : Thread Cert.Out1Ideal.nD Cert.Out1Ideal.τ).loc Cert.Out1Ideal.main_v1)),
      θ_run (Cert.Out1Ideal.defs (F := Ideal)) (onTc (τ := Cert.Out1Ideal.τ) (Cert.Out1Ideal.main (F := Ideal))) ⟨m, fun _ => 0, g⟩ (fun r => ∀ c : Dev Cert.Out1Ideal.nD,
          r.2.mem ((c.tc : Thread Cert.Out1Ideal.nD Cert.Out1Ideal.τ).loc Cert.Out1Ideal.main_v1) = v0 c
          ∧ r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
          ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
          ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
          ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3)
          ∧ r.2.mem ((c.tc : Thread Cert.Out1Ideal.nD Cert.Out1Ideal.τ).loc Cert.Out1Ideal.main_arg4) = m ((c.tc : Thread Cert.Out1Ideal.nD Cert.Out1Ideal.τ).loc Cert.Out1Ideal.main_arg4))
      ∧ θ_run (Cert.Out1RefIdeal.defs (F := Ideal)) (onTc (τ := Cert.Out1RefIdeal.τ) (Cert.Out1RefIdeal.main (F := Ideal))) ⟨m', fun _ => 0, g'⟩ (fun r => ∀ c : Dev Cert.Out1RefIdeal.nD,
          r.2.mem ((c.tc : Thread Cert.Out1RefIdeal.nD Cert.Out1RefIdeal.τ).loc Cert.Out1RefIdeal.main_v50) = v0 c
          ∧ r.2.mem ((c.tc : Thread Cert.Out1RefIdeal.nD Cert.Out1RefIdeal.τ).loc Cert.Out1RefIdeal.main_arg0) = m' ((c.tc : Thread Cert.Out1RefIdeal.nD Cert.Out1RefIdeal.τ).loc Cert.Out1RefIdeal.main_arg0)
          ∧ r.2.mem ((c.tc : Thread Cert.Out1RefIdeal.nD Cert.Out1RefIdeal.τ).loc Cert.Out1RefIdeal.main_arg1) = m' ((c.tc : Thread Cert.Out1RefIdeal.nD Cert.Out1RefIdeal.τ).loc Cert.Out1RefIdeal.main_arg1)
          ∧ r.2.mem ((c.tc : Thread Cert.Out1RefIdeal.nD Cert.Out1RefIdeal.τ).loc Cert.Out1RefIdeal.main_arg2) = m' ((c.tc : Thread Cert.Out1RefIdeal.nD Cert.Out1RefIdeal.τ).loc Cert.Out1RefIdeal.main_arg2)
          ∧ r.2.mem ((c.tc : Thread Cert.Out1RefIdeal.nD Cert.Out1RefIdeal.τ).loc Cert.Out1RefIdeal.main_arg3) = m' ((c.tc : Thread Cert.Out1RefIdeal.nD Cert.Out1RefIdeal.τ).loc Cert.Out1RefIdeal.main_arg3)
          ∧ r.2.mem ((c.tc : Thread Cert.Out1RefIdeal.nD Cert.Out1RefIdeal.τ).loc Cert.Out1RefIdeal.main_arg4) = m' ((c.tc : Thread Cert.Out1RefIdeal.nD Cert.Out1RefIdeal.τ).loc Cert.Out1RefIdeal.main_arg4))

def preserves_QuantIn_QuantInIdeal : Prop :=
  True

def algebraic_QuantInIdeal_QuantInRefIdeal [hQuantInIdeal : Cert.QuantInIdeal.Facts] [hQuantInRefIdeal : Cert.QuantInRefIdeal.Facts] : Prop :=
  ∀ (m : (ℓ : Loc Cert.QuantInIdeal.nD Cert.QuantInIdeal.τ Cert.QuantInIdeal.sig) → Buf (Elt Ideal) ℓ) (g : Dev Cert.QuantInIdeal.nD → PrngReg)
    (m' : (ℓ : Loc Cert.QuantInRefIdeal.nD Cert.QuantInRefIdeal.τ Cert.QuantInRefIdeal.sig) → Buf (Elt Ideal) ℓ) (g' : Dev Cert.QuantInRefIdeal.nD → PrngReg), Pre_QuantInIdeal m →
    (∀ c : Dev Cert.QuantInIdeal.nD,
      m' ((c.tc : Thread Cert.QuantInRefIdeal.nD Cert.QuantInRefIdeal.τ).loc Cert.QuantInRefIdeal.main_arg0) = m ((c.tc : Thread Cert.QuantInIdeal.nD Cert.QuantInIdeal.τ).loc Cert.QuantInIdeal.main_arg0)
      ∧ m' ((c.tc : Thread Cert.QuantInRefIdeal.nD Cert.QuantInRefIdeal.τ).loc Cert.QuantInRefIdeal.main_arg1) = m ((c.tc : Thread Cert.QuantInIdeal.nD Cert.QuantInIdeal.τ).loc Cert.QuantInIdeal.main_arg1)) →
    ∃ (v0 : (c : Dev Cert.QuantInIdeal.nD) → Buf (Elt Ideal) ((c.tc : Thread Cert.QuantInIdeal.nD Cert.QuantInIdeal.τ).loc Cert.QuantInIdeal.main_v1_0)) (v1 : (c : Dev Cert.QuantInIdeal.nD) → Buf (Elt Ideal) ((c.tc : Thread Cert.QuantInIdeal.nD Cert.QuantInIdeal.τ).loc Cert.QuantInIdeal.main_v1_1)) (v2 : (c : Dev Cert.QuantInIdeal.nD) → Buf (Elt Ideal) ((c.tc : Thread Cert.QuantInIdeal.nD Cert.QuantInIdeal.τ).loc Cert.QuantInIdeal.main_v1_2)) (v3 : (c : Dev Cert.QuantInIdeal.nD) → Buf (Elt Ideal) ((c.tc : Thread Cert.QuantInIdeal.nD Cert.QuantInIdeal.τ).loc Cert.QuantInIdeal.main_v1_3)),
      θ_run (Cert.QuantInIdeal.defs (F := Ideal)) (onTc (τ := Cert.QuantInIdeal.τ) (Cert.QuantInIdeal.main (F := Ideal))) ⟨m, fun _ => 0, g⟩ (fun r => ∀ c : Dev Cert.QuantInIdeal.nD,
          r.2.mem ((c.tc : Thread Cert.QuantInIdeal.nD Cert.QuantInIdeal.τ).loc Cert.QuantInIdeal.main_v1_0) = v0 c
          ∧ r.2.mem ((c.tc : Thread Cert.QuantInIdeal.nD Cert.QuantInIdeal.τ).loc Cert.QuantInIdeal.main_v1_1) = v1 c
          ∧ r.2.mem ((c.tc : Thread Cert.QuantInIdeal.nD Cert.QuantInIdeal.τ).loc Cert.QuantInIdeal.main_v1_2) = v2 c
          ∧ r.2.mem ((c.tc : Thread Cert.QuantInIdeal.nD Cert.QuantInIdeal.τ).loc Cert.QuantInIdeal.main_v1_3) = v3 c
          ∧ r.2.mem ((c.tc : Thread Cert.QuantInIdeal.nD Cert.QuantInIdeal.τ).loc Cert.QuantInIdeal.main_arg0) = m ((c.tc : Thread Cert.QuantInIdeal.nD Cert.QuantInIdeal.τ).loc Cert.QuantInIdeal.main_arg0)
          ∧ r.2.mem ((c.tc : Thread Cert.QuantInIdeal.nD Cert.QuantInIdeal.τ).loc Cert.QuantInIdeal.main_arg1) = m ((c.tc : Thread Cert.QuantInIdeal.nD Cert.QuantInIdeal.τ).loc Cert.QuantInIdeal.main_arg1))
      ∧ θ_run (Cert.QuantInRefIdeal.defs (F := Ideal)) (onTc (τ := Cert.QuantInRefIdeal.τ) (Cert.QuantInRefIdeal.main (F := Ideal))) ⟨m', fun _ => 0, g'⟩ (fun r => ∀ c : Dev Cert.QuantInRefIdeal.nD,
          r.2.mem ((c.tc : Thread Cert.QuantInRefIdeal.nD Cert.QuantInRefIdeal.τ).loc Cert.QuantInRefIdeal.main_v34) = v0 c
          ∧ r.2.mem ((c.tc : Thread Cert.QuantInRefIdeal.nD Cert.QuantInRefIdeal.τ).loc Cert.QuantInRefIdeal.main_v21) = v1 c
          ∧ r.2.mem ((c.tc : Thread Cert.QuantInRefIdeal.nD Cert.QuantInRefIdeal.τ).loc Cert.QuantInRefIdeal.main_v35) = v2 c
          ∧ r.2.mem ((c.tc : Thread Cert.QuantInRefIdeal.nD Cert.QuantInRefIdeal.τ).loc Cert.QuantInRefIdeal.main_v36) = v3 c
          ∧ r.2.mem ((c.tc : Thread Cert.QuantInRefIdeal.nD Cert.QuantInRefIdeal.τ).loc Cert.QuantInRefIdeal.main_arg0) = m' ((c.tc : Thread Cert.QuantInRefIdeal.nD Cert.QuantInRefIdeal.τ).loc Cert.QuantInRefIdeal.main_arg0)
          ∧ r.2.mem ((c.tc : Thread Cert.QuantInRefIdeal.nD Cert.QuantInRefIdeal.τ).loc Cert.QuantInRefIdeal.main_arg1) = m' ((c.tc : Thread Cert.QuantInRefIdeal.nD Cert.QuantInRefIdeal.τ).loc Cert.QuantInRefIdeal.main_arg1))

def preserves_QuantAttn_QuantAttnIdeal : Prop :=
  True

def algebraic_QuantAttnIdeal_QuantAttnRefIdeal [hQuantAttnIdeal : Cert.QuantAttnIdeal.Facts] [hQuantAttnRefIdeal : Cert.QuantAttnRefIdeal.Facts] : Prop :=
  ∀ (m : (ℓ : Loc Cert.QuantAttnIdeal.nD Cert.QuantAttnIdeal.τ Cert.QuantAttnIdeal.sig) → Buf (Elt Ideal) ℓ) (g : Dev Cert.QuantAttnIdeal.nD → PrngReg)
    (m' : (ℓ : Loc Cert.QuantAttnRefIdeal.nD Cert.QuantAttnRefIdeal.τ Cert.QuantAttnRefIdeal.sig) → Buf (Elt Ideal) ℓ) (g' : Dev Cert.QuantAttnRefIdeal.nD → PrngReg), Pre_QuantAttnIdeal m →
    (∀ c : Dev Cert.QuantAttnIdeal.nD,
      m' ((c.tc : Thread Cert.QuantAttnRefIdeal.nD Cert.QuantAttnRefIdeal.τ).loc Cert.QuantAttnRefIdeal.main_arg0) = m ((c.tc : Thread Cert.QuantAttnIdeal.nD Cert.QuantAttnIdeal.τ).loc Cert.QuantAttnIdeal.main_arg0)
      ∧ m' ((c.tc : Thread Cert.QuantAttnRefIdeal.nD Cert.QuantAttnRefIdeal.τ).loc Cert.QuantAttnRefIdeal.main_arg1) = m ((c.tc : Thread Cert.QuantAttnIdeal.nD Cert.QuantAttnIdeal.τ).loc Cert.QuantAttnIdeal.main_arg1)) →
    ∃ (v0 : (c : Dev Cert.QuantAttnIdeal.nD) → Buf (Elt Ideal) ((c.tc : Thread Cert.QuantAttnIdeal.nD Cert.QuantAttnIdeal.τ).loc Cert.QuantAttnIdeal.main_v1_0)) (v1 : (c : Dev Cert.QuantAttnIdeal.nD) → Buf (Elt Ideal) ((c.tc : Thread Cert.QuantAttnIdeal.nD Cert.QuantAttnIdeal.τ).loc Cert.QuantAttnIdeal.main_v1_1)) (v2 : (c : Dev Cert.QuantAttnIdeal.nD) → Buf (Elt Ideal) ((c.tc : Thread Cert.QuantAttnIdeal.nD Cert.QuantAttnIdeal.τ).loc Cert.QuantAttnIdeal.main_v1_2)) (v3 : (c : Dev Cert.QuantAttnIdeal.nD) → Buf (Elt Ideal) ((c.tc : Thread Cert.QuantAttnIdeal.nD Cert.QuantAttnIdeal.τ).loc Cert.QuantAttnIdeal.main_v1_3)),
      θ_run (Cert.QuantAttnIdeal.defs (F := Ideal)) (onTc (τ := Cert.QuantAttnIdeal.τ) (Cert.QuantAttnIdeal.main (F := Ideal))) ⟨m, fun _ => 0, g⟩ (fun r => ∀ c : Dev Cert.QuantAttnIdeal.nD,
          r.2.mem ((c.tc : Thread Cert.QuantAttnIdeal.nD Cert.QuantAttnIdeal.τ).loc Cert.QuantAttnIdeal.main_v1_0) = v0 c
          ∧ r.2.mem ((c.tc : Thread Cert.QuantAttnIdeal.nD Cert.QuantAttnIdeal.τ).loc Cert.QuantAttnIdeal.main_v1_1) = v1 c
          ∧ r.2.mem ((c.tc : Thread Cert.QuantAttnIdeal.nD Cert.QuantAttnIdeal.τ).loc Cert.QuantAttnIdeal.main_v1_2) = v2 c
          ∧ r.2.mem ((c.tc : Thread Cert.QuantAttnIdeal.nD Cert.QuantAttnIdeal.τ).loc Cert.QuantAttnIdeal.main_v1_3) = v3 c
          ∧ r.2.mem ((c.tc : Thread Cert.QuantAttnIdeal.nD Cert.QuantAttnIdeal.τ).loc Cert.QuantAttnIdeal.main_arg0) = m ((c.tc : Thread Cert.QuantAttnIdeal.nD Cert.QuantAttnIdeal.τ).loc Cert.QuantAttnIdeal.main_arg0)
          ∧ r.2.mem ((c.tc : Thread Cert.QuantAttnIdeal.nD Cert.QuantAttnIdeal.τ).loc Cert.QuantAttnIdeal.main_arg1) = m ((c.tc : Thread Cert.QuantAttnIdeal.nD Cert.QuantAttnIdeal.τ).loc Cert.QuantAttnIdeal.main_arg1))
      ∧ θ_run (Cert.QuantAttnRefIdeal.defs (F := Ideal)) (onTc (τ := Cert.QuantAttnRefIdeal.τ) (Cert.QuantAttnRefIdeal.main (F := Ideal))) ⟨m', fun _ => 0, g'⟩ (fun r => ∀ c : Dev Cert.QuantAttnRefIdeal.nD,
          r.2.mem ((c.tc : Thread Cert.QuantAttnRefIdeal.nD Cert.QuantAttnRefIdeal.τ).loc Cert.QuantAttnRefIdeal.main_v33) = v0 c
          ∧ r.2.mem ((c.tc : Thread Cert.QuantAttnRefIdeal.nD Cert.QuantAttnRefIdeal.τ).loc Cert.QuantAttnRefIdeal.main_v20) = v1 c
          ∧ r.2.mem ((c.tc : Thread Cert.QuantAttnRefIdeal.nD Cert.QuantAttnRefIdeal.τ).loc Cert.QuantAttnRefIdeal.main_v34) = v2 c
          ∧ r.2.mem ((c.tc : Thread Cert.QuantAttnRefIdeal.nD Cert.QuantAttnRefIdeal.τ).loc Cert.QuantAttnRefIdeal.main_v35) = v3 c
          ∧ r.2.mem ((c.tc : Thread Cert.QuantAttnRefIdeal.nD Cert.QuantAttnRefIdeal.τ).loc Cert.QuantAttnRefIdeal.main_arg0) = m' ((c.tc : Thread Cert.QuantAttnRefIdeal.nD Cert.QuantAttnRefIdeal.τ).loc Cert.QuantAttnRefIdeal.main_arg0)
          ∧ r.2.mem ((c.tc : Thread Cert.QuantAttnRefIdeal.nD Cert.QuantAttnRefIdeal.τ).loc Cert.QuantAttnRefIdeal.main_arg1) = m' ((c.tc : Thread Cert.QuantAttnRefIdeal.nD Cert.QuantAttnRefIdeal.τ).loc Cert.QuantAttnRefIdeal.main_arg1))

def preserves_QuantPost_QuantPostIdeal : Prop :=
  True

def algebraic_QuantPostIdeal_QuantPostRefIdeal [hQuantPostIdeal : Cert.QuantPostIdeal.Facts] [hQuantPostRefIdeal : Cert.QuantPostRefIdeal.Facts] : Prop :=
  ∀ (m : (ℓ : Loc Cert.QuantPostIdeal.nD Cert.QuantPostIdeal.τ Cert.QuantPostIdeal.sig) → Buf (Elt Ideal) ℓ) (g : Dev Cert.QuantPostIdeal.nD → PrngReg)
    (m' : (ℓ : Loc Cert.QuantPostRefIdeal.nD Cert.QuantPostRefIdeal.τ Cert.QuantPostRefIdeal.sig) → Buf (Elt Ideal) ℓ) (g' : Dev Cert.QuantPostRefIdeal.nD → PrngReg), Pre_QuantPostIdeal m →
    (∀ c : Dev Cert.QuantPostIdeal.nD,
      m' ((c.tc : Thread Cert.QuantPostRefIdeal.nD Cert.QuantPostRefIdeal.τ).loc Cert.QuantPostRefIdeal.main_arg0) = m ((c.tc : Thread Cert.QuantPostIdeal.nD Cert.QuantPostIdeal.τ).loc Cert.QuantPostIdeal.main_arg0)
      ∧ m' ((c.tc : Thread Cert.QuantPostRefIdeal.nD Cert.QuantPostRefIdeal.τ).loc Cert.QuantPostRefIdeal.main_arg1) = m ((c.tc : Thread Cert.QuantPostIdeal.nD Cert.QuantPostIdeal.τ).loc Cert.QuantPostIdeal.main_arg1)) →
    ∃ (v0 : (c : Dev Cert.QuantPostIdeal.nD) → Buf (Elt Ideal) ((c.tc : Thread Cert.QuantPostIdeal.nD Cert.QuantPostIdeal.τ).loc Cert.QuantPostIdeal.main_v1_0)) (v1 : (c : Dev Cert.QuantPostIdeal.nD) → Buf (Elt Ideal) ((c.tc : Thread Cert.QuantPostIdeal.nD Cert.QuantPostIdeal.τ).loc Cert.QuantPostIdeal.main_v1_1)) (v2 : (c : Dev Cert.QuantPostIdeal.nD) → Buf (Elt Ideal) ((c.tc : Thread Cert.QuantPostIdeal.nD Cert.QuantPostIdeal.τ).loc Cert.QuantPostIdeal.main_v1_2)) (v3 : (c : Dev Cert.QuantPostIdeal.nD) → Buf (Elt Ideal) ((c.tc : Thread Cert.QuantPostIdeal.nD Cert.QuantPostIdeal.τ).loc Cert.QuantPostIdeal.main_v1_3)),
      θ_run (Cert.QuantPostIdeal.defs (F := Ideal)) (onTc (τ := Cert.QuantPostIdeal.τ) (Cert.QuantPostIdeal.main (F := Ideal))) ⟨m, fun _ => 0, g⟩ (fun r => ∀ c : Dev Cert.QuantPostIdeal.nD,
          r.2.mem ((c.tc : Thread Cert.QuantPostIdeal.nD Cert.QuantPostIdeal.τ).loc Cert.QuantPostIdeal.main_v1_0) = v0 c
          ∧ r.2.mem ((c.tc : Thread Cert.QuantPostIdeal.nD Cert.QuantPostIdeal.τ).loc Cert.QuantPostIdeal.main_v1_1) = v1 c
          ∧ r.2.mem ((c.tc : Thread Cert.QuantPostIdeal.nD Cert.QuantPostIdeal.τ).loc Cert.QuantPostIdeal.main_v1_2) = v2 c
          ∧ r.2.mem ((c.tc : Thread Cert.QuantPostIdeal.nD Cert.QuantPostIdeal.τ).loc Cert.QuantPostIdeal.main_v1_3) = v3 c
          ∧ r.2.mem ((c.tc : Thread Cert.QuantPostIdeal.nD Cert.QuantPostIdeal.τ).loc Cert.QuantPostIdeal.main_arg0) = m ((c.tc : Thread Cert.QuantPostIdeal.nD Cert.QuantPostIdeal.τ).loc Cert.QuantPostIdeal.main_arg0)
          ∧ r.2.mem ((c.tc : Thread Cert.QuantPostIdeal.nD Cert.QuantPostIdeal.τ).loc Cert.QuantPostIdeal.main_arg1) = m ((c.tc : Thread Cert.QuantPostIdeal.nD Cert.QuantPostIdeal.τ).loc Cert.QuantPostIdeal.main_arg1))
      ∧ θ_run (Cert.QuantPostRefIdeal.defs (F := Ideal)) (onTc (τ := Cert.QuantPostRefIdeal.τ) (Cert.QuantPostRefIdeal.main (F := Ideal))) ⟨m', fun _ => 0, g'⟩ (fun r => ∀ c : Dev Cert.QuantPostRefIdeal.nD,
          r.2.mem ((c.tc : Thread Cert.QuantPostRefIdeal.nD Cert.QuantPostRefIdeal.τ).loc Cert.QuantPostRefIdeal.main_v33) = v0 c
          ∧ r.2.mem ((c.tc : Thread Cert.QuantPostRefIdeal.nD Cert.QuantPostRefIdeal.τ).loc Cert.QuantPostRefIdeal.main_v20) = v1 c
          ∧ r.2.mem ((c.tc : Thread Cert.QuantPostRefIdeal.nD Cert.QuantPostRefIdeal.τ).loc Cert.QuantPostRefIdeal.main_v34) = v2 c
          ∧ r.2.mem ((c.tc : Thread Cert.QuantPostRefIdeal.nD Cert.QuantPostRefIdeal.τ).loc Cert.QuantPostRefIdeal.main_v35) = v3 c
          ∧ r.2.mem ((c.tc : Thread Cert.QuantPostRefIdeal.nD Cert.QuantPostRefIdeal.τ).loc Cert.QuantPostRefIdeal.main_arg0) = m' ((c.tc : Thread Cert.QuantPostRefIdeal.nD Cert.QuantPostRefIdeal.τ).loc Cert.QuantPostRefIdeal.main_arg0)
          ∧ r.2.mem ((c.tc : Thread Cert.QuantPostRefIdeal.nD Cert.QuantPostRefIdeal.τ).loc Cert.QuantPostRefIdeal.main_arg1) = m' ((c.tc : Thread Cert.QuantPostRefIdeal.nD Cert.QuantPostRefIdeal.τ).loc Cert.QuantPostRefIdeal.main_arg1))

def preserves_QuantFfn_QuantFfnIdeal : Prop :=
  True

def algebraic_QuantFfnIdeal_QuantFfnRefIdeal [hQuantFfnIdeal : Cert.QuantFfnIdeal.Facts] [hQuantFfnRefIdeal : Cert.QuantFfnRefIdeal.Facts] : Prop :=
  ∀ (m : (ℓ : Loc Cert.QuantFfnIdeal.nD Cert.QuantFfnIdeal.τ Cert.QuantFfnIdeal.sig) → Buf (Elt Ideal) ℓ) (g : Dev Cert.QuantFfnIdeal.nD → PrngReg)
    (m' : (ℓ : Loc Cert.QuantFfnRefIdeal.nD Cert.QuantFfnRefIdeal.τ Cert.QuantFfnRefIdeal.sig) → Buf (Elt Ideal) ℓ) (g' : Dev Cert.QuantFfnRefIdeal.nD → PrngReg), Pre_QuantFfnIdeal m →
    (∀ c : Dev Cert.QuantFfnIdeal.nD,
      m' ((c.tc : Thread Cert.QuantFfnRefIdeal.nD Cert.QuantFfnRefIdeal.τ).loc Cert.QuantFfnRefIdeal.main_arg0) = m ((c.tc : Thread Cert.QuantFfnIdeal.nD Cert.QuantFfnIdeal.τ).loc Cert.QuantFfnIdeal.main_arg0)
      ∧ m' ((c.tc : Thread Cert.QuantFfnRefIdeal.nD Cert.QuantFfnRefIdeal.τ).loc Cert.QuantFfnRefIdeal.main_arg1) = m ((c.tc : Thread Cert.QuantFfnIdeal.nD Cert.QuantFfnIdeal.τ).loc Cert.QuantFfnIdeal.main_arg1)) →
    ∃ (v0 : (c : Dev Cert.QuantFfnIdeal.nD) → Buf (Elt Ideal) ((c.tc : Thread Cert.QuantFfnIdeal.nD Cert.QuantFfnIdeal.τ).loc Cert.QuantFfnIdeal.main_v1_0)) (v1 : (c : Dev Cert.QuantFfnIdeal.nD) → Buf (Elt Ideal) ((c.tc : Thread Cert.QuantFfnIdeal.nD Cert.QuantFfnIdeal.τ).loc Cert.QuantFfnIdeal.main_v1_1)) (v2 : (c : Dev Cert.QuantFfnIdeal.nD) → Buf (Elt Ideal) ((c.tc : Thread Cert.QuantFfnIdeal.nD Cert.QuantFfnIdeal.τ).loc Cert.QuantFfnIdeal.main_v1_2)) (v3 : (c : Dev Cert.QuantFfnIdeal.nD) → Buf (Elt Ideal) ((c.tc : Thread Cert.QuantFfnIdeal.nD Cert.QuantFfnIdeal.τ).loc Cert.QuantFfnIdeal.main_v1_3)),
      θ_run (Cert.QuantFfnIdeal.defs (F := Ideal)) (onTc (τ := Cert.QuantFfnIdeal.τ) (Cert.QuantFfnIdeal.main (F := Ideal))) ⟨m, fun _ => 0, g⟩ (fun r => ∀ c : Dev Cert.QuantFfnIdeal.nD,
          r.2.mem ((c.tc : Thread Cert.QuantFfnIdeal.nD Cert.QuantFfnIdeal.τ).loc Cert.QuantFfnIdeal.main_v1_0) = v0 c
          ∧ r.2.mem ((c.tc : Thread Cert.QuantFfnIdeal.nD Cert.QuantFfnIdeal.τ).loc Cert.QuantFfnIdeal.main_v1_1) = v1 c
          ∧ r.2.mem ((c.tc : Thread Cert.QuantFfnIdeal.nD Cert.QuantFfnIdeal.τ).loc Cert.QuantFfnIdeal.main_v1_2) = v2 c
          ∧ r.2.mem ((c.tc : Thread Cert.QuantFfnIdeal.nD Cert.QuantFfnIdeal.τ).loc Cert.QuantFfnIdeal.main_v1_3) = v3 c
          ∧ r.2.mem ((c.tc : Thread Cert.QuantFfnIdeal.nD Cert.QuantFfnIdeal.τ).loc Cert.QuantFfnIdeal.main_arg0) = m ((c.tc : Thread Cert.QuantFfnIdeal.nD Cert.QuantFfnIdeal.τ).loc Cert.QuantFfnIdeal.main_arg0)
          ∧ r.2.mem ((c.tc : Thread Cert.QuantFfnIdeal.nD Cert.QuantFfnIdeal.τ).loc Cert.QuantFfnIdeal.main_arg1) = m ((c.tc : Thread Cert.QuantFfnIdeal.nD Cert.QuantFfnIdeal.τ).loc Cert.QuantFfnIdeal.main_arg1))
      ∧ θ_run (Cert.QuantFfnRefIdeal.defs (F := Ideal)) (onTc (τ := Cert.QuantFfnRefIdeal.τ) (Cert.QuantFfnRefIdeal.main (F := Ideal))) ⟨m', fun _ => 0, g'⟩ (fun r => ∀ c : Dev Cert.QuantFfnRefIdeal.nD,
          r.2.mem ((c.tc : Thread Cert.QuantFfnRefIdeal.nD Cert.QuantFfnRefIdeal.τ).loc Cert.QuantFfnRefIdeal.main_v33) = v0 c
          ∧ r.2.mem ((c.tc : Thread Cert.QuantFfnRefIdeal.nD Cert.QuantFfnRefIdeal.τ).loc Cert.QuantFfnRefIdeal.main_v20) = v1 c
          ∧ r.2.mem ((c.tc : Thread Cert.QuantFfnRefIdeal.nD Cert.QuantFfnRefIdeal.τ).loc Cert.QuantFfnRefIdeal.main_v34) = v2 c
          ∧ r.2.mem ((c.tc : Thread Cert.QuantFfnRefIdeal.nD Cert.QuantFfnRefIdeal.τ).loc Cert.QuantFfnRefIdeal.main_v35) = v3 c
          ∧ r.2.mem ((c.tc : Thread Cert.QuantFfnRefIdeal.nD Cert.QuantFfnRefIdeal.τ).loc Cert.QuantFfnRefIdeal.main_arg0) = m' ((c.tc : Thread Cert.QuantFfnRefIdeal.nD Cert.QuantFfnRefIdeal.τ).loc Cert.QuantFfnRefIdeal.main_arg0)
          ∧ r.2.mem ((c.tc : Thread Cert.QuantFfnRefIdeal.nD Cert.QuantFfnRefIdeal.τ).loc Cert.QuantFfnRefIdeal.main_arg1) = m' ((c.tc : Thread Cert.QuantFfnRefIdeal.nD Cert.QuantFfnRefIdeal.τ).loc Cert.QuantFfnRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v30)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v30) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v193) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5))

def preserves_Attention_AttentionIdeal : Prop :=
  True

def algebraic_AttentionIdeal_AttentionRefIdeal_pre_finite_keys [hAttentionIdeal : Cert.AttentionIdeal.Facts] [hAttentionRefIdeal : Cert.AttentionRefIdeal.Facts] [hPre_finite_keys : Cert.Pre_finite_keys.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_finite_keys m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v31) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0))

def Claim : Prop :=
  ∃ (hGateUp : Cert.GateUp.Facts) (hGateUpIdeal : Cert.GateUpIdeal.Facts) (hGateUpRefIdeal : Cert.GateUpRefIdeal.Facts) (hDown0 : Cert.Down0.Facts) (hDown0Ideal : Cert.Down0Ideal.Facts) (hDown0RefIdeal : Cert.Down0RefIdeal.Facts) (hDown1 : Cert.Down1.Facts) (hDown1Ideal : Cert.Down1Ideal.Facts) (hDown1RefIdeal : Cert.Down1RefIdeal.Facts) (hOut0 : Cert.Out0.Facts) (hOut0Ideal : Cert.Out0Ideal.Facts) (hOut0RefIdeal : Cert.Out0RefIdeal.Facts) (hOut1 : Cert.Out1.Facts) (hOut1Ideal : Cert.Out1Ideal.Facts) (hOut1RefIdeal : Cert.Out1RefIdeal.Facts) (hQuantIn : Cert.QuantIn.Facts) (hQuantInIdeal : Cert.QuantInIdeal.Facts) (hQuantInRefIdeal : Cert.QuantInRefIdeal.Facts) (hQuantAttn : Cert.QuantAttn.Facts) (hQuantAttnIdeal : Cert.QuantAttnIdeal.Facts) (hQuantAttnRefIdeal : Cert.QuantAttnRefIdeal.Facts) (hQuantPost : Cert.QuantPost.Facts) (hQuantPostIdeal : Cert.QuantPostIdeal.Facts) (hQuantPostRefIdeal : Cert.QuantPostRefIdeal.Facts) (hQuantFfn : Cert.QuantFfn.Facts) (hQuantFfnIdeal : Cert.QuantFfnIdeal.Facts) (hQuantFfnRefIdeal : Cert.QuantFfnRefIdeal.Facts) (hQkv : Cert.Qkv.Facts) (hQkvIdeal : Cert.QkvIdeal.Facts) (hQkvRefIdeal : Cert.QkvRefIdeal.Facts) (hAttention : Cert.Attention.Facts) (hAttentionIdeal : Cert.AttentionIdeal.Facts) (hAttentionRefIdeal : Cert.AttentionRefIdeal.Facts) (hPre_finite_keys : Cert.Pre_finite_keys.Facts) (hOn_first_rows_Down0Ideal : Cert.On_first_rows_Down0Ideal.Facts) (hOn_first_rows_Out0Ideal : Cert.On_first_rows_Out0Ideal.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down0 (hDown0 := hDown0)
    ∧ quiescent_Down0Ideal (hDown0Ideal := hDown0Ideal)
    ∧ quiescent_Down0RefIdeal (hDown0RefIdeal := hDown0RefIdeal)
    ∧ quiescent_Down1 (hDown1 := hDown1)
    ∧ quiescent_Down1Ideal (hDown1Ideal := hDown1Ideal)
    ∧ quiescent_Down1RefIdeal (hDown1RefIdeal := hDown1RefIdeal)
    ∧ quiescent_Out0 (hOut0 := hOut0)
    ∧ quiescent_Out0Ideal (hOut0Ideal := hOut0Ideal)
    ∧ quiescent_Out0RefIdeal (hOut0RefIdeal := hOut0RefIdeal)
    ∧ quiescent_Out1 (hOut1 := hOut1)
    ∧ quiescent_Out1Ideal (hOut1Ideal := hOut1Ideal)
    ∧ quiescent_Out1RefIdeal (hOut1RefIdeal := hOut1RefIdeal)
    ∧ quiescent_QuantIn (hQuantIn := hQuantIn)
    ∧ quiescent_QuantInIdeal (hQuantInIdeal := hQuantInIdeal)
    ∧ quiescent_QuantInRefIdeal (hQuantInRefIdeal := hQuantInRefIdeal)
    ∧ quiescent_QuantAttn (hQuantAttn := hQuantAttn)
    ∧ quiescent_QuantAttnIdeal (hQuantAttnIdeal := hQuantAttnIdeal)
    ∧ quiescent_QuantAttnRefIdeal (hQuantAttnRefIdeal := hQuantAttnRefIdeal)
    ∧ quiescent_QuantPost (hQuantPost := hQuantPost)
    ∧ quiescent_QuantPostIdeal (hQuantPostIdeal := hQuantPostIdeal)
    ∧ quiescent_QuantPostRefIdeal (hQuantPostRefIdeal := hQuantPostRefIdeal)
    ∧ quiescent_QuantFfn (hQuantFfn := hQuantFfn)
    ∧ quiescent_QuantFfnIdeal (hQuantFfnIdeal := hQuantFfnIdeal)
    ∧ quiescent_QuantFfnRefIdeal (hQuantFfnRefIdeal := hQuantFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Attention (hAttention := hAttention)
    ∧ quiescent_AttentionIdeal (hAttentionIdeal := hAttentionIdeal)
    ∧ quiescent_AttentionIdeal_pre_finite_keys (hAttentionIdeal := hAttentionIdeal) (hPre_finite_keys := hPre_finite_keys)
    ∧ quiescent_AttentionRefIdeal (hAttentionRefIdeal := hAttentionRefIdeal)
    ∧ quiescent_AttentionRefIdeal_pre_finite_keys (hAttentionRefIdeal := hAttentionRefIdeal) (hPre_finite_keys := hPre_finite_keys)
    ∧ preserves_GateUp_GateUpIdeal
    ∧ algebraic_GateUpIdeal_GateUpRefIdeal (hGateUpIdeal := hGateUpIdeal) (hGateUpRefIdeal := hGateUpRefIdeal)
    ∧ preserves_Down0_Down0Ideal
    ∧ algebraic_Down0Ideal_Down0RefIdeal_on_first_rows_Down0Ideal (hDown0Ideal := hDown0Ideal) (hDown0RefIdeal := hDown0RefIdeal) (hOn_first_rows_Down0Ideal := hOn_first_rows_Down0Ideal)
    ∧ preserves_Down1_Down1Ideal
    ∧ algebraic_Down1Ideal_Down1RefIdeal (hDown1Ideal := hDown1Ideal) (hDown1RefIdeal := hDown1RefIdeal)
    ∧ preserves_Out0_Out0Ideal
    ∧ algebraic_Out0Ideal_Out0RefIdeal_on_first_rows_Out0Ideal (hOut0Ideal := hOut0Ideal) (hOut0RefIdeal := hOut0RefIdeal) (hOn_first_rows_Out0Ideal := hOn_first_rows_Out0Ideal)
    ∧ preserves_Out1_Out1Ideal
    ∧ algebraic_Out1Ideal_Out1RefIdeal (hOut1Ideal := hOut1Ideal) (hOut1RefIdeal := hOut1RefIdeal)
    ∧ preserves_QuantIn_QuantInIdeal
    ∧ algebraic_QuantInIdeal_QuantInRefIdeal (hQuantInIdeal := hQuantInIdeal) (hQuantInRefIdeal := hQuantInRefIdeal)
    ∧ preserves_QuantAttn_QuantAttnIdeal
    ∧ algebraic_QuantAttnIdeal_QuantAttnRefIdeal (hQuantAttnIdeal := hQuantAttnIdeal) (hQuantAttnRefIdeal := hQuantAttnRefIdeal)
    ∧ preserves_QuantPost_QuantPostIdeal
    ∧ algebraic_QuantPostIdeal_QuantPostRefIdeal (hQuantPostIdeal := hQuantPostIdeal) (hQuantPostRefIdeal := hQuantPostRefIdeal)
    ∧ preserves_QuantFfn_QuantFfnIdeal
    ∧ algebraic_QuantFfnIdeal_QuantFfnRefIdeal (hQuantFfnIdeal := hQuantFfnIdeal) (hQuantFfnRefIdeal := hQuantFfnRefIdeal)
    ∧ preserves_Qkv_QkvIdeal
    ∧ algebraic_QkvIdeal_QkvRefIdeal (hQkvIdeal := hQkvIdeal) (hQkvRefIdeal := hQkvRefIdeal)
    ∧ preserves_Attention_AttentionIdeal
    ∧ algebraic_AttentionIdeal_AttentionRefIdeal_pre_finite_keys (hAttentionIdeal := hAttentionIdeal) (hAttentionRefIdeal := hAttentionRefIdeal) (hPre_finite_keys := hPre_finite_keys)
-- ==== On_first_rows_Down0Ideal.lean ====
abbrev S1280x18944 : Shape := ⟨2, ![1280, 18944]⟩
abbrev S4736x7168 : Shape := ⟨2, ![4736, 7168]⟩
abbrev S_ : Shape := ⟨0, ![]⟩
abbrev S1280x7168 : Shape := ⟨2, ![1280, 7168]⟩

class Facts : Prop where
  bcast_S_S1280x7168 : S_.BroadcastsInDim S1280x7168 (![] : Fin 0 → Fin S1280x7168.rank)

variable [Facts]

def fn {F : FTy → Type} [FloatOps F] (main_arg0 : FVec F S1280x18944 .bf16) (main_arg1 : IVec S4736x7168 8) (main_arg2 : FVec F S_ .f32) (main_arg3 : FVec F S1280x7168 .f32) : IVec S1280x7168 1 :=
  let main_v0 : IVec S1280x7168 32 := iotaInDim S1280x7168 32 0
  let main_c : IVec S_ 32 := constantI S_ 32 640#32
  let main_v1 : IVec S1280x7168 32 := broadcastInDim S1280x7168 ![] bcast_S_S1280x7168 main_c
  let main_v2 : IVec S1280x7168 1 := cmpi .slt main_v0 main_v1
  main_v2
-- ==== On_first_rows_Out0Ideal.lean ====
abbrev S1280x7168 : Shape := ⟨2, ![1280, 7168]⟩
abbrev S1792x7168 : Shape := ⟨2, ![1792, 7168]⟩
abbrev S_ : Shape := ⟨0, ![]⟩

class Facts : Prop where
  bcast_S_S1280x7168 : S_.BroadcastsInDim S1280x7168 (![] : Fin 0 → Fin S1280x7168.rank)

variable [Facts]

def fn {F : FTy → Type} [FloatOps F] (main_arg0 : FVec F S1280x7168 .bf16) (main_arg1 : IVec S1792x7168 8) (main_arg2 : FVec F S_ .f32) (main_arg3 : FVec F S1280x7168 .bf16) : IVec S1280x7168 1 :=
  let main_v0 : IVec S1280x7168 32 := iotaInDim S1280x7168 32 0
  let main_c : IVec S_ 32 := constantI S_ 32 640#32
  let main_v1 : IVec S1280x7168 32 := broadcastInDim S1280x7168 ![] bcast_S_S1280x7168 main_c
  let main_v2 : IVec S1280x7168 1 := cmpi .slt main_v0 main_v1
  main_v2
-- ==== Pre_finite_keys.lean ====
abbrev S1280x9216 : Shape := ⟨2, ![1280, 9216]⟩
abbrev S1280x8192 : Shape := ⟨2, ![1280, 8192]⟩
abbrev S_ : Shape := ⟨0, ![]⟩

class Facts : Prop where
  slices_S1280x9216_S1280x8192_0_0 : S1280x9216.Slices ![0, 0] S1280x8192
  bcast_S_S1280x8192 : S_.BroadcastsInDim S1280x8192 (![] : Fin 0 → Fin S1280x8192.rank)

variable [Facts]

def fn {F : FTy → Type} [FloatOps F] (main_arg0 : FVec F S1280x9216 .bf16) : IVec S1280x8192 1 :=
  let main_v0 : FVec F S1280x8192 .bf16 := (extractStridedSlice S1280x8192 ![0, 0] · slices_S1280x9216_S1280x8192_0_0) main_arg0
  let main_cst : FVec F S_ .bf16 := constant S_ .bf16 0xFF80#16
  let main_v1 : FVec F S1280x8192 .bf16 := broadcastInDim S1280x8192 ![] bcast_S_S1280x8192 main_cst
  let main_v2 : IVec S1280x8192 1 := cmpf .ogt main_v0 main_v1
  let main_cst_0 : FVec F S_ .bf16 := constant S_ .bf16 0x7F80#16
  let main_v3 : FVec F S1280x8192 .bf16 := broadcastInDim S1280x8192 ![] bcast_S_S1280x8192 main_cst_0
  let main_v4 : IVec S1280x8192 1 := cmpf .olt main_v0 main_v3
  let main_v5 : IVec S1280x8192 1 := andi main_v2 main_v4
  main_v5
-- ==== GateUp.lean ====
abbrev S1280x7168 : Shape := ⟨2, ![1280, 7168]⟩
abbrev S1792x18944 : Shape := ⟨2, ![1792, 18944]⟩
abbrev S2 : Shape := ⟨1, ![2]⟩
abbrev S1280x18944 : Shape := ⟨2, ![1280, 18944]⟩
abbrev S640x7168 : Shape := ⟨2, ![640, 7168]⟩
abbrev S1792x256 : Shape := ⟨2, ![1792, 256]⟩
abbrev S640x256 : Shape := ⟨2, ![640, 256]⟩
abbrev S448x256 : Shape := ⟨2, ![448, 256]⟩
abbrev S7168x256 : Shape := ⟨2, ![7168, 256]⟩
abbrev S1 : Shape := ⟨1, ![1]⟩

abbrev nBuf : Space → Nat
  | .hbm => 5
  | .vmem => 8
  | .smem => 1
  | _ => 0

abbrev bufTy : (tb : Table) → Fin (tcTables nBuf tb) → BufTy
  | .hbm, ⟨0, _⟩ => ⟨S1280x7168, .bf16⟩
  | .hbm, ⟨1, _⟩ => ⟨S1792x18944, .i8⟩
  | .hbm, ⟨2, _⟩ => ⟨S1792x18944, .i8⟩
  | .hbm, ⟨3, _⟩ => ⟨S2, .f32⟩
  | .hbm, ⟨4, _⟩ => ⟨S1280x18944, .f32⟩
  | .local _ .vmem, ⟨0, _⟩ => ⟨S640x7168, .bf16⟩
  | .local _ .vmem, ⟨1, _⟩ => ⟨S640x7168, .bf16⟩
  | .local _ .vmem, ⟨2, _⟩ => ⟨S1792x256, .i8⟩
  | .local _ .vmem, ⟨3, _⟩ => ⟨S1792x256, .i8⟩
  | .local _ .vmem, ⟨4, _⟩ => ⟨S1792x256, .i8⟩
  | .local _ .vmem, ⟨5, _⟩ => ⟨S1792x256, .i8⟩
  | .local _ .vmem, ⟨6, _⟩ => ⟨S640x256, .f32⟩
  | .local _ .vmem, ⟨7, _⟩ => ⟨S640x256, .f32⟩
  | .local _ .smem, ⟨0, _⟩ => ⟨S2, .f32⟩
  | _, _ => ⟨S1280x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 74], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S640x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1792x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1792x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S640x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateUpRefIdeal.lean ====
abbrev S1280x7168 : Shape := ⟨2, ![1280, 7168]⟩
abbrev S1792x18944 : Shape := ⟨2, ![1792, 18944]⟩
abbrev S2 : Shape := ⟨1, ![2]⟩
abbrev S1 : Shape := ⟨1, ![1]⟩
abbrev S_ : Shape := ⟨0, ![]⟩
abbrev S1280x1792 : Shape := ⟨2, ![1280, 1792]⟩
abbrev S1280x18944 : Shape := ⟨2, ![1280, 18944]⟩

abbrev nBuf : Space → Nat
  | .hbm => 127
  | .vmem => 0
  | .smem => 0
  | _ => 0

abbrev bufTy : (tb : Table) → Fin (tcTables nBuf tb) → BufTy
  | .hbm, ⟨0, _⟩ => ⟨S1280x7168, .bf16⟩
  | .hbm, ⟨1, _⟩ => ⟨S1792x18944, .i8⟩
  | .hbm, ⟨2, _⟩ => ⟨S1792x18944, .i8⟩
  | .hbm, ⟨3, _⟩ => ⟨S2, .f32⟩
  | .hbm, ⟨4, _⟩ => ⟨S1, .f32⟩
  | .hbm, ⟨5, _⟩ => ⟨S_, .f32⟩
  | .hbm, ⟨6, _⟩ => ⟨S1792x18944, .i32⟩
  | .hbm, ⟨7, _⟩ => ⟨S_, .i32⟩
  | .hbm, ⟨8, _⟩ => ⟨S1792x18944, .i32⟩
  | .hbm, ⟨9, _⟩ => ⟨S1792x18944, .i32⟩
  | .hbm, ⟨10, _⟩ => ⟨S_, .i32⟩
  | .hbm, ⟨11, _⟩ => ⟨S1792x18944, .i32⟩
  | .hbm, ⟨12, _⟩ => ⟨S1792x18944, .i32⟩
  | .hbm, ⟨13, _⟩ => ⟨S_, .i32⟩
  | .hbm, ⟨14, _⟩ => ⟨S1792x18944, .i32⟩
  | .hbm, ⟨15, _⟩ => ⟨S1792x18944, .i32⟩
  | .hbm, ⟨16, _⟩ => ⟨S1792x18944, .bf16⟩
  | .hbm, ⟨17, _⟩ => ⟨S1280x1792, .bf16⟩
  | .hbm, ⟨18, _⟩ => ⟨S1280x18944, .f32⟩
  | .hbm, ⟨19, _⟩ => ⟨S1792x18944, .i32⟩
  | .hbm, ⟨20, _⟩ => ⟨S_, .i32⟩
  | .hbm, ⟨21, _⟩ => ⟨S1792x18944, .i32⟩
  | .hbm, ⟨22, _⟩ => ⟨S1792x18944, .i32⟩
  | .hbm, ⟨23, _⟩ => ⟨S_, .i32⟩
  | .hbm, ⟨24, _⟩ => ⟨S1792x18944, .i32⟩
  | .hbm, ⟨25, _⟩ => ⟨S1792x18944, .i32⟩
  | .hbm, ⟨26, _⟩ => ⟨S_, .i32⟩
  | .hbm, ⟨27, _⟩ => ⟨S1792x18944, .i32⟩
  | .hbm, ⟨28, _⟩ => ⟨S1792x18944, .i32⟩
  | .hbm, ⟨29, _⟩ => ⟨S1792x18944, .bf16⟩
  | .hbm, ⟨30, _⟩ => ⟨S1280x1792, .bf16⟩
  | .hbm, ⟨31, _⟩ => ⟨S1280x18944, .f32⟩
  | .hbm, ⟨32, _⟩ => ⟨S1280x18944, .f32⟩
  | .hbm, ⟨33, _⟩ => ⟨S1792x18944, .i32⟩
  | .hbm, ⟨34, _⟩ => ⟨S_, .i32⟩
  | .hbm, ⟨35, _⟩ => ⟨S1792x18944, .i32⟩
  | .hbm, ⟨36, _⟩ => ⟨S1792x18944, .i32⟩
  | .hbm, ⟨37, _⟩ => ⟨S_, .i32⟩
  | .hbm, ⟨38, _⟩ => ⟨S1792x18944, .i32⟩
  | .hbm, ⟨39, _⟩ => ⟨S1792x18944, .i32⟩
  | .hbm, ⟨40, _⟩ => ⟨S_, .i32⟩
  | .hbm, ⟨41, _⟩ => ⟨S1792x18944, .i32⟩
  | .hbm, ⟨42, _⟩ => ⟨S1792x18944, .i32⟩
  | .hbm, ⟨43, _⟩ => ⟨S1792x18944, .bf16⟩
  | .hbm, ⟨44, _⟩ => ⟨S1280x1792, .bf16⟩
  | .hbm, ⟨45, _⟩ => ⟨S1280x18944, .f32⟩
  | .hbm, ⟨46, _⟩ => ⟨S1280x18944, .f32⟩
  | .hbm, ⟨47, _⟩ => ⟨S1792x18944, .i32⟩
  | .hbm, ⟨48, _⟩ => ⟨S_, .i32⟩
  | .hbm, ⟨49, _⟩ => ⟨S1792x18944, .i32⟩
  | .hbm, ⟨50, _⟩ => ⟨S1792x18944, .i32⟩
  | .hbm, ⟨51, _⟩ => ⟨S_, .i32⟩
  | .hbm, ⟨52, _⟩ => ⟨S1792x18944, .i32⟩
  | .hbm, ⟨53, _⟩ => ⟨S1792x18944, .i32⟩
  | .hbm, ⟨54, _⟩ => ⟨S_, .i32⟩
  | .hbm, ⟨55, _⟩ => ⟨S1792x18944, .i32⟩
  | .hbm, ⟨56, _⟩ => ⟨S1792x18944, .i32⟩
  | .hbm, ⟨57, _⟩ => ⟨S1792x18944, .bf16⟩
  | .hbm, ⟨58, _⟩ => ⟨S1280x1792, .bf16⟩
  | .hbm, ⟨59, _⟩ => ⟨S1280x18944, .f32⟩
  | .hbm, ⟨60, _⟩ => ⟨S1280x18944, .f32⟩
  | .hbm, ⟨61, _⟩ => ⟨S1280x18944, .f32⟩
  | .hbm, ⟨62, _⟩ => ⟨S1280x18944, .f32⟩
  | .hbm, ⟨63, _⟩ => ⟨S1, .f32⟩
  | .hbm, ⟨64, _⟩ => ⟨S_, .f32⟩
  | .hbm, ⟨65, _⟩ => ⟨S1792x18944, .i32⟩
  | .hbm, ⟨66, _⟩ => ⟨S_, .i32⟩
  | .hbm, ⟨67, _⟩ => ⟨S1792x18944, .i32⟩
  | .hbm, ⟨68, _⟩ => ⟨S1792x18944, .i32⟩
  | .hbm, ⟨69, _⟩ => ⟨S_, .i32⟩
  | .hbm, ⟨70, _⟩ => ⟨S1792x18944, .i32⟩
  | .hbm, ⟨71, _⟩ => ⟨S1792x18944, .i32⟩
  | .hbm, ⟨72, _⟩ => ⟨S_, .i32⟩
  | .hbm, ⟨73, _⟩ => ⟨S1792x18944, .i32⟩
  | .hbm, ⟨74, _⟩ => ⟨S1792x18944, .i32⟩
  | .hbm, ⟨75, _⟩ => ⟨S1792x18944, .bf16⟩
  | .hbm, ⟨76, _⟩ => ⟨S1280x1792, .bf16⟩
  | .hbm, ⟨77, _⟩ => ⟨S1280x18944, .f32⟩
  | .hbm, ⟨78, _⟩ => ⟨S1792x18944, .i32⟩
  | .hbm, ⟨79, _⟩ => ⟨S_, .i32⟩
  | .hbm, ⟨80, _⟩ => ⟨S1792x18944, .i32⟩
  | .hbm, ⟨81, _⟩ => ⟨S1792x18944, .i32⟩
  | .hbm, ⟨82, _⟩ => ⟨S_, .i32⟩
  | .hbm, ⟨83, _⟩ => ⟨S1792x18944, .i32⟩
  | .hbm, ⟨84, _⟩ => ⟨S1792x18944, .i32⟩
  | .hbm, ⟨85, _⟩ => ⟨S_, .i32⟩
  | .hbm, ⟨86, _⟩ => ⟨S1792x18944, .i32⟩
  | .hbm, ⟨87, _⟩ => ⟨S1792x18944, .i32⟩
  | .hbm, ⟨88, _⟩ => ⟨S1792x18944, .bf16⟩
  | .hbm, ⟨89, _⟩ => ⟨S1280x1792, .bf16⟩
  | .hbm, ⟨90, _⟩ => ⟨S1280x18944, .f32⟩
  | .hbm, ⟨91, _⟩ => ⟨S1280x18944, .f32⟩
  | .hbm, ⟨92, _⟩ => ⟨S1792x18944, .i32⟩
  | .hbm, ⟨93, _⟩ => ⟨S_, .i32⟩
  | .hbm, ⟨94, _⟩ => ⟨S1792x18944, .i32⟩
  | .hbm, ⟨95, _⟩ => ⟨S1792x18944, .i32⟩
  | .hbm, ⟨96, _⟩ => ⟨S_, .i32⟩
  | .hbm, ⟨97, _⟩ => ⟨S1792x18944, .i32⟩
  | .hbm, ⟨98, _⟩ => ⟨S1792x18944, .i32⟩
  | .hbm, ⟨99, _⟩ => ⟨S_, .i32⟩
  | .hbm, ⟨100, _⟩ => ⟨S1792x18944, .i32⟩
  | .hbm, ⟨101, _⟩ => ⟨S1792x18944, .i32⟩
  | .hbm, ⟨102, _⟩ => ⟨S1792x18944, .bf16⟩
  | .hbm, ⟨103, _⟩ => ⟨S1280x1792, .bf16⟩
  | .hbm, ⟨104, _⟩ => ⟨S1280x18944, .f32⟩
  | .hbm, ⟨105, _⟩ => ⟨S1280x18944, .f32⟩
  | .hbm, ⟨106, _⟩ => ⟨S1792x18944, .i32⟩
  | .hbm, ⟨107, _⟩ => ⟨S_, .i32⟩
  | .hbm, ⟨108, _⟩ => ⟨S1792x18944, .i32⟩
  | .hbm, ⟨109, _⟩ => ⟨S1792x18944, .i32⟩
  | .hbm, ⟨110, _⟩ => ⟨S_, .i32⟩
  | .hbm, ⟨111, _⟩ => ⟨S1792x18944, .i32⟩
  | .hbm, ⟨112, _⟩ => ⟨S1792x18944, .i32⟩
  | .hbm, ⟨113, _⟩ => ⟨S_, .i32⟩
  | .hbm, ⟨114, _⟩ => ⟨S1792x18944, .i32⟩
  | .hbm, ⟨115, _⟩ => ⟨S1792x18944, .i32⟩
  | .hbm, ⟨116, _⟩ => ⟨S1792x18944, .bf16⟩
  | .hbm, ⟨117, _⟩ => ⟨S1280x1792, .bf16⟩
  | .hbm, ⟨118, _⟩ => ⟨S1280x18944, .f32⟩
  | .hbm, ⟨119, _⟩ => ⟨S1280x18944, .f32⟩
  | .hbm, ⟨120, _⟩ => ⟨S1280x18944, .f32⟩
  | .hbm, ⟨121, _⟩ => ⟨S1280x18944, .f32⟩
  | .hbm, ⟨122, _⟩ => ⟨S_, .f32⟩
  | .hbm, ⟨123, _⟩ => ⟨S1280x18944, .f32⟩
  | .hbm, ⟨124, _⟩ => ⟨S1280x18944, .f32⟩
  | .hbm, ⟨125, _⟩ => ⟨S1280x18944, .f32⟩
  | .hbm, ⟨126, _⟩ => ⟨S1280x18944, .f32⟩
  | _, _ => ⟨S1280x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_8 : Ref sig .tc := ⟨.hbm, 48, rfl⟩
abbrev main_v35 : Ref sig .tc := ⟨.hbm, 49, rfl⟩
abbrev main_v36 : Ref sig .tc := ⟨.hbm, 50, rfl⟩
abbrev main_c_9 : Ref sig .tc := ⟨.hbm, 51, rfl⟩
abbrev main_v37 : Ref sig .tc := ⟨.hbm, 52, rfl⟩
abbrev main_v38 : Ref sig .tc := ⟨.hbm, 53, rfl⟩
abbrev main_c_10 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_11 : Ref sig .tc := ⟨.hbm, 66, rfl⟩
abbrev main_v50 : Ref sig .tc := ⟨.hbm, 67, rfl⟩
abbrev main_v51 : Ref sig .tc := ⟨.hbm, 68, rfl⟩
abbrev main_c_12 : Ref sig .tc := ⟨.hbm, 69, rfl⟩
abbrev main_v52 : Ref sig .tc := ⟨.hbm, 70, rfl⟩
abbrev main_v53 : Ref sig .tc := ⟨.hbm, 71, rfl⟩
abbrev main_c_13 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_14 : Ref sig .tc := ⟨.hbm, 79, rfl⟩
abbrev main_v60 : Ref sig .tc := ⟨.hbm, 80, rfl⟩
abbrev main_v61 : Ref sig .tc := ⟨.hbm, 81, rfl⟩
abbrev main_c_15 : Ref sig .tc := ⟨.hbm, 82, rfl⟩
abbrev main_v62 : Ref sig .tc := ⟨.hbm, 83, rfl⟩
abbrev main_v63 : Ref sig .tc := ⟨.hbm, 84, rfl⟩
abbrev main_c_16 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_17 : Ref sig .tc := ⟨.hbm, 93, rfl⟩
abbrev main_v71 : Ref sig .tc := ⟨.hbm, 94, rfl⟩
abbrev main_v72 : Ref sig .tc := ⟨.hbm, 95, rfl⟩
abbrev main_c_18 : Ref sig .tc := ⟨.hbm, 96, rfl⟩
abbrev main_v73 : Ref sig .tc := ⟨.hbm, 97, rfl⟩
abbrev main_v74 : Ref sig .tc := ⟨.hbm, 98, rfl⟩
abbrev main_c_19 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_c_20 : Ref sig .tc := ⟨.hbm, 107, rfl⟩
abbrev main_v82 : Ref sig .tc := ⟨.hbm, 108, rfl⟩
abbrev main_v83 : Ref sig .tc := ⟨.hbm, 109, rfl⟩
abbrev main_c_21 : Ref sig .tc := ⟨.hbm, 110, rfl⟩
abbrev main_v84 : Ref sig .tc := ⟨.hbm, 111, rfl⟩
abbrev main_v85 : Ref sig .tc := ⟨.hbm, 112, rfl⟩
abbrev main_c_22 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_call0_cst : Ref sig .tc := ⟨.hbm, 122, rfl⟩
abbrev main_call0_v0 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩

abbrev nD : Nat := 1
abbrev τ : Topo := Topo.v7x

variable {F : FTy → Type} [FloatOps F]
-- ==== Down0.lean ====
abbrev S1280x18944 : Shape := ⟨2, ![1280, 18944]⟩
abbrev S4736x7168 : Shape := ⟨2, ![4736, 7168]⟩
abbrev S_ : Shape := ⟨0, ![]⟩
abbrev S1280x7168 : Shape := ⟨2, ![1280, 7168]⟩
abbrev S1 : Shape := ⟨1, ![1]⟩
abbrev S640x18944 : Shape := ⟨2, ![640, 18944]⟩
abbrev S4736x256 : Shape := ⟨2, ![4736, 256]⟩
abbrev S640x256 : Shape := ⟨2, ![640, 256]⟩
abbrev S1184x256 : Shape := ⟨2, ![1184, 256]⟩
abbrev S18944x256 : Shape := ⟨2, ![18944, 256]⟩

abbrev nBuf : Space → Nat
  | .hbm => 6
  | .vmem => 7
  | .smem => 1
  | _ => 0

abbrev bufTy : (tb : Table) → Fin (tcTables nBuf tb) → BufTy
  | .hbm, ⟨0, _⟩ => ⟨S1280x18944, .bf16⟩
  | .hbm, ⟨1, _⟩ => ⟨S4736x7168, .i8⟩
  | .hbm, ⟨2, _⟩ => ⟨S_, .f32⟩
  | .hbm, ⟨3, _⟩ => ⟨S1280x7168, .f32⟩
  | .hbm, ⟨4, _⟩ => ⟨S1, .f32⟩
  | .hbm, ⟨5, _⟩ => ⟨S1280x7168, .bf16⟩
  | .local _ .vmem, ⟨0, _⟩ => ⟨S640x18944, .bf16⟩
  | .local _ .vmem, ⟨1, _⟩ => ⟨S4736x256, .i8⟩
  | .local _ .vmem, ⟨2, _⟩ => ⟨S4736x256, .i8⟩
  | .local _ .vmem, ⟨3, _⟩ => ⟨S640x256, .f32⟩
  | .local _ .vmem, ⟨4, _⟩ => ⟨S640x256, .f32⟩
  | .local _ .vmem, ⟨5, _⟩ => ⟨S640x256, .bf16⟩
  | .local _ .vmem, ⟨6, _⟩ => ⟨S640x256, .bf16⟩
  | .local _ .smem, ⟨0, _⟩ => ⟨S1, .f32⟩
  | _, _ => ⟨S1280x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![28], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S640x18944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4736x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Down0RefIdeal.lean ====
abbrev S1280x18944 : Shape := ⟨2, ![1280, 18944]⟩
abbrev S4736x7168 : Shape := ⟨2, ![4736, 7168]⟩
abbrev S_ : Shape := ⟨0, ![]⟩
abbrev S1280x7168 : Shape := ⟨2, ![1280, 7168]⟩
abbrev S1280x4736 : Shape := ⟨2, ![1280, 4736]⟩

abbrev nBuf : Space → Nat
  | .hbm => 63
  | .vmem => 0
  | .smem => 0
  | _ => 0

abbrev bufTy : (tb : Table) → Fin (tcTables nBuf tb) → BufTy
  | .hbm, ⟨0, _⟩ => ⟨S1280x18944, .bf16⟩
  | .hbm, ⟨1, _⟩ => ⟨S4736x7168, .i8⟩
  | .hbm, ⟨2, _⟩ => ⟨S_, .f32⟩
  | .hbm, ⟨3, _⟩ => ⟨S1280x7168, .f32⟩
  | .hbm, ⟨4, _⟩ => ⟨S4736x7168, .i32⟩
  | .hbm, ⟨5, _⟩ => ⟨S_, .i32⟩
  | .hbm, ⟨6, _⟩ => ⟨S4736x7168, .i32⟩
  | .hbm, ⟨7, _⟩ => ⟨S4736x7168, .i32⟩
  | .hbm, ⟨8, _⟩ => ⟨S_, .i32⟩
  | .hbm, ⟨9, _⟩ => ⟨S4736x7168, .i32⟩
  | .hbm, ⟨10, _⟩ => ⟨S4736x7168, .i32⟩
  | .hbm, ⟨11, _⟩ => ⟨S_, .i32⟩
  | .hbm, ⟨12, _⟩ => ⟨S4736x7168, .i32⟩
  | .hbm, ⟨13, _⟩ => ⟨S4736x7168, .i32⟩
  | .hbm, ⟨14, _⟩ => ⟨S4736x7168, .bf16⟩
  | .hbm, ⟨15, _⟩ => ⟨S1280x4736, .bf16⟩
  | .hbm, ⟨16, _⟩ => ⟨S1280x7168, .f32⟩
  | .hbm, ⟨17, _⟩ => ⟨S4736x7168, .i32⟩
  | .hbm, ⟨18, _⟩ => ⟨S_, .i32⟩
  | .hbm, ⟨19, _⟩ => ⟨S4736x7168, .i32⟩
  | .hbm, ⟨20, _⟩ => ⟨S4736x7168, .i32⟩
  | .hbm, ⟨21, _⟩ => ⟨S_, .i32⟩
  | .hbm, ⟨22, _⟩ => ⟨S4736x7168, .i32⟩
  | .hbm, ⟨23, _⟩ => ⟨S4736x7168, .i32⟩
  | .hbm, ⟨24, _⟩ => ⟨S_, .i32⟩
  | .hbm, ⟨25, _⟩ => ⟨S4736x7168, .i32⟩
  | .hbm, ⟨26, _⟩ => ⟨S4736x7168, .i32⟩
  | .hbm, ⟨27, _⟩ => ⟨S4736x7168, .bf16⟩
  | .hbm, ⟨28, _⟩ => ⟨S1280x4736, .bf16⟩
  | .hbm, ⟨29, _⟩ => ⟨S1280x7168, .f32⟩
  | .hbm, ⟨30, _⟩ => ⟨S1280x7168, .f32⟩
  | .hbm, ⟨31, _⟩ => ⟨S4736x7168, .i32⟩
  | .hbm, ⟨32, _⟩ => ⟨S_, .i32⟩
  | .hbm, ⟨33, _⟩ => ⟨S4736x7168, .i32⟩
  | .hbm, ⟨34, _⟩ => ⟨S4736x7168, .i32⟩
  | .hbm, ⟨35, _⟩ => ⟨S_, .i32⟩
  | .hbm, ⟨36, _⟩ => ⟨S4736x7168, .i32⟩
  | .hbm, ⟨37, _⟩ => ⟨S4736x7168, .i32⟩
  | .hbm, ⟨38, _⟩ => ⟨S_, .i32⟩
  | .hbm, ⟨39, _⟩ => ⟨S4736x7168, .i32⟩
  | .hbm, ⟨40, _⟩ => ⟨S4736x7168, .i32⟩
  | .hbm, ⟨41, _⟩ => ⟨S4736x7168, .bf16⟩
  | .hbm, ⟨42, _⟩ => ⟨S1280x4736, .bf16⟩
  | .hbm, ⟨43, _⟩ => ⟨S1280x7168, .f32⟩
  | .hbm, ⟨44, _⟩ => ⟨S1280x7168, .f32⟩
  | .hbm, ⟨45, _⟩ => ⟨S4736x7168, .i32⟩
  | .hbm, ⟨46, _⟩ => ⟨S_, .i32⟩
  | .hbm, ⟨47, _⟩ => ⟨S4736x7168, .i32⟩
  | .hbm, ⟨48, _⟩ => ⟨S4736x7168, .i32⟩
  | .hbm, ⟨49, _⟩ => ⟨S_, .i32⟩
  | .hbm, ⟨50, _⟩ => ⟨S4736x7168, .i32⟩
  | .hbm, ⟨51, _⟩ => ⟨S4736x7168, .i32⟩
  | .hbm, ⟨52, _⟩ => ⟨S_, .i32⟩
  | .hbm, ⟨53, _⟩ => ⟨S4736x7168, .i32⟩
  | .hbm, ⟨54, _⟩ => ⟨S4736x7168, .i32⟩
  | .hbm, ⟨55, _⟩ => ⟨S4736x7168, .bf16⟩
  | .hbm, ⟨56, _⟩ => ⟨S1280x4736, .bf16⟩
  | .hbm, ⟨57, _⟩ => ⟨S1280x7168, .f32⟩
  | .hbm, ⟨58, _⟩ => ⟨S1280x7168, .f32⟩
  | .hbm, ⟨59, _⟩ => ⟨S1280x7168, .f32⟩
  | .hbm, ⟨60, _⟩ => ⟨S1280x7168, .f32⟩
  | .hbm, ⟨61, _⟩ => ⟨S1280x7168, .f32⟩
  | .hbm, ⟨62, _⟩ => ⟨S1280x7168, .bf16⟩
  | _, _ => ⟨S1280x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_8 : Ref sig .tc := ⟨.hbm, 46, rfl⟩
abbrev main_v33 : Ref sig .tc := ⟨.hbm, 47, rfl⟩
abbrev main_v34 : Ref sig .tc := ⟨.hbm, 48, rfl⟩
abbrev main_c_9 : Ref sig .tc := ⟨.hbm, 49, rfl⟩
abbrev main_v35 : Ref sig .tc := ⟨.hbm, 50, rfl⟩
abbrev main_v36 : Ref sig .tc := ⟨.hbm, 51, rfl⟩
abbrev main_c_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Down1.lean ====
abbrev S1280x18944 : Shape := ⟨2, ![1280, 18944]⟩
abbrev S4736x7168 : Shape := ⟨2, ![4736, 7168]⟩
abbrev S_ : Shape := ⟨0, ![]⟩
abbrev S1280x7168 : Shape := ⟨2, ![1280, 7168]⟩
abbrev S1 : Shape := ⟨1, ![1]⟩
abbrev S640x18944 : Shape := ⟨2, ![640, 18944]⟩
abbrev S4736x256 : Shape := ⟨2, ![4736, 256]⟩
abbrev S640x256 : Shape := ⟨2, ![640, 256]⟩
abbrev S1184x256 : Shape := ⟨2, ![1184, 256]⟩
abbrev S18944x256 : Shape := ⟨2, ![18944, 256]⟩

abbrev nBuf : Space → Nat
  | .hbm => 7
  | .vmem => 7
  | .smem => 1
  | _ => 0

abbrev bufTy : (tb : Table) → Fin (tcTables nBuf tb) → BufTy
  | .hbm, ⟨0, _⟩ => ⟨S1280x18944, .bf16⟩
  | .hbm, ⟨1, _⟩ => ⟨S4736x7168, .i8⟩
  | .hbm, ⟨2, _⟩ => ⟨S_, .f32⟩
  | .hbm, ⟨3, _⟩ => ⟨S1280x7168, .f32⟩
  | .hbm, ⟨4, _⟩ => ⟨S1280x7168, .bf16⟩
  | .hbm, ⟨5, _⟩ => ⟨S1, .f32⟩
  | .hbm, ⟨6, _⟩ => ⟨S1280x7168, .bf16⟩
  | .local _ .vmem, ⟨0, _⟩ => ⟨S640x18944, .bf16⟩
  | .local _ .vmem, ⟨1, _⟩ => ⟨S4736x256, .i8⟩
  | .local _ .vmem, ⟨2, _⟩ => ⟨S4736x256, .i8⟩
  | .local _ .vmem, ⟨3, _⟩ => ⟨S640x256, .f32⟩
  | .local _ .vmem, ⟨4, _⟩ => ⟨S640x256, .f32⟩
  | .local _ .vmem, ⟨5, _⟩ => ⟨S640x256, .bf16⟩
  | .local _ .vmem, ⟨6, _⟩ => ⟨S640x256, .bf16⟩
  | .local _ .smem, ⟨0, _⟩ => ⟨S1, .f32⟩
  | _, _ => ⟨S1280x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![28], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_5 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S640x18944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4736x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Down1RefIdeal.lean ====
abbrev S1280x18944 : Shape := ⟨2, ![1280, 18944]⟩
abbrev S4736x7168 : Shape := ⟨2, ![4736, 7168]⟩
abbrev S_ : Shape := ⟨0, ![]⟩
abbrev S1280x7168 : Shape := ⟨2, ![1280, 7168]⟩
abbrev S1280x4736 : Shape := ⟨2, ![1280, 4736]⟩

abbrev nBuf : Space → Nat
  | .hbm => 69
  | .vmem => 0
  | .smem => 0
  | _ => 0

abbrev bufTy : (tb : Table) → Fin (tcTables nBuf tb) → BufTy
  | .hbm, ⟨0, _⟩ => ⟨S1280x18944, .bf16⟩
  | .hbm, ⟨1, _⟩ => ⟨S4736x7168, .i8⟩
  | .hbm, ⟨2, _⟩ => ⟨S_, .f32⟩
  | .hbm, ⟨3, _⟩ => ⟨S1280x7168, .f32⟩
  | .hbm, ⟨4, _⟩ => ⟨S1280x7168, .bf16⟩
  | .hbm, ⟨5, _⟩ => ⟨S4736x7168, .i32⟩
  | .hbm, ⟨6, _⟩ => ⟨S_, .i32⟩
  | .hbm, ⟨7, _⟩ => ⟨S4736x7168, .i32⟩
  | .hbm, ⟨8, _⟩ => ⟨S4736x7168, .i32⟩
  | .hbm, ⟨9, _⟩ => ⟨S_, .i32⟩
  | .hbm, ⟨10, _⟩ => ⟨S4736x7168, .i32⟩
  | .hbm, ⟨11, _⟩ => ⟨S4736x7168, .i32⟩
  | .hbm, ⟨12, _⟩ => ⟨S_, .i32⟩
  | .hbm, ⟨13, _⟩ => ⟨S4736x7168, .i32⟩
  | .hbm, ⟨14, _⟩ => ⟨S4736x7168, .i32⟩
  | .hbm, ⟨15, _⟩ => ⟨S4736x7168, .bf16⟩
  | .hbm, ⟨16, _⟩ => ⟨S1280x4736, .bf16⟩
  | .hbm, ⟨17, _⟩ => ⟨S1280x7168, .f32⟩
  | .hbm, ⟨18, _⟩ => ⟨S4736x7168, .i32⟩
  | .hbm, ⟨19, _⟩ => ⟨S_, .i32⟩
  | .hbm, ⟨20, _⟩ => ⟨S4736x7168, .i32⟩
  | .hbm, ⟨21, _⟩ => ⟨S4736x7168, .i32⟩
  | .hbm, ⟨22, _⟩ => ⟨S_, .i32⟩
  | .hbm, ⟨23, _⟩ => ⟨S4736x7168, .i32⟩
  | .hbm, ⟨24, _⟩ => ⟨S4736x7168, .i32⟩
  | .hbm, ⟨25, _⟩ => ⟨S_, .i32⟩
  | .hbm, ⟨26, _⟩ => ⟨S4736x7168, .i32⟩
  | .hbm, ⟨27, _⟩ => ⟨S4736x7168, .i32⟩
  | .hbm, ⟨28, _⟩ => ⟨S4736x7168, .bf16⟩
  | .hbm, ⟨29, _⟩ => ⟨S1280x4736, .bf16⟩
  | .hbm, ⟨30, _⟩ => ⟨S1280x7168, .f32⟩
  | .hbm, ⟨31, _⟩ => ⟨S1280x7168, .f32⟩
  | .hbm, ⟨32, _⟩ => ⟨S4736x7168, .i32⟩
  | .hbm, ⟨33, _⟩ => ⟨S_, .i32⟩
  | .hbm, ⟨34, _⟩ => ⟨S4736x7168, .i32⟩
  | .hbm, ⟨35, _⟩ => ⟨S4736x7168, .i32⟩
  | .hbm, ⟨36, _⟩ => ⟨S_, .i32⟩
  | .hbm, ⟨37, _⟩ => ⟨S4736x7168, .i32⟩
  | .hbm, ⟨38, _⟩ => ⟨S4736x7168, .i32⟩
  | .hbm, ⟨39, _⟩ => ⟨S_, .i32⟩
  | .hbm, ⟨40, _⟩ => ⟨S4736x7168, .i32⟩
  | .hbm, ⟨41, _⟩ => ⟨S4736x7168, .i32⟩
  | .hbm, ⟨42, _⟩ => ⟨S4736x7168, .bf16⟩
  | .hbm, ⟨43, _⟩ => ⟨S1280x4736, .bf16⟩
  | .hbm, ⟨44, _⟩ => ⟨S1280x7168, .f32⟩
  | .hbm, ⟨45, _⟩ => ⟨S1280x7168, .f32⟩
  | .hbm, ⟨46, _⟩ => ⟨S4736x7168, .i32⟩
  | .hbm, ⟨47, _⟩ => ⟨S_, .i32⟩
  | .hbm, ⟨48, _⟩ => ⟨S4736x7168, .i32⟩
  | .hbm, ⟨49, _⟩ => ⟨S4736x7168, .i32⟩
  | .hbm, ⟨50, _⟩ => ⟨S_, .i32⟩
  | .hbm, ⟨51, _⟩ => ⟨S4736x7168, .i32⟩
  | .hbm, ⟨52, _⟩ => ⟨S4736x7168, .i32⟩
  | .hbm, ⟨53, _⟩ => ⟨S_, .i32⟩
  | .hbm, ⟨54, _⟩ => ⟨S4736x7168, .i32⟩
  | .hbm, ⟨55, _⟩ => ⟨S4736x7168, .i32⟩
  | .hbm, ⟨56, _⟩ => ⟨S4736x7168, .bf16⟩
  | .hbm, ⟨57, _⟩ => ⟨S1280x4736, .bf16⟩
  | .hbm, ⟨58, _⟩ => ⟨S1280x7168, .f32⟩
  | .hbm, ⟨59, _⟩ => ⟨S1280x7168, .f32⟩
  | .hbm, ⟨60, _⟩ => ⟨S1280x7168, .f32⟩
  | .hbm, ⟨61, _⟩ => ⟨S1280x7168, .f32⟩
  | .hbm, ⟨62, _⟩ => ⟨S1280x7168, .f32⟩
  | .hbm, ⟨63, _⟩ => ⟨S1280x7168, .bf16⟩
  | .hbm, ⟨64, _⟩ => ⟨S1280x7168, .i32⟩
  | .hbm, ⟨65, _⟩ => ⟨S_, .i32⟩
  | .hbm, ⟨66, _⟩ => ⟨S1280x7168, .i32⟩
  | .hbm, ⟨67, _⟩ => ⟨S1280x7168, .i1⟩
  | .hbm, ⟨68, _⟩ => ⟨S1280x7168, .bf16⟩
  | _, _ => ⟨S1280x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_c_9 : Ref sig .tc := ⟨.hbm, 50, rfl⟩
abbrev main_v35 : Ref sig .tc := ⟨.hbm, 51, rfl⟩
abbrev main_v36 : Ref sig .tc := ⟨.hbm, 52, rfl⟩
abbrev main_c_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_11 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Out0.lean ====
abbrev S1280x7168 : Shape := ⟨2, ![1280, 7168]⟩
abbrev S1792x7168 : Shape := ⟨2, ![1792, 7168]⟩
abbrev S_ : Shape := ⟨0, ![]⟩
abbrev S1 : Shape := ⟨1, ![1]⟩
abbrev S640x7168 : Shape := ⟨2, ![640, 7168]⟩
abbrev S1792x512 : Shape := ⟨2, ![1792, 512]⟩
abbrev S640x512 : Shape := ⟨2, ![640, 512]⟩
abbrev S448x512 : Shape := ⟨2, ![448, 512]⟩
abbrev S7168x512 : Shape := ⟨2, ![7168, 512]⟩

abbrev nBuf : Space → Nat
  | .hbm => 6
  | .vmem => 7
  | .smem => 1
  | _ => 0

abbrev bufTy : (tb : Table) → Fin (tcTables nBuf tb) → BufTy
  | .hbm, ⟨0, _⟩ => ⟨S1280x7168, .bf16⟩
  | .hbm, ⟨1, _⟩ => ⟨S1792x7168, .i8⟩
  | .hbm, ⟨2, _⟩ => ⟨S_, .f32⟩
  | .hbm, ⟨3, _⟩ => ⟨S1280x7168, .bf16⟩
  | .hbm, ⟨4, _⟩ => ⟨S1, .f32⟩
  | .hbm, ⟨5, _⟩ => ⟨S1280x7168, .f32⟩
  | .local _ .vmem, ⟨0, _⟩ => ⟨S640x7168, .bf16⟩
  | .local _ .vmem, ⟨1, _⟩ => ⟨S1792x512, .i8⟩
  | .local _ .vmem, ⟨2, _⟩ => ⟨S1792x512, .i8⟩
  | .local _ .vmem, ⟨3, _⟩ => ⟨S640x512, .bf16⟩
  | .local _ .vmem, ⟨4, _⟩ => ⟨S640x512, .bf16⟩
  | .local _ .vmem, ⟨5, _⟩ => ⟨S640x512, .f32⟩
  | .local _ .vmem, ⟨6, _⟩ => ⟨S640x512, .f32⟩
  | .local _ .smem, ⟨0, _⟩ => ⟨S1, .f32⟩
  | _, _ => ⟨S1280x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![14], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S640x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1792x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Out0RefIdeal.lean ====
abbrev S1280x7168 : Shape := ⟨2, ![1280, 7168]⟩
abbrev S1792x7168 : Shape := ⟨2, ![1792, 7168]⟩
abbrev S_ : Shape := ⟨0, ![]⟩
abbrev S1280x1792 : Shape := ⟨2, ![1280, 1792]⟩

abbrev nBuf : Space → Nat
  | .hbm => 63
  | .vmem => 0
  | .smem => 0
  | _ => 0

abbrev bufTy : (tb : Table) → Fin (tcTables nBuf tb) → BufTy
  | .hbm, ⟨0, _⟩ => ⟨S1280x7168, .bf16⟩
  | .hbm, ⟨1, _⟩ => ⟨S1792x7168, .i8⟩
  | .hbm, ⟨2, _⟩ => ⟨S_, .f32⟩
  | .hbm, ⟨3, _⟩ => ⟨S1280x7168, .bf16⟩
  | .hbm, ⟨4, _⟩ => ⟨S1280x7168, .f32⟩
  | .hbm, ⟨5, _⟩ => ⟨S1792x7168, .i32⟩
  | .hbm, ⟨6, _⟩ => ⟨S_, .i32⟩
  | .hbm, ⟨7, _⟩ => ⟨S1792x7168, .i32⟩
  | .hbm, ⟨8, _⟩ => ⟨S1792x7168, .i32⟩
  | .hbm, ⟨9, _⟩ => ⟨S_, .i32⟩
  | .hbm, ⟨10, _⟩ => ⟨S1792x7168, .i32⟩
  | .hbm, ⟨11, _⟩ => ⟨S1792x7168, .i32⟩
  | .hbm, ⟨12, _⟩ => ⟨S_, .i32⟩
  | .hbm, ⟨13, _⟩ => ⟨S1792x7168, .i32⟩
  | .hbm, ⟨14, _⟩ => ⟨S1792x7168, .i32⟩
  | .hbm, ⟨15, _⟩ => ⟨S1792x7168, .bf16⟩
  | .hbm, ⟨16, _⟩ => ⟨S1280x1792, .bf16⟩
  | .hbm, ⟨17, _⟩ => ⟨S1280x7168, .f32⟩
  | .hbm, ⟨18, _⟩ => ⟨S1792x7168, .i32⟩
  | .hbm, ⟨19, _⟩ => ⟨S_, .i32⟩
  | .hbm, ⟨20, _⟩ => ⟨S1792x7168, .i32⟩
  | .hbm, ⟨21, _⟩ => ⟨S1792x7168, .i32⟩
  | .hbm, ⟨22, _⟩ => ⟨S_, .i32⟩
  | .hbm, ⟨23, _⟩ => ⟨S1792x7168, .i32⟩
  | .hbm, ⟨24, _⟩ => ⟨S1792x7168, .i32⟩
  | .hbm, ⟨25, _⟩ => ⟨S_, .i32⟩
  | .hbm, ⟨26, _⟩ => ⟨S1792x7168, .i32⟩
  | .hbm, ⟨27, _⟩ => ⟨S1792x7168, .i32⟩
  | .hbm, ⟨28, _⟩ => ⟨S1792x7168, .bf16⟩
  | .hbm, ⟨29, _⟩ => ⟨S1280x1792, .bf16⟩
  | .hbm, ⟨30, _⟩ => ⟨S1280x7168, .f32⟩
  | .hbm, ⟨31, _⟩ => ⟨S1280x7168, .f32⟩
  | .hbm, ⟨32, _⟩ => ⟨S1792x7168, .i32⟩
  | .hbm, ⟨33, _⟩ => ⟨S_, .i32⟩
  | .hbm, ⟨34, _⟩ => ⟨S1792x7168, .i32⟩
  | .hbm, ⟨35, _⟩ => ⟨S1792x7168, .i32⟩
  | .hbm, ⟨36, _⟩ => ⟨S_, .i32⟩
  | .hbm, ⟨37, _⟩ => ⟨S1792x7168, .i32⟩
  | .hbm, ⟨38, _⟩ => ⟨S1792x7168, .i32⟩
  | .hbm, ⟨39, _⟩ => ⟨S_, .i32⟩
  | .hbm, ⟨40, _⟩ => ⟨S1792x7168, .i32⟩
  | .hbm, ⟨41, _⟩ => ⟨S1792x7168, .i32⟩
  | .hbm, ⟨42, _⟩ => ⟨S1792x7168, .bf16⟩
  | .hbm, ⟨43, _⟩ => ⟨S1280x1792, .bf16⟩
  | .hbm, ⟨44, _⟩ => ⟨S1280x7168, .f32⟩
  | .hbm, ⟨45, _⟩ => ⟨S1280x7168, .f32⟩
  | .hbm, ⟨46, _⟩ => ⟨S1792x7168, .i32⟩
  | .hbm, ⟨47, _⟩ => ⟨S_, .i32⟩
  | .hbm, ⟨48, _⟩ => ⟨S1792x7168, .i32⟩
  | .hbm, ⟨49, _⟩ => ⟨S1792x7168, .i32⟩
  | .hbm, ⟨50, _⟩ => ⟨S_, .i32⟩
  | .hbm, ⟨51, _⟩ => ⟨S1792x7168, .i32⟩
  | .hbm, ⟨52, _⟩ => ⟨S1792x7168, .i32⟩
  | .hbm, ⟨53, _⟩ => ⟨S_, .i32⟩
  | .hbm, ⟨54, _⟩ => ⟨S1792x7168, .i32⟩
  | .hbm, ⟨55, _⟩ => ⟨S1792x7168, .i32⟩
  | .hbm, ⟨56, _⟩ => ⟨S1792x7168, .bf16⟩
  | .hbm, ⟨57, _⟩ => ⟨S1280x1792, .bf16⟩
  | .hbm, ⟨58, _⟩ => ⟨S1280x7168, .f32⟩
  | .hbm, ⟨59, _⟩ => ⟨S1280x7168, .f32⟩
  | .hbm, ⟨60, _⟩ => ⟨S1280x7168, .f32⟩
  | .hbm, ⟨61, _⟩ => ⟨S1280x7168, .f32⟩
  | .hbm, ⟨62, _⟩ => ⟨S1280x7168, .f32⟩
  | _, _ => ⟨S1280x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_c_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_8 : Ref sig .tc := ⟨.hbm, 47, rfl⟩
abbrev main_v34 : Ref sig .tc := ⟨.hbm, 48, rfl⟩
abbrev main_v35 : Ref sig .tc := ⟨.hbm, 49, rfl⟩
abbrev main_c_9 : Ref sig .tc := ⟨.hbm, 50, rfl⟩
abbrev main_v36 : Ref sig .tc := ⟨.hbm, 51, rfl⟩
abbrev main_v37 : Ref sig .tc := ⟨.hbm, 52, rfl⟩
abbrev main_c_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Out1.lean ====
abbrev S1280x7168 : Shape := ⟨2, ![1280, 7168]⟩
abbrev S1792x7168 : Shape := ⟨2, ![1792, 7168]⟩
abbrev S_ : Shape := ⟨0, ![]⟩
abbrev S1 : Shape := ⟨1, ![1]⟩
abbrev S640x7168 : Shape := ⟨2, ![640, 7168]⟩
abbrev S1792x512 : Shape := ⟨2, ![1792, 512]⟩
abbrev S640x512 : Shape := ⟨2, ![640, 512]⟩
abbrev S448x512 : Shape := ⟨2, ![448, 512]⟩
abbrev S7168x512 : Shape := ⟨2, ![7168, 512]⟩

abbrev nBuf : Space → Nat
  | .hbm => 7
  | .vmem => 7
  | .smem => 1
  | _ => 0

abbrev bufTy : (tb : Table) → Fin (tcTables nBuf tb) → BufTy
  | .hbm, ⟨0, _⟩ => ⟨S1280x7168, .bf16⟩
  | .hbm, ⟨1, _⟩ => ⟨S1792x7168, .i8⟩
  | .hbm, ⟨2, _⟩ => ⟨S_, .f32⟩
  | .hbm, ⟨3, _⟩ => ⟨S1280x7168, .bf16⟩
  | .hbm, ⟨4, _⟩ => ⟨S1280x7168, .f32⟩
  | .hbm, ⟨5, _⟩ => ⟨S1, .f32⟩
  | .hbm, ⟨6, _⟩ => ⟨S1280x7168, .f32⟩
  | .local _ .vmem, ⟨0, _⟩ => ⟨S640x7168, .bf16⟩
  | .local _ .vmem, ⟨1, _⟩ => ⟨S1792x512, .i8⟩
  | .local _ .vmem, ⟨2, _⟩ => ⟨S1792x512, .i8⟩
  | .local _ .vmem, ⟨3, _⟩ => ⟨S640x512, .bf16⟩
  | .local _ .vmem, ⟨4, _⟩ => ⟨S640x512, .bf16⟩
  | .local _ .vmem, ⟨5, _⟩ => ⟨S640x512, .f32⟩
  | .local _ .vmem, ⟨6, _⟩ => ⟨S640x512, .f32⟩
  | .local _ .smem, ⟨0, _⟩ => ⟨S1, .f32⟩
  | _, _ => ⟨S1280x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![14], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_5 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S640x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1792x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Out1RefIdeal.lean ====
abbrev S1280x7168 : Shape := ⟨2, ![1280, 7168]⟩
abbrev S1792x7168 : Shape := ⟨2, ![1792, 7168]⟩
abbrev S_ : Shape := ⟨0, ![]⟩
abbrev S1280x1792 : Shape := ⟨2, ![1280, 1792]⟩

abbrev nBuf : Space → Nat
  | .hbm => 69
  | .vmem => 0
  | .smem => 0
  | _ => 0

abbrev bufTy : (tb : Table) → Fin (tcTables nBuf tb) → BufTy
  | .hbm, ⟨0, _⟩ => ⟨S1280x7168, .bf16⟩
  | .hbm, ⟨1, _⟩ => ⟨S1792x7168, .i8⟩
  | .hbm, ⟨2, _⟩ => ⟨S_, .f32⟩
  | .hbm, ⟨3, _⟩ => ⟨S1280x7168, .bf16⟩
  | .hbm, ⟨4, _⟩ => ⟨S1280x7168, .f32⟩
  | .hbm, ⟨5, _⟩ => ⟨S1280x7168, .f32⟩
  | .hbm, ⟨6, _⟩ => ⟨S1792x7168, .i32⟩
  | .hbm, ⟨7, _⟩ => ⟨S_, .i32⟩
  | .hbm, ⟨8, _⟩ => ⟨S1792x7168, .i32⟩
  | .hbm, ⟨9, _⟩ => ⟨S1792x7168, .i32⟩
  | .hbm, ⟨10, _⟩ => ⟨S_, .i32⟩
  | .hbm, ⟨11, _⟩ => ⟨S1792x7168, .i32⟩
  | .hbm, ⟨12, _⟩ => ⟨S1792x7168, .i32⟩
  | .hbm, ⟨13, _⟩ => ⟨S_, .i32⟩
  | .hbm, ⟨14, _⟩ => ⟨S1792x7168, .i32⟩
  | .hbm, ⟨15, _⟩ => ⟨S1792x7168, .i32⟩
  | .hbm, ⟨16, _⟩ => ⟨S1792x7168, .bf16⟩
  | .hbm, ⟨17, _⟩ => ⟨S1280x1792, .bf16⟩
  | .hbm, ⟨18, _⟩ => ⟨S1280x7168, .f32⟩
  | .hbm, ⟨19, _⟩ => ⟨S1792x7168, .i32⟩
  | .hbm, ⟨20, _⟩ => ⟨S_, .i32⟩
  | .hbm, ⟨21, _⟩ => ⟨S1792x7168, .i32⟩
  | .hbm, ⟨22, _⟩ => ⟨S1792x7168, .i32⟩
  | .hbm, ⟨23, _⟩ => ⟨S_, .i32⟩
  | .hbm, ⟨24, _⟩ => ⟨S1792x7168, .i32⟩
  | .hbm, ⟨25, _⟩ => ⟨S1792x7168, .i32⟩
  | .hbm, ⟨26, _⟩ => ⟨S_, .i32⟩
  | .hbm, ⟨27, _⟩ => ⟨S1792x7168, .i32⟩
  | .hbm, ⟨28, _⟩ => ⟨S1792x7168, .i32⟩
  | .hbm, ⟨29, _⟩ => ⟨S1792x7168, .bf16⟩
  | .hbm, ⟨30, _⟩ => ⟨S1280x1792, .bf16⟩
  | .hbm, ⟨31, _⟩ => ⟨S1280x7168, .f32⟩
  | .hbm, ⟨32, _⟩ => ⟨S1280x7168, .f32⟩
  | .hbm, ⟨33, _⟩ => ⟨S1792x7168, .i32⟩
  | .hbm, ⟨34, _⟩ => ⟨S_, .i32⟩
  | .hbm, ⟨35, _⟩ => ⟨S1792x7168, .i32⟩
  | .hbm, ⟨36, _⟩ => ⟨S1792x7168, .i32⟩
  | .hbm, ⟨37, _⟩ => ⟨S_, .i32⟩
  | .hbm, ⟨38, _⟩ => ⟨S1792x7168, .i32⟩
  | .hbm, ⟨39, _⟩ => ⟨S1792x7168, .i32⟩
  | .hbm, ⟨40, _⟩ => ⟨S_, .i32⟩
  | .hbm, ⟨41, _⟩ => ⟨S1792x7168, .i32⟩
  | .hbm, ⟨42, _⟩ => ⟨S1792x7168, .i32⟩
  | .hbm, ⟨43, _⟩ => ⟨S1792x7168, .bf16⟩
  | .hbm, ⟨44, _⟩ => ⟨S1280x1792, .bf16⟩
  | .hbm, ⟨45, _⟩ => ⟨S1280x7168, .f32⟩
  | .hbm, ⟨46, _⟩ => ⟨S1280x7168, .f32⟩
  | .hbm, ⟨47, _⟩ => ⟨S1792x7168, .i32⟩
  | .hbm, ⟨48, _⟩ => ⟨S_, .i32⟩
  | .hbm, ⟨49, _⟩ => ⟨S1792x7168, .i32⟩
  | .hbm, ⟨50, _⟩ => ⟨S1792x7168, .i32⟩
  | .hbm, ⟨51, _⟩ => ⟨S_, .i32⟩
  | .hbm, ⟨52, _⟩ => ⟨S1792x7168, .i32⟩
  | .hbm, ⟨53, _⟩ => ⟨S1792x7168, .i32⟩
  | .hbm, ⟨54, _⟩ => ⟨S_, .i32⟩
  | .hbm, ⟨55, _⟩ => ⟨S1792x7168, .i32⟩
  | .hbm, ⟨56, _⟩ => ⟨S1792x7168, .i32⟩
  | .hbm, ⟨57, _⟩ => ⟨S1792x7168, .bf16⟩
  | .hbm, ⟨58, _⟩ => ⟨S1280x1792, .bf16⟩
  | .hbm, ⟨59, _⟩ => ⟨S1280x7168, .f32⟩
  | .hbm, ⟨60, _⟩ => ⟨S1280x7168, .f32⟩
  | .hbm, ⟨61, _⟩ => ⟨S1280x7168, .f32⟩
  | .hbm, ⟨62, _⟩ => ⟨S1280x7168, .f32⟩
  | .hbm, ⟨63, _⟩ => ⟨S1280x7168, .f32⟩
  | .hbm, ⟨64, _⟩ => ⟨S1280x7168, .i32⟩
  | .hbm, ⟨65, _⟩ => ⟨S_, .i32⟩
  | .hbm, ⟨66, _⟩ => ⟨S1280x7168, .i32⟩
  | .hbm, ⟨67, _⟩ => ⟨S1280x7168, .i1⟩
  | .hbm, ⟨68, _⟩ => ⟨S1280x7168, .f32⟩
  | _, _ => ⟨S1280x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_c_9 : Ref sig .tc := ⟨.hbm, 51, rfl⟩
abbrev main_v36 : Ref sig .tc := ⟨.hbm, 52, rfl⟩
abbrev main_v37 : Ref sig .tc := ⟨.hbm, 53, rfl⟩
abbrev main_c_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_11 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== QuantIn.lean ====
abbrev S1280x7168 : Shape := ⟨2, ![1280, 7168]⟩
abbrev S7168 : Shape := ⟨1, ![7168]⟩
abbrev S1x7168 : Shape := ⟨2, ![1, 7168]⟩
abbrev S1280x56 : Shape := ⟨2, ![1280, 56]⟩
abbrev S1280x1 : Shape := ⟨2, ![1280, 1]⟩
abbrev S32x7168 : Shape := ⟨2, ![32, 7168]⟩
abbrev S32x56 : Shape := ⟨2, ![32, 56]⟩
abbrev S32x1 : Shape := ⟨2, ![32, 1]⟩
abbrev S32 : Shape := ⟨1, ![32]⟩
abbrev S32x128 : Shape := ⟨2, ![32, 128]⟩
abbrev S1x128 : Shape := ⟨2, ![1, 128]⟩

abbrev nBuf : Space → Nat
  | .hbm => 7
  | .vmem => 11
  | .smem => 0
  | _ => 0

abbrev bufTy : (tb : Table) → Fin (tcTables nBuf tb) → BufTy
  | .hbm, ⟨0, _⟩ => ⟨S1280x7168, .bf16⟩
  | .hbm, ⟨1, _⟩ => ⟨S7168, .f32⟩
  | .hbm, ⟨2, _⟩ => ⟨S1x7168, .f32⟩
  | .hbm, ⟨3, _⟩ => ⟨S1280x7168, .i8⟩
  | .hbm, ⟨4, _⟩ => ⟨S1280x56, .f32⟩
  | .hbm, ⟨5, _⟩ => ⟨S1280x7168, .bf16⟩
  | .hbm, ⟨6, _⟩ => ⟨S1280x1, .f32⟩
  | .local _ .vmem, ⟨0, _⟩ => ⟨S32x7168, .bf16⟩
  | .local _ .vmem, ⟨1, _⟩ => ⟨S32x7168, .bf16⟩
  | .local _ .vmem, ⟨2, _⟩ => ⟨S1x7168, .f32⟩
  | .local _ .vmem, ⟨3, _⟩ => ⟨S32x7168, .i8⟩
  | .local _ .vmem, ⟨4, _⟩ => ⟨S32x7168, .i8⟩
  | .local _ .vmem, ⟨5, _⟩ => ⟨S32x56, .f32⟩
  | .local _ .vmem, ⟨6, _⟩ => ⟨S32x56, .f32⟩
  | .local _ .vmem, ⟨7, _⟩ => ⟨S32x7168, .bf16⟩
  | .local _ .vmem, ⟨8, _⟩ => ⟨S32x7168, .bf16⟩
  | .local _ .vmem, ⟨9, _⟩ => ⟨S32x1, .f32⟩
  | .local _ .vmem, ⟨10, _⟩ => ⟨S32x1, .f32⟩
  | _, _ => ⟨S1280x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x7168 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QuantInRefIdeal.lean ====
abbrev S1280x7168 : Shape := ⟨2, ![1280, 7168]⟩
abbrev S7168 : Shape := ⟨1, ![7168]⟩
abbrev S_ : Shape := ⟨0, ![]⟩
abbrev S1280 : Shape := ⟨1, ![1280]⟩
abbrev S1280x1 : Shape := ⟨2, ![1280, 1]⟩
abbrev S1x7168 : Shape := ⟨2, ![1, 7168]⟩
abbrev S1280x56x128 : Shape := ⟨3, ![1280, 56, 128]⟩
abbrev S1280x56 : Shape := ⟨2, ![1280, 56]⟩
abbrev S1280x56x1 : Shape := ⟨3, ![1280, 56, 1]⟩

abbrev nBuf : Space → Nat
  | .hbm => 55
  | .vmem => 0
  | .smem => 0
  | _ => 0

abbrev bufTy : (tb : Table) → Fin (tcTables nBuf tb) → BufTy
  | .hbm, ⟨0, _⟩ => ⟨S1280x7168, .bf16⟩
  | .hbm, ⟨1, _⟩ => ⟨S7168, .f32⟩
  | .hbm, ⟨2, _⟩ => ⟨S1280x7168, .f32⟩
  | .hbm, ⟨3, _⟩ => ⟨S1280x7168, .f32⟩
  | .hbm, ⟨4, _⟩ => ⟨S_, .f32⟩
  | .hbm, ⟨5, _⟩ => ⟨S1280, .f32⟩
  | .hbm, ⟨6, _⟩ => ⟨S_, .f32⟩
  | .hbm, ⟨7, _⟩ => ⟨S1280, .f32⟩
  | .hbm, ⟨8, _⟩ => ⟨S1280, .f32⟩
  | .hbm, ⟨9, _⟩ => ⟨S_, .f32⟩
  | .hbm, ⟨10, _⟩ => ⟨S1280, .f32⟩
  | .hbm, ⟨11, _⟩ => ⟨S1280, .f32⟩
  | .hbm, ⟨12, _⟩ => ⟨S1280, .f32⟩
  | .hbm, ⟨13, _⟩ => ⟨S1280x1, .f32⟩
  | .hbm, ⟨14, _⟩ => ⟨S1280x7168, .f32⟩
  | .hbm, ⟨15, _⟩ => ⟨S1280x7168, .f32⟩
  | .hbm, ⟨16, _⟩ => ⟨S1x7168, .f32⟩
  | .hbm, ⟨17, _⟩ => ⟨S1280x7168, .f32⟩
  | .hbm, ⟨18, _⟩ => ⟨S1280x7168, .f32⟩
  | .hbm, ⟨19, _⟩ => ⟨S1280x56x128, .f32⟩
  | .hbm, ⟨20, _⟩ => ⟨S1280x56x128, .f32⟩
  | .hbm, ⟨21, _⟩ => ⟨S_, .f32⟩
  | .hbm, ⟨22, _⟩ => ⟨S1280x56, .f32⟩
  | .hbm, ⟨23, _⟩ => ⟨S_, .f32⟩
  | .hbm, ⟨24, _⟩ => ⟨S1280x56, .f32⟩
  | .hbm, ⟨25, _⟩ => ⟨S1280x56, .i1⟩
  | .hbm, ⟨26, _⟩ => ⟨S_, .f32⟩
  | .hbm, ⟨27, _⟩ => ⟨S1280x56, .f32⟩
  | .hbm, ⟨28, _⟩ => ⟨S1280x56, .f32⟩
  | .hbm, ⟨29, _⟩ => ⟨S_, .f32⟩
  | .hbm, ⟨30, _⟩ => ⟨S_, .f32⟩
  | .hbm, ⟨31, _⟩ => ⟨S1280x56, .f32⟩
  | .hbm, ⟨32, _⟩ => ⟨S1280x56, .f32⟩
  | .hbm, ⟨33, _⟩ => ⟨S1280x56x1, .f32⟩
  | .hbm, ⟨34, _⟩ => ⟨S1280x56x128, .f32⟩
  | .hbm, ⟨35, _⟩ => ⟨S1280x56x128, .f32⟩
  | .hbm, ⟨36, _⟩ => ⟨S1280x56x128, .f32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S1280x56x128, .f32⟩
  | .hbm, ⟨41, _⟩ => ⟨S1280x56x128, .f32⟩
  | .hbm, ⟨42, _⟩ => ⟨S_, .f32⟩
  | .hbm, ⟨43, _⟩ => ⟨S1280x56x128, .f32⟩
  | .hbm, ⟨44, _⟩ => ⟨S1280x56x128, .f32⟩
  | .hbm, ⟨45, _⟩ => ⟨S1280x56x128, .i32⟩
  | .hbm, ⟨46, _⟩ => ⟨S1280x56x128, .bf16⟩
  | .hbm, ⟨47, _⟩ => ⟨S1280x56, .bf16⟩
  | .hbm, ⟨48, _⟩ => ⟨S1280x56x1, .bf16⟩
  | .hbm, ⟨49, _⟩ => ⟨S1280x56x128, .bf16⟩
  | .hbm, ⟨50, _⟩ => ⟨S1280x56x128, .bf16⟩
  | .hbm, ⟨51, _⟩ => ⟨S1280x56x128, .i8⟩
  | .hbm, ⟨52, _⟩ => ⟨S1280x7168, .i8⟩
  | .hbm, ⟨53, _⟩ => ⟨S1280x7168, .bf16⟩
  | .hbm, ⟨54, _⟩ => ⟨S1280x1, .f32⟩
  | _, _ => ⟨S1280x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_c_6 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== QuantAttn.lean ====
abbrev S1280x7168 : Shape := ⟨2, ![1280, 7168]⟩
abbrev S7168 : Shape := ⟨1, ![7168]⟩
abbrev S1x7168 : Shape := ⟨2, ![1, 7168]⟩
abbrev S1280x56 : Shape := ⟨2, ![1280, 56]⟩
abbrev S1280x1 : Shape := ⟨2, ![1280, 1]⟩
abbrev S32x7168 : Shape := ⟨2, ![32, 7168]⟩
abbrev S32x56 : Shape := ⟨2, ![32, 56]⟩
abbrev S32x1 : Shape := ⟨2, ![32, 1]⟩
abbrev S32 : Shape := ⟨1, ![32]⟩
abbrev S32x128 : Shape := ⟨2, ![32, 128]⟩
abbrev S1x128 : Shape := ⟨2, ![1, 128]⟩

abbrev nBuf : Space → Nat
  | .hbm => 7
  | .vmem => 11
  | .smem => 0
  | _ => 0

abbrev bufTy : (tb : Table) → Fin (tcTables nBuf tb) → BufTy
  | .hbm, ⟨0, _⟩ => ⟨S1280x7168, .f32⟩
  | .hbm, ⟨1, _⟩ => ⟨S7168, .f32⟩
  | .hbm, ⟨2, _⟩ => ⟨S1x7168, .f32⟩
  | .hbm, ⟨3, _⟩ => ⟨S1280x7168, .i8⟩
  | .hbm, ⟨4, _⟩ => ⟨S1280x56, .f32⟩
  | .hbm, ⟨5, _⟩ => ⟨S1280x7168, .bf16⟩
  | .hbm, ⟨6, _⟩ => ⟨S1280x1, .f32⟩
  | .local _ .vmem, ⟨0, _⟩ => ⟨S32x7168, .f32⟩
  | .local _ .vmem, ⟨1, _⟩ => ⟨S32x7168, .f32⟩
  | .local _ .vmem, ⟨2, _⟩ => ⟨S1x7168, .f32⟩
  | .local _ .vmem, ⟨3, _⟩ => ⟨S32x7168, .i8⟩
  | .local _ .vmem, ⟨4, _⟩ => ⟨S32x7168, .i8⟩
  | .local _ .vmem, ⟨5, _⟩ => ⟨S32x56, .f32⟩
  | .local _ .vmem, ⟨6, _⟩ => ⟨S32x56, .f32⟩
  | .local _ .vmem, ⟨7, _⟩ => ⟨S32x7168, .bf16⟩
  | .local _ .vmem, ⟨8, _⟩ => ⟨S32x7168, .bf16⟩
  | .local _ .vmem, ⟨9, _⟩ => ⟨S32x1, .f32⟩
  | .local _ .vmem, ⟨10, _⟩ => ⟨S32x1, .f32⟩
  | _, _ => ⟨S1280x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x7168 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QuantAttnRefIdeal.lean ====
abbrev S1280x7168 : Shape := ⟨2, ![1280, 7168]⟩
abbrev S7168 : Shape := ⟨1, ![7168]⟩
abbrev S_ : Shape := ⟨0, ![]⟩
abbrev S1280 : Shape := ⟨1, ![1280]⟩
abbrev S1280x1 : Shape := ⟨2, ![1280, 1]⟩
abbrev S1x7168 : Shape := ⟨2, ![1, 7168]⟩
abbrev S1280x56x128 : Shape := ⟨3, ![1280, 56, 128]⟩
abbrev S1280x56 : Shape := ⟨2, ![1280, 56]⟩
abbrev S1280x56x1 : Shape := ⟨3, ![1280, 56, 1]⟩

abbrev nBuf : Space → Nat
  | .hbm => 54
  | .vmem => 0
  | .smem => 0
  | _ => 0

abbrev bufTy : (tb : Table) → Fin (tcTables nBuf tb) → BufTy
  | .hbm, ⟨0, _⟩ => ⟨S1280x7168, .f32⟩
  | .hbm, ⟨1, _⟩ => ⟨S7168, .f32⟩
  | .hbm, ⟨2, _⟩ => ⟨S1280x7168, .f32⟩
  | .hbm, ⟨3, _⟩ => ⟨S_, .f32⟩
  | .hbm, ⟨4, _⟩ => ⟨S1280, .f32⟩
  | .hbm, ⟨5, _⟩ => ⟨S_, .f32⟩
  | .hbm, ⟨6, _⟩ => ⟨S1280, .f32⟩
  | .hbm, ⟨7, _⟩ => ⟨S1280, .f32⟩
  | .hbm, ⟨8, _⟩ => ⟨S_, .f32⟩
  | .hbm, ⟨9, _⟩ => ⟨S1280, .f32⟩
  | .hbm, ⟨10, _⟩ => ⟨S1280, .f32⟩
  | .hbm, ⟨11, _⟩ => ⟨S1280, .f32⟩
  | .hbm, ⟨12, _⟩ => ⟨S1280x1, .f32⟩
  | .hbm, ⟨13, _⟩ => ⟨S1280x7168, .f32⟩
  | .hbm, ⟨14, _⟩ => ⟨S1280x7168, .f32⟩
  | .hbm, ⟨15, _⟩ => ⟨S1x7168, .f32⟩
  | .hbm, ⟨16, _⟩ => ⟨S1280x7168, .f32⟩
  | .hbm, ⟨17, _⟩ => ⟨S1280x7168, .f32⟩
  | .hbm, ⟨18, _⟩ => ⟨S1280x56x128, .f32⟩
  | .hbm, ⟨19, _⟩ => ⟨S1280x56x128, .f32⟩
  | .hbm, ⟨20, _⟩ => ⟨S_, .f32⟩
  | .hbm, ⟨21, _⟩ => ⟨S1280x56, .f32⟩
  | .hbm, ⟨22, _⟩ => ⟨S_, .f32⟩
  | .hbm, ⟨23, _⟩ => ⟨S1280x56, .f32⟩
  | .hbm, ⟨24, _⟩ => ⟨S1280x56, .i1⟩
  | .hbm, ⟨25, _⟩ => ⟨S_, .f32⟩
  | .hbm, ⟨26, _⟩ => ⟨S1280x56, .f32⟩
  | .hbm, ⟨27, _⟩ => ⟨S1280x56, .f32⟩
  | .hbm, ⟨28, _⟩ => ⟨S_, .f32⟩
  | .hbm, ⟨29, _⟩ => ⟨S_, .f32⟩
  | .hbm, ⟨30, _⟩ => ⟨S1280x56, .f32⟩
  | .hbm, ⟨31, _⟩ => ⟨S1280x56, .f32⟩
  | .hbm, ⟨32, _⟩ => ⟨S1280x56x1, .f32⟩
  | .hbm, ⟨33, _⟩ => ⟨S1280x56x128, .f32⟩
  | .hbm, ⟨34, _⟩ => ⟨S1280x56x128, .f32⟩
  | .hbm, ⟨35, _⟩ => ⟨S1280x56x128, .f32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S1280x56x128, .f32⟩
  | .hbm, ⟨40, _⟩ => ⟨S1280x56x128, .f32⟩
  | .hbm, ⟨41, _⟩ => ⟨S_, .f32⟩
  | .hbm, ⟨42, _⟩ => ⟨S1280x56x128, .f32⟩
  | .hbm, ⟨43, _⟩ => ⟨S1280x56x128, .f32⟩
  | .hbm, ⟨44, _⟩ => ⟨S1280x56x128, .i32⟩
  | .hbm, ⟨45, _⟩ => ⟨S1280x56x128, .bf16⟩
  | .hbm, ⟨46, _⟩ => ⟨S1280x56, .bf16⟩
  | .hbm, ⟨47, _⟩ => ⟨S1280x56x1, .bf16⟩
  | .hbm, ⟨48, _⟩ => ⟨S1280x56x128, .bf16⟩
  | .hbm, ⟨49, _⟩ => ⟨S1280x56x128, .bf16⟩
  | .hbm, ⟨50, _⟩ => ⟨S1280x56x128, .i8⟩
  | .hbm, ⟨51, _⟩ => ⟨S1280x7168, .i8⟩
  | .hbm, ⟨52, _⟩ => ⟨S1280x7168, .bf16⟩
  | .hbm, ⟨53, _⟩ => ⟨S1280x1, .f32⟩
  | _, _ => ⟨S1280x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_c_6 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== QuantPost.lean ====
abbrev S1280x7168 : Shape := ⟨2, ![1280, 7168]⟩
abbrev S7168 : Shape := ⟨1, ![7168]⟩
abbrev S1x7168 : Shape := ⟨2, ![1, 7168]⟩
abbrev S1280x56 : Shape := ⟨2, ![1280, 56]⟩
abbrev S1280x1 : Shape := ⟨2, ![1280, 1]⟩
abbrev S32x7168 : Shape := ⟨2, ![32, 7168]⟩
abbrev S32x56 : Shape := ⟨2, ![32, 56]⟩
abbrev S32x1 : Shape := ⟨2, ![32, 1]⟩
abbrev S32 : Shape := ⟨1, ![32]⟩
abbrev S32x128 : Shape := ⟨2, ![32, 128]⟩
abbrev S1x128 : Shape := ⟨2, ![1, 128]⟩

abbrev nBuf : Space → Nat
  | .hbm => 7
  | .vmem => 11
  | .smem => 0
  | _ => 0

abbrev bufTy : (tb : Table) → Fin (tcTables nBuf tb) → BufTy
  | .hbm, ⟨0, _⟩ => ⟨S1280x7168, .f32⟩
  | .hbm, ⟨1, _⟩ => ⟨S7168, .f32⟩
  | .hbm, ⟨2, _⟩ => ⟨S1x7168, .f32⟩
  | .hbm, ⟨3, _⟩ => ⟨S1280x7168, .i8⟩
  | .hbm, ⟨4, _⟩ => ⟨S1280x56, .f32⟩
  | .hbm, ⟨5, _⟩ => ⟨S1280x7168, .bf16⟩
  | .hbm, ⟨6, _⟩ => ⟨S1280x1, .f32⟩
  | .local _ .vmem, ⟨0, _⟩ => ⟨S32x7168, .f32⟩
  | .local _ .vmem, ⟨1, _⟩ => ⟨S32x7168, .f32⟩
  | .local _ .vmem, ⟨2, _⟩ => ⟨S1x7168, .f32⟩
  | .local _ .vmem, ⟨3, _⟩ => ⟨S32x7168, .i8⟩
  | .local _ .vmem, ⟨4, _⟩ => ⟨S32x7168, .i8⟩
  | .local _ .vmem, ⟨5, _⟩ => ⟨S32x56, .f32⟩
  | .local _ .vmem, ⟨6, _⟩ => ⟨S32x56, .f32⟩
  | .local _ .vmem, ⟨7, _⟩ => ⟨S32x7168, .bf16⟩
  | .local _ .vmem, ⟨8, _⟩ => ⟨S32x7168, .bf16⟩
  | .local _ .vmem, ⟨9, _⟩ => ⟨S32x1, .f32⟩
  | .local _ .vmem, ⟨10, _⟩ => ⟨S32x1, .f32⟩
  | _, _ => ⟨S1280x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x7168 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QuantPostRefIdeal.lean ====
abbrev S1280x7168 : Shape := ⟨2, ![1280, 7168]⟩
abbrev S7168 : Shape := ⟨1, ![7168]⟩
abbrev S_ : Shape := ⟨0, ![]⟩
abbrev S1280 : Shape := ⟨1, ![1280]⟩
abbrev S1280x1 : Shape := ⟨2, ![1280, 1]⟩
abbrev S1x7168 : Shape := ⟨2, ![1, 7168]⟩
abbrev S1280x56x128 : Shape := ⟨3, ![1280, 56, 128]⟩
abbrev S1280x56 : Shape := ⟨2, ![1280, 56]⟩
abbrev S1280x56x1 : Shape := ⟨3, ![1280, 56, 1]⟩

abbrev nBuf : Space → Nat
  | .hbm => 54
  | .vmem => 0
  | .smem => 0
  | _ => 0

abbrev bufTy : (tb : Table) → Fin (tcTables nBuf tb) → BufTy
  | .hbm, ⟨0, _⟩ => ⟨S1280x7168, .f32⟩
  | .hbm, ⟨1, _⟩ => ⟨S7168, .f32⟩
  | .hbm, ⟨2, _⟩ => ⟨S1280x7168, .f32⟩
  | .hbm, ⟨3, _⟩ => ⟨S_, .f32⟩
  | .hbm, ⟨4, _⟩ => ⟨S1280, .f32⟩
  | .hbm, ⟨5, _⟩ => ⟨S_, .f32⟩
  | .hbm, ⟨6, _⟩ => ⟨S1280, .f32⟩
  | .hbm, ⟨7, _⟩ => ⟨S1280, .f32⟩
  | .hbm, ⟨8, _⟩ => ⟨S_, .f32⟩
  | .hbm, ⟨9, _⟩ => ⟨S1280, .f32⟩
  | .hbm, ⟨10, _⟩ => ⟨S1280, .f32⟩
  | .hbm, ⟨11, _⟩ => ⟨S1280, .f32⟩
  | .hbm, ⟨12, _⟩ => ⟨S1280x1, .f32⟩
  | .hbm, ⟨13, _⟩ => ⟨S1280x7168, .f32⟩
  | .hbm, ⟨14, _⟩ => ⟨S1280x7168, .f32⟩
  | .hbm, ⟨15, _⟩ => ⟨S1x7168, .f32⟩
  | .hbm, ⟨16, _⟩ => ⟨S1280x7168, .f32⟩
  | .hbm, ⟨17, _⟩ => ⟨S1280x7168, .f32⟩
  | .hbm, ⟨18, _⟩ => ⟨S1280x56x128, .f32⟩
  | .hbm, ⟨19, _⟩ => ⟨S1280x56x128, .f32⟩
  | .hbm, ⟨20, _⟩ => ⟨S_, .f32⟩
  | .hbm, ⟨21, _⟩ => ⟨S1280x56, .f32⟩
  | .hbm, ⟨22, _⟩ => ⟨S_, .f32⟩
  | .hbm, ⟨23, _⟩ => ⟨S1280x56, .f32⟩
  | .hbm, ⟨24, _⟩ => ⟨S1280x56, .i1⟩
  | .hbm, ⟨25, _⟩ => ⟨S_, .f32⟩
  | .hbm, ⟨26, _⟩ => ⟨S1280x56, .f32⟩
  | .hbm, ⟨27, _⟩ => ⟨S1280x56, .f32⟩
  | .hbm, ⟨28, _⟩ => ⟨S_, .f32⟩
  | .hbm, ⟨29, _⟩ => ⟨S_, .f32⟩
  | .hbm, ⟨30, _⟩ => ⟨S1280x56, .f32⟩
  | .hbm, ⟨31, _⟩ => ⟨S1280x56, .f32⟩
  | .hbm, ⟨32, _⟩ => ⟨S1280x56x1, .f32⟩
  | .hbm, ⟨33, _⟩ => ⟨S1280x56x128, .f32⟩
  | .hbm, ⟨34, _⟩ => ⟨S1280x56x128, .f32⟩
  | .hbm, ⟨35, _⟩ => ⟨S1280x56x128, .f32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S1280x56x128, .f32⟩
  | .hbm, ⟨40, _⟩ => ⟨S1280x56x128, .f32⟩
  | .hbm, ⟨41, _⟩ => ⟨S_, .f32⟩
  | .hbm, ⟨42, _⟩ => ⟨S1280x56x128, .f32⟩
  | .hbm, ⟨43, _⟩ => ⟨S1280x56x128, .f32⟩
  | .hbm, ⟨44, _⟩ => ⟨S1280x56x128, .i32⟩
  | .hbm, ⟨45, _⟩ => ⟨S1280x56x128, .bf16⟩
  | .hbm, ⟨46, _⟩ => ⟨S1280x56, .bf16⟩
  | .hbm, ⟨47, _⟩ => ⟨S1280x56x1, .bf16⟩
  | .hbm, ⟨48, _⟩ => ⟨S1280x56x128, .bf16⟩
  | .hbm, ⟨49, _⟩ => ⟨S1280x56x128, .bf16⟩
  | .hbm, ⟨50, _⟩ => ⟨S1280x56x128, .i8⟩
  | .hbm, ⟨51, _⟩ => ⟨S1280x7168, .i8⟩
  | .hbm, ⟨52, _⟩ => ⟨S1280x7168, .bf16⟩
  | .hbm, ⟨53, _⟩ => ⟨S1280x1, .f32⟩
  | _, _ => ⟨S1280x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_c_6 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== QuantFfn.lean ====
abbrev S1280x18944 : Shape := ⟨2, ![1280, 18944]⟩
abbrev S18944 : Shape := ⟨1, ![18944]⟩
abbrev S1x18944 : Shape := ⟨2, ![1, 18944]⟩
abbrev S1280x148 : Shape := ⟨2, ![1280, 148]⟩
abbrev S1280x1 : Shape := ⟨2, ![1280, 1]⟩
abbrev S32x18944 : Shape := ⟨2, ![32, 18944]⟩
abbrev S32x148 : Shape := ⟨2, ![32, 148]⟩
abbrev S32x1 : Shape := ⟨2, ![32, 1]⟩
abbrev S32 : Shape := ⟨1, ![32]⟩
abbrev S32x128 : Shape := ⟨2, ![32, 128]⟩
abbrev S1x128 : Shape := ⟨2, ![1, 128]⟩

abbrev nBuf : Space → Nat
  | .hbm => 7
  | .vmem => 11
  | .smem => 0
  | _ => 0

abbrev bufTy : (tb : Table) → Fin (tcTables nBuf tb) → BufTy
  | .hbm, ⟨0, _⟩ => ⟨S1280x18944, .f32⟩
  | .hbm, ⟨1, _⟩ => ⟨S18944, .f32⟩
  | .hbm, ⟨2, _⟩ => ⟨S1x18944, .f32⟩
  | .hbm, ⟨3, _⟩ => ⟨S1280x18944, .i8⟩
  | .hbm, ⟨4, _⟩ => ⟨S1280x148, .f32⟩
  | .hbm, ⟨5, _⟩ => ⟨S1280x18944, .bf16⟩
  | .hbm, ⟨6, _⟩ => ⟨S1280x1, .f32⟩
  | .local _ .vmem, ⟨0, _⟩ => ⟨S32x18944, .f32⟩
  | .local _ .vmem, ⟨1, _⟩ => ⟨S32x18944, .f32⟩
  | .local _ .vmem, ⟨2, _⟩ => ⟨S1x18944, .f32⟩
  | .local _ .vmem, ⟨3, _⟩ => ⟨S32x18944, .i8⟩
  | .local _ .vmem, ⟨4, _⟩ => ⟨S32x18944, .i8⟩
  | .local _ .vmem, ⟨5, _⟩ => ⟨S32x148, .f32⟩
  | .local _ .vmem, ⟨6, _⟩ => ⟨S32x148, .f32⟩
  | .local _ .vmem, ⟨7, _⟩ => ⟨S32x18944, .bf16⟩
  | .local _ .vmem, ⟨8, _⟩ => ⟨S32x18944, .bf16⟩
  | .local _ .vmem, ⟨9, _⟩ => ⟨S32x1, .f32⟩
  | .local _ .vmem, ⟨10, _⟩ => ⟨S32x1, .f32⟩
  | _, _ => ⟨S1280x18944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x18944 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x18944 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x18944 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x148 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x18944 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QuantFfnRefIdeal.lean ====
abbrev S1280x18944 : Shape := ⟨2, ![1280, 18944]⟩
abbrev S18944 : Shape := ⟨1, ![18944]⟩
abbrev S_ : Shape := ⟨0, ![]⟩
abbrev S1280 : Shape := ⟨1, ![1280]⟩
abbrev S1280x1 : Shape := ⟨2, ![1280, 1]⟩
abbrev S1x18944 : Shape := ⟨2, ![1, 18944]⟩
abbrev S1280x148x128 : Shape := ⟨3, ![1280, 148, 128]⟩
abbrev S1280x148 : Shape := ⟨2, ![1280, 148]⟩
abbrev S1280x148x1 : Shape := ⟨3, ![1280, 148, 1]⟩

abbrev nBuf : Space → Nat
  | .hbm => 54
  | .vmem => 0
  | .smem => 0
  | _ => 0

abbrev bufTy : (tb : Table) → Fin (tcTables nBuf tb) → BufTy
  | .hbm, ⟨0, _⟩ => ⟨S1280x18944, .f32⟩
  | .hbm, ⟨1, _⟩ => ⟨S18944, .f32⟩
  | .hbm, ⟨2, _⟩ => ⟨S1280x18944, .f32⟩
  | .hbm, ⟨3, _⟩ => ⟨S_, .f32⟩
  | .hbm, ⟨4, _⟩ => ⟨S1280, .f32⟩
  | .hbm, ⟨5, _⟩ => ⟨S_, .f32⟩
  | .hbm, ⟨6, _⟩ => ⟨S1280, .f32⟩
  | .hbm, ⟨7, _⟩ => ⟨S1280, .f32⟩
  | .hbm, ⟨8, _⟩ => ⟨S_, .f32⟩
  | .hbm, ⟨9, _⟩ => ⟨S1280, .f32⟩
  | .hbm, ⟨10, _⟩ => ⟨S1280, .f32⟩
  | .hbm, ⟨11, _⟩ => ⟨S1280, .f32⟩
  | .hbm, ⟨12, _⟩ => ⟨S1280x1, .f32⟩
  | .hbm, ⟨13, _⟩ => ⟨S1280x18944, .f32⟩
  | .hbm, ⟨14, _⟩ => ⟨S1280x18944, .f32⟩
  | .hbm, ⟨15, _⟩ => ⟨S1x18944, .f32⟩
  | .hbm, ⟨16, _⟩ => ⟨S1280x18944, .f32⟩
  | .hbm, ⟨17, _⟩ => ⟨S1280x18944, .f32⟩
  | .hbm, ⟨18, _⟩ => ⟨S1280x148x128, .f32⟩
  | .hbm, ⟨19, _⟩ => ⟨S1280x148x128, .f32⟩
  | .hbm, ⟨20, _⟩ => ⟨S_, .f32⟩
  | .hbm, ⟨21, _⟩ => ⟨S1280x148, .f32⟩
  | .hbm, ⟨22, _⟩ => ⟨S_, .f32⟩
  | .hbm, ⟨23, _⟩ => ⟨S1280x148, .f32⟩
  | .hbm, ⟨24, _⟩ => ⟨S1280x148, .i1⟩
  | .hbm, ⟨25, _⟩ => ⟨S_, .f32⟩
  | .hbm, ⟨26, _⟩ => ⟨S1280x148, .f32⟩
  | .hbm, ⟨27, _⟩ => ⟨S1280x148, .f32⟩
  | .hbm, ⟨28, _⟩ => ⟨S_, .f32⟩
  | .hbm, ⟨29, _⟩ => ⟨S_, .f32⟩
  | .hbm, ⟨30, _⟩ => ⟨S1280x148, .f32⟩
  | .hbm, ⟨31, _⟩ => ⟨S1280x148, .f32⟩
  | .hbm, ⟨32, _⟩ => ⟨S1280x148x1, .f32⟩
  | .hbm, ⟨33, _⟩ => ⟨S1280x148x128, .f32⟩
  | .hbm, ⟨34, _⟩ => ⟨S1280x148x128, .f32⟩
  | .hbm, ⟨35, _⟩ => ⟨S1280x148x128, .f32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S1280x148x128, .f32⟩
  | .hbm, ⟨40, _⟩ => ⟨S1280x148x128, .f32⟩
  | .hbm, ⟨41, _⟩ => ⟨S_, .f32⟩
  | .hbm, ⟨42, _⟩ => ⟨S1280x148x128, .f32⟩
  | .hbm, ⟨43, _⟩ => ⟨S1280x148x128, .f32⟩
  | .hbm, ⟨44, _⟩ => ⟨S1280x148x128, .i32⟩
  | .hbm, ⟨45, _⟩ => ⟨S1280x148x128, .bf16⟩
  | .hbm, ⟨46, _⟩ => ⟨S1280x148, .bf16⟩
  | .hbm, ⟨47, _⟩ => ⟨S1280x148x1, .bf16⟩
  | .hbm, ⟨48, _⟩ => ⟨S1280x148x128, .bf16⟩
  | .hbm, ⟨49, _⟩ => ⟨S1280x148x128, .bf16⟩
  | .hbm, ⟨50, _⟩ => ⟨S1280x148x128, .i8⟩
  | .hbm, ⟨51, _⟩ => ⟨S1280x18944, .i8⟩
  | .hbm, ⟨52, _⟩ => ⟨S1280x18944, .bf16⟩
  | .hbm, ⟨53, _⟩ => ⟨S1280x1, .f32⟩
  | _, _ => ⟨S1280x18944, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_c_6 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== Qkv.lean ====
abbrev S1280x7168 : Shape := ⟨2, ![1280, 7168]⟩
abbrev S1792x7168 : Shape := ⟨2, ![1792, 7168]⟩
abbrev S1792x1024 : Shape := ⟨2, ![1792, 1024]⟩
abbrev S3 : Shape := ⟨1, ![3]⟩
abbrev S2 : Shape := ⟨1, ![2]⟩
abbrev S64 : Shape := ⟨1, ![64]⟩
abbrev S_ : Shape := ⟨0, ![]⟩
abbrev S2x1 : Shape := ⟨2, ![2, 1]⟩
abbrev S640 : Shape := ⟨1, ![640]⟩
abbrev S1x640 : Shape := ⟨2, ![1, 640]⟩
abbrev S2x640 : Shape := ⟨2, ![2, 640]⟩
abbrev S2x640x1 : Shape := ⟨3, ![2, 640, 1]⟩
abbrev S1x1x64 : Shape := ⟨3, ![1, 1, 64]⟩
abbrev S2x640x64 : Shape := ⟨3, ![2, 640, 64]⟩
abbrev S2x640x128 : Shape := ⟨3, ![2, 640, 128]⟩
abbrev S1280x128 : Shape := ⟨2, ![1280, 128]⟩
abbrev S1280x9216 : Shape := ⟨2, ![1280, 9216]⟩
abbrev S640x7168 : Shape := ⟨2, ![640, 7168]⟩
abbrev S1792x512 : Shape := ⟨2, ![1792, 512]⟩
abbrev S640x128 : Shape := ⟨2, ![640, 128]⟩
abbrev S640x512 : Shape := ⟨2, ![640, 512]⟩
abbrev S448x512 : Shape := ⟨2, ![448, 512]⟩
abbrev S7168x512 : Shape := ⟨2, ![7168, 512]⟩
abbrev S1 : Shape := ⟨1, ![1]⟩

abbrev nBuf : Space → Nat
  | .hbm => 42
  | .vmem => 14
  | .smem => 1
  | _ => 0

abbrev bufTy : (tb : Table) → Fin (tcTables nBuf tb) → BufTy
  | .hbm, ⟨0, _⟩ => ⟨S1280x7168, .bf16⟩
  | .hbm, ⟨1, _⟩ => ⟨S1792x7168, .i8⟩
  | .hbm, ⟨2, _⟩ => ⟨S1792x1024, .i8⟩
  | .hbm, ⟨3, _⟩ => ⟨S1792x1024, .i8⟩
  | .hbm, ⟨4, _⟩ => ⟨S3, .f32⟩
  | .hbm, ⟨5, _⟩ => ⟨S2, .i32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S2x1, .i32⟩
  | .hbm, ⟨23, _⟩ => ⟨S640, .i32⟩
  | .hbm, ⟨24, _⟩ => ⟨S1x640, .i32⟩
  | .hbm, ⟨25, _⟩ => ⟨S2x640, .i32⟩
  | .hbm, ⟨26, _⟩ => ⟨S2x640, .i32⟩
  | .hbm, ⟨27, _⟩ => ⟨S2x640, .i32⟩
  | .hbm, ⟨28, _⟩ => ⟨S2x640, .f32⟩
  | .hbm, ⟨29, _⟩ => ⟨S2x640x1, .f32⟩
  | .hbm, ⟨30, _⟩ => ⟨S1x1x64, .f32⟩
  | .hbm, ⟨31, _⟩ => ⟨S2x640x64, .f32⟩
  | .hbm, ⟨32, _⟩ => ⟨S2x640x64, .f32⟩
  | .hbm, ⟨33, _⟩ => ⟨S2x640x64, .f32⟩
  | .hbm, ⟨34, _⟩ => ⟨S2x640x64, .f32⟩
  | .hbm, ⟨35, _⟩ => ⟨S2x640x64, .f32⟩
  | .hbm, ⟨36, _⟩ => ⟨S2x640x128, .f32⟩
  | .hbm, ⟨37, _⟩ => ⟨S1280x128, .f32⟩
  | .hbm, ⟨38, _⟩ => ⟨S2x640x64, .f32⟩
  | .hbm, ⟨39, _⟩ => ⟨S2x640x128, .f32⟩
  | .hbm, ⟨40, _⟩ => ⟨S1280x128, .f32⟩
  | .hbm, ⟨41, _⟩ => ⟨S1280x9216, .bf16⟩
  | .local _ .vmem, ⟨0, _⟩ => ⟨S640x7168, .bf16⟩
  | .local _ .vmem, ⟨1, _⟩ => ⟨S640x7168, .bf16⟩
  | .local _ .vmem, ⟨2, _⟩ => ⟨S1792x512, .i8⟩
  | .local _ .vmem, ⟨3, _⟩ => ⟨S1792x512, .i8⟩
  | .local _ .vmem, ⟨4, _⟩ => ⟨S1792x512, .i8⟩
  | .local _ .vmem, ⟨5, _⟩ => ⟨S1792x512, .i8⟩
  | .local _ .vmem, ⟨6, _⟩ => ⟨S1792x512, .i8⟩
  | .local _ .vmem, ⟨7, _⟩ => ⟨S1792x512, .i8⟩
  | .local _ .vmem, ⟨8, _⟩ => ⟨S640x128, .f32⟩
  | .local _ .vmem, ⟨9, _⟩ => ⟨S640x128, .f32⟩
  | .local _ .vmem, ⟨10, _⟩ => ⟨S640x128, .f32⟩
  | .local _ .vmem, ⟨11, _⟩ => ⟨S640x128, .f32⟩
  | .local _ .vmem, ⟨12, _⟩ => ⟨S640x512, .bf16⟩
  | .local _ .vmem, ⟨13, _⟩ => ⟨S640x512, .bf16⟩
  | .local _ .smem, ⟨0, _⟩ => ⟨S3, .f32⟩
  | _, _ => ⟨S1280x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 18], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.minsi arg1 c13_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi arg1 c14_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi arg1 c14_i32
  let c2_i32 : BitVec 32 := 2#32
  let v1 : BitVec 32 := Scalar.subi v0 c2_i32
  let c0_i32 : BitVec 32 := 0#32
  let c1_i32 : BitVec 32 := 1#32
  let v2 : BitVec 32 := Scalar.maxsi c0_i32 v1
  let v3 : BitVec 32 := Scalar.minsi c1_i32 v2
  let c0_i32_0 : BitVec 32 := 0#32
  let c0_i32_1 : BitVec 32 := 0#32
  ![c0_i32_0.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S640x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1792x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1792x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1792x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S640x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S640x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QkvRefIdeal.lean ====
abbrev S1280x7168 : Shape := ⟨2, ![1280, 7168]⟩
abbrev S1792x7168 : Shape := ⟨2, ![1792, 7168]⟩
abbrev S1792x1024 : Shape := ⟨2, ![1792, 1024]⟩
abbrev S3 : Shape := ⟨1, ![3]⟩
abbrev S2 : Shape := ⟨1, ![2]⟩
abbrev S1 : Shape := ⟨1, ![1]⟩
abbrev S_ : Shape := ⟨0, ![]⟩
abbrev S1280x1792 : Shape := ⟨2, ![1280, 1792]⟩
abbrev S2x640x56x128 : Shape := ⟨4, ![2, 640, 56, 128]⟩
abbrev S1280x1024 : Shape := ⟨2, ![1280, 1024]⟩
abbrev S2x640x8x128 : Shape := ⟨4, ![2, 640, 8, 128]⟩
abbrev S64 : Shape := ⟨1, ![64]⟩
abbrev S2x1 : Shape := ⟨2, ![2, 1]⟩
abbrev S640 : Shape := ⟨1, ![640]⟩
abbrev S1x640 : Shape := ⟨2, ![1, 640]⟩
abbrev S2x640 : Shape := ⟨2, ![2, 640]⟩
abbrev S2x640x1 : Shape := ⟨3, ![2, 640, 1]⟩
abbrev S1x1x64 : Shape := ⟨3, ![1, 1, 64]⟩
abbrev S2x640x64 : Shape := ⟨3, ![2, 640, 64]⟩
abbrev S2x640x128 : Shape := ⟨3, ![2, 640, 128]⟩
abbrev S2x640x1x128 : Shape := ⟨4, ![2, 640, 1, 128]⟩
abbrev S2x640x56x64 : Shape := ⟨4, ![2, 640, 56, 64]⟩
abbrev S2x640x8x64 : Shape := ⟨4, ![2, 640, 8, 64]⟩
abbrev S2x640x72x128 : Shape := ⟨4, ![2, 640, 72, 128]⟩
abbrev S1280x9216 : Shape := ⟨2, ![1280, 9216]⟩

abbrev nBuf : Space → Nat
  | .hbm => 241
  | .vmem => 0
  | .smem => 0
  | _ => 0

abbrev hbmTy0_0 (i : Nat) : BufTy := match i % 128 with
  | 0 => ⟨S1280x7168, .bf16⟩
  | 1 => ⟨S1792x7168, .i8⟩
  | 2 => ⟨S1792x1024, .i8⟩
  | 3 => ⟨S1792x1024, .i8⟩
  | 4 => ⟨S3, .f32⟩
  | 5 => ⟨S2, .i32⟩
  | 6 => ⟨S1, .f32⟩
  | 7 => ⟨S_, .f32⟩
  | 8 => ⟨S1792x7168, .i32⟩
  | 9 => ⟨S_, .i32⟩
  | 10 => ⟨S1792x7168, .i32⟩
  | 11 => ⟨S1792x7168, .i32⟩
  | 12 => ⟨S_, .i32⟩
  | 13 => ⟨S1792x7168, .i32⟩
  | 14 => ⟨S1792x7168, .i32⟩
  | 15 => ⟨S_, .i32⟩
  | 16 => ⟨S1792x7168, .i32⟩
  | 17 => ⟨S1792x7168, .i32⟩
  | 18 => ⟨S1792x7168, .bf16⟩
  | 19 => ⟨S1280x1792, .bf16⟩
  | 20 => ⟨S1280x7168, .f32⟩
  | 21 => ⟨S1792x7168, .i32⟩
  | 22 => ⟨S_, .i32⟩
  | 23 => ⟨S1792x7168, .i32⟩
  | 24 => ⟨S1792x7168, .i32⟩
  | 25 => ⟨S_, .i32⟩
  | 26 => ⟨S1792x7168, .i32⟩
  | 27 => ⟨S1792x7168, .i32⟩
  | 28 => ⟨S_, .i32⟩
  | 29 => ⟨S1792x7168, .i32⟩
  | 30 => ⟨S1792x7168, .i32⟩
  | 31 => ⟨S1792x7168, .bf16⟩
  | 32 => ⟨S1280x1792, .bf16⟩
  | 33 => ⟨S1280x7168, .f32⟩
  | 34 => ⟨S1280x7168, .f32⟩
  | 35 => ⟨S1792x7168, .i32⟩
  | 36 => ⟨S_, .i32⟩
  | 37 => ⟨S1792x7168, .i32⟩
  | 38 => ⟨S1792x7168, .i32⟩
  | 39 => ⟨S_, .i32⟩
  | 40 => ⟨S1792x7168, .i32⟩
  | 41 => ⟨S1792x7168, .i32⟩
  | 42 => ⟨S_, .i32⟩
  | 43 => ⟨S1792x7168, .i32⟩
  | 44 => ⟨S1792x7168, .i32⟩
  | 45 => ⟨S1792x7168, .bf16⟩
  | 46 => ⟨S1280x1792, .bf16⟩
  | 47 => ⟨S1280x7168, .f32⟩
  | 48 => ⟨S1280x7168, .f32⟩
  | 49 => ⟨S1792x7168, .i32⟩
  | 50 => ⟨S_, .i32⟩
  | 51 => ⟨S1792x7168, .i32⟩
  | 52 => ⟨S1792x7168, .i32⟩
  | 53 => ⟨S_, .i32⟩
  | 54 => ⟨S1792x7168, .i32⟩
  | 55 => ⟨S1792x7168, .i32⟩
  | 56 => ⟨S_, .i32⟩
  | 57 => ⟨S1792x7168, .i32⟩
  | 58 => ⟨S1792x7168, .i32⟩
  | 59 => ⟨S1792x7168, .bf16⟩
  | 60 => ⟨S1280x1792, .bf16⟩
  | 61 => ⟨S1280x7168, .f32⟩
  | 62 => ⟨S1280x7168, .f32⟩
  | 63 => ⟨S1280x7168, .f32⟩
  | 64 => ⟨S1280x7168, .f32⟩
  | 65 => ⟨S2x640x56x128, .f32⟩
  | 66 => ⟨S1, .f32⟩
  | 67 => ⟨S_, .f32⟩
  | 68 => ⟨S1792x1024, .i32⟩
  | 69 => ⟨S_, .i32⟩
  | 70 => ⟨S1792x1024, .i32⟩
  | 71 => ⟨S1792x1024, .i32⟩
  | 72 => ⟨S_, .i32⟩
  | 73 => ⟨S1792x1024, .i32⟩
  | 74 => ⟨S1792x1024, .i32⟩
  | 75 => ⟨S_, .i32⟩
  | 76 => ⟨S1792x1024, .i32⟩
  | 77 => ⟨S1792x1024, .i32⟩
  | 78 => ⟨S1792x1024, .bf16⟩
  | 79 => ⟨S1280x1792, .bf16⟩
  | 80 => ⟨S1280x1024, .f32⟩
  | 81 => ⟨S1792x1024, .i32⟩
  | 82 => ⟨S_, .i32⟩
  | 83 => ⟨S1792x1024, .i32⟩
  | 84 => ⟨S1792x1024, .i32⟩
  | 85 => ⟨S_, .i32⟩
  | 86 => ⟨S1792x1024, .i32⟩
  | 87 => ⟨S1792x1024, .i32⟩
  | 88 => ⟨S_, .i32⟩
  | 89 => ⟨S1792x1024, .i32⟩
  | 90 => ⟨S1792x1024, .i32⟩
  | 91 => ⟨S1792x1024, .bf16⟩
  | 92 => ⟨S1280x1792, .bf16⟩
  | 93 => ⟨S1280x1024, .f32⟩
  | 94 => ⟨S1280x1024, .f32⟩
  | 95 => ⟨S1792x1024, .i32⟩
  | 96 => ⟨S_, .i32⟩
  | 97 => ⟨S1792x1024, .i32⟩
  | 98 => ⟨S1792x1024, .i32⟩
  | 99 => ⟨S_, .i32⟩
  | 100 => ⟨S1792x1024, .i32⟩
  | 101 => ⟨S1792x1024, .i32⟩
  | 102 => ⟨S_, .i32⟩
  | 103 => ⟨S1792x1024, .i32⟩
  | 104 => ⟨S1792x1024, .i32⟩
  | 105 => ⟨S1792x1024, .bf16⟩
  | 106 => ⟨S1280x1792, .bf16⟩
  | 107 => ⟨S1280x1024, .f32⟩
  | 108 => ⟨S1280x1024, .f32⟩
  | 109 => ⟨S1792x1024, .i32⟩
  | 110 => ⟨S_, .i32⟩
  | 111 => ⟨S1792x1024, .i32⟩
  | 112 => ⟨S1792x1024, .i32⟩
  | 113 => ⟨S_, .i32⟩
  | 114 => ⟨S1792x1024, .i32⟩
  | 115 => ⟨S1792x1024, .i32⟩
  | 116 => ⟨S_, .i32⟩
  | 117 => ⟨S1792x1024, .i32⟩
  | 118 => ⟨S1792x1024, .i32⟩
  | 119 => ⟨S1792x1024, .bf16⟩
  | 120 => ⟨S1280x1792, .bf16⟩
  | 121 => ⟨S1280x1024, .f32⟩
  | 122 => ⟨S1280x1024, .f32⟩
  | 123 => ⟨S1280x1024, .f32⟩
  | 124 => ⟨S1280x1024, .f32⟩
  | 125 => ⟨S2x640x8x128, .f32⟩
  | 126 => ⟨S1, .f32⟩
  | 127 => ⟨S_, .f32⟩
  | _ => ⟨S1280x7168, .bf16⟩

abbrev hbmTy0_1 (i : Nat) : BufTy := match i % 128 with
  | 0 => ⟨S1792x1024, .i32⟩
  | 1 => ⟨S_, .i32⟩
  | 2 => ⟨S1792x1024, .i32⟩
  | 3 => ⟨S1792x1024, .i32⟩
  | 4 => ⟨S_, .i32⟩
  | 5 => ⟨S1792x1024, .i32⟩
  | 6 => ⟨S1792x1024, .i32⟩
  | 7 => ⟨S_, .i32⟩
  | 8 => ⟨S1792x1024, .i32⟩
  | 9 => ⟨S1792x1024, .i32⟩
  | 10 => ⟨S1792x1024, .bf16⟩
  | 11 => ⟨S1280x1792, .bf16⟩
  | 12 => ⟨S1280x1024, .f32⟩
  | 13 => ⟨S1792x1024, .i32⟩
  | 14 => ⟨S_, .i32⟩
  | 15 => ⟨S1792x1024, .i32⟩
  | 16 => ⟨S1792x1024, .i32⟩
  | 17 => ⟨S_, .i32⟩
  | 18 => ⟨S1792x1024, .i32⟩
  | 19 => ⟨S1792x1024, .i32⟩
  | 20 => ⟨S_, .i32⟩
  | 21 => ⟨S1792x1024, .i32⟩
  | 22 => ⟨S1792x1024, .i32⟩
  | 23 => ⟨S1792x1024, .bf16⟩
  | 24 => ⟨S1280x1792, .bf16⟩
  | 25 => ⟨S1280x1024, .f32⟩
  | 26 => ⟨S1280x1024, .f32⟩
  | 27 => ⟨S1792x1024, .i32⟩
  | 28 => ⟨S_, .i32⟩
  | 29 => ⟨S1792x1024, .i32⟩
  | 30 => ⟨S1792x1024, .i32⟩
  | 31 => ⟨S_, .i32⟩
  | 32 => ⟨S1792x1024, .i32⟩
  | 33 => ⟨S1792x1024, .i32⟩
  | 34 => ⟨S_, .i32⟩
  | 35 => ⟨S1792x1024, .i32⟩
  | 36 => ⟨S1792x1024, .i32⟩
  | 37 => ⟨S1792x1024, .bf16⟩
  | 38 => ⟨S1280x1792, .bf16⟩
  | 39 => ⟨S1280x1024, .f32⟩
  | 40 => ⟨S1280x1024, .f32⟩
  | 41 => ⟨S1792x1024, .i32⟩
  | 42 => ⟨S_, .i32⟩
  | 43 => ⟨S1792x1024, .i32⟩
  | 44 => ⟨S1792x1024, .i32⟩
  | 45 => ⟨S_, .i32⟩
  | 46 => ⟨S1792x1024, .i32⟩
  | 47 => ⟨S1792x1024, .i32⟩
  | 48 => ⟨S_, .i32⟩
  | 49 => ⟨S1792x1024, .i32⟩
  | 50 => ⟨S1792x1024, .i32⟩
  | 51 => ⟨S1792x1024, .bf16⟩
  | 52 => ⟨S1280x1792, .bf16⟩
  | 53 => ⟨S1280x1024, .f32⟩
  | 54 => ⟨S1280x1024, .f32⟩
  | 55 => ⟨S1280x1024, .f32⟩
  | 56 => ⟨S1280x1024, .f32⟩
  | 57 => ⟨S2x640x8x128, .f32⟩
  | 58 => ⟨S64, .f32⟩
  | 59 => ⟨S_, .f32⟩
  | 60 => ⟨S64, .f32⟩
  | 61 => ⟨S64, .f32⟩
  | 62 => ⟨S_, .f32⟩
  | 63 => ⟨S64, .f32⟩
  | 64 => ⟨S64, .f32⟩
  | 65 => ⟨S_, .f32⟩
  | 66 => ⟨S64, .f32⟩
  | 67 => ⟨S64, .f32⟩
  | 68 => ⟨S_, .f32⟩
  | 69 => ⟨S64, .f32⟩
  | 70 => ⟨S64, .f32⟩
  | 71 => ⟨S_, .f32⟩
  | 72 => ⟨S64, .f32⟩
  | 73 => ⟨S64, .f32⟩
  | 74 => ⟨S2x1, .i32⟩
  | 75 => ⟨S640, .i32⟩
  | 76 => ⟨S1x640, .i32⟩
  | 77 => ⟨S2x640, .i32⟩
  | 78 => ⟨S2x640, .i32⟩
  | 79 => ⟨S2x640, .i32⟩
  | 80 => ⟨S2x640, .f32⟩
  | 81 => ⟨S2x640x1, .f32⟩
  | 82 => ⟨S1x1x64, .f32⟩
  | 83 => ⟨S2x640x64, .f32⟩
  | 84 => ⟨S2x640x64, .f32⟩
  | 85 => ⟨S2x640x64, .f32⟩
  | 86 => ⟨S2x640x128, .f32⟩
  | 87 => ⟨S2x640x1x128, .f32⟩
  | 88 => ⟨S2x640x1x128, .f32⟩
  | 89 => ⟨S2x640x1x128, .f32⟩
  | 90 => ⟨S2x640x56x128, .f32⟩
  | 91 => ⟨S2x640x56x128, .f32⟩
  | 92 => ⟨S2x640x56x64, .f32⟩
  | 93 => ⟨S2x640x56x64, .f32⟩
  | 94 => ⟨S2x640x56x64, .f32⟩
  | 95 => ⟨S2x640x56x128, .f32⟩
  | 96 => ⟨S2x640x56x128, .f32⟩
  | 97 => ⟨S2x640x56x128, .f32⟩
  | 98 => ⟨S2x640x56x128, .f32⟩
  | 99 => ⟨S2x640x56x128, .bf16⟩
  | 100 => ⟨S2x640x8x128, .f32⟩
  | 101 => ⟨S2x640x8x128, .f32⟩
  | 102 => ⟨S2x640x8x64, .f32⟩
  | 103 => ⟨S2x640x8x64, .f32⟩
  | 104 => ⟨S2x640x8x64, .f32⟩
  | 105 => ⟨S2x640x8x128, .f32⟩
  | 106 => ⟨S2x640x8x128, .f32⟩
  | 107 => ⟨S2x640x8x128, .f32⟩
  | 108 => ⟨S2x640x8x128, .f32⟩
  | 109 => ⟨S2x640x8x128, .bf16⟩
  | 110 => ⟨S2x640x8x128, .bf16⟩
  | 111 => ⟨S2x640x72x128, .bf16⟩
  | 112 => ⟨S1280x9216, .bf16⟩
  | _ => ⟨S1280x7168, .bf16⟩

abbrev hbmTy (i : Nat) : BufTy := match i / 128 with
  | 0 => hbmTy0_0 i
  | 1 => hbmTy0_1 i
  | _ => ⟨S1280x7168, .bf16⟩

abbrev bufTy : (tb : Table) → Fin (tcTables nBuf tb) → BufTy
  | .hbm, ⟨i, _⟩ => hbmTy i
  | _, _ => ⟨S1280x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_v37 : Ref sig .tc := ⟨.hbm, 54, rfl⟩
abbrev main_v38 : Ref sig .tc := ⟨.hbm, 55, rfl⟩
abbrev main_c_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_11 : Ref sig .tc := ⟨.hbm, 69, rfl⟩
abbrev main_v51 : Ref sig .tc := ⟨.hbm, 70, rfl⟩
abbrev main_v52 : Ref sig .tc := ⟨.hbm, 71, rfl⟩
abbrev main_c_12 : Ref sig .tc := ⟨.hbm, 72, rfl⟩
abbrev main_v53 : Ref sig .tc := ⟨.hbm, 73, rfl⟩
abbrev main_v54 : Ref sig .tc := ⟨.hbm, 74, rfl⟩
abbrev main_c_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_14 : Ref sig .tc := ⟨.hbm, 82, rfl⟩
abbrev main_v61 : Ref sig .tc := ⟨.hbm, 83, rfl⟩
abbrev main_v62 : Ref sig .tc := ⟨.hbm, 84, rfl⟩
abbrev main_c_15 : Ref sig .tc := ⟨.hbm, 85, rfl⟩
abbrev main_v63 : Ref sig .tc := ⟨.hbm, 86, rfl⟩
abbrev main_v64 : Ref sig .tc := ⟨.hbm, 87, rfl⟩
abbrev main_c_16 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_17 : Ref sig .tc := ⟨.hbm, 96, rfl⟩
abbrev main_v72 : Ref sig .tc := ⟨.hbm, 97, rfl⟩
abbrev main_v73 : Ref sig .tc := ⟨.hbm, 98, rfl⟩
abbrev main_c_18 : Ref sig .tc := ⟨.hbm, 99, rfl⟩
abbrev main_v74 : Ref sig .tc := ⟨.hbm, 100, rfl⟩
abbrev main_v75 : Ref sig .tc := ⟨.hbm, 101, rfl⟩
abbrev main_c_19 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_20 : Ref sig .tc := ⟨.hbm, 110, rfl⟩
abbrev main_v83 : Ref sig .tc := ⟨.hbm, 111, rfl⟩
abbrev main_v84 : Ref sig .tc := ⟨.hbm, 112, rfl⟩
abbrev main_c_21 : Ref sig .tc := ⟨.hbm, 113, rfl⟩
abbrev main_v85 : Ref sig .tc := ⟨.hbm, 114, rfl⟩
abbrev main_v86 : Ref sig .tc := ⟨.hbm, 115, rfl⟩
abbrev main_c_22 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_c_23 : Ref sig .tc := ⟨.hbm, 129, rfl⟩
abbrev main_v99 : Ref sig .tc := ⟨.hbm, 130, rfl⟩
abbrev main_v100 : Ref sig .tc := ⟨.hbm, 131, rfl⟩
abbrev main_c_24 : Ref sig .tc := ⟨.hbm, 132, rfl⟩
abbrev main_v101 : Ref sig .tc := ⟨.hbm, 133, rfl⟩
abbrev main_v102 : Ref sig .tc := ⟨.hbm, 134, rfl⟩
abbrev main_c_25 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_c_26 : Ref sig .tc := ⟨.hbm, 142, rfl⟩
abbrev main_v109 : Ref sig .tc := ⟨.hbm, 143, rfl⟩
abbrev main_v110 : Ref sig .tc := ⟨.hbm, 144, rfl⟩
abbrev main_c_27 : Ref sig .tc := ⟨.hbm, 145, rfl⟩
abbrev main_v111 : Ref sig .tc := ⟨.hbm, 146, rfl⟩
abbrev main_v112 : Ref sig .tc := ⟨.hbm, 147, rfl⟩
abbrev main_c_28 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_c_29 : Ref sig .tc := ⟨.hbm, 156, rfl⟩
abbrev main_v120 : Ref sig .tc := ⟨.hbm, 157, rfl⟩
abbrev main_v121 : Ref sig .tc := ⟨.hbm, 158, rfl⟩
abbrev main_c_30 : Ref sig .tc := ⟨.hbm, 159, rfl⟩
abbrev main_v122 : Ref sig .tc := ⟨.hbm, 160, rfl⟩
abbrev main_v123 : Ref sig .tc := ⟨.hbm, 161, rfl⟩
abbrev main_c_31 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_c_32 : Ref sig .tc := ⟨.hbm, 170, rfl⟩
abbrev main_v131 : Ref sig .tc := ⟨.hbm, 171, rfl⟩
abbrev main_v132 : Ref sig .tc := ⟨.hbm, 172, rfl⟩
abbrev main_c_33 : Ref sig .tc := ⟨.hbm, 173, rfl⟩
abbrev main_v133 : Ref sig .tc := ⟨.hbm, 174, rfl⟩
abbrev main_v134 : Ref sig .tc := ⟨.hbm, 175, rfl⟩
abbrev main_c_34 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_cst : Ref sig .tc := ⟨.hbm, 187, rfl⟩
abbrev main_v145 : Ref sig .tc := ⟨.hbm, 188, rfl⟩
abbrev main_v146 : Ref sig .tc := ⟨.hbm, 189, rfl⟩
abbrev main_cst_35 : Ref sig .tc := ⟨.hbm, 190, rfl⟩
abbrev main_v147 : Ref sig .tc := ⟨.hbm, 191, rfl⟩
abbrev main_v148 : Ref sig .tc := ⟨.hbm, 192, rfl⟩
abbrev main_cst_36 : Ref sig .tc := ⟨.hbm, 193, rfl⟩
abbrev main_v149 : Ref sig .tc := ⟨.hbm, 194, rfl⟩
abbrev main_v150 : Ref sig .tc := ⟨.hbm, 195, rfl⟩
abbrev main_cst_37 : Ref sig .tc := ⟨.hbm, 196, rfl⟩
abbrev main_v151 : Ref sig .tc := ⟨.hbm, 197, rfl⟩
abbrev main_v152 : Ref sig .tc := ⟨.hbm, 198, rfl⟩
abbrev main_cst_38 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩

abbrev nD : Nat := 1
abbrev τ : Topo := Topo.v7x

variable {F : FTy → Type} [FloatOps F]
-- ==== Attention.lean ====
abbrev S1280x9216 : Shape := ⟨2, ![1280, 9216]⟩
abbrev S1280x7168 : Shape := ⟨2, ![1280, 7168]⟩
abbrev S640x896 : Shape := ⟨2, ![640, 896]⟩
abbrev S640x128 : Shape := ⟨2, ![640, 128]⟩
abbrev S128x128 : Shape := ⟨2, ![128, 128]⟩
abbrev S896x128 : Shape := ⟨2, ![896, 128]⟩
abbrev S896 : Shape := ⟨1, ![896]⟩
abbrev S896x1 : Shape := ⟨2, ![896, 1]⟩
abbrev S256x128 : Shape := ⟨2, ![256, 128]⟩
abbrev S896x256 : Shape := ⟨2, ![896, 256]⟩
abbrev S384x128 : Shape := ⟨2, ![384, 128]⟩
abbrev S896x384 : Shape := ⟨2, ![896, 384]⟩
abbrev S512x128 : Shape := ⟨2, ![512, 128]⟩
abbrev S896x512 : Shape := ⟨2, ![896, 512]⟩
abbrev S896x640 : Shape := ⟨2, ![896, 640]⟩

abbrev nBuf : Space → Nat
  | .hbm => 2
  | .vmem => 8
  | .smem => 0
  | _ => 0

abbrev bufTy : (tb : Table) → Fin (tcTables nBuf tb) → BufTy
  | .hbm, ⟨0, _⟩ => ⟨S1280x9216, .bf16⟩
  | .hbm, ⟨1, _⟩ => ⟨S1280x7168, .f32⟩
  | .local _ .vmem, ⟨0, _⟩ => ⟨S640x896, .bf16⟩
  | .local _ .vmem, ⟨1, _⟩ => ⟨S640x896, .bf16⟩
  | .local _ .vmem, ⟨2, _⟩ => ⟨S640x128, .bf16⟩
  | .local _ .vmem, ⟨3, _⟩ => ⟨S640x128, .bf16⟩
  | .local _ .vmem, ⟨4, _⟩ => ⟨S640x128, .bf16⟩
  | .local _ .vmem, ⟨5, _⟩ => ⟨S640x128, .bf16⟩
  | .local _ .vmem, ⟨6, _⟩ => ⟨S640x896, .f32⟩
  | .local _ .vmem, ⟨7, _⟩ => ⟨S640x896, .f32⟩
  | _, _ => ⟨S1280x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttentionRefIdeal.lean ====
abbrev S1280x9216 : Shape := ⟨2, ![1280, 9216]⟩
abbrev S1280x7168 : Shape := ⟨2, ![1280, 7168]⟩
abbrev S2x640x8x7x128 : Shape := ⟨5, ![2, 640, 8, 7, 128]⟩
abbrev S1280x1024 : Shape := ⟨2, ![1280, 1024]⟩
abbrev S2x640x8x128 : Shape := ⟨4, ![2, 640, 8, 128]⟩
abbrev S2x8x640x640x7 : Shape := ⟨5, ![2, 8, 640, 640, 7]⟩
abbrev S2x8x7x640x640 : Shape := ⟨5, ![2, 8, 7, 640, 640]⟩
abbrev S_ : Shape := ⟨0, ![]⟩
abbrev S640 : Shape := ⟨1, ![640]⟩
abbrev S1x640 : Shape := ⟨2, ![1, 640]⟩
abbrev S640x1 : Shape := ⟨2, ![640, 1]⟩
abbrev S640x640 : Shape := ⟨2, ![640, 640]⟩
abbrev S2x8x7x640 : Shape := ⟨4, ![2, 8, 7, 640]⟩
abbrev S2x8x7x640x1 : Shape := ⟨5, ![2, 8, 7, 640, 1]⟩
abbrev S2x8x128x7x640 : Shape := ⟨5, ![2, 8, 128, 7, 640]⟩

abbrev nBuf : Space → Nat
  | .hbm => 41
  | .vmem => 0
  | .smem => 0
  | _ => 0

abbrev bufTy : (tb : Table) → Fin (tcTables nBuf tb) → BufTy
  | .hbm, ⟨0, _⟩ => ⟨S1280x9216, .bf16⟩
  | .hbm, ⟨1, _⟩ => ⟨S1280x7168, .bf16⟩
  | .hbm, ⟨2, _⟩ => ⟨S2x640x8x7x128, .bf16⟩
  | .hbm, ⟨3, _⟩ => ⟨S1280x1024, .bf16⟩
  | .hbm, ⟨4, _⟩ => ⟨S2x640x8x128, .bf16⟩
  | .hbm, ⟨5, _⟩ => ⟨S1280x1024, .bf16⟩
  | .hbm, ⟨6, _⟩ => ⟨S2x640x8x128, .bf16⟩
  | .hbm, ⟨7, _⟩ => ⟨S2x8x640x640x7, .f32⟩
  | .hbm, ⟨8, _⟩ => ⟨S2x8x7x640x640, .f32⟩
  | .hbm, ⟨9, _⟩ => ⟨S_, .f32⟩
  | .hbm, ⟨10, _⟩ => ⟨S2x8x7x640x640, .f32⟩
  | .hbm, ⟨11, _⟩ => ⟨S2x8x7x640x640, .f32⟩
  | .hbm, ⟨12, _⟩ => ⟨S640, .i32⟩
  | .hbm, ⟨13, _⟩ => ⟨S1x640, .i32⟩
  | .hbm, ⟨14, _⟩ => ⟨S640x1, .i32⟩
  | .hbm, ⟨15, _⟩ => ⟨S640x640, .i32⟩
  | .hbm, ⟨16, _⟩ => ⟨S640x640, .i32⟩
  | .hbm, ⟨17, _⟩ => ⟨S640x640, .i1⟩
  | .hbm, ⟨18, _⟩ => ⟨S_, .f32⟩
  | .hbm, ⟨19, _⟩ => ⟨S_, .f32⟩
  | .hbm, ⟨20, _⟩ => ⟨S2x8x7x640x640, .i1⟩
  | .hbm, ⟨21, _⟩ => ⟨S2x8x7x640x640, .f32⟩
  | .hbm, ⟨22, _⟩ => ⟨S2x8x7x640x640, .f32⟩
  | .hbm, ⟨23, _⟩ => ⟨S_, .f32⟩
  | .hbm, ⟨24, _⟩ => ⟨S2x8x7x640, .f32⟩
  | .hbm, ⟨25, _⟩ => ⟨S_, .f32⟩
  | .hbm, ⟨26, _⟩ => ⟨S2x8x7x640, .f32⟩
  | .hbm, ⟨27, _⟩ => ⟨S2x8x7x640, .f32⟩
  | .hbm, ⟨28, _⟩ => ⟨S2x8x7x640x1, .f32⟩
  | .hbm, ⟨29, _⟩ => ⟨S2x8x7x640x640, .f32⟩
  | .hbm, ⟨30, _⟩ => ⟨S2x8x7x640x640, .f32⟩
  | .hbm, ⟨31, _⟩ => ⟨S2x8x7x640x640, .f32⟩
  | .hbm, ⟨32, _⟩ => ⟨S_, .f32⟩
  | .hbm, ⟨33, _⟩ => ⟨S2x8x7x640, .f32⟩
  | .hbm, ⟨34, _⟩ => ⟨S2x8x7x640x1, .f32⟩
  | .hbm, ⟨35, _⟩ => ⟨S2x8x7x640x640, .f32⟩
  | .hbm, ⟨36, _⟩ => ⟨S2x8x7x640x640, .f32⟩
  | .hbm, ⟨37, _⟩ => ⟨S2x8x7x640x640, .bf16⟩
  | .hbm, ⟨38, _⟩ => ⟨S2x8x128x7x640, .f32⟩
  | .hbm, ⟨39, _⟩ => ⟨S2x640x8x7x128, .f32⟩
  | .hbm, ⟨40, _⟩ => ⟨S1280x7168, .f32⟩
  | _, _ => ⟨S1280x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Proof.Unpack.lean ====
/- Packed ternary weights. Four 2-bit fields lie in a byte; the kernel reads four bytes of a column as one 32-bit word,
   shifts and masks the word, and reads the bytes back. This module says what that gives at an index, over the extended
   reals, and what the reference's widened shift and mask give: the same ternary weight. -/
module

public import Idealize.ShloMosaic.Lib.BitcastFour
public import Idealize.ShloMosaic.Lib.IdealHost
public import Idealize.ShloMosaic.Lib.Pipeline.Value
public import Idealize.ShloMosaic.Lib.MatmulPlain

@[expose] public section

noncomputable section

namespace Cert.Unpack

open Idealize.ShloMosaic Idealize.ShloMosaic.ValueIdx
open scoped BigOperators

/-- The ternary weight that field `f` of a packed byte stands for: the field's two bits, less one. -/
def trit (f : ℕ) (b : BitVec 8) : EReal := ((((b.toNat / 4 ^ f % 4 : ℕ) : ℝ) - 1 : ℝ) : EReal)

theorem toInt_field (f : Fin 4) (b : BitVec 8) : ((b >>> (2 * f.val)) &&& 3#8).toInt = ((b.toNat / 4 ^ f.val % 4 : ℕ) : ℤ) := by
  revert b; revert f; decide +kernel

theorem toInt_field_host (f : Fin 4) (b : BitVec 8) :
    (((b.setWidth 32).sshiftRight' (BitVec.ofNat 32 (2 * f.val)) &&& 3#32) - 1#32).toInt = ((b.toNat / 4 ^ f.val % 4 : ℕ) : ℤ) - 1 := by
  revert b; revert f; decide +kernel

theorem mask_bit : ∀ p < 4, ∀ q < 8, (50529027#32 : BitVec 32).getLsbD (p * 8 + q) = decide (q < 2) := by decide

theorem three_bit : ∀ q < 8, (3#8 : BitVec 8).getLsbD q = decide (q < 2) := by decide

theorem row_ix2 {r n : ℕ} (a : Fin r) (l : Fin n) : (⟨2, ![r, n]⟩ : Shape).row (ix2 a l) = a.val := by
  unfold Shape.row
  rw [dif_pos (by exact Nat.le_refl 2)]
  rfl

/-- Thirty-two-bit words read as bytes: bit `q` of the byte at row `p` is bit `8 (p % 4) + q` of the word of row `p / 4`. -/
theorem bitcast_32_8_getLsbD_ix2 {R r n : ℕ} (y : (⟨2, ![r, n]⟩ : Shape).Idx → BitVec 32)
    (h : (⟨2, ![r, n]⟩ : Shape).Bitcasts 32 ⟨2, ![R, n]⟩ 8) (p : Fin R) (l : Fin n) (a : Fin r) (ha : p.val / 4 = a.val) (q : ℕ) (hq : q < 8) :
    (bitcast ⟨2, ![R, n]⟩ 8 y h (ix2 p l)).getLsbD q = (y (ix2 a l)).getLsbD (p.val % 4 * 8 + q) := by
  rw [bitcast_getLsbD y h _ q hq (by decide)]
  have hrow := row_ix2 p l
  have e1 : ((⟨2, ![R, n]⟩ : Shape).row (ix2 p l) * 8 + q) / 32 = a.val := by rw [hrow]; omega
  have e2 : ((⟨2, ![R, n]⟩ : Shape).row (ix2 p l) * 8 + q) % 32 = p.val % 4 * 8 + q := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The kernel's unpacking of one field at an index: bytes read as words, the words shifted by `2 f` (given as `y`) and
    masked, and read back as bytes, are the bytes shifted and masked. -/
theorem field_byte {R r n : ℕ} (x : (⟨2, ![R, n]⟩ : Shape).Idx → BitVec 8)
    (h1 : (⟨2, ![R, n]⟩ : Shape).Bitcasts 8 ⟨2, ![r, n]⟩ 32) (h2 : (⟨2, ![r, n]⟩ : Shape).Bitcasts 32 ⟨2, ![R, n]⟩ 8)
    (s : ℕ) (hs : s ≤ 6) (y : IVec ⟨2, ![r, n]⟩ 32)
    (hy : ∀ a l, y (ix2 a l) = (bitcast ⟨2, ![r, n]⟩ 32 x h1 (ix2 a l)) >>> s) (p : Fin R) (l : Fin n) :
    bitcast ⟨2, ![R, n]⟩ 8 (andi y (broadcast ⟨2, ![r, n]⟩ 50529027#32)) h2 (ix2 p l) = (x (ix2 p l) >>> s) &&& 3#8 := by
  have hR : R = 4 * r := by
    obtain ⟨_, _, h⟩ := h1
    have := h ⟨0, Nat.zero_lt_two⟩
    rw [if_pos rfl] at this
    have : R * 8 = r * 32 := this
    omega
  have hp := p.isLt
  apply BitVec.eq_of_getLsbD_eq
  intro q hq
  have ha : p.val / 4 < r := by omega
  rw [bitcast_32_8_getLsbD_ix2 _ h2 p l ⟨p.val / 4, ha⟩ rfl q hq]
  show ((y (ix2 ⟨p.val / 4, ha⟩ l)) &&& (50529027#32)).getLsbD (p.val % 4 * 8 + q) = _
  rw [BitVec.getLsbD_and, BitVec.getLsbD_and, mask_bit _ (Nat.mod_lt _ (by decide)) q hq, three_bit q hq, hy,
    BitVec.getLsbD_ushiftRight, BitVec.getLsbD_ushiftRight]
  by_cases hq2 : q < 2
  · rw [bitcast_8_32_getLsbD_ix2 x h1 ⟨p.val / 4, ha⟩ l (s + (p.val % 4 * 8 + q)) (by omega) p (by show p.val = 4 * (p.val / 4) + _; omega)]
    have : (s + (p.val % 4 * 8 + q)) % 8 = s + q := by omega
    rw [this]
  · simp [hq2]

/-- One field of the kernel's unpacked weights at an index, over the extended reals: the ternary weight of the field. -/
theorem field_trit {R r n : ℕ} (x : (⟨2, ![R, n]⟩ : Shape).Idx → BitVec 8)
    (h1 : (⟨2, ![R, n]⟩ : Shape).Bitcasts 8 ⟨2, ![r, n]⟩ 32) (h2 : (⟨2, ![r, n]⟩ : Shape).Bitcasts 32 ⟨2, ![R, n]⟩ 8)
    (f : Fin 4) (y : IVec ⟨2, ![r, n]⟩ 32)
    (hy : ∀ a l, y (ix2 a l) = (bitcast ⟨2, ![r, n]⟩ 32 x h1 (ix2 a l)) >>> (2 * f.val)) (p : Fin R) (l : Fin n) :
    (subf (sitofp .bf16 (bitcast ⟨2, ![R, n]⟩ 8 (andi y (broadcast ⟨2, ![r, n]⟩ 50529027#32)) h2))
      (broadcast ⟨2, ![R, n]⟩ (Scalar.ofBits (F := Ideal) .bf16 0x3F80#16)) : FVec Ideal ⟨2, ![R, n]⟩ .bf16) (ix2 p l)
      = trit f.val (x (ix2 p l)) := by
  have hb := field_byte x h1 h2 (2 * f.val) (by omega) y hy p l
  show (((bitcast ⟨2, ![R, n]⟩ 8 (andi y (broadcast ⟨2, ![r, n]⟩ 50529027#32)) h2 (ix2 p l)).toInt : ℝ) : EReal)
    - Ideal.ofBits .bf16 0x3F80#16 = _
  rw [hb, toInt_field, Ideal.ofBits_one_bf16, trit, EReal.coe_sub]
  rfl

/-- The reference's field at an index: widened, shifted, masked and reduced by one, then read as a real. -/
theorem host_trit (f : Fin 4) (b : BitVec 8) (s : BitVec 32) (hs : s = BitVec.ofNat 32 (2 * f.val)) :
    FloatOps.sitofp (F := Ideal) .bf16 (IntOp.subi (IntOp.andi (IntOp.shrsi .host (b.setWidth 32) s) 3#32) 1#32) = trit f.val b := by
  subst hs
  have h : (BitVec.ofNat 32 (2 * f.val)).toNat < 32 := by revert f; decide
  show (((IntOp.subi (IntOp.andi (IntOp.shrsi .host (b.setWidth 32) (BitVec.ofNat 32 (2 * f.val))) 3#32) 1#32).toInt : ℝ) : EReal) = _
  unfold IntOp.subi IntOp.andi IntOp.shrsi
  rw [if_pos h, toInt_field_host, trit]
  push_cast
  rfl

/-- The weight matrix that packed bytes stand for: row `k` is field `k / R` of packed row `k % R`. -/
def unpackRow {R : ℕ} (K : ℕ) (hK : K = 4 * R) (w : Fin R → BitVec 8) (k : Fin K) : EReal :=
  trit (k.val / R) (w ⟨k.val % R, Nat.mod_lt _ (by have := k.isLt; omega)⟩)

/-- Four pieces of one shape stacked along the rows, read at an index. -/
theorem concat4_apply {α : Type} {R K n : ℕ} (hK : K = 4 * R) (z : Fin 4 → ((⟨2, ![R, n]⟩ : Shape).Idx → α))
    (h : Shape.Concatenates [(⟨2, ![R, n]⟩ : Shape), ⟨2, ![R, n]⟩, ⟨2, ![R, n]⟩, ⟨2, ![R, n]⟩] ⟨2, ![K, n]⟩ 0)
    (k : Fin K) (l : Fin n) (f : Fin 4) (hf : k.val / R = f.val) (p : Fin R) (hp : p.val = k.val % R) :
    concatenate ⟨2, ![K, n]⟩ 0 [⟨⟨2, ![R, n]⟩, z 0⟩, ⟨⟨2, ![R, n]⟩, z 1⟩, ⟨⟨2, ![R, n]⟩, z 2⟩, ⟨⟨2, ![R, n]⟩, z 3⟩] h (ix2 k l)
      = z f (ix2 p l) :=
  concatenate_ofFn_apply (t := ⟨2, ![K, n]⟩) (s₁ := ⟨2, ![R, n]⟩) 0 z h rfl R rfl (ix2 k l) f hf (ix2 p l) hp
    (fun b hb => match b with
      | ⟨0, _⟩ => absurd rfl hb
      | ⟨1, _⟩ => rfl)

/-- A product of a `K`-deep row with the unpacked column, split into the four fields' products. -/
theorem sum_fields {R K : ℕ} (hK : K = 4 * R) (g : Fin K → EReal) (e : Fin 4 → Fin R → Fin K)
    (he : ∀ f p, (e f p).val = f.val * R + p.val) :
    ∑ k : Fin K, g k = (∑ p, g (e 0 p)) + (∑ p, g (e 1 p)) + (∑ p, g (e 2 p)) + (∑ p, g (e 3 p)) := by
  subst hK
  rw [← Equiv.sum_comp (finProdFinEquiv (m := 4) (n := R)) g, Fintype.sum_prod_type, Fin.sum_univ_four]
  have key : ∀ f p, finProdFinEquiv (f, p) = e f p := fun f p => by
    apply Fin.ext; rw [he]; show p.val + R * f.val = _; rw [Nat.mul_comm, Nat.add_comm]
  simp only [key]

end Cert.Unpack

end
-- ==== Proof.Bitlinear.lean ====
/- A linear layer with packed ternary weights, at any extents: what the kernels' one deep product over the unpacked
   weights gives at an index, and what the reference's four products over the packed rows give: the same sum. -/
module

public import proofs.«01_k».proof.Proof.Unpack
public import Idealize.ShloMosaic.Lib.StackMember

@[expose] public section

noncomputable section

namespace Cert.Unpack

open Idealize.ShloMosaic Idealize.ShloMosaic.ValueIdx
open scoped BigOperators

variable {M R K n r : ℕ}

/-- The `K × n` ternary matrix that packed bytes stand for: row `k` is field `k / R` of packed row `k % R`. -/
def weight (hK : K = 4 * R) (w : (⟨2, ![R, n]⟩ : Shape).Idx → BitVec 8) (k : Fin K) (c : Fin n) : EReal :=
  trit (k.val / R) (w (ix2 ⟨k.val % R, Nat.mod_lt _ (by have := k.isLt; omega)⟩ c))

/-- A row of the activations times a column of the ternary matrix. -/
def bitdot (hK : K = 4 * R) (x : (⟨2, ![M, K]⟩ : Shape).Idx → EReal) (w : (⟨2, ![R, n]⟩ : Shape).Idx → BitVec 8) (a : Fin M) (c : Fin n) : EReal :=
  ∑ k : Fin K, x (ix2 a k) * weight hK w k c

/-- One unpacked field of the kernel: words shifted right by `k` bits, masked, read as bytes, less one. -/
abbrev kfield (h2 : (⟨2, ![r, n]⟩ : Shape).Bitcasts 32 ⟨2, ![R, n]⟩ 8) (y : IVec ⟨2, ![r, n]⟩ 32) : FVec Ideal ⟨2, ![R, n]⟩ .bf16 :=
  subf (sitofp .bf16 (bitcast ⟨2, ![R, n]⟩ 8 (andi y (broadcast ⟨2, ![r, n]⟩ 50529027#32)) h2))
    (broadcast ⟨2, ![R, n]⟩ (Scalar.ofBits (F := Ideal) .bf16 0x3F80#16))

/-- The kernel's unpacked weight matrix: the four fields stacked along the rows. -/
def kunpack (h1 : (⟨2, ![R, n]⟩ : Shape).Bitcasts 8 ⟨2, ![r, n]⟩ 32) (h2 : (⟨2, ![r, n]⟩ : Shape).Bitcasts 32 ⟨2, ![R, n]⟩ 8)
    (h : Shape.Concatenates [(⟨2, ![R, n]⟩ : Shape), ⟨2, ![R, n]⟩, ⟨2, ![R, n]⟩, ⟨2, ![R, n]⟩] ⟨2, ![K, n]⟩ 0)
    (w : (⟨2, ![R, n]⟩ : Shape).Idx → BitVec 8) : FVec Ideal ⟨2, ![K, n]⟩ .bf16 :=
  concatenate ⟨2, ![K, n]⟩ 0
    [⟨⟨2, ![R, n]⟩, kfield h2 (bitcast ⟨2, ![r, n]⟩ 32 w h1)⟩,
     ⟨⟨2, ![R, n]⟩, kfield h2 (shrui (bitcast ⟨2, ![r, n]⟩ 32 w h1) (broadcast ⟨2, ![r, n]⟩ 2#32))⟩,
     ⟨⟨2, ![R, n]⟩, kfield h2 (shrui (bitcast ⟨2, ![r, n]⟩ 32 w h1) (broadcast ⟨2, ![r, n]⟩ 4#32))⟩,
     ⟨⟨2, ![R, n]⟩, kfield h2 (shrui (bitcast ⟨2, ![r, n]⟩ 32 w h1) (broadcast ⟨2, ![r, n]⟩ 6#32))⟩] h

theorem shrui_eq (x : BitVec 32) (s : ℕ) (hs : s < 32) : IntOp.shrui .vector x (BitVec.ofNat 32 s) = x >>> s := by
  have h : (BitVec.ofNat 32 s).toNat = s := by rw [BitVec.toNat_ofNat]; omega
  unfold IntOp.shrui
  rw [h, if_pos hs]
  show x >>> (BitVec.ofNat 32 s).toNat = _
  rw [h]

theorem kunpack_apply (hK : K = 4 * R) (h1 : (⟨2, ![R, n]⟩ : Shape).Bitcasts 8 ⟨2, ![r, n]⟩ 32)
    (h2 : (⟨2, ![r, n]⟩ : Shape).Bitcasts 32 ⟨2, ![R, n]⟩ 8)
    (h : Shape.Concatenates [(⟨2, ![R, n]⟩ : Shape), ⟨2, ![R, n]⟩, ⟨2, ![R, n]⟩, ⟨2, ![R, n]⟩] ⟨2, ![K, n]⟩ 0)
    (w : (⟨2, ![R, n]⟩ : Shape).Idx → BitVec 8) (k : Fin K) (c : Fin n) :
    kunpack h1 h2 h w (ix2 k c) = weight hK w k c := by
  have hk := k.isLt
  have hR : 0 < R := by omega
  have hf : k.val / R < 4 := Nat.div_lt_of_lt_mul (by omega)
  refine (concat4_apply hK (fun f => match f with
      | ⟨0, _⟩ => kfield h2 (bitcast ⟨2, ![r, n]⟩ 32 w h1)
      | ⟨1, _⟩ => kfield h2 (shrui (bitcast ⟨2, ![r, n]⟩ 32 w h1) (broadcast ⟨2, ![r, n]⟩ 2#32))
      | ⟨2, _⟩ => kfield h2 (shrui (bitcast ⟨2, ![r, n]⟩ 32 w h1) (broadcast ⟨2, ![r, n]⟩ 4#32))
      | ⟨3, _⟩ => kfield h2 (shrui (bitcast ⟨2, ![r, n]⟩ 32 w h1) (broadcast ⟨2, ![r, n]⟩ 6#32))) h k c
      ⟨k.val / R, hf⟩ rfl ⟨k.val % R, Nat.mod_lt _ hR⟩ rfl).trans ?_
  unfold weight
  generalize (⟨k.val % R, _⟩ : Fin R) = p

  generalize hF : (⟨k.val / R, hf⟩ : Fin 4) = f
  have e : k.val / R = f.val := congrArg Fin.val hF
  rw [e]
  match f with
  | ⟨0, _⟩ => exact field_trit w h1 h2 0 _ (fun a l => (BitVec.ushiftRight_zero _).symm) p c
  | ⟨1, _⟩ => exact field_trit w h1 h2 1 _ (fun a l => shrui_eq _ 2 (by decide)) p c
  | ⟨2, _⟩ => exact field_trit w h1 h2 2 _ (fun a l => shrui_eq _ 4 (by decide)) p c
  | ⟨3, _⟩ => exact field_trit w h1 h2 3 _ (fun a l => shrui_eq _ 6 (by decide)) p c

/-- The kernel's product at an index. -/
theorem kernel_apply (hK : K = 4 * R) (h1 : (⟨2, ![R, n]⟩ : Shape).Bitcasts 8 ⟨2, ![r, n]⟩ 32)
    (h2 : (⟨2, ![r, n]⟩ : Shape).Bitcasts 32 ⟨2, ![R, n]⟩ 8)
    (h : Shape.Concatenates [(⟨2, ![R, n]⟩ : Shape), ⟨2, ![R, n]⟩, ⟨2, ![R, n]⟩, ⟨2, ![R, n]⟩] ⟨2, ![K, n]⟩ 0)
    (x : FVec Ideal ⟨2, ![M, K]⟩ .bf16) (w : (⟨2, ![R, n]⟩ : Shape).Idx → BitVec 8) (a : Fin M) (c : Fin n) :
    FloatOps.matmul (DotDims.plain M K n) none x (kunpack h1 h2 h w) (constant ⟨2, ![M, n]⟩ .f32 0x00000000#32) (ix2 a c)
      = bitdot hK x w a c := by
  rw [Ideal.matmul_plain_apply]
  show Ideal.ofBits .f32 0x00000000#32 + _ = _
  rw [Ideal.ofBits_zero_f32, zero_add]
  exact Finset.sum_congr rfl fun k _ => congrArg (x (ix2 a k) * ·) (kunpack_apply hK h1 h2 h w k c)

/-- One of the reference's weight fields. -/
abbrev hfield (h8 : 8 < 32) (s b o : IVec ⟨2, ![R, n]⟩ 32) (w : IVec ⟨2, ![R, n]⟩ 8) : FVec Ideal ⟨2, ![R, n]⟩ .bf16 :=
  sitofp .bf16 (subi (andi (Host.shrsi (extui 32 w h8) s) b) o)

/-- One of the reference's four products at an index: the columns `off ..` of the activations against a field. -/
theorem host_part (f : Fin 4) (h8 : 8 < 32) (s b o : IVec ⟨2, ![R, n]⟩ 32) (hs : ∀ i, s i = BitVec.ofNat 32 (2 * f.val))
    (hb : ∀ i, b i = 3#32) (ho : ∀ i, o i = 1#32) (off : ℕ) (hoff : off = f.val * R) (x : FVec Ideal ⟨2, ![M, K]⟩ .bf16)
    (hsl : (⟨2, ![M, K]⟩ : Shape).Slices ![0, off] ⟨2, ![M, R]⟩) (w : IVec ⟨2, ![R, n]⟩ 8) (e : Fin R → Fin K)
    (he : ∀ p, (e p).val = f.val * R + p.val) (a : Fin M) (c : Fin n) :
    Host.dotGeneral (F := Ideal) (φ₁ := .bf16) (φ₂ := .bf16) (DotDims.plain M R n) none (extractStridedSlice ⟨2, ![M, R]⟩ ![0, off] x hsl) (hfield h8 s b o w) (ix2 a c)
      = ∑ p : Fin R, x (ix2 a (e p)) * trit f.val (w (ix2 p c)) := by
  rw [Idealize.ShloMosaic.StackMember.dotGeneral_plain_apply]
  refine Finset.sum_congr rfl fun p _ => ?_
  have e1 : extractStridedSlice ⟨2, ![M, R]⟩ ![0, off] x hsl (ix2 a p) = x (ix2 a (e p)) :=
    extractStridedSlice_apply _ x hsl (ix2 a p) (ix2 a (e p)) (fun d => match d with
      | ⟨0, _⟩ => by show a.val = 0 + a.val; omega
      | ⟨1, _⟩ => by show (e p).val = off + p.val; rw [he, hoff])
  have e2 : hfield h8 s b o w (ix2 p c) = trit f.val (w (ix2 p c)) := by
    show FloatOps.sitofp (F := Ideal) .bf16 (IntOp.subi (IntOp.andi (IntOp.shrsi .host ((w (ix2 p c)).setWidth 32) (s (ix2 p c))) (b (ix2 p c))) (o (ix2 p c))) = _
    rw [hb, ho]
    exact host_trit f _ _ (hs _)
  rw [e1, e2]

/-- The sum over the unpacked rows is the four sums over the packed rows. -/
theorem bitdot_split (hK : K = 4 * R) (x : (⟨2, ![M, K]⟩ : Shape).Idx → EReal) (w : (⟨2, ![R, n]⟩ : Shape).Idx → BitVec 8) (a : Fin M) (c : Fin n)
    (e : Fin 4 → Fin R → Fin K) (he : ∀ f p, (e f p).val = f.val * R + p.val) :
    bitdot hK x w a c = (∑ p, x (ix2 a (e 0 p)) * trit 0 (w (ix2 p c))) + (∑ p, x (ix2 a (e 1 p)) * trit 1 (w (ix2 p c)))
      + (∑ p, x (ix2 a (e 2 p)) * trit 2 (w (ix2 p c))) + (∑ p, x (ix2 a (e 3 p)) * trit 3 (w (ix2 p c))) := by
  have key : ∀ f p, weight hK w (e f p) c = trit f.val (w (ix2 p c)) := fun f p => by
    unfold weight
    have h1 : (e f p).val / R = f.val := by
      rw [he, Nat.mul_comm, Nat.mul_add_div (by have := p.isLt; omega), Nat.div_eq_of_lt p.isLt, Nat.add_zero]
    have h2 : (⟨(e f p).val % R, Nat.mod_lt _ (by have := p.isLt; omega)⟩ : Fin R) = p :=
      Fin.ext (by show (e f p).val % R = _; rw [he, Nat.mul_comm, Nat.mul_add_mod, Nat.mod_eq_of_lt p.isLt])
    rw [h1, h2]
  unfold bitdot
  rw [sum_fields hK _ e he]
  simp only [key]
  rfl

/-- The reference's linear layer at an index: its four products, added. -/
theorem host_apply (hK : K = 4 * R) (h8 : 8 < 32) (x : FVec Ideal ⟨2, ![M, K]⟩ .bf16) {o1 o2 o3 : ℕ}
    (s0 : (⟨2, ![M, K]⟩ : Shape).Slices ![0, 0] ⟨2, ![M, R]⟩) (s1 : (⟨2, ![M, K]⟩ : Shape).Slices ![0, o1] ⟨2, ![M, R]⟩)
    (s2 : (⟨2, ![M, K]⟩ : Shape).Slices ![0, o2] ⟨2, ![M, R]⟩) (s3 : (⟨2, ![M, K]⟩ : Shape).Slices ![0, o3] ⟨2, ![M, R]⟩)
    (h1 : o1 = 1 * R) (h2 : o2 = 2 * R) (h3 : o3 = 3 * R) (w : IVec ⟨2, ![R, n]⟩ 8) (a : Fin M) (c : Fin n) :
    (addf (addf (addf
      (Host.dotGeneral (F := Ideal) (φ₁ := .bf16) (φ₂ := .bf16) (DotDims.plain M R n) none (extractStridedSlice ⟨2, ![M, R]⟩ ![0, 0] x s0)
        (hfield h8 (fun _ => 0#32) (fun _ => 3#32) (fun _ => 1#32) w))
      (Host.dotGeneral (F := Ideal) (φ₁ := .bf16) (φ₂ := .bf16) (DotDims.plain M R n) none (extractStridedSlice ⟨2, ![M, R]⟩ ![0, o1] x s1)
        (hfield h8 (fun _ => 2#32) (fun _ => 3#32) (fun _ => 1#32) w)))
      (Host.dotGeneral (F := Ideal) (φ₁ := .bf16) (φ₂ := .bf16) (DotDims.plain M R n) none (extractStridedSlice ⟨2, ![M, R]⟩ ![0, o2] x s2)
        (hfield h8 (fun _ => 4#32) (fun _ => 3#32) (fun _ => 1#32) w)))
      (Host.dotGeneral (F := Ideal) (φ₁ := .bf16) (φ₂ := .bf16) (DotDims.plain M R n) none (extractStridedSlice ⟨2, ![M, R]⟩ ![0, o3] x s3)
        (hfield h8 (fun _ => 6#32) (fun _ => 3#32) (fun _ => 1#32) w)) : FVec Ideal ⟨2, ![M, n]⟩ .f32) (ix2 a c)
      = bitdot hK x w a c := by
  have hb : ∀ (f : Fin 4) (p : Fin R), f.val * R + p.val < K := fun f p => by
    have hf : f.val * R ≤ 3 * R := Nat.mul_le_mul_right R (by omega)
    omega
  rw [bitdot_split hK x w a c (fun f p => ⟨f.val * R + p.val, hb f p⟩) (fun _ _ => rfl)]
  have p0 := host_part 0 h8 (fun _ => 0#32) (fun _ => 3#32) (fun _ => 1#32) (fun _ => rfl) (fun _ => rfl) (fun _ => rfl) 0 (Nat.zero_mul R).symm x s0 w
    (fun p => ⟨_, hb 0 p⟩) (fun _ => rfl) a c
  have p1 := host_part 1 h8 (fun _ => 2#32) (fun _ => 3#32) (fun _ => 1#32) (fun _ => rfl) (fun _ => rfl) (fun _ => rfl) o1 h1 x s1 w
    (fun p => ⟨_, hb 1 p⟩) (fun _ => rfl) a c
  have p2 := host_part 2 h8 (fun _ => 4#32) (fun _ => 3#32) (fun _ => 1#32) (fun _ => rfl) (fun _ => rfl) (fun _ => rfl) o2 h2 x s2 w
    (fun p => ⟨_, hb 2 p⟩) (fun _ => rfl) a c
  have p3 := host_part 3 h8 (fun _ => 6#32) (fun _ => 3#32) (fun _ => 1#32) (fun _ => rfl) (fun _ => rfl) (fun _ => rfl) o3 h3 x s3 w
    (fun p => ⟨_, hb 3 p⟩) (fun _ => rfl) a c
  exact congrArg₂ (· + ·) (congrArg₂ (· + ·) (congrArg₂ (· + ·) p0 p1) p2) p3

/-- Two ternary products agree when the rows and the packed columns agree entry by entry. -/
theorem bitdot_congr {M' n' : ℕ} (hK : K = 4 * R) {x : (⟨2, ![M, K]⟩ : Shape).Idx → EReal} {x' : (⟨2, ![M', K]⟩ : Shape).Idx → EReal}
    {w : (⟨2, ![R, n]⟩ : Shape).Idx → BitVec 8} {w' : (⟨2, ![R, n']⟩ : Shape).Idx → BitVec 8} {a : Fin M} {a' : Fin M'} {c : Fin n} {c' : Fin n'}
    (hx : ∀ k, x (ix2 a k) = x' (ix2 a' k)) (hw : ∀ p, w (ix2 p c) = w' (ix2 p c')) :
    bitdot hK x w a c = bitdot hK x' w' a' c' := by
  unfold bitdot weight
  exact Finset.sum_congr rfl fun k _ => by rw [hx, hw]

end Cert.Unpack

end
-- ==== Proof.GateUpValue.lean ====
/- The gate and up product. The kernel's result array, block by block, and the reference's result are the same function of
   the arguments: the rectified gate product squared, times the up product. -/
module

public import proofs.«01_k».proof.Defs
public import proofs.«01_k».proof.Proof.Gen.GateUp.Frame
public import proofs.«01_k».proof.Proof.Gen.GateUpIdeal.Value
public import proofs.«01_k».proof.Proof.Gen.GateUpRefIdeal.Run
public import proofs.«01_k».proof.Proof.Gen.GateUpRefIdeal.Read
public import proofs.«01_k».proof.Proof.Bitlinear
public import Idealize.ShloMosaic.Lib.Quiescent

@[expose] public section

set_option maxRecDepth 16384

noncomputable section

open Cert.Unpack Idealize.ShloMosaic Idealize.ShloMosaic.TcCoe Idealize.ShloMosaic.ValueIdx Idealize.SL.Sem
open Idealize.ShloMosaic.Pipeline (Dat Window)
open scoped BigOperators

namespace Cert.GateUpIdeal.Sum

open Cert.GateUpIdeal Cert.GateUpIdeal.Gen

theorem h7168 : 7168 = 4 * 1792 := rfl

/-- The mathematics of the call: the rectified gate product squared, times the up product. -/
def gateUp (x : S1280x7168.Idx → EReal) (wg wu : S1792x18944.Idx → BitVec 8) (s : S2.Idx → EReal) (a : Fin 1280) (c : Fin 18944) : EReal :=
  max (bitdot h7168 x wg a c * s (ix1 0)) 0 * max (bitdot h7168 x wg a c * s (ix1 0)) 0 * (bitdot h7168 x wu a c * s (ix1 1))

/-! ## The kernel -/

theorem pay2_apply (v0 : Vec Ideal S640x7168 .bf16) (v1 : Vec Ideal S1792x256 .i8) (v35 : Elt Ideal .f32) (a : Fin 640) (l : Fin 256) :
    k0_pay2 (F := Ideal) v0 v1 v35 (ix2 a l) = bitdot h7168 v0 v1 a l * v35 := by
  show FloatOps.matmul (DotDims.plain 640 7168 256) none v0 (kunpack bitcasts_S1792x256_w8_S448x256_w32 bitcasts_S448x256_w32_S1792x256_w8
    concatenates_S1792x256_S1792x256_S1792x256_S1792x256_S7168x256_d0 v1) (constant ⟨2, ![640, 256]⟩ .f32 0x00000000#32) (ix2 a l) * v35 = _
  rw [kernel_apply h7168]

theorem pay1_apply (v0 : Vec Ideal S640x7168 .bf16) (v37 : FVec Ideal S640x256 .f32) (v38 : Vec Ideal S1792x256 .i8) (v72 : Elt Ideal .f32) (a : Fin 640) (l : Fin 256) :
    k0_pay1 (F := Ideal) v0 v37 v38 v72 (ix2 a l)
      = max (v37 (ix2 a l)) 0 * max (v37 (ix2 a l)) 0 * (bitdot h7168 v0 v38 a l * v72) := by
  show max (v37 (ix2 a l)) (Ideal.ofBits .f32 0x00000000#32) * max (v37 (ix2 a l)) (Ideal.ofBits .f32 0x00000000#32)
    * (FloatOps.matmul (DotDims.plain 640 7168 256) none v0 (kunpack bitcasts_S1792x256_w8_S448x256_w32 bitcasts_S448x256_w32_S1792x256_w8
      concatenates_S1792x256_S1792x256_S1792x256_S1792x256_S7168x256_d0 v38) (constant ⟨2, ![640, 256]⟩ .f32 0x00000000#32) (ix2 a l) * v72) = _
  rw [kernel_apply h7168, Ideal.ofBits_zero_f32]

theorem hz : (![0, 0] : Fin 2 → Nat) = fun _ => 0 := funext fun a => by fin_cases a <;> rfl

section
variable (m : (ℓ : Loc nD τ sig) → Buf (Elt Ideal) ℓ) (ρ : Dev nD → PrngReg)

theorem ix1_0 : ∀ t : Fin cfg0.N, win0_1.index t 0 = t.val / 74 := (by decide +kernel : ∀ t : Fin grid0.N, win0_1.index t 0 = t.val / 74)
theorem ix1_1 : ∀ t : Fin cfg0.N, win0_1.index t 1 = 0 := (by decide +kernel : ∀ t : Fin grid0.N, win0_1.index t 1 = 0)
theorem ix2_0 : ∀ t : Fin cfg0.N, win0_2.index t 0 = 0 := (by decide +kernel : ∀ t : Fin grid0.N, win0_2.index t 0 = 0)
theorem ix2_1 : ∀ t : Fin cfg0.N, win0_2.index t 1 = t.val % 74 := (by decide +kernel : ∀ t : Fin grid0.N, win0_2.index t 1 = t.val % 74)
theorem ix3_0 : ∀ t : Fin cfg0.N, win0_3.index t 0 = 0 := (by decide +kernel : ∀ t : Fin grid0.N, win0_3.index t 0 = 0)
theorem ix3_1 : ∀ t : Fin cfg0.N, win0_3.index t 1 = t.val % 74 := (by decide +kernel : ∀ t : Fin grid0.N, win0_3.index t 1 = t.val % 74)
theorem ix4_0 : ∀ t : Fin cfg0.N, win0_4.index t 0 = t.val / 74 := (by decide +kernel : ∀ t : Fin grid0.N, win0_4.index t 0 = t.val / 74)
theorem ix4_1 : ∀ t : Fin cfg0.N, win0_4.index t 1 = t.val % 74 := (by decide +kernel : ∀ t : Fin grid0.N, win0_4.index t 1 = t.val % 74)
theorem ix0_0 : ∀ t : Fin cfg0.N, win0_0.index t 0 = 0 := (by decide +kernel : ∀ t : Fin grid0.N, win0_0.index t 0 = 0)

theorem lt_N (t : Fin cfg0.N) : t.val < 148 := lt_of_lt_of_eq t.isLt N_0

/-- The row of the whole array that row `a` of point `t`'s block is, and the lane that lane `l` is. -/
def row (t : Fin cfg0.N) (a : Fin 640) : Fin 1280 := ⟨t.val / 74 * 640 + a.val, by have := lt_N t; omega⟩
def lane (t : Fin cfg0.N) (l : Fin 256) : Fin 18944 := ⟨t.val % 74 * 256 + l.val, by omega⟩

theorem blk0 (c : Dev nD) (t : Fin cfg0.N) (k : Fin 2) : iblk m c 0 t (ix1 k) = m ((c : Thread nD τ).loc main_arg3) (ix1 k) := by
  show m ((c : Thread nD τ).loc main_arg3) ((win0_0.rect t).emb (ix1 k)) = _
  refine congrArg (m ((c : Thread nD τ).loc main_arg3)) (funext fun d => Fin.ext ?_)
  match d with
  | ⟨0, _⟩ => exact Window.rect_emb_val_of_index_zero win0_0 t 0 (ix0_0 t) _

theorem blk1 (c : Dev nD) (t : Fin cfg0.N) (a : Fin 640) (k : Fin 7168) :
    iblk m c 1 t (ix2 a k) = m ((c : Thread nD τ).loc main_arg0) (ix2 (row t a) k) := by
  show m ((c : Thread nD τ).loc main_arg0) ((win0_1.rect t).emb (ix2 a k)) = _
  refine congrArg (m ((c : Thread nD τ).loc main_arg0)) (funext fun d => Fin.ext ?_)
  match d with
  | ⟨0, _⟩ => exact (Window.rect_emb_val win0_1 t _ 0).trans (congrArg (· * 640 + a.val) (ix1_0 t))
  | ⟨1, _⟩ => exact Window.rect_emb_val_of_index_zero win0_1 t 1 (ix1_1 t) _

theorem blk2 (c : Dev nD) (t : Fin cfg0.N) (p : Fin 1792) (l : Fin 256) :
    iblk m c 2 t (ix2 p l) = m ((c : Thread nD τ).loc main_arg1) (ix2 p (lane t l)) := by
  show m ((c : Thread nD τ).loc main_arg1) ((win0_2.rect t).emb (ix2 p l)) = _
  refine congrArg (m ((c : Thread nD τ).loc main_arg1)) (funext fun d => Fin.ext ?_)
  match d with
  | ⟨0, _⟩ => exact Window.rect_emb_val_of_index_zero win0_2 t 0 (ix2_0 t) _
  | ⟨1, _⟩ => exact (Window.rect_emb_val win0_2 t _ 1).trans (congrArg (· * 256 + l.val) (ix2_1 t))

theorem blk3 (c : Dev nD) (t : Fin cfg0.N) (p : Fin 1792) (l : Fin 256) :
    iblk m c 3 t (ix2 p l) = m ((c : Thread nD τ).loc main_arg2) (ix2 p (lane t l)) := by
  show m ((c : Thread nD τ).loc main_arg2) ((win0_3.rect t).emb (ix2 p l)) = _
  refine congrArg (m ((c : Thread nD τ).loc main_arg2)) (funext fun d => Fin.ext ?_)
  match d with
  | ⟨0, _⟩ => exact Window.rect_emb_val_of_index_zero win0_3 t 0 (ix3_0 t) _
  | ⟨1, _⟩ => exact (Window.rect_emb_val win0_3 t _ 1).trans (congrArg (· * 256 + l.val) (ix3_1 t))

/-- What the kernel's result array is shown to hold. -/
def val (c : Dev nD) : Buf (Elt Ideal) ((c : Thread nD τ).loc main_v0) := fun i =>
  gateUp (m ((c : Thread nD τ).loc main_arg0)) (m ((c : Thread nD τ).loc main_arg1)) (m ((c : Thread nD τ).loc main_arg2))
    (m ((c : Thread nD τ).loc main_arg3)) (i 0) (i 1)

/-- What the body leaves at an index of its block. -/
theorem outs_apply (c : Dev nD) (t : Fin cfg0.N) (a : Fin 640) (l : Fin 256) :
    outsAt0 m c t (ix2 a l) = val m c (ix2 (row t a) (lane t l)) := by
  unfold outsAt0 out0_A_4
  rw [View.read_writes_eq_canon _ _ _ (cover0_A_4 c _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rw [View.canon_unit_zero hz, pay1_apply, pay2_apply, View.ld_unit_zero (S := S640x7168) hz, View.ld_unit_zero (S := S1792x256) hz,
    View.ld_unit_zero (S := S1792x256) hz]
  have e0 : ∀ h, View.ld (iblk m c 0 t) (Rect.unit ![0] ![1] inb_S2_S1_0) (Shape.Idx.first h) = m ((c : Thread nD τ).loc main_arg3) (ix1 0) := by
    intro h; rw [← blk0 m c t 0]
    exact congrArg (iblk m c 0 t) (funext fun d => Fin.ext (by match d with | ⟨0, _⟩ => rfl))
  have e1 : ∀ h, View.ld (iblk m c 0 t) (Rect.unit ![1] ![1] inb_S2_S1_1) (Shape.Idx.first h) = m ((c : Thread nD τ).loc main_arg3) (ix1 1) := by
    intro h; rw [← blk0 m c t 1]
    exact congrArg (iblk m c 0 t) (funext fun d => Fin.ext (by match d with | ⟨0, _⟩ => rfl))
  rw [e0, e1]
  have b2 : bitdot h7168 (iblk m c 1 t) (iblk m c 2 t) a l
      = bitdot h7168 (m ((c : Thread nD τ).loc main_arg0)) (m ((c : Thread nD τ).loc main_arg1)) (row t a) (lane t l) :=
    bitdot_congr h7168 (fun k => blk1 m c t a k) (fun p => blk2 m c t p l)
  have b3 : bitdot h7168 (iblk m c 1 t) (iblk m c 3 t) a l
      = bitdot h7168 (m ((c : Thread nD τ).loc main_arg0)) (m ((c : Thread nD τ).loc main_arg2)) (row t a) (lane t l) :=
    bitdot_congr h7168 (fun k => blk1 m c t a k) (fun p => blk3 m c t p l)
  rw [b2, b3]
  rfl

/-- What point `t` writes back is block `t` of `val`. -/
theorem flushed_eq (c : Dev nD) (t : Fin cfg0.N) :
    (dats m 0 c).flushed 4 t = ((cfg0.win 4).blk t).view.read (Elt Ideal) (val m c) := by
  rw [Value.flushed4]
  funext j
  obtain ⟨a, l, rfl⟩ : ∃ (a : Fin 640) (l : Fin 256), j = ix2 a l := ⟨j 0, j 1, eq_ix2 (n0 := 640) (n1 := 256) j⟩
  show outsAt0 m c t (ix2 a l) = val m c ((win0_4.rect t).emb (ix2 a l))
  refine (outs_apply m c t a l).trans (congrArg (val m c) (funext fun d => Fin.ext ?_))
  match d with
  | ⟨0, _⟩ => exact ((Window.rect_emb_val win0_4 t (ix2 (n0 := 640) (n1 := 256) a l) 0).trans (congrArg (· * 640 + a.val) (ix4_0 t))).symm
  | ⟨1, _⟩ => exact ((Window.rect_emb_val win0_4 t (ix2 (n0 := 640) (n1 := 256) a l) 1).trans (congrArg (· * 256 + l.val) (ix4_1 t))).symm

/-- The blocks tile the result array. -/
theorem cover (i : S1280x18944.Idx) : ∃ t : Fin cfg0.N, (cfg0.win 4).flush t = true ∧ i ∈ ((cfg0.win 4).blk t).view.set := by
  have h0 : (i 0 : Nat) < 1280 := (i 0).isLt
  have h1 : (i 1 : Nat) < 18944 := (i 1).isLt
  have hN : cfg0.N = 148 := N_0
  have ht : (i 0 : Nat) / 640 * 74 + (i 1 : Nat) / 256 < cfg0.N := by omega
  refine ⟨⟨_, ht⟩, flush0_4 _, ?_⟩
  generalize hT : (⟨_, ht⟩ : Fin cfg0.N) = t
  have tv : t.val = (i 0 : Nat) / 640 * 74 + (i 1 : Nat) / 256 := by rw [← hT]
  show i ∈ ((View.whole main_v0).slice (win0_4.rect t)).set
  rw [View.set_slice_whole, Rect.mem_set_unit]
  intro d
  match d with
  | ⟨0, _⟩ =>
    show win0_4.index t 0 * 640 ≤ (i 0 : Nat) ∧ (i 0 : Nat) < win0_4.index t 0 * 640 + 640
    rw [ix4_0]; omega
  | ⟨1, _⟩ =>
    show win0_4.index t 1 * 256 ≤ (i 1 : Nat) ∧ (i 1 : Nat) < win0_4.index t 1 * 256 + 256
    rw [ix4_1]; omega

theorem final (c : Dev nD) : (dats m 0 c).arrAt 4 cfg0.N = val m c :=
  (dats m 0 c).arrAt_eq_of_cover 4 (val m c) (fun t _ => flushed_eq m c t) cover

end

end Cert.GateUpIdeal.Sum

/-! ## The reference -/

namespace Cert.GateUpRefIdeal.Sum

open Cert.GateUpRefIdeal Cert.GateUpRefIdeal.Gen Cert.GateUpRefIdeal.Read Cert.GateUpIdeal.Sum

theorem v44_apply (x0 : Vec Ideal S1280x7168 .bf16) (x1 : Vec Ideal S1792x18944 .i8) (a : Fin 1280) (c : Fin 18944) :
    val_main_v44 (F := Ideal) x0 x1 (ix2 a c) = bitdot h7168 x0 x1 a c :=
  host_apply h7168 natLt_8_32 x0 slices_S1280x7168_S1280x1792_0_0 slices_S1280x7168_S1280x1792_0_1792 slices_S1280x7168_S1280x1792_0_3584
    slices_S1280x7168_S1280x1792_0_5376 rfl rfl rfl x1 a c

theorem v91_apply (x0 : Vec Ideal S1280x7168 .bf16) (x2 : Vec Ideal S1792x18944 .i8) (a : Fin 1280) (c : Fin 18944) :
    val_main_v91 (F := Ideal) x0 x2 (ix2 a c) = bitdot h7168 x0 x2 a c :=
  host_apply h7168 natLt_8_32 x0 slices_S1280x7168_S1280x1792_0_0 slices_S1280x7168_S1280x1792_0_1792 slices_S1280x7168_S1280x1792_0_3584
    slices_S1280x7168_S1280x1792_0_5376 rfl rfl rfl x2 a c

theorem v1_apply (x3 : Vec Ideal S2 .f32) (i : S_.Idx) : val_main_v1 (F := Ideal) x3 i = x3 (ix1 0) := by
  show val_main_v0 (F := Ideal) x3 _ = _
  rw [val_main_v0_apply]
  exact congrArg x3 (funext fun d => Fin.ext (by match d with | ⟨0, _⟩ => exact Nat.lt_one_iff.mp (((Shape.reshapeEquiv shapeCasts_S1_S_) i) 0).isLt))

theorem v48_apply (x3 : Vec Ideal S2 .f32) (i : S_.Idx) : val_main_v48 (F := Ideal) x3 i = x3 (ix1 1) := by
  show val_main_v47 (F := Ideal) x3 _ = _
  rw [val_main_v47_apply]
  exact congrArg x3 (funext fun d => Fin.ext (by match d with | ⟨0, _⟩ => exact congrArg (1 + ·) (Nat.lt_one_iff.mp (Fin.isLt _))))

/-- The reference's result at an index. -/
theorem v96_apply (x0 : Vec Ideal S1280x7168 .bf16) (x1 x2 : Vec Ideal S1792x18944 .i8) (x3 : Vec Ideal S2 .f32) (i : S1280x18944.Idx) :
    val_main_v96 (F := Ideal) x0 x1 x2 x3 i = gateUp x0 x1 x2 x3 (i 0) (i 1) := by
  obtain ⟨a, c, rfl⟩ : ∃ (a : Fin 1280) (c : Fin 18944), i = ix2 a c := ⟨i 0, i 1, eq_ix2 (n0 := 1280) (n1 := 18944) i⟩
  have g : val_main_v46 (F := Ideal) x0 x1 x3 (ix2 a c) = bitdot h7168 x0 x1 a c * x3 (ix1 0) := by
    rw [val_main_v46_apply, v44_apply, val_main_v45_apply, v1_apply]; rfl
  have u : val_main_v93 (F := Ideal) x0 x2 x3 (ix2 a c) = bitdot h7168 x0 x2 a c * x3 (ix1 1) := by
    rw [val_main_v93_apply, v91_apply, val_main_v92_apply, v48_apply]; rfl
  have z : val_main_call0_v0 (F := Ideal) (ix2 a c) = 0 := Ideal.ofBits_zero_f32
  rw [val_main_v96_apply, val_main_v95_apply, val_main_v94_apply, g, u, z]
  rfl

end Cert.GateUpRefIdeal.Sum

/-! ## The claims -/

namespace Cert.Proof.GateUpClaims

theorem frame_p : Cert.quiescent_GateUp := fun m ρ _ => Cert.GateUp.Gen.frame m ρ
theorem frame_pi : Cert.quiescent_GateUpIdeal := fun m ρ _ => Cert.GateUpIdeal.Gen.frame m ρ
theorem frame_ri : Cert.quiescent_GateUpRefIdeal := fun m ρ _ =>
  (θ_run Cert.GateUpRefIdeal.defs _ _).mono (fun r h => ⟨fun c => (h c).2, Idealize.ShloMosaic.sem_eq_zero_of_no_sems (by decide) r.2⟩)
    (Cert.GateUpRefIdeal.Value.run (F := Ideal) m ρ)
theorem preserves : Cert.preserves_GateUp_GateUpIdeal := trivial

/-- Both programs end with the rectified gate product squared, times the up product. -/
theorem algebraic : Cert.algebraic_GateUpIdeal_GateUpRefIdeal := by
  intro m ρ m' ρ' _ hag
  refine ⟨fun c => Cert.GateUpIdeal.Sum.val m c, ?_, ?_⟩
  · exact (θ_run _ _ _).mono (fun _ h c => ⟨(h c).1.trans (Cert.GateUpIdeal.Sum.final m c), (h c).2⟩)
      (Cert.GateUpIdeal.Value.run_blocks m ρ)
  · refine (θ_run _ _ _).mono (fun _ h c => ⟨(h c).1.trans ?_, (h c).2⟩) (Cert.GateUpRefIdeal.Value.run (F := Ideal) m' ρ')
    rw [Cert.GateUpRefIdeal.Read.val_main_v96_eq, (hag c).1, (hag c).2.1, (hag c).2.2.1, (hag c).2.2.2]
    exact funext fun i => Cert.GateUpRefIdeal.Sum.v96_apply _ _ _ _ i

end Cert.Proof.GateUpClaims

end
-- ==== Proof.Down0Value.lean ====
/- The down product added to its residual, for the first sequence of the batch. What the call leaves in the rows of that
   sequence and what the reference computes are the same function of the arguments. -/
module

public import proofs.«01_k».proof.Defs
public import proofs.«01_k».proof.Proof.Gen.Down0.Frame
public import proofs.«01_k».proof.Proof.Gen.Down0Ideal.Value
public import proofs.«01_k».proof.Proof.Gen.Down0RefIdeal.Run
public import proofs.«01_k».proof.Proof.Gen.Down0RefIdeal.Read
public import proofs.«01_k».proof.Proof.Gen.On_first_rows_Down0Ideal
public import proofs.«01_k».proof.Proof.Bitlinear
public import Idealize.ShloMosaic.Lib.Pipeline.ValueKit
public import Idealize.ShloMosaic.Lib.Pipeline.ValueKit.Partial
public import Idealize.ShloMosaic.Lib.Quiescent

@[expose] public section

set_option maxRecDepth 16384

noncomputable section

open Cert.Unpack
open Idealize.ShloMosaic hiding ix0 ix1 ix2 eq_ix2
open Idealize.ShloMosaic.TcCoe Idealize.ShloMosaic.ValueIdx Idealize.SL.Sem
open Idealize.ShloMosaic.Pipeline (Dat Window)
open scoped BigOperators

namespace Cert.Down0Ideal.Sum

open Cert.Down0Ideal Cert.Down0Ideal.Gen

theorem hK : 18944 = 4 * 4736 := rfl

/-- The mathematics of the call: the residual plus the scaled product. -/
def added (x : S1280x18944.Idx → EReal) (w : S4736x7168.Idx → BitVec 8) (s : S_.Idx → EReal) (res : S1280x7168.Idx → EReal) (a : Fin 1280) (c : Fin 7168) : EReal :=
  res (ix2 a c) + bitdot hK x w a c * s ix0

/-! ## The kernel -/

theorem pay2_apply (v0 : Vec Ideal S640x18944 .bf16) (v1 : Vec Ideal S4736x256 .i8) (v35 : Vec Ideal S640x256 .f32) (v36 : Elt Ideal .f32) (a : Fin 640) (l : Fin 256) :
    k0_pay2 (F := Ideal) v0 v1 v35 v36 (ix2 a l) = v35 (ix2 a l) + bitdot hK v0 v1 a l * v36 := by
  show v35 (ix2 a l) + FloatOps.matmul (DotDims.plain 640 18944 256) none v0 (kunpack bitcasts_S4736x256_w8_S1184x256_w32 bitcasts_S1184x256_w32_S4736x256_w8
    concatenates_S4736x256_S4736x256_S4736x256_S4736x256_S18944x256_d0 v1) (constant ⟨2, ![640, 256]⟩ .f32 0x00000000#32) (ix2 a l) * v36 = _
  rw [kernel_apply hK]

theorem pay1_apply (v39 : FVec Ideal S640x256 .f32) (a : Fin 640) (l : Fin 256) : k0_pay1 (F := Ideal) v39 (ix2 a l) = v39 (ix2 a l) := rfl

theorem hz : (![0, 0] : Fin 2 → Nat) = fun _ => 0 := funext fun a => by fin_cases a <;> rfl

section
variable (m : (ℓ : Loc nD τ sig) → Buf (Elt Ideal) ℓ) (ρ : Dev nD → PrngReg)

theorem ix0_0 : ∀ t : Fin cfg0.N, win0_0.index t 0 = 0 := (by decide +kernel : ∀ t : Fin grid0.N, win0_0.index t 0 = 0)
theorem ix1_0 : ∀ t : Fin cfg0.N, win0_1.index t 0 = 0 := (by decide +kernel : ∀ t : Fin grid0.N, win0_1.index t 0 = 0)
theorem ix1_1 : ∀ t : Fin cfg0.N, win0_1.index t 1 = 0 := (by decide +kernel : ∀ t : Fin grid0.N, win0_1.index t 1 = 0)
theorem ix2_0 : ∀ t : Fin cfg0.N, win0_2.index t 0 = 0 := (by decide +kernel : ∀ t : Fin grid0.N, win0_2.index t 0 = 0)
theorem ix2_1 : ∀ t : Fin cfg0.N, win0_2.index t 1 = t.val := (by decide +kernel : ∀ t : Fin grid0.N, win0_2.index t 1 = t.val)
theorem ix3_0 : ∀ t : Fin cfg0.N, win0_3.index t 0 = 0 := (by decide +kernel : ∀ t : Fin grid0.N, win0_3.index t 0 = 0)
theorem ix3_1 : ∀ t : Fin cfg0.N, win0_3.index t 1 = t.val := (by decide +kernel : ∀ t : Fin grid0.N, win0_3.index t 1 = t.val)
theorem ix4_0 : ∀ t : Fin cfg0.N, win0_4.index t 0 = 0 := (by decide +kernel : ∀ t : Fin grid0.N, win0_4.index t 0 = 0)
theorem ix4_1 : ∀ t : Fin cfg0.N, win0_4.index t 1 = t.val := (by decide +kernel : ∀ t : Fin grid0.N, win0_4.index t 1 = t.val)

theorem lt_N (t : Fin cfg0.N) : t.val < 28 := lt_of_lt_of_eq t.isLt N_0

/-- The row of the whole array that row `a` of a block is, and the lane that lane `l` of point `t`'s block is. -/
def row (a : Fin 640) : Fin 1280 := ⟨0 * 640 + a.val, by omega⟩
def lane (t : Fin cfg0.N) (l : Fin 256) : Fin 7168 := ⟨t.val * 256 + l.val, by have := lt_N t; omega⟩

/-- The scale reaches the call through a reshape of the rank-zero argument. -/
theorem V_scale (c : Dev nD) (i : S1.Idx) : V m c main_v0 i = m ((c : Thread nD τ).loc main_arg2) ix0 := by
  have e : V m c main_v0 = shapeCast S1 (m ((c : Thread nD τ).loc main_arg2)) shapeCasts_S_S1 := by
    unfold V hostOps0
    after_results
    rfl
  rw [e]
  exact congrArg (m ((c : Thread nD τ).loc main_arg2)) (funext fun d => d.elim0)

theorem blk0 (c : Dev nD) (t : Fin cfg0.N) (i : S1.Idx) : iblk m c 0 t i = m ((c : Thread nD τ).loc main_arg2) ix0 :=
  V_scale m c _

theorem blk1 (c : Dev nD) (t : Fin cfg0.N) (a : Fin 640) (k : Fin 18944) :
    iblk m c 1 t (ix2 a k) = m ((c : Thread nD τ).loc main_arg0) (ix2 (row a) k) := by
  show V m c main_arg0 ((win0_1.rect t).emb (ix2 a k)) = _
  rw [V_main_arg0]
  refine congrArg (m ((c : Thread nD τ).loc main_arg0)) (funext fun d => Fin.ext ?_)
  match d with
  | ⟨0, _⟩ => exact (Window.rect_emb_val win0_1 t _ 0).trans (congrArg (· * 640 + a.val) (ix1_0 t))
  | ⟨1, _⟩ => exact Window.rect_emb_val_of_index_zero win0_1 t 1 (ix1_1 t) _

theorem blk2 (c : Dev nD) (t : Fin cfg0.N) (p : Fin 4736) (l : Fin 256) :
    iblk m c 2 t (ix2 p l) = m ((c : Thread nD τ).loc main_arg1) (ix2 p (lane t l)) := by
  show V m c main_arg1 ((win0_2.rect t).emb (ix2 p l)) = _
  rw [V_main_arg1]
  refine congrArg (m ((c : Thread nD τ).loc main_arg1)) (funext fun d => Fin.ext ?_)
  match d with
  | ⟨0, _⟩ => exact Window.rect_emb_val_of_index_zero win0_2 t 0 (ix2_0 t) _
  | ⟨1, _⟩ => exact (Window.rect_emb_val win0_2 t _ 1).trans (congrArg (· * 256 + l.val) (ix2_1 t))

theorem blk3 (c : Dev nD) (t : Fin cfg0.N) (a : Fin 640) (l : Fin 256) :
    iblk m c 3 t (ix2 a l) = m ((c : Thread nD τ).loc main_arg3) (ix2 (row a) (lane t l)) := by
  show V m c main_arg3 ((win0_3.rect t).emb (ix2 a l)) = _
  rw [V_main_arg3]
  refine congrArg (m ((c : Thread nD τ).loc main_arg3)) (funext fun d => Fin.ext ?_)
  match d with
  | ⟨0, _⟩ => exact (Window.rect_emb_val win0_3 t _ 0).trans (congrArg (· * 640 + a.val) (ix3_0 t))
  | ⟨1, _⟩ => exact (Window.rect_emb_val win0_3 t _ 1).trans (congrArg (· * 256 + l.val) (ix3_1 t))

/-- What the call leaves in the rows it writes. -/
def val (c : Dev nD) : Buf (Elt Ideal) ((c : Thread nD τ).loc main_v1) := fun i =>
  added (m ((c : Thread nD τ).loc main_arg0)) (m ((c : Thread nD τ).loc main_arg1)) (m ((c : Thread nD τ).loc main_arg2))
    (m ((c : Thread nD τ).loc main_arg3)) (i 0) (i 1)

/-- What the body leaves at an index of its block. -/
theorem outs_apply (c : Dev nD) (t : Fin cfg0.N) (a : Fin 640) (l : Fin 256) :
    outsAt0 m c t (ix2 a l) = val m c (ix2 (row a) (lane t l)) := by
  unfold outsAt0 out0_A_4
  rw [View.read_writes_eq_canon _ _ _ (cover0_A_4 c _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rw [View.canon_unit_zero hz, pay1_apply, pay2_apply, View.ld_unit_zero (S := S640x18944) hz, View.ld_unit_zero (S := S4736x256) hz,
    View.ld_unit_zero (S := S640x256) hz]
  have e0 : ∀ h, View.ld (iblk m c 0 t) (Rect.unit ![0] ![1] inb_S1_S1_0) (Shape.Idx.first h) = m ((c : Thread nD τ).loc main_arg2) ix0 :=
    fun h => blk0 m c t _
  have b1 : bitdot hK (iblk m c 1 t) (iblk m c 2 t) a l
      = bitdot hK (m ((c : Thread nD τ).loc main_arg0)) (m ((c : Thread nD τ).loc main_arg1)) (row a) (lane t l) :=
    bitdot_congr hK (fun k => blk1 m c t a k) (fun p => blk2 m c t p l)
  rw [e0, b1, blk3]
  rfl

/-- What point `t` leaves at an index of its block is `val` where the block lies. -/
theorem point (c : Dev nD) (t : Fin cfg0.N) (j : S640x256.Idx) : outsAt0 m c t j = val m c ((win0_4.rect t).emb j) := by
  obtain ⟨a, l, rfl⟩ : ∃ (a : Fin 640) (l : Fin 256), j = ix2 a l := ⟨j 0, j 1, eq_ix2 (n0 := 640) (n1 := 256) j⟩
  refine (outs_apply m c t a l).trans (congrArg (val m c) (funext fun d => Fin.ext ?_))
  match d with
  | ⟨0, _⟩ => exact ((Window.rect_emb_val win0_4 t (ix2 (n0 := 640) (n1 := 256) a l) 0).trans (congrArg (· * 640 + a.val) (ix4_0 t))).symm
  | ⟨1, _⟩ => exact ((Window.rect_emb_val win0_4 t (ix2 (n0 := 640) (n1 := 256) a l) 1).trans (congrArg (· * 256 + l.val) (ix4_1 t))).symm

/-- The array after the run: `val` in the rows of the first sequence, the contents before the run elsewhere. -/
theorem final (c : Dev nD) (i : S1280x7168.Idx) : (dats m 0 c).arrAt 4 cfg0.N i
    = if (i 0 : Nat) / 640 < 1 then val m c i else V m c main_v1 i :=
  (dats m 0 c).arrAt_apply_of_coversWhere 4 (val m c) (P := fun i : S1280x7168.Idx => (i 0 : Nat) / 640 < 1)
    (fun β : Fin 2 → Nat => β 0 < 1) (by decide +kernel)
    (fun t _ y => (congrFun (after0_4 m c t) _).trans (point m c t y)) (fun _ => Iff.rfl) i

end

end Cert.Down0Ideal.Sum

/-! ## The reference -/

namespace Cert.Down0RefIdeal.Sum

open Cert.Down0RefIdeal Cert.Down0RefIdeal.Gen Cert.Down0RefIdeal.Read Cert.Down0Ideal.Sum

theorem v42_apply (x0 : Vec Ideal S1280x18944 .bf16) (x1 : Vec Ideal S4736x7168 .i8) (a : Fin 1280) (c : Fin 7168) :
    val_main_v42 (F := Ideal) x0 x1 (ix2 a c) = bitdot hK x0 x1 a c :=
  host_apply hK natLt_8_32 x0 slices_S1280x18944_S1280x4736_0_0 slices_S1280x18944_S1280x4736_0_4736 slices_S1280x18944_S1280x4736_0_9472
    slices_S1280x18944_S1280x4736_0_14208 rfl rfl rfl x1 a c

/-- The residual plus the product, at an index of the reference. -/
theorem sum_apply (x0 : Vec Ideal S1280x18944 .bf16) (x1 : Vec Ideal S4736x7168 .i8) (x2 : Vec Ideal S_ .f32) (x3 : Vec Ideal S1280x7168 .f32) (i : S1280x7168.Idx) :
    val_main_v46 (F := Ideal) x0 x1 x2 x3 i = added x0 x1 x2 x3 (i 0) (i 1) := by
  obtain ⟨a, c, rfl⟩ : ∃ (a : Fin 1280) (c : Fin 7168), i = ix2 a c := ⟨i 0, i 1, eq_ix2 (n0 := 1280) (n1 := 7168) i⟩
  have p : val_main_v44 (F := Ideal) x0 x1 x2 (ix2 a c) = bitdot hK x0 x1 a c * x2 ix0 := by
    rw [val_main_v44_apply, v42_apply, val_main_v43_apply]
    exact congrArg (fun j => bitdot hK x0 x1 a c * x2 j) (funext fun d => d.elim0)
  rw [val_main_v46_apply, val_main_v45_apply, p]
  rfl

end Cert.Down0RefIdeal.Sum

/-! ## The mask -/

namespace Cert.On_first_rows_Down0Ideal

/-- The mask is set exactly in the rows of the first sequence. -/
theorem fn_apply_iff (x0 : FVec Ideal S1280x18944 .bf16) (x1 : IVec S4736x7168 8) (x2 : FVec Ideal S_ .f32) (x3 : FVec Ideal S1280x7168 .f32) (i : S1280x7168.Idx) :
    fn x0 x1 x2 x3 i = 1#1 ↔ (i 0 : Nat) / 640 < 1 := by
  have key : ∀ r : Fin 1280, IntOp.cmpi .slt (BitVec.ofNat 32 r.val) 640#32 = 1#1 ↔ r.val / 640 < 1 := by decide +kernel
  show IntOp.cmpi .slt (BitVec.ofNat 32 (i 0 : Nat)) 640#32 = 1#1 ↔ _
  exact key (i 0)

end Cert.On_first_rows_Down0Ideal

namespace Cert.Down0RefIdeal.Sum

end Cert.Down0RefIdeal.Sum

/-! ## The claims -/

namespace Cert.Proof.Down0Claims

theorem frame_p : Cert.quiescent_Down0 := fun m ρ _ => Cert.Down0.Gen.frame m ρ
theorem frame_pi : Cert.quiescent_Down0Ideal := fun m ρ _ => Cert.Down0Ideal.Gen.frame m ρ
theorem frame_ri : Cert.quiescent_Down0RefIdeal := fun m ρ _ =>
  (θ_run Cert.Down0RefIdeal.defs _ _).mono (fun r h => ⟨fun c => (h c).2, Idealize.ShloMosaic.sem_eq_zero_of_no_sems (by decide) r.2⟩)
    (Cert.Down0RefIdeal.Value.run (F := Ideal) m ρ)
theorem preserves : Cert.preserves_Down0_Down0Ideal := trivial

/-- In the rows of the first sequence both programs end with the residual plus the scaled product. -/
theorem algebraic : Cert.algebraic_Down0Ideal_Down0RefIdeal_on_first_rows_Down0Ideal := by
  intro m ρ m' ρ' _ hag
  refine ⟨fun c => Cert.Down0Ideal.Sum.val m c, ?_, ?_⟩
  · exact (θ_run _ _ _).mono (fun _ h c => ⟨fun i hi => (congrFun (h c).1 i).trans ((Cert.Down0Ideal.Sum.final m c i).trans
      (if_pos ((Cert.On_first_rows_Down0Ideal.fn_apply_iff _ _ _ _ i).mp hi))), (h c).2⟩)
      (Cert.Down0Ideal.Value.run_blocks m ρ)
  · refine (θ_run _ _ _).mono (fun _ h c => ⟨fun i _ => (congrFun (h c).1 i).trans ?_, (h c).2⟩) (Cert.Down0RefIdeal.Value.run (F := Ideal) m' ρ')
    rw [Cert.Down0RefIdeal.Read.val_main_v46_eq, (hag c).1, (hag c).2.1, (hag c).2.2.1, (hag c).2.2.2]
    exact Cert.Down0RefIdeal.Sum.sum_apply _ _ _ _ i

end Cert.Proof.Down0Claims

end
-- ==== Proof.Down1Value.lean ====
/- The down product added to its residual, for the second sequence of the batch. What the call leaves in the rows of that
   sequence and what the reference computes are the same function of the arguments; the other rows keep the contents of the array passed in. -/
module

public import proofs.«01_k».proof.Defs
public import proofs.«01_k».proof.Proof.Gen.Down1.Frame
public import proofs.«01_k».proof.Proof.Gen.Down1Ideal.Value
public import proofs.«01_k».proof.Proof.Gen.Down1RefIdeal.Run
public import proofs.«01_k».proof.Proof.Gen.Down1RefIdeal.Read
public import proofs.«01_k».proof.Proof.Bitlinear
public import Idealize.ShloMosaic.Lib.Pipeline.ValueKit
public import Idealize.ShloMosaic.Lib.Pipeline.ValueKit.Partial
public import Idealize.ShloMosaic.Lib.Quiescent

@[expose] public section

set_option maxRecDepth 16384

noncomputable section

open Cert.Unpack
open Idealize.ShloMosaic hiding ix0 ix1 ix2 eq_ix2
open Idealize.ShloMosaic.TcCoe Idealize.ShloMosaic.ValueIdx Idealize.SL.Sem
open Idealize.ShloMosaic.Pipeline (Dat Window)
open scoped BigOperators

namespace Cert.Down1Ideal.Sum

open Cert.Down1Ideal Cert.Down1Ideal.Gen

theorem hK : 18944 = 4 * 4736 := rfl

/-- The mathematics of the call: the residual plus the scaled product. -/
def added (x : S1280x18944.Idx → EReal) (w : S4736x7168.Idx → BitVec 8) (s : S_.Idx → EReal) (res : S1280x7168.Idx → EReal) (a : Fin 1280) (c : Fin 7168) : EReal :=
  res (ix2 a c) + bitdot hK x w a c * s ix0

/-! ## The kernel -/

theorem pay2_apply (v0 : Vec Ideal S640x18944 .bf16) (v1 : Vec Ideal S4736x256 .i8) (v35 : Vec Ideal S640x256 .f32) (v36 : Elt Ideal .f32) (a : Fin 640) (l : Fin 256) :
    k0_pay2 (F := Ideal) v0 v1 v35 v36 (ix2 a l) = v35 (ix2 a l) + bitdot hK v0 v1 a l * v36 := by
  show v35 (ix2 a l) + FloatOps.matmul (DotDims.plain 640 18944 256) none v0 (kunpack bitcasts_S4736x256_w8_S1184x256_w32 bitcasts_S1184x256_w32_S4736x256_w8
    concatenates_S4736x256_S4736x256_S4736x256_S4736x256_S18944x256_d0 v1) (constant ⟨2, ![640, 256]⟩ .f32 0x00000000#32) (ix2 a l) * v36 = _
  rw [kernel_apply hK]

theorem pay1_apply (v39 : FVec Ideal S640x256 .f32) (a : Fin 640) (l : Fin 256) : k0_pay1 (F := Ideal) v39 (ix2 a l) = v39 (ix2 a l) := rfl

theorem hz : (![0, 0] : Fin 2 → Nat) = fun _ => 0 := funext fun a => by fin_cases a <;> rfl

section
variable (m : (ℓ : Loc nD τ sig) → Buf (Elt Ideal) ℓ) (ρ : Dev nD → PrngReg)

theorem ix0_0 : ∀ t : Fin cfg0.N, win0_0.index t 0 = 0 := (by decide +kernel : ∀ t : Fin grid0.N, win0_0.index t 0 = 0)
theorem ix1_0 : ∀ t : Fin cfg0.N, win0_1.index t 0 = 1 := (by decide +kernel : ∀ t : Fin grid0.N, win0_1.index t 0 = 1)
theorem ix1_1 : ∀ t : Fin cfg0.N, win0_1.index t 1 = 0 := (by decide +kernel : ∀ t : Fin grid0.N, win0_1.index t 1 = 0)
theorem ix2_0 : ∀ t : Fin cfg0.N, win0_2.index t 0 = 0 := (by decide +kernel : ∀ t : Fin grid0.N, win0_2.index t 0 = 0)
theorem ix2_1 : ∀ t : Fin cfg0.N, win0_2.index t 1 = t.val := (by decide +kernel : ∀ t : Fin grid0.N, win0_2.index t 1 = t.val)
theorem ix3_0 : ∀ t : Fin cfg0.N, win0_3.index t 0 = 1 := (by decide +kernel : ∀ t : Fin grid0.N, win0_3.index t 0 = 1)
theorem ix3_1 : ∀ t : Fin cfg0.N, win0_3.index t 1 = t.val := (by decide +kernel : ∀ t : Fin grid0.N, win0_3.index t 1 = t.val)
theorem ix4_0 : ∀ t : Fin cfg0.N, win0_4.index t 0 = 1 := (by decide +kernel : ∀ t : Fin grid0.N, win0_4.index t 0 = 1)
theorem ix4_1 : ∀ t : Fin cfg0.N, win0_4.index t 1 = t.val := (by decide +kernel : ∀ t : Fin grid0.N, win0_4.index t 1 = t.val)

theorem lt_N (t : Fin cfg0.N) : t.val < 28 := lt_of_lt_of_eq t.isLt N_0

/-- The row of the whole array that row `a` of a block is, and the lane that lane `l` of point `t`'s block is. -/
def row (a : Fin 640) : Fin 1280 := ⟨1 * 640 + a.val, by omega⟩
def lane (t : Fin cfg0.N) (l : Fin 256) : Fin 7168 := ⟨t.val * 256 + l.val, by have := lt_N t; omega⟩

/-- The scale reaches the call through a reshape of the rank-zero argument. -/
theorem V_scale (c : Dev nD) (i : S1.Idx) : V m c main_v0 i = m ((c : Thread nD τ).loc main_arg2) ix0 := by
  have e : V m c main_v0 = shapeCast S1 (m ((c : Thread nD τ).loc main_arg2)) shapeCasts_S_S1 := by
    unfold V hostOps0
    after_results
    rfl
  rw [e]
  exact congrArg (m ((c : Thread nD τ).loc main_arg2)) (funext fun d => d.elim0)

theorem blk0 (c : Dev nD) (t : Fin cfg0.N) (i : S1.Idx) : iblk m c 0 t i = m ((c : Thread nD τ).loc main_arg2) ix0 :=
  V_scale m c _

theorem blk1 (c : Dev nD) (t : Fin cfg0.N) (a : Fin 640) (k : Fin 18944) :
    iblk m c 1 t (ix2 a k) = m ((c : Thread nD τ).loc main_arg0) (ix2 (row a) k) := by
  show V m c main_arg0 ((win0_1.rect t).emb (ix2 a k)) = _
  rw [V_main_arg0]
  refine congrArg (m ((c : Thread nD τ).loc main_arg0)) (funext fun d => Fin.ext ?_)
  match d with
  | ⟨0, _⟩ => exact (Window.rect_emb_val win0_1 t _ 0).trans (congrArg (· * 640 + a.val) (ix1_0 t))
  | ⟨1, _⟩ => exact Window.rect_emb_val_of_index_zero win0_1 t 1 (ix1_1 t) _

theorem blk2 (c : Dev nD) (t : Fin cfg0.N) (p : Fin 4736) (l : Fin 256) :
    iblk m c 2 t (ix2 p l) = m ((c : Thread nD τ).loc main_arg1) (ix2 p (lane t l)) := by
  show V m c main_arg1 ((win0_2.rect t).emb (ix2 p l)) = _
  rw [V_main_arg1]
  refine congrArg (m ((c : Thread nD τ).loc main_arg1)) (funext fun d => Fin.ext ?_)
  match d with
  | ⟨0, _⟩ => exact Window.rect_emb_val_of_index_zero win0_2 t 0 (ix2_0 t) _
  | ⟨1, _⟩ => exact (Window.rect_emb_val win0_2 t _ 1).trans (congrArg (· * 256 + l.val) (ix2_1 t))

theorem blk3 (c : Dev nD) (t : Fin cfg0.N) (a : Fin 640) (l : Fin 256) :
    iblk m c 3 t (ix2 a l) = m ((c : Thread nD τ).loc main_arg3) (ix2 (row a) (lane t l)) := by
  show V m c main_arg3 ((win0_3.rect t).emb (ix2 a l)) = _
  rw [V_main_arg3]
  refine congrArg (m ((c : Thread nD τ).loc main_arg3)) (funext fun d => Fin.ext ?_)
  match d with
  | ⟨0, _⟩ => exact (Window.rect_emb_val win0_3 t _ 0).trans (congrArg (· * 640 + a.val) (ix3_0 t))
  | ⟨1, _⟩ => exact (Window.rect_emb_val win0_3 t _ 1).trans (congrArg (· * 256 + l.val) (ix3_1 t))

/-- What the call leaves in the rows it writes. -/
def val (c : Dev nD) : Buf (Elt Ideal) ((c : Thread nD τ).loc main_v1) := fun i =>
  added (m ((c : Thread nD τ).loc main_arg0)) (m ((c : Thread nD τ).loc main_arg1)) (m ((c : Thread nD τ).loc main_arg2))
    (m ((c : Thread nD τ).loc main_arg3)) (i 0) (i 1)

/-- What the body leaves at an index of its block. -/
theorem outs_apply (c : Dev nD) (t : Fin cfg0.N) (a : Fin 640) (l : Fin 256) :
    outsAt0 m c t (ix2 a l) = val m c (ix2 (row a) (lane t l)) := by
  unfold outsAt0 out0_A_4
  rw [View.read_writes_eq_canon _ _ _ (cover0_A_4 c _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rw [View.canon_unit_zero hz, pay1_apply, pay2_apply, View.ld_unit_zero (S := S640x18944) hz, View.ld_unit_zero (S := S4736x256) hz,
    View.ld_unit_zero (S := S640x256) hz]
  have e0 : ∀ h, View.ld (iblk m c 0 t) (Rect.unit ![0] ![1] inb_S1_S1_0) (Shape.Idx.first h) = m ((c : Thread nD τ).loc main_arg2) ix0 :=
    fun h => blk0 m c t _
  have b1 : bitdot hK (iblk m c 1 t) (iblk m c 2 t) a l
      = bitdot hK (m ((c : Thread nD τ).loc main_arg0)) (m ((c : Thread nD τ).loc main_arg1)) (row a) (lane t l) :=
    bitdot_congr hK (fun k => blk1 m c t a k) (fun p => blk2 m c t p l)
  rw [e0, b1, blk3]
  rfl

/-- What point `t` leaves at an index of its block is `val` where the block lies. -/
theorem point (c : Dev nD) (t : Fin cfg0.N) (j : S640x256.Idx) : outsAt0 m c t j = val m c ((win0_4.rect t).emb j) := by
  obtain ⟨a, l, rfl⟩ : ∃ (a : Fin 640) (l : Fin 256), j = ix2 a l := ⟨j 0, j 1, eq_ix2 (n0 := 640) (n1 := 256) j⟩
  refine (outs_apply m c t a l).trans (congrArg (val m c) (funext fun d => Fin.ext ?_))
  match d with
  | ⟨0, _⟩ => exact ((Window.rect_emb_val win0_4 t (ix2 (n0 := 640) (n1 := 256) a l) 0).trans (congrArg (· * 640 + a.val) (ix4_0 t))).symm
  | ⟨1, _⟩ => exact ((Window.rect_emb_val win0_4 t (ix2 (n0 := 640) (n1 := 256) a l) 1).trans (congrArg (· * 256 + l.val) (ix4_1 t))).symm

/-- The array after the run: `val` in the rows of the second sequence, the contents before the run elsewhere. -/
theorem final (c : Dev nD) (i : S1280x7168.Idx) : (dats m 0 c).arrAt 4 cfg0.N i
    = if 1 ≤ (i 0 : Nat) / 640 then val m c i else V m c main_v1 i :=
  (dats m 0 c).arrAt_apply_of_coversWhere 4 (val m c) (P := fun i : S1280x7168.Idx => 1 ≤ (i 0 : Nat) / 640)
    (fun β : Fin 2 → Nat => 1 ≤ β 0) (by decide +kernel)
    (fun t _ y => (congrFun (after0_4 m c t) _).trans (point m c t y)) (fun _ => Iff.rfl) i

theorem V_prev (c : Dev nD) : V m c main_v1 = m ((c : Thread nD τ).loc main_arg4) := by
  unfold V hostOps0
  after_results
  rfl

end

end Cert.Down1Ideal.Sum

/-! ## The reference -/

namespace Cert.Down1RefIdeal.Sum

open Cert.Down1RefIdeal Cert.Down1RefIdeal.Gen Cert.Down1RefIdeal.Read Cert.Down1Ideal.Sum

theorem v42_apply (x0 : Vec Ideal S1280x18944 .bf16) (x1 : Vec Ideal S4736x7168 .i8) (a : Fin 1280) (c : Fin 7168) :
    val_main_v42 (F := Ideal) x0 x1 (ix2 a c) = bitdot hK x0 x1 a c :=
  host_apply hK natLt_8_32 x0 slices_S1280x18944_S1280x4736_0_0 slices_S1280x18944_S1280x4736_0_4736 slices_S1280x18944_S1280x4736_0_9472
    slices_S1280x18944_S1280x4736_0_14208 rfl rfl rfl x1 a c

/-- The residual plus the product, at an index of the reference. -/
theorem sum_apply (x0 : Vec Ideal S1280x18944 .bf16) (x1 : Vec Ideal S4736x7168 .i8) (x2 : Vec Ideal S_ .f32) (x3 : Vec Ideal S1280x7168 .f32) (i : S1280x7168.Idx) :
    val_main_v46 (F := Ideal) x0 x1 x2 x3 i = added x0 x1 x2 x3 (i 0) (i 1) := by
  obtain ⟨a, c, rfl⟩ : ∃ (a : Fin 1280) (c : Fin 7168), i = ix2 a c := ⟨i 0, i 1, eq_ix2 (n0 := 1280) (n1 := 7168) i⟩
  have p : val_main_v44 (F := Ideal) x0 x1 x2 (ix2 a c) = bitdot hK x0 x1 a c * x2 ix0 := by
    rw [val_main_v44_apply, v42_apply, val_main_v43_apply]
    exact congrArg (fun j => bitdot hK x0 x1 a c * x2 j) (funext fun d => d.elim0)
  rw [val_main_v46_apply, val_main_v45_apply, p]
  rfl

theorem slt_iff (r : Nat) (h : r < 1280) : IntOp.cmpi .slt (BitVec.ofNat 32 r) 640#32 = if r < 640 then 1#1 else 0#1 := by
  have key : ∀ r : Fin 1280, IntOp.cmpi .slt (BitVec.ofNat 32 r.val) 640#32 = if r.val < 640 then 1#1 else 0#1 := by decide +kernel
  exact key ⟨r, h⟩

/-- The reference keeps the rows of the first sequence. -/
theorem result_apply (x0 : Vec Ideal S1280x18944 .bf16) (x1 : Vec Ideal S4736x7168 .i8) (x2 : Vec Ideal S_ .f32) (x3 : Vec Ideal S1280x7168 .f32)
    (x4 : Vec Ideal S1280x7168 .bf16) (i : S1280x7168.Idx) :
    val_main_v50 (F := Ideal) x0 x1 x2 x3 x4 i = if 1 ≤ (i 0 : Nat) / 640 then added x0 x1 x2 x3 (i 0) (i 1) else x4 i := by
  have e : val_main_v49 (F := Ideal) i = if (i 0 : Nat) < 640 then 1#1 else 0#1 := by
    rw [val_main_v49_apply, val_main_v47_apply, val_main_v48_apply]
    exact slt_iff _ (i 0).isLt
  rw [val_main_v50_apply, sum_apply, e]
  by_cases h : (i 0 : Nat) < 640
  · rw [if_pos h, if_neg (by omega)]; rfl
  · rw [if_neg h, if_pos (by omega)]; rfl

end Cert.Down1RefIdeal.Sum

/-! ## The claims -/

namespace Cert.Proof.Down1Claims

theorem frame_p : Cert.quiescent_Down1 := fun m ρ _ => Cert.Down1.Gen.frame m ρ
theorem frame_pi : Cert.quiescent_Down1Ideal := fun m ρ _ => Cert.Down1Ideal.Gen.frame m ρ
theorem frame_ri : Cert.quiescent_Down1RefIdeal := fun m ρ _ =>
  (θ_run Cert.Down1RefIdeal.defs _ _).mono (fun r h => ⟨fun c => (h c).2, Idealize.ShloMosaic.sem_eq_zero_of_no_sems (by decide) r.2⟩)
    (Cert.Down1RefIdeal.Value.run (F := Ideal) m ρ)
theorem preserves : Cert.preserves_Down1_Down1Ideal := trivial

/-- Both programs end with the residual plus the scaled product in the rows of the second sequence, and with what the
    array passed in held in the rows of the first. -/
theorem algebraic : Cert.algebraic_Down1Ideal_Down1RefIdeal := by
  intro m ρ m' ρ' _ hag
  refine ⟨fun c => (fun i : Cert.Down1Ideal.S1280x7168.Idx => if 1 ≤ (i 0 : Nat) / 640 then Cert.Down1Ideal.Sum.val m c i
    else m ((c.tc : Thread Cert.Down1Ideal.nD Cert.Down1Ideal.τ).loc Cert.Down1Ideal.main_arg4) i), ?_, ?_⟩
  · exact (θ_run _ _ _).mono (fun _ h c => ⟨(h c).1.trans (funext fun i => (Cert.Down1Ideal.Sum.final m c i).trans
      (by rw [Cert.Down1Ideal.Sum.V_prev])), (h c).2⟩)
      (Cert.Down1Ideal.Value.run_blocks m ρ)
  · refine (θ_run _ _ _).mono (fun _ h c => ⟨(h c).1.trans ?_, (h c).2⟩) (Cert.Down1RefIdeal.Value.run (F := Ideal) m' ρ')
    rw [Cert.Down1RefIdeal.Read.val_main_v50_eq, (hag c).1, (hag c).2.1, (hag c).2.2.1, (hag c).2.2.2.1, (hag c).2.2.2.2]
    exact funext fun i => Cert.Down1RefIdeal.Sum.result_apply _ _ _ _ _ i

end Cert.Proof.Down1Claims

end
-- ==== Proof.Out0Value.lean ====
/- The attention output product added to its residual, for the first sequence of the batch. What the call leaves in the rows of that
   sequence and what the reference computes are the same function of the arguments. -/
module

public import proofs.«01_k».proof.Defs
public import proofs.«01_k».proof.Proof.Gen.Out0.Frame
public import proofs.«01_k».proof.Proof.Gen.Out0Ideal.Value
public import proofs.«01_k».proof.Proof.Gen.Out0RefIdeal.Run
public import proofs.«01_k».proof.Proof.Gen.Out0RefIdeal.Read
public import proofs.«01_k».proof.Proof.Gen.On_first_rows_Out0Ideal
public import proofs.«01_k».proof.Proof.Bitlinear
public import Idealize.ShloMosaic.Lib.Pipeline.ValueKit
public import Idealize.ShloMosaic.Lib.Pipeline.ValueKit.Partial
public import Idealize.ShloMosaic.Lib.Quiescent

@[expose] public section

set_option maxRecDepth 16384

noncomputable section

open Cert.Unpack
open Idealize.ShloMosaic hiding ix0 ix1 ix2 eq_ix2
open Idealize.ShloMosaic.TcCoe Idealize.ShloMosaic.ValueIdx Idealize.SL.Sem
open Idealize.ShloMosaic.Pipeline (Dat Window)
open scoped BigOperators

namespace Cert.Out0Ideal.Sum

open Cert.Out0Ideal Cert.Out0Ideal.Gen

theorem hK : 7168 = 4 * 1792 := rfl

/-- The mathematics of the call: the residual plus the scaled product. -/
def added (x : S1280x7168.Idx → EReal) (w : S1792x7168.Idx → BitVec 8) (s : S_.Idx → EReal) (res : S1280x7168.Idx → EReal) (a : Fin 1280) (c : Fin 7168) : EReal :=
  res (ix2 a c) + bitdot hK x w a c * s ix0

/-! ## The kernel -/

theorem pay3_apply (v0 : Vec Ideal S640x7168 .bf16) (v1 : Vec Ideal S1792x512 .i8) (v37 : Elt Ideal .f32) (a : Fin 640) (l : Fin 512) :
    k0_pay3 (F := Ideal) v0 v1 v37 (ix2 a l) = bitdot hK v0 v1 a l * v37 := by
  show FloatOps.matmul (DotDims.plain 640 7168 512) none v0 (kunpack bitcasts_S1792x512_w8_S448x512_w32 bitcasts_S448x512_w32_S1792x512_w8
    concatenates_S1792x512_S1792x512_S1792x512_S1792x512_S7168x512_d0 v1) (constant ⟨2, ![640, 512]⟩ .f32 0x00000000#32) (ix2 a l) * v37 = _
  rw [kernel_apply hK]

theorem pay2_apply (v35 : Vec Ideal S640x512 .bf16) (a : Fin 640) (l : Fin 512) : k0_pay2 (F := Ideal) v35 (ix2 a l) = v35 (ix2 a l) := rfl

theorem pay1_apply (v36 v39 : FVec Ideal S640x512 .f32) (a : Fin 640) (l : Fin 512) :
    k0_pay1 (F := Ideal) v36 v39 (ix2 a l) = v36 (ix2 a l) + v39 (ix2 a l) := rfl

theorem hz : (![0, 0] : Fin 2 → Nat) = fun _ => 0 := funext fun a => by fin_cases a <;> rfl

section
variable (m : (ℓ : Loc nD τ sig) → Buf (Elt Ideal) ℓ) (ρ : Dev nD → PrngReg)

theorem ix0_0 : ∀ t : Fin cfg0.N, win0_0.index t 0 = 0 := (by decide +kernel : ∀ t : Fin grid0.N, win0_0.index t 0 = 0)
theorem ix1_0 : ∀ t : Fin cfg0.N, win0_1.index t 0 = 0 := (by decide +kernel : ∀ t : Fin grid0.N, win0_1.index t 0 = 0)
theorem ix1_1 : ∀ t : Fin cfg0.N, win0_1.index t 1 = 0 := (by decide +kernel : ∀ t : Fin grid0.N, win0_1.index t 1 = 0)
theorem ix2_0 : ∀ t : Fin cfg0.N, win0_2.index t 0 = 0 := (by decide +kernel : ∀ t : Fin grid0.N, win0_2.index t 0 = 0)
theorem ix2_1 : ∀ t : Fin cfg0.N, win0_2.index t 1 = t.val := (by decide +kernel : ∀ t : Fin grid0.N, win0_2.index t 1 = t.val)
theorem ix3_0 : ∀ t : Fin cfg0.N, win0_3.index t 0 = 0 := (by decide +kernel : ∀ t : Fin grid0.N, win0_3.index t 0 = 0)
theorem ix3_1 : ∀ t : Fin cfg0.N, win0_3.index t 1 = t.val := (by decide +kernel : ∀ t : Fin grid0.N, win0_3.index t 1 = t.val)
theorem ix4_0 : ∀ t : Fin cfg0.N, win0_4.index t 0 = 0 := (by decide +kernel : ∀ t : Fin grid0.N, win0_4.index t 0 = 0)
theorem ix4_1 : ∀ t : Fin cfg0.N, win0_4.index t 1 = t.val := (by decide +kernel : ∀ t : Fin grid0.N, win0_4.index t 1 = t.val)

theorem lt_N (t : Fin cfg0.N) : t.val < 14 := lt_of_lt_of_eq t.isLt N_0

/-- The row of the whole array that row `a` of a block is, and the lane that lane `l` of point `t`'s block is. -/
def row (a : Fin 640) : Fin 1280 := ⟨0 * 640 + a.val, by omega⟩
def lane (t : Fin cfg0.N) (l : Fin 512) : Fin 7168 := ⟨t.val * 512 + l.val, by have := lt_N t; omega⟩

/-- The scale reaches the call through a reshape of the rank-zero argument. -/
theorem V_scale (c : Dev nD) (i : S1.Idx) : V m c main_v0 i = m ((c : Thread nD τ).loc main_arg2) ix0 := by
  have e : V m c main_v0 = shapeCast S1 (m ((c : Thread nD τ).loc main_arg2)) shapeCasts_S_S1 := by
    unfold V hostOps0
    after_results
    rfl
  rw [e]
  exact congrArg (m ((c : Thread nD τ).loc main_arg2)) (funext fun d => d.elim0)

theorem blk0 (c : Dev nD) (t : Fin cfg0.N) (i : S1.Idx) : iblk m c 0 t i = m ((c : Thread nD τ).loc main_arg2) ix0 :=
  V_scale m c _

theorem blk1 (c : Dev nD) (t : Fin cfg0.N) (a : Fin 640) (k : Fin 7168) :
    iblk m c 1 t (ix2 a k) = m ((c : Thread nD τ).loc main_arg0) (ix2 (row a) k) := by
  show V m c main_arg0 ((win0_1.rect t).emb (ix2 a k)) = _
  rw [V_main_arg0]
  refine congrArg (m ((c : Thread nD τ).loc main_arg0)) (funext fun d => Fin.ext ?_)
  match d with
  | ⟨0, _⟩ => exact (Window.rect_emb_val win0_1 t _ 0).trans (congrArg (· * 640 + a.val) (ix1_0 t))
  | ⟨1, _⟩ => exact Window.rect_emb_val_of_index_zero win0_1 t 1 (ix1_1 t) _

theorem blk2 (c : Dev nD) (t : Fin cfg0.N) (p : Fin 1792) (l : Fin 512) :
    iblk m c 2 t (ix2 p l) = m ((c : Thread nD τ).loc main_arg1) (ix2 p (lane t l)) := by
  show V m c main_arg1 ((win0_2.rect t).emb (ix2 p l)) = _
  rw [V_main_arg1]
  refine congrArg (m ((c : Thread nD τ).loc main_arg1)) (funext fun d => Fin.ext ?_)
  match d with
  | ⟨0, _⟩ => exact Window.rect_emb_val_of_index_zero win0_2 t 0 (ix2_0 t) _
  | ⟨1, _⟩ => exact (Window.rect_emb_val win0_2 t _ 1).trans (congrArg (· * 512 + l.val) (ix2_1 t))

theorem blk3 (c : Dev nD) (t : Fin cfg0.N) (a : Fin 640) (l : Fin 512) :
    iblk m c 3 t (ix2 a l) = m ((c : Thread nD τ).loc main_arg3) (ix2 (row a) (lane t l)) := by
  show V m c main_arg3 ((win0_3.rect t).emb (ix2 a l)) = _
  rw [V_main_arg3]
  refine congrArg (m ((c : Thread nD τ).loc main_arg3)) (funext fun d => Fin.ext ?_)
  match d with
  | ⟨0, _⟩ => exact (Window.rect_emb_val win0_3 t _ 0).trans (congrArg (· * 640 + a.val) (ix3_0 t))
  | ⟨1, _⟩ => exact (Window.rect_emb_val win0_3 t _ 1).trans (congrArg (· * 512 + l.val) (ix3_1 t))

/-- What the call leaves in the rows it writes. -/
def val (c : Dev nD) : Buf (Elt Ideal) ((c : Thread nD τ).loc main_v1) := fun i =>
  added (m ((c : Thread nD τ).loc main_arg0)) (m ((c : Thread nD τ).loc main_arg1)) (m ((c : Thread nD τ).loc main_arg2))
    (m ((c : Thread nD τ).loc main_arg3)) (i 0) (i 1)

/-- What the body leaves at an index of its block. -/
theorem outs_apply (c : Dev nD) (t : Fin cfg0.N) (a : Fin 640) (l : Fin 512) :
    outsAt0 m c t (ix2 a l) = val m c (ix2 (row a) (lane t l)) := by
  unfold outsAt0 out0_A_4
  rw [View.read_writes_eq_canon _ _ _ (cover0_A_4 c _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rw [View.canon_unit_zero hz, pay1_apply, pay2_apply, pay3_apply, View.ld_unit_zero (S := S640x7168) hz, View.ld_unit_zero (S := S1792x512) hz,
    View.ld_unit_zero (S := S640x512) hz]
  have e0 : ∀ h, View.ld (iblk m c 0 t) (Rect.unit ![0] ![1] inb_S1_S1_0) (Shape.Idx.first h) = m ((c : Thread nD τ).loc main_arg2) ix0 :=
    fun h => blk0 m c t _
  have b1 : bitdot hK (iblk m c 1 t) (iblk m c 2 t) a l
      = bitdot hK (m ((c : Thread nD τ).loc main_arg0)) (m ((c : Thread nD τ).loc main_arg1)) (row a) (lane t l) :=
    bitdot_congr hK (fun k => blk1 m c t a k) (fun p => blk2 m c t p l)
  rw [e0, b1, blk3]
  rfl

/-- What point `t` leaves at an index of its block is `val` where the block lies. -/
theorem point (c : Dev nD) (t : Fin cfg0.N) (j : S640x512.Idx) : outsAt0 m c t j = val m c ((win0_4.rect t).emb j) := by
  obtain ⟨a, l, rfl⟩ : ∃ (a : Fin 640) (l : Fin 512), j = ix2 a l := ⟨j 0, j 1, eq_ix2 (n0 := 640) (n1 := 512) j⟩
  refine (outs_apply m c t a l).trans (congrArg (val m c) (funext fun d => Fin.ext ?_))
  match d with
  | ⟨0, _⟩ => exact ((Window.rect_emb_val win0_4 t (ix2 (n0 := 640) (n1 := 512) a l) 0).trans (congrArg (· * 640 + a.val) (ix4_0 t))).symm
  | ⟨1, _⟩ => exact ((Window.rect_emb_val win0_4 t (ix2 (n0 := 640) (n1 := 512) a l) 1).trans (congrArg (· * 512 + l.val) (ix4_1 t))).symm

/-- The array after the run: `val` in the rows of the first sequence, the contents before the run elsewhere. -/
theorem final (c : Dev nD) (i : S1280x7168.Idx) : (dats m 0 c).arrAt 4 cfg0.N i
    = if (i 0 : Nat) / 640 < 1 then val m c i else V m c main_v1 i :=
  (dats m 0 c).arrAt_apply_of_coversWhere 4 (val m c) (P := fun i : S1280x7168.Idx => (i 0 : Nat) / 640 < 1)
    (fun β : Fin 2 → Nat => β 0 < 1) (by decide +kernel)
    (fun t _ y => (congrFun (after0_4 m c t) _).trans (point m c t y)) (fun _ => Iff.rfl) i

end

end Cert.Out0Ideal.Sum

/-! ## The reference -/

namespace Cert.Out0RefIdeal.Sum

open Cert.Out0RefIdeal Cert.Out0RefIdeal.Gen Cert.Out0RefIdeal.Read Cert.Out0Ideal.Sum

theorem v42_apply (x0 : Vec Ideal S1280x7168 .bf16) (x1 : Vec Ideal S1792x7168 .i8) (a : Fin 1280) (c : Fin 7168) :
    val_main_v43 (F := Ideal) x0 x1 (ix2 a c) = bitdot hK x0 x1 a c :=
  host_apply hK natLt_8_32 x0 slices_S1280x7168_S1280x1792_0_0 slices_S1280x7168_S1280x1792_0_1792 slices_S1280x7168_S1280x1792_0_3584
    slices_S1280x7168_S1280x1792_0_5376 rfl rfl rfl x1 a c

/-- The residual plus the product, at an index of the reference. -/
theorem sum_apply (x0 : Vec Ideal S1280x7168 .bf16) (x1 : Vec Ideal S1792x7168 .i8) (x2 : Vec Ideal S_ .f32) (x3 : Vec Ideal S1280x7168 .bf16) (i : S1280x7168.Idx) :
    val_main_v46 (F := Ideal) x0 x1 x2 x3 i = added x0 x1 x2 x3 (i 0) (i 1) := by
  obtain ⟨a, c, rfl⟩ : ∃ (a : Fin 1280) (c : Fin 7168), i = ix2 a c := ⟨i 0, i 1, eq_ix2 (n0 := 1280) (n1 := 7168) i⟩
  have p : val_main_v45 (F := Ideal) x0 x1 x2 (ix2 a c) = bitdot hK x0 x1 a c * x2 ix0 := by
    rw [val_main_v45_apply, v42_apply, val_main_v44_apply]
    exact congrArg (fun j => bitdot hK x0 x1 a c * x2 j) (funext fun d => d.elim0)
  rw [val_main_v46_apply, p]
  rfl

end Cert.Out0RefIdeal.Sum

/-! ## The mask -/

namespace Cert.On_first_rows_Out0Ideal

/-- The mask is set exactly in the rows of the first sequence. -/
theorem fn_apply_iff (x0 : FVec Ideal S1280x7168 .bf16) (x1 : IVec S1792x7168 8) (x2 : FVec Ideal S_ .f32) (x3 : FVec Ideal S1280x7168 .bf16) (i : S1280x7168.Idx) :
    fn x0 x1 x2 x3 i = 1#1 ↔ (i 0 : Nat) / 640 < 1 := by
  have key : ∀ r : Fin 1280, IntOp.cmpi .slt (BitVec.ofNat 32 r.val) 640#32 = 1#1 ↔ r.val / 640 < 1 := by decide +kernel
  show IntOp.cmpi .slt (BitVec.ofNat 32 (i 0 : Nat)) 640#32 = 1#1 ↔ _
  exact key (i 0)

end Cert.On_first_rows_Out0Ideal

namespace Cert.Out0RefIdeal.Sum

end Cert.Out0RefIdeal.Sum

/-! ## The claims -/

namespace Cert.Proof.Out0Claims

theorem frame_p : Cert.quiescent_Out0 := fun m ρ _ => Cert.Out0.Gen.frame m ρ
theorem frame_pi : Cert.quiescent_Out0Ideal := fun m ρ _ => Cert.Out0Ideal.Gen.frame m ρ
theorem frame_ri : Cert.quiescent_Out0RefIdeal := fun m ρ _ =>
  (θ_run Cert.Out0RefIdeal.defs _ _).mono (fun r h => ⟨fun c => (h c).2, Idealize.ShloMosaic.sem_eq_zero_of_no_sems (by decide) r.2⟩)
    (Cert.Out0RefIdeal.Value.run (F := Ideal) m ρ)
theorem preserves : Cert.preserves_Out0_Out0Ideal := trivial

/-- In the rows of the first sequence both programs end with the residual plus the scaled product. -/
theorem algebraic : Cert.algebraic_Out0Ideal_Out0RefIdeal_on_first_rows_Out0Ideal := by
  intro m ρ m' ρ' _ hag
  refine ⟨fun c => Cert.Out0Ideal.Sum.val m c, ?_, ?_⟩
  · exact (θ_run _ _ _).mono (fun _ h c => ⟨fun i hi => (congrFun (h c).1 i).trans ((Cert.Out0Ideal.Sum.final m c i).trans
      (if_pos ((Cert.On_first_rows_Out0Ideal.fn_apply_iff _ _ _ _ i).mp hi))), (h c).2⟩)
      (Cert.Out0Ideal.Value.run_blocks m ρ)
  · refine (θ_run _ _ _).mono (fun _ h c => ⟨fun i _ => (congrFun (h c).1 i).trans ?_, (h c).2⟩) (Cert.Out0RefIdeal.Value.run (F := Ideal) m' ρ')
    rw [Cert.Out0RefIdeal.Read.val_main_v46_eq, (hag c).1, (hag c).2.1, (hag c).2.2.1, (hag c).2.2.2]
    exact Cert.Out0RefIdeal.Sum.sum_apply _ _ _ _ i

end Cert.Proof.Out0Claims

end
-- ==== Proof.Out1Value.lean ====
/- The attention output product added to its residual, for the second sequence of the batch. What the call leaves in the rows of that
   sequence and what the reference computes are the same function of the arguments; the other rows keep the contents of the array passed in. -/
module

public import proofs.«01_k».proof.Defs
public import proofs.«01_k».proof.Proof.Gen.Out1.Frame
public import proofs.«01_k».proof.Proof.Gen.Out1Ideal.Value
public import proofs.«01_k».proof.Proof.Gen.Out1RefIdeal.Run
public import proofs.«01_k».proof.Proof.Gen.Out1RefIdeal.Read
public import proofs.«01_k».proof.Proof.Bitlinear
public import Idealize.ShloMosaic.Lib.Pipeline.ValueKit
public import Idealize.ShloMosaic.Lib.Pipeline.ValueKit.Partial
public import Idealize.ShloMosaic.Lib.Quiescent

@[expose] public section

set_option maxRecDepth 16384

noncomputable section

open Cert.Unpack
open Idealize.ShloMosaic hiding ix0 ix1 ix2 eq_ix2
open Idealize.ShloMosaic.TcCoe Idealize.ShloMosaic.ValueIdx Idealize.SL.Sem
open Idealize.ShloMosaic.Pipeline (Dat Window)
open scoped BigOperators

namespace Cert.Out1Ideal.Sum

open Cert.Out1Ideal Cert.Out1Ideal.Gen

theorem hK : 7168 = 4 * 1792 := rfl

/-- The mathematics of the call: the residual plus the scaled product. -/
def added (x : S1280x7168.Idx → EReal) (w : S1792x7168.Idx → BitVec 8) (s : S_.Idx → EReal) (res : S1280x7168.Idx → EReal) (a : Fin 1280) (c : Fin 7168) : EReal :=
  res (ix2 a c) + bitdot hK x w a c * s ix0

/-! ## The kernel -/

theorem pay3_apply (v0 : Vec Ideal S640x7168 .bf16) (v1 : Vec Ideal S1792x512 .i8) (v37 : Elt Ideal .f32) (a : Fin 640) (l : Fin 512) :
    k0_pay3 (F := Ideal) v0 v1 v37 (ix2 a l) = bitdot hK v0 v1 a l * v37 := by
  show FloatOps.matmul (DotDims.plain 640 7168 512) none v0 (kunpack bitcasts_S1792x512_w8_S448x512_w32 bitcasts_S448x512_w32_S1792x512_w8
    concatenates_S1792x512_S1792x512_S1792x512_S1792x512_S7168x512_d0 v1) (constant ⟨2, ![640, 512]⟩ .f32 0x00000000#32) (ix2 a l) * v37 = _
  rw [kernel_apply hK]

theorem pay2_apply (v35 : Vec Ideal S640x512 .bf16) (a : Fin 640) (l : Fin 512) : k0_pay2 (F := Ideal) v35 (ix2 a l) = v35 (ix2 a l) := rfl

theorem pay1_apply (v36 v39 : FVec Ideal S640x512 .f32) (a : Fin 640) (l : Fin 512) :
    k0_pay1 (F := Ideal) v36 v39 (ix2 a l) = v36 (ix2 a l) + v39 (ix2 a l) := rfl

theorem hz : (![0, 0] : Fin 2 → Nat) = fun _ => 0 := funext fun a => by fin_cases a <;> rfl

section
variable (m : (ℓ : Loc nD τ sig) → Buf (Elt Ideal) ℓ) (ρ : Dev nD → PrngReg)

theorem ix0_0 : ∀ t : Fin cfg0.N, win0_0.index t 0 = 0 := (by decide +kernel : ∀ t : Fin grid0.N, win0_0.index t 0 = 0)
theorem ix1_0 : ∀ t : Fin cfg0.N, win0_1.index t 0 = 1 := (by decide +kernel : ∀ t : Fin grid0.N, win0_1.index t 0 = 1)
theorem ix1_1 : ∀ t : Fin cfg0.N, win0_1.index t 1 = 0 := (by decide +kernel : ∀ t : Fin grid0.N, win0_1.index t 1 = 0)
theorem ix2_0 : ∀ t : Fin cfg0.N, win0_2.index t 0 = 0 := (by decide +kernel : ∀ t : Fin grid0.N, win0_2.index t 0 = 0)
theorem ix2_1 : ∀ t : Fin cfg0.N, win0_2.index t 1 = t.val := (by decide +kernel : ∀ t : Fin grid0.N, win0_2.index t 1 = t.val)
theorem ix3_0 : ∀ t : Fin cfg0.N, win0_3.index t 0 = 1 := (by decide +kernel : ∀ t : Fin grid0.N, win0_3.index t 0 = 1)
theorem ix3_1 : ∀ t : Fin cfg0.N, win0_3.index t 1 = t.val := (by decide +kernel : ∀ t : Fin grid0.N, win0_3.index t 1 = t.val)
theorem ix4_0 : ∀ t : Fin cfg0.N, win0_4.index t 0 = 1 := (by decide +kernel : ∀ t : Fin grid0.N, win0_4.index t 0 = 1)
theorem ix4_1 : ∀ t : Fin cfg0.N, win0_4.index t 1 = t.val := (by decide +kernel : ∀ t : Fin grid0.N, win0_4.index t 1 = t.val)

theorem lt_N (t : Fin cfg0.N) : t.val < 14 := lt_of_lt_of_eq t.isLt N_0

/-- The row of the whole array that row `a` of a block is, and the lane that lane `l` of point `t`'s block is. -/
def row (a : Fin 640) : Fin 1280 := ⟨1 * 640 + a.val, by omega⟩
def lane (t : Fin cfg0.N) (l : Fin 512) : Fin 7168 := ⟨t.val * 512 + l.val, by have := lt_N t; omega⟩

/-- The scale reaches the call through a reshape of the rank-zero argument. -/
theorem V_scale (c : Dev nD) (i : S1.Idx) : V m c main_v0 i = m ((c : Thread nD τ).loc main_arg2) ix0 := by
  have e : V m c main_v0 = shapeCast S1 (m ((c : Thread nD τ).loc main_arg2)) shapeCasts_S_S1 := by
    unfold V hostOps0
    after_results
    rfl
  rw [e]
  exact congrArg (m ((c : Thread nD τ).loc main_arg2)) (funext fun d => d.elim0)

theorem blk0 (c : Dev nD) (t : Fin cfg0.N) (i : S1.Idx) : iblk m c 0 t i = m ((c : Thread nD τ).loc main_arg2) ix0 :=
  V_scale m c _

theorem blk1 (c : Dev nD) (t : Fin cfg0.N) (a : Fin 640) (k : Fin 7168) :
    iblk m c 1 t (ix2 a k) = m ((c : Thread nD τ).loc main_arg0) (ix2 (row a) k) := by
  show V m c main_arg0 ((win0_1.rect t).emb (ix2 a k)) = _
  rw [V_main_arg0]
  refine congrArg (m ((c : Thread nD τ).loc main_arg0)) (funext fun d => Fin.ext ?_)
  match d with
  | ⟨0, _⟩ => exact (Window.rect_emb_val win0_1 t _ 0).trans (congrArg (· * 640 + a.val) (ix1_0 t))
  | ⟨1, _⟩ => exact Window.rect_emb_val_of_index_zero win0_1 t 1 (ix1_1 t) _

theorem blk2 (c : Dev nD) (t : Fin cfg0.N) (p : Fin 1792) (l : Fin 512) :
    iblk m c 2 t (ix2 p l) = m ((c : Thread nD τ).loc main_arg1) (ix2 p (lane t l)) := by
  show V m c main_arg1 ((win0_2.rect t).emb (ix2 p l)) = _
  rw [V_main_arg1]
  refine congrArg (m ((c : Thread nD τ).loc main_arg1)) (funext fun d => Fin.ext ?_)
  match d with
  | ⟨0, _⟩ => exact Window.rect_emb_val_of_index_zero win0_2 t 0 (ix2_0 t) _
  | ⟨1, _⟩ => exact (Window.rect_emb_val win0_2 t _ 1).trans (congrArg (· * 512 + l.val) (ix2_1 t))

theorem blk3 (c : Dev nD) (t : Fin cfg0.N) (a : Fin 640) (l : Fin 512) :
    iblk m c 3 t (ix2 a l) = m ((c : Thread nD τ).loc main_arg3) (ix2 (row a) (lane t l)) := by
  show V m c main_arg3 ((win0_3.rect t).emb (ix2 a l)) = _
  rw [V_main_arg3]
  refine congrArg (m ((c : Thread nD τ).loc main_arg3)) (funext fun d => Fin.ext ?_)
  match d with
  | ⟨0, _⟩ => exact (Window.rect_emb_val win0_3 t _ 0).trans (congrArg (· * 640 + a.val) (ix3_0 t))
  | ⟨1, _⟩ => exact (Window.rect_emb_val win0_3 t _ 1).trans (congrArg (· * 512 + l.val) (ix3_1 t))

/-- What the call leaves in the rows it writes. -/
def val (c : Dev nD) : Buf (Elt Ideal) ((c : Thread nD τ).loc main_v1) := fun i =>
  added (m ((c : Thread nD τ).loc main_arg0)) (m ((c : Thread nD τ).loc main_arg1)) (m ((c : Thread nD τ).loc main_arg2))
    (m ((c : Thread nD τ).loc main_arg3)) (i 0) (i 1)

/-- What the body leaves at an index of its block. -/
theorem outs_apply (c : Dev nD) (t : Fin cfg0.N) (a : Fin 640) (l : Fin 512) :
    outsAt0 m c t (ix2 a l) = val m c (ix2 (row a) (lane t l)) := by
  unfold outsAt0 out0_A_4
  rw [View.read_writes_eq_canon _ _ _ (cover0_A_4 c _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rw [View.canon_unit_zero hz, pay1_apply, pay2_apply, pay3_apply, View.ld_unit_zero (S := S640x7168) hz, View.ld_unit_zero (S := S1792x512) hz,
    View.ld_unit_zero (S := S640x512) hz]
  have e0 : ∀ h, View.ld (iblk m c 0 t) (Rect.unit ![0] ![1] inb_S1_S1_0) (Shape.Idx.first h) = m ((c : Thread nD τ).loc main_arg2) ix0 :=
    fun h => blk0 m c t _
  have b1 : bitdot hK (iblk m c 1 t) (iblk m c 2 t) a l
      = bitdot hK (m ((c : Thread nD τ).loc main_arg0)) (m ((c : Thread nD τ).loc main_arg1)) (row a) (lane t l) :=
    bitdot_congr hK (fun k => blk1 m c t a k) (fun p => blk2 m c t p l)
  rw [e0, b1, blk3]
  rfl

/-- What point `t` leaves at an index of its block is `val` where the block lies. -/
theorem point (c : Dev nD) (t : Fin cfg0.N) (j : S640x512.Idx) : outsAt0 m c t j = val m c ((win0_4.rect t).emb j) := by
  obtain ⟨a, l, rfl⟩ : ∃ (a : Fin 640) (l : Fin 512), j = ix2 a l := ⟨j 0, j 1, eq_ix2 (n0 := 640) (n1 := 512) j⟩
  refine (outs_apply m c t a l).trans (congrArg (val m c) (funext fun d => Fin.ext ?_))
  match d with
  | ⟨0, _⟩ => exact ((Window.rect_emb_val win0_4 t (ix2 (n0 := 640) (n1 := 512) a l) 0).trans (congrArg (· * 640 + a.val) (ix4_0 t))).symm
  | ⟨1, _⟩ => exact ((Window.rect_emb_val win0_4 t (ix2 (n0 := 640) (n1 := 512) a l) 1).trans (congrArg (· * 512 + l.val) (ix4_1 t))).symm

/-- The array after the run: `val` in the rows of the second sequence, the contents before the run elsewhere. -/
theorem final (c : Dev nD) (i : S1280x7168.Idx) : (dats m 0 c).arrAt 4 cfg0.N i
    = if 1 ≤ (i 0 : Nat) / 640 then val m c i else V m c main_v1 i :=
  (dats m 0 c).arrAt_apply_of_coversWhere 4 (val m c) (P := fun i : S1280x7168.Idx => 1 ≤ (i 0 : Nat) / 640)
    (fun β : Fin 2 → Nat => 1 ≤ β 0) (by decide +kernel)
    (fun t _ y => (congrFun (after0_4 m c t) _).trans (point m c t y)) (fun _ => Iff.rfl) i

theorem V_prev (c : Dev nD) : V m c main_v1 = m ((c : Thread nD τ).loc main_arg4) := by
  unfold V hostOps0
  after_results
  rfl

end

end Cert.Out1Ideal.Sum

/-! ## The reference -/

namespace Cert.Out1RefIdeal.Sum

open Cert.Out1RefIdeal Cert.Out1RefIdeal.Gen Cert.Out1RefIdeal.Read Cert.Out1Ideal.Sum

theorem v42_apply (x0 : Vec Ideal S1280x7168 .bf16) (x1 : Vec Ideal S1792x7168 .i8) (a : Fin 1280) (c : Fin 7168) :
    val_main_v43 (F := Ideal) x0 x1 (ix2 a c) = bitdot hK x0 x1 a c :=
  host_apply hK natLt_8_32 x0 slices_S1280x7168_S1280x1792_0_0 slices_S1280x7168_S1280x1792_0_1792 slices_S1280x7168_S1280x1792_0_3584
    slices_S1280x7168_S1280x1792_0_5376 rfl rfl rfl x1 a c

/-- The residual plus the product, at an index of the reference. -/
theorem sum_apply (x0 : Vec Ideal S1280x7168 .bf16) (x1 : Vec Ideal S1792x7168 .i8) (x2 : Vec Ideal S_ .f32) (x3 : Vec Ideal S1280x7168 .bf16) (i : S1280x7168.Idx) :
    val_main_v46 (F := Ideal) x0 x1 x2 x3 i = added x0 x1 x2 x3 (i 0) (i 1) := by
  obtain ⟨a, c, rfl⟩ : ∃ (a : Fin 1280) (c : Fin 7168), i = ix2 a c := ⟨i 0, i 1, eq_ix2 (n0 := 1280) (n1 := 7168) i⟩
  have p : val_main_v45 (F := Ideal) x0 x1 x2 (ix2 a c) = bitdot hK x0 x1 a c * x2 ix0 := by
    rw [val_main_v45_apply, v42_apply, val_main_v44_apply]
    exact congrArg (fun j => bitdot hK x0 x1 a c * x2 j) (funext fun d => d.elim0)
  rw [val_main_v46_apply, p]
  rfl

theorem slt_iff (r : Nat) (h : r < 1280) : IntOp.cmpi .slt (BitVec.ofNat 32 r) 640#32 = if r < 640 then 1#1 else 0#1 := by
  have key : ∀ r : Fin 1280, IntOp.cmpi .slt (BitVec.ofNat 32 r.val) 640#32 = if r.val < 640 then 1#1 else 0#1 := by decide +kernel
  exact key ⟨r, h⟩

/-- The reference keeps the rows of the first sequence. -/
theorem result_apply (x0 : Vec Ideal S1280x7168 .bf16) (x1 : Vec Ideal S1792x7168 .i8) (x2 : Vec Ideal S_ .f32) (x3 : Vec Ideal S1280x7168 .bf16)
    (x4 : Vec Ideal S1280x7168 .f32) (i : S1280x7168.Idx) :
    val_main_v50 (F := Ideal) x0 x1 x2 x3 x4 i = if 1 ≤ (i 0 : Nat) / 640 then added x0 x1 x2 x3 (i 0) (i 1) else x4 i := by
  have e : val_main_v49 (F := Ideal) i = if (i 0 : Nat) < 640 then 1#1 else 0#1 := by
    rw [val_main_v49_apply, val_main_v47_apply, val_main_v48_apply]
    exact slt_iff _ (i 0).isLt
  rw [val_main_v50_apply, sum_apply, e]
  by_cases h : (i 0 : Nat) < 640
  · rw [if_pos h, if_neg (by omega)]; rfl
  · rw [if_neg h, if_pos (by omega)]; rfl

end Cert.Out1RefIdeal.Sum

/-! ## The claims -/

namespace Cert.Proof.Out1Claims

theorem frame_p : Cert.quiescent_Out1 := fun m ρ _ => Cert.Out1.Gen.frame m ρ
theorem frame_pi : Cert.quiescent_Out1Ideal := fun m ρ _ => Cert.Out1Ideal.Gen.frame m ρ
theorem frame_ri : Cert.quiescent_Out1RefIdeal := fun m ρ _ =>
  (θ_run Cert.Out1RefIdeal.defs _ _).mono (fun r h => ⟨fun c => (h c).2, Idealize.ShloMosaic.sem_eq_zero_of_no_sems (by decide) r.2⟩)
    (Cert.Out1RefIdeal.Value.run (F := Ideal) m ρ)
theorem preserves : Cert.preserves_Out1_Out1Ideal := trivial

/-- Both programs end with the residual plus the scaled product in the rows of the second sequence, and with what the
    array passed in held in the rows of the first. -/
theorem algebraic : Cert.algebraic_Out1Ideal_Out1RefIdeal := by
  intro m ρ m' ρ' _ hag
  refine ⟨fun c => (fun i : Cert.Out1Ideal.S1280x7168.Idx => if 1 ≤ (i 0 : Nat) / 640 then Cert.Out1Ideal.Sum.val m c i
    else m ((c.tc : Thread Cert.Out1Ideal.nD Cert.Out1Ideal.τ).loc Cert.Out1Ideal.main_arg4) i), ?_, ?_⟩
  · exact (θ_run _ _ _).mono (fun _ h c => ⟨(h c).1.trans (funext fun i => (Cert.Out1Ideal.Sum.final m c i).trans
      (by rw [Cert.Out1Ideal.Sum.V_prev])), (h c).2⟩)
      (Cert.Out1Ideal.Value.run_blocks m ρ)
  · refine (θ_run _ _ _).mono (fun _ h c => ⟨(h c).1.trans ?_, (h c).2⟩) (Cert.Out1RefIdeal.Value.run (F := Ideal) m' ρ')
    rw [Cert.Out1RefIdeal.Read.val_main_v50_eq, (hag c).1, (hag c).2.1, (hag c).2.2.1, (hag c).2.2.2.1, (hag c).2.2.2.2]
    exact funext fun i => Cert.Out1RefIdeal.Sum.result_apply _ _ _ _ _ i

end Cert.Proof.Out1Claims

end
-- ==== Proof.Quant.lean ====
/- A row of values normalised by its root mean square, then rounded group by group to integers of eight bits: what both the
   kernel and the reference of the quantise calls compute, as plain functions of a row, and the kernel's operations on one
   group of 128 lanes read at an index. -/
module

public import Idealize.ShloMosaic.Lib.Pipeline.Value
public import Idealize.ShloMosaic.Lib.ValueIdx
public import Idealize.ShloMosaic.Lib.KernelVsHost
public import proofs.«01_k».proof.Proof.Unpack

@[expose] public section

noncomputable section

open Idealize.ShloMosaic
open Idealize.ShloMosaic.TcCoe Idealize.ShloMosaic.ValueIdx Idealize.SL.Sem
open scoped BigOperators

namespace Cert.Quant

/-! ## The mathematics -/

/-- One over the root mean square of a row, `d` being the row's length as a number. -/
def rms {W : Nat} (d : EReal) (x : Fin W → EReal) : EReal :=
  FloatOps.rsqrt (F := Ideal) (φ := .f32) (FloatOps.divf (F := Ideal) (φ := .f32) (∑ k, x k * x k) d + FloatOps.ofBits (F := Ideal) .f32 0x3727C5AC#32)

/-- An entry of the normalised row, multiplied by its gain. -/
def nrm {W : Nat} (d : EReal) (x g : Fin W → EReal) (c : Fin W) : EReal := x c * rms d x * g c

/-- The greatest absolute value among the 128 entries of a group. -/
def amax (f : Fin 128 → EReal) : EReal :=
  (Finset.univ : Finset (Fin 128)).fold max (FloatOps.ofBits (F := Ideal) .f32 0xFF800000#32) fun q => FloatOps.absf (F := Ideal) (φ := .f32) (f q)

/-- The scale of a group: its greatest absolute value over 127, or one where that value is zero. -/
def scaleOf (f : Fin 128 → EReal) : EReal :=
  Scalar.select (FloatOps.cmpf (F := Ideal) (φ := .f32) .oeq (amax f) (FloatOps.ofBits (F := Ideal) .f32 0x00000000#32))
    (FloatOps.ofBits (F := Ideal) .f32 0x3F800000#32) (FloatOps.divf (F := Ideal) (φ := .f32) (amax f) (FloatOps.ofBits (F := Ideal) .f32 0x42FE0000#32))

/-- A value over the scale, rounded to the nearest integer and kept between -127 and 127. -/
def clipOf (n s : EReal) : EReal :=
  FloatOps.minimumf (F := Ideal) (φ := .f32) (FloatOps.sitofp .f32 127#32)
    (FloatOps.maximumf (F := Ideal) (φ := .f32) (FloatOps.sitofp .f32 4294967169#32) (FloatOps.roundeven (F := Ideal) (φ := .f32) (FloatOps.divf (F := Ideal) (φ := .f32) n s)))

/-- Column `q` of group `k`, the groups being 128 lanes wide. -/
def col {W G : Nat} (h : W = G * 128) (k : Fin G) (q : Fin 128) : Fin W := ⟨k.val * 128 + q.val, by omega⟩

/-- The group of a column. -/
def grp {W G : Nat} (h : W = G * 128) (c : Fin W) : Fin G := ⟨c.val / 128, by omega⟩

/-- The scale of group `k` of a row. -/
def sc {W G : Nat} (h : W = G * 128) (d : EReal) (x g : Fin W → EReal) (k : Fin G) : EReal := scaleOf fun q => nrm d x g (col h k q)

/-- The rounded value at a column, still a real number. -/
def clip {W G : Nat} (h : W = G * 128) (d : EReal) (x g : Fin W → EReal) (c : Fin W) : EReal := clipOf (nrm d x g c) (sc h d x g (grp h c))

theorem grp_col {W G : Nat} (h : W = G * 128) (k : Fin G) (q : Fin 128) : grp h (col h k q) = k := Fin.ext (by show (k.val * 128 + q.val) / 128 = k.val; omega)

/-- A clipped value is an integer between -127 and 127. -/
theorem clipOf_int (n s : EReal) : ∃ z : ℤ, -127 ≤ z ∧ z ≤ 127 ∧ clipOf n s = (((z : ℤ) : ℝ) : EReal) := by
  have h1 : FloatOps.sitofp (F := Ideal) .f32 127#32 = (((127 : ℤ) : ℝ) : EReal) := rfl
  have h2 : FloatOps.sitofp (F := Ideal) .f32 4294967169#32 = (((-127 : ℤ) : ℝ) : EReal) := rfl
  have key : ∀ y : EReal, ∃ z : ℤ, -127 ≤ z ∧ z ≤ 127 ∧
      min ((((127 : ℤ) : ℝ)) : EReal) (max ((((-127 : ℤ) : ℝ)) : EReal) (Ideal.liftRound Ideal.roundHalfEven y)) = (((z : ℤ) : ℝ) : EReal) := by
    intro y
    induction y using EReal.rec with
    | bot => exact ⟨-127, by decide, by decide, by
        rw [Ideal.liftRound_bot, max_eq_left bot_le, min_eq_right]
        exact_mod_cast (by norm_num : (-127 : ℝ) ≤ 127)⟩
    | top => exact ⟨127, by decide, by decide, by rw [Ideal.liftRound_top, max_eq_right le_top, min_eq_left le_top]⟩
    | coe r =>
      refine ⟨min 127 (max (-127) (Ideal.roundHalfEven r)), by omega, by omega, ?_⟩
      rw [Ideal.liftRound_coe]
      push_cast
      rfl
  obtain ⟨z, a, b, e⟩ := key (FloatOps.divf (F := Ideal) (φ := .f32) n s)
  exact ⟨z, a, b, e⟩

/-- So converting it to an integer of 32 bits and back changes nothing. -/
theorem sitofp_fptosi_clipOf (n s : EReal) (φ : FTy) :
    FloatOps.sitofp (F := Ideal) φ (FloatOps.fptosi (F := Ideal) (φ := .f32) 32 (clipOf n s)) = clipOf n s := by
  obtain ⟨z, a, b, e⟩ := clipOf_int n s
  rw [e]
  show (((BitVec.ofInt 32 (max (-(2 ^ 31 : Nat)) (min ((2 ^ 31 : Nat) - 1) (if 0 ≤ ((z : ℤ) : ℝ) then ⌊((z : ℤ) : ℝ)⌋ else ⌈((z : ℤ) : ℝ)⌉)))).toInt : ℝ) : EReal) = _
  rw [Int.floor_intCast, Int.ceil_intCast, ite_self, BitVec.toInt_ofInt, show max (-((2 ^ 31 : Nat) : ℤ)) (min (((2 ^ 31 : Nat) : ℤ) - 1) z) = z by omega]
  congr 2
  rw [Int.bmod_eq_of_le] <;> omega

/-- And the integer of 32 bits cut to 8 bits is the integer of 8 bits. -/
theorem trunci_fptosi_clipOf (n s : EReal) :
    (FloatOps.fptosi (F := Ideal) (φ := .f32) 32 (clipOf n s)).setWidth 8 = FloatOps.fptosi (F := Ideal) (φ := .f32) 8 (clipOf n s) := by
  obtain ⟨z, a, b, e⟩ := clipOf_int n s
  rw [e]
  show BitVec.setWidth 8 (BitVec.ofInt 32 (max (-(2 ^ 31 : Nat)) (min ((2 ^ 31 : Nat) - 1) (if 0 ≤ ((z : ℤ) : ℝ) then ⌊((z : ℤ) : ℝ)⌋ else ⌈((z : ℤ) : ℝ)⌉))))
    = BitVec.ofInt 8 (max (-(2 ^ 7 : Nat)) (min ((2 ^ 7 : Nat) - 1) (if 0 ≤ ((z : ℤ) : ℝ) then ⌊((z : ℤ) : ℝ)⌋ else ⌈((z : ℤ) : ℝ)⌉)))
  rw [Int.floor_intCast, Int.ceil_intCast, ite_self, show max (-((2 ^ 31 : Nat) : ℤ)) (min (((2 ^ 31 : Nat) : ℤ) - 1) z) = z by omega,
    show max (-((2 ^ 7 : Nat) : ℤ)) (min (((2 ^ 7 : Nat) : ℤ) - 1) z) = z by omega]
  have key : ∀ u : Fin 255, BitVec.setWidth 8 (BitVec.ofInt 32 ((u.val : ℤ) - 127)) = BitVec.ofInt 8 ((u.val : ℤ) - 127) := by decide +kernel
  have := key ⟨(z + 127).toNat, by omega⟩
  rwa [show (((⟨(z + 127).toNat, by omega⟩ : Fin 255).val : ℤ) - 127) = z by show ((z + 127).toNat : ℤ) - 127 = z; omega] at this

/-! ## The kernel's operations on one block of rows -/

section Kernel

variable {R W G : Nat}

/-- The row of reciprocal root mean squares, as the kernel takes it. -/
def kroot (v : FVec Ideal ⟨2, ![R, W]⟩ .f32) (d : BitVec 32) (hr : (⟨2, ![R, W]⟩ : Shape).Reduces [1] ⟨1, ![R]⟩) (hφ : FKind.Formats .f32)
    (ha : 0x00000000#32 = FKind.add.neutral .f32 hφ) (hs : (⟨1, ![R]⟩ : Shape).ShapeCasts ⟨2, ![R, 1]⟩) : FVec Ideal ⟨2, ![R, 1]⟩ .f32 :=
  rsqrt (addf (divf (shapeCast ⟨2, ![R, 1]⟩ (multiReduction .add [1] ⟨1, ![R]⟩ (mulf v v) 0x00000000#32 hr hφ ha) hs)
    (broadcast ⟨2, ![R, 1]⟩ (Scalar.ofBits .f32 d))) (broadcast ⟨2, ![R, 1]⟩ (Scalar.ofBits .f32 0x3727C5AC#32)))

theorem cast_col {α : Type} (x : (⟨1, ![R]⟩ : Shape).Idx → α) (hs : (⟨1, ![R]⟩ : Shape).ShapeCasts ⟨2, ![R, 1]⟩) (p : Fin R) (z : Fin 1) :
    shapeCast ⟨2, ![R, 1]⟩ x hs (ix2 p z) = x (ix1 p) :=
  shapeCast_apply x hs _ _ (by
    rewrite [Shape.rowMajor_val_two, Shape.rowMajor_val_one]
    have := z.isLt
    show p.val = p.val * 1 + z.val
    omega)

theorem kroot_apply (v : FVec Ideal ⟨2, ![R, W]⟩ .f32) (d : BitVec 32) (hr) (hφ) (ha) (hs) (p : Fin R) (z : Fin 1) :
    kroot v d hr hφ ha hs (ix2 p z) = rms (FloatOps.ofBits (F := Ideal) .f32 d) fun k => v (ix2 p k) := by
  show FloatOps.rsqrt (F := Ideal) (φ := .f32) (FloatOps.divf (F := Ideal) (φ := .f32) (shapeCast ⟨2, ![R, 1]⟩ _ hs (ix2 p z)) _ + _) = _
  rw [cast_col, Ideal.multiReduction_add_single]
  refine congrArg (fun e => FloatOps.rsqrt (F := Ideal) (φ := .f32) (FloatOps.divf (F := Ideal) (φ := .f32) e _ + _)) (Finset.sum_congr rfl fun k _ => ?_)
  have e : hr.lift (ix1 p) k = ix2 p k := funext fun a => Fin.ext (by match a with | ⟨0, _⟩ => rfl | ⟨1, _⟩ => rfl)
  show v _ * v _ = v (ix2 p k) * v (ix2 p k)
  rw [e]
  rfl

/-- A group of lanes of the normalised block. -/
def knorm (v : FVec Ideal ⟨2, ![R, W]⟩ .f32) (r : FVec Ideal ⟨2, ![R, 1]⟩ .f32) (g : FVec Ideal ⟨2, ![1, 128]⟩ .f32) (o : Nat)
    (hv : (⟨2, ![R, W]⟩ : Shape).Slices ![0, o] ⟨2, ![R, 128]⟩) (hr : (⟨2, ![R, 1]⟩ : Shape).Broadcasts ⟨2, ![R, 128]⟩)
    (hc : (⟨2, ![1, 128]⟩ : Shape).ShapeCasts ⟨2, ![1, 128]⟩) (hg : (⟨2, ![1, 128]⟩ : Shape).Broadcasts ⟨2, ![R, 128]⟩) : FVec Ideal ⟨2, ![R, 128]⟩ .f32 :=
  mulf (mulf (extractStridedSlice ⟨2, ![R, 128]⟩ ![0, o] v hv) (broadcastTo ⟨2, ![R, 128]⟩ r hr)) (broadcastTo ⟨2, ![R, 128]⟩ (shapeCast ⟨2, ![1, 128]⟩ g hc) hg)

theorem bcast_col {α : Type} {C : Nat} (x : (⟨2, ![R, 1]⟩ : Shape).Idx → α) (h : (⟨2, ![R, 1]⟩ : Shape).Broadcasts ⟨2, ![R, C]⟩) (p : Fin R) (q : Fin C) :
    broadcastTo ⟨2, ![R, C]⟩ x h (ix2 p q) = x (ix2 p 0) :=
  broadcastTo_apply x h _ _ fun a => by
    match a with
    | ⟨0, _⟩ =>
      show p.val = if R = 1 then 0 else p.val
      split
      · have := p.isLt; omega
      · rfl
    | ⟨1, _⟩ => rfl

theorem cast_same {α : Type} {s : Shape} (x : s.Idx → α) (h : s.ShapeCasts s) : shapeCast s x h = x :=
  funext fun j => shapeCast_apply x h j j rfl

theorem knorm_apply (v : FVec Ideal ⟨2, ![R, W]⟩ .f32) (r : FVec Ideal ⟨2, ![R, 1]⟩ .f32) (g : FVec Ideal ⟨2, ![1, 128]⟩ .f32) (o : Nat) (hv) (hr) (hc) (hg)
    (p : Fin R) (q : Fin 128) (hq : o + q.val < W) :
    knorm v r g o hv hr hc hg (ix2 p q) = v (ix2 p ⟨o + q.val, hq⟩) * r (ix2 p 0) * g (ix2 0 q) := by
  show extractStridedSlice ⟨2, ![R, 128]⟩ ![0, o] v hv (ix2 p q) * broadcastTo ⟨2, ![R, 128]⟩ r hr (ix2 p q)
    * broadcastTo ⟨2, ![R, 128]⟩ (shapeCast ⟨2, ![1, 128]⟩ g hc) hg (ix2 p q) = _
  rw [cast_same, bcast_col, extractStridedSlice_apply _ v hv (ix2 p q) (ix2 p ⟨o + q.val, hq⟩) (fun a => by
      match a with
      | ⟨0, _⟩ => show p.val = 0 + p.val; omega
      | ⟨1, _⟩ => rfl),
    broadcastTo_apply g hg (ix2 p q) (ix2 0 q) (fun a => by
      match a with
      | ⟨0, _⟩ => rfl
      | ⟨1, _⟩ => rfl)]

/-- The scales of a group, one to a row. -/
def kscale (n : FVec Ideal ⟨2, ![R, 128]⟩ .f32) (hr : (⟨2, ![R, 128]⟩ : Shape).Reduces [1] ⟨1, ![R]⟩) (hφ : FKind.Formats .f32)
    (ha : 0xFF800000#32 = FKind.maximumf.neutral .f32 hφ) (hs : (⟨1, ![R]⟩ : Shape).ShapeCasts ⟨2, ![R, 1]⟩) : FVec Ideal ⟨2, ![R, 1]⟩ .f32 :=
  select (cmpf .oeq (shapeCast ⟨2, ![R, 1]⟩ (multiReduction .maximumf [1] ⟨1, ![R]⟩ (absf n) 0xFF800000#32 hr hφ ha) hs) (broadcast ⟨2, ![R, 1]⟩ (Scalar.ofBits .f32 0x00000000#32)))
    (broadcast ⟨2, ![R, 1]⟩ (Scalar.ofBits .f32 0x3F800000#32))
    (divf (shapeCast ⟨2, ![R, 1]⟩ (multiReduction .maximumf [1] ⟨1, ![R]⟩ (absf n) 0xFF800000#32 hr hφ ha) hs) (broadcast ⟨2, ![R, 1]⟩ (Scalar.ofBits .f32 0x42FE0000#32)))

theorem kscale_apply (n : FVec Ideal ⟨2, ![R, 128]⟩ .f32) (hr) (hφ) (ha) (hs) (p : Fin R) (z : Fin 1) :
    kscale n hr hφ ha hs (ix2 p z) = scaleOf fun q => n (ix2 p q) := by
  have e : shapeCast ⟨2, ![R, 1]⟩ (multiReduction .maximumf [1] ⟨1, ![R]⟩ (absf n) 0xFF800000#32 hr hφ ha) hs (ix2 p z) = amax fun q => n (ix2 p q) := by
    rw [cast_col, Ideal.multiReduction_maximumf_single]
    unfold amax
    refine congrArg (fun f => Finset.fold max _ f _) (funext fun q => ?_)
    have e : hr.lift (ix1 p) q = ix2 p q := funext fun a => Fin.ext (by match a with | ⟨0, _⟩ => rfl | ⟨1, _⟩ => rfl)
    show FloatOps.absf (F := Ideal) (φ := .f32) (n _) = FloatOps.absf (F := Ideal) (φ := .f32) (n (ix2 p q))
    rw [e]
    rfl
  show Scalar.select (FloatOps.cmpf (F := Ideal) (φ := .f32) .oeq (shapeCast ⟨2, ![R, 1]⟩ _ hs (ix2 p z)) _) _ (FloatOps.divf (F := Ideal) (φ := .f32) (shapeCast ⟨2, ![R, 1]⟩ _ hs (ix2 p z)) _) = _
  rw [e]
  rfl

/-- The rounded values of a group. -/
def kclip (n : FVec Ideal ⟨2, ![R, 128]⟩ .f32) (s : FVec Ideal ⟨2, ![R, 1]⟩ .f32) (hb : (⟨2, ![R, 1]⟩ : Shape).Broadcasts ⟨2, ![R, 128]⟩) : FVec Ideal ⟨2, ![R, 128]⟩ .f32 :=
  minimumf (broadcast ⟨2, ![R, 128]⟩ (Scalar.sitofp .f32 127#32)) (maximumf (broadcast ⟨2, ![R, 128]⟩ (Scalar.sitofp .f32 4294967169#32))
    (roundeven (divf n (broadcastTo ⟨2, ![R, 128]⟩ s hb))))

theorem kclip_apply (n : FVec Ideal ⟨2, ![R, 128]⟩ .f32) (s : FVec Ideal ⟨2, ![R, 1]⟩ .f32) (hb) (p : Fin R) (q : Fin 128) :
    kclip n s hb (ix2 p q) = clipOf (n (ix2 p q)) (s (ix2 p 0)) := by
  show clipOf (n (ix2 p q)) (broadcastTo ⟨2, ![R, 128]⟩ s hb (ix2 p q)) = _
  rw [bcast_col]

/-- The rounded values times the scale. -/
def kdeq (n : FVec Ideal ⟨2, ![R, 128]⟩ .f32) (s : FVec Ideal ⟨2, ![R, 1]⟩ .f32) (hb : (⟨2, ![R, 1]⟩ : Shape).Broadcasts ⟨2, ![R, 128]⟩)
    (ht : FTy.bits .bf16 < FTy.bits .f32) : FVec Ideal ⟨2, ![R, 128]⟩ .bf16 :=
  mulf (truncf .bf16 (kclip n s hb) ht) (broadcastTo ⟨2, ![R, 128]⟩ (truncf .bf16 s ht) hb)

theorem kdeq_apply (n : FVec Ideal ⟨2, ![R, 128]⟩ .f32) (s : FVec Ideal ⟨2, ![R, 1]⟩ .f32) (hb) (ht) (p : Fin R) (q : Fin 128) :
    kdeq n s hb ht (ix2 p q) = clipOf (n (ix2 p q)) (s (ix2 p 0)) * s (ix2 p 0) := by
  show kclip n s hb (ix2 p q) * broadcastTo ⟨2, ![R, 128]⟩ (truncf .bf16 s ht) hb (ix2 p q) = _
  rw [kclip_apply, bcast_col]
  rfl

/-- The array of scales with the lane of group `k` replaced. -/
def kput (k : BitVec 32) (s : FVec Ideal ⟨2, ![R, 1]⟩ .f32) (prev : FVec Ideal ⟨2, ![R, G]⟩ .f32) (hi : (⟨2, ![R, G]⟩ : Shape).Iotas .tc 32 [1])
    (hc : (⟨2, ![R, 1]⟩ : Shape).ShapeCasts ⟨2, ![R, 1]⟩) (hb : (⟨2, ![R, 1]⟩ : Shape).Broadcasts ⟨2, ![R, G]⟩) : FVec Ideal ⟨2, ![R, G]⟩ .f32 :=
  select (cmpi .eq (iota .tc ⟨2, ![R, G]⟩ 32 [1] hi) (broadcast ⟨2, ![R, G]⟩ k)) (broadcastTo ⟨2, ![R, G]⟩ (shapeCast ⟨2, ![R, 1]⟩ s hc) hb) prev

theorem kput_apply (k : Fin G) (hG : G < 2 ^ 32) (s : FVec Ideal ⟨2, ![R, 1]⟩ .f32) (prev : FVec Ideal ⟨2, ![R, G]⟩ .f32) (hi) (hc) (hb) (p : Fin R) (j : Fin G) :
    kput (BitVec.ofNat 32 k.val) s prev hi hc hb (ix2 p j) = if j = k then s (ix2 p 0) else prev (ix2 p j) := by
  show Scalar.select (IntOp.cmpi .eq (BitVec.ofNat 32 (0 * G + j.val)) (BitVec.ofNat 32 k.val)) (broadcastTo ⟨2, ![R, G]⟩ (shapeCast ⟨2, ![R, 1]⟩ s hc) hb (ix2 p j)) (prev (ix2 p j)) = _
  rw [cast_same, bcast_col, show 0 * G + j.val = j.val by omega]
  have e : (BitVec.ofNat 32 j.val = BitVec.ofNat 32 k.val) ↔ j = k := by
    constructor
    · intro e
      have e := congrArg BitVec.toNat e
      rw [BitVec.toNat_ofNat, BitVec.toNat_ofNat, Nat.mod_eq_of_lt (by omega), Nat.mod_eq_of_lt (by omega)] at e
      exact Fin.ext e
    · rintro rfl; rfl
  by_cases hjk : j = k
  · rw [if_pos hjk, hjk]; simp [Scalar.select, IntOp.cmpi]
  · rw [if_neg hjk]
    have ne := mt e.mp hjk
    have b : (BitVec.ofNat 32 j.val == BitVec.ofNat 32 k.val) = false := beq_eq_false_iff_ne.mpr ne
    simp only [Scalar.select, IntOp.cmpi, b]
    rfl

/-! ### The pieces the kernel stores, one to a group -/

section Piece

variable (h : W = G * 128) (d : BitVec 32) (v : FVec Ideal ⟨2, ![R, W]⟩ .f32) (r : FVec Ideal ⟨2, ![R, 1]⟩ .f32) (x1 : FVec Ideal ⟨2, ![1, W]⟩ .f32)
  (hroot : ∀ p, r (ix2 p 0) = rms (FloatOps.ofBits (F := Ideal) .f32 d) fun c => v (ix2 p c))

/-- The number of columns, as an extended real. -/
abbrev dd (d : BitVec 32) : EReal := FloatOps.ofBits (F := Ideal) .f32 d

/-- The gains of the group of lanes starting at `o`. -/
def lanes (x1 : FVec Ideal ⟨2, ![1, W]⟩ .f32) (o : Nat) (inb : ∀ a, (![0, o] : Fin 2 → Nat) a + (![1, 128] : Fin 2 → Nat) a ≤ (⟨2, ![1, W]⟩ : Shape).size a) :
    FVec Ideal ⟨2, ![1, 128]⟩ .f32 :=
  View.ld (Val := Elt Ideal) (e' := .f32) x1 (Rect.unit (s := ⟨2, ![1, W]⟩) ![0, o] ![1, 128] inb)

include hroot in
theorem norm_at (k : Fin G) (o : Nat) (ho : o = k.val * 128) (hv) (hr) (hc) (hg) (inb) (p : Fin R) (q : Fin 128) :
    knorm v r (lanes x1 o inb) o hv hr hc hg (ix2 p q)
      = nrm (dd d) (fun c => v (ix2 p c)) (fun c => x1 (ix2 0 c)) (col h k q) := by
  subst ho
  rw [knorm_apply (hq := by omega), hroot]
  show _ * _ * x1 _ = v (ix2 p (col h k q)) * _ * x1 (ix2 0 (col h k q))
  congr 2
  refine funext fun a => Fin.ext ?_
  match a with
  | ⟨0, _⟩ => rfl
  | ⟨1, _⟩ => show k.val * 128 + 1 * q.val = k.val * 128 + q.val; omega

theorem emb_at (k : Fin G) (o : Nat) (ho : o = k.val * 128) (inb) (p : Fin R) (q : Fin 128) :
    (Rect.unit (s := ⟨2, ![R, W]⟩) ![0, o] ![R, 128] inb).emb (ix2 p q) = ix2 p (col h k q) := by
  refine funext fun a => Fin.ext ?_
  match a with
  | ⟨0, _⟩ => show 0 + 1 * p.val = p.val; omega
  | ⟨1, _⟩ => show o + 1 * q.val = k.val * 128 + q.val; omega

include hroot in
theorem scale_at (k : Fin G) (o : Nat) (ho : o = k.val * 128) (hv) (hr) (hc) (hg) (inb) (h1) (hφ) (ha) (hs) (p : Fin R) (z : Fin 1) :
    kscale (knorm v r (lanes x1 o inb) o hv hr hc hg) h1 hφ ha hs (ix2 p z)
      = sc h (dd d) (fun c => v (ix2 p c)) (fun c => x1 (ix2 0 c)) k := by
  rw [kscale_apply]
  exact congrArg scaleOf (funext fun q => norm_at h d v r x1 hroot k o ho hv hr hc hg inb p q)

/-- The integers at an index of the block. -/
def codes (y : (⟨2, ![R, W]⟩ : Shape).Idx) : BitVec 8 :=
  FloatOps.fptosi (F := Ideal) (φ := .f32) 8 (clip h (dd d) (fun c => v (ix2 (y 0) c)) (fun c => x1 (ix2 0 c)) (y 1))

/-- The scaled integers at an index of the block. -/
def deqs (y : (⟨2, ![R, W]⟩ : Shape).Idx) : EReal :=
  clip h (dd d) (fun c => v (ix2 (y 0) c)) (fun c => x1 (ix2 0 c)) (y 1) * sc h (dd d) (fun c => v (ix2 (y 0) c)) (fun c => x1 (ix2 0 c)) (grp h (y 1))

include hroot in
theorem code_piece (k : Fin G) (o : Nat) (ho : o = k.val * 128) (hv) (hr) (hc) (hg) (inb) (h1) (hφ) (ha) (hs) (inb') (x : (⟨2, ![R, 128]⟩ : Shape).Idx) :
    fptosi 8 (kclip (knorm v r (lanes x1 o inb) o hv hr hc hg)
      (kscale (knorm v r (lanes x1 o inb) o hv hr hc hg) h1 hφ ha hs) hr) x
      = codes h d v x1 ((Rect.unit (s := ⟨2, ![R, W]⟩) ![0, o] ![R, 128] inb').emb x) := by
  obtain ⟨p, q, rfl⟩ : ∃ (p : Fin R) (q : Fin 128), x = ix2 p q := ⟨x 0, x 1, eq_ix2 (n0 := R) (n1 := 128) x⟩
  rw [emb_at h k o ho]
  show FloatOps.fptosi (F := Ideal) (φ := .f32) 8 (kclip _ _ hr (ix2 p q)) = FloatOps.fptosi (F := Ideal) (φ := .f32) 8 (clip h (dd d) (fun c => v (ix2 p c)) (fun c => x1 (ix2 0 c)) (col h k q))
  rw [kclip_apply, norm_at h d v r x1 hroot k o ho, scale_at h d v r x1 hroot k o ho]
  unfold clip
  rw [grp_col]

include hroot in
theorem deq_piece (k : Fin G) (o : Nat) (ho : o = k.val * 128) (hv) (hr) (hc) (hg) (inb) (h1) (hφ) (ha) (hs) (ht) (inb') (x : (⟨2, ![R, 128]⟩ : Shape).Idx) :
    kdeq (knorm v r (lanes x1 o inb) o hv hr hc hg)
      (kscale (knorm v r (lanes x1 o inb) o hv hr hc hg) h1 hφ ha hs) hr ht x
      = deqs h d v x1 ((Rect.unit (s := ⟨2, ![R, W]⟩) ![0, o] ![R, 128] inb').emb x) := by
  obtain ⟨p, q, rfl⟩ : ∃ (p : Fin R) (q : Fin 128), x = ix2 p q := ⟨x 0, x 1, eq_ix2 (n0 := R) (n1 := 128) x⟩
  rw [emb_at h k o ho, kdeq_apply, norm_at h d v r x1 hroot k o ho, scale_at h d v r x1 hroot k o ho]
  show _ = clip h (dd d) (fun c => v (ix2 p c)) (fun c => x1 (ix2 0 c)) (col h k q) * sc h (dd d) (fun c => v (ix2 p c)) (fun c => x1 (ix2 0 c)) (grp h (col h k q))
  unfold clip
  rw [grp_col]

/-- An array of scales is right in the lanes below `n`. -/
def Upto (n : Nat) (a : FVec Ideal ⟨2, ![R, G]⟩ .f32) : Prop :=
  ∀ (p : Fin R) (j : Fin G), j.val < n → a (ix2 p j) = sc h (dd d) (fun c => v (ix2 p c)) (fun c => x1 (ix2 0 c)) j

include hroot in
/-- Putting the scales of group `k` into its lane makes one lane more right. -/
theorem put_upto (hG : G < 2 ^ 32) (k : Fin G) (o : Nat) (ho : o = k.val * 128) (hv) (hr) (hc) (hg) (inb) (h1) (hφ) (ha) (hs) (hi) (hc') (hb) (w : BitVec 32)
    (hw : w = BitVec.ofNat 32 k.val) {prev : FVec Ideal ⟨2, ![R, G]⟩ .f32} (hp : Upto h d v x1 k.val prev) :
    Upto h d v x1 (k.val + 1) (kput w (kscale (knorm v r (lanes x1 o inb) o hv hr hc hg) h1 hφ ha hs) prev hi hc' hb) := by
  intro p j hj
  rw [hw, kput_apply k hG]
  split
  · next e => rw [e, scale_at h d v r x1 hroot k o ho]
  · next e => exact hp p j (by have : j.val ≠ k.val := fun c => e (Fin.ext c); omega)

end Piece

end Kernel

end Cert.Quant

end
-- ==== Proof.QuantInBlock.lean ====
/- The quantise call on the layer input: what its body leaves in its four blocks. -/
module

public import proofs.«01_k».proof.Proof.Gen.QuantInIdeal.Value
public import proofs.«01_k».proof.Proof.Quant
public import Idealize.ShloMosaic.Lib.Pipeline.ValueKit

@[expose] public section

set_option maxRecDepth 65536

noncomputable section

open Cert.Quant
open Idealize.ShloMosaic hiding ix0 ix1 ix2 ix3 eq_ix1 eq_ix2
open Idealize.ShloMosaic.TcCoe Idealize.ShloMosaic.ValueIdx Idealize.SL.Sem
open Idealize.ShloMosaic.Pipeline (Dat Window)
open scoped BigOperators

namespace Cert.QuantInIdeal.Norm

open Cert.QuantInIdeal Cert.QuantInIdeal.Gen

theorem hW : 7168 = 56 * 128 := rfl

theorem hz : (![0, 0] : Fin 2 → Nat) = fun _ => 0 := funext fun a => by fin_cases a <;> rfl

/-! ## What the body leaves in its four blocks -/

section Block

variable (x0 : Vec Ideal S32x7168 .bf16) (x1 : Vec Ideal S1x7168 .f32)

/-- The block of rows the body works on. -/
def rows : FVec Ideal S32x7168 .f32 := k0_pay6 (F := Ideal) (View.ld x0 r0_0)

theorem rows_apply (i : S32x7168.Idx) : rows x0 i = x0 i := by
  show View.ld x0 r0_0 i = _
  rw [View.ld_unit_zero (S := S32x7168) hz]

theorem root_apply (p : Fin 32) (z : Fin 1) : k0_pay7 (F := Ideal) (View.ld x0 r0_0) (ix2 p z) = rms (dd 0x45E00000#32) fun c => rows x0 (ix2 p c) :=
  kroot_apply (rows x0) 0x45E00000#32 reduces_S32x7168_S32 (.inl rfl) rfl shapeCasts_S32_S32x1 p z

/-- One group of lanes of the integers. -/
theorem code (k : Fin 56) (o : Nat) (ho : o = k.val * 128) (hv : S32x7168.Slices ![0, o] S32x128) (inb : ∀ a, (![0, o] : Fin 2 → Nat) a + S1x128.size a ≤ S1x7168.size a)
    (inb' : ∀ a, (![0, o] : Fin 2 → Nat) a + S32x128.size a ≤ S32x7168.size a) (x : S32x128.Idx) :
    fptosi 8 (kclip (knorm (rows x0) (k0_pay7 (F := Ideal) (View.ld x0 r0_0)) (lanes x1 o inb) o hv broadcasts_S32x1_S32x128 shapeCasts_S1x128_S1x128 broadcasts_S1x128_S32x128)
      (kscale (knorm (rows x0) (k0_pay7 (F := Ideal) (View.ld x0 r0_0)) (lanes x1 o inb) o hv broadcasts_S32x1_S32x128 shapeCasts_S1x128_S1x128 broadcasts_S1x128_S32x128) reduces_S32x128_S32 (.inl rfl) rfl shapeCasts_S32_S32x1) broadcasts_S32x1_S32x128) x
      = codes hW 0x45E00000#32 (rows x0) x1 ((Rect.unit (s := S32x7168) ![0, o] S32x128.size inb').emb x) :=
  code_piece hW 0x45E00000#32 (rows x0) _ x1 (fun p => root_apply x0 p 0) k o ho _ _ _ _ _ _ _ _ _ _ x

/-- One group of lanes of the scaled integers. -/
theorem deq (k : Fin 56) (o : Nat) (ho : o = k.val * 128) (hv : S32x7168.Slices ![0, o] S32x128) (inb : ∀ a, (![0, o] : Fin 2 → Nat) a + S1x128.size a ≤ S1x7168.size a)
    (inb' : ∀ a, (![0, o] : Fin 2 → Nat) a + S32x128.size a ≤ S32x7168.size a) (x : S32x128.Idx) :
    kdeq (knorm (rows x0) (k0_pay7 (F := Ideal) (View.ld x0 r0_0)) (lanes x1 o inb) o hv broadcasts_S32x1_S32x128 shapeCasts_S1x128_S1x128 broadcasts_S1x128_S32x128)
      (kscale (knorm (rows x0) (k0_pay7 (F := Ideal) (View.ld x0 r0_0)) (lanes x1 o inb) o hv broadcasts_S32x1_S32x128 shapeCasts_S1x128_S1x128 broadcasts_S1x128_S32x128) reduces_S32x128_S32 (.inl rfl) rfl shapeCasts_S32_S32x1) broadcasts_S32x1_S32x128 bitsLt_bf16_f32 x
      = deqs hW 0x45E00000#32 (rows x0) x1 ((Rect.unit (s := S32x7168) ![0, o] S32x128.size inb').emb x) :=
  deq_piece hW 0x45E00000#32 (rows x0) _ x1 (fun p => root_apply x0 p 0) k o ho _ _ _ _ _ _ _ _ _ _ _ x

/-- One more lane of the scales. -/
theorem put (k : Fin 56) (o : Nat) (ho : o = k.val * 128) (hv : S32x7168.Slices ![0, o] S32x128) (inb : ∀ a, (![0, o] : Fin 2 → Nat) a + S1x128.size a ≤ S1x7168.size a)
    (w : BitVec 32) (hw : w = BitVec.ofNat 32 k.val) {prev : FVec Ideal S32x56 .f32} (hp : Upto hW 0x45E00000#32 (rows x0) x1 k.val prev) :
    Upto hW 0x45E00000#32 (rows x0) x1 (k.val + 1) (kput w (kscale (knorm (rows x0) (k0_pay7 (F := Ideal) (View.ld x0 r0_0)) (lanes x1 o inb) o hv broadcasts_S32x1_S32x128
      shapeCasts_S1x128_S1x128 broadcasts_S1x128_S32x128) reduces_S32x128_S32 (.inl rfl) rfl shapeCasts_S32_S32x1) prev iota_S32x56_d1_w32 shapeCasts_S32x1_S32x1 broadcasts_S32x1_S32x56) :=
  put_upto hW 0x45E00000#32 (rows x0) _ x1 (fun p => root_apply x0 p 0) (by decide) k o ho _ _ _ _ _ _ _ _ _ _ _ _ w hw hp

/-- The integers the body leaves. -/
theorem codes_block (y : S32x7168.Idx) : out0_2 x0 x1 y = codes hW 0x45E00000#32 (rows x0) x1 y := by
  refine View.canon_apply_of_pieces (Val := Elt Ideal) (e := .i8) (codes hW 0x45E00000#32 (rows x0) x1) _ ?_ y (cover0_2 (F := Ideal) _ _ _ _ _ _ _ _ _ _ _ _ _ _ _ _ _ _ _ _ _ _ _ _ _ _ _ _ _ _ _ _ _ _ _ _ _ _ _ _ _ _ _ _ _ _ _ _ _ _ _ _ _ _ _ _ y)
  exact
    List.forall_mem_cons.2 ⟨code x0 x1 55 7040 rfl slices_S32x7168_o0_7040_S32x128 inb_S1x7168_S1x128_0_7040 inb_S32x7168_S32x128_0_7040,
    List.forall_mem_cons.2 ⟨code x0 x1 54 6912 rfl slices_S32x7168_o0_6912_S32x128 inb_S1x7168_S1x128_0_6912 inb_S32x7168_S32x128_0_6912,
    List.forall_mem_cons.2 ⟨code x0 x1 53 6784 rfl slices_S32x7168_o0_6784_S32x128 inb_S1x7168_S1x128_0_6784 inb_S32x7168_S32x128_0_6784,
    List.forall_mem_cons.2 ⟨code x0 x1 52 6656 rfl slices_S32x7168_o0_6656_S32x128 inb_S1x7168_S1x128_0_6656 inb_S32x7168_S32x128_0_6656,
    List.forall_mem_cons.2 ⟨code x0 x1 51 6528 rfl slices_S32x7168_o0_6528_S32x128 inb_S1x7168_S1x128_0_6528 inb_S32x7168_S32x128_0_6528,
    List.forall_mem_cons.2 ⟨code x0 x1 50 6400 rfl slices_S32x7168_o0_6400_S32x128 inb_S1x7168_S1x128_0_6400 inb_S32x7168_S32x128_0_6400,
    List.forall_mem_cons.2 ⟨code x0 x1 49 6272 rfl slices_S32x7168_o0_6272_S32x128 inb_S1x7168_S1x128_0_6272 inb_S32x7168_S32x128_0_6272,
    List.forall_mem_cons.2 ⟨code x0 x1 48 6144 rfl slices_S32x7168_o0_6144_S32x128 inb_S1x7168_S1x128_0_6144 inb_S32x7168_S32x128_0_6144,
    List.forall_mem_cons.2 ⟨code x0 x1 47 6016 rfl slices_S32x7168_o0_6016_S32x128 inb_S1x7168_S1x128_0_6016 inb_S32x7168_S32x128_0_6016,
    List.forall_mem_cons.2 ⟨code x0 x1 46 5888 rfl slices_S32x7168_o0_5888_S32x128 inb_S1x7168_S1x128_0_5888 inb_S32x7168_S32x128_0_5888,
    List.forall_mem_cons.2 ⟨code x0 x1 45 5760 rfl slices_S32x7168_o0_5760_S32x128 inb_S1x7168_S1x128_0_5760 inb_S32x7168_S32x128_0_5760,
    List.forall_mem_cons.2 ⟨code x0 x1 44 5632 rfl slices_S32x7168_o0_5632_S32x128 inb_S1x7168_S1x128_0_5632 inb_S32x7168_S32x128_0_5632,
    List.forall_mem_cons.2 ⟨code x0 x1 43 5504 rfl slices_S32x7168_o0_5504_S32x128 inb_S1x7168_S1x128_0_5504 inb_S32x7168_S32x128_0_5504,
    List.forall_mem_cons.2 ⟨code x0 x1 42 5376 rfl slices_S32x7168_o0_5376_S32x128 inb_S1x7168_S1x128_0_5376 inb_S32x7168_S32x128_0_5376,
    List.forall_mem_cons.2 ⟨code x0 x1 41 5248 rfl slices_S32x7168_o0_5248_S32x128 inb_S1x7168_S1x128_0_5248 inb_S32x7168_S32x128_0_5248,
    List.forall_mem_cons.2 ⟨code x0 x1 40 5120 rfl slices_S32x7168_o0_5120_S32x128 inb_S1x7168_S1x128_0_5120 inb_S32x7168_S32x128_0_5120,
    List.forall_mem_cons.2 ⟨code x0 x1 39 4992 rfl slices_S32x7168_o0_4992_S32x128 inb_S1x7168_S1x128_0_4992 inb_S32x7168_S32x128_0_4992,
    List.forall_mem_cons.2 ⟨code x0 x1 38 4864 rfl slices_S32x7168_o0_4864_S32x128 inb_S1x7168_S1x128_0_4864 inb_S32x7168_S32x128_0_4864,
    List.forall_mem_cons.2 ⟨code x0 x1 37 4736 rfl slices_S32x7168_o0_4736_S32x128 inb_S1x7168_S1x128_0_4736 inb_S32x7168_S32x128_0_4736,
    List.forall_mem_cons.2 ⟨code x0 x1 36 4608 rfl slices_S32x7168_o0_4608_S32x128 inb_S1x7168_S1x128_0_4608 inb_S32x7168_S32x128_0_4608,
    List.forall_mem_cons.2 ⟨code x0 x1 35 4480 rfl slices_S32x7168_o0_4480_S32x128 inb_S1x7168_S1x128_0_4480 inb_S32x7168_S32x128_0_4480,
    List.forall_mem_cons.2 ⟨code x0 x1 34 4352 rfl slices_S32x7168_o0_4352_S32x128 inb_S1x7168_S1x128_0_4352 inb_S32x7168_S32x128_0_4352,
    List.forall_mem_cons.2 ⟨code x0 x1 33 4224 rfl slices_S32x7168_o0_4224_S32x128 inb_S1x7168_S1x128_0_4224 inb_S32x7168_S32x128_0_4224,
    List.forall_mem_cons.2 ⟨code x0 x1 32 4096 rfl slices_S32x7168_o0_4096_S32x128 inb_S1x7168_S1x128_0_4096 inb_S32x7168_S32x128_0_4096,
    List.forall_mem_cons.2 ⟨code x0 x1 31 3968 rfl slices_S32x7168_o0_3968_S32x128 inb_S1x7168_S1x128_0_3968 inb_S32x7168_S32x128_0_3968,
    List.forall_mem_cons.2 ⟨code x0 x1 30 3840 rfl slices_S32x7168_o0_3840_S32x128 inb_S1x7168_S1x128_0_3840 inb_S32x7168_S32x128_0_3840,
    List.forall_mem_cons.2 ⟨code x0 x1 29 3712 rfl slices_S32x7168_o0_3712_S32x128 inb_S1x7168_S1x128_0_3712 inb_S32x7168_S32x128_0_3712,
    List.forall_mem_cons.2 ⟨code x0 x1 28 3584 rfl slices_S32x7168_o0_3584_S32x128 inb_S1x7168_S1x128_0_3584 inb_S32x7168_S32x128_0_3584,
    List.forall_mem_cons.2 ⟨code x0 x1 27 3456 rfl slices_S32x7168_o0_3456_S32x128 inb_S1x7168_S1x128_0_3456 inb_S32x7168_S32x128_0_3456,
    List.forall_mem_cons.2 ⟨code x0 x1 26 3328 rfl slices_S32x7168_o0_3328_S32x128 inb_S1x7168_S1x128_0_3328 inb_S32x7168_S32x128_0_3328,
    List.forall_mem_cons.2 ⟨code x0 x1 25 3200 rfl slices_S32x7168_o0_3200_S32x128 inb_S1x7168_S1x128_0_3200 inb_S32x7168_S32x128_0_3200,
    List.forall_mem_cons.2 ⟨code x0 x1 24 3072 rfl slices_S32x7168_o0_3072_S32x128 inb_S1x7168_S1x128_0_3072 inb_S32x7168_S32x128_0_3072,
    List.forall_mem_cons.2 ⟨code x0 x1 23 2944 rfl slices_S32x7168_o0_2944_S32x128 inb_S1x7168_S1x128_0_2944 inb_S32x7168_S32x128_0_2944,
    List.forall_mem_cons.2 ⟨code x0 x1 22 2816 rfl slices_S32x7168_o0_2816_S32x128 inb_S1x7168_S1x128_0_2816 inb_S32x7168_S32x128_0_2816,
    List.forall_mem_cons.2 ⟨code x0 x1 21 2688 rfl slices_S32x7168_o0_2688_S32x128 inb_S1x7168_S1x128_0_2688 inb_S32x7168_S32x128_0_2688,
    List.forall_mem_cons.2 ⟨code x0 x1 20 2560 rfl slices_S32x7168_o0_2560_S32x128 inb_S1x7168_S1x128_0_2560 inb_S32x7168_S32x128_0_2560,
    List.forall_mem_cons.2 ⟨code x0 x1 19 2432 rfl slices_S32x7168_o0_2432_S32x128 inb_S1x7168_S1x128_0_2432 inb_S32x7168_S32x128_0_2432,
    List.forall_mem_cons.2 ⟨code x0 x1 18 2304 rfl slices_S32x7168_o0_2304_S32x128 inb_S1x7168_S1x128_0_2304 inb_S32x7168_S32x128_0_2304,
    List.forall_mem_cons.2 ⟨code x0 x1 17 2176 rfl slices_S32x7168_o0_2176_S32x128 inb_S1x7168_S1x128_0_2176 inb_S32x7168_S32x128_0_2176,
    List.forall_mem_cons.2 ⟨code x0 x1 16 2048 rfl slices_S32x7168_o0_2048_S32x128 inb_S1x7168_S1x128_0_2048 inb_S32x7168_S32x128_0_2048,
    List.forall_mem_cons.2 ⟨code x0 x1 15 1920 rfl slices_S32x7168_o0_1920_S32x128 inb_S1x7168_S1x128_0_1920 inb_S32x7168_S32x128_0_1920,
    List.forall_mem_cons.2 ⟨code x0 x1 14 1792 rfl slices_S32x7168_o0_1792_S32x128 inb_S1x7168_S1x128_0_1792 inb_S32x7168_S32x128_0_1792,
    List.forall_mem_cons.2 ⟨code x0 x1 13 1664 rfl slices_S32x7168_o0_1664_S32x128 inb_S1x7168_S1x128_0_1664 inb_S32x7168_S32x128_0_1664,
    List.forall_mem_cons.2 ⟨code x0 x1 12 1536 rfl slices_S32x7168_o0_1536_S32x128 inb_S1x7168_S1x128_0_1536 inb_S32x7168_S32x128_0_1536,
    List.forall_mem_cons.2 ⟨code x0 x1 11 1408 rfl slices_S32x7168_o0_1408_S32x128 inb_S1x7168_S1x128_0_1408 inb_S32x7168_S32x128_0_1408,
    List.forall_mem_cons.2 ⟨code x0 x1 10 1280 rfl slices_S32x7168_o0_1280_S32x128 inb_S1x7168_S1x128_0_1280 inb_S32x7168_S32x128_0_1280,
    List.forall_mem_cons.2 ⟨code x0 x1 9 1152 rfl slices_S32x7168_o0_1152_S32x128 inb_S1x7168_S1x128_0_1152 inb_S32x7168_S32x128_0_1152,
    List.forall_mem_cons.2 ⟨code x0 x1 8 1024 rfl slices_S32x7168_o0_1024_S32x128 inb_S1x7168_S1x128_0_1024 inb_S32x7168_S32x128_0_1024,
    List.forall_mem_cons.2 ⟨code x0 x1 7 896 rfl slices_S32x7168_o0_896_S32x128 inb_S1x7168_S1x128_0_896 inb_S32x7168_S32x128_0_896,
    List.forall_mem_cons.2 ⟨code x0 x1 6 768 rfl slices_S32x7168_o0_768_S32x128 inb_S1x7168_S1x128_0_768 inb_S32x7168_S32x128_0_768,
    List.forall_mem_cons.2 ⟨code x0 x1 5 640 rfl slices_S32x7168_o0_640_S32x128 inb_S1x7168_S1x128_0_640 inb_S32x7168_S32x128_0_640,
    List.forall_mem_cons.2 ⟨code x0 x1 4 512 rfl slices_S32x7168_o0_512_S32x128 inb_S1x7168_S1x128_0_512 inb_S32x7168_S32x128_0_512,
    List.forall_mem_cons.2 ⟨code x0 x1 3 384 rfl slices_S32x7168_o0_384_S32x128 inb_S1x7168_S1x128_0_384 inb_S32x7168_S32x128_0_384,
    List.forall_mem_cons.2 ⟨code x0 x1 2 256 rfl slices_S32x7168_o0_256_S32x128 inb_S1x7168_S1x128_0_256 inb_S32x7168_S32x128_0_256,
    List.forall_mem_cons.2 ⟨code x0 x1 1 128 rfl slices_S32x7168_o0_128_S32x128 inb_S1x7168_S1x128_0_128 inb_S32x7168_S32x128_0_128,
    List.forall_mem_cons.2 ⟨code x0 x1 0 0 rfl slices_S32x7168_o0_0_S32x128 inb_S1x7168_S1x128_0_0 inb_S32x7168_S32x128_0_0,
    List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

/-- The scaled integers the body leaves. -/
theorem deqs_block (y : S32x7168.Idx) : out0_4 x0 x1 y = deqs hW 0x45E00000#32 (rows x0) x1 y := by
  refine View.canon_apply_of_pieces (Val := Elt Ideal) (e := .bf16) (deqs hW 0x45E00000#32 (rows x0) x1) _ ?_ y (cover0_4 (F := Ideal) _ _ _ _ _ _ _ _ _ _ _ _ _ _ _ _ _ _ _ _ _ _ _ _ _ _ _ _ _ _ _ _ _ _ _ _ _ _ _ _ _ _ _ _ _ _ _ _ _ _ _ _ _ _ _ _ y)
  exact
    List.forall_mem_cons.2 ⟨deq x0 x1 55 7040 rfl slices_S32x7168_o0_7040_S32x128 inb_S1x7168_S1x128_0_7040 inb_S32x7168_S32x128_0_7040,
    List.forall_mem_cons.2 ⟨deq x0 x1 54 6912 rfl slices_S32x7168_o0_6912_S32x128 inb_S1x7168_S1x128_0_6912 inb_S32x7168_S32x128_0_6912,
    List.forall_mem_cons.2 ⟨deq x0 x1 53 6784 rfl slices_S32x7168_o0_6784_S32x128 inb_S1x7168_S1x128_0_6784 inb_S32x7168_S32x128_0_6784,
    List.forall_mem_cons.2 ⟨deq x0 x1 52 6656 rfl slices_S32x7168_o0_6656_S32x128 inb_S1x7168_S1x128_0_6656 inb_S32x7168_S32x128_0_6656,
    List.forall_mem_cons.2 ⟨deq x0 x1 51 6528 rfl slices_S32x7168_o0_6528_S32x128 inb_S1x7168_S1x128_0_6528 inb_S32x7168_S32x128_0_6528,
    List.forall_mem_cons.2 ⟨deq x0 x1 50 6400 rfl slices_S32x7168_o0_6400_S32x128 inb_S1x7168_S1x128_0_6400 inb_S32x7168_S32x128_0_6400,
    List.forall_mem_cons.2 ⟨deq x0 x1 49 6272 rfl slices_S32x7168_o0_6272_S32x128 inb_S1x7168_S1x128_0_6272 inb_S32x7168_S32x128_0_6272,
    List.forall_mem_cons.2 ⟨deq x0 x1 48 6144 rfl slices_S32x7168_o0_6144_S32x128 inb_S1x7168_S1x128_0_6144 inb_S32x7168_S32x128_0_6144,
    List.forall_mem_cons.2 ⟨deq x0 x1 47 6016 rfl slices_S32x7168_o0_6016_S32x128 inb_S1x7168_S1x128_0_6016 inb_S32x7168_S32x128_0_6016,
    List.forall_mem_cons.2 ⟨deq x0 x1 46 5888 rfl slices_S32x7168_o0_5888_S32x128 inb_S1x7168_S1x128_0_5888 inb_S32x7168_S32x128_0_5888,
    List.forall_mem_cons.2 ⟨deq x0 x1 45 5760 rfl slices_S32x7168_o0_5760_S32x128 inb_S1x7168_S1x128_0_5760 inb_S32x7168_S32x128_0_5760,
    List.forall_mem_cons.2 ⟨deq x0 x1 44 5632 rfl slices_S32x7168_o0_5632_S32x128 inb_S1x7168_S1x128_0_5632 inb_S32x7168_S32x128_0_5632,
    List.forall_mem_cons.2 ⟨deq x0 x1 43 5504 rfl slices_S32x7168_o0_5504_S32x128 inb_S1x7168_S1x128_0_5504 inb_S32x7168_S32x128_0_5504,
    List.forall_mem_cons.2 ⟨deq x0 x1 42 5376 rfl slices_S32x7168_o0_5376_S32x128 inb_S1x7168_S1x128_0_5376 inb_S32x7168_S32x128_0_5376,
    List.forall_mem_cons.2 ⟨deq x0 x1 41 5248 rfl slices_S32x7168_o0_5248_S32x128 inb_S1x7168_S1x128_0_5248 inb_S32x7168_S32x128_0_5248,
    List.forall_mem_cons.2 ⟨deq x0 x1 40 5120 rfl slices_S32x7168_o0_5120_S32x128 inb_S1x7168_S1x128_0_5120 inb_S32x7168_S32x128_0_5120,
    List.forall_mem_cons.2 ⟨deq x0 x1 39 4992 rfl slices_S32x7168_o0_4992_S32x128 inb_S1x7168_S1x128_0_4992 inb_S32x7168_S32x128_0_4992,
    List.forall_mem_cons.2 ⟨deq x0 x1 38 4864 rfl slices_S32x7168_o0_4864_S32x128 inb_S1x7168_S1x128_0_4864 inb_S32x7168_S32x128_0_4864,
    List.forall_mem_cons.2 ⟨deq x0 x1 37 4736 rfl slices_S32x7168_o0_4736_S32x128 inb_S1x7168_S1x128_0_4736 inb_S32x7168_S32x128_0_4736,
    List.forall_mem_cons.2 ⟨deq x0 x1 36 4608 rfl slices_S32x7168_o0_4608_S32x128 inb_S1x7168_S1x128_0_4608 inb_S32x7168_S32x128_0_4608,
    List.forall_mem_cons.2 ⟨deq x0 x1 35 4480 rfl slices_S32x7168_o0_4480_S32x128 inb_S1x7168_S1x128_0_4480 inb_S32x7168_S32x128_0_4480,
    List.forall_mem_cons.2 ⟨deq x0 x1 34 4352 rfl slices_S32x7168_o0_4352_S32x128 inb_S1x7168_S1x128_0_4352 inb_S32x7168_S32x128_0_4352,
    List.forall_mem_cons.2 ⟨deq x0 x1 33 4224 rfl slices_S32x7168_o0_4224_S32x128 inb_S1x7168_S1x128_0_4224 inb_S32x7168_S32x128_0_4224,
    List.forall_mem_cons.2 ⟨deq x0 x1 32 4096 rfl slices_S32x7168_o0_4096_S32x128 inb_S1x7168_S1x128_0_4096 inb_S32x7168_S32x128_0_4096,
    List.forall_mem_cons.2 ⟨deq x0 x1 31 3968 rfl slices_S32x7168_o0_3968_S32x128 inb_S1x7168_S1x128_0_3968 inb_S32x7168_S32x128_0_3968,
    List.forall_mem_cons.2 ⟨deq x0 x1 30 3840 rfl slices_S32x7168_o0_3840_S32x128 inb_S1x7168_S1x128_0_3840 inb_S32x7168_S32x128_0_3840,
    List.forall_mem_cons.2 ⟨deq x0 x1 29 3712 rfl slices_S32x7168_o0_3712_S32x128 inb_S1x7168_S1x128_0_3712 inb_S32x7168_S32x128_0_3712,
    List.forall_mem_cons.2 ⟨deq x0 x1 28 3584 rfl slices_S32x7168_o0_3584_S32x128 inb_S1x7168_S1x128_0_3584 inb_S32x7168_S32x128_0_3584,
    List.forall_mem_cons.2 ⟨deq x0 x1 27 3456 rfl slices_S32x7168_o0_3456_S32x128 inb_S1x7168_S1x128_0_3456 inb_S32x7168_S32x128_0_3456,
    List.forall_mem_cons.2 ⟨deq x0 x1 26 3328 rfl slices_S32x7168_o0_3328_S32x128 inb_S1x7168_S1x128_0_3328 inb_S32x7168_S32x128_0_3328,
    List.forall_mem_cons.2 ⟨deq x0 x1 25 3200 rfl slices_S32x7168_o0_3200_S32x128 inb_S1x7168_S1x128_0_3200 inb_S32x7168_S32x128_0_3200,
    List.forall_mem_cons.2 ⟨deq x0 x1 24 3072 rfl slices_S32x7168_o0_3072_S32x128 inb_S1x7168_S1x128_0_3072 inb_S32x7168_S32x128_0_3072,
    List.forall_mem_cons.2 ⟨deq x0 x1 23 2944 rfl slices_S32x7168_o0_2944_S32x128 inb_S1x7168_S1x128_0_2944 inb_S32x7168_S32x128_0_2944,
    List.forall_mem_cons.2 ⟨deq x0 x1 22 2816 rfl slices_S32x7168_o0_2816_S32x128 inb_S1x7168_S1x128_0_2816 inb_S32x7168_S32x128_0_2816,
    List.forall_mem_cons.2 ⟨deq x0 x1 21 2688 rfl slices_S32x7168_o0_2688_S32x128 inb_S1x7168_S1x128_0_2688 inb_S32x7168_S32x128_0_2688,
    List.forall_mem_cons.2 ⟨deq x0 x1 20 2560 rfl slices_S32x7168_o0_2560_S32x128 inb_S1x7168_S1x128_0_2560 inb_S32x7168_S32x128_0_2560,
    List.forall_mem_cons.2 ⟨deq x0 x1 19 2432 rfl slices_S32x7168_o0_2432_S32x128 inb_S1x7168_S1x128_0_2432 inb_S32x7168_S32x128_0_2432,
    List.forall_mem_cons.2 ⟨deq x0 x1 18 2304 rfl slices_S32x7168_o0_2304_S32x128 inb_S1x7168_S1x128_0_2304 inb_S32x7168_S32x128_0_2304,
    List.forall_mem_cons.2 ⟨deq x0 x1 17 2176 rfl slices_S32x7168_o0_2176_S32x128 inb_S1x7168_S1x128_0_2176 inb_S32x7168_S32x128_0_2176,
    List.forall_mem_cons.2 ⟨deq x0 x1 16 2048 rfl slices_S32x7168_o0_2048_S32x128 inb_S1x7168_S1x128_0_2048 inb_S32x7168_S32x128_0_2048,
    List.forall_mem_cons.2 ⟨deq x0 x1 15 1920 rfl slices_S32x7168_o0_1920_S32x128 inb_S1x7168_S1x128_0_1920 inb_S32x7168_S32x128_0_1920,
    List.forall_mem_cons.2 ⟨deq x0 x1 14 1792 rfl slices_S32x7168_o0_1792_S32x128 inb_S1x7168_S1x128_0_1792 inb_S32x7168_S32x128_0_1792,
    List.forall_mem_cons.2 ⟨deq x0 x1 13 1664 rfl slices_S32x7168_o0_1664_S32x128 inb_S1x7168_S1x128_0_1664 inb_S32x7168_S32x128_0_1664,
    List.forall_mem_cons.2 ⟨deq x0 x1 12 1536 rfl slices_S32x7168_o0_1536_S32x128 inb_S1x7168_S1x128_0_1536 inb_S32x7168_S32x128_0_1536,
    List.forall_mem_cons.2 ⟨deq x0 x1 11 1408 rfl slices_S32x7168_o0_1408_S32x128 inb_S1x7168_S1x128_0_1408 inb_S32x7168_S32x128_0_1408,
    List.forall_mem_cons.2 ⟨deq x0 x1 10 1280 rfl slices_S32x7168_o0_1280_S32x128 inb_S1x7168_S1x128_0_1280 inb_S32x7168_S32x128_0_1280,
    List.forall_mem_cons.2 ⟨deq x0 x1 9 1152 rfl slices_S32x7168_o0_1152_S32x128 inb_S1x7168_S1x128_0_1152 inb_S32x7168_S32x128_0_1152,
    List.forall_mem_cons.2 ⟨deq x0 x1 8 1024 rfl slices_S32x7168_o0_1024_S32x128 inb_S1x7168_S1x128_0_1024 inb_S32x7168_S32x128_0_1024,
    List.forall_mem_cons.2 ⟨deq x0 x1 7 896 rfl slices_S32x7168_o0_896_S32x128 inb_S1x7168_S1x128_0_896 inb_S32x7168_S32x128_0_896,
    List.forall_mem_cons.2 ⟨deq x0 x1 6 768 rfl slices_S32x7168_o0_768_S32x128 inb_S1x7168_S1x128_0_768 inb_S32x7168_S32x128_0_768,
    List.forall_mem_cons.2 ⟨deq x0 x1 5 640 rfl slices_S32x7168_o0_640_S32x128 inb_S1x7168_S1x128_0_640 inb_S32x7168_S32x128_0_640,
    List.forall_mem_cons.2 ⟨deq x0 x1 4 512 rfl slices_S32x7168_o0_512_S32x128 inb_S1x7168_S1x128_0_512 inb_S32x7168_S32x128_0_512,
    List.forall_mem_cons.2 ⟨deq x0 x1 3 384 rfl slices_S32x7168_o0_384_S32x128 inb_S1x7168_S1x128_0_384 inb_S32x7168_S32x128_0_384,
    List.forall_mem_cons.2 ⟨deq x0 x1 2 256 rfl slices_S32x7168_o0_256_S32x128 inb_S1x7168_S1x128_0_256 inb_S32x7168_S32x128_0_256,
    List.forall_mem_cons.2 ⟨deq x0 x1 1 128 rfl slices_S32x7168_o0_128_S32x128 inb_S1x7168_S1x128_0_128 inb_S32x7168_S32x128_0_128,
    List.forall_mem_cons.2 ⟨deq x0 x1 0 0 rfl slices_S32x7168_o0_0_S32x128 inb_S1x7168_S1x128_0_0 inb_S32x7168_S32x128_0_0,
    List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

/-- The scales the body leaves. -/
theorem scales_block (p : Fin 32) (j : Fin 56) : out0_3 x0 x1 (ix2 p j) = sc hW (dd 0x45E00000#32) (fun c => rows x0 (ix2 p c)) (fun c => x1 (ix2 0 c)) j := by
  unfold out0_3
  rw [View.canon_unit_zero hz]
  exact (
    put x0 x1 55 7040 rfl slices_S32x7168_o0_7040_S32x128 inb_S1x7168_S1x128_0_7040 55#32 rfl (
    put x0 x1 54 6912 rfl slices_S32x7168_o0_6912_S32x128 inb_S1x7168_S1x128_0_6912 54#32 rfl (
    put x0 x1 53 6784 rfl slices_S32x7168_o0_6784_S32x128 inb_S1x7168_S1x128_0_6784 53#32 rfl (
    put x0 x1 52 6656 rfl slices_S32x7168_o0_6656_S32x128 inb_S1x7168_S1x128_0_6656 52#32 rfl (
    put x0 x1 51 6528 rfl slices_S32x7168_o0_6528_S32x128 inb_S1x7168_S1x128_0_6528 51#32 rfl (
    put x0 x1 50 6400 rfl slices_S32x7168_o0_6400_S32x128 inb_S1x7168_S1x128_0_6400 50#32 rfl (
    put x0 x1 49 6272 rfl slices_S32x7168_o0_6272_S32x128 inb_S1x7168_S1x128_0_6272 49#32 rfl (
    put x0 x1 48 6144 rfl slices_S32x7168_o0_6144_S32x128 inb_S1x7168_S1x128_0_6144 48#32 rfl (
    put x0 x1 47 6016 rfl slices_S32x7168_o0_6016_S32x128 inb_S1x7168_S1x128_0_6016 47#32 rfl (
    put x0 x1 46 5888 rfl slices_S32x7168_o0_5888_S32x128 inb_S1x7168_S1x128_0_5888 46#32 rfl (
    put x0 x1 45 5760 rfl slices_S32x7168_o0_5760_S32x128 inb_S1x7168_S1x128_0_5760 45#32 rfl (
    put x0 x1 44 5632 rfl slices_S32x7168_o0_5632_S32x128 inb_S1x7168_S1x128_0_5632 44#32 rfl (
    put x0 x1 43 5504 rfl slices_S32x7168_o0_5504_S32x128 inb_S1x7168_S1x128_0_5504 43#32 rfl (
    put x0 x1 42 5376 rfl slices_S32x7168_o0_5376_S32x128 inb_S1x7168_S1x128_0_5376 42#32 rfl (
    put x0 x1 41 5248 rfl slices_S32x7168_o0_5248_S32x128 inb_S1x7168_S1x128_0_5248 41#32 rfl (
    put x0 x1 40 5120 rfl slices_S32x7168_o0_5120_S32x128 inb_S1x7168_S1x128_0_5120 40#32 rfl (
    put x0 x1 39 4992 rfl slices_S32x7168_o0_4992_S32x128 inb_S1x7168_S1x128_0_4992 39#32 rfl (
    put x0 x1 38 4864 rfl slices_S32x7168_o0_4864_S32x128 inb_S1x7168_S1x128_0_4864 38#32 rfl (
    put x0 x1 37 4736 rfl slices_S32x7168_o0_4736_S32x128 inb_S1x7168_S1x128_0_4736 37#32 rfl (
    put x0 x1 36 4608 rfl slices_S32x7168_o0_4608_S32x128 inb_S1x7168_S1x128_0_4608 36#32 rfl (
    put x0 x1 35 4480 rfl slices_S32x7168_o0_4480_S32x128 inb_S1x7168_S1x128_0_4480 35#32 rfl (
    put x0 x1 34 4352 rfl slices_S32x7168_o0_4352_S32x128 inb_S1x7168_S1x128_0_4352 34#32 rfl (
    put x0 x1 33 4224 rfl slices_S32x7168_o0_4224_S32x128 inb_S1x7168_S1x128_0_4224 33#32 rfl (
    put x0 x1 32 4096 rfl slices_S32x7168_o0_4096_S32x128 inb_S1x7168_S1x128_0_4096 32#32 rfl (
    put x0 x1 31 3968 rfl slices_S32x7168_o0_3968_S32x128 inb_S1x7168_S1x128_0_3968 31#32 rfl (
    put x0 x1 30 3840 rfl slices_S32x7168_o0_3840_S32x128 inb_S1x7168_S1x128_0_3840 30#32 rfl (
    put x0 x1 29 3712 rfl slices_S32x7168_o0_3712_S32x128 inb_S1x7168_S1x128_0_3712 29#32 rfl (
    put x0 x1 28 3584 rfl slices_S32x7168_o0_3584_S32x128 inb_S1x7168_S1x128_0_3584 28#32 rfl (
    put x0 x1 27 3456 rfl slices_S32x7168_o0_3456_S32x128 inb_S1x7168_S1x128_0_3456 27#32 rfl (
    put x0 x1 26 3328 rfl slices_S32x7168_o0_3328_S32x128 inb_S1x7168_S1x128_0_3328 26#32 rfl (
    put x0 x1 25 3200 rfl slices_S32x7168_o0_3200_S32x128 inb_S1x7168_S1x128_0_3200 25#32 rfl (
    put x0 x1 24 3072 rfl slices_S32x7168_o0_3072_S32x128 inb_S1x7168_S1x128_0_3072 24#32 rfl (
    put x0 x1 23 2944 rfl slices_S32x7168_o0_2944_S32x128 inb_S1x7168_S1x128_0_2944 23#32 rfl (
    put x0 x1 22 2816 rfl slices_S32x7168_o0_2816_S32x128 inb_S1x7168_S1x128_0_2816 22#32 rfl (
    put x0 x1 21 2688 rfl slices_S32x7168_o0_2688_S32x128 inb_S1x7168_S1x128_0_2688 21#32 rfl (
    put x0 x1 20 2560 rfl slices_S32x7168_o0_2560_S32x128 inb_S1x7168_S1x128_0_2560 20#32 rfl (
    put x0 x1 19 2432 rfl slices_S32x7168_o0_2432_S32x128 inb_S1x7168_S1x128_0_2432 19#32 rfl (
    put x0 x1 18 2304 rfl slices_S32x7168_o0_2304_S32x128 inb_S1x7168_S1x128_0_2304 18#32 rfl (
    put x0 x1 17 2176 rfl slices_S32x7168_o0_2176_S32x128 inb_S1x7168_S1x128_0_2176 17#32 rfl (
    put x0 x1 16 2048 rfl slices_S32x7168_o0_2048_S32x128 inb_S1x7168_S1x128_0_2048 16#32 rfl (
    put x0 x1 15 1920 rfl slices_S32x7168_o0_1920_S32x128 inb_S1x7168_S1x128_0_1920 15#32 rfl (
    put x0 x1 14 1792 rfl slices_S32x7168_o0_1792_S32x128 inb_S1x7168_S1x128_0_1792 14#32 rfl (
    put x0 x1 13 1664 rfl slices_S32x7168_o0_1664_S32x128 inb_S1x7168_S1x128_0_1664 13#32 rfl (
    put x0 x1 12 1536 rfl slices_S32x7168_o0_1536_S32x128 inb_S1x7168_S1x128_0_1536 12#32 rfl (
    put x0 x1 11 1408 rfl slices_S32x7168_o0_1408_S32x128 inb_S1x7168_S1x128_0_1408 11#32 rfl (
    put x0 x1 10 1280 rfl slices_S32x7168_o0_1280_S32x128 inb_S1x7168_S1x128_0_1280 10#32 rfl (
    put x0 x1 9 1152 rfl slices_S32x7168_o0_1152_S32x128 inb_S1x7168_S1x128_0_1152 9#32 rfl (
    put x0 x1 8 1024 rfl slices_S32x7168_o0_1024_S32x128 inb_S1x7168_S1x128_0_1024 8#32 rfl (
    put x0 x1 7 896 rfl slices_S32x7168_o0_896_S32x128 inb_S1x7168_S1x128_0_896 7#32 rfl (
    put x0 x1 6 768 rfl slices_S32x7168_o0_768_S32x128 inb_S1x7168_S1x128_0_768 6#32 rfl (
    put x0 x1 5 640 rfl slices_S32x7168_o0_640_S32x128 inb_S1x7168_S1x128_0_640 5#32 rfl (
    put x0 x1 4 512 rfl slices_S32x7168_o0_512_S32x128 inb_S1x7168_S1x128_0_512 4#32 rfl (
    put x0 x1 3 384 rfl slices_S32x7168_o0_384_S32x128 inb_S1x7168_S1x128_0_384 3#32 rfl (
    put x0 x1 2 256 rfl slices_S32x7168_o0_256_S32x128 inb_S1x7168_S1x128_0_256 2#32 rfl (
    put x0 x1 1 128 rfl slices_S32x7168_o0_128_S32x128 inb_S1x7168_S1x128_0_128 1#32 rfl (
    put x0 x1 0 0 rfl slices_S32x7168_o0_0_S32x128 inb_S1x7168_S1x128_0_0 0#32 rfl (
    (fun _ _ h => absurd h (Nat.not_lt_zero _) : Upto hW 0x45E00000#32 (rows x0) x1 0 _))))))))))))))))))))))))))))))))))))))))))))))))))))))))) : Upto hW 0x45E00000#32 (rows x0) x1 56 _) p j j.isLt

/-- The reciprocal root mean squares the body leaves. -/
theorem root_block (p : Fin 32) (z : Fin 1) : out0_5 x0 x1 (ix2 p z) = rms (dd 0x45E00000#32) fun c => rows x0 (ix2 p c) := by
  unfold out0_5
  rw [View.canon_unit_zero hz]
  exact root_apply x0 p z

end Block

end Cert.QuantInIdeal.Norm

end
-- ==== Proof.QuantInRead.lean ====
/- The quantise reference on the layer input: its four results at an index. -/
module

public import proofs.«01_k».proof.Proof.Gen.QuantInRefIdeal.Read
public import proofs.«01_k».proof.Proof.Quant
public import Idealize.ShloMosaic.Lib.Pipeline.ValueKit

@[expose] public section

set_option maxRecDepth 65536

noncomputable section

open Cert.Quant
open Idealize.ShloMosaic hiding ix0 ix1 ix2 ix3 eq_ix1 eq_ix2
open Idealize.ShloMosaic.TcCoe Idealize.ShloMosaic.ValueIdx Idealize.SL.Sem
open Idealize.ShloMosaic.Pipeline (Dat Window)
open scoped BigOperators

namespace Cert.QuantInRefIdeal.Norm

open Cert.QuantInRefIdeal Cert.QuantInRefIdeal.Gen Cert.QuantInRefIdeal.Read

theorem hW : 7168 = 56 * 128 := rfl

variable (x0 : Vec Ideal S1280x7168 .bf16) (x1 : Vec Ideal S7168 .f32)

/-- A row of the argument, and its gains. -/
def R (a : Fin 1280) : Fin 7168 → EReal := fun k => x0 (ix2 a k)
def g : Fin 7168 → EReal := fun k => x1 (ix1 k)

theorem root_at (a : Fin 1280) : val_main_v7 (F := Ideal) x0 (ix1 a) = rms (dd 0x45E00000#32) (R x0 a) := by
  have e : val_main_v2 (F := Ideal) x0 (ix1 a) = ∑ k, R x0 a k * R x0 a k := by
    rw [val_main_v2_apply]
    show Ideal.ofBits .f32 0x00000000#32 + _ = _
    rw [Ideal.ofBits_zero_f32, zero_add]
    refine Finset.sum_congr rfl fun k _ => ?_
    have i : idx_main_v2 (ix1 a) k = ix2 a k := funext fun d => Fin.ext (by match d with | ⟨0, _⟩ => rfl | ⟨1, _⟩ => rfl)
    rw [i]
    rfl
  show FloatOps.rsqrt (F := Ideal) (φ := .f32) (FloatOps.divf (F := Ideal) (φ := .f32) (val_main_v2 (F := Ideal) x0 (ix1 a)) _ + _) = _
  rw [e]
  rfl

theorem nrm_at (a : Fin 1280) (c : Fin 7168) : val_main_v13 (F := Ideal) x0 x1 (ix2 a c) = nrm (dd 0x45E00000#32) (R x0 a) (g x1) c := by
  rw [val_main_v13_apply, val_main_v10_apply, val_main_v9_apply, val_main_v8_apply, val_main_v12_apply, val_main_v11_apply]
  have i : idx_main_v8 (idx_main_v9 (ix2 a c)) = ix1 a := funext fun d => Fin.ext (by match d with | ⟨0, _⟩ => rfl)
  have i' : idx_main_v11 (idx_main_v12 (ix2 a c)) = ix1 c := funext fun d => Fin.ext (by match d with | ⟨0, _⟩ => rfl)
  rw [i, i', root_at]
  rfl

theorem group_at (a : Fin 1280) (k : Fin 56) (q : Fin 128) : val_main_v14 (F := Ideal) x0 x1 (ix3 a k q) = nrm (dd 0x45E00000#32) (R x0 a) (g x1) (col hW k q) := by
  have i : idx_main_v14 (ix3 a k q) = ix2 a (col hW k q) := funext fun d => Fin.ext (by
    have := k.isLt
    have := q.isLt
    match d with
    | ⟨0, _⟩ => show ((a.val * 56 + k.val) * 128 + q.val) / 7168 = a.val; omega
    | ⟨1, _⟩ => show ((a.val * 56 + k.val) * 128 + q.val) % 7168 = k.val * 128 + q.val; omega)
  rw [val_main_v14_apply, i, nrm_at]

theorem amax_at (a : Fin 1280) (k : Fin 56) : val_main_v16 (F := Ideal) x0 x1 (ix2 a k) = amax fun q => nrm (dd 0x45E00000#32) (R x0 a) (g x1) (col hW k q) := by
  unfold val_main_v16
  have hr : S1280x56x128.Reduces [2] S1280x56 := by decide
  refine (Host.reduce_eq_fold_single (FloatOps.maximumf (F := Ideal) (φ := .f32)) _ _ _ hr _ _).trans ?_
  unfold amax
  have key : ∀ q : Fin 128, FloatOps.absf (F := Ideal) (φ := .f32) (val_main_v14 (F := Ideal) x0 x1 (hr.lift (ix2 a k) q)) = FloatOps.absf (F := Ideal) (φ := .f32) (nrm (dd 0x45E00000#32) (R x0 a) (g x1) (col hW k q)) := by
    intro q
    have i : hr.lift (ix2 a k) q = (ix3 a k q : S1280x56x128.Idx) := funext fun d => Fin.ext (by match d with | ⟨0, _⟩ => rfl | ⟨1, _⟩ => rfl | ⟨2, _⟩ => rfl)
    exact congrArg (FloatOps.absf (F := Ideal) (φ := .f32)) ((congrArg (val_main_v14 (F := Ideal) x0 x1) i).trans (group_at x0 x1 a k q))
  exact congrArg (fun f => Finset.fold max (FloatOps.ofBits (F := Ideal) .f32 0xFF800000#32) f Finset.univ) (funext key)

theorem scale_at (a : Fin 1280) (k : Fin 56) : val_main_v21 (F := Ideal) x0 x1 (ix2 a k) = sc hW (dd 0x45E00000#32) (R x0 a) (g x1) k := by
  rw [val_main_v21_apply, val_main_v18_apply, val_main_v20_apply, val_main_v17_apply, val_main_v19_apply, val_main_call0_v1_apply, val_main_call0_v0_apply, amax_at,
    val_main_cst_3_apply, val_main_cst_4_apply, val_main_cst_5_apply]
  unfold sc scaleOf
  generalize amax _ = A
  rfl

theorem clip_at (a : Fin 1280) (k : Fin 56) (q : Fin 128) : val_main_v26 (F := Ideal) x0 x1 (ix3 a k q) = clipOf (nrm (dd 0x45E00000#32) (R x0 a) (g x1) (col hW k q)) (sc hW (dd 0x45E00000#32) (R x0 a) (g x1) k) := by
  have e : val_main_v23 (F := Ideal) x0 x1 (ix3 a k q) = sc hW (dd 0x45E00000#32) (R x0 a) (g x1) k := by
    rw [val_main_v23_apply, val_main_v22_apply]
    have i : idx_main_v22 (idx_main_v23 (ix3 a k q)) = ix2 a k := funext fun d => Fin.ext (by match d with | ⟨0, _⟩ => rfl | ⟨1, _⟩ => rfl)
    rw [i, scale_at]
  rw [val_main_v26_apply, val_main_call2_v4_apply, val_main_call2_v3_apply, val_main_c_6_apply, val_main_call2_v2_apply, val_main_call2_v1_apply, val_main_call2_v0_apply, val_main_c_apply,
    val_main_v25_apply, val_main_v24_apply, group_at, e]
  generalize nrm _ _ _ _ = n
  generalize sc _ _ _ _ _ = s
  rfl

/-- The group and the lane of a column give the column back. -/
theorem col_grp (c : Fin 7168) : col hW (grp hW c) ⟨c.val % 128, Nat.mod_lt _ (by decide)⟩ = c :=
  Fin.ext (by show c.val / 128 * 128 + c.val % 128 = c.val; omega)

theorem split_idx (a : Fin 1280) (c : Fin 7168) : idx_main_v34 (ix2 a c) = ix3 a (grp hW c) ⟨c.val % 128, Nat.mod_lt _ (by decide)⟩ := funext fun d => Fin.ext (by
  have := c.isLt
  match d with
  | ⟨0, _⟩ => show (a.val * 7168 + c.val) / 7168 = a.val; omega
  | ⟨1, _⟩ => show (a.val * 7168 + c.val) / 128 % 56 = c.val / 128; omega
  | ⟨2, _⟩ => show (a.val * 7168 + c.val) % 128 = c.val % 128; omega)

theorem codes_at (a : Fin 1280) (c : Fin 7168) : val_main_v34 (F := Ideal) x0 x1 (ix2 a c) = FloatOps.fptosi (F := Ideal) (φ := .f32) 8 (clip hW (dd 0x45E00000#32) (R x0 a) (g x1) c) := by
  rw [val_main_v34_apply, split_idx]
  rw [val_main_v33_apply, val_main_v27_apply, clip_at, col_grp]
  unfold clip
  exact trunci_fptosi_clipOf _ _

theorem deqs_at (a : Fin 1280) (c : Fin 7168) : val_main_v35 (F := Ideal) x0 x1 (ix2 a c)
    = clip hW (dd 0x45E00000#32) (R x0 a) (g x1) c * sc hW (dd 0x45E00000#32) (R x0 a) (g x1) (grp hW c) := by
  have s : idx_main_v35 (ix2 a c) = ix3 a (grp hW c) ⟨c.val % 128, Nat.mod_lt _ (by decide)⟩ := split_idx a c
  rw [val_main_v35_apply, s]
  have e : val_main_v31 (F := Ideal) x0 x1 (ix3 a (grp hW c) ⟨c.val % 128, Nat.mod_lt _ (by decide)⟩) = sc hW (dd 0x45E00000#32) (R x0 a) (g x1) (grp hW c) := by
    rw [val_main_v31_apply, val_main_v30_apply]
    have i : idx_main_v30 (idx_main_v31 (ix3 a (grp hW c) ⟨c.val % 128, Nat.mod_lt _ (by decide)⟩)) = ix2 a (grp hW c) :=
      funext fun d => Fin.ext (by match d with | ⟨0, _⟩ => rfl | ⟨1, _⟩ => rfl)
    rw [i, val_main_v29_apply, scale_at]
    rfl
  rw [val_main_v32_apply, val_main_v28_apply, val_main_v27_apply, clip_at, sitofp_fptosi_clipOf, e, col_grp]
  unfold clip
  rfl

theorem roots_at (a : Fin 1280) (z : Fin 1) : val_main_v36 (F := Ideal) x0 (ix2 a z) = rms (dd 0x45E00000#32) (R x0 a) := by
  rw [val_main_v36_apply]
  have i : idx_main_v36 (ix2 a z) = ix1 a := funext fun d => Fin.ext (by match d with | ⟨0, _⟩ => rfl)
  rw [i, root_at]

end Cert.QuantInRefIdeal.Norm

end
-- ==== Proof.QuantInValue.lean ====
/- The quantise call on the layer input: the array normalised row by row and rounded to eight bits in groups of 128 lanes. What the
   call leaves in its four results and what the reference computes are the same functions of the arguments. -/
module

public import proofs.«01_k».proof.Defs
public import proofs.«01_k».proof.Proof.Gen.QuantIn.Frame
public import proofs.«01_k».proof.Proof.Gen.QuantInRefIdeal.Run
public import proofs.«01_k».proof.Proof.QuantInBlock
public import proofs.«01_k».proof.Proof.QuantInRead
public import Idealize.ShloMosaic.Lib.Quiescent

@[expose] public section

set_option maxRecDepth 65536

noncomputable section

open Cert.Quant
open Idealize.ShloMosaic hiding ix0 ix1 ix2 ix3 eq_ix1 eq_ix2
open Idealize.ShloMosaic.TcCoe Idealize.ShloMosaic.ValueIdx Idealize.SL.Sem
open Idealize.ShloMosaic.Pipeline (Dat Window)
open scoped BigOperators

namespace Cert.QuantInIdeal.Norm

open Cert.QuantInIdeal Cert.QuantInIdeal.Gen

/-! ## The arrays the call leaves -/

section
variable (m : (ℓ : Loc nD τ sig) → Buf (Elt Ideal) ℓ) (ρ : Dev nD → PrngReg)

theorem ix0_0 : ∀ t : Fin cfg0.N, win0_0.index t 0 = t.val := (by decide +kernel : ∀ t : Fin grid0.N, win0_0.index t 0 = t.val)
theorem ix0_1 : ∀ t : Fin cfg0.N, win0_0.index t 1 = 0 := (by decide +kernel : ∀ t : Fin grid0.N, win0_0.index t 1 = 0)
theorem ix1_0 : ∀ t : Fin cfg0.N, win0_1.index t 0 = 0 := (by decide +kernel : ∀ t : Fin grid0.N, win0_1.index t 0 = 0)
theorem ix1_1 : ∀ t : Fin cfg0.N, win0_1.index t 1 = 0 := (by decide +kernel : ∀ t : Fin grid0.N, win0_1.index t 1 = 0)
theorem ix2_0 : ∀ t : Fin cfg0.N, win0_2.index t 0 = t.val := (by decide +kernel : ∀ t : Fin grid0.N, win0_2.index t 0 = t.val)
theorem ix2_1 : ∀ t : Fin cfg0.N, win0_2.index t 1 = 0 := (by decide +kernel : ∀ t : Fin grid0.N, win0_2.index t 1 = 0)
theorem ix3_0 : ∀ t : Fin cfg0.N, win0_3.index t 0 = t.val := (by decide +kernel : ∀ t : Fin grid0.N, win0_3.index t 0 = t.val)
theorem ix3_1 : ∀ t : Fin cfg0.N, win0_3.index t 1 = 0 := (by decide +kernel : ∀ t : Fin grid0.N, win0_3.index t 1 = 0)
theorem ix4_0 : ∀ t : Fin cfg0.N, win0_4.index t 0 = t.val := (by decide +kernel : ∀ t : Fin grid0.N, win0_4.index t 0 = t.val)
theorem ix4_1 : ∀ t : Fin cfg0.N, win0_4.index t 1 = 0 := (by decide +kernel : ∀ t : Fin grid0.N, win0_4.index t 1 = 0)
theorem ix5_0 : ∀ t : Fin cfg0.N, win0_5.index t 0 = t.val := (by decide +kernel : ∀ t : Fin grid0.N, win0_5.index t 0 = t.val)
theorem ix5_1 : ∀ t : Fin cfg0.N, win0_5.index t 1 = 0 := (by decide +kernel : ∀ t : Fin grid0.N, win0_5.index t 1 = 0)

theorem lt_N (t : Fin cfg0.N) : t.val < 40 := lt_of_lt_of_eq t.isLt N_0

/-- The row of the whole array that row `p` of point `t`'s block is. -/
def row (t : Fin cfg0.N) (p : Fin 32) : Fin 1280 := ⟨t.val * 32 + p.val, by have := lt_N t; omega⟩

/-- A row of the argument, and its gains. -/
def X (c : Dev nD) (a : Fin 1280) : Fin 7168 → EReal := fun k => m ((c : Thread nD τ).loc main_arg0) (ix2 a k)
def gain (c : Dev nD) : Fin 7168 → EReal := fun k => m ((c : Thread nD τ).loc main_arg1) (ix1 k)

theorem V_gain (c : Dev nD) (k : Fin 7168) : V m c main_v0 (ix2 (n0 := 1) (n1 := 7168) 0 k) = gain m c k := by
  have e : V m c main_v0 = shapeCast S1x7168 (m ((c : Thread nD τ).loc main_arg1)) shapeCasts_S7168_S1x7168 := by
    unfold V hostOps0
    after_results
    rfl
  rw [e]
  exact shapeCast_apply _ _ _ (ix1 k) (by
    rewrite [Shape.rowMajor_val_one, Shape.rowMajor_val_two]
    show k.val = 0 * 7168 + k.val
    omega)

theorem rows_eq (c : Dev nD) (t : Fin cfg0.N) (p : Fin 32) : (fun k => rows (iblk m c 0 t) (ix2 p k)) = X m c (row t p) := funext fun k => by
  rw [rows_apply]
  show V m c main_arg0 ((win0_0.rect t).emb (ix2 p k)) = _
  rw [V_main_arg0]
  refine congrArg (m ((c : Thread nD τ).loc main_arg0)) (funext fun d => Fin.ext ?_)
  match d with
  | ⟨0, _⟩ => exact (Window.rect_emb_val win0_0 t _ 0).trans (congrArg (· * 32 + p.val) (ix0_0 t))
  | ⟨1, _⟩ => exact Window.rect_emb_val_of_index_zero win0_0 t 1 (ix0_1 t) _

theorem gain_eq (c : Dev nD) (t : Fin cfg0.N) : (fun k => iblk m c 1 t (ix2 (n0 := 1) (n1 := 7168) 0 k)) = gain m c := funext fun k => by
  rw [← V_gain]
  show V m c main_v0 ((win0_1.rect t).emb (ix2 (n0 := 1) (n1 := 7168) 0 k)) = _
  refine congrArg (V m c main_v0) (funext fun d => Fin.ext ?_)
  match d with
  | ⟨0, _⟩ => exact Window.rect_emb_val_of_index_zero win0_1 t 0 (ix1_0 t) _
  | ⟨1, _⟩ => exact Window.rect_emb_val_of_index_zero win0_1 t 1 (ix1_1 t) _

/-- What the call leaves: the integers, the scales, the scaled integers, the reciprocal root mean squares. -/
def val2 (c : Dev nD) : Buf (Elt Ideal) ((c : Thread nD τ).loc main_v1_0) := fun i =>
  FloatOps.fptosi (F := Ideal) (φ := .f32) 8 (clip hW (dd 0x45E00000#32) (X m c (i 0)) (gain m c) (i 1))
def val3 (c : Dev nD) : Buf (Elt Ideal) ((c : Thread nD τ).loc main_v1_1) := fun i => sc hW (dd 0x45E00000#32) (X m c (i 0)) (gain m c) (i 1)
def val4 (c : Dev nD) : Buf (Elt Ideal) ((c : Thread nD τ).loc main_v1_2) := fun i =>
  clip hW (dd 0x45E00000#32) (X m c (i 0)) (gain m c) (i 1) * sc hW (dd 0x45E00000#32) (X m c (i 0)) (gain m c) (grp hW (i 1))
def val5 (c : Dev nD) : Buf (Elt Ideal) ((c : Thread nD τ).loc main_v1_3) := fun i => rms (dd 0x45E00000#32) (X m c (i 0))

theorem point2 (c : Dev nD) (t : Fin cfg0.N) (j : S32x7168.Idx) : out0_2 (iblk m c 0 t) (iblk m c 1 t) j = val2 m c ((win0_2.rect t).emb j) := by
  obtain ⟨p, q, rfl⟩ : ∃ (p : Fin 32) (q : Fin 7168), j = ix2 p q := ⟨j 0, j 1, eq_ix2 (n0 := 32) (n1 := 7168) j⟩
  have e : (win0_2.rect t).emb (ix2 (n0 := 32) (n1 := 7168) p q) = ix2 (n0 := 1280) (n1 := 7168) (row t p) q := funext fun d => Fin.ext (by
    match d with
    | ⟨0, _⟩ => exact (Window.rect_emb_val win0_2 t (ix2 (n0 := 32) (n1 := 7168) p q) 0).trans (congrArg (· * 32 + p.val) (ix2_0 t))
    | ⟨1, _⟩ => exact Window.rect_emb_val_of_index_zero win0_2 t 1 (ix2_1 t) (ix2 (n0 := 32) (n1 := 7168) p q))
  refine Eq.trans ?_ (congrArg (val2 m c) e).symm
  rw [codes_block]
  show FloatOps.fptosi (F := Ideal) (φ := .f32) 8 (clip hW (dd 0x45E00000#32) (fun k => rows (iblk m c 0 t) (ix2 p k)) (fun k => iblk m c 1 t (ix2 (n0 := 1) (n1 := 7168) 0 k)) q) = _
  rw [rows_eq, gain_eq]
  rfl

theorem final2 (c : Dev nD) : (dats m 0 c).arrAt 2 cfg0.N = val2 m c :=
  (dats m 0 c).arrAt_eq_of_covers 2 (val2 m c) (by decide +kernel) (fun t _ y => (congrFun (after0_2 m c t) _).trans (point2 m c t y))

theorem point3 (c : Dev nD) (t : Fin cfg0.N) (j : S32x56.Idx) : out0_3 (iblk m c 0 t) (iblk m c 1 t) j = val3 m c ((win0_3.rect t).emb j) := by
  obtain ⟨p, q, rfl⟩ : ∃ (p : Fin 32) (q : Fin 56), j = ix2 p q := ⟨j 0, j 1, eq_ix2 (n0 := 32) (n1 := 56) j⟩
  have e : (win0_3.rect t).emb (ix2 (n0 := 32) (n1 := 56) p q) = ix2 (n0 := 1280) (n1 := 56) (row t p) q := funext fun d => Fin.ext (by
    match d with
    | ⟨0, _⟩ => exact (Window.rect_emb_val win0_3 t (ix2 (n0 := 32) (n1 := 56) p q) 0).trans (congrArg (· * 32 + p.val) (ix3_0 t))
    | ⟨1, _⟩ => exact Window.rect_emb_val_of_index_zero win0_3 t 1 (ix3_1 t) (ix2 (n0 := 32) (n1 := 56) p q))
  refine Eq.trans ?_ (congrArg (val3 m c) e).symm
  rw [scales_block]
  show sc hW (dd 0x45E00000#32) (fun k => rows (iblk m c 0 t) (ix2 p k)) (fun k => iblk m c 1 t (ix2 (n0 := 1) (n1 := 7168) 0 k)) q = _
  rw [rows_eq, gain_eq]
  rfl

theorem final3 (c : Dev nD) : (dats m 0 c).arrAt 3 cfg0.N = val3 m c :=
  (dats m 0 c).arrAt_eq_of_covers 3 (val3 m c) (by decide +kernel) (fun t _ y => (congrFun (after0_3 m c t) _).trans (point3 m c t y))

theorem point4 (c : Dev nD) (t : Fin cfg0.N) (j : S32x7168.Idx) : out0_4 (iblk m c 0 t) (iblk m c 1 t) j = val4 m c ((win0_4.rect t).emb j) := by
  obtain ⟨p, q, rfl⟩ : ∃ (p : Fin 32) (q : Fin 7168), j = ix2 p q := ⟨j 0, j 1, eq_ix2 (n0 := 32) (n1 := 7168) j⟩
  have e : (win0_4.rect t).emb (ix2 (n0 := 32) (n1 := 7168) p q) = ix2 (n0 := 1280) (n1 := 7168) (row t p) q := funext fun d => Fin.ext (by
    match d with
    | ⟨0, _⟩ => exact (Window.rect_emb_val win0_4 t (ix2 (n0 := 32) (n1 := 7168) p q) 0).trans (congrArg (· * 32 + p.val) (ix4_0 t))
    | ⟨1, _⟩ => exact Window.rect_emb_val_of_index_zero win0_4 t 1 (ix4_1 t) (ix2 (n0 := 32) (n1 := 7168) p q))
  refine Eq.trans ?_ (congrArg (val4 m c) e).symm
  rw [deqs_block]
  show clip hW (dd 0x45E00000#32) (fun k => rows (iblk m c 0 t) (ix2 p k)) (fun k => iblk m c 1 t (ix2 (n0 := 1) (n1 := 7168) 0 k)) q
    * sc hW (dd 0x45E00000#32) (fun k => rows (iblk m c 0 t) (ix2 p k)) (fun k => iblk m c 1 t (ix2 (n0 := 1) (n1 := 7168) 0 k)) (grp hW q) = _
  rw [rows_eq, gain_eq]
  rfl

theorem final4 (c : Dev nD) : (dats m 0 c).arrAt 4 cfg0.N = val4 m c :=
  (dats m 0 c).arrAt_eq_of_covers 4 (val4 m c) (by decide +kernel) (fun t _ y => (congrFun (after0_4 m c t) _).trans (point4 m c t y))

theorem point5 (c : Dev nD) (t : Fin cfg0.N) (j : S32x1.Idx) : out0_5 (iblk m c 0 t) (iblk m c 1 t) j = val5 m c ((win0_5.rect t).emb j) := by
  obtain ⟨p, q, rfl⟩ : ∃ (p : Fin 32) (q : Fin 1), j = ix2 p q := ⟨j 0, j 1, eq_ix2 (n0 := 32) (n1 := 1) j⟩
  have e : (win0_5.rect t).emb (ix2 (n0 := 32) (n1 := 1) p q) = ix2 (n0 := 1280) (n1 := 1) (row t p) q := funext fun d => Fin.ext (by
    match d with
    | ⟨0, _⟩ => exact (Window.rect_emb_val win0_5 t (ix2 (n0 := 32) (n1 := 1) p q) 0).trans (congrArg (· * 32 + p.val) (ix5_0 t))
    | ⟨1, _⟩ => exact Window.rect_emb_val_of_index_zero win0_5 t 1 (ix5_1 t) (ix2 (n0 := 32) (n1 := 1) p q))
  refine Eq.trans ?_ (congrArg (val5 m c) e).symm
  rw [root_block]
  rw [rows_eq]
  rfl

theorem final5 (c : Dev nD) : (dats m 0 c).arrAt 5 cfg0.N = val5 m c :=
  (dats m 0 c).arrAt_eq_of_covers 5 (val5 m c) (by decide +kernel) (fun t _ y => (congrFun (after0_5 m c t) _).trans (point5 m c t y))

end

end Cert.QuantInIdeal.Norm

/-! ## The claims -/

namespace Cert.Proof.QuantInClaims

theorem frame_p : Cert.quiescent_QuantIn := fun m ρ _ => Cert.QuantIn.Gen.frame m ρ
theorem frame_pi : Cert.quiescent_QuantInIdeal := fun m ρ _ => Cert.QuantInIdeal.Gen.frame m ρ
theorem frame_ri : Cert.quiescent_QuantInRefIdeal := fun m ρ _ =>
  (θ_run Cert.QuantInRefIdeal.defs _ _).mono (fun r h => ⟨fun c => (h c).2.2.2.2, Idealize.ShloMosaic.sem_eq_zero_of_no_sems (by decide) r.2⟩)
    (Cert.QuantInRefIdeal.Value.run (F := Ideal) m ρ)
theorem preserves : Cert.preserves_QuantIn_QuantInIdeal := trivial

/-- Both programs end with the integers, the scales, the scaled integers and the reciprocal root mean squares. -/
theorem algebraic : Cert.algebraic_QuantInIdeal_QuantInRefIdeal := by
  intro m ρ m' ρ' _ hag
  refine ⟨fun c => Cert.QuantInIdeal.Norm.val2 m c, fun c => Cert.QuantInIdeal.Norm.val3 m c, fun c => Cert.QuantInIdeal.Norm.val4 m c, fun c => Cert.QuantInIdeal.Norm.val5 m c, ?_, ?_⟩
  · exact (θ_run _ _ _).mono (fun _ h c => ⟨(h c).1.trans (Cert.QuantInIdeal.Norm.final2 m c), (h c).2.1.trans (Cert.QuantInIdeal.Norm.final3 m c),
      (h c).2.2.1.trans (Cert.QuantInIdeal.Norm.final4 m c), (h c).2.2.2.1.trans (Cert.QuantInIdeal.Norm.final5 m c), (h c).2.2.2.2⟩)
      (Cert.QuantInIdeal.Value.run_blocks m ρ)
  · refine (θ_run _ _ _).mono (fun _ h c => ⟨(h c).1.trans ?_, (h c).2.1.trans ?_, (h c).2.2.1.trans ?_, (h c).2.2.2.1.trans ?_, (h c).2.2.2.2⟩) (Cert.QuantInRefIdeal.Value.run (F := Ideal) m' ρ')
    · rw [Cert.QuantInRefIdeal.Read.val_main_v34_eq, (hag c).1, (hag c).2]
      exact funext fun i => (congrArg _ (eq_ix2 (n0 := 1280) (n1 := 7168) i)).trans (Cert.QuantInRefIdeal.Norm.codes_at _ _ (i 0) (i 1))
    · rw [Cert.QuantInRefIdeal.Read.val_main_v21_eq, (hag c).1, (hag c).2]
      exact funext fun i => (congrArg _ (eq_ix2 (n0 := 1280) (n1 := 56) i)).trans (Cert.QuantInRefIdeal.Norm.scale_at _ _ (i 0) (i 1))
    · rw [Cert.QuantInRefIdeal.Read.val_main_v35_eq, (hag c).1, (hag c).2]
      exact funext fun i => (congrArg _ (eq_ix2 (n0 := 1280) (n1 := 7168) i)).trans (Cert.QuantInRefIdeal.Norm.deqs_at _ _ (i 0) (i 1))
    · rw [Cert.QuantInRefIdeal.Read.val_main_v36_eq, (hag c).1]
      exact funext fun i => (congrArg _ (eq_ix2 (n0 := 1280) (n1 := 1) i)).trans (Cert.QuantInRefIdeal.Norm.roots_at _ (i 0) (i 1))

end Cert.Proof.QuantInClaims

end
-- ==== Proof.QuantAttnBlock.lean ====
/- The quantise call on the attention output: what its body leaves in its four blocks. -/
module

public import proofs.«01_k».proof.Proof.Gen.QuantAttnIdeal.Value
public import proofs.«01_k».proof.Proof.Quant
public import Idealize.ShloMosaic.Lib.Pipeline.ValueKit

@[expose] public section

set_option maxRecDepth 65536

noncomputable section

open Cert.Quant
open Idealize.ShloMosaic hiding ix0 ix1 ix2 ix3 eq_ix1 eq_ix2
open Idealize.ShloMosaic.TcCoe Idealize.ShloMosaic.ValueIdx Idealize.SL.Sem
open Idealize.ShloMosaic.Pipeline (Dat Window)
open scoped BigOperators

namespace Cert.QuantAttnIdeal.Norm

open Cert.QuantAttnIdeal Cert.QuantAttnIdeal.Gen

theorem hW : 7168 = 56 * 128 := rfl

theorem hz : (![0, 0] : Fin 2 → Nat) = fun _ => 0 := funext fun a => by fin_cases a <;> rfl

/-! ## What the body leaves in its four blocks -/

section Block

variable (x0 : Vec Ideal S32x7168 .f32) (x1 : Vec Ideal S1x7168 .f32)

/-- The block of rows the body works on. -/
def rows : FVec Ideal S32x7168 .f32 := View.ld x0 r0_0

theorem rows_apply (i : S32x7168.Idx) : rows x0 i = x0 i := by
  show View.ld x0 r0_0 i = _
  rw [View.ld_unit_zero (S := S32x7168) hz]

theorem root_apply (p : Fin 32) (z : Fin 1) : k0_pay6 (F := Ideal) (View.ld x0 r0_0) (ix2 p z) = rms (dd 0x45E00000#32) fun c => rows x0 (ix2 p c) :=
  kroot_apply (rows x0) 0x45E00000#32 reduces_S32x7168_S32 (.inl rfl) rfl shapeCasts_S32_S32x1 p z

/-- One group of lanes of the integers. -/
theorem code (k : Fin 56) (o : Nat) (ho : o = k.val * 128) (hv : S32x7168.Slices ![0, o] S32x128) (inb : ∀ a, (![0, o] : Fin 2 → Nat) a + S1x128.size a ≤ S1x7168.size a)
    (inb' : ∀ a, (![0, o] : Fin 2 → Nat) a + S32x128.size a ≤ S32x7168.size a) (x : S32x128.Idx) :
    fptosi 8 (kclip (knorm (rows x0) (k0_pay6 (F := Ideal) (View.ld x0 r0_0)) (lanes x1 o inb) o hv broadcasts_S32x1_S32x128 shapeCasts_S1x128_S1x128 broadcasts_S1x128_S32x128)
      (kscale (knorm (rows x0) (k0_pay6 (F := Ideal) (View.ld x0 r0_0)) (lanes x1 o inb) o hv broadcasts_S32x1_S32x128 shapeCasts_S1x128_S1x128 broadcasts_S1x128_S32x128) reduces_S32x128_S32 (.inl rfl) rfl shapeCasts_S32_S32x1) broadcasts_S32x1_S32x128) x
      = codes hW 0x45E00000#32 (rows x0) x1 ((Rect.unit (s := S32x7168) ![0, o] S32x128.size inb').emb x) :=
  code_piece hW 0x45E00000#32 (rows x0) _ x1 (fun p => root_apply x0 p 0) k o ho _ _ _ _ _ _ _ _ _ _ x

/-- One group of lanes of the scaled integers. -/
theorem deq (k : Fin 56) (o : Nat) (ho : o = k.val * 128) (hv : S32x7168.Slices ![0, o] S32x128) (inb : ∀ a, (![0, o] : Fin 2 → Nat) a + S1x128.size a ≤ S1x7168.size a)
    (inb' : ∀ a, (![0, o] : Fin 2 → Nat) a + S32x128.size a ≤ S32x7168.size a) (x : S32x128.Idx) :
    kdeq (knorm (rows x0) (k0_pay6 (F := Ideal) (View.ld x0 r0_0)) (lanes x1 o inb) o hv broadcasts_S32x1_S32x128 shapeCasts_S1x128_S1x128 broadcasts_S1x128_S32x128)
      (kscale (knorm (rows x0) (k0_pay6 (F := Ideal) (View.ld x0 r0_0)) (lanes x1 o inb) o hv broadcasts_S32x1_S32x128 shapeCasts_S1x128_S1x128 broadcasts_S1x128_S32x128) reduces_S32x128_S32 (.inl rfl) rfl shapeCasts_S32_S32x1) broadcasts_S32x1_S32x128 bitsLt_bf16_f32 x
      = deqs hW 0x45E00000#32 (rows x0) x1 ((Rect.unit (s := S32x7168) ![0, o] S32x128.size inb').emb x) :=
  deq_piece hW 0x45E00000#32 (rows x0) _ x1 (fun p => root_apply x0 p 0) k o ho _ _ _ _ _ _ _ _ _ _ _ x

/-- One more lane of the scales. -/
theorem put (k : Fin 56) (o : Nat) (ho : o = k.val * 128) (hv : S32x7168.Slices ![0, o] S32x128) (inb : ∀ a, (![0, o] : Fin 2 → Nat) a + S1x128.size a ≤ S1x7168.size a)
    (w : BitVec 32) (hw : w = BitVec.ofNat 32 k.val) {prev : FVec Ideal S32x56 .f32} (hp : Upto hW 0x45E00000#32 (rows x0) x1 k.val prev) :
    Upto hW 0x45E00000#32 (rows x0) x1 (k.val + 1) (kput w (kscale (knorm (rows x0) (k0_pay6 (F := Ideal) (View.ld x0 r0_0)) (lanes x1 o inb) o hv broadcasts_S32x1_S32x128
      shapeCasts_S1x128_S1x128 broadcasts_S1x128_S32x128) reduces_S32x128_S32 (.inl rfl) rfl shapeCasts_S32_S32x1) prev iota_S32x56_d1_w32 shapeCasts_S32x1_S32x1 broadcasts_S32x1_S32x56) :=
  put_upto hW 0x45E00000#32 (rows x0) _ x1 (fun p => root_apply x0 p 0) (by decide) k o ho _ _ _ _ _ _ _ _ _ _ _ _ w hw hp

/-- The integers the body leaves. -/
theorem codes_block (y : S32x7168.Idx) : out0_2 x0 x1 y = codes hW 0x45E00000#32 (rows x0) x1 y := by
  refine View.canon_apply_of_pieces (Val := Elt Ideal) (e := .i8) (codes hW 0x45E00000#32 (rows x0) x1) _ ?_ y (cover0_2 (F := Ideal) _ _ _ _ _ _ _ _ _ _ _ _ _ _ _ _ _ _ _ _ _ _ _ _ _ _ _ _ _ _ _ _ _ _ _ _ _ _ _ _ _ _ _ _ _ _ _ _ _ _ _ _ _ _ _ _ y)
  exact
    List.forall_mem_cons.2 ⟨code x0 x1 55 7040 rfl slices_S32x7168_o0_7040_S32x128 inb_S1x7168_S1x128_0_7040 inb_S32x7168_S32x128_0_7040,
    List.forall_mem_cons.2 ⟨code x0 x1 54 6912 rfl slices_S32x7168_o0_6912_S32x128 inb_S1x7168_S1x128_0_6912 inb_S32x7168_S32x128_0_6912,
    List.forall_mem_cons.2 ⟨code x0 x1 53 6784 rfl slices_S32x7168_o0_6784_S32x128 inb_S1x7168_S1x128_0_6784 inb_S32x7168_S32x128_0_6784,
    List.forall_mem_cons.2 ⟨code x0 x1 52 6656 rfl slices_S32x7168_o0_6656_S32x128 inb_S1x7168_S1x128_0_6656 inb_S32x7168_S32x128_0_6656,
    List.forall_mem_cons.2 ⟨code x0 x1 51 6528 rfl slices_S32x7168_o0_6528_S32x128 inb_S1x7168_S1x128_0_6528 inb_S32x7168_S32x128_0_6528,
    List.forall_mem_cons.2 ⟨code x0 x1 50 6400 rfl slices_S32x7168_o0_6400_S32x128 inb_S1x7168_S1x128_0_6400 inb_S32x7168_S32x128_0_6400,
    List.forall_mem_cons.2 ⟨code x0 x1 49 6272 rfl slices_S32x7168_o0_6272_S32x128 inb_S1x7168_S1x128_0_6272 inb_S32x7168_S32x128_0_6272,
    List.forall_mem_cons.2 ⟨code x0 x1 48 6144 rfl slices_S32x7168_o0_6144_S32x128 inb_S1x7168_S1x128_0_6144 inb_S32x7168_S32x128_0_6144,
    List.forall_mem_cons.2 ⟨code x0 x1 47 6016 rfl slices_S32x7168_o0_6016_S32x128 inb_S1x7168_S1x128_0_6016 inb_S32x7168_S32x128_0_6016,
    List.forall_mem_cons.2 ⟨code x0 x1 46 5888 rfl slices_S32x7168_o0_5888_S32x128 inb_S1x7168_S1x128_0_5888 inb_S32x7168_S32x128_0_5888,
    List.forall_mem_cons.2 ⟨code x0 x1 45 5760 rfl slices_S32x7168_o0_5760_S32x128 inb_S1x7168_S1x128_0_5760 inb_S32x7168_S32x128_0_5760,
    List.forall_mem_cons.2 ⟨code x0 x1 44 5632 rfl slices_S32x7168_o0_5632_S32x128 inb_S1x7168_S1x128_0_5632 inb_S32x7168_S32x128_0_5632,
    List.forall_mem_cons.2 ⟨code x0 x1 43 5504 rfl slices_S32x7168_o0_5504_S32x128 inb_S1x7168_S1x128_0_5504 inb_S32x7168_S32x128_0_5504,
    List.forall_mem_cons.2 ⟨code x0 x1 42 5376 rfl slices_S32x7168_o0_5376_S32x128 inb_S1x7168_S1x128_0_5376 inb_S32x7168_S32x128_0_5376,
    List.forall_mem_cons.2 ⟨code x0 x1 41 5248 rfl slices_S32x7168_o0_5248_S32x128 inb_S1x7168_S1x128_0_5248 inb_S32x7168_S32x128_0_5248,
    List.forall_mem_cons.2 ⟨code x0 x1 40 5120 rfl slices_S32x7168_o0_5120_S32x128 inb_S1x7168_S1x128_0_5120 inb_S32x7168_S32x128_0_5120,
    List.forall_mem_cons.2 ⟨code x0 x1 39 4992 rfl slices_S32x7168_o0_4992_S32x128 inb_S1x7168_S1x128_0_4992 inb_S32x7168_S32x128_0_4992,
    List.forall_mem_cons.2 ⟨code x0 x1 38 4864 rfl slices_S32x7168_o0_4864_S32x128 inb_S1x7168_S1x128_0_4864 inb_S32x7168_S32x128_0_4864,
    List.forall_mem_cons.2 ⟨code x0 x1 37 4736 rfl slices_S32x7168_o0_4736_S32x128 inb_S1x7168_S1x128_0_4736 inb_S32x7168_S32x128_0_4736,
    List.forall_mem_cons.2 ⟨code x0 x1 36 4608 rfl slices_S32x7168_o0_4608_S32x128 inb_S1x7168_S1x128_0_4608 inb_S32x7168_S32x128_0_4608,
    List.forall_mem_cons.2 ⟨code x0 x1 35 4480 rfl slices_S32x7168_o0_4480_S32x128 inb_S1x7168_S1x128_0_4480 inb_S32x7168_S32x128_0_4480,
    List.forall_mem_cons.2 ⟨code x0 x1 34 4352 rfl slices_S32x7168_o0_4352_S32x128 inb_S1x7168_S1x128_0_4352 inb_S32x7168_S32x128_0_4352,
    List.forall_mem_cons.2 ⟨code x0 x1 33 4224 rfl slices_S32x7168_o0_4224_S32x128 inb_S1x7168_S1x128_0_4224 inb_S32x7168_S32x128_0_4224,
    List.forall_mem_cons.2 ⟨code x0 x1 32 4096 rfl slices_S32x7168_o0_4096_S32x128 inb_S1x7168_S1x128_0_4096 inb_S32x7168_S32x128_0_4096,
    List.forall_mem_cons.2 ⟨code x0 x1 31 3968 rfl slices_S32x7168_o0_3968_S32x128 inb_S1x7168_S1x128_0_3968 inb_S32x7168_S32x128_0_3968,
    List.forall_mem_cons.2 ⟨code x0 x1 30 3840 rfl slices_S32x7168_o0_3840_S32x128 inb_S1x7168_S1x128_0_3840 inb_S32x7168_S32x128_0_3840,
    List.forall_mem_cons.2 ⟨code x0 x1 29 3712 rfl slices_S32x7168_o0_3712_S32x128 inb_S1x7168_S1x128_0_3712 inb_S32x7168_S32x128_0_3712,
    List.forall_mem_cons.2 ⟨code x0 x1 28 3584 rfl slices_S32x7168_o0_3584_S32x128 inb_S1x7168_S1x128_0_3584 inb_S32x7168_S32x128_0_3584,
    List.forall_mem_cons.2 ⟨code x0 x1 27 3456 rfl slices_S32x7168_o0_3456_S32x128 inb_S1x7168_S1x128_0_3456 inb_S32x7168_S32x128_0_3456,
    List.forall_mem_cons.2 ⟨code x0 x1 26 3328 rfl slices_S32x7168_o0_3328_S32x128 inb_S1x7168_S1x128_0_3328 inb_S32x7168_S32x128_0_3328,
    List.forall_mem_cons.2 ⟨code x0 x1 25 3200 rfl slices_S32x7168_o0_3200_S32x128 inb_S1x7168_S1x128_0_3200 inb_S32x7168_S32x128_0_3200,
    List.forall_mem_cons.2 ⟨code x0 x1 24 3072 rfl slices_S32x7168_o0_3072_S32x128 inb_S1x7168_S1x128_0_3072 inb_S32x7168_S32x128_0_3072,
    List.forall_mem_cons.2 ⟨code x0 x1 23 2944 rfl slices_S32x7168_o0_2944_S32x128 inb_S1x7168_S1x128_0_2944 inb_S32x7168_S32x128_0_2944,
    List.forall_mem_cons.2 ⟨code x0 x1 22 2816 rfl slices_S32x7168_o0_2816_S32x128 inb_S1x7168_S1x128_0_2816 inb_S32x7168_S32x128_0_2816,
    List.forall_mem_cons.2 ⟨code x0 x1 21 2688 rfl slices_S32x7168_o0_2688_S32x128 inb_S1x7168_S1x128_0_2688 inb_S32x7168_S32x128_0_2688,
    List.forall_mem_cons.2 ⟨code x0 x1 20 2560 rfl slices_S32x7168_o0_2560_S32x128 inb_S1x7168_S1x128_0_2560 inb_S32x7168_S32x128_0_2560,
    List.forall_mem_cons.2 ⟨code x0 x1 19 2432 rfl slices_S32x7168_o0_2432_S32x128 inb_S1x7168_S1x128_0_2432 inb_S32x7168_S32x128_0_2432,
    List.forall_mem_cons.2 ⟨code x0 x1 18 2304 rfl slices_S32x7168_o0_2304_S32x128 inb_S1x7168_S1x128_0_2304 inb_S32x7168_S32x128_0_2304,
    List.forall_mem_cons.2 ⟨code x0 x1 17 2176 rfl slices_S32x7168_o0_2176_S32x128 inb_S1x7168_S1x128_0_2176 inb_S32x7168_S32x128_0_2176,
    List.forall_mem_cons.2 ⟨code x0 x1 16 2048 rfl slices_S32x7168_o0_2048_S32x128 inb_S1x7168_S1x128_0_2048 inb_S32x7168_S32x128_0_2048,
    List.forall_mem_cons.2 ⟨code x0 x1 15 1920 rfl slices_S32x7168_o0_1920_S32x128 inb_S1x7168_S1x128_0_1920 inb_S32x7168_S32x128_0_1920,
    List.forall_mem_cons.2 ⟨code x0 x1 14 1792 rfl slices_S32x7168_o0_1792_S32x128 inb_S1x7168_S1x128_0_1792 inb_S32x7168_S32x128_0_1792,
    List.forall_mem_cons.2 ⟨code x0 x1 13 1664 rfl slices_S32x7168_o0_1664_S32x128 inb_S1x7168_S1x128_0_1664 inb_S32x7168_S32x128_0_1664,
    List.forall_mem_cons.2 ⟨code x0 x1 12 1536 rfl slices_S32x7168_o0_1536_S32x128 inb_S1x7168_S1x128_0_1536 inb_S32x7168_S32x128_0_1536,
    List.forall_mem_cons.2 ⟨code x0 x1 11 1408 rfl slices_S32x7168_o0_1408_S32x128 inb_S1x7168_S1x128_0_1408 inb_S32x7168_S32x128_0_1408,
    List.forall_mem_cons.2 ⟨code x0 x1 10 1280 rfl slices_S32x7168_o0_1280_S32x128 inb_S1x7168_S1x128_0_1280 inb_S32x7168_S32x128_0_1280,
    List.forall_mem_cons.2 ⟨code x0 x1 9 1152 rfl slices_S32x7168_o0_1152_S32x128 inb_S1x7168_S1x128_0_1152 inb_S32x7168_S32x128_0_1152,
    List.forall_mem_cons.2 ⟨code x0 x1 8 1024 rfl slices_S32x7168_o0_1024_S32x128 inb_S1x7168_S1x128_0_1024 inb_S32x7168_S32x128_0_1024,
    List.forall_mem_cons.2 ⟨code x0 x1 7 896 rfl slices_S32x7168_o0_896_S32x128 inb_S1x7168_S1x128_0_896 inb_S32x7168_S32x128_0_896,
    List.forall_mem_cons.2 ⟨code x0 x1 6 768 rfl slices_S32x7168_o0_768_S32x128 inb_S1x7168_S1x128_0_768 inb_S32x7168_S32x128_0_768,
    List.forall_mem_cons.2 ⟨code x0 x1 5 640 rfl slices_S32x7168_o0_640_S32x128 inb_S1x7168_S1x128_0_640 inb_S32x7168_S32x128_0_640,
    List.forall_mem_cons.2 ⟨code x0 x1 4 512 rfl slices_S32x7168_o0_512_S32x128 inb_S1x7168_S1x128_0_512 inb_S32x7168_S32x128_0_512,
    List.forall_mem_cons.2 ⟨code x0 x1 3 384 rfl slices_S32x7168_o0_384_S32x128 inb_S1x7168_S1x128_0_384 inb_S32x7168_S32x128_0_384,
    List.forall_mem_cons.2 ⟨code x0 x1 2 256 rfl slices_S32x7168_o0_256_S32x128 inb_S1x7168_S1x128_0_256 inb_S32x7168_S32x128_0_256,
    List.forall_mem_cons.2 ⟨code x0 x1 1 128 rfl slices_S32x7168_o0_128_S32x128 inb_S1x7168_S1x128_0_128 inb_S32x7168_S32x128_0_128,
    List.forall_mem_cons.2 ⟨code x0 x1 0 0 rfl slices_S32x7168_o0_0_S32x128 inb_S1x7168_S1x128_0_0 inb_S32x7168_S32x128_0_0,
    List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

/-- The scaled integers the body leaves. -/
theorem deqs_block (y : S32x7168.Idx) : out0_4 x0 x1 y = deqs hW 0x45E00000#32 (rows x0) x1 y := by
  refine View.canon_apply_of_pieces (Val := Elt Ideal) (e := .bf16) (deqs hW 0x45E00000#32 (rows x0) x1) _ ?_ y (cover0_4 (F := Ideal) _ _ _ _ _ _ _ _ _ _ _ _ _ _ _ _ _ _ _ _ _ _ _ _ _ _ _ _ _ _ _ _ _ _ _ _ _ _ _ _ _ _ _ _ _ _ _ _ _ _ _ _ _ _ _ _ y)
  exact
    List.forall_mem_cons.2 ⟨deq x0 x1 55 7040 rfl slices_S32x7168_o0_7040_S32x128 inb_S1x7168_S1x128_0_7040 inb_S32x7168_S32x128_0_7040,
    List.forall_mem_cons.2 ⟨deq x0 x1 54 6912 rfl slices_S32x7168_o0_6912_S32x128 inb_S1x7168_S1x128_0_6912 inb_S32x7168_S32x128_0_6912,
    List.forall_mem_cons.2 ⟨deq x0 x1 53 6784 rfl slices_S32x7168_o0_6784_S32x128 inb_S1x7168_S1x128_0_6784 inb_S32x7168_S32x128_0_6784,
    List.forall_mem_cons.2 ⟨deq x0 x1 52 6656 rfl slices_S32x7168_o0_6656_S32x128 inb_S1x7168_S1x128_0_6656 inb_S32x7168_S32x128_0_6656,
    List.forall_mem_cons.2 ⟨deq x0 x1 51 6528 rfl slices_S32x7168_o0_6528_S32x128 inb_S1x7168_S1x128_0_6528 inb_S32x7168_S32x128_0_6528,
    List.forall_mem_cons.2 ⟨deq x0 x1 50 6400 rfl slices_S32x7168_o0_6400_S32x128 inb_S1x7168_S1x128_0_6400 inb_S32x7168_S32x128_0_6400,
    List.forall_mem_cons.2 ⟨deq x0 x1 49 6272 rfl slices_S32x7168_o0_6272_S32x128 inb_S1x7168_S1x128_0_6272 inb_S32x7168_S32x128_0_6272,
    List.forall_mem_cons.2 ⟨deq x0 x1 48 6144 rfl slices_S32x7168_o0_6144_S32x128 inb_S1x7168_S1x128_0_6144 inb_S32x7168_S32x128_0_6144,
    List.forall_mem_cons.2 ⟨deq x0 x1 47 6016 rfl slices_S32x7168_o0_6016_S32x128 inb_S1x7168_S1x128_0_6016 inb_S32x7168_S32x128_0_6016,
    List.forall_mem_cons.2 ⟨deq x0 x1 46 5888 rfl slices_S32x7168_o0_5888_S32x128 inb_S1x7168_S1x128_0_5888 inb_S32x7168_S32x128_0_5888,
    List.forall_mem_cons.2 ⟨deq x0 x1 45 5760 rfl slices_S32x7168_o0_5760_S32x128 inb_S1x7168_S1x128_0_5760 inb_S32x7168_S32x128_0_5760,
    List.forall_mem_cons.2 ⟨deq x0 x1 44 5632 rfl slices_S32x7168_o0_5632_S32x128 inb_S1x7168_S1x128_0_5632 inb_S32x7168_S32x128_0_5632,
    List.forall_mem_cons.2 ⟨deq x0 x1 43 5504 rfl slices_S32x7168_o0_5504_S32x128 inb_S1x7168_S1x128_0_5504 inb_S32x7168_S32x128_0_5504,
    List.forall_mem_cons.2 ⟨deq x0 x1 42 5376 rfl slices_S32x7168_o0_5376_S32x128 inb_S1x7168_S1x128_0_5376 inb_S32x7168_S32x128_0_5376,
    List.forall_mem_cons.2 ⟨deq x0 x1 41 5248 rfl slices_S32x7168_o0_5248_S32x128 inb_S1x7168_S1x128_0_5248 inb_S32x7168_S32x128_0_5248,
    List.forall_mem_cons.2 ⟨deq x0 x1 40 5120 rfl slices_S32x7168_o0_5120_S32x128 inb_S1x7168_S1x128_0_5120 inb_S32x7168_S32x128_0_5120,
    List.forall_mem_cons.2 ⟨deq x0 x1 39 4992 rfl slices_S32x7168_o0_4992_S32x128 inb_S1x7168_S1x128_0_4992 inb_S32x7168_S32x128_0_4992,
    List.forall_mem_cons.2 ⟨deq x0 x1 38 4864 rfl slices_S32x7168_o0_4864_S32x128 inb_S1x7168_S1x128_0_4864 inb_S32x7168_S32x128_0_4864,
    List.forall_mem_cons.2 ⟨deq x0 x1 37 4736 rfl slices_S32x7168_o0_4736_S32x128 inb_S1x7168_S1x128_0_4736 inb_S32x7168_S32x128_0_4736,
    List.forall_mem_cons.2 ⟨deq x0 x1 36 4608 rfl slices_S32x7168_o0_4608_S32x128 inb_S1x7168_S1x128_0_4608 inb_S32x7168_S32x128_0_4608,
    List.forall_mem_cons.2 ⟨deq x0 x1 35 4480 rfl slices_S32x7168_o0_4480_S32x128 inb_S1x7168_S1x128_0_4480 inb_S32x7168_S32x128_0_4480,
    List.forall_mem_cons.2 ⟨deq x0 x1 34 4352 rfl slices_S32x7168_o0_4352_S32x128 inb_S1x7168_S1x128_0_4352 inb_S32x7168_S32x128_0_4352,
    List.forall_mem_cons.2 ⟨deq x0 x1 33 4224 rfl slices_S32x7168_o0_4224_S32x128 inb_S1x7168_S1x128_0_4224 inb_S32x7168_S32x128_0_4224,
    List.forall_mem_cons.2 ⟨deq x0 x1 32 4096 rfl slices_S32x7168_o0_4096_S32x128 inb_S1x7168_S1x128_0_4096 inb_S32x7168_S32x128_0_4096,
    List.forall_mem_cons.2 ⟨deq x0 x1 31 3968 rfl slices_S32x7168_o0_3968_S32x128 inb_S1x7168_S1x128_0_3968 inb_S32x7168_S32x128_0_3968,
    List.forall_mem_cons.2 ⟨deq x0 x1 30 3840 rfl slices_S32x7168_o0_3840_S32x128 inb_S1x7168_S1x128_0_3840 inb_S32x7168_S32x128_0_3840,
    List.forall_mem_cons.2 ⟨deq x0 x1 29 3712 rfl slices_S32x7168_o0_3712_S32x128 inb_S1x7168_S1x128_0_3712 inb_S32x7168_S32x128_0_3712,
    List.forall_mem_cons.2 ⟨deq x0 x1 28 3584 rfl slices_S32x7168_o0_3584_S32x128 inb_S1x7168_S1x128_0_3584 inb_S32x7168_S32x128_0_3584,
    List.forall_mem_cons.2 ⟨deq x0 x1 27 3456 rfl slices_S32x7168_o0_3456_S32x128 inb_S1x7168_S1x128_0_3456 inb_S32x7168_S32x128_0_3456,
    List.forall_mem_cons.2 ⟨deq x0 x1 26 3328 rfl slices_S32x7168_o0_3328_S32x128 inb_S1x7168_S1x128_0_3328 inb_S32x7168_S32x128_0_3328,
    List.forall_mem_cons.2 ⟨deq x0 x1 25 3200 rfl slices_S32x7168_o0_3200_S32x128 inb_S1x7168_S1x128_0_3200 inb_S32x7168_S32x128_0_3200,
    List.forall_mem_cons.2 ⟨deq x0 x1 24 3072 rfl slices_S32x7168_o0_3072_S32x128 inb_S1x7168_S1x128_0_3072 inb_S32x7168_S32x128_0_3072,
    List.forall_mem_cons.2 ⟨deq x0 x1 23 2944 rfl slices_S32x7168_o0_2944_S32x128 inb_S1x7168_S1x128_0_2944 inb_S32x7168_S32x128_0_2944,
    List.forall_mem_cons.2 ⟨deq x0 x1 22 2816 rfl slices_S32x7168_o0_2816_S32x128 inb_S1x7168_S1x128_0_2816 inb_S32x7168_S32x128_0_2816,
    List.forall_mem_cons.2 ⟨deq x0 x1 21 2688 rfl slices_S32x7168_o0_2688_S32x128 inb_S1x7168_S1x128_0_2688 inb_S32x7168_S32x128_0_2688,
    List.forall_mem_cons.2 ⟨deq x0 x1 20 2560 rfl slices_S32x7168_o0_2560_S32x128 inb_S1x7168_S1x128_0_2560 inb_S32x7168_S32x128_0_2560,
    List.forall_mem_cons.2 ⟨deq x0 x1 19 2432 rfl slices_S32x7168_o0_2432_S32x128 inb_S1x7168_S1x128_0_2432 inb_S32x7168_S32x128_0_2432,
    List.forall_mem_cons.2 ⟨deq x0 x1 18 2304 rfl slices_S32x7168_o0_2304_S32x128 inb_S1x7168_S1x128_0_2304 inb_S32x7168_S32x128_0_2304,
    List.forall_mem_cons.2 ⟨deq x0 x1 17 2176 rfl slices_S32x7168_o0_2176_S32x128 inb_S1x7168_S1x128_0_2176 inb_S32x7168_S32x128_0_2176,
    List.forall_mem_cons.2 ⟨deq x0 x1 16 2048 rfl slices_S32x7168_o0_2048_S32x128 inb_S1x7168_S1x128_0_2048 inb_S32x7168_S32x128_0_2048,
    List.forall_mem_cons.2 ⟨deq x0 x1 15 1920 rfl slices_S32x7168_o0_1920_S32x128 inb_S1x7168_S1x128_0_1920 inb_S32x7168_S32x128_0_1920,
    List.forall_mem_cons.2 ⟨deq x0 x1 14 1792 rfl slices_S32x7168_o0_1792_S32x128 inb_S1x7168_S1x128_0_1792 inb_S32x7168_S32x128_0_1792,
    List.forall_mem_cons.2 ⟨deq x0 x1 13 1664 rfl slices_S32x7168_o0_1664_S32x128 inb_S1x7168_S1x128_0_1664 inb_S32x7168_S32x128_0_1664,
    List.forall_mem_cons.2 ⟨deq x0 x1 12 1536 rfl slices_S32x7168_o0_1536_S32x128 inb_S1x7168_S1x128_0_1536 inb_S32x7168_S32x128_0_1536,
    List.forall_mem_cons.2 ⟨deq x0 x1 11 1408 rfl slices_S32x7168_o0_1408_S32x128 inb_S1x7168_S1x128_0_1408 inb_S32x7168_S32x128_0_1408,
    List.forall_mem_cons.2 ⟨deq x0 x1 10 1280 rfl slices_S32x7168_o0_1280_S32x128 inb_S1x7168_S1x128_0_1280 inb_S32x7168_S32x128_0_1280,
    List.forall_mem_cons.2 ⟨deq x0 x1 9 1152 rfl slices_S32x7168_o0_1152_S32x128 inb_S1x7168_S1x128_0_1152 inb_S32x7168_S32x128_0_1152,
    List.forall_mem_cons.2 ⟨deq x0 x1 8 1024 rfl slices_S32x7168_o0_1024_S32x128 inb_S1x7168_S1x128_0_1024 inb_S32x7168_S32x128_0_1024,
    List.forall_mem_cons.2 ⟨deq x0 x1 7 896 rfl slices_S32x7168_o0_896_S32x128 inb_S1x7168_S1x128_0_896 inb_S32x7168_S32x128_0_896,
    List.forall_mem_cons.2 ⟨deq x0 x1 6 768 rfl slices_S32x7168_o0_768_S32x128 inb_S1x7168_S1x128_0_768 inb_S32x7168_S32x128_0_768,
    List.forall_mem_cons.2 ⟨deq x0 x1 5 640 rfl slices_S32x7168_o0_640_S32x128 inb_S1x7168_S1x128_0_640 inb_S32x7168_S32x128_0_640,
    List.forall_mem_cons.2 ⟨deq x0 x1 4 512 rfl slices_S32x7168_o0_512_S32x128 inb_S1x7168_S1x128_0_512 inb_S32x7168_S32x128_0_512,
    List.forall_mem_cons.2 ⟨deq x0 x1 3 384 rfl slices_S32x7168_o0_384_S32x128 inb_S1x7168_S1x128_0_384 inb_S32x7168_S32x128_0_384,
    List.forall_mem_cons.2 ⟨deq x0 x1 2 256 rfl slices_S32x7168_o0_256_S32x128 inb_S1x7168_S1x128_0_256 inb_S32x7168_S32x128_0_256,
    List.forall_mem_cons.2 ⟨deq x0 x1 1 128 rfl slices_S32x7168_o0_128_S32x128 inb_S1x7168_S1x128_0_128 inb_S32x7168_S32x128_0_128,
    List.forall_mem_cons.2 ⟨deq x0 x1 0 0 rfl slices_S32x7168_o0_0_S32x128 inb_S1x7168_S1x128_0_0 inb_S32x7168_S32x128_0_0,
    List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

/-- The scales the body leaves. -/
theorem scales_block (p : Fin 32) (j : Fin 56) : out0_3 x0 x1 (ix2 p j) = sc hW (dd 0x45E00000#32) (fun c => rows x0 (ix2 p c)) (fun c => x1 (ix2 0 c)) j := by
  unfold out0_3
  rw [View.canon_unit_zero hz]
  exact (
    put x0 x1 55 7040 rfl slices_S32x7168_o0_7040_S32x128 inb_S1x7168_S1x128_0_7040 55#32 rfl (
    put x0 x1 54 6912 rfl slices_S32x7168_o0_6912_S32x128 inb_S1x7168_S1x128_0_6912 54#32 rfl (
    put x0 x1 53 6784 rfl slices_S32x7168_o0_6784_S32x128 inb_S1x7168_S1x128_0_6784 53#32 rfl (
    put x0 x1 52 6656 rfl slices_S32x7168_o0_6656_S32x128 inb_S1x7168_S1x128_0_6656 52#32 rfl (
    put x0 x1 51 6528 rfl slices_S32x7168_o0_6528_S32x128 inb_S1x7168_S1x128_0_6528 51#32 rfl (
    put x0 x1 50 6400 rfl slices_S32x7168_o0_6400_S32x128 inb_S1x7168_S1x128_0_6400 50#32 rfl (
    put x0 x1 49 6272 rfl slices_S32x7168_o0_6272_S32x128 inb_S1x7168_S1x128_0_6272 49#32 rfl (
    put x0 x1 48 6144 rfl slices_S32x7168_o0_6144_S32x128 inb_S1x7168_S1x128_0_6144 48#32 rfl (
    put x0 x1 47 6016 rfl slices_S32x7168_o0_6016_S32x128 inb_S1x7168_S1x128_0_6016 47#32 rfl (
    put x0 x1 46 5888 rfl slices_S32x7168_o0_5888_S32x128 inb_S1x7168_S1x128_0_5888 46#32 rfl (
    put x0 x1 45 5760 rfl slices_S32x7168_o0_5760_S32x128 inb_S1x7168_S1x128_0_5760 45#32 rfl (
    put x0 x1 44 5632 rfl slices_S32x7168_o0_5632_S32x128 inb_S1x7168_S1x128_0_5632 44#32 rfl (
    put x0 x1 43 5504 rfl slices_S32x7168_o0_5504_S32x128 inb_S1x7168_S1x128_0_5504 43#32 rfl (
    put x0 x1 42 5376 rfl slices_S32x7168_o0_5376_S32x128 inb_S1x7168_S1x128_0_5376 42#32 rfl (
    put x0 x1 41 5248 rfl slices_S32x7168_o0_5248_S32x128 inb_S1x7168_S1x128_0_5248 41#32 rfl (
    put x0 x1 40 5120 rfl slices_S32x7168_o0_5120_S32x128 inb_S1x7168_S1x128_0_5120 40#32 rfl (
    put x0 x1 39 4992 rfl slices_S32x7168_o0_4992_S32x128 inb_S1x7168_S1x128_0_4992 39#32 rfl (
    put x0 x1 38 4864 rfl slices_S32x7168_o0_4864_S32x128 inb_S1x7168_S1x128_0_4864 38#32 rfl (
    put x0 x1 37 4736 rfl slices_S32x7168_o0_4736_S32x128 inb_S1x7168_S1x128_0_4736 37#32 rfl (
    put x0 x1 36 4608 rfl slices_S32x7168_o0_4608_S32x128 inb_S1x7168_S1x128_0_4608 36#32 rfl (
    put x0 x1 35 4480 rfl slices_S32x7168_o0_4480_S32x128 inb_S1x7168_S1x128_0_4480 35#32 rfl (
    put x0 x1 34 4352 rfl slices_S32x7168_o0_4352_S32x128 inb_S1x7168_S1x128_0_4352 34#32 rfl (
    put x0 x1 33 4224 rfl slices_S32x7168_o0_4224_S32x128 inb_S1x7168_S1x128_0_4224 33#32 rfl (
    put x0 x1 32 4096 rfl slices_S32x7168_o0_4096_S32x128 inb_S1x7168_S1x128_0_4096 32#32 rfl (
    put x0 x1 31 3968 rfl slices_S32x7168_o0_3968_S32x128 inb_S1x7168_S1x128_0_3968 31#32 rfl (
    put x0 x1 30 3840 rfl slices_S32x7168_o0_3840_S32x128 inb_S1x7168_S1x128_0_3840 30#32 rfl (
    put x0 x1 29 3712 rfl slices_S32x7168_o0_3712_S32x128 inb_S1x7168_S1x128_0_3712 29#32 rfl (
    put x0 x1 28 3584 rfl slices_S32x7168_o0_3584_S32x128 inb_S1x7168_S1x128_0_3584 28#32 rfl (
    put x0 x1 27 3456 rfl slices_S32x7168_o0_3456_S32x128 inb_S1x7168_S1x128_0_3456 27#32 rfl (
    put x0 x1 26 3328 rfl slices_S32x7168_o0_3328_S32x128 inb_S1x7168_S1x128_0_3328 26#32 rfl (
    put x0 x1 25 3200 rfl slices_S32x7168_o0_3200_S32x128 inb_S1x7168_S1x128_0_3200 25#32 rfl (
    put x0 x1 24 3072 rfl slices_S32x7168_o0_3072_S32x128 inb_S1x7168_S1x128_0_3072 24#32 rfl (
    put x0 x1 23 2944 rfl slices_S32x7168_o0_2944_S32x128 inb_S1x7168_S1x128_0_2944 23#32 rfl (
    put x0 x1 22 2816 rfl slices_S32x7168_o0_2816_S32x128 inb_S1x7168_S1x128_0_2816 22#32 rfl (
    put x0 x1 21 2688 rfl slices_S32x7168_o0_2688_S32x128 inb_S1x7168_S1x128_0_2688 21#32 rfl (
    put x0 x1 20 2560 rfl slices_S32x7168_o0_2560_S32x128 inb_S1x7168_S1x128_0_2560 20#32 rfl (
    put x0 x1 19 2432 rfl slices_S32x7168_o0_2432_S32x128 inb_S1x7168_S1x128_0_2432 19#32 rfl (
    put x0 x1 18 2304 rfl slices_S32x7168_o0_2304_S32x128 inb_S1x7168_S1x128_0_2304 18#32 rfl (
    put x0 x1 17 2176 rfl slices_S32x7168_o0_2176_S32x128 inb_S1x7168_S1x128_0_2176 17#32 rfl (
    put x0 x1 16 2048 rfl slices_S32x7168_o0_2048_S32x128 inb_S1x7168_S1x128_0_2048 16#32 rfl (
    put x0 x1 15 1920 rfl slices_S32x7168_o0_1920_S32x128 inb_S1x7168_S1x128_0_1920 15#32 rfl (
    put x0 x1 14 1792 rfl slices_S32x7168_o0_1792_S32x128 inb_S1x7168_S1x128_0_1792 14#32 rfl (
    put x0 x1 13 1664 rfl slices_S32x7168_o0_1664_S32x128 inb_S1x7168_S1x128_0_1664 13#32 rfl (
    put x0 x1 12 1536 rfl slices_S32x7168_o0_1536_S32x128 inb_S1x7168_S1x128_0_1536 12#32 rfl (
    put x0 x1 11 1408 rfl slices_S32x7168_o0_1408_S32x128 inb_S1x7168_S1x128_0_1408 11#32 rfl (
    put x0 x1 10 1280 rfl slices_S32x7168_o0_1280_S32x128 inb_S1x7168_S1x128_0_1280 10#32 rfl (
    put x0 x1 9 1152 rfl slices_S32x7168_o0_1152_S32x128 inb_S1x7168_S1x128_0_1152 9#32 rfl (
    put x0 x1 8 1024 rfl slices_S32x7168_o0_1024_S32x128 inb_S1x7168_S1x128_0_1024 8#32 rfl (
    put x0 x1 7 896 rfl slices_S32x7168_o0_896_S32x128 inb_S1x7168_S1x128_0_896 7#32 rfl (
    put x0 x1 6 768 rfl slices_S32x7168_o0_768_S32x128 inb_S1x7168_S1x128_0_768 6#32 rfl (
    put x0 x1 5 640 rfl slices_S32x7168_o0_640_S32x128 inb_S1x7168_S1x128_0_640 5#32 rfl (
    put x0 x1 4 512 rfl slices_S32x7168_o0_512_S32x128 inb_S1x7168_S1x128_0_512 4#32 rfl (
    put x0 x1 3 384 rfl slices_S32x7168_o0_384_S32x128 inb_S1x7168_S1x128_0_384 3#32 rfl (
    put x0 x1 2 256 rfl slices_S32x7168_o0_256_S32x128 inb_S1x7168_S1x128_0_256 2#32 rfl (
    put x0 x1 1 128 rfl slices_S32x7168_o0_128_S32x128 inb_S1x7168_S1x128_0_128 1#32 rfl (
    put x0 x1 0 0 rfl slices_S32x7168_o0_0_S32x128 inb_S1x7168_S1x128_0_0 0#32 rfl (
    (fun _ _ h => absurd h (Nat.not_lt_zero _) : Upto hW 0x45E00000#32 (rows x0) x1 0 _))))))))))))))))))))))))))))))))))))))))))))))))))))))))) : Upto hW 0x45E00000#32 (rows x0) x1 56 _) p j j.isLt

/-- The reciprocal root mean squares the body leaves. -/
theorem root_block (p : Fin 32) (z : Fin 1) : out0_5 x0 x1 (ix2 p z) = rms (dd 0x45E00000#32) fun c => rows x0 (ix2 p c) := by
  unfold out0_5
  rw [View.canon_unit_zero hz]
  exact root_apply x0 p z

end Block

end Cert.QuantAttnIdeal.Norm

end
-- ==== Proof.QuantAttnRead.lean ====
/- The quantise reference on the attention output: its four results at an index. -/
module

public import proofs.«01_k».proof.Proof.Gen.QuantAttnRefIdeal.Read
public import proofs.«01_k».proof.Proof.Quant
public import Idealize.ShloMosaic.Lib.Pipeline.ValueKit

@[expose] public section

set_option maxRecDepth 65536

noncomputable section

open Cert.Quant
open Idealize.ShloMosaic hiding ix0 ix1 ix2 ix3 eq_ix1 eq_ix2
open Idealize.ShloMosaic.TcCoe Idealize.ShloMosaic.ValueIdx Idealize.SL.Sem
open Idealize.ShloMosaic.Pipeline (Dat Window)
open scoped BigOperators

namespace Cert.QuantAttnRefIdeal.Norm

open Cert.QuantAttnRefIdeal Cert.QuantAttnRefIdeal.Gen Cert.QuantAttnRefIdeal.Read

theorem hW : 7168 = 56 * 128 := rfl

variable (x0 : Vec Ideal S1280x7168 .f32) (x1 : Vec Ideal S7168 .f32)

/-- A row of the argument, and its gains. -/
def R (a : Fin 1280) : Fin 7168 → EReal := fun k => x0 (ix2 a k)
def g : Fin 7168 → EReal := fun k => x1 (ix1 k)

theorem root_at (a : Fin 1280) : val_main_v6 (F := Ideal) x0 (ix1 a) = rms (dd 0x45E00000#32) (R x0 a) := by
  have e : val_main_v1 (F := Ideal) x0 (ix1 a) = ∑ k, R x0 a k * R x0 a k := by
    rw [val_main_v1_apply]
    show Ideal.ofBits .f32 0x00000000#32 + _ = _
    rw [Ideal.ofBits_zero_f32, zero_add]
    refine Finset.sum_congr rfl fun k _ => ?_
    have i : idx_main_v1 (ix1 a) k = ix2 a k := funext fun d => Fin.ext (by match d with | ⟨0, _⟩ => rfl | ⟨1, _⟩ => rfl)
    rw [i]
    rfl
  show FloatOps.rsqrt (F := Ideal) (φ := .f32) (FloatOps.divf (F := Ideal) (φ := .f32) (val_main_v1 (F := Ideal) x0 (ix1 a)) _ + _) = _
  rw [e]
  rfl

theorem nrm_at (a : Fin 1280) (c : Fin 7168) : val_main_v12 (F := Ideal) x0 x1 (ix2 a c) = nrm (dd 0x45E00000#32) (R x0 a) (g x1) c := by
  rw [val_main_v12_apply, val_main_v9_apply, val_main_v8_apply, val_main_v7_apply, val_main_v11_apply, val_main_v10_apply]
  have i : idx_main_v7 (idx_main_v8 (ix2 a c)) = ix1 a := funext fun d => Fin.ext (by match d with | ⟨0, _⟩ => rfl)
  have i' : idx_main_v10 (idx_main_v11 (ix2 a c)) = ix1 c := funext fun d => Fin.ext (by match d with | ⟨0, _⟩ => rfl)
  rw [i, i', root_at]
  rfl

theorem group_at (a : Fin 1280) (k : Fin 56) (q : Fin 128) : val_main_v13 (F := Ideal) x0 x1 (ix3 a k q) = nrm (dd 0x45E00000#32) (R x0 a) (g x1) (col hW k q) := by
  have i : idx_main_v13 (ix3 a k q) = ix2 a (col hW k q) := funext fun d => Fin.ext (by
    have := k.isLt
    have := q.isLt
    match d with
    | ⟨0, _⟩ => show ((a.val * 56 + k.val) * 128 + q.val) / 7168 = a.val; omega
    | ⟨1, _⟩ => show ((a.val * 56 + k.val) * 128 + q.val) % 7168 = k.val * 128 + q.val; omega)
  rw [val_main_v13_apply, i, nrm_at]

theorem amax_at (a : Fin 1280) (k : Fin 56) : val_main_v15 (F := Ideal) x0 x1 (ix2 a k) = amax fun q => nrm (dd 0x45E00000#32) (R x0 a) (g x1) (col hW k q) := by
  unfold val_main_v15
  have hr : S1280x56x128.Reduces [2] S1280x56 := by decide
  refine (Host.reduce_eq_fold_single (FloatOps.maximumf (F := Ideal) (φ := .f32)) _ _ _ hr _ _).trans ?_
  unfold amax
  have key : ∀ q : Fin 128, FloatOps.absf (F := Ideal) (φ := .f32) (val_main_v13 (F := Ideal) x0 x1 (hr.lift (ix2 a k) q)) = FloatOps.absf (F := Ideal) (φ := .f32) (nrm (dd 0x45E00000#32) (R x0 a) (g x1) (col hW k q)) := by
    intro q
    have i : hr.lift (ix2 a k) q = (ix3 a k q : S1280x56x128.Idx) := funext fun d => Fin.ext (by match d with | ⟨0, _⟩ => rfl | ⟨1, _⟩ => rfl | ⟨2, _⟩ => rfl)
    exact congrArg (FloatOps.absf (F := Ideal) (φ := .f32)) ((congrArg (val_main_v13 (F := Ideal) x0 x1) i).trans (group_at x0 x1 a k q))
  exact congrArg (fun f => Finset.fold max (FloatOps.ofBits (F := Ideal) .f32 0xFF800000#32) f Finset.univ) (funext key)

theorem scale_at (a : Fin 1280) (k : Fin 56) : val_main_v20 (F := Ideal) x0 x1 (ix2 a k) = sc hW (dd 0x45E00000#32) (R x0 a) (g x1) k := by
  rw [val_main_v20_apply, val_main_v17_apply, val_main_v19_apply, val_main_v16_apply, val_main_v18_apply, val_main_call0_v1_apply, val_main_call0_v0_apply, amax_at,
    val_main_cst_3_apply, val_main_cst_4_apply, val_main_cst_5_apply]
  unfold sc scaleOf
  generalize amax _ = A
  rfl

theorem clip_at (a : Fin 1280) (k : Fin 56) (q : Fin 128) : val_main_v25 (F := Ideal) x0 x1 (ix3 a k q) = clipOf (nrm (dd 0x45E00000#32) (R x0 a) (g x1) (col hW k q)) (sc hW (dd 0x45E00000#32) (R x0 a) (g x1) k) := by
  have e : val_main_v22 (F := Ideal) x0 x1 (ix3 a k q) = sc hW (dd 0x45E00000#32) (R x0 a) (g x1) k := by
    rw [val_main_v22_apply, val_main_v21_apply]
    have i : idx_main_v21 (idx_main_v22 (ix3 a k q)) = ix2 a k := funext fun d => Fin.ext (by match d with | ⟨0, _⟩ => rfl | ⟨1, _⟩ => rfl)
    rw [i, scale_at]
  rw [val_main_v25_apply, val_main_call2_v4_apply, val_main_call2_v3_apply, val_main_c_6_apply, val_main_call2_v2_apply, val_main_call2_v1_apply, val_main_call2_v0_apply, val_main_c_apply,
    val_main_v24_apply, val_main_v23_apply, group_at, e]
  generalize nrm _ _ _ _ = n
  generalize sc _ _ _ _ _ = s
  rfl

/-- The group and the lane of a column give the column back. -/
theorem col_grp (c : Fin 7168) : col hW (grp hW c) ⟨c.val % 128, Nat.mod_lt _ (by decide)⟩ = c :=
  Fin.ext (by show c.val / 128 * 128 + c.val % 128 = c.val; omega)

theorem split_idx (a : Fin 1280) (c : Fin 7168) : idx_main_v33 (ix2 a c) = ix3 a (grp hW c) ⟨c.val % 128, Nat.mod_lt _ (by decide)⟩ := funext fun d => Fin.ext (by
  have := c.isLt
  match d with
  | ⟨0, _⟩ => show (a.val * 7168 + c.val) / 7168 = a.val; omega
  | ⟨1, _⟩ => show (a.val * 7168 + c.val) / 128 % 56 = c.val / 128; omega
  | ⟨2, _⟩ => show (a.val * 7168 + c.val) % 128 = c.val % 128; omega)

theorem codes_at (a : Fin 1280) (c : Fin 7168) : val_main_v33 (F := Ideal) x0 x1 (ix2 a c) = FloatOps.fptosi (F := Ideal) (φ := .f32) 8 (clip hW (dd 0x45E00000#32) (R x0 a) (g x1) c) := by
  rw [val_main_v33_apply, split_idx]
  rw [val_main_v32_apply, val_main_v26_apply, clip_at, col_grp]
  unfold clip
  exact trunci_fptosi_clipOf _ _

theorem deqs_at (a : Fin 1280) (c : Fin 7168) : val_main_v34 (F := Ideal) x0 x1 (ix2 a c)
    = clip hW (dd 0x45E00000#32) (R x0 a) (g x1) c * sc hW (dd 0x45E00000#32) (R x0 a) (g x1) (grp hW c) := by
  have s : idx_main_v34 (ix2 a c) = ix3 a (grp hW c) ⟨c.val % 128, Nat.mod_lt _ (by decide)⟩ := split_idx a c
  rw [val_main_v34_apply, s]
  have e : val_main_v30 (F := Ideal) x0 x1 (ix3 a (grp hW c) ⟨c.val % 128, Nat.mod_lt _ (by decide)⟩) = sc hW (dd 0x45E00000#32) (R x0 a) (g x1) (grp hW c) := by
    rw [val_main_v30_apply, val_main_v29_apply]
    have i : idx_main_v29 (idx_main_v30 (ix3 a (grp hW c) ⟨c.val % 128, Nat.mod_lt _ (by decide)⟩)) = ix2 a (grp hW c) :=
      funext fun d => Fin.ext (by match d with | ⟨0, _⟩ => rfl | ⟨1, _⟩ => rfl)
    rw [i, val_main_v28_apply, scale_at]
    rfl
  rw [val_main_v31_apply, val_main_v27_apply, val_main_v26_apply, clip_at, sitofp_fptosi_clipOf, e, col_grp]
  unfold clip
  rfl

theorem roots_at (a : Fin 1280) (z : Fin 1) : val_main_v35 (F := Ideal) x0 (ix2 a z) = rms (dd 0x45E00000#32) (R x0 a) := by
  rw [val_main_v35_apply]
  have i : idx_main_v35 (ix2 a z) = ix1 a := funext fun d => Fin.ext (by match d with | ⟨0, _⟩ => rfl)
  rw [i, root_at]

end Cert.QuantAttnRefIdeal.Norm

end
-- ==== Proof.QuantAttnValue.lean ====
/- The quantise call on the attention output: the array normalised row by row and rounded to eight bits in groups of 128 lanes. What the
   call leaves in its four results and what the reference computes are the same functions of the arguments. -/
module

public import proofs.«01_k».proof.Defs
public import proofs.«01_k».proof.Proof.Gen.QuantAttn.Frame
public import proofs.«01_k».proof.Proof.Gen.QuantAttnRefIdeal.Run
public import proofs.«01_k».proof.Proof.QuantAttnBlock
public import proofs.«01_k».proof.Proof.QuantAttnRead
public import Idealize.ShloMosaic.Lib.Quiescent

@[expose] public section

set_option maxRecDepth 65536

noncomputable section

open Cert.Quant
open Idealize.ShloMosaic hiding ix0 ix1 ix2 ix3 eq_ix1 eq_ix2
open Idealize.ShloMosaic.TcCoe Idealize.ShloMosaic.ValueIdx Idealize.SL.Sem
open Idealize.ShloMosaic.Pipeline (Dat Window)
open scoped BigOperators

namespace Cert.QuantAttnIdeal.Norm

open Cert.QuantAttnIdeal Cert.QuantAttnIdeal.Gen

/-! ## The arrays the call leaves -/

section
variable (m : (ℓ : Loc nD τ sig) → Buf (Elt Ideal) ℓ) (ρ : Dev nD → PrngReg)

theorem ix0_0 : ∀ t : Fin cfg0.N, win0_0.index t 0 = t.val := (by decide +kernel : ∀ t : Fin grid0.N, win0_0.index t 0 = t.val)
theorem ix0_1 : ∀ t : Fin cfg0.N, win0_0.index t 1 = 0 := (by decide +kernel : ∀ t : Fin grid0.N, win0_0.index t 1 = 0)
theorem ix1_0 : ∀ t : Fin cfg0.N, win0_1.index t 0 = 0 := (by decide +kernel : ∀ t : Fin grid0.N, win0_1.index t 0 = 0)
theorem ix1_1 : ∀ t : Fin cfg0.N, win0_1.index t 1 = 0 := (by decide +kernel : ∀ t : Fin grid0.N, win0_1.index t 1 = 0)
theorem ix2_0 : ∀ t : Fin cfg0.N, win0_2.index t 0 = t.val := (by decide +kernel : ∀ t : Fin grid0.N, win0_2.index t 0 = t.val)
theorem ix2_1 : ∀ t : Fin cfg0.N, win0_2.index t 1 = 0 := (by decide +kernel : ∀ t : Fin grid0.N, win0_2.index t 1 = 0)
theorem ix3_0 : ∀ t : Fin cfg0.N, win0_3.index t 0 = t.val := (by decide +kernel : ∀ t : Fin grid0.N, win0_3.index t 0 = t.val)
theorem ix3_1 : ∀ t : Fin cfg0.N, win0_3.index t 1 = 0 := (by decide +kernel : ∀ t : Fin grid0.N, win0_3.index t 1 = 0)
theorem ix4_0 : ∀ t : Fin cfg0.N, win0_4.index t 0 = t.val := (by decide +kernel : ∀ t : Fin grid0.N, win0_4.index t 0 = t.val)
theorem ix4_1 : ∀ t : Fin cfg0.N, win0_4.index t 1 = 0 := (by decide +kernel : ∀ t : Fin grid0.N, win0_4.index t 1 = 0)
theorem ix5_0 : ∀ t : Fin cfg0.N, win0_5.index t 0 = t.val := (by decide +kernel : ∀ t : Fin grid0.N, win0_5.index t 0 = t.val)
theorem ix5_1 : ∀ t : Fin cfg0.N, win0_5.index t 1 = 0 := (by decide +kernel : ∀ t : Fin grid0.N, win0_5.index t 1 = 0)

theorem lt_N (t : Fin cfg0.N) : t.val < 40 := lt_of_lt_of_eq t.isLt N_0

/-- The row of the whole array that row `p` of point `t`'s block is. -/
def row (t : Fin cfg0.N) (p : Fin 32) : Fin 1280 := ⟨t.val * 32 + p.val, by have := lt_N t; omega⟩

/-- A row of the argument, and its gains. -/
def X (c : Dev nD) (a : Fin 1280) : Fin 7168 → EReal := fun k => m ((c : Thread nD τ).loc main_arg0) (ix2 a k)
def gain (c : Dev nD) : Fin 7168 → EReal := fun k => m ((c : Thread nD τ).loc main_arg1) (ix1 k)

theorem V_gain (c : Dev nD) (k : Fin 7168) : V m c main_v0 (ix2 (n0 := 1) (n1 := 7168) 0 k) = gain m c k := by
  have e : V m c main_v0 = shapeCast S1x7168 (m ((c : Thread nD τ).loc main_arg1)) shapeCasts_S7168_S1x7168 := by
    unfold V hostOps0
    after_results
    rfl
  rw [e]
  exact shapeCast_apply _ _ _ (ix1 k) (by
    rewrite [Shape.rowMajor_val_one, Shape.rowMajor_val_two]
    show k.val = 0 * 7168 + k.val
    omega)

theorem rows_eq (c : Dev nD) (t : Fin cfg0.N) (p : Fin 32) : (fun k => rows (iblk m c 0 t) (ix2 p k)) = X m c (row t p) := funext fun k => by
  rw [rows_apply]
  show V m c main_arg0 ((win0_0.rect t).emb (ix2 p k)) = _
  rw [V_main_arg0]
  refine congrArg (m ((c : Thread nD τ).loc main_arg0)) (funext fun d => Fin.ext ?_)
  match d with
  | ⟨0, _⟩ => exact (Window.rect_emb_val win0_0 t _ 0).trans (congrArg (· * 32 + p.val) (ix0_0 t))
  | ⟨1, _⟩ => exact Window.rect_emb_val_of_index_zero win0_0 t 1 (ix0_1 t) _

theorem gain_eq (c : Dev nD) (t : Fin cfg0.N) : (fun k => iblk m c 1 t (ix2 (n0 := 1) (n1 := 7168) 0 k)) = gain m c := funext fun k => by
  rw [← V_gain]
  show V m c main_v0 ((win0_1.rect t).emb (ix2 (n0 := 1) (n1 := 7168) 0 k)) = _
  refine congrArg (V m c main_v0) (funext fun d => Fin.ext ?_)
  match d with
  | ⟨0, _⟩ => exact Window.rect_emb_val_of_index_zero win0_1 t 0 (ix1_0 t) _
  | ⟨1, _⟩ => exact Window.rect_emb_val_of_index_zero win0_1 t 1 (ix1_1 t) _

/-- What the call leaves: the integers, the scales, the scaled integers, the reciprocal root mean squares. -/
def val2 (c : Dev nD) : Buf (Elt Ideal) ((c : Thread nD τ).loc main_v1_0) := fun i =>
  FloatOps.fptosi (F := Ideal) (φ := .f32) 8 (clip hW (dd 0x45E00000#32) (X m c (i 0)) (gain m c) (i 1))
def val3 (c : Dev nD) : Buf (Elt Ideal) ((c : Thread nD τ).loc main_v1_1) := fun i => sc hW (dd 0x45E00000#32) (X m c (i 0)) (gain m c) (i 1)
def val4 (c : Dev nD) : Buf (Elt Ideal) ((c : Thread nD τ).loc main_v1_2) := fun i =>
  clip hW (dd 0x45E00000#32) (X m c (i 0)) (gain m c) (i 1) * sc hW (dd 0x45E00000#32) (X m c (i 0)) (gain m c) (grp hW (i 1))
def val5 (c : Dev nD) : Buf (Elt Ideal) ((c : Thread nD τ).loc main_v1_3) := fun i => rms (dd 0x45E00000#32) (X m c (i 0))

theorem point2 (c : Dev nD) (t : Fin cfg0.N) (j : S32x7168.Idx) : out0_2 (iblk m c 0 t) (iblk m c 1 t) j = val2 m c ((win0_2.rect t).emb j) := by
  obtain ⟨p, q, rfl⟩ : ∃ (p : Fin 32) (q : Fin 7168), j = ix2 p q := ⟨j 0, j 1, eq_ix2 (n0 := 32) (n1 := 7168) j⟩
  have e : (win0_2.rect t).emb (ix2 (n0 := 32) (n1 := 7168) p q) = ix2 (n0 := 1280) (n1 := 7168) (row t p) q := funext fun d => Fin.ext (by
    match d with
    | ⟨0, _⟩ => exact (Window.rect_emb_val win0_2 t (ix2 (n0 := 32) (n1 := 7168) p q) 0).trans (congrArg (· * 32 + p.val) (ix2_0 t))
    | ⟨1, _⟩ => exact Window.rect_emb_val_of_index_zero win0_2 t 1 (ix2_1 t) (ix2 (n0 := 32) (n1 := 7168) p q))
  refine Eq.trans ?_ (congrArg (val2 m c) e).symm
  rw [codes_block]
  show FloatOps.fptosi (F := Ideal) (φ := .f32) 8 (clip hW (dd 0x45E00000#32) (fun k => rows (iblk m c 0 t) (ix2 p k)) (fun k => iblk m c 1 t (ix2 (n0 := 1) (n1 := 7168) 0 k)) q) = _
  rw [rows_eq, gain_eq]
  rfl

theorem final2 (c : Dev nD) : (dats m 0 c).arrAt 2 cfg0.N = val2 m c :=
  (dats m 0 c).arrAt_eq_of_covers 2 (val2 m c) (by decide +kernel) (fun t _ y => (congrFun (after0_2 m c t) _).trans (point2 m c t y))

theorem point3 (c : Dev nD) (t : Fin cfg0.N) (j : S32x56.Idx) : out0_3 (iblk m c 0 t) (iblk m c 1 t) j = val3 m c ((win0_3.rect t).emb j) := by
  obtain ⟨p, q, rfl⟩ : ∃ (p : Fin 32) (q : Fin 56), j = ix2 p q := ⟨j 0, j 1, eq_ix2 (n0 := 32) (n1 := 56) j⟩
  have e : (win0_3.rect t).emb (ix2 (n0 := 32) (n1 := 56) p q) = ix2 (n0 := 1280) (n1 := 56) (row t p) q := funext fun d => Fin.ext (by
    match d with
    | ⟨0, _⟩ => exact (Window.rect_emb_val win0_3 t (ix2 (n0 := 32) (n1 := 56) p q) 0).trans (congrArg (· * 32 + p.val) (ix3_0 t))
    | ⟨1, _⟩ => exact Window.rect_emb_val_of_index_zero win0_3 t 1 (ix3_1 t) (ix2 (n0 := 32) (n1 := 56) p q))
  refine Eq.trans ?_ (congrArg (val3 m c) e).symm
  rw [scales_block]
  show sc hW (dd 0x45E00000#32) (fun k => rows (iblk m c 0 t) (ix2 p k)) (fun k => iblk m c 1 t (ix2 (n0 := 1) (n1 := 7168) 0 k)) q = _
  rw [rows_eq, gain_eq]
  rfl

theorem final3 (c : Dev nD) : (dats m 0 c).arrAt 3 cfg0.N = val3 m c :=
  (dats m 0 c).arrAt_eq_of_covers 3 (val3 m c) (by decide +kernel) (fun t _ y => (congrFun (after0_3 m c t) _).trans (point3 m c t y))

theorem point4 (c : Dev nD) (t : Fin cfg0.N) (j : S32x7168.Idx) : out0_4 (iblk m c 0 t) (iblk m c 1 t) j = val4 m c ((win0_4.rect t).emb j) := by
  obtain ⟨p, q, rfl⟩ : ∃ (p : Fin 32) (q : Fin 7168), j = ix2 p q := ⟨j 0, j 1, eq_ix2 (n0 := 32) (n1 := 7168) j⟩
  have e : (win0_4.rect t).emb (ix2 (n0 := 32) (n1 := 7168) p q) = ix2 (n0 := 1280) (n1 := 7168) (row t p) q := funext fun d => Fin.ext (by
    match d with
    | ⟨0, _⟩ => exact (Window.rect_emb_val win0_4 t (ix2 (n0 := 32) (n1 := 7168) p q) 0).trans (congrArg (· * 32 + p.val) (ix4_0 t))
    | ⟨1, _⟩ => exact Window.rect_emb_val_of_index_zero win0_4 t 1 (ix4_1 t) (ix2 (n0 := 32) (n1 := 7168) p q))
  refine Eq.trans ?_ (congrArg (val4 m c) e).symm
  rw [deqs_block]
  show clip hW (dd 0x45E00000#32) (fun k => rows (iblk m c 0 t) (ix2 p k)) (fun k => iblk m c 1 t (ix2 (n0 := 1) (n1 := 7168) 0 k)) q
    * sc hW (dd 0x45E00000#32) (fun k => rows (iblk m c 0 t) (ix2 p k)) (fun k => iblk m c 1 t (ix2 (n0 := 1) (n1 := 7168) 0 k)) (grp hW q) = _
  rw [rows_eq, gain_eq]
  rfl

theorem final4 (c : Dev nD) : (dats m 0 c).arrAt 4 cfg0.N = val4 m c :=
  (dats m 0 c).arrAt_eq_of_covers 4 (val4 m c) (by decide +kernel) (fun t _ y => (congrFun (after0_4 m c t) _).trans (point4 m c t y))

theorem point5 (c : Dev nD) (t : Fin cfg0.N) (j : S32x1.Idx) : out0_5 (iblk m c 0 t) (iblk m c 1 t) j = val5 m c ((win0_5.rect t).emb j) := by
  obtain ⟨p, q, rfl⟩ : ∃ (p : Fin 32) (q : Fin 1), j = ix2 p q := ⟨j 0, j 1, eq_ix2 (n0 := 32) (n1 := 1) j⟩
  have e : (win0_5.rect t).emb (ix2 (n0 := 32) (n1 := 1) p q) = ix2 (n0 := 1280) (n1 := 1) (row t p) q := funext fun d => Fin.ext (by
    match d with
    | ⟨0, _⟩ => exact (Window.rect_emb_val win0_5 t (ix2 (n0 := 32) (n1 := 1) p q) 0).trans (congrArg (· * 32 + p.val) (ix5_0 t))
    | ⟨1, _⟩ => exact Window.rect_emb_val_of_index_zero win0_5 t 1 (ix5_1 t) (ix2 (n0 := 32) (n1 := 1) p q))
  refine Eq.trans ?_ (congrArg (val5 m c) e).symm
  rw [root_block]
  rw [rows_eq]
  rfl

theorem final5 (c : Dev nD) : (dats m 0 c).arrAt 5 cfg0.N = val5 m c :=
  (dats m 0 c).arrAt_eq_of_covers 5 (val5 m c) (by decide +kernel) (fun t _ y => (congrFun (after0_5 m c t) _).trans (point5 m c t y))

end

end Cert.QuantAttnIdeal.Norm

/-! ## The claims -/

namespace Cert.Proof.QuantAttnClaims

theorem frame_p : Cert.quiescent_QuantAttn := fun m ρ _ => Cert.QuantAttn.Gen.frame m ρ
theorem frame_pi : Cert.quiescent_QuantAttnIdeal := fun m ρ _ => Cert.QuantAttnIdeal.Gen.frame m ρ
theorem frame_ri : Cert.quiescent_QuantAttnRefIdeal := fun m ρ _ =>
  (θ_run Cert.QuantAttnRefIdeal.defs _ _).mono (fun r h => ⟨fun c => (h c).2.2.2.2, Idealize.ShloMosaic.sem_eq_zero_of_no_sems (by decide) r.2⟩)
    (Cert.QuantAttnRefIdeal.Value.run (F := Ideal) m ρ)
theorem preserves : Cert.preserves_QuantAttn_QuantAttnIdeal := trivial

/-- Both programs end with the integers, the scales, the scaled integers and the reciprocal root mean squares. -/
theorem algebraic : Cert.algebraic_QuantAttnIdeal_QuantAttnRefIdeal := by
  intro m ρ m' ρ' _ hag
  refine ⟨fun c => Cert.QuantAttnIdeal.Norm.val2 m c, fun c => Cert.QuantAttnIdeal.Norm.val3 m c, fun c => Cert.QuantAttnIdeal.Norm.val4 m c, fun c => Cert.QuantAttnIdeal.Norm.val5 m c, ?_, ?_⟩
  · exact (θ_run _ _ _).mono (fun _ h c => ⟨(h c).1.trans (Cert.QuantAttnIdeal.Norm.final2 m c), (h c).2.1.trans (Cert.QuantAttnIdeal.Norm.final3 m c),
      (h c).2.2.1.trans (Cert.QuantAttnIdeal.Norm.final4 m c), (h c).2.2.2.1.trans (Cert.QuantAttnIdeal.Norm.final5 m c), (h c).2.2.2.2⟩)
      (Cert.QuantAttnIdeal.Value.run_blocks m ρ)
  · refine (θ_run _ _ _).mono (fun _ h c => ⟨(h c).1.trans ?_, (h c).2.1.trans ?_, (h c).2.2.1.trans ?_, (h c).2.2.2.1.trans ?_, (h c).2.2.2.2⟩) (Cert.QuantAttnRefIdeal.Value.run (F := Ideal) m' ρ')
    · rw [Cert.QuantAttnRefIdeal.Read.val_main_v33_eq, (hag c).1, (hag c).2]
      exact funext fun i => (congrArg _ (eq_ix2 (n0 := 1280) (n1 := 7168) i)).trans (Cert.QuantAttnRefIdeal.Norm.codes_at _ _ (i 0) (i 1))
    · rw [Cert.QuantAttnRefIdeal.Read.val_main_v20_eq, (hag c).1, (hag c).2]
      exact funext fun i => (congrArg _ (eq_ix2 (n0 := 1280) (n1 := 56) i)).trans (Cert.QuantAttnRefIdeal.Norm.scale_at _ _ (i 0) (i 1))
    · rw [Cert.QuantAttnRefIdeal.Read.val_main_v34_eq, (hag c).1, (hag c).2]
      exact funext fun i => (congrArg _ (eq_ix2 (n0 := 1280) (n1 := 7168) i)).trans (Cert.QuantAttnRefIdeal.Norm.deqs_at _ _ (i 0) (i 1))
    · rw [Cert.QuantAttnRefIdeal.Read.val_main_v35_eq, (hag c).1]
      exact funext fun i => (congrArg _ (eq_ix2 (n0 := 1280) (n1 := 1) i)).trans (Cert.QuantAttnRefIdeal.Norm.roots_at _ (i 0) (i 1))

end Cert.Proof.QuantAttnClaims

end
-- ==== Proof.QuantPostBlock.lean ====
/- The quantise call on the sum after the attention: what its body leaves in its four blocks. -/
module

public import proofs.«01_k».proof.Proof.Gen.QuantPostIdeal.Value
public import proofs.«01_k».proof.Proof.Quant
public import Idealize.ShloMosaic.Lib.Pipeline.ValueKit

@[expose] public section

set_option maxRecDepth 65536

noncomputable section

open Cert.Quant
open Idealize.ShloMosaic hiding ix0 ix1 ix2 ix3 eq_ix1 eq_ix2
open Idealize.ShloMosaic.TcCoe Idealize.ShloMosaic.ValueIdx Idealize.SL.Sem
open Idealize.ShloMosaic.Pipeline (Dat Window)
open scoped BigOperators

namespace Cert.QuantPostIdeal.Norm

open Cert.QuantPostIdeal Cert.QuantPostIdeal.Gen

theorem hW : 7168 = 56 * 128 := rfl

theorem hz : (![0, 0] : Fin 2 → Nat) = fun _ => 0 := funext fun a => by fin_cases a <;> rfl

/-! ## What the body leaves in its four blocks -/

section Block

variable (x0 : Vec Ideal S32x7168 .f32) (x1 : Vec Ideal S1x7168 .f32)

/-- The block of rows the body works on. -/
def rows : FVec Ideal S32x7168 .f32 := View.ld x0 r0_0

theorem rows_apply (i : S32x7168.Idx) : rows x0 i = x0 i := by
  show View.ld x0 r0_0 i = _
  rw [View.ld_unit_zero (S := S32x7168) hz]

theorem root_apply (p : Fin 32) (z : Fin 1) : k0_pay6 (F := Ideal) (View.ld x0 r0_0) (ix2 p z) = rms (dd 0x45E00000#32) fun c => rows x0 (ix2 p c) :=
  kroot_apply (rows x0) 0x45E00000#32 reduces_S32x7168_S32 (.inl rfl) rfl shapeCasts_S32_S32x1 p z

/-- One group of lanes of the integers. -/
theorem code (k : Fin 56) (o : Nat) (ho : o = k.val * 128) (hv : S32x7168.Slices ![0, o] S32x128) (inb : ∀ a, (![0, o] : Fin 2 → Nat) a + S1x128.size a ≤ S1x7168.size a)
    (inb' : ∀ a, (![0, o] : Fin 2 → Nat) a + S32x128.size a ≤ S32x7168.size a) (x : S32x128.Idx) :
    fptosi 8 (kclip (knorm (rows x0) (k0_pay6 (F := Ideal) (View.ld x0 r0_0)) (lanes x1 o inb) o hv broadcasts_S32x1_S32x128 shapeCasts_S1x128_S1x128 broadcasts_S1x128_S32x128)
      (kscale (knorm (rows x0) (k0_pay6 (F := Ideal) (View.ld x0 r0_0)) (lanes x1 o inb) o hv broadcasts_S32x1_S32x128 shapeCasts_S1x128_S1x128 broadcasts_S1x128_S32x128) reduces_S32x128_S32 (.inl rfl) rfl shapeCasts_S32_S32x1) broadcasts_S32x1_S32x128) x
      = codes hW 0x45E00000#32 (rows x0) x1 ((Rect.unit (s := S32x7168) ![0, o] S32x128.size inb').emb x) :=
  code_piece hW 0x45E00000#32 (rows x0) _ x1 (fun p => root_apply x0 p 0) k o ho _ _ _ _ _ _ _ _ _ _ x

/-- One group of lanes of the scaled integers. -/
theorem deq (k : Fin 56) (o : Nat) (ho : o = k.val * 128) (hv : S32x7168.Slices ![0, o] S32x128) (inb : ∀ a, (![0, o] : Fin 2 → Nat) a + S1x128.size a ≤ S1x7168.size a)
    (inb' : ∀ a, (![0, o] : Fin 2 → Nat) a + S32x128.size a ≤ S32x7168.size a) (x : S32x128.Idx) :
    kdeq (knorm (rows x0) (k0_pay6 (F := Ideal) (View.ld x0 r0_0)) (lanes x1 o inb) o hv broadcasts_S32x1_S32x128 shapeCasts_S1x128_S1x128 broadcasts_S1x128_S32x128)
      (kscale (knorm (rows x0) (k0_pay6 (F := Ideal) (View.ld x0 r0_0)) (lanes x1 o inb) o hv broadcasts_S32x1_S32x128 shapeCasts_S1x128_S1x128 broadcasts_S1x128_S32x128) reduces_S32x128_S32 (.inl rfl) rfl shapeCasts_S32_S32x1) broadcasts_S32x1_S32x128 bitsLt_bf16_f32 x
      = deqs hW 0x45E00000#32 (rows x0) x1 ((Rect.unit (s := S32x7168) ![0, o] S32x128.size inb').emb x) :=
  deq_piece hW 0x45E00000#32 (rows x0) _ x1 (fun p => root_apply x0 p 0) k o ho _ _ _ _ _ _ _ _ _ _ _ x

/-- One more lane of the scales. -/
theorem put (k : Fin 56) (o : Nat) (ho : o = k.val * 128) (hv : S32x7168.Slices ![0, o] S32x128) (inb : ∀ a, (![0, o] : Fin 2 → Nat) a + S1x128.size a ≤ S1x7168.size a)
    (w : BitVec 32) (hw : w = BitVec.ofNat 32 k.val) {prev : FVec Ideal S32x56 .f32} (hp : Upto hW 0x45E00000#32 (rows x0) x1 k.val prev) :
    Upto hW 0x45E00000#32 (rows x0) x1 (k.val + 1) (kput w (kscale (knorm (rows x0) (k0_pay6 (F := Ideal) (View.ld x0 r0_0)) (lanes x1 o inb) o hv broadcasts_S32x1_S32x128
      shapeCasts_S1x128_S1x128 broadcasts_S1x128_S32x128) reduces_S32x128_S32 (.inl rfl) rfl shapeCasts_S32_S32x1) prev iota_S32x56_d1_w32 shapeCasts_S32x1_S32x1 broadcasts_S32x1_S32x56) :=
  put_upto hW 0x45E00000#32 (rows x0) _ x1 (fun p => root_apply x0 p 0) (by decide) k o ho _ _ _ _ _ _ _ _ _ _ _ _ w hw hp

/-- The integers the body leaves. -/
theorem codes_block (y : S32x7168.Idx) : out0_2 x0 x1 y = codes hW 0x45E00000#32 (rows x0) x1 y := by
  refine View.canon_apply_of_pieces (Val := Elt Ideal) (e := .i8) (codes hW 0x45E00000#32 (rows x0) x1) _ ?_ y (cover0_2 (F := Ideal) _ _ _ _ _ _ _ _ _ _ _ _ _ _ _ _ _ _ _ _ _ _ _ _ _ _ _ _ _ _ _ _ _ _ _ _ _ _ _ _ _ _ _ _ _ _ _ _ _ _ _ _ _ _ _ _ y)
  exact
    List.forall_mem_cons.2 ⟨code x0 x1 55 7040 rfl slices_S32x7168_o0_7040_S32x128 inb_S1x7168_S1x128_0_7040 inb_S32x7168_S32x128_0_7040,
    List.forall_mem_cons.2 ⟨code x0 x1 54 6912 rfl slices_S32x7168_o0_6912_S32x128 inb_S1x7168_S1x128_0_6912 inb_S32x7168_S32x128_0_6912,
    List.forall_mem_cons.2 ⟨code x0 x1 53 6784 rfl slices_S32x7168_o0_6784_S32x128 inb_S1x7168_S1x128_0_6784 inb_S32x7168_S32x128_0_6784,
    List.forall_mem_cons.2 ⟨code x0 x1 52 6656 rfl slices_S32x7168_o0_6656_S32x128 inb_S1x7168_S1x128_0_6656 inb_S32x7168_S32x128_0_6656,
    List.forall_mem_cons.2 ⟨code x0 x1 51 6528 rfl slices_S32x7168_o0_6528_S32x128 inb_S1x7168_S1x128_0_6528 inb_S32x7168_S32x128_0_6528,
    List.forall_mem_cons.2 ⟨code x0 x1 50 6400 rfl slices_S32x7168_o0_6400_S32x128 inb_S1x7168_S1x128_0_6400 inb_S32x7168_S32x128_0_6400,
    List.forall_mem_cons.2 ⟨code x0 x1 49 6272 rfl slices_S32x7168_o0_6272_S32x128 inb_S1x7168_S1x128_0_6272 inb_S32x7168_S32x128_0_6272,
    List.forall_mem_cons.2 ⟨code x0 x1 48 6144 rfl slices_S32x7168_o0_6144_S32x128 inb_S1x7168_S1x128_0_6144 inb_S32x7168_S32x128_0_6144,
    List.forall_mem_cons.2 ⟨code x0 x1 47 6016 rfl slices_S32x7168_o0_6016_S32x128 inb_S1x7168_S1x128_0_6016 inb_S32x7168_S32x128_0_6016,
    List.forall_mem_cons.2 ⟨code x0 x1 46 5888 rfl slices_S32x7168_o0_5888_S32x128 inb_S1x7168_S1x128_0_5888 inb_S32x7168_S32x128_0_5888,
    List.forall_mem_cons.2 ⟨code x0 x1 45 5760 rfl slices_S32x7168_o0_5760_S32x128 inb_S1x7168_S1x128_0_5760 inb_S32x7168_S32x128_0_5760,
    List.forall_mem_cons.2 ⟨code x0 x1 44 5632 rfl slices_S32x7168_o0_5632_S32x128 inb_S1x7168_S1x128_0_5632 inb_S32x7168_S32x128_0_5632,
    List.forall_mem_cons.2 ⟨code x0 x1 43 5504 rfl slices_S32x7168_o0_5504_S32x128 inb_S1x7168_S1x128_0_5504 inb_S32x7168_S32x128_0_5504,
    List.forall_mem_cons.2 ⟨code x0 x1 42 5376 rfl slices_S32x7168_o0_5376_S32x128 inb_S1x7168_S1x128_0_5376 inb_S32x7168_S32x128_0_5376,
    List.forall_mem_cons.2 ⟨code x0 x1 41 5248 rfl slices_S32x7168_o0_5248_S32x128 inb_S1x7168_S1x128_0_5248 inb_S32x7168_S32x128_0_5248,
    List.forall_mem_cons.2 ⟨code x0 x1 40 5120 rfl slices_S32x7168_o0_5120_S32x128 inb_S1x7168_S1x128_0_5120 inb_S32x7168_S32x128_0_5120,
    List.forall_mem_cons.2 ⟨code x0 x1 39 4992 rfl slices_S32x7168_o0_4992_S32x128 inb_S1x7168_S1x128_0_4992 inb_S32x7168_S32x128_0_4992,
    List.forall_mem_cons.2 ⟨code x0 x1 38 4864 rfl slices_S32x7168_o0_4864_S32x128 inb_S1x7168_S1x128_0_4864 inb_S32x7168_S32x128_0_4864,
    List.forall_mem_cons.2 ⟨code x0 x1 37 4736 rfl slices_S32x7168_o0_4736_S32x128 inb_S1x7168_S1x128_0_4736 inb_S32x7168_S32x128_0_4736,
    List.forall_mem_cons.2 ⟨code x0 x1 36 4608 rfl slices_S32x7168_o0_4608_S32x128 inb_S1x7168_S1x128_0_4608 inb_S32x7168_S32x128_0_4608,
    List.forall_mem_cons.2 ⟨code x0 x1 35 4480 rfl slices_S32x7168_o0_4480_S32x128 inb_S1x7168_S1x128_0_4480 inb_S32x7168_S32x128_0_4480,
    List.forall_mem_cons.2 ⟨code x0 x1 34 4352 rfl slices_S32x7168_o0_4352_S32x128 inb_S1x7168_S1x128_0_4352 inb_S32x7168_S32x128_0_4352,
    List.forall_mem_cons.2 ⟨code x0 x1 33 4224 rfl slices_S32x7168_o0_4224_S32x128 inb_S1x7168_S1x128_0_4224 inb_S32x7168_S32x128_0_4224,
    List.forall_mem_cons.2 ⟨code x0 x1 32 4096 rfl slices_S32x7168_o0_4096_S32x128 inb_S1x7168_S1x128_0_4096 inb_S32x7168_S32x128_0_4096,
    List.forall_mem_cons.2 ⟨code x0 x1 31 3968 rfl slices_S32x7168_o0_3968_S32x128 inb_S1x7168_S1x128_0_3968 inb_S32x7168_S32x128_0_3968,
    List.forall_mem_cons.2 ⟨code x0 x1 30 3840 rfl slices_S32x7168_o0_3840_S32x128 inb_S1x7168_S1x128_0_3840 inb_S32x7168_S32x128_0_3840,
    List.forall_mem_cons.2 ⟨code x0 x1 29 3712 rfl slices_S32x7168_o0_3712_S32x128 inb_S1x7168_S1x128_0_3712 inb_S32x7168_S32x128_0_3712,
    List.forall_mem_cons.2 ⟨code x0 x1 28 3584 rfl slices_S32x7168_o0_3584_S32x128 inb_S1x7168_S1x128_0_3584 inb_S32x7168_S32x128_0_3584,
    List.forall_mem_cons.2 ⟨code x0 x1 27 3456 rfl slices_S32x7168_o0_3456_S32x128 inb_S1x7168_S1x128_0_3456 inb_S32x7168_S32x128_0_3456,
    List.forall_mem_cons.2 ⟨code x0 x1 26 3328 rfl slices_S32x7168_o0_3328_S32x128 inb_S1x7168_S1x128_0_3328 inb_S32x7168_S32x128_0_3328,
    List.forall_mem_cons.2 ⟨code x0 x1 25 3200 rfl slices_S32x7168_o0_3200_S32x128 inb_S1x7168_S1x128_0_3200 inb_S32x7168_S32x128_0_3200,
    List.forall_mem_cons.2 ⟨code x0 x1 24 3072 rfl slices_S32x7168_o0_3072_S32x128 inb_S1x7168_S1x128_0_3072 inb_S32x7168_S32x128_0_3072,
    List.forall_mem_cons.2 ⟨code x0 x1 23 2944 rfl slices_S32x7168_o0_2944_S32x128 inb_S1x7168_S1x128_0_2944 inb_S32x7168_S32x128_0_2944,
    List.forall_mem_cons.2 ⟨code x0 x1 22 2816 rfl slices_S32x7168_o0_2816_S32x128 inb_S1x7168_S1x128_0_2816 inb_S32x7168_S32x128_0_2816,
    List.forall_mem_cons.2 ⟨code x0 x1 21 2688 rfl slices_S32x7168_o0_2688_S32x128 inb_S1x7168_S1x128_0_2688 inb_S32x7168_S32x128_0_2688,
    List.forall_mem_cons.2 ⟨code x0 x1 20 2560 rfl slices_S32x7168_o0_2560_S32x128 inb_S1x7168_S1x128_0_2560 inb_S32x7168_S32x128_0_2560,
    List.forall_mem_cons.2 ⟨code x0 x1 19 2432 rfl slices_S32x7168_o0_2432_S32x128 inb_S1x7168_S1x128_0_2432 inb_S32x7168_S32x128_0_2432,
    List.forall_mem_cons.2 ⟨code x0 x1 18 2304 rfl slices_S32x7168_o0_2304_S32x128 inb_S1x7168_S1x128_0_2304 inb_S32x7168_S32x128_0_2304,
    List.forall_mem_cons.2 ⟨code x0 x1 17 2176 rfl slices_S32x7168_o0_2176_S32x128 inb_S1x7168_S1x128_0_2176 inb_S32x7168_S32x128_0_2176,
    List.forall_mem_cons.2 ⟨code x0 x1 16 2048 rfl slices_S32x7168_o0_2048_S32x128 inb_S1x7168_S1x128_0_2048 inb_S32x7168_S32x128_0_2048,
    List.forall_mem_cons.2 ⟨code x0 x1 15 1920 rfl slices_S32x7168_o0_1920_S32x128 inb_S1x7168_S1x128_0_1920 inb_S32x7168_S32x128_0_1920,
    List.forall_mem_cons.2 ⟨code x0 x1 14 1792 rfl slices_S32x7168_o0_1792_S32x128 inb_S1x7168_S1x128_0_1792 inb_S32x7168_S32x128_0_1792,
    List.forall_mem_cons.2 ⟨code x0 x1 13 1664 rfl slices_S32x7168_o0_1664_S32x128 inb_S1x7168_S1x128_0_1664 inb_S32x7168_S32x128_0_1664,
    List.forall_mem_cons.2 ⟨code x0 x1 12 1536 rfl slices_S32x7168_o0_1536_S32x128 inb_S1x7168_S1x128_0_1536 inb_S32x7168_S32x128_0_1536,
    List.forall_mem_cons.2 ⟨code x0 x1 11 1408 rfl slices_S32x7168_o0_1408_S32x128 inb_S1x7168_S1x128_0_1408 inb_S32x7168_S32x128_0_1408,
    List.forall_mem_cons.2 ⟨code x0 x1 10 1280 rfl slices_S32x7168_o0_1280_S32x128 inb_S1x7168_S1x128_0_1280 inb_S32x7168_S32x128_0_1280,
    List.forall_mem_cons.2 ⟨code x0 x1 9 1152 rfl slices_S32x7168_o0_1152_S32x128 inb_S1x7168_S1x128_0_1152 inb_S32x7168_S32x128_0_1152,
    List.forall_mem_cons.2 ⟨code x0 x1 8 1024 rfl slices_S32x7168_o0_1024_S32x128 inb_S1x7168_S1x128_0_1024 inb_S32x7168_S32x128_0_1024,
    List.forall_mem_cons.2 ⟨code x0 x1 7 896 rfl slices_S32x7168_o0_896_S32x128 inb_S1x7168_S1x128_0_896 inb_S32x7168_S32x128_0_896,
    List.forall_mem_cons.2 ⟨code x0 x1 6 768 rfl slices_S32x7168_o0_768_S32x128 inb_S1x7168_S1x128_0_768 inb_S32x7168_S32x128_0_768,
    List.forall_mem_cons.2 ⟨code x0 x1 5 640 rfl slices_S32x7168_o0_640_S32x128 inb_S1x7168_S1x128_0_640 inb_S32x7168_S32x128_0_640,
    List.forall_mem_cons.2 ⟨code x0 x1 4 512 rfl slices_S32x7168_o0_512_S32x128 inb_S1x7168_S1x128_0_512 inb_S32x7168_S32x128_0_512,
    List.forall_mem_cons.2 ⟨code x0 x1 3 384 rfl slices_S32x7168_o0_384_S32x128 inb_S1x7168_S1x128_0_384 inb_S32x7168_S32x128_0_384,
    List.forall_mem_cons.2 ⟨code x0 x1 2 256 rfl slices_S32x7168_o0_256_S32x128 inb_S1x7168_S1x128_0_256 inb_S32x7168_S32x128_0_256,
    List.forall_mem_cons.2 ⟨code x0 x1 1 128 rfl slices_S32x7168_o0_128_S32x128 inb_S1x7168_S1x128_0_128 inb_S32x7168_S32x128_0_128,
    List.forall_mem_cons.2 ⟨code x0 x1 0 0 rfl slices_S32x7168_o0_0_S32x128 inb_S1x7168_S1x128_0_0 inb_S32x7168_S32x128_0_0,
    List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

/-- The scaled integers the body leaves. -/
theorem deqs_block (y : S32x7168.Idx) : out0_4 x0 x1 y = deqs hW 0x45E00000#32 (rows x0) x1 y := by
  refine View.canon_apply_of_pieces (Val := Elt Ideal) (e := .bf16) (deqs hW 0x45E00000#32 (rows x0) x1) _ ?_ y (cover0_4 (F := Ideal) _ _ _ _ _ _ _ _ _ _ _ _ _ _ _ _ _ _ _ _ _ _ _ _ _ _ _ _ _ _ _ _ _ _ _ _ _ _ _ _ _ _ _ _ _ _ _ _ _ _ _ _ _ _ _ _ y)
  exact
    List.forall_mem_cons.2 ⟨deq x0 x1 55 7040 rfl slices_S32x7168_o0_7040_S32x128 inb_S1x7168_S1x128_0_7040 inb_S32x7168_S32x128_0_7040,
    List.forall_mem_cons.2 ⟨deq x0 x1 54 6912 rfl slices_S32x7168_o0_6912_S32x128 inb_S1x7168_S1x128_0_6912 inb_S32x7168_S32x128_0_6912,
    List.forall_mem_cons.2 ⟨deq x0 x1 53 6784 rfl slices_S32x7168_o0_6784_S32x128 inb_S1x7168_S1x128_0_6784 inb_S32x7168_S32x128_0_6784,
    List.forall_mem_cons.2 ⟨deq x0 x1 52 6656 rfl slices_S32x7168_o0_6656_S32x128 inb_S1x7168_S1x128_0_6656 inb_S32x7168_S32x128_0_6656,
    List.forall_mem_cons.2 ⟨deq x0 x1 51 6528 rfl slices_S32x7168_o0_6528_S32x128 inb_S1x7168_S1x128_0_6528 inb_S32x7168_S32x128_0_6528,
    List.forall_mem_cons.2 ⟨deq x0 x1 50 6400 rfl slices_S32x7168_o0_6400_S32x128 inb_S1x7168_S1x128_0_6400 inb_S32x7168_S32x128_0_6400,
    List.forall_mem_cons.2 ⟨deq x0 x1 49 6272 rfl slices_S32x7168_o0_6272_S32x128 inb_S1x7168_S1x128_0_6272 inb_S32x7168_S32x128_0_6272,
    List.forall_mem_cons.2 ⟨deq x0 x1 48 6144 rfl slices_S32x7168_o0_6144_S32x128 inb_S1x7168_S1x128_0_6144 inb_S32x7168_S32x128_0_6144,
    List.forall_mem_cons.2 ⟨deq x0 x1 47 6016 rfl slices_S32x7168_o0_6016_S32x128 inb_S1x7168_S1x128_0_6016 inb_S32x7168_S32x128_0_6016,
    List.forall_mem_cons.2 ⟨deq x0 x1 46 5888 rfl slices_S32x7168_o0_5888_S32x128 inb_S1x7168_S1x128_0_5888 inb_S32x7168_S32x128_0_5888,
    List.forall_mem_cons.2 ⟨deq x0 x1 45 5760 rfl slices_S32x7168_o0_5760_S32x128 inb_S1x7168_S1x128_0_5760 inb_S32x7168_S32x128_0_5760,
    List.forall_mem_cons.2 ⟨deq x0 x1 44 5632 rfl slices_S32x7168_o0_5632_S32x128 inb_S1x7168_S1x128_0_5632 inb_S32x7168_S32x128_0_5632,
    List.forall_mem_cons.2 ⟨deq x0 x1 43 5504 rfl slices_S32x7168_o0_5504_S32x128 inb_S1x7168_S1x128_0_5504 inb_S32x7168_S32x128_0_5504,
    List.forall_mem_cons.2 ⟨deq x0 x1 42 5376 rfl slices_S32x7168_o0_5376_S32x128 inb_S1x7168_S1x128_0_5376 inb_S32x7168_S32x128_0_5376,
    List.forall_mem_cons.2 ⟨deq x0 x1 41 5248 rfl slices_S32x7168_o0_5248_S32x128 inb_S1x7168_S1x128_0_5248 inb_S32x7168_S32x128_0_5248,
    List.forall_mem_cons.2 ⟨deq x0 x1 40 5120 rfl slices_S32x7168_o0_5120_S32x128 inb_S1x7168_S1x128_0_5120 inb_S32x7168_S32x128_0_5120,
    List.forall_mem_cons.2 ⟨deq x0 x1 39 4992 rfl slices_S32x7168_o0_4992_S32x128 inb_S1x7168_S1x128_0_4992 inb_S32x7168_S32x128_0_4992,
    List.forall_mem_cons.2 ⟨deq x0 x1 38 4864 rfl slices_S32x7168_o0_4864_S32x128 inb_S1x7168_S1x128_0_4864 inb_S32x7168_S32x128_0_4864,
    List.forall_mem_cons.2 ⟨deq x0 x1 37 4736 rfl slices_S32x7168_o0_4736_S32x128 inb_S1x7168_S1x128_0_4736 inb_S32x7168_S32x128_0_4736,
    List.forall_mem_cons.2 ⟨deq x0 x1 36 4608 rfl slices_S32x7168_o0_4608_S32x128 inb_S1x7168_S1x128_0_4608 inb_S32x7168_S32x128_0_4608,
    List.forall_mem_cons.2 ⟨deq x0 x1 35 4480 rfl slices_S32x7168_o0_4480_S32x128 inb_S1x7168_S1x128_0_4480 inb_S32x7168_S32x128_0_4480,
    List.forall_mem_cons.2 ⟨deq x0 x1 34 4352 rfl slices_S32x7168_o0_4352_S32x128 inb_S1x7168_S1x128_0_4352 inb_S32x7168_S32x128_0_4352,
    List.forall_mem_cons.2 ⟨deq x0 x1 33 4224 rfl slices_S32x7168_o0_4224_S32x128 inb_S1x7168_S1x128_0_4224 inb_S32x7168_S32x128_0_4224,
    List.forall_mem_cons.2 ⟨deq x0 x1 32 4096 rfl slices_S32x7168_o0_4096_S32x128 inb_S1x7168_S1x128_0_4096 inb_S32x7168_S32x128_0_4096,
    List.forall_mem_cons.2 ⟨deq x0 x1 31 3968 rfl slices_S32x7168_o0_3968_S32x128 inb_S1x7168_S1x128_0_3968 inb_S32x7168_S32x128_0_3968,
    List.forall_mem_cons.2 ⟨deq x0 x1 30 3840 rfl slices_S32x7168_o0_3840_S32x128 inb_S1x7168_S1x128_0_3840 inb_S32x7168_S32x128_0_3840,
    List.forall_mem_cons.2 ⟨deq x0 x1 29 3712 rfl slices_S32x7168_o0_3712_S32x128 inb_S1x7168_S1x128_0_3712 inb_S32x7168_S32x128_0_3712,
    List.forall_mem_cons.2 ⟨deq x0 x1 28 3584 rfl slices_S32x7168_o0_3584_S32x128 inb_S1x7168_S1x128_0_3584 inb_S32x7168_S32x128_0_3584,
    List.forall_mem_cons.2 ⟨deq x0 x1 27 3456 rfl slices_S32x7168_o0_3456_S32x128 inb_S1x7168_S1x128_0_3456 inb_S32x7168_S32x128_0_3456,
    List.forall_mem_cons.2 ⟨deq x0 x1 26 3328 rfl slices_S32x7168_o0_3328_S32x128 inb_S1x7168_S1x128_0_3328 inb_S32x7168_S32x128_0_3328,
    List.forall_mem_cons.2 ⟨deq x0 x1 25 3200 rfl slices_S32x7168_o0_3200_S32x128 inb_S1x7168_S1x128_0_3200 inb_S32x7168_S32x128_0_3200,
    List.forall_mem_cons.2 ⟨deq x0 x1 24 3072 rfl slices_S32x7168_o0_3072_S32x128 inb_S1x7168_S1x128_0_3072 inb_S32x7168_S32x128_0_3072,
    List.forall_mem_cons.2 ⟨deq x0 x1 23 2944 rfl slices_S32x7168_o0_2944_S32x128 inb_S1x7168_S1x128_0_2944 inb_S32x7168_S32x128_0_2944,
    List.forall_mem_cons.2 ⟨deq x0 x1 22 2816 rfl slices_S32x7168_o0_2816_S32x128 inb_S1x7168_S1x128_0_2816 inb_S32x7168_S32x128_0_2816,
    List.forall_mem_cons.2 ⟨deq x0 x1 21 2688 rfl slices_S32x7168_o0_2688_S32x128 inb_S1x7168_S1x128_0_2688 inb_S32x7168_S32x128_0_2688,
    List.forall_mem_cons.2 ⟨deq x0 x1 20 2560 rfl slices_S32x7168_o0_2560_S32x128 inb_S1x7168_S1x128_0_2560 inb_S32x7168_S32x128_0_2560,
    List.forall_mem_cons.2 ⟨deq x0 x1 19 2432 rfl slices_S32x7168_o0_2432_S32x128 inb_S1x7168_S1x128_0_2432 inb_S32x7168_S32x128_0_2432,
    List.forall_mem_cons.2 ⟨deq x0 x1 18 2304 rfl slices_S32x7168_o0_2304_S32x128 inb_S1x7168_S1x128_0_2304 inb_S32x7168_S32x128_0_2304,
    List.forall_mem_cons.2 ⟨deq x0 x1 17 2176 rfl slices_S32x7168_o0_2176_S32x128 inb_S1x7168_S1x128_0_2176 inb_S32x7168_S32x128_0_2176,
    List.forall_mem_cons.2 ⟨deq x0 x1 16 2048 rfl slices_S32x7168_o0_2048_S32x128 inb_S1x7168_S1x128_0_2048 inb_S32x7168_S32x128_0_2048,
    List.forall_mem_cons.2 ⟨deq x0 x1 15 1920 rfl slices_S32x7168_o0_1920_S32x128 inb_S1x7168_S1x128_0_1920 inb_S32x7168_S32x128_0_1920,
    List.forall_mem_cons.2 ⟨deq x0 x1 14 1792 rfl slices_S32x7168_o0_1792_S32x128 inb_S1x7168_S1x128_0_1792 inb_S32x7168_S32x128_0_1792,
    List.forall_mem_cons.2 ⟨deq x0 x1 13 1664 rfl slices_S32x7168_o0_1664_S32x128 inb_S1x7168_S1x128_0_1664 inb_S32x7168_S32x128_0_1664,
    List.forall_mem_cons.2 ⟨deq x0 x1 12 1536 rfl slices_S32x7168_o0_1536_S32x128 inb_S1x7168_S1x128_0_1536 inb_S32x7168_S32x128_0_1536,
    List.forall_mem_cons.2 ⟨deq x0 x1 11 1408 rfl slices_S32x7168_o0_1408_S32x128 inb_S1x7168_S1x128_0_1408 inb_S32x7168_S32x128_0_1408,
    List.forall_mem_cons.2 ⟨deq x0 x1 10 1280 rfl slices_S32x7168_o0_1280_S32x128 inb_S1x7168_S1x128_0_1280 inb_S32x7168_S32x128_0_1280,
    List.forall_mem_cons.2 ⟨deq x0 x1 9 1152 rfl slices_S32x7168_o0_1152_S32x128 inb_S1x7168_S1x128_0_1152 inb_S32x7168_S32x128_0_1152,
    List.forall_mem_cons.2 ⟨deq x0 x1 8 1024 rfl slices_S32x7168_o0_1024_S32x128 inb_S1x7168_S1x128_0_1024 inb_S32x7168_S32x128_0_1024,
    List.forall_mem_cons.2 ⟨deq x0 x1 7 896 rfl slices_S32x7168_o0_896_S32x128 inb_S1x7168_S1x128_0_896 inb_S32x7168_S32x128_0_896,
    List.forall_mem_cons.2 ⟨deq x0 x1 6 768 rfl slices_S32x7168_o0_768_S32x128 inb_S1x7168_S1x128_0_768 inb_S32x7168_S32x128_0_768,
    List.forall_mem_cons.2 ⟨deq x0 x1 5 640 rfl slices_S32x7168_o0_640_S32x128 inb_S1x7168_S1x128_0_640 inb_S32x7168_S32x128_0_640,
    List.forall_mem_cons.2 ⟨deq x0 x1 4 512 rfl slices_S32x7168_o0_512_S32x128 inb_S1x7168_S1x128_0_512 inb_S32x7168_S32x128_0_512,
    List.forall_mem_cons.2 ⟨deq x0 x1 3 384 rfl slices_S32x7168_o0_384_S32x128 inb_S1x7168_S1x128_0_384 inb_S32x7168_S32x128_0_384,
    List.forall_mem_cons.2 ⟨deq x0 x1 2 256 rfl slices_S32x7168_o0_256_S32x128 inb_S1x7168_S1x128_0_256 inb_S32x7168_S32x128_0_256,
    List.forall_mem_cons.2 ⟨deq x0 x1 1 128 rfl slices_S32x7168_o0_128_S32x128 inb_S1x7168_S1x128_0_128 inb_S32x7168_S32x128_0_128,
    List.forall_mem_cons.2 ⟨deq x0 x1 0 0 rfl slices_S32x7168_o0_0_S32x128 inb_S1x7168_S1x128_0_0 inb_S32x7168_S32x128_0_0,
    List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

/-- The scales the body leaves. -/
theorem scales_block (p : Fin 32) (j : Fin 56) : out0_3 x0 x1 (ix2 p j) = sc hW (dd 0x45E00000#32) (fun c => rows x0 (ix2 p c)) (fun c => x1 (ix2 0 c)) j := by
  unfold out0_3
  rw [View.canon_unit_zero hz]
  exact (
    put x0 x1 55 7040 rfl slices_S32x7168_o0_7040_S32x128 inb_S1x7168_S1x128_0_7040 55#32 rfl (
    put x0 x1 54 6912 rfl slices_S32x7168_o0_6912_S32x128 inb_S1x7168_S1x128_0_6912 54#32 rfl (
    put x0 x1 53 6784 rfl slices_S32x7168_o0_6784_S32x128 inb_S1x7168_S1x128_0_6784 53#32 rfl (
    put x0 x1 52 6656 rfl slices_S32x7168_o0_6656_S32x128 inb_S1x7168_S1x128_0_6656 52#32 rfl (
    put x0 x1 51 6528 rfl slices_S32x7168_o0_6528_S32x128 inb_S1x7168_S1x128_0_6528 51#32 rfl (
    put x0 x1 50 6400 rfl slices_S32x7168_o0_6400_S32x128 inb_S1x7168_S1x128_0_6400 50#32 rfl (
    put x0 x1 49 6272 rfl slices_S32x7168_o0_6272_S32x128 inb_S1x7168_S1x128_0_6272 49#32 rfl (
    put x0 x1 48 6144 rfl slices_S32x7168_o0_6144_S32x128 inb_S1x7168_S1x128_0_6144 48#32 rfl (
    put x0 x1 47 6016 rfl slices_S32x7168_o0_6016_S32x128 inb_S1x7168_S1x128_0_6016 47#32 rfl (
    put x0 x1 46 5888 rfl slices_S32x7168_o0_5888_S32x128 inb_S1x7168_S1x128_0_5888 46#32 rfl (
    put x0 x1 45 5760 rfl slices_S32x7168_o0_5760_S32x128 inb_S1x7168_S1x128_0_5760 45#32 rfl (
    put x0 x1 44 5632 rfl slices_S32x7168_o0_5632_S32x128 inb_S1x7168_S1x128_0_5632 44#32 rfl (
    put x0 x1 43 5504 rfl slices_S32x7168_o0_5504_S32x128 inb_S1x7168_S1x128_0_5504 43#32 rfl (
    put x0 x1 42 5376 rfl slices_S32x7168_o0_5376_S32x128 inb_S1x7168_S1x128_0_5376 42#32 rfl (
    put x0 x1 41 5248 rfl slices_S32x7168_o0_5248_S32x128 inb_S1x7168_S1x128_0_5248 41#32 rfl (
    put x0 x1 40 5120 rfl slices_S32x7168_o0_5120_S32x128 inb_S1x7168_S1x128_0_5120 40#32 rfl (
    put x0 x1 39 4992 rfl slices_S32x7168_o0_4992_S32x128 inb_S1x7168_S1x128_0_4992 39#32 rfl (
    put x0 x1 38 4864 rfl slices_S32x7168_o0_4864_S32x128 inb_S1x7168_S1x128_0_4864 38#32 rfl (
    put x0 x1 37 4736 rfl slices_S32x7168_o0_4736_S32x128 inb_S1x7168_S1x128_0_4736 37#32 rfl (
    put x0 x1 36 4608 rfl slices_S32x7168_o0_4608_S32x128 inb_S1x7168_S1x128_0_4608 36#32 rfl (
    put x0 x1 35 4480 rfl slices_S32x7168_o0_4480_S32x128 inb_S1x7168_S1x128_0_4480 35#32 rfl (
    put x0 x1 34 4352 rfl slices_S32x7168_o0_4352_S32x128 inb_S1x7168_S1x128_0_4352 34#32 rfl (
    put x0 x1 33 4224 rfl slices_S32x7168_o0_4224_S32x128 inb_S1x7168_S1x128_0_4224 33#32 rfl (
    put x0 x1 32 4096 rfl slices_S32x7168_o0_4096_S32x128 inb_S1x7168_S1x128_0_4096 32#32 rfl (
    put x0 x1 31 3968 rfl slices_S32x7168_o0_3968_S32x128 inb_S1x7168_S1x128_0_3968 31#32 rfl (
    put x0 x1 30 3840 rfl slices_S32x7168_o0_3840_S32x128 inb_S1x7168_S1x128_0_3840 30#32 rfl (
    put x0 x1 29 3712 rfl slices_S32x7168_o0_3712_S32x128 inb_S1x7168_S1x128_0_3712 29#32 rfl (
    put x0 x1 28 3584 rfl slices_S32x7168_o0_3584_S32x128 inb_S1x7168_S1x128_0_3584 28#32 rfl (
    put x0 x1 27 3456 rfl slices_S32x7168_o0_3456_S32x128 inb_S1x7168_S1x128_0_3456 27#32 rfl (
    put x0 x1 26 3328 rfl slices_S32x7168_o0_3328_S32x128 inb_S1x7168_S1x128_0_3328 26#32 rfl (
    put x0 x1 25 3200 rfl slices_S32x7168_o0_3200_S32x128 inb_S1x7168_S1x128_0_3200 25#32 rfl (
    put x0 x1 24 3072 rfl slices_S32x7168_o0_3072_S32x128 inb_S1x7168_S1x128_0_3072 24#32 rfl (
    put x0 x1 23 2944 rfl slices_S32x7168_o0_2944_S32x128 inb_S1x7168_S1x128_0_2944 23#32 rfl (
    put x0 x1 22 2816 rfl slices_S32x7168_o0_2816_S32x128 inb_S1x7168_S1x128_0_2816 22#32 rfl (
    put x0 x1 21 2688 rfl slices_S32x7168_o0_2688_S32x128 inb_S1x7168_S1x128_0_2688 21#32 rfl (
    put x0 x1 20 2560 rfl slices_S32x7168_o0_2560_S32x128 inb_S1x7168_S1x128_0_2560 20#32 rfl (
    put x0 x1 19 2432 rfl slices_S32x7168_o0_2432_S32x128 inb_S1x7168_S1x128_0_2432 19#32 rfl (
    put x0 x1 18 2304 rfl slices_S32x7168_o0_2304_S32x128 inb_S1x7168_S1x128_0_2304 18#32 rfl (
    put x0 x1 17 2176 rfl slices_S32x7168_o0_2176_S32x128 inb_S1x7168_S1x128_0_2176 17#32 rfl (
    put x0 x1 16 2048 rfl slices_S32x7168_o0_2048_S32x128 inb_S1x7168_S1x128_0_2048 16#32 rfl (
    put x0 x1 15 1920 rfl slices_S32x7168_o0_1920_S32x128 inb_S1x7168_S1x128_0_1920 15#32 rfl (
    put x0 x1 14 1792 rfl slices_S32x7168_o0_1792_S32x128 inb_S1x7168_S1x128_0_1792 14#32 rfl (
    put x0 x1 13 1664 rfl slices_S32x7168_o0_1664_S32x128 inb_S1x7168_S1x128_0_1664 13#32 rfl (
    put x0 x1 12 1536 rfl slices_S32x7168_o0_1536_S32x128 inb_S1x7168_S1x128_0_1536 12#32 rfl (
    put x0 x1 11 1408 rfl slices_S32x7168_o0_1408_S32x128 inb_S1x7168_S1x128_0_1408 11#32 rfl (
    put x0 x1 10 1280 rfl slices_S32x7168_o0_1280_S32x128 inb_S1x7168_S1x128_0_1280 10#32 rfl (
    put x0 x1 9 1152 rfl slices_S32x7168_o0_1152_S32x128 inb_S1x7168_S1x128_0_1152 9#32 rfl (
    put x0 x1 8 1024 rfl slices_S32x7168_o0_1024_S32x128 inb_S1x7168_S1x128_0_1024 8#32 rfl (
    put x0 x1 7 896 rfl slices_S32x7168_o0_896_S32x128 inb_S1x7168_S1x128_0_896 7#32 rfl (
    put x0 x1 6 768 rfl slices_S32x7168_o0_768_S32x128 inb_S1x7168_S1x128_0_768 6#32 rfl (
    put x0 x1 5 640 rfl slices_S32x7168_o0_640_S32x128 inb_S1x7168_S1x128_0_640 5#32 rfl (
    put x0 x1 4 512 rfl slices_S32x7168_o0_512_S32x128 inb_S1x7168_S1x128_0_512 4#32 rfl (
    put x0 x1 3 384 rfl slices_S32x7168_o0_384_S32x128 inb_S1x7168_S1x128_0_384 3#32 rfl (
    put x0 x1 2 256 rfl slices_S32x7168_o0_256_S32x128 inb_S1x7168_S1x128_0_256 2#32 rfl (
    put x0 x1 1 128 rfl slices_S32x7168_o0_128_S32x128 inb_S1x7168_S1x128_0_128 1#32 rfl (
    put x0 x1 0 0 rfl slices_S32x7168_o0_0_S32x128 inb_S1x7168_S1x128_0_0 0#32 rfl (
    (fun _ _ h => absurd h (Nat.not_lt_zero _) : Upto hW 0x45E00000#32 (rows x0) x1 0 _))))))))))))))))))))))))))))))))))))))))))))))))))))))))) : Upto hW 0x45E00000#32 (rows x0) x1 56 _) p j j.isLt

/-- The reciprocal root mean squares the body leaves. -/
theorem root_block (p : Fin 32) (z : Fin 1) : out0_5 x0 x1 (ix2 p z) = rms (dd 0x45E00000#32) fun c => rows x0 (ix2 p c) := by
  unfold out0_5
  rw [View.canon_unit_zero hz]
  exact root_apply x0 p z

end Block

end Cert.QuantPostIdeal.Norm

end
-- ==== Proof.QuantPostRead.lean ====
/- The quantise reference on the sum after the attention: its four results at an index. -/
module

public import proofs.«01_k».proof.Proof.Gen.QuantPostRefIdeal.Read
public import proofs.«01_k».proof.Proof.Quant
public import Idealize.ShloMosaic.Lib.Pipeline.ValueKit

@[expose] public section

set_option maxRecDepth 65536

noncomputable section

open Cert.Quant
open Idealize.ShloMosaic hiding ix0 ix1 ix2 ix3 eq_ix1 eq_ix2
open Idealize.ShloMosaic.TcCoe Idealize.ShloMosaic.ValueIdx Idealize.SL.Sem
open Idealize.ShloMosaic.Pipeline (Dat Window)
open scoped BigOperators

namespace Cert.QuantPostRefIdeal.Norm

open Cert.QuantPostRefIdeal Cert.QuantPostRefIdeal.Gen Cert.QuantPostRefIdeal.Read

theorem hW : 7168 = 56 * 128 := rfl

variable (x0 : Vec Ideal S1280x7168 .f32) (x1 : Vec Ideal S7168 .f32)

/-- A row of the argument, and its gains. -/
def R (a : Fin 1280) : Fin 7168 → EReal := fun k => x0 (ix2 a k)
def g : Fin 7168 → EReal := fun k => x1 (ix1 k)

theorem root_at (a : Fin 1280) : val_main_v6 (F := Ideal) x0 (ix1 a) = rms (dd 0x45E00000#32) (R x0 a) := by
  have e : val_main_v1 (F := Ideal) x0 (ix1 a) = ∑ k, R x0 a k * R x0 a k := by
    rw [val_main_v1_apply]
    show Ideal.ofBits .f32 0x00000000#32 + _ = _
    rw [Ideal.ofBits_zero_f32, zero_add]
    refine Finset.sum_congr rfl fun k _ => ?_
    have i : idx_main_v1 (ix1 a) k = ix2 a k := funext fun d => Fin.ext (by match d with | ⟨0, _⟩ => rfl | ⟨1, _⟩ => rfl)
    rw [i]
    rfl
  show FloatOps.rsqrt (F := Ideal) (φ := .f32) (FloatOps.divf (F := Ideal) (φ := .f32) (val_main_v1 (F := Ideal) x0 (ix1 a)) _ + _) = _
  rw [e]
  rfl

theorem nrm_at (a : Fin 1280) (c : Fin 7168) : val_main_v12 (F := Ideal) x0 x1 (ix2 a c) = nrm (dd 0x45E00000#32) (R x0 a) (g x1) c := by
  rw [val_main_v12_apply, val_main_v9_apply, val_main_v8_apply, val_main_v7_apply, val_main_v11_apply, val_main_v10_apply]
  have i : idx_main_v7 (idx_main_v8 (ix2 a c)) = ix1 a := funext fun d => Fin.ext (by match d with | ⟨0, _⟩ => rfl)
  have i' : idx_main_v10 (idx_main_v11 (ix2 a c)) = ix1 c := funext fun d => Fin.ext (by match d with | ⟨0, _⟩ => rfl)
  rw [i, i', root_at]
  rfl

theorem group_at (a : Fin 1280) (k : Fin 56) (q : Fin 128) : val_main_v13 (F := Ideal) x0 x1 (ix3 a k q) = nrm (dd 0x45E00000#32) (R x0 a) (g x1) (col hW k q) := by
  have i : idx_main_v13 (ix3 a k q) = ix2 a (col hW k q) := funext fun d => Fin.ext (by
    have := k.isLt
    have := q.isLt
    match d with
    | ⟨0, _⟩ => show ((a.val * 56 + k.val) * 128 + q.val) / 7168 = a.val; omega
    | ⟨1, _⟩ => show ((a.val * 56 + k.val) * 128 + q.val) % 7168 = k.val * 128 + q.val; omega)
  rw [val_main_v13_apply, i, nrm_at]

theorem amax_at (a : Fin 1280) (k : Fin 56) : val_main_v15 (F := Ideal) x0 x1 (ix2 a k) = amax fun q => nrm (dd 0x45E00000#32) (R x0 a) (g x1) (col hW k q) := by
  unfold val_main_v15
  have hr : S1280x56x128.Reduces [2] S1280x56 := by decide
  refine (Host.reduce_eq_fold_single (FloatOps.maximumf (F := Ideal) (φ := .f32)) _ _ _ hr _ _).trans ?_
  unfold amax
  have key : ∀ q : Fin 128, FloatOps.absf (F := Ideal) (φ := .f32) (val_main_v13 (F := Ideal) x0 x1 (hr.lift (ix2 a k) q)) = FloatOps.absf (F := Ideal) (φ := .f32) (nrm (dd 0x45E00000#32) (R x0 a) (g x1) (col hW k q)) := by
    intro q
    have i : hr.lift (ix2 a k) q = (ix3 a k q : S1280x56x128.Idx) := funext fun d => Fin.ext (by match d with | ⟨0, _⟩ => rfl | ⟨1, _⟩ => rfl | ⟨2, _⟩ => rfl)
    exact congrArg (FloatOps.absf (F := Ideal) (φ := .f32)) ((congrArg (val_main_v13 (F := Ideal) x0 x1) i).trans (group_at x0 x1 a k q))
  exact congrArg (fun f => Finset.fold max (FloatOps.ofBits (F := Ideal) .f32 0xFF800000#32) f Finset.univ) (funext key)

theorem scale_at (a : Fin 1280) (k : Fin 56) : val_main_v20 (F := Ideal) x0 x1 (ix2 a k) = sc hW (dd 0x45E00000#32) (R x0 a) (g x1) k := by
  rw [val_main_v20_apply, val_main_v17_apply, val_main_v19_apply, val_main_v16_apply, val_main_v18_apply, val_main_call0_v1_apply, val_main_call0_v0_apply, amax_at,
    val_main_cst_3_apply, val_main_cst_4_apply, val_main_cst_5_apply]
  unfold sc scaleOf
  generalize amax _ = A
  rfl

theorem clip_at (a : Fin 1280) (k : Fin 56) (q : Fin 128) : val_main_v25 (F := Ideal) x0 x1 (ix3 a k q) = clipOf (nrm (dd 0x45E00000#32) (R x0 a) (g x1) (col hW k q)) (sc hW (dd 0x45E00000#32) (R x0 a) (g x1) k) := by
  have e : val_main_v22 (F := Ideal) x0 x1 (ix3 a k q) = sc hW (dd 0x45E00000#32) (R x0 a) (g x1) k := by
    rw [val_main_v22_apply, val_main_v21_apply]
    have i : idx_main_v21 (idx_main_v22 (ix3 a k q)) = ix2 a k := funext fun d => Fin.ext (by match d with | ⟨0, _⟩ => rfl | ⟨1, _⟩ => rfl)
    rw [i, scale_at]
  rw [val_main_v25_apply, val_main_call2_v4_apply, val_main_call2_v3_apply, val_main_c_6_apply, val_main_call2_v2_apply, val_main_call2_v1_apply, val_main_call2_v0_apply, val_main_c_apply,
    val_main_v24_apply, val_main_v23_apply, group_at, e]
  generalize nrm _ _ _ _ = n
  generalize sc _ _ _ _ _ = s
  rfl

/-- The group and the lane of a column give the column back. -/
theorem col_grp (c : Fin 7168) : col hW (grp hW c) ⟨c.val % 128, Nat.mod_lt _ (by decide)⟩ = c :=
  Fin.ext (by show c.val / 128 * 128 + c.val % 128 = c.val; omega)

theorem split_idx (a : Fin 1280) (c : Fin 7168) : idx_main_v33 (ix2 a c) = ix3 a (grp hW c) ⟨c.val % 128, Nat.mod_lt _ (by decide)⟩ := funext fun d => Fin.ext (by
  have := c.isLt
  match d with
  | ⟨0, _⟩ => show (a.val * 7168 + c.val) / 7168 = a.val; omega
  | ⟨1, _⟩ => show (a.val * 7168 + c.val) / 128 % 56 = c.val / 128; omega
  | ⟨2, _⟩ => show (a.val * 7168 + c.val) % 128 = c.val % 128; omega)

theorem codes_at (a : Fin 1280) (c : Fin 7168) : val_main_v33 (F := Ideal) x0 x1 (ix2 a c) = FloatOps.fptosi (F := Ideal) (φ := .f32) 8 (clip hW (dd 0x45E00000#32) (R x0 a) (g x1) c) := by
  rw [val_main_v33_apply, split_idx]
  rw [val_main_v32_apply, val_main_v26_apply, clip_at, col_grp]
  unfold clip
  exact trunci_fptosi_clipOf _ _

theorem deqs_at (a : Fin 1280) (c : Fin 7168) : val_main_v34 (F := Ideal) x0 x1 (ix2 a c)
    = clip hW (dd 0x45E00000#32) (R x0 a) (g x1) c * sc hW (dd 0x45E00000#32) (R x0 a) (g x1) (grp hW c) := by
  have s : idx_main_v34 (ix2 a c) = ix3 a (grp hW c) ⟨c.val % 128, Nat.mod_lt _ (by decide)⟩ := split_idx a c
  rw [val_main_v34_apply, s]
  have e : val_main_v30 (F := Ideal) x0 x1 (ix3 a (grp hW c) ⟨c.val % 128, Nat.mod_lt _ (by decide)⟩) = sc hW (dd 0x45E00000#32) (R x0 a) (g x1) (grp hW c) := by
    rw [val_main_v30_apply, val_main_v29_apply]
    have i : idx_main_v29 (idx_main_v30 (ix3 a (grp hW c) ⟨c.val % 128, Nat.mod_lt _ (by decide)⟩)) = ix2 a (grp hW c) :=
      funext fun d => Fin.ext (by match d with | ⟨0, _⟩ => rfl | ⟨1, _⟩ => rfl)
    rw [i, val_main_v28_apply, scale_at]
    rfl
  rw [val_main_v31_apply, val_main_v27_apply, val_main_v26_apply, clip_at, sitofp_fptosi_clipOf, e, col_grp]
  unfold clip
  rfl

theorem roots_at (a : Fin 1280) (z : Fin 1) : val_main_v35 (F := Ideal) x0 (ix2 a z) = rms (dd 0x45E00000#32) (R x0 a) := by
  rw [val_main_v35_apply]
  have i : idx_main_v35 (ix2 a z) = ix1 a := funext fun d => Fin.ext (by match d with | ⟨0, _⟩ => rfl)
  rw [i, root_at]

end Cert.QuantPostRefIdeal.Norm

end
-- ==== Proof.QuantPostValue.lean ====
/- The quantise call on the sum after the attention: the array normalised row by row and rounded to eight bits in groups of 128 lanes. What the
   call leaves in its four results and what the reference computes are the same functions of the arguments. -/
module

public import proofs.«01_k».proof.Defs
public import proofs.«01_k».proof.Proof.Gen.QuantPost.Frame
public import proofs.«01_k».proof.Proof.Gen.QuantPostRefIdeal.Run
public import proofs.«01_k».proof.Proof.QuantPostBlock
public import proofs.«01_k».proof.Proof.QuantPostRead
public import Idealize.ShloMosaic.Lib.Quiescent

@[expose] public section

set_option maxRecDepth 65536

noncomputable section

open Cert.Quant
open Idealize.ShloMosaic hiding ix0 ix1 ix2 ix3 eq_ix1 eq_ix2
open Idealize.ShloMosaic.TcCoe Idealize.ShloMosaic.ValueIdx Idealize.SL.Sem
open Idealize.ShloMosaic.Pipeline (Dat Window)
open scoped BigOperators

namespace Cert.QuantPostIdeal.Norm

open Cert.QuantPostIdeal Cert.QuantPostIdeal.Gen

/-! ## The arrays the call leaves -/

section
variable (m : (ℓ : Loc nD τ sig) → Buf (Elt Ideal) ℓ) (ρ : Dev nD → PrngReg)

theorem ix0_0 : ∀ t : Fin cfg0.N, win0_0.index t 0 = t.val := (by decide +kernel : ∀ t : Fin grid0.N, win0_0.index t 0 = t.val)
theorem ix0_1 : ∀ t : Fin cfg0.N, win0_0.index t 1 = 0 := (by decide +kernel : ∀ t : Fin grid0.N, win0_0.index t 1 = 0)
theorem ix1_0 : ∀ t : Fin cfg0.N, win0_1.index t 0 = 0 := (by decide +kernel : ∀ t : Fin grid0.N, win0_1.index t 0 = 0)
theorem ix1_1 : ∀ t : Fin cfg0.N, win0_1.index t 1 = 0 := (by decide +kernel : ∀ t : Fin grid0.N, win0_1.index t 1 = 0)
theorem ix2_0 : ∀ t : Fin cfg0.N, win0_2.index t 0 = t.val := (by decide +kernel : ∀ t : Fin grid0.N, win0_2.index t 0 = t.val)
theorem ix2_1 : ∀ t : Fin cfg0.N, win0_2.index t 1 = 0 := (by decide +kernel : ∀ t : Fin grid0.N, win0_2.index t 1 = 0)
theorem ix3_0 : ∀ t : Fin cfg0.N, win0_3.index t 0 = t.val := (by decide +kernel : ∀ t : Fin grid0.N, win0_3.index t 0 = t.val)
theorem ix3_1 : ∀ t : Fin cfg0.N, win0_3.index t 1 = 0 := (by decide +kernel : ∀ t : Fin grid0.N, win0_3.index t 1 = 0)
theorem ix4_0 : ∀ t : Fin cfg0.N, win0_4.index t 0 = t.val := (by decide +kernel : ∀ t : Fin grid0.N, win0_4.index t 0 = t.val)
theorem ix4_1 : ∀ t : Fin cfg0.N, win0_4.index t 1 = 0 := (by decide +kernel : ∀ t : Fin grid0.N, win0_4.index t 1 = 0)
theorem ix5_0 : ∀ t : Fin cfg0.N, win0_5.index t 0 = t.val := (by decide +kernel : ∀ t : Fin grid0.N, win0_5.index t 0 = t.val)
theorem ix5_1 : ∀ t : Fin cfg0.N, win0_5.index t 1 = 0 := (by decide +kernel : ∀ t : Fin grid0.N, win0_5.index t 1 = 0)

theorem lt_N (t : Fin cfg0.N) : t.val < 40 := lt_of_lt_of_eq t.isLt N_0

/-- The row of the whole array that row `p` of point `t`'s block is. -/
def row (t : Fin cfg0.N) (p : Fin 32) : Fin 1280 := ⟨t.val * 32 + p.val, by have := lt_N t; omega⟩

/-- A row of the argument, and its gains. -/
def X (c : Dev nD) (a : Fin 1280) : Fin 7168 → EReal := fun k => m ((c : Thread nD τ).loc main_arg0) (ix2 a k)
def gain (c : Dev nD) : Fin 7168 → EReal := fun k => m ((c : Thread nD τ).loc main_arg1) (ix1 k)

theorem V_gain (c : Dev nD) (k : Fin 7168) : V m c main_v0 (ix2 (n0 := 1) (n1 := 7168) 0 k) = gain m c k := by
  have e : V m c main_v0 = shapeCast S1x7168 (m ((c : Thread nD τ).loc main_arg1)) shapeCasts_S7168_S1x7168 := by
    unfold V hostOps0
    after_results
    rfl
  rw [e]
  exact shapeCast_apply _ _ _ (ix1 k) (by
    rewrite [Shape.rowMajor_val_one, Shape.rowMajor_val_two]
    show k.val = 0 * 7168 + k.val
    omega)

theorem rows_eq (c : Dev nD) (t : Fin cfg0.N) (p : Fin 32) : (fun k => rows (iblk m c 0 t) (ix2 p k)) = X m c (row t p) := funext fun k => by
  rw [rows_apply]
  show V m c main_arg0 ((win0_0.rect t).emb (ix2 p k)) = _
  rw [V_main_arg0]
  refine congrArg (m ((c : Thread nD τ).loc main_arg0)) (funext fun d => Fin.ext ?_)
  match d with
  | ⟨0, _⟩ => exact (Window.rect_emb_val win0_0 t _ 0).trans (congrArg (· * 32 + p.val) (ix0_0 t))
  | ⟨1, _⟩ => exact Window.rect_emb_val_of_index_zero win0_0 t 1 (ix0_1 t) _

theorem gain_eq (c : Dev nD) (t : Fin cfg0.N) : (fun k => iblk m c 1 t (ix2 (n0 := 1) (n1 := 7168) 0 k)) = gain m c := funext fun k => by
  rw [← V_gain]
  show V m c main_v0 ((win0_1.rect t).emb (ix2 (n0 := 1) (n1 := 7168) 0 k)) = _
  refine congrArg (V m c main_v0) (funext fun d => Fin.ext ?_)
  match d with
  | ⟨0, _⟩ => exact Window.rect_emb_val_of_index_zero win0_1 t 0 (ix1_0 t) _
  | ⟨1, _⟩ => exact Window.rect_emb_val_of_index_zero win0_1 t 1 (ix1_1 t) _

/-- What the call leaves: the integers, the scales, the scaled integers, the reciprocal root mean squares. -/
def val2 (c : Dev nD) : Buf (Elt Ideal) ((c : Thread nD τ).loc main_v1_0) := fun i =>
  FloatOps.fptosi (F := Ideal) (φ := .f32) 8 (clip hW (dd 0x45E00000#32) (X m c (i 0)) (gain m c) (i 1))
def val3 (c : Dev nD) : Buf (Elt Ideal) ((c : Thread nD τ).loc main_v1_1) := fun i => sc hW (dd 0x45E00000#32) (X m c (i 0)) (gain m c) (i 1)
def val4 (c : Dev nD) : Buf (Elt Ideal) ((c : Thread nD τ).loc main_v1_2) := fun i =>
  clip hW (dd 0x45E00000#32) (X m c (i 0)) (gain m c) (i 1) * sc hW (dd 0x45E00000#32) (X m c (i 0)) (gain m c) (grp hW (i 1))
def val5 (c : Dev nD) : Buf (Elt Ideal) ((c : Thread nD τ).loc main_v1_3) := fun i => rms (dd 0x45E00000#32) (X m c (i 0))

theorem point2 (c : Dev nD) (t : Fin cfg0.N) (j : S32x7168.Idx) : out0_2 (iblk m c 0 t) (iblk m c 1 t) j = val2 m c ((win0_2.rect t).emb j) := by
  obtain ⟨p, q, rfl⟩ : ∃ (p : Fin 32) (q : Fin 7168), j = ix2 p q := ⟨j 0, j 1, eq_ix2 (n0 := 32) (n1 := 7168) j⟩
  have e : (win0_2.rect t).emb (ix2 (n0 := 32) (n1 := 7168) p q) = ix2 (n0 := 1280) (n1 := 7168) (row t p) q := funext fun d => Fin.ext (by
    match d with
    | ⟨0, _⟩ => exact (Window.rect_emb_val win0_2 t (ix2 (n0 := 32) (n1 := 7168) p q) 0).trans (congrArg (· * 32 + p.val) (ix2_0 t))
    | ⟨1, _⟩ => exact Window.rect_emb_val_of_index_zero win0_2 t 1 (ix2_1 t) (ix2 (n0 := 32) (n1 := 7168) p q))
  refine Eq.trans ?_ (congrArg (val2 m c) e).symm
  rw [codes_block]
  show FloatOps.fptosi (F := Ideal) (φ := .f32) 8 (clip hW (dd 0x45E00000#32) (fun k => rows (iblk m c 0 t) (ix2 p k)) (fun k => iblk m c 1 t (ix2 (n0 := 1) (n1 := 7168) 0 k)) q) = _
  rw [rows_eq, gain_eq]
  rfl

theorem final2 (c : Dev nD) : (dats m 0 c).arrAt 2 cfg0.N = val2 m c :=
  (dats m 0 c).arrAt_eq_of_covers 2 (val2 m c) (by decide +kernel) (fun t _ y => (congrFun (after0_2 m c t) _).trans (point2 m c t y))

theorem point3 (c : Dev nD) (t : Fin cfg0.N) (j : S32x56.Idx) : out0_3 (iblk m c 0 t) (iblk m c 1 t) j = val3 m c ((win0_3.rect t).emb j) := by
  obtain ⟨p, q, rfl⟩ : ∃ (p : Fin 32) (q : Fin 56), j = ix2 p q := ⟨j 0, j 1, eq_ix2 (n0 := 32) (n1 := 56) j⟩
  have e : (win0_3.rect t).emb (ix2 (n0 := 32) (n1 := 56) p q) = ix2 (n0 := 1280) (n1 := 56) (row t p) q := funext fun d => Fin.ext (by
    match d with
    | ⟨0, _⟩ => exact (Window.rect_emb_val win0_3 t (ix2 (n0 := 32) (n1 := 56) p q) 0).trans (congrArg (· * 32 + p.val) (ix3_0 t))
    | ⟨1, _⟩ => exact Window.rect_emb_val_of_index_zero win0_3 t 1 (ix3_1 t) (ix2 (n0 := 32) (n1 := 56) p q))
  refine Eq.trans ?_ (congrArg (val3 m c) e).symm
  rw [scales_block]
  show sc hW (dd 0x45E00000#32) (fun k => rows (iblk m c 0 t) (ix2 p k)) (fun k => iblk m c 1 t (ix2 (n0 := 1) (n1 := 7168) 0 k)) q = _
  rw [rows_eq, gain_eq]
  rfl

theorem final3 (c : Dev nD) : (dats m 0 c).arrAt 3 cfg0.N = val3 m c :=
  (dats m 0 c).arrAt_eq_of_covers 3 (val3 m c) (by decide +kernel) (fun t _ y => (congrFun (after0_3 m c t) _).trans (point3 m c t y))

theorem point4 (c : Dev nD) (t : Fin cfg0.N) (j : S32x7168.Idx) : out0_4 (iblk m c 0 t) (iblk m c 1 t) j = val4 m c ((win0_4.rect t).emb j) := by
  obtain ⟨p, q, rfl⟩ : ∃ (p : Fin 32) (q : Fin 7168), j = ix2 p q := ⟨j 0, j 1, eq_ix2 (n0 := 32) (n1 := 7168) j⟩
  have e : (win0_4.rect t).emb (ix2 (n0 := 32) (n1 := 7168) p q) = ix2 (n0 := 1280) (n1 := 7168) (row t p) q := funext fun d => Fin.ext (by
    match d with
    | ⟨0, _⟩ => exact (Window.rect_emb_val win0_4 t (ix2 (n0 := 32) (n1 := 7168) p q) 0).trans (congrArg (· * 32 + p.val) (ix4_0 t))
    | ⟨1, _⟩ => exact Window.rect_emb_val_of_index_zero win0_4 t 1 (ix4_1 t) (ix2 (n0 := 32) (n1 := 7168) p q))
  refine Eq.trans ?_ (congrArg (val4 m c) e).symm
  rw [deqs_block]
  show clip hW (dd 0x45E00000#32) (fun k => rows (iblk m c 0 t) (ix2 p k)) (fun k => iblk m c 1 t (ix2 (n0 := 1) (n1 := 7168) 0 k)) q
    * sc hW (dd 0x45E00000#32) (fun k => rows (iblk m c 0 t) (ix2 p k)) (fun k => iblk m c 1 t (ix2 (n0 := 1) (n1 := 7168) 0 k)) (grp hW q) = _
  rw [rows_eq, gain_eq]
  rfl

theorem final4 (c : Dev nD) : (dats m 0 c).arrAt 4 cfg0.N = val4 m c :=
  (dats m 0 c).arrAt_eq_of_covers 4 (val4 m c) (by decide +kernel) (fun t _ y => (congrFun (after0_4 m c t) _).trans (point4 m c t y))

theorem point5 (c : Dev nD) (t : Fin cfg0.N) (j : S32x1.Idx) : out0_5 (iblk m c 0 t) (iblk m c 1 t) j = val5 m c ((win0_5.rect t).emb j) := by
  obtain ⟨p, q, rfl⟩ : ∃ (p : Fin 32) (q : Fin 1), j = ix2 p q := ⟨j 0, j 1, eq_ix2 (n0 := 32) (n1 := 1) j⟩
  have e : (win0_5.rect t).emb (ix2 (n0 := 32) (n1 := 1) p q) = ix2 (n0 := 1280) (n1 := 1) (row t p) q := funext fun d => Fin.ext (by
    match d with
    | ⟨0, _⟩ => exact (Window.rect_emb_val win0_5 t (ix2 (n0 := 32) (n1 := 1) p q) 0).trans (congrArg (· * 32 + p.val) (ix5_0 t))
    | ⟨1, _⟩ => exact Window.rect_emb_val_of_index_zero win0_5 t 1 (ix5_1 t) (ix2 (n0 := 32) (n1 := 1) p q))
  refine Eq.trans ?_ (congrArg (val5 m c) e).symm
  rw [root_block]
  rw [rows_eq]
  rfl

theorem final5 (c : Dev nD) : (dats m 0 c).arrAt 5 cfg0.N = val5 m c :=
  (dats m 0 c).arrAt_eq_of_covers 5 (val5 m c) (by decide +kernel) (fun t _ y => (congrFun (after0_5 m c t) _).trans (point5 m c t y))

end

end Cert.QuantPostIdeal.Norm

/-! ## The claims -/

namespace Cert.Proof.QuantPostClaims

theorem frame_p : Cert.quiescent_QuantPost := fun m ρ _ => Cert.QuantPost.Gen.frame m ρ
theorem frame_pi : Cert.quiescent_QuantPostIdeal := fun m ρ _ => Cert.QuantPostIdeal.Gen.frame m ρ
theorem frame_ri : Cert.quiescent_QuantPostRefIdeal := fun m ρ _ =>
  (θ_run Cert.QuantPostRefIdeal.defs _ _).mono (fun r h => ⟨fun c => (h c).2.2.2.2, Idealize.ShloMosaic.sem_eq_zero_of_no_sems (by decide) r.2⟩)
    (Cert.QuantPostRefIdeal.Value.run (F := Ideal) m ρ)
theorem preserves : Cert.preserves_QuantPost_QuantPostIdeal := trivial

/-- Both programs end with the integers, the scales, the scaled integers and the reciprocal root mean squares. -/
theorem algebraic : Cert.algebraic_QuantPostIdeal_QuantPostRefIdeal := by
  intro m ρ m' ρ' _ hag
  refine ⟨fun c => Cert.QuantPostIdeal.Norm.val2 m c, fun c => Cert.QuantPostIdeal.Norm.val3 m c, fun c => Cert.QuantPostIdeal.Norm.val4 m c, fun c => Cert.QuantPostIdeal.Norm.val5 m c, ?_, ?_⟩
  · exact (θ_run _ _ _).mono (fun _ h c => ⟨(h c).1.trans (Cert.QuantPostIdeal.Norm.final2 m c), (h c).2.1.trans (Cert.QuantPostIdeal.Norm.final3 m c),
      (h c).2.2.1.trans (Cert.QuantPostIdeal.Norm.final4 m c), (h c).2.2.2.1.trans (Cert.QuantPostIdeal.Norm.final5 m c), (h c).2.2.2.2⟩)
      (Cert.QuantPostIdeal.Value.run_blocks m ρ)
  · refine (θ_run _ _ _).mono (fun _ h c => ⟨(h c).1.trans ?_, (h c).2.1.trans ?_, (h c).2.2.1.trans ?_, (h c).2.2.2.1.trans ?_, (h c).2.2.2.2⟩) (Cert.QuantPostRefIdeal.Value.run (F := Ideal) m' ρ')
    · rw [Cert.QuantPostRefIdeal.Read.val_main_v33_eq, (hag c).1, (hag c).2]
      exact funext fun i => (congrArg _ (eq_ix2 (n0 := 1280) (n1 := 7168) i)).trans (Cert.QuantPostRefIdeal.Norm.codes_at _ _ (i 0) (i 1))
    · rw [Cert.QuantPostRefIdeal.Read.val_main_v20_eq, (hag c).1, (hag c).2]
      exact funext fun i => (congrArg _ (eq_ix2 (n0 := 1280) (n1 := 56) i)).trans (Cert.QuantPostRefIdeal.Norm.scale_at _ _ (i 0) (i 1))
    · rw [Cert.QuantPostRefIdeal.Read.val_main_v34_eq, (hag c).1, (hag c).2]
      exact funext fun i => (congrArg _ (eq_ix2 (n0 := 1280) (n1 := 7168) i)).trans (Cert.QuantPostRefIdeal.Norm.deqs_at _ _ (i 0) (i 1))
    · rw [Cert.QuantPostRefIdeal.Read.val_main_v35_eq, (hag c).1]
      exact funext fun i => (congrArg _ (eq_ix2 (n0 := 1280) (n1 := 1) i)).trans (Cert.QuantPostRefIdeal.Norm.roots_at _ (i 0) (i 1))

end Cert.Proof.QuantPostClaims

end
-- ==== Proof.QuantFfnBlock.lean ====
/- The quantise call on the feed-forward product: what its body leaves in its four blocks. -/
module

public import proofs.«01_k».proof.Proof.Gen.QuantFfnIdeal.Value
public import proofs.«01_k».proof.Proof.Quant
public import Idealize.ShloMosaic.Lib.Pipeline.ValueKit

@[expose] public section

set_option maxRecDepth 65536

noncomputable section

open Cert.Quant
open Idealize.ShloMosaic hiding ix0 ix1 ix2 ix3 eq_ix1 eq_ix2
open Idealize.ShloMosaic.TcCoe Idealize.ShloMosaic.ValueIdx Idealize.SL.Sem
open Idealize.ShloMosaic.Pipeline (Dat Window)
open scoped BigOperators

namespace Cert.QuantFfnIdeal.Norm

open Cert.QuantFfnIdeal Cert.QuantFfnIdeal.Gen

theorem hW : 18944 = 148 * 128 := rfl

theorem hz : (![0, 0] : Fin 2 → Nat) = fun _ => 0 := funext fun a => by fin_cases a <;> rfl

/-! ## What the body leaves in its four blocks -/

section Block

variable (x0 : Vec Ideal S32x18944 .f32) (x1 : Vec Ideal S1x18944 .f32)

/-- The block of rows the body works on. -/
def rows : FVec Ideal S32x18944 .f32 := View.ld x0 r0_0

theorem rows_apply (i : S32x18944.Idx) : rows x0 i = x0 i := by
  show View.ld x0 r0_0 i = _
  rw [View.ld_unit_zero (S := S32x18944) hz]

theorem root_apply (p : Fin 32) (z : Fin 1) : k0_pay6 (F := Ideal) (View.ld x0 r0_0) (ix2 p z) = rms (dd 0x46940000#32) fun c => rows x0 (ix2 p c) :=
  kroot_apply (rows x0) 0x46940000#32 reduces_S32x18944_S32 (.inl rfl) rfl shapeCasts_S32_S32x1 p z

/-- One group of lanes of the integers. -/
theorem code (k : Fin 148) (o : Nat) (ho : o = k.val * 128) (hv : S32x18944.Slices ![0, o] S32x128) (inb : ∀ a, (![0, o] : Fin 2 → Nat) a + S1x128.size a ≤ S1x18944.size a)
    (inb' : ∀ a, (![0, o] : Fin 2 → Nat) a + S32x128.size a ≤ S32x18944.size a) (x : S32x128.Idx) :
    fptosi 8 (kclip (knorm (rows x0) (k0_pay6 (F := Ideal) (View.ld x0 r0_0)) (lanes x1 o inb) o hv broadcasts_S32x1_S32x128 shapeCasts_S1x128_S1x128 broadcasts_S1x128_S32x128)
      (kscale (knorm (rows x0) (k0_pay6 (F := Ideal) (View.ld x0 r0_0)) (lanes x1 o inb) o hv broadcasts_S32x1_S32x128 shapeCasts_S1x128_S1x128 broadcasts_S1x128_S32x128) reduces_S32x128_S32 (.inl rfl) rfl shapeCasts_S32_S32x1) broadcasts_S32x1_S32x128) x
      = codes hW 0x46940000#32 (rows x0) x1 ((Rect.unit (s := S32x18944) ![0, o] S32x128.size inb').emb x) :=
  code_piece hW 0x46940000#32 (rows x0) _ x1 (fun p => root_apply x0 p 0) k o ho _ _ _ _ _ _ _ _ _ _ x

/-- One group of lanes of the scaled integers. -/
theorem deq (k : Fin 148) (o : Nat) (ho : o = k.val * 128) (hv : S32x18944.Slices ![0, o] S32x128) (inb : ∀ a, (![0, o] : Fin 2 → Nat) a + S1x128.size a ≤ S1x18944.size a)
    (inb' : ∀ a, (![0, o] : Fin 2 → Nat) a + S32x128.size a ≤ S32x18944.size a) (x : S32x128.Idx) :
    kdeq (knorm (rows x0) (k0_pay6 (F := Ideal) (View.ld x0 r0_0)) (lanes x1 o inb) o hv broadcasts_S32x1_S32x128 shapeCasts_S1x128_S1x128 broadcasts_S1x128_S32x128)
      (kscale (knorm (rows x0) (k0_pay6 (F := Ideal) (View.ld x0 r0_0)) (lanes x1 o inb) o hv broadcasts_S32x1_S32x128 shapeCasts_S1x128_S1x128 broadcasts_S1x128_S32x128) reduces_S32x128_S32 (.inl rfl) rfl shapeCasts_S32_S32x1) broadcasts_S32x1_S32x128 bitsLt_bf16_f32 x
      = deqs hW 0x46940000#32 (rows x0) x1 ((Rect.unit (s := S32x18944) ![0, o] S32x128.size inb').emb x) :=
  deq_piece hW 0x46940000#32 (rows x0) _ x1 (fun p => root_apply x0 p 0) k o ho _ _ _ _ _ _ _ _ _ _ _ x

/-- One more lane of the scales. -/
theorem put (k : Fin 148) (o : Nat) (ho : o = k.val * 128) (hv : S32x18944.Slices ![0, o] S32x128) (inb : ∀ a, (![0, o] : Fin 2 → Nat) a + S1x128.size a ≤ S1x18944.size a)
    (w : BitVec 32) (hw : w = BitVec.ofNat 32 k.val) {prev : FVec Ideal S32x148 .f32} (hp : Upto hW 0x46940000#32 (rows x0) x1 k.val prev) :
    Upto hW 0x46940000#32 (rows x0) x1 (k.val + 1) (kput w (kscale (knorm (rows x0) (k0_pay6 (F := Ideal) (View.ld x0 r0_0)) (lanes x1 o inb) o hv broadcasts_S32x1_S32x128
      shapeCasts_S1x128_S1x128 broadcasts_S1x128_S32x128) reduces_S32x128_S32 (.inl rfl) rfl shapeCasts_S32_S32x1) prev iota_S32x148_d1_w32 shapeCasts_S32x1_S32x1 broadcasts_S32x1_S32x148) :=
  put_upto hW 0x46940000#32 (rows x0) _ x1 (fun p => root_apply x0 p 0) (by decide) k o ho _ _ _ _ _ _ _ _ _ _ _ _ w hw hp

/-- The integers the body leaves. -/
theorem codes_block (y : S32x18944.Idx) : out0_2 x0 x1 y = codes hW 0x46940000#32 (rows x0) x1 y := by
  refine View.canon_apply_of_pieces (Val := Elt Ideal) (e := .i8) (codes hW 0x46940000#32 (rows x0) x1) _ ?_ y (cover0_2 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  exact
    List.forall_mem_cons.2 ⟨code x0 x1 147 18816 rfl slices_S32x18944_o0_18816_S32x128 inb_S1x18944_S1x128_0_18816 inb_S32x18944_S32x128_0_18816,
    List.forall_mem_cons.2 ⟨code x0 x1 146 18688 rfl slices_S32x18944_o0_18688_S32x128 inb_S1x18944_S1x128_0_18688 inb_S32x18944_S32x128_0_18688,
    List.forall_mem_cons.2 ⟨code x0 x1 145 18560 rfl slices_S32x18944_o0_18560_S32x128 inb_S1x18944_S1x128_0_18560 inb_S32x18944_S32x128_0_18560,
    List.forall_mem_cons.2 ⟨code x0 x1 144 18432 rfl slices_S32x18944_o0_18432_S32x128 inb_S1x18944_S1x128_0_18432 inb_S32x18944_S32x128_0_18432,
    List.forall_mem_cons.2 ⟨code x0 x1 143 18304 rfl slices_S32x18944_o0_18304_S32x128 inb_S1x18944_S1x128_0_18304 inb_S32x18944_S32x128_0_18304,
    List.forall_mem_cons.2 ⟨code x0 x1 142 18176 rfl slices_S32x18944_o0_18176_S32x128 inb_S1x18944_S1x128_0_18176 inb_S32x18944_S32x128_0_18176,
    List.forall_mem_cons.2 ⟨code x0 x1 141 18048 rfl slices_S32x18944_o0_18048_S32x128 inb_S1x18944_S1x128_0_18048 inb_S32x18944_S32x128_0_18048,
    List.forall_mem_cons.2 ⟨code x0 x1 140 17920 rfl slices_S32x18944_o0_17920_S32x128 inb_S1x18944_S1x128_0_17920 inb_S32x18944_S32x128_0_17920,
    List.forall_mem_cons.2 ⟨code x0 x1 139 17792 rfl slices_S32x18944_o0_17792_S32x128 inb_S1x18944_S1x128_0_17792 inb_S32x18944_S32x128_0_17792,
    List.forall_mem_cons.2 ⟨code x0 x1 138 17664 rfl slices_S32x18944_o0_17664_S32x128 inb_S1x18944_S1x128_0_17664 inb_S32x18944_S32x128_0_17664,
    List.forall_mem_cons.2 ⟨code x0 x1 137 17536 rfl slices_S32x18944_o0_17536_S32x128 inb_S1x18944_S1x128_0_17536 inb_S32x18944_S32x128_0_17536,
    List.forall_mem_cons.2 ⟨code x0 x1 136 17408 rfl slices_S32x18944_o0_17408_S32x128 inb_S1x18944_S1x128_0_17408 inb_S32x18944_S32x128_0_17408,
    List.forall_mem_cons.2 ⟨code x0 x1 135 17280 rfl slices_S32x18944_o0_17280_S32x128 inb_S1x18944_S1x128_0_17280 inb_S32x18944_S32x128_0_17280,
    List.forall_mem_cons.2 ⟨code x0 x1 134 17152 rfl slices_S32x18944_o0_17152_S32x128 inb_S1x18944_S1x128_0_17152 inb_S32x18944_S32x128_0_17152,
    List.forall_mem_cons.2 ⟨code x0 x1 133 17024 rfl slices_S32x18944_o0_17024_S32x128 inb_S1x18944_S1x128_0_17024 inb_S32x18944_S32x128_0_17024,
    List.forall_mem_cons.2 ⟨code x0 x1 132 16896 rfl slices_S32x18944_o0_16896_S32x128 inb_S1x18944_S1x128_0_16896 inb_S32x18944_S32x128_0_16896,
    List.forall_mem_cons.2 ⟨code x0 x1 131 16768 rfl slices_S32x18944_o0_16768_S32x128 inb_S1x18944_S1x128_0_16768 inb_S32x18944_S32x128_0_16768,
    List.forall_mem_cons.2 ⟨code x0 x1 130 16640 rfl slices_S32x18944_o0_16640_S32x128 inb_S1x18944_S1x128_0_16640 inb_S32x18944_S32x128_0_16640,
    List.forall_mem_cons.2 ⟨code x0 x1 129 16512 rfl slices_S32x18944_o0_16512_S32x128 inb_S1x18944_S1x128_0_16512 inb_S32x18944_S32x128_0_16512,
    List.forall_mem_cons.2 ⟨code x0 x1 128 16384 rfl slices_S32x18944_o0_16384_S32x128 inb_S1x18944_S1x128_0_16384 inb_S32x18944_S32x128_0_16384,
    List.forall_mem_cons.2 ⟨code x0 x1 127 16256 rfl slices_S32x18944_o0_16256_S32x128 inb_S1x18944_S1x128_0_16256 inb_S32x18944_S32x128_0_16256,
    List.forall_mem_cons.2 ⟨code x0 x1 126 16128 rfl slices_S32x18944_o0_16128_S32x128 inb_S1x18944_S1x128_0_16128 inb_S32x18944_S32x128_0_16128,
    List.forall_mem_cons.2 ⟨code x0 x1 125 16000 rfl slices_S32x18944_o0_16000_S32x128 inb_S1x18944_S1x128_0_16000 inb_S32x18944_S32x128_0_16000,
    List.forall_mem_cons.2 ⟨code x0 x1 124 15872 rfl slices_S32x18944_o0_15872_S32x128 inb_S1x18944_S1x128_0_15872 inb_S32x18944_S32x128_0_15872,
    List.forall_mem_cons.2 ⟨code x0 x1 123 15744 rfl slices_S32x18944_o0_15744_S32x128 inb_S1x18944_S1x128_0_15744 inb_S32x18944_S32x128_0_15744,
    List.forall_mem_cons.2 ⟨code x0 x1 122 15616 rfl slices_S32x18944_o0_15616_S32x128 inb_S1x18944_S1x128_0_15616 inb_S32x18944_S32x128_0_15616,
    List.forall_mem_cons.2 ⟨code x0 x1 121 15488 rfl slices_S32x18944_o0_15488_S32x128 inb_S1x18944_S1x128_0_15488 inb_S32x18944_S32x128_0_15488,
    List.forall_mem_cons.2 ⟨code x0 x1 120 15360 rfl slices_S32x18944_o0_15360_S32x128 inb_S1x18944_S1x128_0_15360 inb_S32x18944_S32x128_0_15360,
    List.forall_mem_cons.2 ⟨code x0 x1 119 15232 rfl slices_S32x18944_o0_15232_S32x128 inb_S1x18944_S1x128_0_15232 inb_S32x18944_S32x128_0_15232,
    List.forall_mem_cons.2 ⟨code x0 x1 118 15104 rfl slices_S32x18944_o0_15104_S32x128 inb_S1x18944_S1x128_0_15104 inb_S32x18944_S32x128_0_15104,
    List.forall_mem_cons.2 ⟨code x0 x1 117 14976 rfl slices_S32x18944_o0_14976_S32x128 inb_S1x18944_S1x128_0_14976 inb_S32x18944_S32x128_0_14976,
    List.forall_mem_cons.2 ⟨code x0 x1 116 14848 rfl slices_S32x18944_o0_14848_S32x128 inb_S1x18944_S1x128_0_14848 inb_S32x18944_S32x128_0_14848,
    List.forall_mem_cons.2 ⟨code x0 x1 115 14720 rfl slices_S32x18944_o0_14720_S32x128 inb_S1x18944_S1x128_0_14720 inb_S32x18944_S32x128_0_14720,
    List.forall_mem_cons.2 ⟨code x0 x1 114 14592 rfl slices_S32x18944_o0_14592_S32x128 inb_S1x18944_S1x128_0_14592 inb_S32x18944_S32x128_0_14592,
    List.forall_mem_cons.2 ⟨code x0 x1 113 14464 rfl slices_S32x18944_o0_14464_S32x128 inb_S1x18944_S1x128_0_14464 inb_S32x18944_S32x128_0_14464,
    List.forall_mem_cons.2 ⟨code x0 x1 112 14336 rfl slices_S32x18944_o0_14336_S32x128 inb_S1x18944_S1x128_0_14336 inb_S32x18944_S32x128_0_14336,
    List.forall_mem_cons.2 ⟨code x0 x1 111 14208 rfl slices_S32x18944_o0_14208_S32x128 inb_S1x18944_S1x128_0_14208 inb_S32x18944_S32x128_0_14208,
    List.forall_mem_cons.2 ⟨code x0 x1 110 14080 rfl slices_S32x18944_o0_14080_S32x128 inb_S1x18944_S1x128_0_14080 inb_S32x18944_S32x128_0_14080,
    List.forall_mem_cons.2 ⟨code x0 x1 109 13952 rfl slices_S32x18944_o0_13952_S32x128 inb_S1x18944_S1x128_0_13952 inb_S32x18944_S32x128_0_13952,
    List.forall_mem_cons.2 ⟨code x0 x1 108 13824 rfl slices_S32x18944_o0_13824_S32x128 inb_S1x18944_S1x128_0_13824 inb_S32x18944_S32x128_0_13824,
    List.forall_mem_cons.2 ⟨code x0 x1 107 13696 rfl slices_S32x18944_o0_13696_S32x128 inb_S1x18944_S1x128_0_13696 inb_S32x18944_S32x128_0_13696,
    List.forall_mem_cons.2 ⟨code x0 x1 106 13568 rfl slices_S32x18944_o0_13568_S32x128 inb_S1x18944_S1x128_0_13568 inb_S32x18944_S32x128_0_13568,
    List.forall_mem_cons.2 ⟨code x0 x1 105 13440 rfl slices_S32x18944_o0_13440_S32x128 inb_S1x18944_S1x128_0_13440 inb_S32x18944_S32x128_0_13440,
    List.forall_mem_cons.2 ⟨code x0 x1 104 13312 rfl slices_S32x18944_o0_13312_S32x128 inb_S1x18944_S1x128_0_13312 inb_S32x18944_S32x128_0_13312,
    List.forall_mem_cons.2 ⟨code x0 x1 103 13184 rfl slices_S32x18944_o0_13184_S32x128 inb_S1x18944_S1x128_0_13184 inb_S32x18944_S32x128_0_13184,
    List.forall_mem_cons.2 ⟨code x0 x1 102 13056 rfl slices_S32x18944_o0_13056_S32x128 inb_S1x18944_S1x128_0_13056 inb_S32x18944_S32x128_0_13056,
    List.forall_mem_cons.2 ⟨code x0 x1 101 12928 rfl slices_S32x18944_o0_12928_S32x128 inb_S1x18944_S1x128_0_12928 inb_S32x18944_S32x128_0_12928,
    List.forall_mem_cons.2 ⟨code x0 x1 100 12800 rfl slices_S32x18944_o0_12800_S32x128 inb_S1x18944_S1x128_0_12800 inb_S32x18944_S32x128_0_12800,
    List.forall_mem_cons.2 ⟨code x0 x1 99 12672 rfl slices_S32x18944_o0_12672_S32x128 inb_S1x18944_S1x128_0_12672 inb_S32x18944_S32x128_0_12672,
    List.forall_mem_cons.2 ⟨code x0 x1 98 12544 rfl slices_S32x18944_o0_12544_S32x128 inb_S1x18944_S1x128_0_12544 inb_S32x18944_S32x128_0_12544,
    List.forall_mem_cons.2 ⟨code x0 x1 97 12416 rfl slices_S32x18944_o0_12416_S32x128 inb_S1x18944_S1x128_0_12416 inb_S32x18944_S32x128_0_12416,
    List.forall_mem_cons.2 ⟨code x0 x1 96 12288 rfl slices_S32x18944_o0_12288_S32x128 inb_S1x18944_S1x128_0_12288 inb_S32x18944_S32x128_0_12288,
    List.forall_mem_cons.2 ⟨code x0 x1 95 12160 rfl slices_S32x18944_o0_12160_S32x128 inb_S1x18944_S1x128_0_12160 inb_S32x18944_S32x128_0_12160,
    List.forall_mem_cons.2 ⟨code x0 x1 94 12032 rfl slices_S32x18944_o0_12032_S32x128 inb_S1x18944_S1x128_0_12032 inb_S32x18944_S32x128_0_12032,
    List.forall_mem_cons.2 ⟨code x0 x1 93 11904 rfl slices_S32x18944_o0_11904_S32x128 inb_S1x18944_S1x128_0_11904 inb_S32x18944_S32x128_0_11904,
    List.forall_mem_cons.2 ⟨code x0 x1 92 11776 rfl slices_S32x18944_o0_11776_S32x128 inb_S1x18944_S1x128_0_11776 inb_S32x18944_S32x128_0_11776,
    List.forall_mem_cons.2 ⟨code x0 x1 91 11648 rfl slices_S32x18944_o0_11648_S32x128 inb_S1x18944_S1x128_0_11648 inb_S32x18944_S32x128_0_11648,
    List.forall_mem_cons.2 ⟨code x0 x1 90 11520 rfl slices_S32x18944_o0_11520_S32x128 inb_S1x18944_S1x128_0_11520 inb_S32x18944_S32x128_0_11520,
    List.forall_mem_cons.2 ⟨code x0 x1 89 11392 rfl slices_S32x18944_o0_11392_S32x128 inb_S1x18944_S1x128_0_11392 inb_S32x18944_S32x128_0_11392,
    List.forall_mem_cons.2 ⟨code x0 x1 88 11264 rfl slices_S32x18944_o0_11264_S32x128 inb_S1x18944_S1x128_0_11264 inb_S32x18944_S32x128_0_11264,
    List.forall_mem_cons.2 ⟨code x0 x1 87 11136 rfl slices_S32x18944_o0_11136_S32x128 inb_S1x18944_S1x128_0_11136 inb_S32x18944_S32x128_0_11136,
    List.forall_mem_cons.2 ⟨code x0 x1 86 11008 rfl slices_S32x18944_o0_11008_S32x128 inb_S1x18944_S1x128_0_11008 inb_S32x18944_S32x128_0_11008,
    List.forall_mem_cons.2 ⟨code x0 x1 85 10880 rfl slices_S32x18944_o0_10880_S32x128 inb_S1x18944_S1x128_0_10880 inb_S32x18944_S32x128_0_10880,
    List.forall_mem_cons.2 ⟨code x0 x1 84 10752 rfl slices_S32x18944_o0_10752_S32x128 inb_S1x18944_S1x128_0_10752 inb_S32x18944_S32x128_0_10752,
    List.forall_mem_cons.2 ⟨code x0 x1 83 10624 rfl slices_S32x18944_o0_10624_S32x128 inb_S1x18944_S1x128_0_10624 inb_S32x18944_S32x128_0_10624,
    List.forall_mem_cons.2 ⟨code x0 x1 82 10496 rfl slices_S32x18944_o0_10496_S32x128 inb_S1x18944_S1x128_0_10496 inb_S32x18944_S32x128_0_10496,
    List.forall_mem_cons.2 ⟨code x0 x1 81 10368 rfl slices_S32x18944_o0_10368_S32x128 inb_S1x18944_S1x128_0_10368 inb_S32x18944_S32x128_0_10368,
    List.forall_mem_cons.2 ⟨code x0 x1 80 10240 rfl slices_S32x18944_o0_10240_S32x128 inb_S1x18944_S1x128_0_10240 inb_S32x18944_S32x128_0_10240,
    List.forall_mem_cons.2 ⟨code x0 x1 79 10112 rfl slices_S32x18944_o0_10112_S32x128 inb_S1x18944_S1x128_0_10112 inb_S32x18944_S32x128_0_10112,
    List.forall_mem_cons.2 ⟨code x0 x1 78 9984 rfl slices_S32x18944_o0_9984_S32x128 inb_S1x18944_S1x128_0_9984 inb_S32x18944_S32x128_0_9984,
    List.forall_mem_cons.2 ⟨code x0 x1 77 9856 rfl slices_S32x18944_o0_9856_S32x128 inb_S1x18944_S1x128_0_9856 inb_S32x18944_S32x128_0_9856,
    List.forall_mem_cons.2 ⟨code x0 x1 76 9728 rfl slices_S32x18944_o0_9728_S32x128 inb_S1x18944_S1x128_0_9728 inb_S32x18944_S32x128_0_9728,
    List.forall_mem_cons.2 ⟨code x0 x1 75 9600 rfl slices_S32x18944_o0_9600_S32x128 inb_S1x18944_S1x128_0_9600 inb_S32x18944_S32x128_0_9600,
    List.forall_mem_cons.2 ⟨code x0 x1 74 9472 rfl slices_S32x18944_o0_9472_S32x128 inb_S1x18944_S1x128_0_9472 inb_S32x18944_S32x128_0_9472,
    List.forall_mem_cons.2 ⟨code x0 x1 73 9344 rfl slices_S32x18944_o0_9344_S32x128 inb_S1x18944_S1x128_0_9344 inb_S32x18944_S32x128_0_9344,
    List.forall_mem_cons.2 ⟨code x0 x1 72 9216 rfl slices_S32x18944_o0_9216_S32x128 inb_S1x18944_S1x128_0_9216 inb_S32x18944_S32x128_0_9216,
    List.forall_mem_cons.2 ⟨code x0 x1 71 9088 rfl slices_S32x18944_o0_9088_S32x128 inb_S1x18944_S1x128_0_9088 inb_S32x18944_S32x128_0_9088,
    List.forall_mem_cons.2 ⟨code x0 x1 70 8960 rfl slices_S32x18944_o0_8960_S32x128 inb_S1x18944_S1x128_0_8960 inb_S32x18944_S32x128_0_8960,
    List.forall_mem_cons.2 ⟨code x0 x1 69 8832 rfl slices_S32x18944_o0_8832_S32x128 inb_S1x18944_S1x128_0_8832 inb_S32x18944_S32x128_0_8832,
    List.forall_mem_cons.2 ⟨code x0 x1 68 8704 rfl slices_S32x18944_o0_8704_S32x128 inb_S1x18944_S1x128_0_8704 inb_S32x18944_S32x128_0_8704,
    List.forall_mem_cons.2 ⟨code x0 x1 67 8576 rfl slices_S32x18944_o0_8576_S32x128 inb_S1x18944_S1x128_0_8576 inb_S32x18944_S32x128_0_8576,
    List.forall_mem_cons.2 ⟨code x0 x1 66 8448 rfl slices_S32x18944_o0_8448_S32x128 inb_S1x18944_S1x128_0_8448 inb_S32x18944_S32x128_0_8448,
    List.forall_mem_cons.2 ⟨code x0 x1 65 8320 rfl slices_S32x18944_o0_8320_S32x128 inb_S1x18944_S1x128_0_8320 inb_S32x18944_S32x128_0_8320,
    List.forall_mem_cons.2 ⟨code x0 x1 64 8192 rfl slices_S32x18944_o0_8192_S32x128 inb_S1x18944_S1x128_0_8192 inb_S32x18944_S32x128_0_8192,
    List.forall_mem_cons.2 ⟨code x0 x1 63 8064 rfl slices_S32x18944_o0_8064_S32x128 inb_S1x18944_S1x128_0_8064 inb_S32x18944_S32x128_0_8064,
    List.forall_mem_cons.2 ⟨code x0 x1 62 7936 rfl slices_S32x18944_o0_7936_S32x128 inb_S1x18944_S1x128_0_7936 inb_S32x18944_S32x128_0_7936,
    List.forall_mem_cons.2 ⟨code x0 x1 61 7808 rfl slices_S32x18944_o0_7808_S32x128 inb_S1x18944_S1x128_0_7808 inb_S32x18944_S32x128_0_7808,
    List.forall_mem_cons.2 ⟨code x0 x1 60 7680 rfl slices_S32x18944_o0_7680_S32x128 inb_S1x18944_S1x128_0_7680 inb_S32x18944_S32x128_0_7680,
    List.forall_mem_cons.2 ⟨code x0 x1 59 7552 rfl slices_S32x18944_o0_7552_S32x128 inb_S1x18944_S1x128_0_7552 inb_S32x18944_S32x128_0_7552,
    List.forall_mem_cons.2 ⟨code x0 x1 58 7424 rfl slices_S32x18944_o0_7424_S32x128 inb_S1x18944_S1x128_0_7424 inb_S32x18944_S32x128_0_7424,
    List.forall_mem_cons.2 ⟨code x0 x1 57 7296 rfl slices_S32x18944_o0_7296_S32x128 inb_S1x18944_S1x128_0_7296 inb_S32x18944_S32x128_0_7296,
    List.forall_mem_cons.2 ⟨code x0 x1 56 7168 rfl slices_S32x18944_o0_7168_S32x128 inb_S1x18944_S1x128_0_7168 inb_S32x18944_S32x128_0_7168,
    List.forall_mem_cons.2 ⟨code x0 x1 55 7040 rfl slices_S32x18944_o0_7040_S32x128 inb_S1x18944_S1x128_0_7040 inb_S32x18944_S32x128_0_7040,
    List.forall_mem_cons.2 ⟨code x0 x1 54 6912 rfl slices_S32x18944_o0_6912_S32x128 inb_S1x18944_S1x128_0_6912 inb_S32x18944_S32x128_0_6912,
    List.forall_mem_cons.2 ⟨code x0 x1 53 6784 rfl slices_S32x18944_o0_6784_S32x128 inb_S1x18944_S1x128_0_6784 inb_S32x18944_S32x128_0_6784,
    List.forall_mem_cons.2 ⟨code x0 x1 52 6656 rfl slices_S32x18944_o0_6656_S32x128 inb_S1x18944_S1x128_0_6656 inb_S32x18944_S32x128_0_6656,
    List.forall_mem_cons.2 ⟨code x0 x1 51 6528 rfl slices_S32x18944_o0_6528_S32x128 inb_S1x18944_S1x128_0_6528 inb_S32x18944_S32x128_0_6528,
    List.forall_mem_cons.2 ⟨code x0 x1 50 6400 rfl slices_S32x18944_o0_6400_S32x128 inb_S1x18944_S1x128_0_6400 inb_S32x18944_S32x128_0_6400,
    List.forall_mem_cons.2 ⟨code x0 x1 49 6272 rfl slices_S32x18944_o0_6272_S32x128 inb_S1x18944_S1x128_0_6272 inb_S32x18944_S32x128_0_6272,
    List.forall_mem_cons.2 ⟨code x0 x1 48 6144 rfl slices_S32x18944_o0_6144_S32x128 inb_S1x18944_S1x128_0_6144 inb_S32x18944_S32x128_0_6144,
    List.forall_mem_cons.2 ⟨code x0 x1 47 6016 rfl slices_S32x18944_o0_6016_S32x128 inb_S1x18944_S1x128_0_6016 inb_S32x18944_S32x128_0_6016,
    List.forall_mem_cons.2 ⟨code x0 x1 46 5888 rfl slices_S32x18944_o0_5888_S32x128 inb_S1x18944_S1x128_0_5888 inb_S32x18944_S32x128_0_5888,
    List.forall_mem_cons.2 ⟨code x0 x1 45 5760 rfl slices_S32x18944_o0_5760_S32x128 inb_S1x18944_S1x128_0_5760 inb_S32x18944_S32x128_0_5760,
    List.forall_mem_cons.2 ⟨code x0 x1 44 5632 rfl slices_S32x18944_o0_5632_S32x128 inb_S1x18944_S1x128_0_5632 inb_S32x18944_S32x128_0_5632,
    List.forall_mem_cons.2 ⟨code x0 x1 43 5504 rfl slices_S32x18944_o0_5504_S32x128 inb_S1x18944_S1x128_0_5504 inb_S32x18944_S32x128_0_5504,
    List.forall_mem_cons.2 ⟨code x0 x1 42 5376 rfl slices_S32x18944_o0_5376_S32x128 inb_S1x18944_S1x128_0_5376 inb_S32x18944_S32x128_0_5376,
    List.forall_mem_cons.2 ⟨code x0 x1 41 5248 rfl slices_S32x18944_o0_5248_S32x128 inb_S1x18944_S1x128_0_5248 inb_S32x18944_S32x128_0_5248,
    List.forall_mem_cons.2 ⟨code x0 x1 40 5120 rfl slices_S32x18944_o0_5120_S32x128 inb_S1x18944_S1x128_0_5120 inb_S32x18944_S32x128_0_5120,
    List.forall_mem_cons.2 ⟨code x0 x1 39 4992 rfl slices_S32x18944_o0_4992_S32x128 inb_S1x18944_S1x128_0_4992 inb_S32x18944_S32x128_0_4992,
    List.forall_mem_cons.2 ⟨code x0 x1 38 4864 rfl slices_S32x18944_o0_4864_S32x128 inb_S1x18944_S1x128_0_4864 inb_S32x18944_S32x128_0_4864,
    List.forall_mem_cons.2 ⟨code x0 x1 37 4736 rfl slices_S32x18944_o0_4736_S32x128 inb_S1x18944_S1x128_0_4736 inb_S32x18944_S32x128_0_4736,
    List.forall_mem_cons.2 ⟨code x0 x1 36 4608 rfl slices_S32x18944_o0_4608_S32x128 inb_S1x18944_S1x128_0_4608 inb_S32x18944_S32x128_0_4608,
    List.forall_mem_cons.2 ⟨code x0 x1 35 4480 rfl slices_S32x18944_o0_4480_S32x128 inb_S1x18944_S1x128_0_4480 inb_S32x18944_S32x128_0_4480,
    List.forall_mem_cons.2 ⟨code x0 x1 34 4352 rfl slices_S32x18944_o0_4352_S32x128 inb_S1x18944_S1x128_0_4352 inb_S32x18944_S32x128_0_4352,
    List.forall_mem_cons.2 ⟨code x0 x1 33 4224 rfl slices_S32x18944_o0_4224_S32x128 inb_S1x18944_S1x128_0_4224 inb_S32x18944_S32x128_0_4224,
    List.forall_mem_cons.2 ⟨code x0 x1 32 4096 rfl slices_S32x18944_o0_4096_S32x128 inb_S1x18944_S1x128_0_4096 inb_S32x18944_S32x128_0_4096,
    List.forall_mem_cons.2 ⟨code x0 x1 31 3968 rfl slices_S32x18944_o0_3968_S32x128 inb_S1x18944_S1x128_0_3968 inb_S32x18944_S32x128_0_3968,
    List.forall_mem_cons.2 ⟨code x0 x1 30 3840 rfl slices_S32x18944_o0_3840_S32x128 inb_S1x18944_S1x128_0_3840 inb_S32x18944_S32x128_0_3840,
    List.forall_mem_cons.2 ⟨code x0 x1 29 3712 rfl slices_S32x18944_o0_3712_S32x128 inb_S1x18944_S1x128_0_3712 inb_S32x18944_S32x128_0_3712,
    List.forall_mem_cons.2 ⟨code x0 x1 28 3584 rfl slices_S32x18944_o0_3584_S32x128 inb_S1x18944_S1x128_0_3584 inb_S32x18944_S32x128_0_3584,
    List.forall_mem_cons.2 ⟨code x0 x1 27 3456 rfl slices_S32x18944_o0_3456_S32x128 inb_S1x18944_S1x128_0_3456 inb_S32x18944_S32x128_0_3456,
    List.forall_mem_cons.2 ⟨code x0 x1 26 3328 rfl slices_S32x18944_o0_3328_S32x128 inb_S1x18944_S1x128_0_3328 inb_S32x18944_S32x128_0_3328,
    List.forall_mem_cons.2 ⟨code x0 x1 25 3200 rfl slices_S32x18944_o0_3200_S32x128 inb_S1x18944_S1x128_0_3200 inb_S32x18944_S32x128_0_3200,
    List.forall_mem_cons.2 ⟨code x0 x1 24 3072 rfl slices_S32x18944_o0_3072_S32x128 inb_S1x18944_S1x128_0_3072 inb_S32x18944_S32x128_0_3072,
    List.forall_mem_cons.2 ⟨code x0 x1 23 2944 rfl slices_S32x18944_o0_2944_S32x128 inb_S1x18944_S1x128_0_2944 inb_S32x18944_S32x128_0_2944,
    List.forall_mem_cons.2 ⟨code x0 x1 22 2816 rfl slices_S32x18944_o0_2816_S32x128 inb_S1x18944_S1x128_0_2816 inb_S32x18944_S32x128_0_2816,
    List.forall_mem_cons.2 ⟨code x0 x1 21 2688 rfl slices_S32x18944_o0_2688_S32x128 inb_S1x18944_S1x128_0_2688 inb_S32x18944_S32x128_0_2688,
    List.forall_mem_cons.2 ⟨code x0 x1 20 2560 rfl slices_S32x18944_o0_2560_S32x128 inb_S1x18944_S1x128_0_2560 inb_S32x18944_S32x128_0_2560,
    List.forall_mem_cons.2 ⟨code x0 x1 19 2432 rfl slices_S32x18944_o0_2432_S32x128 inb_S1x18944_S1x128_0_2432 inb_S32x18944_S32x128_0_2432,
    List.forall_mem_cons.2 ⟨code x0 x1 18 2304 rfl slices_S32x18944_o0_2304_S32x128 inb_S1x18944_S1x128_0_2304 inb_S32x18944_S32x128_0_2304,
    List.forall_mem_cons.2 ⟨code x0 x1 17 2176 rfl slices_S32x18944_o0_2176_S32x128 inb_S1x18944_S1x128_0_2176 inb_S32x18944_S32x128_0_2176,
    List.forall_mem_cons.2 ⟨code x0 x1 16 2048 rfl slices_S32x18944_o0_2048_S32x128 inb_S1x18944_S1x128_0_2048 inb_S32x18944_S32x128_0_2048,
    List.forall_mem_cons.2 ⟨code x0 x1 15 1920 rfl slices_S32x18944_o0_1920_S32x128 inb_S1x18944_S1x128_0_1920 inb_S32x18944_S32x128_0_1920,
    List.forall_mem_cons.2 ⟨code x0 x1 14 1792 rfl slices_S32x18944_o0_1792_S32x128 inb_S1x18944_S1x128_0_1792 inb_S32x18944_S32x128_0_1792,
    List.forall_mem_cons.2 ⟨code x0 x1 13 1664 rfl slices_S32x18944_o0_1664_S32x128 inb_S1x18944_S1x128_0_1664 inb_S32x18944_S32x128_0_1664,
    List.forall_mem_cons.2 ⟨code x0 x1 12 1536 rfl slices_S32x18944_o0_1536_S32x128 inb_S1x18944_S1x128_0_1536 inb_S32x18944_S32x128_0_1536,
    List.forall_mem_cons.2 ⟨code x0 x1 11 1408 rfl slices_S32x18944_o0_1408_S32x128 inb_S1x18944_S1x128_0_1408 inb_S32x18944_S32x128_0_1408,
    List.forall_mem_cons.2 ⟨code x0 x1 10 1280 rfl slices_S32x18944_o0_1280_S32x128 inb_S1x18944_S1x128_0_1280 inb_S32x18944_S32x128_0_1280,
    List.forall_mem_cons.2 ⟨code x0 x1 9 1152 rfl slices_S32x18944_o0_1152_S32x128 inb_S1x18944_S1x128_0_1152 inb_S32x18944_S32x128_0_1152,
    List.forall_mem_cons.2 ⟨code x0 x1 8 1024 rfl slices_S32x18944_o0_1024_S32x128 inb_S1x18944_S1x128_0_1024 inb_S32x18944_S32x128_0_1024,
    List.forall_mem_cons.2 ⟨code x0 x1 7 896 rfl slices_S32x18944_o0_896_S32x128 inb_S1x18944_S1x128_0_896 inb_S32x18944_S32x128_0_896,
    List.forall_mem_cons.2 ⟨code x0 x1 6 768 rfl slices_S32x18944_o0_768_S32x128 inb_S1x18944_S1x128_0_768 inb_S32x18944_S32x128_0_768,
    List.forall_mem_cons.2 ⟨code x0 x1 5 640 rfl slices_S32x18944_o0_640_S32x128 inb_S1x18944_S1x128_0_640 inb_S32x18944_S32x128_0_640,
    List.forall_mem_cons.2 ⟨code x0 x1 4 512 rfl slices_S32x18944_o0_512_S32x128 inb_S1x18944_S1x128_0_512 inb_S32x18944_S32x128_0_512,
    List.forall_mem_cons.2 ⟨code x0 x1 3 384 rfl slices_S32x18944_o0_384_S32x128 inb_S1x18944_S1x128_0_384 inb_S32x18944_S32x128_0_384,
    List.forall_mem_cons.2 ⟨code x0 x1 2 256 rfl slices_S32x18944_o0_256_S32x128 inb_S1x18944_S1x128_0_256 inb_S32x18944_S32x128_0_256,
    List.forall_mem_cons.2 ⟨code x0 x1 1 128 rfl slices_S32x18944_o0_128_S32x128 inb_S1x18944_S1x128_0_128 inb_S32x18944_S32x128_0_128,
    List.forall_mem_cons.2 ⟨code x0 x1 0 0 rfl slices_S32x18944_o0_0_S32x128 inb_S1x18944_S1x128_0_0 inb_S32x18944_S32x128_0_0,
    List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

/-- The scaled integers the body leaves. -/
theorem deqs_block (y : S32x18944.Idx) : out0_4 x0 x1 y = deqs hW 0x46940000#32 (rows x0) x1 y := by
  refine View.canon_apply_of_pieces (Val := Elt Ideal) (e := .bf16) (deqs hW 0x46940000#32 (rows x0) x1) _ ?_ y (cover0_4 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  exact
    List.forall_mem_cons.2 ⟨deq x0 x1 147 18816 rfl slices_S32x18944_o0_18816_S32x128 inb_S1x18944_S1x128_0_18816 inb_S32x18944_S32x128_0_18816,
    List.forall_mem_cons.2 ⟨deq x0 x1 146 18688 rfl slices_S32x18944_o0_18688_S32x128 inb_S1x18944_S1x128_0_18688 inb_S32x18944_S32x128_0_18688,
    List.forall_mem_cons.2 ⟨deq x0 x1 145 18560 rfl slices_S32x18944_o0_18560_S32x128 inb_S1x18944_S1x128_0_18560 inb_S32x18944_S32x128_0_18560,
    List.forall_mem_cons.2 ⟨deq x0 x1 144 18432 rfl slices_S32x18944_o0_18432_S32x128 inb_S1x18944_S1x128_0_18432 inb_S32x18944_S32x128_0_18432,
    List.forall_mem_cons.2 ⟨deq x0 x1 143 18304 rfl slices_S32x18944_o0_18304_S32x128 inb_S1x18944_S1x128_0_18304 inb_S32x18944_S32x128_0_18304,
    List.forall_mem_cons.2 ⟨deq x0 x1 142 18176 rfl slices_S32x18944_o0_18176_S32x128 inb_S1x18944_S1x128_0_18176 inb_S32x18944_S32x128_0_18176,
    List.forall_mem_cons.2 ⟨deq x0 x1 141 18048 rfl slices_S32x18944_o0_18048_S32x128 inb_S1x18944_S1x128_0_18048 inb_S32x18944_S32x128_0_18048,
    List.forall_mem_cons.2 ⟨deq x0 x1 140 17920 rfl slices_S32x18944_o0_17920_S32x128 inb_S1x18944_S1x128_0_17920 inb_S32x18944_S32x128_0_17920,
    List.forall_mem_cons.2 ⟨deq x0 x1 139 17792 rfl slices_S32x18944_o0_17792_S32x128 inb_S1x18944_S1x128_0_17792 inb_S32x18944_S32x128_0_17792,
    List.forall_mem_cons.2 ⟨deq x0 x1 138 17664 rfl slices_S32x18944_o0_17664_S32x128 inb_S1x18944_S1x128_0_17664 inb_S32x18944_S32x128_0_17664,
    List.forall_mem_cons.2 ⟨deq x0 x1 137 17536 rfl slices_S32x18944_o0_17536_S32x128 inb_S1x18944_S1x128_0_17536 inb_S32x18944_S32x128_0_17536,
    List.forall_mem_cons.2 ⟨deq x0 x1 136 17408 rfl slices_S32x18944_o0_17408_S32x128 inb_S1x18944_S1x128_0_17408 inb_S32x18944_S32x128_0_17408,
    List.forall_mem_cons.2 ⟨deq x0 x1 135 17280 rfl slices_S32x18944_o0_17280_S32x128 inb_S1x18944_S1x128_0_17280 inb_S32x18944_S32x128_0_17280,
    List.forall_mem_cons.2 ⟨deq x0 x1 134 17152 rfl slices_S32x18944_o0_17152_S32x128 inb_S1x18944_S1x128_0_17152 inb_S32x18944_S32x128_0_17152,
    List.forall_mem_cons.2 ⟨deq x0 x1 133 17024 rfl slices_S32x18944_o0_17024_S32x128 inb_S1x18944_S1x128_0_17024 inb_S32x18944_S32x128_0_17024,
    List.forall_mem_cons.2 ⟨deq x0 x1 132 16896 rfl slices_S32x18944_o0_16896_S32x128 inb_S1x18944_S1x128_0_16896 inb_S32x18944_S32x128_0_16896,
    List.forall_mem_cons.2 ⟨deq x0 x1 131 16768 rfl slices_S32x18944_o0_16768_S32x128 inb_S1x18944_S1x128_0_16768 inb_S32x18944_S32x128_0_16768,
    List.forall_mem_cons.2 ⟨deq x0 x1 130 16640 rfl slices_S32x18944_o0_16640_S32x128 inb_S1x18944_S1x128_0_16640 inb_S32x18944_S32x128_0_16640,
    List.forall_mem_cons.2 ⟨deq x0 x1 129 16512 rfl slices_S32x18944_o0_16512_S32x128 inb_S1x18944_S1x128_0_16512 inb_S32x18944_S32x128_0_16512,
    List.forall_mem_cons.2 ⟨deq x0 x1 128 16384 rfl slices_S32x18944_o0_16384_S32x128 inb_S1x18944_S1x128_0_16384 inb_S32x18944_S32x128_0_16384,
    List.forall_mem_cons.2 ⟨deq x0 x1 127 16256 rfl slices_S32x18944_o0_16256_S32x128 inb_S1x18944_S1x128_0_16256 inb_S32x18944_S32x128_0_16256,
    List.forall_mem_cons.2 ⟨deq x0 x1 126 16128 rfl slices_S32x18944_o0_16128_S32x128 inb_S1x18944_S1x128_0_16128 inb_S32x18944_S32x128_0_16128,
    List.forall_mem_cons.2 ⟨deq x0 x1 125 16000 rfl slices_S32x18944_o0_16000_S32x128 inb_S1x18944_S1x128_0_16000 inb_S32x18944_S32x128_0_16000,
    List.forall_mem_cons.2 ⟨deq x0 x1 124 15872 rfl slices_S32x18944_o0_15872_S32x128 inb_S1x18944_S1x128_0_15872 inb_S32x18944_S32x128_0_15872,
    List.forall_mem_cons.2 ⟨deq x0 x1 123 15744 rfl slices_S32x18944_o0_15744_S32x128 inb_S1x18944_S1x128_0_15744 inb_S32x18944_S32x128_0_15744,
    List.forall_mem_cons.2 ⟨deq x0 x1 122 15616 rfl slices_S32x18944_o0_15616_S32x128 inb_S1x18944_S1x128_0_15616 inb_S32x18944_S32x128_0_15616,
    List.forall_mem_cons.2 ⟨deq x0 x1 121 15488 rfl slices_S32x18944_o0_15488_S32x128 inb_S1x18944_S1x128_0_15488 inb_S32x18944_S32x128_0_15488,
    List.forall_mem_cons.2 ⟨deq x0 x1 120 15360 rfl slices_S32x18944_o0_15360_S32x128 inb_S1x18944_S1x128_0_15360 inb_S32x18944_S32x128_0_15360,
    List.forall_mem_cons.2 ⟨deq x0 x1 119 15232 rfl slices_S32x18944_o0_15232_S32x128 inb_S1x18944_S1x128_0_15232 inb_S32x18944_S32x128_0_15232,
    List.forall_mem_cons.2 ⟨deq x0 x1 118 15104 rfl slices_S32x18944_o0_15104_S32x128 inb_S1x18944_S1x128_0_15104 inb_S32x18944_S32x128_0_15104,
    List.forall_mem_cons.2 ⟨deq x0 x1 117 14976 rfl slices_S32x18944_o0_14976_S32x128 inb_S1x18944_S1x128_0_14976 inb_S32x18944_S32x128_0_14976,
    List.forall_mem_cons.2 ⟨deq x0 x1 116 14848 rfl slices_S32x18944_o0_14848_S32x128 inb_S1x18944_S1x128_0_14848 inb_S32x18944_S32x128_0_14848,
    List.forall_mem_cons.2 ⟨deq x0 x1 115 14720 rfl slices_S32x18944_o0_14720_S32x128 inb_S1x18944_S1x128_0_14720 inb_S32x18944_S32x128_0_14720,
    List.forall_mem_cons.2 ⟨deq x0 x1 114 14592 rfl slices_S32x18944_o0_14592_S32x128 inb_S1x18944_S1x128_0_14592 inb_S32x18944_S32x128_0_14592,
    List.forall_mem_cons.2 ⟨deq x0 x1 113 14464 rfl slices_S32x18944_o0_14464_S32x128 inb_S1x18944_S1x128_0_14464 inb_S32x18944_S32x128_0_14464,
    List.forall_mem_cons.2 ⟨deq x0 x1 112 14336 rfl slices_S32x18944_o0_14336_S32x128 inb_S1x18944_S1x128_0_14336 inb_S32x18944_S32x128_0_14336,
    List.forall_mem_cons.2 ⟨deq x0 x1 111 14208 rfl slices_S32x18944_o0_14208_S32x128 inb_S1x18944_S1x128_0_14208 inb_S32x18944_S32x128_0_14208,
    List.forall_mem_cons.2 ⟨deq x0 x1 110 14080 rfl slices_S32x18944_o0_14080_S32x128 inb_S1x18944_S1x128_0_14080 inb_S32x18944_S32x128_0_14080,
    List.forall_mem_cons.2 ⟨deq x0 x1 109 13952 rfl slices_S32x18944_o0_13952_S32x128 inb_S1x18944_S1x128_0_13952 inb_S32x18944_S32x128_0_13952,
    List.forall_mem_cons.2 ⟨deq x0 x1 108 13824 rfl slices_S32x18944_o0_13824_S32x128 inb_S1x18944_S1x128_0_13824 inb_S32x18944_S32x128_0_13824,
    List.forall_mem_cons.2 ⟨deq x0 x1 107 13696 rfl slices_S32x18944_o0_13696_S32x128 inb_S1x18944_S1x128_0_13696 inb_S32x18944_S32x128_0_13696,
    List.forall_mem_cons.2 ⟨deq x0 x1 106 13568 rfl slices_S32x18944_o0_13568_S32x128 inb_S1x18944_S1x128_0_13568 inb_S32x18944_S32x128_0_13568,
    List.forall_mem_cons.2 ⟨deq x0 x1 105 13440 rfl slices_S32x18944_o0_13440_S32x128 inb_S1x18944_S1x128_0_13440 inb_S32x18944_S32x128_0_13440,
    List.forall_mem_cons.2 ⟨deq x0 x1 104 13312 rfl slices_S32x18944_o0_13312_S32x128 inb_S1x18944_S1x128_0_13312 inb_S32x18944_S32x128_0_13312,
    List.forall_mem_cons.2 ⟨deq x0 x1 103 13184 rfl slices_S32x18944_o0_13184_S32x128 inb_S1x18944_S1x128_0_13184 inb_S32x18944_S32x128_0_13184,
    List.forall_mem_cons.2 ⟨deq x0 x1 102 13056 rfl slices_S32x18944_o0_13056_S32x128 inb_S1x18944_S1x128_0_13056 inb_S32x18944_S32x128_0_13056,
    List.forall_mem_cons.2 ⟨deq x0 x1 101 12928 rfl slices_S32x18944_o0_12928_S32x128 inb_S1x18944_S1x128_0_12928 inb_S32x18944_S32x128_0_12928,
    List.forall_mem_cons.2 ⟨deq x0 x1 100 12800 rfl slices_S32x18944_o0_12800_S32x128 inb_S1x18944_S1x128_0_12800 inb_S32x18944_S32x128_0_12800,
    List.forall_mem_cons.2 ⟨deq x0 x1 99 12672 rfl slices_S32x18944_o0_12672_S32x128 inb_S1x18944_S1x128_0_12672 inb_S32x18944_S32x128_0_12672,
    List.forall_mem_cons.2 ⟨deq x0 x1 98 12544 rfl slices_S32x18944_o0_12544_S32x128 inb_S1x18944_S1x128_0_12544 inb_S32x18944_S32x128_0_12544,
    List.forall_mem_cons.2 ⟨deq x0 x1 97 12416 rfl slices_S32x18944_o0_12416_S32x128 inb_S1x18944_S1x128_0_12416 inb_S32x18944_S32x128_0_12416,
    List.forall_mem_cons.2 ⟨deq x0 x1 96 12288 rfl slices_S32x18944_o0_12288_S32x128 inb_S1x18944_S1x128_0_12288 inb_S32x18944_S32x128_0_12288,
    List.forall_mem_cons.2 ⟨deq x0 x1 95 12160 rfl slices_S32x18944_o0_12160_S32x128 inb_S1x18944_S1x128_0_12160 inb_S32x18944_S32x128_0_12160,
    List.forall_mem_cons.2 ⟨deq x0 x1 94 12032 rfl slices_S32x18944_o0_12032_S32x128 inb_S1x18944_S1x128_0_12032 inb_S32x18944_S32x128_0_12032,
    List.forall_mem_cons.2 ⟨deq x0 x1 93 11904 rfl slices_S32x18944_o0_11904_S32x128 inb_S1x18944_S1x128_0_11904 inb_S32x18944_S32x128_0_11904,
    List.forall_mem_cons.2 ⟨deq x0 x1 92 11776 rfl slices_S32x18944_o0_11776_S32x128 inb_S1x18944_S1x128_0_11776 inb_S32x18944_S32x128_0_11776,
    List.forall_mem_cons.2 ⟨deq x0 x1 91 11648 rfl slices_S32x18944_o0_11648_S32x128 inb_S1x18944_S1x128_0_11648 inb_S32x18944_S32x128_0_11648,
    List.forall_mem_cons.2 ⟨deq x0 x1 90 11520 rfl slices_S32x18944_o0_11520_S32x128 inb_S1x18944_S1x128_0_11520 inb_S32x18944_S32x128_0_11520,
    List.forall_mem_cons.2 ⟨deq x0 x1 89 11392 rfl slices_S32x18944_o0_11392_S32x128 inb_S1x18944_S1x128_0_11392 inb_S32x18944_S32x128_0_11392,
    List.forall_mem_cons.2 ⟨deq x0 x1 88 11264 rfl slices_S32x18944_o0_11264_S32x128 inb_S1x18944_S1x128_0_11264 inb_S32x18944_S32x128_0_11264,
    List.forall_mem_cons.2 ⟨deq x0 x1 87 11136 rfl slices_S32x18944_o0_11136_S32x128 inb_S1x18944_S1x128_0_11136 inb_S32x18944_S32x128_0_11136,
    List.forall_mem_cons.2 ⟨deq x0 x1 86 11008 rfl slices_S32x18944_o0_11008_S32x128 inb_S1x18944_S1x128_0_11008 inb_S32x18944_S32x128_0_11008,
    List.forall_mem_cons.2 ⟨deq x0 x1 85 10880 rfl slices_S32x18944_o0_10880_S32x128 inb_S1x18944_S1x128_0_10880 inb_S32x18944_S32x128_0_10880,
    List.forall_mem_cons.2 ⟨deq x0 x1 84 10752 rfl slices_S32x18944_o0_10752_S32x128 inb_S1x18944_S1x128_0_10752 inb_S32x18944_S32x128_0_10752,
    List.forall_mem_cons.2 ⟨deq x0 x1 83 10624 rfl slices_S32x18944_o0_10624_S32x128 inb_S1x18944_S1x128_0_10624 inb_S32x18944_S32x128_0_10624,
    List.forall_mem_cons.2 ⟨deq x0 x1 82 10496 rfl slices_S32x18944_o0_10496_S32x128 inb_S1x18944_S1x128_0_10496 inb_S32x18944_S32x128_0_10496,
    List.forall_mem_cons.2 ⟨deq x0 x1 81 10368 rfl slices_S32x18944_o0_10368_S32x128 inb_S1x18944_S1x128_0_10368 inb_S32x18944_S32x128_0_10368,
    List.forall_mem_cons.2 ⟨deq x0 x1 80 10240 rfl slices_S32x18944_o0_10240_S32x128 inb_S1x18944_S1x128_0_10240 inb_S32x18944_S32x128_0_10240,
    List.forall_mem_cons.2 ⟨deq x0 x1 79 10112 rfl slices_S32x18944_o0_10112_S32x128 inb_S1x18944_S1x128_0_10112 inb_S32x18944_S32x128_0_10112,
    List.forall_mem_cons.2 ⟨deq x0 x1 78 9984 rfl slices_S32x18944_o0_9984_S32x128 inb_S1x18944_S1x128_0_9984 inb_S32x18944_S32x128_0_9984,
    List.forall_mem_cons.2 ⟨deq x0 x1 77 9856 rfl slices_S32x18944_o0_9856_S32x128 inb_S1x18944_S1x128_0_9856 inb_S32x18944_S32x128_0_9856,
    List.forall_mem_cons.2 ⟨deq x0 x1 76 9728 rfl slices_S32x18944_o0_9728_S32x128 inb_S1x18944_S1x128_0_9728 inb_S32x18944_S32x128_0_9728,
    List.forall_mem_cons.2 ⟨deq x0 x1 75 9600 rfl slices_S32x18944_o0_9600_S32x128 inb_S1x18944_S1x128_0_9600 inb_S32x18944_S32x128_0_9600,
    List.forall_mem_cons.2 ⟨deq x0 x1 74 9472 rfl slices_S32x18944_o0_9472_S32x128 inb_S1x18944_S1x128_0_9472 inb_S32x18944_S32x128_0_9472,
    List.forall_mem_cons.2 ⟨deq x0 x1 73 9344 rfl slices_S32x18944_o0_9344_S32x128 inb_S1x18944_S1x128_0_9344 inb_S32x18944_S32x128_0_9344,
    List.forall_mem_cons.2 ⟨deq x0 x1 72 9216 rfl slices_S32x18944_o0_9216_S32x128 inb_S1x18944_S1x128_0_9216 inb_S32x18944_S32x128_0_9216,
    List.forall_mem_cons.2 ⟨deq x0 x1 71 9088 rfl slices_S32x18944_o0_9088_S32x128 inb_S1x18944_S1x128_0_9088 inb_S32x18944_S32x128_0_9088,
    List.forall_mem_cons.2 ⟨deq x0 x1 70 8960 rfl slices_S32x18944_o0_8960_S32x128 inb_S1x18944_S1x128_0_8960 inb_S32x18944_S32x128_0_8960,
    List.forall_mem_cons.2 ⟨deq x0 x1 69 8832 rfl slices_S32x18944_o0_8832_S32x128 inb_S1x18944_S1x128_0_8832 inb_S32x18944_S32x128_0_8832,
    List.forall_mem_cons.2 ⟨deq x0 x1 68 8704 rfl slices_S32x18944_o0_8704_S32x128 inb_S1x18944_S1x128_0_8704 inb_S32x18944_S32x128_0_8704,
    List.forall_mem_cons.2 ⟨deq x0 x1 67 8576 rfl slices_S32x18944_o0_8576_S32x128 inb_S1x18944_S1x128_0_8576 inb_S32x18944_S32x128_0_8576,
    List.forall_mem_cons.2 ⟨deq x0 x1 66 8448 rfl slices_S32x18944_o0_8448_S32x128 inb_S1x18944_S1x128_0_8448 inb_S32x18944_S32x128_0_8448,
    List.forall_mem_cons.2 ⟨deq x0 x1 65 8320 rfl slices_S32x18944_o0_8320_S32x128 inb_S1x18944_S1x128_0_8320 inb_S32x18944_S32x128_0_8320,
    List.forall_mem_cons.2 ⟨deq x0 x1 64 8192 rfl slices_S32x18944_o0_8192_S32x128 inb_S1x18944_S1x128_0_8192 inb_S32x18944_S32x128_0_8192,
    List.forall_mem_cons.2 ⟨deq x0 x1 63 8064 rfl slices_S32x18944_o0_8064_S32x128 inb_S1x18944_S1x128_0_8064 inb_S32x18944_S32x128_0_8064,
    List.forall_mem_cons.2 ⟨deq x0 x1 62 7936 rfl slices_S32x18944_o0_7936_S32x128 inb_S1x18944_S1x128_0_7936 inb_S32x18944_S32x128_0_7936,
    List.forall_mem_cons.2 ⟨deq x0 x1 61 7808 rfl slices_S32x18944_o0_7808_S32x128 inb_S1x18944_S1x128_0_7808 inb_S32x18944_S32x128_0_7808,
    List.forall_mem_cons.2 ⟨deq x0 x1 60 7680 rfl slices_S32x18944_o0_7680_S32x128 inb_S1x18944_S1x128_0_7680 inb_S32x18944_S32x128_0_7680,
    List.forall_mem_cons.2 ⟨deq x0 x1 59 7552 rfl slices_S32x18944_o0_7552_S32x128 inb_S1x18944_S1x128_0_7552 inb_S32x18944_S32x128_0_7552,
    List.forall_mem_cons.2 ⟨deq x0 x1 58 7424 rfl slices_S32x18944_o0_7424_S32x128 inb_S1x18944_S1x128_0_7424 inb_S32x18944_S32x128_0_7424,
    List.forall_mem_cons.2 ⟨deq x0 x1 57 7296 rfl slices_S32x18944_o0_7296_S32x128 inb_S1x18944_S1x128_0_7296 inb_S32x18944_S32x128_0_7296,
    List.forall_mem_cons.2 ⟨deq x0 x1 56 7168 rfl slices_S32x18944_o0_7168_S32x128 inb_S1x18944_S1x128_0_7168 inb_S32x18944_S32x128_0_7168,
    List.forall_mem_cons.2 ⟨deq x0 x1 55 7040 rfl slices_S32x18944_o0_7040_S32x128 inb_S1x18944_S1x128_0_7040 inb_S32x18944_S32x128_0_7040,
    List.forall_mem_cons.2 ⟨deq x0 x1 54 6912 rfl slices_S32x18944_o0_6912_S32x128 inb_S1x18944_S1x128_0_6912 inb_S32x18944_S32x128_0_6912,
    List.forall_mem_cons.2 ⟨deq x0 x1 53 6784 rfl slices_S32x18944_o0_6784_S32x128 inb_S1x18944_S1x128_0_6784 inb_S32x18944_S32x128_0_6784,
    List.forall_mem_cons.2 ⟨deq x0 x1 52 6656 rfl slices_S32x18944_o0_6656_S32x128 inb_S1x18944_S1x128_0_6656 inb_S32x18944_S32x128_0_6656,
    List.forall_mem_cons.2 ⟨deq x0 x1 51 6528 rfl slices_S32x18944_o0_6528_S32x128 inb_S1x18944_S1x128_0_6528 inb_S32x18944_S32x128_0_6528,
    List.forall_mem_cons.2 ⟨deq x0 x1 50 6400 rfl slices_S32x18944_o0_6400_S32x128 inb_S1x18944_S1x128_0_6400 inb_S32x18944_S32x128_0_6400,
    List.forall_mem_cons.2 ⟨deq x0 x1 49 6272 rfl slices_S32x18944_o0_6272_S32x128 inb_S1x18944_S1x128_0_6272 inb_S32x18944_S32x128_0_6272,
    List.forall_mem_cons.2 ⟨deq x0 x1 48 6144 rfl slices_S32x18944_o0_6144_S32x128 inb_S1x18944_S1x128_0_6144 inb_S32x18944_S32x128_0_6144,
    List.forall_mem_cons.2 ⟨deq x0 x1 47 6016 rfl slices_S32x18944_o0_6016_S32x128 inb_S1x18944_S1x128_0_6016 inb_S32x18944_S32x128_0_6016,
    List.forall_mem_cons.2 ⟨deq x0 x1 46 5888 rfl slices_S32x18944_o0_5888_S32x128 inb_S1x18944_S1x128_0_5888 inb_S32x18944_S32x128_0_5888,
    List.forall_mem_cons.2 ⟨deq x0 x1 45 5760 rfl slices_S32x18944_o0_5760_S32x128 inb_S1x18944_S1x128_0_5760 inb_S32x18944_S32x128_0_5760,
    List.forall_mem_cons.2 ⟨deq x0 x1 44 5632 rfl slices_S32x18944_o0_5632_S32x128 inb_S1x18944_S1x128_0_5632 inb_S32x18944_S32x128_0_5632,
    List.forall_mem_cons.2 ⟨deq x0 x1 43 5504 rfl slices_S32x18944_o0_5504_S32x128 inb_S1x18944_S1x128_0_5504 inb_S32x18944_S32x128_0_5504,
    List.forall_mem_cons.2 ⟨deq x0 x1 42 5376 rfl slices_S32x18944_o0_5376_S32x128 inb_S1x18944_S1x128_0_5376 inb_S32x18944_S32x128_0_5376,
    List.forall_mem_cons.2 ⟨deq x0 x1 41 5248 rfl slices_S32x18944_o0_5248_S32x128 inb_S1x18944_S1x128_0_5248 inb_S32x18944_S32x128_0_5248,
    List.forall_mem_cons.2 ⟨deq x0 x1 40 5120 rfl slices_S32x18944_o0_5120_S32x128 inb_S1x18944_S1x128_0_5120 inb_S32x18944_S32x128_0_5120,
    List.forall_mem_cons.2 ⟨deq x0 x1 39 4992 rfl slices_S32x18944_o0_4992_S32x128 inb_S1x18944_S1x128_0_4992 inb_S32x18944_S32x128_0_4992,
    List.forall_mem_cons.2 ⟨deq x0 x1 38 4864 rfl slices_S32x18944_o0_4864_S32x128 inb_S1x18944_S1x128_0_4864 inb_S32x18944_S32x128_0_4864,
    List.forall_mem_cons.2 ⟨deq x0 x1 37 4736 rfl slices_S32x18944_o0_4736_S32x128 inb_S1x18944_S1x128_0_4736 inb_S32x18944_S32x128_0_4736,
    List.forall_mem_cons.2 ⟨deq x0 x1 36 4608 rfl slices_S32x18944_o0_4608_S32x128 inb_S1x18944_S1x128_0_4608 inb_S32x18944_S32x128_0_4608,
    List.forall_mem_cons.2 ⟨deq x0 x1 35 4480 rfl slices_S32x18944_o0_4480_S32x128 inb_S1x18944_S1x128_0_4480 inb_S32x18944_S32x128_0_4480,
    List.forall_mem_cons.2 ⟨deq x0 x1 34 4352 rfl slices_S32x18944_o0_4352_S32x128 inb_S1x18944_S1x128_0_4352 inb_S32x18944_S32x128_0_4352,
    List.forall_mem_cons.2 ⟨deq x0 x1 33 4224 rfl slices_S32x18944_o0_4224_S32x128 inb_S1x18944_S1x128_0_4224 inb_S32x18944_S32x128_0_4224,
    List.forall_mem_cons.2 ⟨deq x0 x1 32 4096 rfl slices_S32x18944_o0_4096_S32x128 inb_S1x18944_S1x128_0_4096 inb_S32x18944_S32x128_0_4096,
    List.forall_mem_cons.2 ⟨deq x0 x1 31 3968 rfl slices_S32x18944_o0_3968_S32x128 inb_S1x18944_S1x128_0_3968 inb_S32x18944_S32x128_0_3968,
    List.forall_mem_cons.2 ⟨deq x0 x1 30 3840 rfl slices_S32x18944_o0_3840_S32x128 inb_S1x18944_S1x128_0_3840 inb_S32x18944_S32x128_0_3840,
    List.forall_mem_cons.2 ⟨deq x0 x1 29 3712 rfl slices_S32x18944_o0_3712_S32x128 inb_S1x18944_S1x128_0_3712 inb_S32x18944_S32x128_0_3712,
    List.forall_mem_cons.2 ⟨deq x0 x1 28 3584 rfl slices_S32x18944_o0_3584_S32x128 inb_S1x18944_S1x128_0_3584 inb_S32x18944_S32x128_0_3584,
    List.forall_mem_cons.2 ⟨deq x0 x1 27 3456 rfl slices_S32x18944_o0_3456_S32x128 inb_S1x18944_S1x128_0_3456 inb_S32x18944_S32x128_0_3456,
    List.forall_mem_cons.2 ⟨deq x0 x1 26 3328 rfl slices_S32x18944_o0_3328_S32x128 inb_S1x18944_S1x128_0_3328 inb_S32x18944_S32x128_0_3328,
    List.forall_mem_cons.2 ⟨deq x0 x1 25 3200 rfl slices_S32x18944_o0_3200_S32x128 inb_S1x18944_S1x128_0_3200 inb_S32x18944_S32x128_0_3200,
    List.forall_mem_cons.2 ⟨deq x0 x1 24 3072 rfl slices_S32x18944_o0_3072_S32x128 inb_S1x18944_S1x128_0_3072 inb_S32x18944_S32x128_0_3072,
    List.forall_mem_cons.2 ⟨deq x0 x1 23 2944 rfl slices_S32x18944_o0_2944_S32x128 inb_S1x18944_S1x128_0_2944 inb_S32x18944_S32x128_0_2944,
    List.forall_mem_cons.2 ⟨deq x0 x1 22 2816 rfl slices_S32x18944_o0_2816_S32x128 inb_S1x18944_S1x128_0_2816 inb_S32x18944_S32x128_0_2816,
    List.forall_mem_cons.2 ⟨deq x0 x1 21 2688 rfl slices_S32x18944_o0_2688_S32x128 inb_S1x18944_S1x128_0_2688 inb_S32x18944_S32x128_0_2688,
    List.forall_mem_cons.2 ⟨deq x0 x1 20 2560 rfl slices_S32x18944_o0_2560_S32x128 inb_S1x18944_S1x128_0_2560 inb_S32x18944_S32x128_0_2560,
    List.forall_mem_cons.2 ⟨deq x0 x1 19 2432 rfl slices_S32x18944_o0_2432_S32x128 inb_S1x18944_S1x128_0_2432 inb_S32x18944_S32x128_0_2432,
    List.forall_mem_cons.2 ⟨deq x0 x1 18 2304 rfl slices_S32x18944_o0_2304_S32x128 inb_S1x18944_S1x128_0_2304 inb_S32x18944_S32x128_0_2304,
    List.forall_mem_cons.2 ⟨deq x0 x1 17 2176 rfl slices_S32x18944_o0_2176_S32x128 inb_S1x18944_S1x128_0_2176 inb_S32x18944_S32x128_0_2176,
    List.forall_mem_cons.2 ⟨deq x0 x1 16 2048 rfl slices_S32x18944_o0_2048_S32x128 inb_S1x18944_S1x128_0_2048 inb_S32x18944_S32x128_0_2048,
    List.forall_mem_cons.2 ⟨deq x0 x1 15 1920 rfl slices_S32x18944_o0_1920_S32x128 inb_S1x18944_S1x128_0_1920 inb_S32x18944_S32x128_0_1920,
    List.forall_mem_cons.2 ⟨deq x0 x1 14 1792 rfl slices_S32x18944_o0_1792_S32x128 inb_S1x18944_S1x128_0_1792 inb_S32x18944_S32x128_0_1792,
    List.forall_mem_cons.2 ⟨deq x0 x1 13 1664 rfl slices_S32x18944_o0_1664_S32x128 inb_S1x18944_S1x128_0_1664 inb_S32x18944_S32x128_0_1664,
    List.forall_mem_cons.2 ⟨deq x0 x1 12 1536 rfl slices_S32x18944_o0_1536_S32x128 inb_S1x18944_S1x128_0_1536 inb_S32x18944_S32x128_0_1536,
    List.forall_mem_cons.2 ⟨deq x0 x1 11 1408 rfl slices_S32x18944_o0_1408_S32x128 inb_S1x18944_S1x128_0_1408 inb_S32x18944_S32x128_0_1408,
    List.forall_mem_cons.2 ⟨deq x0 x1 10 1280 rfl slices_S32x18944_o0_1280_S32x128 inb_S1x18944_S1x128_0_1280 inb_S32x18944_S32x128_0_1280,
    List.forall_mem_cons.2 ⟨deq x0 x1 9 1152 rfl slices_S32x18944_o0_1152_S32x128 inb_S1x18944_S1x128_0_1152 inb_S32x18944_S32x128_0_1152,
    List.forall_mem_cons.2 ⟨deq x0 x1 8 1024 rfl slices_S32x18944_o0_1024_S32x128 inb_S1x18944_S1x128_0_1024 inb_S32x18944_S32x128_0_1024,
    List.forall_mem_cons.2 ⟨deq x0 x1 7 896 rfl slices_S32x18944_o0_896_S32x128 inb_S1x18944_S1x128_0_896 inb_S32x18944_S32x128_0_896,
    List.forall_mem_cons.2 ⟨deq x0 x1 6 768 rfl slices_S32x18944_o0_768_S32x128 inb_S1x18944_S1x128_0_768 inb_S32x18944_S32x128_0_768,
    List.forall_mem_cons.2 ⟨deq x0 x1 5 640 rfl slices_S32x18944_o0_640_S32x128 inb_S1x18944_S1x128_0_640 inb_S32x18944_S32x128_0_640,
    List.forall_mem_cons.2 ⟨deq x0 x1 4 512 rfl slices_S32x18944_o0_512_S32x128 inb_S1x18944_S1x128_0_512 inb_S32x18944_S32x128_0_512,
    List.forall_mem_cons.2 ⟨deq x0 x1 3 384 rfl slices_S32x18944_o0_384_S32x128 inb_S1x18944_S1x128_0_384 inb_S32x18944_S32x128_0_384,
    List.forall_mem_cons.2 ⟨deq x0 x1 2 256 rfl slices_S32x18944_o0_256_S32x128 inb_S1x18944_S1x128_0_256 inb_S32x18944_S32x128_0_256,
    List.forall_mem_cons.2 ⟨deq x0 x1 1 128 rfl slices_S32x18944_o0_128_S32x128 inb_S1x18944_S1x128_0_128 inb_S32x18944_S32x128_0_128,
    List.forall_mem_cons.2 ⟨deq x0 x1 0 0 rfl slices_S32x18944_o0_0_S32x128 inb_S1x18944_S1x128_0_0 inb_S32x18944_S32x128_0_0,
    List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

/-- The scales the body leaves. -/
theorem scales_block (p : Fin 32) (j : Fin 148) : out0_3 x0 x1 (ix2 p j) = sc hW (dd 0x46940000#32) (fun c => rows x0 (ix2 p c)) (fun c => x1 (ix2 0 c)) j := by
  unfold out0_3
  rw [View.canon_unit_zero hz]
  exact (
    put x0 x1 147 18816 rfl slices_S32x18944_o0_18816_S32x128 inb_S1x18944_S1x128_0_18816 147#32 rfl (
    put x0 x1 146 18688 rfl slices_S32x18944_o0_18688_S32x128 inb_S1x18944_S1x128_0_18688 146#32 rfl (
    put x0 x1 145 18560 rfl slices_S32x18944_o0_18560_S32x128 inb_S1x18944_S1x128_0_18560 145#32 rfl (
    put x0 x1 144 18432 rfl slices_S32x18944_o0_18432_S32x128 inb_S1x18944_S1x128_0_18432 144#32 rfl (
    put x0 x1 143 18304 rfl slices_S32x18944_o0_18304_S32x128 inb_S1x18944_S1x128_0_18304 143#32 rfl (
    put x0 x1 142 18176 rfl slices_S32x18944_o0_18176_S32x128 inb_S1x18944_S1x128_0_18176 142#32 rfl (
    put x0 x1 141 18048 rfl slices_S32x18944_o0_18048_S32x128 inb_S1x18944_S1x128_0_18048 141#32 rfl (
    put x0 x1 140 17920 rfl slices_S32x18944_o0_17920_S32x128 inb_S1x18944_S1x128_0_17920 140#32 rfl (
    put x0 x1 139 17792 rfl slices_S32x18944_o0_17792_S32x128 inb_S1x18944_S1x128_0_17792 139#32 rfl (
    put x0 x1 138 17664 rfl slices_S32x18944_o0_17664_S32x128 inb_S1x18944_S1x128_0_17664 138#32 rfl (
    put x0 x1 137 17536 rfl slices_S32x18944_o0_17536_S32x128 inb_S1x18944_S1x128_0_17536 137#32 rfl (
    put x0 x1 136 17408 rfl slices_S32x18944_o0_17408_S32x128 inb_S1x18944_S1x128_0_17408 136#32 rfl (
    put x0 x1 135 17280 rfl slices_S32x18944_o0_17280_S32x128 inb_S1x18944_S1x128_0_17280 135#32 rfl (
    put x0 x1 134 17152 rfl slices_S32x18944_o0_17152_S32x128 inb_S1x18944_S1x128_0_17152 134#32 rfl (
    put x0 x1 133 17024 rfl slices_S32x18944_o0_17024_S32x128 inb_S1x18944_S1x128_0_17024 133#32 rfl (
    put x0 x1 132 16896 rfl slices_S32x18944_o0_16896_S32x128 inb_S1x18944_S1x128_0_16896 132#32 rfl (
    put x0 x1 131 16768 rfl slices_S32x18944_o0_16768_S32x128 inb_S1x18944_S1x128_0_16768 131#32 rfl (
    put x0 x1 130 16640 rfl slices_S32x18944_o0_16640_S32x128 inb_S1x18944_S1x128_0_16640 130#32 rfl (
    put x0 x1 129 16512 rfl slices_S32x18944_o0_16512_S32x128 inb_S1x18944_S1x128_0_16512 129#32 rfl (
    put x0 x1 128 16384 rfl slices_S32x18944_o0_16384_S32x128 inb_S1x18944_S1x128_0_16384 128#32 rfl (
    put x0 x1 127 16256 rfl slices_S32x18944_o0_16256_S32x128 inb_S1x18944_S1x128_0_16256 127#32 rfl (
    put x0 x1 126 16128 rfl slices_S32x18944_o0_16128_S32x128 inb_S1x18944_S1x128_0_16128 126#32 rfl (
    put x0 x1 125 16000 rfl slices_S32x18944_o0_16000_S32x128 inb_S1x18944_S1x128_0_16000 125#32 rfl (
    put x0 x1 124 15872 rfl slices_S32x18944_o0_15872_S32x128 inb_S1x18944_S1x128_0_15872 124#32 rfl (
    put x0 x1 123 15744 rfl slices_S32x18944_o0_15744_S32x128 inb_S1x18944_S1x128_0_15744 123#32 rfl (
    put x0 x1 122 15616 rfl slices_S32x18944_o0_15616_S32x128 inb_S1x18944_S1x128_0_15616 122#32 rfl (
    put x0 x1 121 15488 rfl slices_S32x18944_o0_15488_S32x128 inb_S1x18944_S1x128_0_15488 121#32 rfl (
    put x0 x1 120 15360 rfl slices_S32x18944_o0_15360_S32x128 inb_S1x18944_S1x128_0_15360 120#32 rfl (
    put x0 x1 119 15232 rfl slices_S32x18944_o0_15232_S32x128 inb_S1x18944_S1x128_0_15232 119#32 rfl (
    put x0 x1 118 15104 rfl slices_S32x18944_o0_15104_S32x128 inb_S1x18944_S1x128_0_15104 118#32 rfl (
    put x0 x1 117 14976 rfl slices_S32x18944_o0_14976_S32x128 inb_S1x18944_S1x128_0_14976 117#32 rfl (
    put x0 x1 116 14848 rfl slices_S32x18944_o0_14848_S32x128 inb_S1x18944_S1x128_0_14848 116#32 rfl (
    put x0 x1 115 14720 rfl slices_S32x18944_o0_14720_S32x128 inb_S1x18944_S1x128_0_14720 115#32 rfl (
    put x0 x1 114 14592 rfl slices_S32x18944_o0_14592_S32x128 inb_S1x18944_S1x128_0_14592 114#32 rfl (
    put x0 x1 113 14464 rfl slices_S32x18944_o0_14464_S32x128 inb_S1x18944_S1x128_0_14464 113#32 rfl (
    put x0 x1 112 14336 rfl slices_S32x18944_o0_14336_S32x128 inb_S1x18944_S1x128_0_14336 112#32 rfl (
    put x0 x1 111 14208 rfl slices_S32x18944_o0_14208_S32x128 inb_S1x18944_S1x128_0_14208 111#32 rfl (
    put x0 x1 110 14080 rfl slices_S32x18944_o0_14080_S32x128 inb_S1x18944_S1x128_0_14080 110#32 rfl (
    put x0 x1 109 13952 rfl slices_S32x18944_o0_13952_S32x128 inb_S1x18944_S1x128_0_13952 109#32 rfl (
    put x0 x1 108 13824 rfl slices_S32x18944_o0_13824_S32x128 inb_S1x18944_S1x128_0_13824 108#32 rfl (
    put x0 x1 107 13696 rfl slices_S32x18944_o0_13696_S32x128 inb_S1x18944_S1x128_0_13696 107#32 rfl (
    put x0 x1 106 13568 rfl slices_S32x18944_o0_13568_S32x128 inb_S1x18944_S1x128_0_13568 106#32 rfl (
    put x0 x1 105 13440 rfl slices_S32x18944_o0_13440_S32x128 inb_S1x18944_S1x128_0_13440 105#32 rfl (
    put x0 x1 104 13312 rfl slices_S32x18944_o0_13312_S32x128 inb_S1x18944_S1x128_0_13312 104#32 rfl (
    put x0 x1 103 13184 rfl slices_S32x18944_o0_13184_S32x128 inb_S1x18944_S1x128_0_13184 103#32 rfl (
    put x0 x1 102 13056 rfl slices_S32x18944_o0_13056_S32x128 inb_S1x18944_S1x128_0_13056 102#32 rfl (
    put x0 x1 101 12928 rfl slices_S32x18944_o0_12928_S32x128 inb_S1x18944_S1x128_0_12928 101#32 rfl (
    put x0 x1 100 12800 rfl slices_S32x18944_o0_12800_S32x128 inb_S1x18944_S1x128_0_12800 100#32 rfl (
    put x0 x1 99 12672 rfl slices_S32x18944_o0_12672_S32x128 inb_S1x18944_S1x128_0_12672 99#32 rfl (
    put x0 x1 98 12544 rfl slices_S32x18944_o0_12544_S32x128 inb_S1x18944_S1x128_0_12544 98#32 rfl (
    put x0 x1 97 12416 rfl slices_S32x18944_o0_12416_S32x128 inb_S1x18944_S1x128_0_12416 97#32 rfl (
    put x0 x1 96 12288 rfl slices_S32x18944_o0_12288_S32x128 inb_S1x18944_S1x128_0_12288 96#32 rfl (
    put x0 x1 95 12160 rfl slices_S32x18944_o0_12160_S32x128 inb_S1x18944_S1x128_0_12160 95#32 rfl (
    put x0 x1 94 12032 rfl slices_S32x18944_o0_12032_S32x128 inb_S1x18944_S1x128_0_12032 94#32 rfl (
    put x0 x1 93 11904 rfl slices_S32x18944_o0_11904_S32x128 inb_S1x18944_S1x128_0_11904 93#32 rfl (
    put x0 x1 92 11776 rfl slices_S32x18944_o0_11776_S32x128 inb_S1x18944_S1x128_0_11776 92#32 rfl (
    put x0 x1 91 11648 rfl slices_S32x18944_o0_11648_S32x128 inb_S1x18944_S1x128_0_11648 91#32 rfl (
    put x0 x1 90 11520 rfl slices_S32x18944_o0_11520_S32x128 inb_S1x18944_S1x128_0_11520 90#32 rfl (
    put x0 x1 89 11392 rfl slices_S32x18944_o0_11392_S32x128 inb_S1x18944_S1x128_0_11392 89#32 rfl (
    put x0 x1 88 11264 rfl slices_S32x18944_o0_11264_S32x128 inb_S1x18944_S1x128_0_11264 88#32 rfl (
    put x0 x1 87 11136 rfl slices_S32x18944_o0_11136_S32x128 inb_S1x18944_S1x128_0_11136 87#32 rfl (
    put x0 x1 86 11008 rfl slices_S32x18944_o0_11008_S32x128 inb_S1x18944_S1x128_0_11008 86#32 rfl (
    put x0 x1 85 10880 rfl slices_S32x18944_o0_10880_S32x128 inb_S1x18944_S1x128_0_10880 85#32 rfl (
    put x0 x1 84 10752 rfl slices_S32x18944_o0_10752_S32x128 inb_S1x18944_S1x128_0_10752 84#32 rfl (
    put x0 x1 83 10624 rfl slices_S32x18944_o0_10624_S32x128 inb_S1x18944_S1x128_0_10624 83#32 rfl (
    put x0 x1 82 10496 rfl slices_S32x18944_o0_10496_S32x128 inb_S1x18944_S1x128_0_10496 82#32 rfl (
    put x0 x1 81 10368 rfl slices_S32x18944_o0_10368_S32x128 inb_S1x18944_S1x128_0_10368 81#32 rfl (
    put x0 x1 80 10240 rfl slices_S32x18944_o0_10240_S32x128 inb_S1x18944_S1x128_0_10240 80#32 rfl (
    put x0 x1 79 10112 rfl slices_S32x18944_o0_10112_S32x128 inb_S1x18944_S1x128_0_10112 79#32 rfl (
    put x0 x1 78 9984 rfl slices_S32x18944_o0_9984_S32x128 inb_S1x18944_S1x128_0_9984 78#32 rfl (
    put x0 x1 77 9856 rfl slices_S32x18944_o0_9856_S32x128 inb_S1x18944_S1x128_0_9856 77#32 rfl (
    put x0 x1 76 9728 rfl slices_S32x18944_o0_9728_S32x128 inb_S1x18944_S1x128_0_9728 76#32 rfl (
    put x0 x1 75 9600 rfl slices_S32x18944_o0_9600_S32x128 inb_S1x18944_S1x128_0_9600 75#32 rfl (
    put x0 x1 74 9472 rfl slices_S32x18944_o0_9472_S32x128 inb_S1x18944_S1x128_0_9472 74#32 rfl (
    put x0 x1 73 9344 rfl slices_S32x18944_o0_9344_S32x128 inb_S1x18944_S1x128_0_9344 73#32 rfl (
    put x0 x1 72 9216 rfl slices_S32x18944_o0_9216_S32x128 inb_S1x18944_S1x128_0_9216 72#32 rfl (
    put x0 x1 71 9088 rfl slices_S32x18944_o0_9088_S32x128 inb_S1x18944_S1x128_0_9088 71#32 rfl (
    put x0 x1 70 8960 rfl slices_S32x18944_o0_8960_S32x128 inb_S1x18944_S1x128_0_8960 70#32 rfl (
    put x0 x1 69 8832 rfl slices_S32x18944_o0_8832_S32x128 inb_S1x18944_S1x128_0_8832 69#32 rfl (
    put x0 x1 68 8704 rfl slices_S32x18944_o0_8704_S32x128 inb_S1x18944_S1x128_0_8704 68#32 rfl (
    put x0 x1 67 8576 rfl slices_S32x18944_o0_8576_S32x128 inb_S1x18944_S1x128_0_8576 67#32 rfl (
    put x0 x1 66 8448 rfl slices_S32x18944_o0_8448_S32x128 inb_S1x18944_S1x128_0_8448 66#32 rfl (
    put x0 x1 65 8320 rfl slices_S32x18944_o0_8320_S32x128 inb_S1x18944_S1x128_0_8320 65#32 rfl (
    put x0 x1 64 8192 rfl slices_S32x18944_o0_8192_S32x128 inb_S1x18944_S1x128_0_8192 64#32 rfl (
    put x0 x1 63 8064 rfl slices_S32x18944_o0_8064_S32x128 inb_S1x18944_S1x128_0_8064 63#32 rfl (
    put x0 x1 62 7936 rfl slices_S32x18944_o0_7936_S32x128 inb_S1x18944_S1x128_0_7936 62#32 rfl (
    put x0 x1 61 7808 rfl slices_S32x18944_o0_7808_S32x128 inb_S1x18944_S1x128_0_7808 61#32 rfl (
    put x0 x1 60 7680 rfl slices_S32x18944_o0_7680_S32x128 inb_S1x18944_S1x128_0_7680 60#32 rfl (
    put x0 x1 59 7552 rfl slices_S32x18944_o0_7552_S32x128 inb_S1x18944_S1x128_0_7552 59#32 rfl (
    put x0 x1 58 7424 rfl slices_S32x18944_o0_7424_S32x128 inb_S1x18944_S1x128_0_7424 58#32 rfl (
    put x0 x1 57 7296 rfl slices_S32x18944_o0_7296_S32x128 inb_S1x18944_S1x128_0_7296 57#32 rfl (
    put x0 x1 56 7168 rfl slices_S32x18944_o0_7168_S32x128 inb_S1x18944_S1x128_0_7168 56#32 rfl (
    put x0 x1 55 7040 rfl slices_S32x18944_o0_7040_S32x128 inb_S1x18944_S1x128_0_7040 55#32 rfl (
    put x0 x1 54 6912 rfl slices_S32x18944_o0_6912_S32x128 inb_S1x18944_S1x128_0_6912 54#32 rfl (
    put x0 x1 53 6784 rfl slices_S32x18944_o0_6784_S32x128 inb_S1x18944_S1x128_0_6784 53#32 rfl (
    put x0 x1 52 6656 rfl slices_S32x18944_o0_6656_S32x128 inb_S1x18944_S1x128_0_6656 52#32 rfl (
    put x0 x1 51 6528 rfl slices_S32x18944_o0_6528_S32x128 inb_S1x18944_S1x128_0_6528 51#32 rfl (
    put x0 x1 50 6400 rfl slices_S32x18944_o0_6400_S32x128 inb_S1x18944_S1x128_0_6400 50#32 rfl (
    put x0 x1 49 6272 rfl slices_S32x18944_o0_6272_S32x128 inb_S1x18944_S1x128_0_6272 49#32 rfl (
    put x0 x1 48 6144 rfl slices_S32x18944_o0_6144_S32x128 inb_S1x18944_S1x128_0_6144 48#32 rfl (
    put x0 x1 47 6016 rfl slices_S32x18944_o0_6016_S32x128 inb_S1x18944_S1x128_0_6016 47#32 rfl (
    put x0 x1 46 5888 rfl slices_S32x18944_o0_5888_S32x128 inb_S1x18944_S1x128_0_5888 46#32 rfl (
    put x0 x1 45 5760 rfl slices_S32x18944_o0_5760_S32x128 inb_S1x18944_S1x128_0_5760 45#32 rfl (
    put x0 x1 44 5632 rfl slices_S32x18944_o0_5632_S32x128 inb_S1x18944_S1x128_0_5632 44#32 rfl (
    put x0 x1 43 5504 rfl slices_S32x18944_o0_5504_S32x128 inb_S1x18944_S1x128_0_5504 43#32 rfl (
    put x0 x1 42 5376 rfl slices_S32x18944_o0_5376_S32x128 inb_S1x18944_S1x128_0_5376 42#32 rfl (
    put x0 x1 41 5248 rfl slices_S32x18944_o0_5248_S32x128 inb_S1x18944_S1x128_0_5248 41#32 rfl (
    put x0 x1 40 5120 rfl slices_S32x18944_o0_5120_S32x128 inb_S1x18944_S1x128_0_5120 40#32 rfl (
    put x0 x1 39 4992 rfl slices_S32x18944_o0_4992_S32x128 inb_S1x18944_S1x128_0_4992 39#32 rfl (
    put x0 x1 38 4864 rfl slices_S32x18944_o0_4864_S32x128 inb_S1x18944_S1x128_0_4864 38#32 rfl (
    put x0 x1 37 4736 rfl slices_S32x18944_o0_4736_S32x128 inb_S1x18944_S1x128_0_4736 37#32 rfl (
    put x0 x1 36 4608 rfl slices_S32x18944_o0_4608_S32x128 inb_S1x18944_S1x128_0_4608 36#32 rfl (
    put x0 x1 35 4480 rfl slices_S32x18944_o0_4480_S32x128 inb_S1x18944_S1x128_0_4480 35#32 rfl (
    put x0 x1 34 4352 rfl slices_S32x18944_o0_4352_S32x128 inb_S1x18944_S1x128_0_4352 34#32 rfl (
    put x0 x1 33 4224 rfl slices_S32x18944_o0_4224_S32x128 inb_S1x18944_S1x128_0_4224 33#32 rfl (
    put x0 x1 32 4096 rfl slices_S32x18944_o0_4096_S32x128 inb_S1x18944_S1x128_0_4096 32#32 rfl (
    put x0 x1 31 3968 rfl slices_S32x18944_o0_3968_S32x128 inb_S1x18944_S1x128_0_3968 31#32 rfl (
    put x0 x1 30 3840 rfl slices_S32x18944_o0_3840_S32x128 inb_S1x18944_S1x128_0_3840 30#32 rfl (
    put x0 x1 29 3712 rfl slices_S32x18944_o0_3712_S32x128 inb_S1x18944_S1x128_0_3712 29#32 rfl (
    put x0 x1 28 3584 rfl slices_S32x18944_o0_3584_S32x128 inb_S1x18944_S1x128_0_3584 28#32 rfl (
    put x0 x1 27 3456 rfl slices_S32x18944_o0_3456_S32x128 inb_S1x18944_S1x128_0_3456 27#32 rfl (
    put x0 x1 26 3328 rfl slices_S32x18944_o0_3328_S32x128 inb_S1x18944_S1x128_0_3328 26#32 rfl (
    put x0 x1 25 3200 rfl slices_S32x18944_o0_3200_S32x128 inb_S1x18944_S1x128_0_3200 25#32 rfl (
    put x0 x1 24 3072 rfl slices_S32x18944_o0_3072_S32x128 inb_S1x18944_S1x128_0_3072 24#32 rfl (
    put x0 x1 23 2944 rfl slices_S32x18944_o0_2944_S32x128 inb_S1x18944_S1x128_0_2944 23#32 rfl (
    put x0 x1 22 2816 rfl slices_S32x18944_o0_2816_S32x128 inb_S1x18944_S1x128_0_2816 22#32 rfl (
    put x0 x1 21 2688 rfl slices_S32x18944_o0_2688_S32x128 inb_S1x18944_S1x128_0_2688 21#32 rfl (
    put x0 x1 20 2560 rfl slices_S32x18944_o0_2560_S32x128 inb_S1x18944_S1x128_0_2560 20#32 rfl (
    put x0 x1 19 2432 rfl slices_S32x18944_o0_2432_S32x128 inb_S1x18944_S1x128_0_2432 19#32 rfl (
    put x0 x1 18 2304 rfl slices_S32x18944_o0_2304_S32x128 inb_S1x18944_S1x128_0_2304 18#32 rfl (
    put x0 x1 17 2176 rfl slices_S32x18944_o0_2176_S32x128 inb_S1x18944_S1x128_0_2176 17#32 rfl (
    put x0 x1 16 2048 rfl slices_S32x18944_o0_2048_S32x128 inb_S1x18944_S1x128_0_2048 16#32 rfl (
    put x0 x1 15 1920 rfl slices_S32x18944_o0_1920_S32x128 inb_S1x18944_S1x128_0_1920 15#32 rfl (
    put x0 x1 14 1792 rfl slices_S32x18944_o0_1792_S32x128 inb_S1x18944_S1x128_0_1792 14#32 rfl (
    put x0 x1 13 1664 rfl slices_S32x18944_o0_1664_S32x128 inb_S1x18944_S1x128_0_1664 13#32 rfl (
    put x0 x1 12 1536 rfl slices_S32x18944_o0_1536_S32x128 inb_S1x18944_S1x128_0_1536 12#32 rfl (
    put x0 x1 11 1408 rfl slices_S32x18944_o0_1408_S32x128 inb_S1x18944_S1x128_0_1408 11#32 rfl (
    put x0 x1 10 1280 rfl slices_S32x18944_o0_1280_S32x128 inb_S1x18944_S1x128_0_1280 10#32 rfl (
    put x0 x1 9 1152 rfl slices_S32x18944_o0_1152_S32x128 inb_S1x18944_S1x128_0_1152 9#32 rfl (
    put x0 x1 8 1024 rfl slices_S32x18944_o0_1024_S32x128 inb_S1x18944_S1x128_0_1024 8#32 rfl (
    put x0 x1 7 896 rfl slices_S32x18944_o0_896_S32x128 inb_S1x18944_S1x128_0_896 7#32 rfl (
    put x0 x1 6 768 rfl slices_S32x18944_o0_768_S32x128 inb_S1x18944_S1x128_0_768 6#32 rfl (
    put x0 x1 5 640 rfl slices_S32x18944_o0_640_S32x128 inb_S1x18944_S1x128_0_640 5#32 rfl (
    put x0 x1 4 512 rfl slices_S32x18944_o0_512_S32x128 inb_S1x18944_S1x128_0_512 4#32 rfl (
    put x0 x1 3 384 rfl slices_S32x18944_o0_384_S32x128 inb_S1x18944_S1x128_0_384 3#32 rfl (
    put x0 x1 2 256 rfl slices_S32x18944_o0_256_S32x128 inb_S1x18944_S1x128_0_256 2#32 rfl (
    put x0 x1 1 128 rfl slices_S32x18944_o0_128_S32x128 inb_S1x18944_S1x128_0_128 1#32 rfl (
    put x0 x1 0 0 rfl slices_S32x18944_o0_0_S32x128 inb_S1x18944_S1x128_0_0 0#32 rfl (
    (fun _ _ h => absurd h (Nat.not_lt_zero _) : Upto hW 0x46940000#32 (rows x0) x1 0 _))))))))))))))))))))))))))))))))))))))))))))))))))))))))))))))))))))))))))))))))))))))))))))))))))))))))))))))))))))))))))))))))))))))))))))))))))))) : Upto hW 0x46940000#32 (rows x0) x1 148 _) p j j.isLt

/-- The reciprocal root mean squares the body leaves. -/
theorem root_block (p : Fin 32) (z : Fin 1) : out0_5 x0 x1 (ix2 p z) = rms (dd 0x46940000#32) fun c => rows x0 (ix2 p c) := by
  unfold out0_5
  rw [View.canon_unit_zero hz]
  exact root_apply x0 p z

end Block

end Cert.QuantFfnIdeal.Norm

end
-- ==== Proof.QuantFfnRead.lean ====
/- The quantise reference on the feed-forward product: its four results at an index. -/
module

public import proofs.«01_k».proof.Proof.Gen.QuantFfnRefIdeal.Read
public import proofs.«01_k».proof.Proof.Quant
public import Idealize.ShloMosaic.Lib.Pipeline.ValueKit

@[expose] public section

set_option maxRecDepth 65536

noncomputable section

open Cert.Quant
open Idealize.ShloMosaic hiding ix0 ix1 ix2 ix3 eq_ix1 eq_ix2
open Idealize.ShloMosaic.TcCoe Idealize.ShloMosaic.ValueIdx Idealize.SL.Sem
open Idealize.ShloMosaic.Pipeline (Dat Window)
open scoped BigOperators

namespace Cert.QuantFfnRefIdeal.Norm

open Cert.QuantFfnRefIdeal Cert.QuantFfnRefIdeal.Gen Cert.QuantFfnRefIdeal.Read

theorem hW : 18944 = 148 * 128 := rfl

variable (x0 : Vec Ideal S1280x18944 .f32) (x1 : Vec Ideal S18944 .f32)

/-- A row of the argument, and its gains. -/
def R (a : Fin 1280) : Fin 18944 → EReal := fun k => x0 (ix2 a k)
def g : Fin 18944 → EReal := fun k => x1 (ix1 k)

theorem root_at (a : Fin 1280) : val_main_v6 (F := Ideal) x0 (ix1 a) = rms (dd 0x46940000#32) (R x0 a) := by
  have e : val_main_v1 (F := Ideal) x0 (ix1 a) = ∑ k, R x0 a k * R x0 a k := by
    rw [val_main_v1_apply]
    show Ideal.ofBits .f32 0x00000000#32 + _ = _
    rw [Ideal.ofBits_zero_f32, zero_add]
    refine Finset.sum_congr rfl fun k _ => ?_
    have i : idx_main_v1 (ix1 a) k = ix2 a k := funext fun d => Fin.ext (by match d with | ⟨0, _⟩ => rfl | ⟨1, _⟩ => rfl)
    rw [i]
    rfl
  show FloatOps.rsqrt (F := Ideal) (φ := .f32) (FloatOps.divf (F := Ideal) (φ := .f32) (val_main_v1 (F := Ideal) x0 (ix1 a)) _ + _) = _
  rw [e]
  rfl

theorem nrm_at (a : Fin 1280) (c : Fin 18944) : val_main_v12 (F := Ideal) x0 x1 (ix2 a c) = nrm (dd 0x46940000#32) (R x0 a) (g x1) c := by
  rw [val_main_v12_apply, val_main_v9_apply, val_main_v8_apply, val_main_v7_apply, val_main_v11_apply, val_main_v10_apply]
  have i : idx_main_v7 (idx_main_v8 (ix2 a c)) = ix1 a := funext fun d => Fin.ext (by match d with | ⟨0, _⟩ => rfl)
  have i' : idx_main_v10 (idx_main_v11 (ix2 a c)) = ix1 c := funext fun d => Fin.ext (by match d with | ⟨0, _⟩ => rfl)
  rw [i, i', root_at]
  rfl

theorem group_at (a : Fin 1280) (k : Fin 148) (q : Fin 128) : val_main_v13 (F := Ideal) x0 x1 (ix3 a k q) = nrm (dd 0x46940000#32) (R x0 a) (g x1) (col hW k q) := by
  have i : idx_main_v13 (ix3 a k q) = ix2 a (col hW k q) := funext fun d => Fin.ext (by
    have := k.isLt
    have := q.isLt
    match d with
    | ⟨0, _⟩ => show ((a.val * 148 + k.val) * 128 + q.val) / 18944 = a.val; omega
    | ⟨1, _⟩ => show ((a.val * 148 + k.val) * 128 + q.val) % 18944 = k.val * 128 + q.val; omega)
  rw [val_main_v13_apply, i, nrm_at]

theorem amax_at (a : Fin 1280) (k : Fin 148) : val_main_v15 (F := Ideal) x0 x1 (ix2 a k) = amax fun q => nrm (dd 0x46940000#32) (R x0 a) (g x1) (col hW k q) := by
  unfold val_main_v15
  have hr : S1280x148x128.Reduces [2] S1280x148 := by decide
  refine (Host.reduce_eq_fold_single (FloatOps.maximumf (F := Ideal) (φ := .f32)) _ _ _ hr _ _).trans ?_
  unfold amax
  have key : ∀ q : Fin 128, FloatOps.absf (F := Ideal) (φ := .f32) (val_main_v13 (F := Ideal) x0 x1 (hr.lift (ix2 a k) q)) = FloatOps.absf (F := Ideal) (φ := .f32) (nrm (dd 0x46940000#32) (R x0 a) (g x1) (col hW k q)) := by
    intro q
    have i : hr.lift (ix2 a k) q = (ix3 a k q : S1280x148x128.Idx) := funext fun d => Fin.ext (by match d with | ⟨0, _⟩ => rfl | ⟨1, _⟩ => rfl | ⟨2, _⟩ => rfl)
    exact congrArg (FloatOps.absf (F := Ideal) (φ := .f32)) ((congrArg (val_main_v13 (F := Ideal) x0 x1) i).trans (group_at x0 x1 a k q))
  exact congrArg (fun f => Finset.fold max (FloatOps.ofBits (F := Ideal) .f32 0xFF800000#32) f Finset.univ) (funext key)

theorem scale_at (a : Fin 1280) (k : Fin 148) : val_main_v20 (F := Ideal) x0 x1 (ix2 a k) = sc hW (dd 0x46940000#32) (R x0 a) (g x1) k := by
  rw [val_main_v20_apply, val_main_v17_apply, val_main_v19_apply, val_main_v16_apply, val_main_v18_apply, val_main_call0_v1_apply, val_main_call0_v0_apply, amax_at,
    val_main_cst_3_apply, val_main_cst_4_apply, val_main_cst_5_apply]
  unfold sc scaleOf
  generalize amax _ = A
  rfl

theorem clip_at (a : Fin 1280) (k : Fin 148) (q : Fin 128) : val_main_v25 (F := Ideal) x0 x1 (ix3 a k q) = clipOf (nrm (dd 0x46940000#32) (R x0 a) (g x1) (col hW k q)) (sc hW (dd 0x46940000#32) (R x0 a) (g x1) k) := by
  have e : val_main_v22 (F := Ideal) x0 x1 (ix3 a k q) = sc hW (dd 0x46940000#32) (R x0 a) (g x1) k := by
    rw [val_main_v22_apply, val_main_v21_apply]
    have i : idx_main_v21 (idx_main_v22 (ix3 a k q)) = ix2 a k := funext fun d => Fin.ext (by match d with | ⟨0, _⟩ => rfl | ⟨1, _⟩ => rfl)
    rw [i, scale_at]
  rw [val_main_v25_apply, val_main_call2_v4_apply, val_main_call2_v3_apply, val_main_c_6_apply, val_main_call2_v2_apply, val_main_call2_v1_apply, val_main_call2_v0_apply, val_main_c_apply,
    val_main_v24_apply, val_main_v23_apply, group_at, e]
  generalize nrm _ _ _ _ = n
  generalize sc _ _ _ _ _ = s
  rfl

/-- The group and the lane of a column give the column back. -/
theorem col_grp (c : Fin 18944) : col hW (grp hW c) ⟨c.val % 128, Nat.mod_lt _ (by decide)⟩ = c :=
  Fin.ext (by show c.val / 128 * 128 + c.val % 128 = c.val; omega)

theorem split_idx (a : Fin 1280) (c : Fin 18944) : idx_main_v33 (ix2 a c) = ix3 a (grp hW c) ⟨c.val % 128, Nat.mod_lt _ (by decide)⟩ := funext fun d => Fin.ext (by
  have := c.isLt
  match d with
  | ⟨0, _⟩ => show (a.val * 18944 + c.val) / 18944 = a.val; omega
  | ⟨1, _⟩ => show (a.val * 18944 + c.val) / 128 % 148 = c.val / 128; omega
  | ⟨2, _⟩ => show (a.val * 18944 + c.val) % 128 = c.val % 128; omega)

theorem codes_at (a : Fin 1280) (c : Fin 18944) : val_main_v33 (F := Ideal) x0 x1 (ix2 a c) = FloatOps.fptosi (F := Ideal) (φ := .f32) 8 (clip hW (dd 0x46940000#32) (R x0 a) (g x1) c) := by
  rw [val_main_v33_apply, split_idx]
  rw [val_main_v32_apply, val_main_v26_apply, clip_at, col_grp]
  unfold clip
  exact trunci_fptosi_clipOf _ _

theorem deqs_at (a : Fin 1280) (c : Fin 18944) : val_main_v34 (F := Ideal) x0 x1 (ix2 a c)
    = clip hW (dd 0x46940000#32) (R x0 a) (g x1) c * sc hW (dd 0x46940000#32) (R x0 a) (g x1) (grp hW c) := by
  have s : idx_main_v34 (ix2 a c) = ix3 a (grp hW c) ⟨c.val % 128, Nat.mod_lt _ (by decide)⟩ := split_idx a c
  rw [val_main_v34_apply, s]
  have e : val_main_v30 (F := Ideal) x0 x1 (ix3 a (grp hW c) ⟨c.val % 128, Nat.mod_lt _ (by decide)⟩) = sc hW (dd 0x46940000#32) (R x0 a) (g x1) (grp hW c) := by
    rw [val_main_v30_apply, val_main_v29_apply]
    have i : idx_main_v29 (idx_main_v30 (ix3 a (grp hW c) ⟨c.val % 128, Nat.mod_lt _ (by decide)⟩)) = ix2 a (grp hW c) :=
      funext fun d => Fin.ext (by match d with | ⟨0, _⟩ => rfl | ⟨1, _⟩ => rfl)
    rw [i, val_main_v28_apply, scale_at]
    rfl
  rw [val_main_v31_apply, val_main_v27_apply, val_main_v26_apply, clip_at, sitofp_fptosi_clipOf, e, col_grp]
  unfold clip
  rfl

theorem roots_at (a : Fin 1280) (z : Fin 1) : val_main_v35 (F := Ideal) x0 (ix2 a z) = rms (dd 0x46940000#32) (R x0 a) := by
  rw [val_main_v35_apply]
  have i : idx_main_v35 (ix2 a z) = ix1 a := funext fun d => Fin.ext (by match d with | ⟨0, _⟩ => rfl)
  rw [i, root_at]

end Cert.QuantFfnRefIdeal.Norm

end
-- ==== Proof.QuantFfnValue.lean ====
/- The quantise call on the feed-forward product: the array normalised row by row and rounded to eight bits in groups of 128 lanes. What the
   call leaves in its four results and what the reference computes are the same functions of the arguments. -/
module

public import proofs.«01_k».proof.Defs
public import proofs.«01_k».proof.Proof.Gen.QuantFfn.Frame
public import proofs.«01_k».proof.Proof.Gen.QuantFfnRefIdeal.Run
public import proofs.«01_k».proof.Proof.QuantFfnBlock
public import proofs.«01_k».proof.Proof.QuantFfnRead
public import Idealize.ShloMosaic.Lib.Quiescent

@[expose] public section

set_option maxRecDepth 65536

noncomputable section

open Cert.Quant
open Idealize.ShloMosaic hiding ix0 ix1 ix2 ix3 eq_ix1 eq_ix2
open Idealize.ShloMosaic.TcCoe Idealize.ShloMosaic.ValueIdx Idealize.SL.Sem
open Idealize.ShloMosaic.Pipeline (Dat Window)
open scoped BigOperators

namespace Cert.QuantFfnIdeal.Norm

open Cert.QuantFfnIdeal Cert.QuantFfnIdeal.Gen

/-! ## The arrays the call leaves -/

section
variable (m : (ℓ : Loc nD τ sig) → Buf (Elt Ideal) ℓ) (ρ : Dev nD → PrngReg)

theorem ix0_0 : ∀ t : Fin cfg0.N, win0_0.index t 0 = t.val := (by decide +kernel : ∀ t : Fin grid0.N, win0_0.index t 0 = t.val)
theorem ix0_1 : ∀ t : Fin cfg0.N, win0_0.index t 1 = 0 := (by decide +kernel : ∀ t : Fin grid0.N, win0_0.index t 1 = 0)
theorem ix1_0 : ∀ t : Fin cfg0.N, win0_1.index t 0 = 0 := (by decide +kernel : ∀ t : Fin grid0.N, win0_1.index t 0 = 0)
theorem ix1_1 : ∀ t : Fin cfg0.N, win0_1.index t 1 = 0 := (by decide +kernel : ∀ t : Fin grid0.N, win0_1.index t 1 = 0)
theorem ix2_0 : ∀ t : Fin cfg0.N, win0_2.index t 0 = t.val := (by decide +kernel : ∀ t : Fin grid0.N, win0_2.index t 0 = t.val)
theorem ix2_1 : ∀ t : Fin cfg0.N, win0_2.index t 1 = 0 := (by decide +kernel : ∀ t : Fin grid0.N, win0_2.index t 1 = 0)
theorem ix3_0 : ∀ t : Fin cfg0.N, win0_3.index t 0 = t.val := (by decide +kernel : ∀ t : Fin grid0.N, win0_3.index t 0 = t.val)
theorem ix3_1 : ∀ t : Fin cfg0.N, win0_3.index t 1 = 0 := (by decide +kernel : ∀ t : Fin grid0.N, win0_3.index t 1 = 0)
theorem ix4_0 : ∀ t : Fin cfg0.N, win0_4.index t 0 = t.val := (by decide +kernel : ∀ t : Fin grid0.N, win0_4.index t 0 = t.val)
theorem ix4_1 : ∀ t : Fin cfg0.N, win0_4.index t 1 = 0 := (by decide +kernel : ∀ t : Fin grid0.N, win0_4.index t 1 = 0)
theorem ix5_0 : ∀ t : Fin cfg0.N, win0_5.index t 0 = t.val := (by decide +kernel : ∀ t : Fin grid0.N, win0_5.index t 0 = t.val)
theorem ix5_1 : ∀ t : Fin cfg0.N, win0_5.index t 1 = 0 := (by decide +kernel : ∀ t : Fin grid0.N, win0_5.index t 1 = 0)

theorem lt_N (t : Fin cfg0.N) : t.val < 40 := lt_of_lt_of_eq t.isLt N_0

/-- The row of the whole array that row `p` of point `t`'s block is. -/
def row (t : Fin cfg0.N) (p : Fin 32) : Fin 1280 := ⟨t.val * 32 + p.val, by have := lt_N t; omega⟩

/-- A row of the argument, and its gains. -/
def X (c : Dev nD) (a : Fin 1280) : Fin 18944 → EReal := fun k => m ((c : Thread nD τ).loc main_arg0) (ix2 a k)
def gain (c : Dev nD) : Fin 18944 → EReal := fun k => m ((c : Thread nD τ).loc main_arg1) (ix1 k)

theorem V_gain (c : Dev nD) (k : Fin 18944) : V m c main_v0 (ix2 (n0 := 1) (n1 := 18944) 0 k) = gain m c k := by
  have e : V m c main_v0 = shapeCast S1x18944 (m ((c : Thread nD τ).loc main_arg1)) shapeCasts_S18944_S1x18944 := by
    unfold V hostOps0
    after_results
    rfl
  rw [e]
  exact shapeCast_apply _ _ _ (ix1 k) (by
    rewrite [Shape.rowMajor_val_one, Shape.rowMajor_val_two]
    show k.val = 0 * 18944 + k.val
    omega)

theorem rows_eq (c : Dev nD) (t : Fin cfg0.N) (p : Fin 32) : (fun k => rows (iblk m c 0 t) (ix2 p k)) = X m c (row t p) := funext fun k => by
  rw [rows_apply]
  show V m c main_arg0 ((win0_0.rect t).emb (ix2 p k)) = _
  rw [V_main_arg0]
  refine congrArg (m ((c : Thread nD τ).loc main_arg0)) (funext fun d => Fin.ext ?_)
  match d with
  | ⟨0, _⟩ => exact (Window.rect_emb_val win0_0 t _ 0).trans (congrArg (· * 32 + p.val) (ix0_0 t))
  | ⟨1, _⟩ => exact Window.rect_emb_val_of_index_zero win0_0 t 1 (ix0_1 t) _

theorem gain_eq (c : Dev nD) (t : Fin cfg0.N) : (fun k => iblk m c 1 t (ix2 (n0 := 1) (n1 := 18944) 0 k)) = gain m c := funext fun k => by
  rw [← V_gain]
  show V m c main_v0 ((win0_1.rect t).emb (ix2 (n0 := 1) (n1 := 18944) 0 k)) = _
  refine congrArg (V m c main_v0) (funext fun d => Fin.ext ?_)
  match d with
  | ⟨0, _⟩ => exact Window.rect_emb_val_of_index_zero win0_1 t 0 (ix1_0 t) _
  | ⟨1, _⟩ => exact Window.rect_emb_val_of_index_zero win0_1 t 1 (ix1_1 t) _

/-- What the call leaves: the integers, the scales, the scaled integers, the reciprocal root mean squares. -/
def val2 (c : Dev nD) : Buf (Elt Ideal) ((c : Thread nD τ).loc main_v1_0) := fun i =>
  FloatOps.fptosi (F := Ideal) (φ := .f32) 8 (clip hW (dd 0x46940000#32) (X m c (i 0)) (gain m c) (i 1))
def val3 (c : Dev nD) : Buf (Elt Ideal) ((c : Thread nD τ).loc main_v1_1) := fun i => sc hW (dd 0x46940000#32) (X m c (i 0)) (gain m c) (i 1)
def val4 (c : Dev nD) : Buf (Elt Ideal) ((c : Thread nD τ).loc main_v1_2) := fun i =>
  clip hW (dd 0x46940000#32) (X m c (i 0)) (gain m c) (i 1) * sc hW (dd 0x46940000#32) (X m c (i 0)) (gain m c) (grp hW (i 1))
def val5 (c : Dev nD) : Buf (Elt Ideal) ((c : Thread nD τ).loc main_v1_3) := fun i => rms (dd 0x46940000#32) (X m c (i 0))

theorem point2 (c : Dev nD) (t : Fin cfg0.N) (j : S32x18944.Idx) : out0_2 (iblk m c 0 t) (iblk m c 1 t) j = val2 m c ((win0_2.rect t).emb j) := by
  obtain ⟨p, q, rfl⟩ : ∃ (p : Fin 32) (q : Fin 18944), j = ix2 p q := ⟨j 0, j 1, eq_ix2 (n0 := 32) (n1 := 18944) j⟩
  have e : (win0_2.rect t).emb (ix2 (n0 := 32) (n1 := 18944) p q) = ix2 (n0 := 1280) (n1 := 18944) (row t p) q := funext fun d => Fin.ext (by
    match d with
    | ⟨0, _⟩ => exact (Window.rect_emb_val win0_2 t (ix2 (n0 := 32) (n1 := 18944) p q) 0).trans (congrArg (· * 32 + p.val) (ix2_0 t))
    | ⟨1, _⟩ => exact Window.rect_emb_val_of_index_zero win0_2 t 1 (ix2_1 t) (ix2 (n0 := 32) (n1 := 18944) p q))
  refine Eq.trans ?_ (congrArg (val2 m c) e).symm
  rw [codes_block]
  show FloatOps.fptosi (F := Ideal) (φ := .f32) 8 (clip hW (dd 0x46940000#32) (fun k => rows (iblk m c 0 t) (ix2 p k)) (fun k => iblk m c 1 t (ix2 (n0 := 1) (n1 := 18944) 0 k)) q) = _
  rw [rows_eq, gain_eq]
  rfl

theorem final2 (c : Dev nD) : (dats m 0 c).arrAt 2 cfg0.N = val2 m c :=
  (dats m 0 c).arrAt_eq_of_covers 2 (val2 m c) (by decide +kernel) (fun t _ y => (congrFun (after0_2 m c t) _).trans (point2 m c t y))

theorem point3 (c : Dev nD) (t : Fin cfg0.N) (j : S32x148.Idx) : out0_3 (iblk m c 0 t) (iblk m c 1 t) j = val3 m c ((win0_3.rect t).emb j) := by
  obtain ⟨p, q, rfl⟩ : ∃ (p : Fin 32) (q : Fin 148), j = ix2 p q := ⟨j 0, j 1, eq_ix2 (n0 := 32) (n1 := 148) j⟩
  have e : (win0_3.rect t).emb (ix2 (n0 := 32) (n1 := 148) p q) = ix2 (n0 := 1280) (n1 := 148) (row t p) q := funext fun d => Fin.ext (by
    match d with
    | ⟨0, _⟩ => exact (Window.rect_emb_val win0_3 t (ix2 (n0 := 32) (n1 := 148) p q) 0).trans (congrArg (· * 32 + p.val) (ix3_0 t))
    | ⟨1, _⟩ => exact Window.rect_emb_val_of_index_zero win0_3 t 1 (ix3_1 t) (ix2 (n0 := 32) (n1 := 148) p q))
  refine Eq.trans ?_ (congrArg (val3 m c) e).symm
  rw [scales_block]
  show sc hW (dd 0x46940000#32) (fun k => rows (iblk m c 0 t) (ix2 p k)) (fun k => iblk m c 1 t (ix2 (n0 := 1) (n1 := 18944) 0 k)) q = _
  rw [rows_eq, gain_eq]
  rfl

theorem final3 (c : Dev nD) : (dats m 0 c).arrAt 3 cfg0.N = val3 m c :=
  (dats m 0 c).arrAt_eq_of_covers 3 (val3 m c) (by decide +kernel) (fun t _ y => (congrFun (after0_3 m c t) _).trans (point3 m c t y))

theorem point4 (c : Dev nD) (t : Fin cfg0.N) (j : S32x18944.Idx) : out0_4 (iblk m c 0 t) (iblk m c 1 t) j = val4 m c ((win0_4.rect t).emb j) := by
  obtain ⟨p, q, rfl⟩ : ∃ (p : Fin 32) (q : Fin 18944), j = ix2 p q := ⟨j 0, j 1, eq_ix2 (n0 := 32) (n1 := 18944) j⟩
  have e : (win0_4.rect t).emb (ix2 (n0 := 32) (n1 := 18944) p q) = ix2 (n0 := 1280) (n1 := 18944) (row t p) q := funext fun d => Fin.ext (by
    match d with
    | ⟨0, _⟩ => exact (Window.rect_emb_val win0_4 t (ix2 (n0 := 32) (n1 := 18944) p q) 0).trans (congrArg (· * 32 + p.val) (ix4_0 t))
    | ⟨1, _⟩ => exact Window.rect_emb_val_of_index_zero win0_4 t 1 (ix4_1 t) (ix2 (n0 := 32) (n1 := 18944) p q))
  refine Eq.trans ?_ (congrArg (val4 m c) e).symm
  rw [deqs_block]
  show clip hW (dd 0x46940000#32) (fun k => rows (iblk m c 0 t) (ix2 p k)) (fun k => iblk m c 1 t (ix2 (n0 := 1) (n1 := 18944) 0 k)) q
    * sc hW (dd 0x46940000#32) (fun k => rows (iblk m c 0 t) (ix2 p k)) (fun k => iblk m c 1 t (ix2 (n0 := 1) (n1 := 18944) 0 k)) (grp hW q) = _
  rw [rows_eq, gain_eq]
  rfl

theorem final4 (c : Dev nD) : (dats m 0 c).arrAt 4 cfg0.N = val4 m c :=
  (dats m 0 c).arrAt_eq_of_covers 4 (val4 m c) (by decide +kernel) (fun t _ y => (congrFun (after0_4 m c t) _).trans (point4 m c t y))

theorem point5 (c : Dev nD) (t : Fin cfg0.N) (j : S32x1.Idx) : out0_5 (iblk m c 0 t) (iblk m c 1 t) j = val5 m c ((win0_5.rect t).emb j) := by
  obtain ⟨p, q, rfl⟩ : ∃ (p : Fin 32) (q : Fin 1), j = ix2 p q := ⟨j 0, j 1, eq_ix2 (n0 := 32) (n1 := 1) j⟩
  have e : (win0_5.rect t).emb (ix2 (n0 := 32) (n1 := 1) p q) = ix2 (n0 := 1280) (n1 := 1) (row t p) q := funext fun d => Fin.ext (by
    match d with
    | ⟨0, _⟩ => exact (Window.rect_emb_val win0_5 t (ix2 (n0 := 32) (n1 := 1) p q) 0).trans (congrArg (· * 32 + p.val) (ix5_0 t))
    | ⟨1, _⟩ => exact Window.rect_emb_val_of_index_zero win0_5 t 1 (ix5_1 t) (ix2 (n0 := 32) (n1 := 1) p q))
  refine Eq.trans ?_ (congrArg (val5 m c) e).symm
  rw [root_block]
  rw [rows_eq]
  rfl

theorem final5 (c : Dev nD) : (dats m 0 c).arrAt 5 cfg0.N = val5 m c :=
  (dats m 0 c).arrAt_eq_of_covers 5 (val5 m c) (by decide +kernel) (fun t _ y => (congrFun (after0_5 m c t) _).trans (point5 m c t y))

end

end Cert.QuantFfnIdeal.Norm

/-! ## The claims -/

namespace Cert.Proof.QuantFfnClaims

theorem frame_p : Cert.quiescent_QuantFfn := fun m ρ _ => Cert.QuantFfn.Gen.frame m ρ
theorem frame_pi : Cert.quiescent_QuantFfnIdeal := fun m ρ _ => Cert.QuantFfnIdeal.Gen.frame m ρ
theorem frame_ri : Cert.quiescent_QuantFfnRefIdeal := fun m ρ _ =>
  (θ_run Cert.QuantFfnRefIdeal.defs _ _).mono (fun r h => ⟨fun c => (h c).2.2.2.2, Idealize.ShloMosaic.sem_eq_zero_of_no_sems (by decide) r.2⟩)
    (Cert.QuantFfnRefIdeal.Value.run (F := Ideal) m ρ)
theorem preserves : Cert.preserves_QuantFfn_QuantFfnIdeal := trivial

/-- Both programs end with the integers, the scales, the scaled integers and the reciprocal root mean squares. -/
theorem algebraic : Cert.algebraic_QuantFfnIdeal_QuantFfnRefIdeal := by
  intro m ρ m' ρ' _ hag
  refine ⟨fun c => Cert.QuantFfnIdeal.Norm.val2 m c, fun c => Cert.QuantFfnIdeal.Norm.val3 m c, fun c => Cert.QuantFfnIdeal.Norm.val4 m c, fun c => Cert.QuantFfnIdeal.Norm.val5 m c, ?_, ?_⟩
  · exact (θ_run _ _ _).mono (fun _ h c => ⟨(h c).1.trans (Cert.QuantFfnIdeal.Norm.final2 m c), (h c).2.1.trans (Cert.QuantFfnIdeal.Norm.final3 m c),
      (h c).2.2.1.trans (Cert.QuantFfnIdeal.Norm.final4 m c), (h c).2.2.2.1.trans (Cert.QuantFfnIdeal.Norm.final5 m c), (h c).2.2.2.2⟩)
      (Cert.QuantFfnIdeal.Value.run_blocks m ρ)
  · refine (θ_run _ _ _).mono (fun _ h c => ⟨(h c).1.trans ?_, (h c).2.1.trans ?_, (h c).2.2.1.trans ?_, (h c).2.2.2.1.trans ?_, (h c).2.2.2.2⟩) (Cert.QuantFfnRefIdeal.Value.run (F := Ideal) m' ρ')
    · rw [Cert.QuantFfnRefIdeal.Read.val_main_v33_eq, (hag c).1, (hag c).2]
      exact funext fun i => (congrArg _ (eq_ix2 (n0 := 1280) (n1 := 18944) i)).trans (Cert.QuantFfnRefIdeal.Norm.codes_at _ _ (i 0) (i 1))
    · rw [Cert.QuantFfnRefIdeal.Read.val_main_v20_eq, (hag c).1, (hag c).2]
      exact funext fun i => (congrArg _ (eq_ix2 (n0 := 1280) (n1 := 148) i)).trans (Cert.QuantFfnRefIdeal.Norm.scale_at _ _ (i 0) (i 1))
    · rw [Cert.QuantFfnRefIdeal.Read.val_main_v34_eq, (hag c).1, (hag c).2]
      exact funext fun i => (congrArg _ (eq_ix2 (n0 := 1280) (n1 := 18944) i)).trans (Cert.QuantFfnRefIdeal.Norm.deqs_at _ _ (i 0) (i 1))
    · rw [Cert.QuantFfnRefIdeal.Read.val_main_v35_eq, (hag c).1]
      exact funext fun i => (congrArg _ (eq_ix2 (n0 := 1280) (n1 := 1) i)).trans (Cert.QuantFfnRefIdeal.Norm.roots_at _ (i 0) (i 1))

end Cert.Proof.QuantFfnClaims

end
-- ==== Proof.Rotary.lean ====
/- The query, key and value products with the rotation of the position, as mathematics: over the extended reals, at an index. -/
module

public import proofs.«01_k».proof.Proof.Bitlinear

@[expose] public section

noncomputable section

open Cert.Unpack Idealize.ShloMosaic Idealize.ShloMosaic.ValueIdx

namespace Cert.Rotary

theorem h7168 : 7168 = 4 * 1792 := rfl

/-- The row of the activations that position `s` of sequence `b` is. -/
def row (b : Fin 2) (s : Fin 640) : Fin 1280 := ⟨b.val * 640 + s.val, by omega⟩

section
variable (x : (⟨2, ![1280, 7168]⟩ : Shape).Idx → EReal) (wq : (⟨2, ![1792, 7168]⟩ : Shape).Idx → BitVec 8)
  (wk wv : (⟨2, ![1792, 1024]⟩ : Shape).Idx → BitVec 8) (z : (⟨1, ![3]⟩ : Shape).Idx → EReal)
  (A : (⟨3, ![2, 640, 64]⟩ : Shape).Idx → EReal)

/-- Column `c` of the three scaled products side by side: 7168 columns of queries, 1024 of keys, 1024 of values. -/
def lin (a : Fin 1280) (c : ℕ) : EReal :=
  if h : c < 7168 then bitdot h7168 x wq a ⟨c, h⟩ * z (ix1 0)
  else if h : c < 8192 then bitdot h7168 x wk a ⟨c - 7168, by omega⟩ * z (ix1 1)
  else if h : c < 9216 then bitdot h7168 x wv a ⟨c - 8192, by omega⟩ * z (ix1 2)
  else 0

/-- The column half a head away in the same head of 128 columns. -/
def mate (c : ℕ) : ℕ := c / 128 * 128 + (c % 128 + 64) % 128

/-- The cosine and the signed sine of the angle of column `r` at a position. -/
def cosAt (b : Fin 2) (s : Fin 640) (r : ℕ) : EReal := Ideal.cos (A (ix3 b s ⟨r % 64, Nat.mod_lt _ (by decide)⟩))
def sinAt (b : Fin 2) (s : Fin 640) (r : ℕ) : EReal :=
  if r % 128 < 64 then - Ideal.sin (A (ix3 b s ⟨r % 64, Nat.mod_lt _ (by decide)⟩))
  else Ideal.sin (A (ix3 b s ⟨r % 64, Nat.mod_lt _ (by decide)⟩))

/-- The queries and keys rotated by their position's angles, and the values as they are. -/
def qkv (b : Fin 2) (s : Fin 640) (c : ℕ) : EReal :=
  if 8192 ≤ c then lin x wq wk wv z (row b s) c
  else lin x wq wk wv z (row b s) c * cosAt A b s c + lin x wq wk wv z (row b s) (mate c) * sinAt A b s c

theorem lin_q (a : Fin 1280) (c : ℕ) (d : Fin 7168) (h : c = d.val) : lin x wq wk wv z a c = bitdot h7168 x wq a d * z (ix1 0) := by
  subst h
  unfold lin
  rw [dif_pos d.isLt]

theorem lin_k (a : Fin 1280) (c : ℕ) (d : Fin 1024) (h : c = 7168 + d.val) : lin x wq wk wv z a c = bitdot h7168 x wk a d * z (ix1 1) := by
  subst h
  have := d.isLt
  unfold lin
  rw [dif_neg (by omega), dif_pos (by omega)]
  exact congrArg (fun e => bitdot h7168 x wk a e * z (ix1 1)) (Fin.ext (by show 7168 + d.val - 7168 = d.val; omega))

theorem lin_v (a : Fin 1280) (c : ℕ) (d : Fin 1024) (h : c = 8192 + d.val) : lin x wq wk wv z a c = bitdot h7168 x wv a d * z (ix1 2) := by
  subst h
  have := d.isLt
  unfold lin
  rw [dif_neg (by omega), dif_neg (by omega), dif_pos (by omega)]
  exact congrArg (fun e => bitdot h7168 x wv a e * z (ix1 2)) (Fin.ext (by show 8192 + d.val - 8192 = d.val; omega))

end

end Cert.Rotary

end
-- ==== Proof.QkvBlock.lean ====
/- The query, key and value call: what its body leaves in its block, for any point of the grid. -/
module

public import proofs.«01_k».proof.Proof.Gen.QkvIdeal.Value
public import proofs.«01_k».proof.Proof.Rotary
public import Idealize.ShloMosaic.Lib.BitcastFour
public import Idealize.ShloMosaic.Lib.KernelVsHost

@[expose] public section

set_option maxRecDepth 16384

noncomputable section

open Cert.Unpack Idealize.ShloMosaic Idealize.ShloMosaic.TcCoe Idealize.ShloMosaic.ValueIdx Idealize.SL.Sem
open Idealize.ShloMosaic.Pipeline (Dat Window)
open scoped BigOperators

namespace Cert.QkvIdeal.Sum

open Cert.QkvIdeal Cert.QkvIdeal.Gen Cert.Rotary

theorem hz : (![0, 0] : Fin 2 → Nat) = fun _ => 0 := funext fun a => by fin_cases a <;> rfl

/-! ## What a grid column selects -/

theorem select_query {α : Type} (j : ℕ) (hj : j < 18) (a b : α) :
    Scalar.select (Scalar.cmpi .slt (BitVec.ofNat 32 j) 14#32) a b = if j < 14 then a else b := by
  have h := (by decide : ∀ j : Fin 18, Scalar.cmpi .slt (BitVec.ofNat 32 j.val) 14#32 = if j.val < 14 then 1#1 else 0#1) ⟨j, hj⟩
  rw [h]
  unfold Scalar.select
  by_cases hc : j < 14
  · rw [if_pos hc, if_pos hc]; exact if_pos rfl
  · rw [if_neg hc, if_neg hc]; exact if_neg (by decide)

theorem select_value {α : Type} (j : ℕ) (hj : j < 18) (a b : α) :
    Scalar.select (Scalar.cmpi .sge (BitVec.ofNat 32 j) 16#32) a b = if 16 ≤ j then a else b := by
  have h := (by decide : ∀ j : Fin 18, Scalar.cmpi .sge (BitVec.ofNat 32 j.val) 16#32 = if 16 ≤ j.val then 1#1 else 0#1) ⟨j, hj⟩
  rw [h]
  unfold Scalar.select
  by_cases hc : 16 ≤ j
  · rw [if_pos hc, if_pos hc]; exact if_pos rfl
  · rw [if_neg hc, if_neg hc]; exact if_neg (by decide)

/-- The weight block and the scale a grid column works with. -/
def wsel (j : ℕ) (q k v : Vec Ideal S1792x512 .i8) : Vec Ideal S1792x512 .i8 := if j < 14 then q else if 16 ≤ j then v else k
def ssel (j : ℕ) (q k v : EReal) : EReal := if j < 14 then q else if 16 ≤ j then v else k

/-- Words read as bytes and the bytes read as words again are the words. -/
theorem words_bytes_words (y : IVec S448x512 32) :
    bitcast S448x512 32 (bitcast S1792x512 8 y bitcasts_S448x512_w32_S1792x512_w8) bitcasts_S1792x512_w8_S448x512_w32 = y := by
  funext i
  obtain ⟨a, l, rfl⟩ : ∃ (a : Fin 448) (l : Fin 512), i = ix2 a l := ⟨i 0, i 1, eq_ix2 (n0 := 448) (n1 := 512) i⟩
  refine BitVec.eq_of_getLsbD_eq fun q hq => ?_
  have ha := a.isLt
  have hp : 4 * a.val + q / 8 < 1792 := by omega
  rw [bitcast_8_32_getLsbD_ix2 _ bitcasts_S1792x512_w8_S448x512_w32 a l q hq ⟨4 * a.val + q / 8, hp⟩ rfl,
    bitcast_32_8_getLsbD_ix2 y bitcasts_S448x512_w32_S1792x512_w8 ⟨4 * a.val + q / 8, hp⟩ l a (by show (4 * a.val + q / 8) / 4 = a.val; omega) (q % 8) (by omega)]
  exact congrArg (y (ix2 a l)).getLsbD (by show (4 * a.val + q / 8) % 4 * 8 + q % 8 = q; omega)

theorem coord_lt (i : grid0.Coords) : (i 1).val < 18 := (i 1).isLt

theorem words_eq (i : grid0.Coords) (v2 v4 v6 : Vec Ideal S1792x512 .i8) :
    k0_pay3 (F := Ideal) i v2 v4 v6 = bitcast S448x512 32 (wsel (i 1).val v2 v6 v4) bitcasts_S1792x512_w8_S448x512_w32 := by
  unfold k0_pay3
  dsimp only
  rw [words_bytes_words, select_query _ (coord_lt i), select_value _ (coord_lt i)]
  unfold wsel
  split
  · rfl
  · split <;> rfl

/-- The product of the block of activations with the selected weight block. -/
theorem acc_apply (i : grid0.Coords) (v2 v4 v6 : Vec Ideal S1792x512 .i8) (v43 : Vec Ideal S640x7168 .bf16) (a : Fin 640) (l : Fin 512) :
    k0_pay8 (F := Ideal) (k0_pay4 (F := Ideal) i v2 v4 v6) (k0_pay5 (F := Ideal) i v2 v4 v6) (k0_pay6 (F := Ideal) i v2 v4 v6) (k0_pay7 (F := Ideal) i v2 v4 v6) v43 (ix2 a l)
      = bitdot h7168 v43 (wsel (i 1).val v2 v6 v4) a l := by
  unfold k0_pay8 k0_pay4 k0_pay5 k0_pay6 k0_pay7
  dsimp only
  rw [words_eq]
  exact kernel_apply h7168 bitcasts_S1792x512_w8_S448x512_w32 bitcasts_S448x512_w32_S1792x512_w8
    concatenates_S1792x512_S1792x512_S1792x512_S1792x512_S7168x512_d0 v43 (wsel (i 1).val v2 v6 v4) a l

theorem scale_eq (j : ℕ) (hj : j < 18) (q v k : EReal) :
    k0_pay9 (F := Ideal) (Scalar.cmpi .slt (BitVec.ofNat 32 j) 14#32) (Scalar.cmpi .sge (BitVec.ofNat 32 j) 16#32) q v k = ssel j q k v := by
  unfold k0_pay9
  dsimp only
  rw [select_query _ hj, select_value _ hj]
  rfl

/-! ## A head of the block -/

/-- A head of 128 columns as the body computes it. -/
def head (v1 : BitVec 1) (acc : FVec Ideal S640x512 .f32) (z : Elt Ideal .f32) (cs sn : FVec Ideal S640x128 .f32) (o : ℕ) (hs : S640x512.Slices ![0, o] S640x128) : FVec Ideal S640x128 .bf16 :=
  truncf .bf16 (Scalar.select v1 (mulf (extractStridedSlice S640x128 ![0, o] acc hs) (broadcast S640x128 z))
    (addf (mulf (mulf (extractStridedSlice S640x128 ![0, o] acc hs) (broadcast S640x128 z)) cs)
      (mulf (dynamicRotate 1 64#32 none (mulf (extractStridedSlice S640x128 ![0, o] acc hs) (broadcast S640x128 z)) rotates_S640x128_d1) sn))) bitsLt_bf16_f32

theorem lt_mate (l : Fin 512) : mate l.val < 512 := by unfold mate; omega

/-- What a block of 512 columns is to hold, from its scaled product `T`. -/
def turned (j : ℕ) (T : Fin 512 → EReal) (cs sn : Fin 128 → EReal) (l : Fin 512) : EReal :=
  if 16 ≤ j then T l else T l * cs ⟨l.val % 128, Nat.mod_lt _ (by decide)⟩ + T ⟨mate l.val, lt_mate l⟩ * sn ⟨l.val % 128, Nat.mod_lt _ (by decide)⟩

theorem head_apply (j : ℕ) (hj : j < 18) (acc : FVec Ideal S640x512 .f32) (z : Elt Ideal .f32) (cs sn : FVec Ideal S640x128 .f32) (k : Fin 4) (o : ℕ) (ho : o = k.val * 128)
    (hs : S640x512.Slices ![0, o] S640x128) (inb : ∀ a, (![0, o] : Fin 2 → Nat) a + S640x128.size a ≤ S640x512.size a) (x : S640x128.Idx) :
    head (Scalar.cmpi .sge (BitVec.ofNat 32 j) 16#32) acc z cs sn o hs x
      = (fun y : S640x512.Idx => turned j (fun l => acc (ix2 (y 0) l) * z) (fun r => cs (ix2 (y 0) r)) (fun r => sn (ix2 (y 0) r)) (y 1))
          ((Rect.unit (s := S640x512) ![0, o] S640x128.size inb).emb x) := by
  obtain ⟨a, r, rfl⟩ : ∃ (a : Fin 640) (r : Fin 128), x = ix2 a r := ⟨x 0, x 1, eq_ix2 (n0 := 640) (n1 := 128) x⟩
  subst ho
  have hk := k.isLt
  have hr := r.isLt
  have e : (Rect.unit (s := S640x512) ![0, k.val * 128] S640x128.size inb).emb (ix2 a r) = (ix2 a ⟨k.val * 128 + r.val, by omega⟩ : S640x512.Idx) :=
    funext fun d => Fin.ext (by
      match d with
      | ⟨0, _⟩ => show 0 + 1 * a.val = a.val; omega
      | ⟨1, _⟩ => show k.val * 128 + 1 * r.val = k.val * 128 + r.val; omega)
  rw [e]
  show head _ acc z cs sn _ hs (ix2 a r)
    = turned j (fun l => acc (ix2 a l) * z) (fun r => cs (ix2 a r)) (fun r => sn (ix2 a r)) ⟨k.val * 128 + r.val, by omega⟩
  have sl : ∀ r' : Fin 128, extractStridedSlice S640x128 ![0, k.val * 128] acc hs (ix2 a r') = acc (ix2 a (⟨k.val * 128 + r'.val, by omega⟩ : Fin 512)) := fun r' =>
    extractStridedSlice_apply _ acc hs (ix2 a r') _ (fun d => match d with
      | ⟨0, _⟩ => by show a.val = 0 + a.val; omega
      | ⟨1, _⟩ => rfl)
  have ro : ∀ u : FVec Ideal S640x128 .f32, dynamicRotate 1 64#32 none u rotates_S640x128_d1 (ix2 a r) = u (ix2 a (⟨(r.val + 64) % 128, Nat.mod_lt _ (by decide)⟩ : Fin 128)) := fun u =>
    dynamicRotate_apply 1 64#32 u rotates_S640x128_d1 (ix2 a r) _ (fun d => match d with
      | ⟨0, _⟩ => rfl
      | ⟨1, _⟩ => by show (r.val + 64) % 128 = (r.val + 128 - 64 % 128) % 128; omega)
  unfold head
  rw [select_value _ hj]
  unfold turned
  have c1 : (⟨(k.val * 128 + r.val) % 128, Nat.mod_lt _ (by decide)⟩ : Fin 128) = r := Fin.ext (by show (k.val * 128 + r.val) % 128 = r.val; omega)
  have c2 : ∀ h, (⟨mate (k.val * 128 + r.val), h⟩ : Fin 512) = ⟨k.val * 128 + (r.val + 64) % 128, by omega⟩ := fun h => Fin.ext (by
    show (k.val * 128 + r.val) / 128 * 128 + ((k.val * 128 + r.val) % 128 + 64) % 128 = k.val * 128 + (r.val + 64) % 128; omega)
  by_cases hc : 16 ≤ j
  · rw [if_pos hc, if_pos hc]
    show extractStridedSlice S640x128 ![0, k.val * 128] acc hs (ix2 a r) * z = _
    rw [sl]
  · rw [if_neg hc, if_neg hc]
    show extractStridedSlice S640x128 ![0, k.val * 128] acc hs (ix2 a r) * z * cs (ix2 a r)
      + dynamicRotate 1 64#32 none (mulf (extractStridedSlice S640x128 ![0, k.val * 128] acc hs) (broadcast S640x128 z)) rotates_S640x128_d1 (ix2 a r) * sn (ix2 a r) = _
    rw [ro]
    show _ + extractStridedSlice S640x128 ![0, k.val * 128] acc hs (ix2 a _) * z * sn (ix2 a r) = _
    rw [sl, sl]
    dsimp only
    rw [c1, c2]

/-! ## The block -/

section
variable (m : (ℓ : Loc nD τ sig) → Buf (Elt Ideal) ℓ)

/-- What the body leaves at an index of its block, from the blocks it reads. -/
theorem block_apply (c : Dev nD) (t : Fin cfg0.N) (a : Fin 640) (l : Fin 512) :
    outsAt0 m c t (ix2 a l)
      = turned (grid0.coords t 1).val
          (fun l' => bitdot h7168 (iblk m c 1 t) (wsel (grid0.coords t 1).val (iblk m c 2 t) (iblk m c 3 t) (iblk m c 4 t)) a l'
            * ssel (grid0.coords t 1).val (iblk m c 0 t (ix1 0)) (iblk m c 0 t (ix1 1)) (iblk m c 0 t (ix1 2)))
          (fun r => iblk m c 5 t (ix2 a r)) (fun r => iblk m c 6 t (ix2 a r)) l := by
  have hj : (grid0.coords t 1).val < 18 := coord_lt _
  unfold outsAt0 out0_A_7
  rw [View.read_writes_eq_canon _ _ _ (cover0_A_7 c _ _ _ _ _ _ _ _ _ _ _ _ _ _ _ _ _ _ _ _ _ _ _ _)]
  refine (View.canon_apply_of_pieces (Val := Elt Ideal) (e := .bf16)
    (fun y : S640x512.Idx => turned (grid0.coords t 1).val
      (fun l' => k0_pay8 (F := Ideal) (k0_pay4 (F := Ideal) (grid0.coords t) (iblk m c 2 t) (iblk m c 4 t) (iblk m c 3 t)) (k0_pay5 (F := Ideal) (grid0.coords t) (iblk m c 2 t) (iblk m c 4 t) (iblk m c 3 t))
        (k0_pay6 (F := Ideal) (grid0.coords t) (iblk m c 2 t) (iblk m c 4 t) (iblk m c 3 t)) (k0_pay7 (F := Ideal) (grid0.coords t) (iblk m c 2 t) (iblk m c 4 t) (iblk m c 3 t)) (iblk m c 1 t) (ix2 (y 0) l')
        * k0_pay9 (F := Ideal) (Scalar.cmpi .slt (BitVec.ofNat 32 (grid0.coords t 1).val) 14#32) (Scalar.cmpi .sge (BitVec.ofNat 32 (grid0.coords t 1).val) 16#32)
            (iblk m c 0 t (ix1 0)) (iblk m c 0 t (ix1 2)) (iblk m c 0 t (ix1 1)))
      (fun r => k0_pay10 (F := Ideal) (iblk m c 5 t) (ix2 (y 0) r)) (fun r => k0_pay11 (F := Ideal) (iblk m c 6 t) (ix2 (y 0) r)) (y 1)) _ ?_ (ix2 a l) (cover0_A_7 c _ _ _ _ _ _ _ _ _ _ _ _ _ _ _ _ _ _ _ _ _ _ _ _ (ix2 a l))).trans ?_
  · unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread]
    rw [View.ld_unit_zero (S := S640x7168) hz, View.ld_unit_zero (S := S1792x512) hz, View.ld_unit_zero (S := S1792x512) hz, View.ld_unit_zero (S := S1792x512) hz,
      View.ld_unit_zero (S := S640x128) hz, View.ld_unit_zero (S := S640x128) hz]
    have e0 : ∀ h, View.ld (iblk m c 0 t) (Rect.unit ![0] ![1] inb_S3_S1_0) (Shape.Idx.first h) = iblk m c 0 t (ix1 0) := fun h =>
      congrArg (iblk m c 0 t) (funext fun d => Fin.ext (by match d with | ⟨0, _⟩ => rfl))
    have e1 : ∀ h, View.ld (iblk m c 0 t) (Rect.unit ![1] ![1] inb_S3_S1_1) (Shape.Idx.first h) = iblk m c 0 t (ix1 1) := fun h =>
      congrArg (iblk m c 0 t) (funext fun d => Fin.ext (by match d with | ⟨0, _⟩ => rfl))
    have e2 : ∀ h, View.ld (iblk m c 0 t) (Rect.unit ![2] ![1] inb_S3_S1_2) (Shape.Idx.first h) = iblk m c 0 t (ix1 2) := fun h =>
      congrArg (iblk m c 0 t) (funext fun d => Fin.ext (by match d with | ⟨0, _⟩ => rfl))
    rw [e0, e1, e2]
    exact List.forall_mem_cons.2 ⟨head_apply _ hj _ _ _ _ 3 384 rfl slices_S640x512_o0_384_S640x128 inb_S640x512_S640x128_0_384,
      List.forall_mem_cons.2 ⟨head_apply _ hj _ _ _ _ 2 256 rfl slices_S640x512_o0_256_S640x128 inb_S640x512_S640x128_0_256,
      List.forall_mem_cons.2 ⟨head_apply _ hj _ _ _ _ 1 128 rfl slices_S640x512_o0_128_S640x128 inb_S640x512_S640x128_0_128,
      List.forall_mem_cons.2 ⟨head_apply _ hj _ _ _ _ 0 0 rfl slices_S640x512_o0_0_S640x128 inb_S640x512_S640x128_0_0,
      List.forall_mem_nil _⟩⟩⟩⟩
  · have i10 : k0_pay10 (F := Ideal) (iblk m c 5 t) = iblk m c 5 t := shapeCast_self _ _
    have i11 : k0_pay11 (F := Ideal) (iblk m c 6 t) = iblk m c 6 t := shapeCast_self _ _
    rw [i10, i11, scale_eq _ hj]
    exact congrArg (fun T => turned (grid0.coords t 1).val T (fun r => iblk m c 5 t (ix2 a r)) (fun r => iblk m c 6 t (ix2 a r)) l)
      (funext fun l' => congrArg (· * ssel (grid0.coords t 1).val (iblk m c 0 t (ix1 0)) (iblk m c 0 t (ix1 1)) (iblk m c 0 t (ix1 2)))
        (acc_apply (grid0.coords t) (iblk m c 2 t) (iblk m c 4 t) (iblk m c 3 t) (iblk m c 1 t) a l'))

end

end Cert.QkvIdeal.Sum

end
-- ==== Proof.QkvRead.lean ====
/- The reference's query, key and value products and their rotation, stage by stage at an index. -/
module

public import proofs.«01_k».proof.Proof.Gen.QkvRefIdeal.Read
public import proofs.«01_k».proof.Proof.Rotary

@[expose] public section

set_option maxRecDepth 16384

noncomputable section

open Cert.Unpack Idealize.ShloMosaic Idealize.ShloMosaic.TcCoe Idealize.ShloMosaic.ValueIdx

namespace Cert.QkvRefIdeal.Sum

open Cert.QkvRefIdeal Cert.QkvRefIdeal.Gen Cert.QkvRefIdeal.Read Cert.Rotary

theorem s0_apply (x4 : Vec Ideal S3 .f32) (i : S_.Idx) : val_main_v1 (F := Ideal) x4 i = x4 (ix1 0) := by
  show val_main_v0 (F := Ideal) x4 _ = _
  rw [val_main_v0_apply]
  exact congrArg x4 (funext fun d => Fin.ext (by match d with | ⟨0, _⟩ => exact Nat.lt_one_iff.mp (((Shape.reshapeEquiv shapeCasts_S1_S_) i) 0).isLt))

theorem s1_apply (x4 : Vec Ideal S3 .f32) (i : S_.Idx) : val_main_v49 (F := Ideal) x4 i = x4 (ix1 1) := by
  show val_main_v48 (F := Ideal) x4 _ = _
  rw [val_main_v48_apply]
  exact congrArg x4 (funext fun d => Fin.ext (by match d with | ⟨0, _⟩ => exact congrArg (1 + ·) (Nat.lt_one_iff.mp (Fin.isLt _))))

theorem s2_apply (x4 : Vec Ideal S3 .f32) (i : S_.Idx) : val_main_v97 (F := Ideal) x4 i = x4 (ix1 2) := by
  show val_main_v96 (F := Ideal) x4 _ = _
  rw [val_main_v96_apply]
  exact congrArg x4 (funext fun d => Fin.ext (by match d with | ⟨0, _⟩ => exact congrArg (2 + ·) (Nat.lt_one_iff.mp (Fin.isLt _))))

/-- The angles, doubled along the last axis. -/
theorem angle_apply (x5 : Vec Ideal S2 .i32) (b : Fin 2) (s : Fin 640) (r : Fin 128) :
    val_main_v167 (F := Ideal) x5 (ix3 b s r) = val_main_v166 (F := Ideal) x5 (ix3 b s ⟨r.val % 64, Nat.mod_lt _ (by decide)⟩) := by
  unfold val_main_v167
  generalize val_main_v166 (F := Ideal) x5 = A
  have hr := r.isLt
  by_cases h : r.val < 64
  · exact concatenate_pair_apply_left (s₁ := S2x640x64) (s₂ := S2x640x64) 2 A A concatenates_S2x640x64_S2x640x64_S2x640x128_d2 (ix3 b s r) rfl _ (fun d => match d with
      | ⟨0, _⟩ => rfl
      | ⟨1, _⟩ => rfl
      | ⟨2, _⟩ => by show r.val % 64 = r.val; omega)
  · exact concatenate_pair_apply_right (s₁ := S2x640x64) (s₂ := S2x640x64) 2 A A concatenates_S2x640x64_S2x640x64_S2x640x128_d2 (ix3 b s r) rfl rfl _ (fun d => match d with
      | ⟨0, _⟩ => fun _ => rfl
      | ⟨1, _⟩ => fun _ => rfl
      | ⟨2, _⟩ => fun hn => absurd rfl hn) (by show r.val % 64 + 64 = r.val; omega)

theorem wide_apply (x5 : Vec Ideal S2 .i32) (b : Fin 2) (s : Fin 640) (r : Fin 128) :
    val_main_v168 (F := Ideal) x5 (ix4 b s (0 : Fin 1) r) = val_main_v166 (F := Ideal) x5 (ix3 b s ⟨r.val % 64, Nat.mod_lt _ (by decide)⟩) := by
  rw [val_main_v168_apply, ← angle_apply]
  exact congrArg (val_main_v167 (F := Ideal) x5) (funext fun d => match d with
    | ⟨0, _⟩ => rfl
    | ⟨1, _⟩ => rfl
    | ⟨2, _⟩ => rfl)

theorem cos_apply (x5 : Vec Ideal S2 .i32) (b : Fin 2) (s : Fin 640) (r : Fin 128) :
    val_main_v169 (F := Ideal) x5 (ix4 b s (0 : Fin 1) r) = cosAt (val_main_v166 (F := Ideal) x5) b s r.val := by
  rw [val_main_v169_apply, wide_apply]
  rfl

theorem sin_apply (x5 : Vec Ideal S2 .i32) (b : Fin 2) (s : Fin 640) (r : Fin 128) :
    val_main_v170 (F := Ideal) x5 (ix4 b s (0 : Fin 1) r) = Ideal.sin (val_main_v166 (F := Ideal) x5 (ix3 b s ⟨r.val % 64, Nat.mod_lt _ (by decide)⟩)) := by
  rw [val_main_v170_apply, wide_apply]
  rfl

theorem q_prod (x0 : Vec Ideal S1280x7168 .bf16) (w : Vec Ideal S1792x7168 .i8) (a : Fin 1280) (c : Fin 7168) :
    val_main_v44 (F := Ideal) x0 w (ix2 a c) = bitdot h7168 x0 w a c :=
  host_apply h7168 natLt_8_32 x0 slices_S1280x7168_S1280x1792_0_0 slices_S1280x7168_S1280x1792_0_1792 slices_S1280x7168_S1280x1792_0_3584
    slices_S1280x7168_S1280x1792_0_5376 rfl rfl rfl w a c

/-- The scaled product, a head at a time. -/
theorem q_apply (x0 : Vec Ideal S1280x7168 .bf16) (w : Vec Ideal S1792x7168 .i8) (x4 : Vec Ideal S3 .f32) (b : Fin 2) (s : Fin 640) (h : Fin 56) (r : Fin 128) :
    val_main_v47 (F := Ideal) x0 w x4 (ix4 b s h r)
      = bitdot h7168 x0 w (row b s) ⟨h.val * 128 + r.val, by omega⟩ * x4 (ix1 0) := by
  have e : idx_main_v47 (ix4 b s h r) = (ix2 (row b s) ⟨h.val * 128 + r.val, by omega⟩ : S1280x7168.Idx) := funext fun d => Fin.ext (by
    match d with
    | ⟨0, _⟩ => show (((b.val * 640 + s.val) * 56 + h.val) * 128 + r.val) / 7168 = b.val * 640 + s.val; omega
    | ⟨1, _⟩ => show (((b.val * 640 + s.val) * 56 + h.val) * 128 + r.val) % 7168 = h.val * 128 + r.val; omega)
  rw [val_main_v47_apply, e, val_main_v46_apply, q_prod, val_main_v45_apply, s0_apply]
  rfl

theorem k_prod (x0 : Vec Ideal S1280x7168 .bf16) (w : Vec Ideal S1792x1024 .i8) (a : Fin 1280) (c : Fin 1024) :
    val_main_v92 (F := Ideal) x0 w (ix2 a c) = bitdot h7168 x0 w a c :=
  host_apply h7168 natLt_8_32 x0 slices_S1280x7168_S1280x1792_0_0 slices_S1280x7168_S1280x1792_0_1792 slices_S1280x7168_S1280x1792_0_3584
    slices_S1280x7168_S1280x1792_0_5376 rfl rfl rfl w a c

/-- The scaled product, a head at a time. -/
theorem k_apply (x0 : Vec Ideal S1280x7168 .bf16) (w : Vec Ideal S1792x1024 .i8) (x4 : Vec Ideal S3 .f32) (b : Fin 2) (s : Fin 640) (h : Fin 8) (r : Fin 128) :
    val_main_v95 (F := Ideal) x0 w x4 (ix4 b s h r)
      = bitdot h7168 x0 w (row b s) ⟨h.val * 128 + r.val, by omega⟩ * x4 (ix1 1) := by
  have e : idx_main_v95 (ix4 b s h r) = (ix2 (row b s) ⟨h.val * 128 + r.val, by omega⟩ : S1280x1024.Idx) := funext fun d => Fin.ext (by
    match d with
    | ⟨0, _⟩ => show (((b.val * 640 + s.val) * 8 + h.val) * 128 + r.val) / 1024 = b.val * 640 + s.val; omega
    | ⟨1, _⟩ => show (((b.val * 640 + s.val) * 8 + h.val) * 128 + r.val) % 1024 = h.val * 128 + r.val; omega)
  rw [val_main_v95_apply, e, val_main_v94_apply, k_prod, val_main_v93_apply, s1_apply]
  rfl

theorem v_prod (x0 : Vec Ideal S1280x7168 .bf16) (w : Vec Ideal S1792x1024 .i8) (a : Fin 1280) (c : Fin 1024) :
    val_main_v140 (F := Ideal) x0 w (ix2 a c) = bitdot h7168 x0 w a c :=
  host_apply h7168 natLt_8_32 x0 slices_S1280x7168_S1280x1792_0_0 slices_S1280x7168_S1280x1792_0_1792 slices_S1280x7168_S1280x1792_0_3584
    slices_S1280x7168_S1280x1792_0_5376 rfl rfl rfl w a c

/-- The scaled product, a head at a time. -/
theorem v_apply (x0 : Vec Ideal S1280x7168 .bf16) (w : Vec Ideal S1792x1024 .i8) (x4 : Vec Ideal S3 .f32) (b : Fin 2) (s : Fin 640) (h : Fin 8) (r : Fin 128) :
    val_main_v143 (F := Ideal) x0 w x4 (ix4 b s h r)
      = bitdot h7168 x0 w (row b s) ⟨h.val * 128 + r.val, by omega⟩ * x4 (ix1 2) := by
  have e : idx_main_v143 (ix4 b s h r) = (ix2 (row b s) ⟨h.val * 128 + r.val, by omega⟩ : S1280x1024.Idx) := funext fun d => Fin.ext (by
    match d with
    | ⟨0, _⟩ => show (((b.val * 640 + s.val) * 8 + h.val) * 128 + r.val) / 1024 = b.val * 640 + s.val; omega
    | ⟨1, _⟩ => show (((b.val * 640 + s.val) * 8 + h.val) * 128 + r.val) % 1024 = h.val * 128 + r.val; omega)
  rw [val_main_v143_apply, e, val_main_v142_apply, v_prod, val_main_v141_apply, s2_apply]
  rfl

/-- The half-turned heads: minus the upper half, then the lower half. -/
theorem q_half (x0 : Vec Ideal S1280x7168 .bf16) (w : Vec Ideal S1792x7168 .i8) (x4 : Vec Ideal S3 .f32) (b : Fin 2) (s : Fin 640) (h : Fin 56) (r : Fin 128) :
    val_main_v176 (F := Ideal) x0 w x4 (ix4 b s h r)
      = if r.val < 64 then - val_main_v47 (F := Ideal) x0 w x4 (ix4 b s h ⟨(r.val + 64) % 128, Nat.mod_lt _ (by decide)⟩)
        else val_main_v47 (F := Ideal) x0 w x4 (ix4 b s h ⟨(r.val + 64) % 128, Nat.mod_lt _ (by decide)⟩) := by
  have hr := r.isLt
  unfold val_main_v176
  by_cases hh : r.val < 64
  · rw [if_pos hh]
    refine (concatenate_pair_apply_left (s₁ := S2x640x56x64) (s₂ := S2x640x56x64) 3 (val_main_v174 (F := Ideal) x0 w x4) (val_main_v175 (F := Ideal) x0 w x4)
      concatenates_S2x640x56x64_S2x640x56x64_S2x640x56x128_d3 (ix4 b s h r) rfl (ix4 b s h ⟨r.val, hh⟩) (fun d => match d with
        | ⟨0, _⟩ => rfl
        | ⟨1, _⟩ => rfl
        | ⟨2, _⟩ => rfl
        | ⟨3, _⟩ => rfl)).trans ?_
    rw [val_main_v174_apply, val_main_v173_apply]
    have e : idx_main_v173 (ix4 b s h (⟨r.val, hh⟩ : Fin 64)) = (ix4 b s h ⟨(r.val + 64) % 128, Nat.mod_lt _ (by decide)⟩ : S2x640x56x128.Idx) :=
      funext fun d => Fin.ext (by
        match d with
        | ⟨0, _⟩ => rfl
        | ⟨1, _⟩ => rfl
        | ⟨2, _⟩ => rfl
        | ⟨3, _⟩ => show 64 + r.val = (r.val + 64) % 128; omega)
    rw [e]
    rfl
  · rw [if_neg hh]
    refine (concatenate_pair_apply_right (s₁ := S2x640x56x64) (s₂ := S2x640x56x64) 3 (val_main_v174 (F := Ideal) x0 w x4) (val_main_v175 (F := Ideal) x0 w x4)
      concatenates_S2x640x56x64_S2x640x56x64_S2x640x56x128_d3 (ix4 b s h r) rfl rfl (ix4 b s h (⟨r.val - 64, by omega⟩ : Fin 64)) (fun d => match d with
        | ⟨0, _⟩ => fun _ => rfl
        | ⟨1, _⟩ => fun _ => rfl
        | ⟨2, _⟩ => fun _ => rfl
        | ⟨3, _⟩ => fun hn => absurd rfl hn) (by show r.val - 64 + 64 = r.val; omega)).trans ?_
    rw [val_main_v175_apply]
    exact congrArg (val_main_v47 (F := Ideal) x0 w x4) (funext fun d => Fin.ext (by
        match d with
        | ⟨0, _⟩ => rfl
        | ⟨1, _⟩ => rfl
        | ⟨2, _⟩ => rfl
        | ⟨3, _⟩ => show r.val - 64 = (r.val + 64) % 128; omega))

/-- The rotated heads. -/
theorem q_rot (x0 : Vec Ideal S1280x7168 .bf16) (w : Vec Ideal S1792x7168 .i8) (x4 : Vec Ideal S3 .f32) (x5 : Vec Ideal S2 .i32) (b : Fin 2) (s : Fin 640) (h : Fin 56) (r : Fin 128) :
    val_main_v180 (F := Ideal) x0 w x4 x5 (ix4 b s h r)
      = val_main_v47 (F := Ideal) x0 w x4 (ix4 b s h r) * cosAt (val_main_v166 (F := Ideal) x5) b s r.val
        + val_main_v47 (F := Ideal) x0 w x4 (ix4 b s h ⟨(r.val + 64) % 128, Nat.mod_lt _ (by decide)⟩) * sinAt (val_main_v166 (F := Ideal) x5) b s r.val := by
  have hr := r.isLt
  have ec : idx_main_v171 (ix4 b s h r) = (ix4 b s (0 : Fin 1) r : S2x640x1x128.Idx) := funext fun d => match d with
    | ⟨0, _⟩ => rfl
    | ⟨1, _⟩ => rfl
    | ⟨2, _⟩ => rfl
    | ⟨3, _⟩ => rfl
  have es : idx_main_v177 (ix4 b s h r) = (ix4 b s (0 : Fin 1) r : S2x640x1x128.Idx) := ec
  rw [val_main_v180_apply, val_main_v179_apply, val_main_v172_apply, val_main_v178_apply, val_main_v171_apply, val_main_v177_apply, ec, es, cos_apply, sin_apply, q_half]
  unfold sinAt
  rw [Nat.mod_eq_of_lt hr]
  generalize val_main_v47 (F := Ideal) x0 w x4 (ix4 b s h r) = t
  generalize val_main_v47 (F := Ideal) x0 w x4 (ix4 b s h ⟨(r.val + 64) % 128, Nat.mod_lt _ (by decide)⟩) = u
  generalize cosAt (val_main_v166 (F := Ideal) x5) b s r.val = p
  generalize val_main_v166 (F := Ideal) x5 = A
  show t * p + (if r.val < 64 then - u else u) * _ = _
  by_cases hh : r.val < 64
  · rw [if_pos hh, if_pos hh, neg_mul, mul_neg]
  · rw [if_neg hh, if_neg hh]

/-- The half-turned heads: minus the upper half, then the lower half. -/
theorem k_half (x0 : Vec Ideal S1280x7168 .bf16) (w : Vec Ideal S1792x1024 .i8) (x4 : Vec Ideal S3 .f32) (b : Fin 2) (s : Fin 640) (h : Fin 8) (r : Fin 128) :
    val_main_v186 (F := Ideal) x0 w x4 (ix4 b s h r)
      = if r.val < 64 then - val_main_v95 (F := Ideal) x0 w x4 (ix4 b s h ⟨(r.val + 64) % 128, Nat.mod_lt _ (by decide)⟩)
        else val_main_v95 (F := Ideal) x0 w x4 (ix4 b s h ⟨(r.val + 64) % 128, Nat.mod_lt _ (by decide)⟩) := by
  have hr := r.isLt
  unfold val_main_v186
  by_cases hh : r.val < 64
  · rw [if_pos hh]
    refine (concatenate_pair_apply_left (s₁ := S2x640x8x64) (s₂ := S2x640x8x64) 3 (val_main_v184 (F := Ideal) x0 w x4) (val_main_v185 (F := Ideal) x0 w x4)
      concatenates_S2x640x8x64_S2x640x8x64_S2x640x8x128_d3 (ix4 b s h r) rfl (ix4 b s h ⟨r.val, hh⟩) (fun d => match d with
        | ⟨0, _⟩ => rfl
        | ⟨1, _⟩ => rfl
        | ⟨2, _⟩ => rfl
        | ⟨3, _⟩ => rfl)).trans ?_
    rw [val_main_v184_apply, val_main_v183_apply]
    have e : idx_main_v183 (ix4 b s h (⟨r.val, hh⟩ : Fin 64)) = (ix4 b s h ⟨(r.val + 64) % 128, Nat.mod_lt _ (by decide)⟩ : S2x640x8x128.Idx) :=
      funext fun d => Fin.ext (by
        match d with
        | ⟨0, _⟩ => rfl
        | ⟨1, _⟩ => rfl
        | ⟨2, _⟩ => rfl
        | ⟨3, _⟩ => show 64 + r.val = (r.val + 64) % 128; omega)
    rw [e]
    rfl
  · rw [if_neg hh]
    refine (concatenate_pair_apply_right (s₁ := S2x640x8x64) (s₂ := S2x640x8x64) 3 (val_main_v184 (F := Ideal) x0 w x4) (val_main_v185 (F := Ideal) x0 w x4)
      concatenates_S2x640x8x64_S2x640x8x64_S2x640x8x128_d3 (ix4 b s h r) rfl rfl (ix4 b s h (⟨r.val - 64, by omega⟩ : Fin 64)) (fun d => match d with
        | ⟨0, _⟩ => fun _ => rfl
        | ⟨1, _⟩ => fun _ => rfl
        | ⟨2, _⟩ => fun _ => rfl
        | ⟨3, _⟩ => fun hn => absurd rfl hn) (by show r.val - 64 + 64 = r.val; omega)).trans ?_
    rw [val_main_v185_apply]
    exact congrArg (val_main_v95 (F := Ideal) x0 w x4) (funext fun d => Fin.ext (by
        match d with
        | ⟨0, _⟩ => rfl
        | ⟨1, _⟩ => rfl
        | ⟨2, _⟩ => rfl
        | ⟨3, _⟩ => show r.val - 64 = (r.val + 64) % 128; omega))

/-- The rotated heads. -/
theorem k_rot (x0 : Vec Ideal S1280x7168 .bf16) (w : Vec Ideal S1792x1024 .i8) (x4 : Vec Ideal S3 .f32) (x5 : Vec Ideal S2 .i32) (b : Fin 2) (s : Fin 640) (h : Fin 8) (r : Fin 128) :
    val_main_v190 (F := Ideal) x0 w x4 x5 (ix4 b s h r)
      = val_main_v95 (F := Ideal) x0 w x4 (ix4 b s h r) * cosAt (val_main_v166 (F := Ideal) x5) b s r.val
        + val_main_v95 (F := Ideal) x0 w x4 (ix4 b s h ⟨(r.val + 64) % 128, Nat.mod_lt _ (by decide)⟩) * sinAt (val_main_v166 (F := Ideal) x5) b s r.val := by
  have hr := r.isLt
  have ec : idx_main_v181 (ix4 b s h r) = (ix4 b s (0 : Fin 1) r : S2x640x1x128.Idx) := funext fun d => match d with
    | ⟨0, _⟩ => rfl
    | ⟨1, _⟩ => rfl
    | ⟨2, _⟩ => rfl
    | ⟨3, _⟩ => rfl
  have es : idx_main_v187 (ix4 b s h r) = (ix4 b s (0 : Fin 1) r : S2x640x1x128.Idx) := ec
  rw [val_main_v190_apply, val_main_v189_apply, val_main_v182_apply, val_main_v188_apply, val_main_v181_apply, val_main_v187_apply, ec, es, cos_apply, sin_apply, k_half]
  unfold sinAt
  rw [Nat.mod_eq_of_lt hr]
  generalize val_main_v95 (F := Ideal) x0 w x4 (ix4 b s h r) = t
  generalize val_main_v95 (F := Ideal) x0 w x4 (ix4 b s h ⟨(r.val + 64) % 128, Nat.mod_lt _ (by decide)⟩) = u
  generalize cosAt (val_main_v166 (F := Ideal) x5) b s r.val = p
  generalize val_main_v166 (F := Ideal) x5 = A
  show t * p + (if r.val < 64 then - u else u) * _ = _
  by_cases hh : r.val < 64
  · rw [if_pos hh, if_pos hh, neg_mul, mul_neg]
  · rw [if_neg hh, if_neg hh]

/-- The reference's result at an index. -/
theorem result_apply (x0 : Vec Ideal S1280x7168 .bf16) (x1 : Vec Ideal S1792x7168 .i8) (x2 x3 : Vec Ideal S1792x1024 .i8) (x4 : Vec Ideal S3 .f32) (x5 : Vec Ideal S2 .i32)
    (b : Fin 2) (s : Fin 640) (c : Fin 9216) :
    val_main_v193 (F := Ideal) x0 x1 x2 x3 x4 x5 (ix2 (row b s) c) = qkv x0 x1 x2 x3 x4 (val_main_v166 (F := Ideal) x5) b s c.val := by
  have hc := c.isLt
  have hs := s.isLt
  have hb := b.isLt
  have e : idx_main_v193 (ix2 (row b s) c)
      = (ix4 b s (⟨c.val / 128, by omega⟩ : Fin 72) (⟨c.val % 128, by omega⟩ : Fin 128) : S2x640x72x128.Idx) := funext fun d => Fin.ext (by
    match d with
    | ⟨0, _⟩ => show ((b.val * 640 + s.val) * 9216 + c.val) / 5898240 = b.val; omega
    | ⟨1, _⟩ => show ((b.val * 640 + s.val) * 9216 + c.val) / 9216 % 640 = s.val; omega
    | ⟨2, _⟩ => show ((b.val * 640 + s.val) * 9216 + c.val) / 128 % 72 = c.val / 128; omega
    | ⟨3, _⟩ => show ((b.val * 640 + s.val) * 9216 + c.val) % 128 = c.val % 128; omega)
  have ca : cosAt (val_main_v166 (F := Ideal) x5) b s (c.val % 128) = cosAt (val_main_v166 (F := Ideal) x5) b s c.val := by
    unfold cosAt
    exact congrArg (fun g => Ideal.cos (val_main_v166 (F := Ideal) x5 (ix3 b s g))) (Fin.ext (by show c.val % 128 % 64 = c.val % 64; omega))
  have sa : sinAt (val_main_v166 (F := Ideal) x5) b s (c.val % 128) = sinAt (val_main_v166 (F := Ideal) x5) b s c.val := by
    unfold sinAt
    have g : (⟨c.val % 128 % 64, Nat.mod_lt _ (by decide)⟩ : Fin 64) = ⟨c.val % 64, Nat.mod_lt _ (by decide)⟩ :=
      Fin.ext (by show c.val % 128 % 64 = c.val % 64; omega)
    rw [g, Nat.mod_mod]
  rw [val_main_v193_apply, e]
  unfold val_main_v192
  by_cases h1 : c.val < 7168
  · refine (concatenate_apply_piece (t := S2x640x72x128) 2 _ _ _ 0 (by show 0 < 3; decide) S2x640x56x128
      (val_main_v180 (F := Ideal) x0 x1 x4 x5) rfl rfl 0 rfl (ix4 b s (⟨c.val / 128, by omega⟩ : Fin 56) (⟨c.val % 128, by omega⟩ : Fin 128)) (fun d => match d with
        | ⟨0, _⟩ => fun _ => rfl
        | ⟨1, _⟩ => fun _ => rfl
        | ⟨2, _⟩ => fun hn => absurd rfl hn
        | ⟨3, _⟩ => fun _ => rfl) (by show 0 + c.val / 128 = c.val / 128; omega)).trans ?_
    rw [q_rot, q_apply, q_apply, ca, sa]
    unfold qkv
    rw [if_neg (by omega), lin_q x0 x1 x2 x3 x4 (row b s) c.val ⟨c.val / 128 * 128 + c.val % 128, by omega⟩ (by show c.val = c.val / 128 * 128 + c.val % 128; omega),
      lin_q x0 x1 x2 x3 x4 (row b s) (mate c.val) ⟨c.val / 128 * 128 + (c.val % 128 + 64) % 128, by omega⟩ rfl]
  · by_cases h2 : c.val < 8192
    · refine (concatenate_apply_piece (t := S2x640x72x128) 2 _ _ _ 1 (by show 1 < 3; decide) S2x640x8x128
        (val_main_v190 (F := Ideal) x0 x2 x4 x5) rfl rfl 56 rfl (ix4 b s (⟨c.val / 128 - 56, by omega⟩ : Fin 8) (⟨c.val % 128, by omega⟩ : Fin 128)) (fun d => match d with
          | ⟨0, _⟩ => fun _ => rfl
          | ⟨1, _⟩ => fun _ => rfl
          | ⟨2, _⟩ => fun hn => absurd rfl hn
          | ⟨3, _⟩ => fun _ => rfl) (by show 56 + (c.val / 128 - 56) = c.val / 128; omega)).trans ?_
      rw [k_rot, k_apply, k_apply, ca, sa]
      unfold qkv
      rw [if_neg (by omega),
        lin_k x0 x1 x2 x3 x4 (row b s) c.val ⟨(c.val / 128 - 56) * 128 + c.val % 128, by omega⟩ (by show c.val = 7168 + ((c.val / 128 - 56) * 128 + c.val % 128); omega),
        lin_k x0 x1 x2 x3 x4 (row b s) (mate c.val) ⟨(c.val / 128 - 56) * 128 + (c.val % 128 + 64) % 128, by omega⟩
          (by show c.val / 128 * 128 + (c.val % 128 + 64) % 128 = 7168 + ((c.val / 128 - 56) * 128 + (c.val % 128 + 64) % 128); omega)]
    · refine (concatenate_apply_piece (t := S2x640x72x128) 2 _ _ _ 2 (by show 2 < 3; decide) S2x640x8x128
        (val_main_v191 (F := Ideal) x0 x3 x4) rfl rfl 64 rfl (ix4 b s (⟨c.val / 128 - 64, by omega⟩ : Fin 8) (⟨c.val % 128, by omega⟩ : Fin 128)) (fun d => match d with
          | ⟨0, _⟩ => fun _ => rfl
          | ⟨1, _⟩ => fun _ => rfl
          | ⟨2, _⟩ => fun hn => absurd rfl hn
          | ⟨3, _⟩ => fun _ => rfl) (by show 64 + (c.val / 128 - 64) = c.val / 128; omega)).trans ?_
      rw [val_main_v191_apply, v_apply]
      unfold qkv
      rw [if_pos (by omega),
        lin_v x0 x1 x2 x3 x4 (row b s) c.val ⟨(c.val / 128 - 64) * 128 + c.val % 128, by omega⟩ (by show c.val = 8192 + ((c.val / 128 - 64) * 128 + c.val % 128); omega)]
      rfl

end Cert.QkvRefIdeal.Sum

end
-- ==== Proof.QkvValue.lean ====
/- The query, key and value call. The kernel's result array, block by block, and the reference's result are the same function
   of the arguments: the three scaled products side by side, the queries and keys rotated by the angles of their positions. -/
module

public import proofs.«01_k».proof.Defs
public import proofs.«01_k».proof.Proof.Gen.Qkv.Frame
public import proofs.«01_k».proof.Proof.Gen.QkvIdeal.Value
public import proofs.«01_k».proof.Proof.Gen.QkvRefIdeal.Run
public import proofs.«01_k».proof.Proof.Gen.QkvRefIdeal.Read
public import proofs.«01_k».proof.Proof.QkvBlock
public import proofs.«01_k».proof.Proof.QkvRead
public import Idealize.ShloMosaic.Lib.Quiescent

@[expose] public section

set_option maxRecDepth 16384

noncomputable section

open Cert.Unpack Idealize.ShloMosaic Idealize.ShloMosaic.TcCoe Idealize.ShloMosaic.ValueIdx Idealize.SL.Sem
open Idealize.ShloMosaic.Pipeline (Dat Window)
open scoped BigOperators

namespace Cert.QkvIdeal.Sum

open Cert.QkvIdeal Cert.QkvIdeal.Gen Cert.Rotary

section
variable (m : (ℓ : Loc nD τ sig) → Buf (Elt Ideal) ℓ) (ρ : Dev nD → PrngReg)

theorem ix0_0 : ∀ t : Fin cfg0.N, win0_0.index t 0 = 0 := (by decide +kernel : ∀ t : Fin grid0.N, win0_0.index t 0 = 0)
theorem ix1_0 : ∀ t : Fin cfg0.N, win0_1.index t 0 = t.val / 18 := (by decide +kernel : ∀ t : Fin grid0.N, win0_1.index t 0 = t.val / 18)
theorem ix1_1 : ∀ t : Fin cfg0.N, win0_1.index t 1 = 0 := (by decide +kernel : ∀ t : Fin grid0.N, win0_1.index t 1 = 0)
theorem ix2_0 : ∀ t : Fin cfg0.N, win0_2.index t 0 = 0 := (by decide +kernel : ∀ t : Fin grid0.N, win0_2.index t 0 = 0)
theorem ix2_1 : ∀ t : Fin cfg0.N, t.val % 18 < 14 → win0_2.index t 1 = t.val % 18 := (by decide +kernel : ∀ t : Fin grid0.N, t.val % 18 < 14 → win0_2.index t 1 = t.val % 18)
theorem ix3_0 : ∀ t : Fin cfg0.N, win0_3.index t 0 = 0 := (by decide +kernel : ∀ t : Fin grid0.N, win0_3.index t 0 = 0)
theorem ix3_1 : ∀ t : Fin cfg0.N, 14 ≤ t.val % 18 → t.val % 18 < 16 → win0_3.index t 1 = t.val % 18 - 14 := (by decide +kernel : ∀ t : Fin grid0.N, 14 ≤ t.val % 18 → t.val % 18 < 16 → win0_3.index t 1 = t.val % 18 - 14)
theorem ix4_0 : ∀ t : Fin cfg0.N, win0_4.index t 0 = 0 := (by decide +kernel : ∀ t : Fin grid0.N, win0_4.index t 0 = 0)
theorem ix4_1 : ∀ t : Fin cfg0.N, 16 ≤ t.val % 18 → win0_4.index t 1 = t.val % 18 - 16 := (by decide +kernel : ∀ t : Fin grid0.N, 16 ≤ t.val % 18 → win0_4.index t 1 = t.val % 18 - 16)
theorem ix5_0 : ∀ t : Fin cfg0.N, win0_5.index t 0 = t.val / 18 := (by decide +kernel : ∀ t : Fin grid0.N, win0_5.index t 0 = t.val / 18)
theorem ix5_1 : ∀ t : Fin cfg0.N, win0_5.index t 1 = 0 := (by decide +kernel : ∀ t : Fin grid0.N, win0_5.index t 1 = 0)
theorem ix6_0 : ∀ t : Fin cfg0.N, win0_6.index t 0 = t.val / 18 := (by decide +kernel : ∀ t : Fin grid0.N, win0_6.index t 0 = t.val / 18)
theorem ix6_1 : ∀ t : Fin cfg0.N, win0_6.index t 1 = 0 := (by decide +kernel : ∀ t : Fin grid0.N, win0_6.index t 1 = 0)
theorem ix7_0 : ∀ t : Fin cfg0.N, win0_7.index t 0 = t.val / 18 := (by decide +kernel : ∀ t : Fin grid0.N, win0_7.index t 0 = t.val / 18)
theorem ix7_1 : ∀ t : Fin cfg0.N, win0_7.index t 1 = t.val % 18 := (by decide +kernel : ∀ t : Fin grid0.N, win0_7.index t 1 = t.val % 18)
theorem coord1 : ∀ t : Fin cfg0.N, (grid0.coords t 1).val = t.val % 18 := (by decide +kernel : ∀ t : Fin grid0.N, (grid0.coords t 1).val = t.val % 18)

theorem lt_N (t : Fin cfg0.N) : t.val < 36 := lt_of_lt_of_eq t.isLt N_0

/-- The sequence whose rows point `t` works on, and the column of the whole array that lane `l` of its block is. -/
def seq (t : Fin cfg0.N) : Fin 2 := ⟨t.val / 18, by have := lt_N t; omega⟩
def lane (t : Fin cfg0.N) (l : Fin 512) : Fin 9216 := ⟨t.val % 18 * 512 + l.val, by omega⟩

/-! ## The tables of the angles -/

/-- The angles, as the host computes them from the two position offsets. -/
def angles (c : Dev nD) : (⟨3, ![2, 640, 64]⟩ : Shape).Idx → EReal :=
  Cert.QkvRefIdeal.Read.val_main_v166 (F := Ideal) (m ((c : Thread nD τ).loc main_arg5))

theorem V_cos (c : Dev nD) : V m c main_v26
    = shapeCast S1280x128 (concatenate S2x640x128 2 [⟨S2x640x64, (Host.cos (F := Ideal) (φ := .f32) (angles m c) : S2x640x64.Idx → EReal)⟩, ⟨S2x640x64, (Host.cos (F := Ideal) (φ := .f32) (angles m c) : S2x640x64.Idx → EReal)⟩]
        concatenates_S2x640x64_S2x640x64_S2x640x128_d2) shapeCasts_S2x640x128_S1280x128 := by
  unfold V hostOps0
  after_results
  rfl

theorem V_sin (c : Dev nD) : V m c main_v29
    = shapeCast S1280x128 (concatenate S2x640x128 2 [⟨S2x640x64, (Host.negf (F := Ideal) (φ := .f32) (Host.sin (F := Ideal) (φ := .f32) (angles m c)) : S2x640x64.Idx → EReal)⟩, ⟨S2x640x64, (Host.sin (F := Ideal) (φ := .f32) (angles m c) : S2x640x64.Idx → EReal)⟩]
        concatenates_S2x640x64_S2x640x64_S2x640x128_d2) shapeCasts_S2x640x128_S1280x128 := by
  unfold V hostOps0
  after_results
  rfl

/-- A doubled table laid out by rows, at an index. -/
theorem table_apply (x y : S2x640x64.Idx → EReal) (b : Fin 2) (s : Fin 640) (r : Fin 128) :
    shapeCast S1280x128 (concatenate S2x640x128 2 [⟨S2x640x64, x⟩, ⟨S2x640x64, y⟩] concatenates_S2x640x64_S2x640x64_S2x640x128_d2) shapeCasts_S2x640x128_S1280x128 (ix2 (row b s) r)
      = if r.val < 64 then x (ix3 b s ⟨r.val % 64, Nat.mod_lt _ (by decide)⟩) else y (ix3 b s ⟨r.val % 64, Nat.mod_lt _ (by decide)⟩) := by
  have hr := r.isLt
  rw [shapeCast_apply _ shapeCasts_S2x640x128_S1280x128 (ix2 (row b s) r) (ix3 b s r) (by
    rw [Shape.rowMajor_val_three, Shape.rowMajor_val_two]; rfl)]
  by_cases h : r.val < 64
  · rw [if_pos h]
    exact concatenate_pair_apply_left (s₁ := S2x640x64) (s₂ := S2x640x64) 2 x y concatenates_S2x640x64_S2x640x64_S2x640x128_d2 (ix3 b s r) rfl _ (fun d => match d with
      | ⟨0, _⟩ => rfl
      | ⟨1, _⟩ => rfl
      | ⟨2, _⟩ => by show r.val % 64 = r.val; omega)
  · rw [if_neg h]
    exact concatenate_pair_apply_right (s₁ := S2x640x64) (s₂ := S2x640x64) 2 x y concatenates_S2x640x64_S2x640x64_S2x640x128_d2 (ix3 b s r) rfl rfl _ (fun d => match d with
      | ⟨0, _⟩ => fun _ => rfl
      | ⟨1, _⟩ => fun _ => rfl
      | ⟨2, _⟩ => fun hn => absurd rfl hn) (by show r.val % 64 + 64 = r.val; omega)

theorem cos_table (c : Dev nD) (b : Fin 2) (s : Fin 640) (r : Fin 128) : V m c main_v26 (ix2 (row b s) r) = cosAt (angles m c) b s r.val := by
  rw [V_cos, table_apply]
  exact ite_self _

theorem sin_table (c : Dev nD) (b : Fin 2) (s : Fin 640) (r : Fin 128) : V m c main_v29 (ix2 (row b s) r) = sinAt (angles m c) b s r.val := by
  rw [V_sin, table_apply]
  unfold sinAt
  rw [Nat.mod_eq_of_lt r.isLt]
  rfl

/-! ## The blocks the body reads -/

theorem blk0 (c : Dev nD) (t : Fin cfg0.N) (k : Fin 3) : iblk m c 0 t (ix1 k) = m ((c : Thread nD τ).loc main_arg4) (ix1 k) := by
  rw [← V_main_arg4 m c]
  show V m c main_arg4 ((win0_0.rect t).emb (ix1 k)) = _
  refine congrArg (V m c main_arg4) (funext fun d => Fin.ext ?_)
  match d with
  | ⟨0, _⟩ => exact Window.rect_emb_val_of_index_zero win0_0 t 0 (ix0_0 t) _

theorem blk1 (c : Dev nD) (t : Fin cfg0.N) (a : Fin 640) (k : Fin 7168) :
    iblk m c 1 t (ix2 a k) = m ((c : Thread nD τ).loc main_arg0) (ix2 (row (seq t) a) k) := by
  rw [← V_main_arg0 m c]
  show V m c main_arg0 ((win0_1.rect t).emb (ix2 a k)) = _
  refine congrArg (V m c main_arg0) (funext fun d => Fin.ext ?_)
  match d with
  | ⟨0, _⟩ => exact (Window.rect_emb_val win0_1 t _ 0).trans (congrArg (· * 640 + a.val) (ix1_0 t))
  | ⟨1, _⟩ => exact Window.rect_emb_val_of_index_zero win0_1 t 1 (ix1_1 t) _

theorem blk2 (c : Dev nD) (t : Fin cfg0.N) (h : t.val % 18 < 14) (p : Fin 1792) (l : Fin 512) :
    iblk m c 2 t (ix2 p l) = m ((c : Thread nD τ).loc main_arg1) (ix2 p (⟨t.val % 18 * 512 + l.val, by have := lt_N t; omega⟩ : Fin 7168)) := by
  rw [← V_main_arg1 m c]
  show V m c main_arg1 ((win0_2.rect t).emb (ix2 p l)) = _
  refine congrArg (V m c main_arg1) (funext fun d => Fin.ext ?_)
  match d with
  | ⟨0, _⟩ => exact Window.rect_emb_val_of_index_zero win0_2 t 0 (ix2_0 t) _
  | ⟨1, _⟩ => exact (Window.rect_emb_val win0_2 t _ 1).trans (congrArg (· * 512 + l.val) (ix2_1 t h))

theorem blk3 (c : Dev nD) (t : Fin cfg0.N) (h : 14 ≤ t.val % 18) (h' : t.val % 18 < 16) (p : Fin 1792) (l : Fin 512) :
    iblk m c 3 t (ix2 p l) = m ((c : Thread nD τ).loc main_arg2) (ix2 p (⟨(t.val % 18 - 14) * 512 + l.val, by have := lt_N t; omega⟩ : Fin 1024)) := by
  rw [← V_main_arg2 m c]
  show V m c main_arg2 ((win0_3.rect t).emb (ix2 p l)) = _
  refine congrArg (V m c main_arg2) (funext fun d => Fin.ext ?_)
  match d with
  | ⟨0, _⟩ => exact Window.rect_emb_val_of_index_zero win0_3 t 0 (ix3_0 t) _
  | ⟨1, _⟩ => exact (Window.rect_emb_val win0_3 t _ 1).trans (congrArg (· * 512 + l.val) (ix3_1 t h h'))

theorem blk4 (c : Dev nD) (t : Fin cfg0.N) (h : 16 ≤ t.val % 18) (p : Fin 1792) (l : Fin 512) :
    iblk m c 4 t (ix2 p l) = m ((c : Thread nD τ).loc main_arg3) (ix2 p (⟨(t.val % 18 - 16) * 512 + l.val, by have := lt_N t; omega⟩ : Fin 1024)) := by
  rw [← V_main_arg3 m c]
  show V m c main_arg3 ((win0_4.rect t).emb (ix2 p l)) = _
  refine congrArg (V m c main_arg3) (funext fun d => Fin.ext ?_)
  match d with
  | ⟨0, _⟩ => exact Window.rect_emb_val_of_index_zero win0_4 t 0 (ix4_0 t) _
  | ⟨1, _⟩ => exact (Window.rect_emb_val win0_4 t _ 1).trans (congrArg (· * 512 + l.val) (ix4_1 t h))

theorem blk5 (c : Dev nD) (t : Fin cfg0.N) (a : Fin 640) (r : Fin 128) :
    iblk m c 5 t (ix2 a r) = V m c main_v26 (ix2 (row (seq t) a) r) := by
  show V m c main_v26 ((win0_5.rect t).emb (ix2 a r)) = _
  refine congrArg (V m c main_v26) (funext fun d => Fin.ext ?_)
  match d with
  | ⟨0, _⟩ => exact (Window.rect_emb_val win0_5 t _ 0).trans (congrArg (· * 640 + a.val) (ix5_0 t))
  | ⟨1, _⟩ => exact Window.rect_emb_val_of_index_zero win0_5 t 1 (ix5_1 t) _

theorem blk6 (c : Dev nD) (t : Fin cfg0.N) (a : Fin 640) (r : Fin 128) :
    iblk m c 6 t (ix2 a r) = V m c main_v29 (ix2 (row (seq t) a) r) := by
  show V m c main_v29 ((win0_6.rect t).emb (ix2 a r)) = _
  refine congrArg (V m c main_v29) (funext fun d => Fin.ext ?_)
  match d with
  | ⟨0, _⟩ => exact (Window.rect_emb_val win0_6 t _ 0).trans (congrArg (· * 640 + a.val) (ix6_0 t))
  | ⟨1, _⟩ => exact Window.rect_emb_val_of_index_zero win0_6 t 1 (ix6_1 t) _

/-! ## The result array -/

/-- What the kernel's result array is shown to hold. -/
def val (c : Dev nD) : Buf (Elt Ideal) ((c : Thread nD τ).loc main_v30) := fun i =>
  qkv (m ((c : Thread nD τ).loc main_arg0)) (m ((c : Thread nD τ).loc main_arg1)) (m ((c : Thread nD τ).loc main_arg2)) (m ((c : Thread nD τ).loc main_arg3))
    (m ((c : Thread nD τ).loc main_arg4)) (angles m c)
    ⟨(i 0).val / 640, by have h : (i 0).val < 1280 := (i 0).isLt; omega⟩ ⟨(i 0).val % 640, Nat.mod_lt _ (by decide)⟩ (i 1).val

theorem val_row (c : Dev nD) (b : Fin 2) (s : Fin 640) (l : Fin 9216) :
    val m c (ix2 (row b s) l) = qkv (m ((c : Thread nD τ).loc main_arg0)) (m ((c : Thread nD τ).loc main_arg1)) (m ((c : Thread nD τ).loc main_arg2)) (m ((c : Thread nD τ).loc main_arg3))
      (m ((c : Thread nD τ).loc main_arg4)) (angles m c) b s l.val := by
  refine congrArg₂ (fun b' s' => qkv (m ((c : Thread nD τ).loc main_arg0)) (m ((c : Thread nD τ).loc main_arg1)) (m ((c : Thread nD τ).loc main_arg2)) (m ((c : Thread nD τ).loc main_arg3))
    (m ((c : Thread nD τ).loc main_arg4)) (angles m c) b' s' l.val) (Fin.ext ?_) (Fin.ext ?_)
  · show (b.val * 640 + s.val) / 640 = b.val; omega
  · show (b.val * 640 + s.val) % 640 = s.val; omega

/-- The scaled product of the block is the block of the three scaled products side by side. -/
theorem lin_apply (c : Dev nD) (t : Fin cfg0.N) (a : Fin 640) (l : Fin 512) :
    bitdot h7168 (iblk m c 1 t) (wsel (t.val % 18) (iblk m c 2 t) (iblk m c 3 t) (iblk m c 4 t)) a l
        * ssel (t.val % 18) (iblk m c 0 t (ix1 0)) (iblk m c 0 t (ix1 1)) (iblk m c 0 t (ix1 2))
      = lin (m ((c : Thread nD τ).loc main_arg0)) (m ((c : Thread nD τ).loc main_arg1)) (m ((c : Thread nD τ).loc main_arg2)) (m ((c : Thread nD τ).loc main_arg3))
          (m ((c : Thread nD τ).loc main_arg4)) (row (seq t) a) (t.val % 18 * 512 + l.val) := by
  have hl := l.isLt
  have ht := lt_N t
  unfold wsel ssel
  by_cases h1 : t.val % 18 < 14
  · rw [if_pos h1, if_pos h1, blk0]
    refine Eq.trans ?_ (lin_q _ _ _ _ _ _ _ ⟨t.val % 18 * 512 + l.val, by omega⟩ rfl).symm
    exact congrArg (· * m ((c : Thread nD τ).loc main_arg4) (ix1 0)) (bitdot_congr h7168 (fun k => blk1 m c t a k) (fun p => blk2 m c t h1 p l))
  · by_cases h2 : 16 ≤ t.val % 18
    · rw [if_neg h1, if_neg h1, if_pos h2, if_pos h2, blk0]
      refine Eq.trans ?_ (lin_v _ _ _ _ _ _ _ ⟨(t.val % 18 - 16) * 512 + l.val, by omega⟩ (by show t.val % 18 * 512 + l.val = 8192 + ((t.val % 18 - 16) * 512 + l.val); omega)).symm
      exact congrArg (· * m ((c : Thread nD τ).loc main_arg4) (ix1 2)) (bitdot_congr h7168 (fun k => blk1 m c t a k) (fun p => blk4 m c t h2 p l))
    · rw [if_neg h1, if_neg h1, if_neg h2, if_neg h2, blk0]
      refine Eq.trans ?_ (lin_k _ _ _ _ _ _ _ ⟨(t.val % 18 - 14) * 512 + l.val, by omega⟩ (by show t.val % 18 * 512 + l.val = 7168 + ((t.val % 18 - 14) * 512 + l.val); omega)).symm
      exact congrArg (· * m ((c : Thread nD τ).loc main_arg4) (ix1 1)) (bitdot_congr h7168 (fun k => blk1 m c t a k) (fun p => blk3 m c t (by omega) (by omega) p l))

/-- What the body leaves at an index of its block. -/
theorem outs_apply (c : Dev nD) (t : Fin cfg0.N) (a : Fin 640) (l : Fin 512) :
    outsAt0 m c t (ix2 a l) = val m c (ix2 (row (seq t) a) (lane t l)) := by
  have hl := l.isLt
  rw [block_apply, coord1, val_row]
  unfold turned qkv
  by_cases h : 16 ≤ t.val % 18
  · rw [if_pos h, if_pos (by show 8192 ≤ t.val % 18 * 512 + l.val; omega)]
    exact lin_apply m c t a l
  · rw [if_neg h, if_neg (by show ¬ 8192 ≤ t.val % 18 * 512 + l.val; omega)]
    dsimp only
    rw [lin_apply, lin_apply, blk5, blk6, cos_table, sin_table]
    have em : t.val % 18 * 512 + mate l.val = mate (t.val % 18 * 512 + l.val) := by unfold mate; omega
    have ec : cosAt (angles m c) (seq t) a (l.val % 128) = cosAt (angles m c) (seq t) a (t.val % 18 * 512 + l.val) := by
      unfold cosAt
      exact congrArg (fun g => Ideal.cos (angles m c (ix3 (seq t) a g))) (Fin.ext (by show l.val % 128 % 64 = (t.val % 18 * 512 + l.val) % 64; omega))
    have es : sinAt (angles m c) (seq t) a (l.val % 128) = sinAt (angles m c) (seq t) a (t.val % 18 * 512 + l.val) := by
      unfold sinAt
      have g : (⟨l.val % 128 % 64, Nat.mod_lt _ (by decide)⟩ : Fin 64) = ⟨(t.val % 18 * 512 + l.val) % 64, Nat.mod_lt _ (by decide)⟩ :=
        Fin.ext (by show l.val % 128 % 64 = (t.val % 18 * 512 + l.val) % 64; omega)
      have g' : l.val % 128 % 128 = (t.val % 18 * 512 + l.val) % 128 := by omega
      rw [g, g']
    rw [em, ec, es]
    rfl

/-- What point `t` writes back is block `t` of `val`. -/
theorem flushed_eq (c : Dev nD) (t : Fin cfg0.N) :
    (dats m 0 c).flushed 7 t = ((cfg0.win 7).blk t).view.read (Elt Ideal) (val m c) := by
  rw [Value.flushed7]
  funext j
  obtain ⟨a, l, rfl⟩ : ∃ (a : Fin 640) (l : Fin 512), j = ix2 a l := ⟨j 0, j 1, eq_ix2 (n0 := 640) (n1 := 512) j⟩
  show outsAt0 m c t (ix2 a l) = val m c ((win0_7.rect t).emb (ix2 a l))
  refine (outs_apply m c t a l).trans (congrArg (val m c) (funext fun d => Fin.ext ?_))
  match d with
  | ⟨0, _⟩ => exact ((Window.rect_emb_val win0_7 t (ix2 (n0 := 640) (n1 := 512) a l) 0).trans (congrArg (· * 640 + a.val) (ix7_0 t))).symm
  | ⟨1, _⟩ => exact ((Window.rect_emb_val win0_7 t (ix2 (n0 := 640) (n1 := 512) a l) 1).trans (congrArg (· * 512 + l.val) (ix7_1 t))).symm

/-- The blocks tile the result array. -/
theorem cover (i : S1280x9216.Idx) : ∃ t : Fin cfg0.N, (cfg0.win 7).flush t = true ∧ i ∈ ((cfg0.win 7).blk t).view.set := by
  have h0 : (i 0 : Nat) < 1280 := (i 0).isLt
  have h1 : (i 1 : Nat) < 9216 := (i 1).isLt
  have hN : cfg0.N = 36 := N_0
  have ht : (i 0 : Nat) / 640 * 18 + (i 1 : Nat) / 512 < cfg0.N := by omega
  refine ⟨⟨_, ht⟩, flush0_7 _, ?_⟩
  generalize hT : (⟨_, ht⟩ : Fin cfg0.N) = t
  have tv : t.val = (i 0 : Nat) / 640 * 18 + (i 1 : Nat) / 512 := by rw [← hT]
  show i ∈ ((View.whole main_v30).slice (win0_7.rect t)).set
  rw [View.set_slice_whole, Rect.mem_set_unit]
  intro d
  match d with
  | ⟨0, _⟩ =>
    show win0_7.index t 0 * 640 ≤ (i 0 : Nat) ∧ (i 0 : Nat) < win0_7.index t 0 * 640 + 640
    rw [ix7_0]; omega
  | ⟨1, _⟩ =>
    show win0_7.index t 1 * 512 ≤ (i 1 : Nat) ∧ (i 1 : Nat) < win0_7.index t 1 * 512 + 512
    rw [ix7_1]; omega

theorem final (c : Dev nD) : (dats m 0 c).arrAt 7 cfg0.N = val m c :=
  (dats m 0 c).arrAt_eq_of_cover 7 (val m c) (fun t _ => flushed_eq m c t) cover

end

end Cert.QkvIdeal.Sum

/-! ## The claims -/

namespace Cert.Proof.QkvClaims

theorem frame_p : Cert.quiescent_Qkv := fun m ρ _ => Cert.Qkv.Gen.frame m ρ
theorem frame_pi : Cert.quiescent_QkvIdeal := fun m ρ _ => Cert.QkvIdeal.Gen.frame m ρ
theorem frame_ri : Cert.quiescent_QkvRefIdeal := fun m ρ _ =>
  (θ_run Cert.QkvRefIdeal.defs _ _).mono (fun r h => ⟨fun c => (h c).2, Idealize.ShloMosaic.sem_eq_zero_of_no_sems (by decide) r.2⟩)
    (Cert.QkvRefIdeal.Value.run (F := Ideal) m ρ)
theorem preserves : Cert.preserves_Qkv_QkvIdeal := trivial

/-- Both programs end with the three scaled products side by side, the queries and keys rotated. -/
theorem algebraic : Cert.algebraic_QkvIdeal_QkvRefIdeal := by
  intro m ρ m' ρ' _ hag
  refine ⟨fun c => Cert.QkvIdeal.Sum.val m c, ?_, ?_⟩
  · exact (θ_run _ _ _).mono (fun _ h c => ⟨(h c).1.trans (Cert.QkvIdeal.Sum.final m c), (h c).2⟩)
      (Cert.QkvIdeal.Value.run_blocks m ρ)
  · refine (θ_run _ _ _).mono (fun _ h c => ⟨(h c).1.trans ?_, (h c).2⟩) (Cert.QkvRefIdeal.Value.run (F := Ideal) m' ρ')
    rw [Cert.QkvRefIdeal.Read.val_main_v193_eq]
    show Cert.QkvRefIdeal.Read.val_main_v193 (F := Ideal) (m' ((c.tc : Thread Cert.QkvRefIdeal.nD Cert.QkvRefIdeal.τ).loc Cert.QkvRefIdeal.main_arg0)) (m' ((c.tc : Thread Cert.QkvRefIdeal.nD Cert.QkvRefIdeal.τ).loc Cert.QkvRefIdeal.main_arg1)) (m' ((c.tc : Thread Cert.QkvRefIdeal.nD Cert.QkvRefIdeal.τ).loc Cert.QkvRefIdeal.main_arg2)) (m' ((c.tc : Thread Cert.QkvRefIdeal.nD Cert.QkvRefIdeal.τ).loc Cert.QkvRefIdeal.main_arg3)) (m' ((c.tc : Thread Cert.QkvRefIdeal.nD Cert.QkvRefIdeal.τ).loc Cert.QkvRefIdeal.main_arg4)) (m' ((c.tc : Thread Cert.QkvRefIdeal.nD Cert.QkvRefIdeal.τ).loc Cert.QkvRefIdeal.main_arg5)) = _
    rw [(hag c).1, (hag c).2.1, (hag c).2.2.1, (hag c).2.2.2.1, (hag c).2.2.2.2.1, (hag c).2.2.2.2.2]
    refine funext fun i => ?_
    obtain ⟨a, l, rfl⟩ : ∃ (a : Fin 1280) (l : Fin 9216), i = ix2 a l := ⟨i 0, i 1, eq_ix2 (n0 := 1280) (n1 := 9216) i⟩
    obtain ⟨b, s, rfl⟩ : ∃ (b : Fin 2) (s : Fin 640), a = Cert.Rotary.row b s :=
      ⟨⟨a.val / 640, by omega⟩, ⟨a.val % 640, Nat.mod_lt _ (by decide)⟩, Fin.ext (by show a.val = a.val / 640 * 640 + a.val % 640; omega)⟩
    exact (Cert.QkvRefIdeal.Sum.result_apply _ _ _ _ _ _ b s l).trans (Cert.QkvIdeal.Sum.val_row m c b s l).symm

end Cert.Proof.QkvClaims

end
-- ==== Proof.Attention.lean ====
/- Weights of a row of scores that sum to one, and the values averaged by them: what both the kernel and the reference of the
   attention call compute, as a plain function of a row of scores and a row of values, and the proof that scores of minus
   infinity past the end of the row change nothing. -/
module

public import Idealize.ShloMosaic.Lib.Pipeline.Value
public import Idealize.ShloMosaic.Lib.ValueIdx
public import Idealize.ShloMosaic.Lib.KernelVsHost
public import Idealize.ShloMosaic.Lib.MatmulPlain
public import proofs.«01_k».proof.Proof.Quant

@[expose] public section

noncomputable section

open Idealize.ShloMosaic
open Idealize.ShloMosaic.TcCoe Idealize.ShloMosaic.ValueIdx Idealize.SL.Sem
open scoped BigOperators

namespace Cert.Attn

/-! ## The mathematics -/

/-- The greatest of the first `n` scores. -/
def top (n : ℕ) (z : ℕ → EReal) : EReal := (Finset.range n).sup z

/-- The sum of the exponentials of the first `n` scores, each less the greatest. -/
def mass (n : ℕ) (z : ℕ → EReal) : EReal := ∑ s ∈ Finset.range n, Ideal.exp (z s - top n z)

/-- The weight of a score among the first `n`. -/
def weight (n : ℕ) (z : ℕ → EReal) (s : ℕ) : EReal := Ideal.div (Ideal.exp (z s - top n z)) (mass n z)

/-- The first `n` values averaged by the weights of their scores. -/
def soft (n : ℕ) (z v : ℕ → EReal) : EReal := ∑ s ∈ Finset.range n, weight n z s * v s

theorem top_pad {n N : ℕ} {z : ℕ → EReal} (h : n ≤ N) (hz : ∀ s, n ≤ s → z s = ⊥) : top N z = top n z := by
  refine le_antisymm (Finset.sup_le fun s _ => ?_) (Finset.sup_mono (Finset.range_mono h))
  by_cases hs : s < n
  · exact Finset.le_sup (Finset.mem_range.2 hs)
  · rw [hz s (by omega)]; exact bot_le

theorem exp_nonneg (x : EReal) : 0 ≤ Ideal.exp x := by
  induction x using EReal.rec with
  | bot => simp
  | top => simp
  | coe r => rw [Ideal.exp_coe]; exact_mod_cast (Real.exp_pos r).le

theorem mass_pad {n N : ℕ} {z : ℕ → EReal} (h : n ≤ N) (hz : ∀ s, n ≤ s → z s = ⊥) : mass N z = mass n z := by
  unfold mass
  rw [top_pad h hz]
  refine (Finset.sum_subset (Finset.range_mono h) fun s _ hs => ?_).symm
  rw [hz s (by simpa using hs), EReal.bot_sub, Ideal.exp_bot]

theorem mass_ne {n : ℕ} {z : ℕ → EReal} {i : ℕ} (hi : i < n) (hb : z i ≠ ⊥) (ht : ∀ s, z s ≠ ⊤) : mass n z ≠ 0 := by
  obtain ⟨j, hj, e⟩ := Finset.exists_mem_eq_sup (Finset.range n) ⟨i, Finset.mem_range.2 hi⟩ z
  have hjb : z j ≠ ⊥ := fun hb' => hb (le_bot_iff.1 (by rw [← hb', ← e]; exact Finset.le_sup (Finset.mem_range.2 hi)))
  have h1 : Ideal.exp (z j - top n z) = 1 := by
    rw [show top n z = z j from e]
    obtain ⟨r, hr⟩ : ∃ r : ℝ, z j = r := ⟨(z j).toReal, (EReal.coe_toReal (ht j) hjb).symm⟩
    rw [hr, ← EReal.coe_sub, sub_self, Ideal.exp_coe, Real.exp_zero]; rfl
  have h2 : Ideal.exp (z j - top n z) ≤ mass n z :=
    Finset.single_le_sum (f := fun s => Ideal.exp (z s - top n z)) (fun s _ => exp_nonneg _) hj
  rw [h1] at h2
  intro h0
  rw [h0] at h2
  exact absurd h2 (by simp)

/-- SCORES OF MINUS INFINITY past the end carry no weight, where some score is a number and none is plus infinity. -/
theorem soft_pad {n N : ℕ} {z v : ℕ → EReal} (h : n ≤ N) (hz : ∀ s, n ≤ s → z s = ⊥) {i : ℕ} (hi : i < n) (hb : z i ≠ ⊥) (ht : ∀ s, z s ≠ ⊤) :
    soft n z v = soft N z v := by
  unfold soft
  have hw : ∀ s, weight N z s = weight n z s := fun s => by unfold weight; rw [top_pad h hz, mass_pad h hz]
  rw [Finset.sum_congr rfl fun s _ => congrArg (· * v s) (hw s)]
  refine Finset.sum_subset (Finset.range_mono h) fun s _ hs => ?_
  unfold weight Ideal.div
  rw [hz s (by simpa using hs), EReal.bot_sub, Ideal.exp_bot, if_neg (mass_ne hi hb ht), zero_mul, zero_mul]

theorem soft_congr {n : ℕ} {z z' v v' : ℕ → EReal} (hz : ∀ s < n, z s = z' s) (hv : ∀ s < n, v s = v' s) : soft n z v = soft n z' v' := by
  have ht : top n z = top n z' := Finset.sup_congr rfl fun s hs => hz s (Finset.mem_range.1 hs)
  have hm : mass n z = mass n z' := Finset.sum_congr rfl fun s hs => by rw [hz s (Finset.mem_range.1 hs), ht]
  refine Finset.sum_congr rfl fun s hs => ?_
  unfold weight
  rw [hz s (Finset.mem_range.1 hs), hv s (Finset.mem_range.1 hs), ht, hm]

theorem fold_top {n : ℕ} (f : Fin n → EReal) (z : ℕ → EReal) (h : ∀ s, f s = z s.val) : (Finset.univ : Finset (Fin n)).fold max ⊥ f = top n z := by
  show (Finset.univ : Finset (Fin n)).sup f = top n z
  refine le_antisymm (Finset.sup_le fun s _ => ?_) (Finset.sup_le fun s hs => ?_)
  · rw [h s]; exact Finset.le_sup (Finset.mem_range.2 s.isLt)
  · exact (h ⟨s, Finset.mem_range.1 hs⟩).symm.le.trans (Finset.le_sup (f := f) (Finset.mem_univ _))

theorem sum_range {n : ℕ} (f : Fin n → EReal) (z : ℕ → EReal) (h : ∀ s, f s = z s.val) : ∑ s, f s = ∑ s ∈ Finset.range n, z s :=
  (Finset.sum_congr rfl fun s _ => h s).trans (Fin.sum_univ_eq_sum_range z n)

/-- A sum of products of numbers, times a number, is a number. -/
theorem dot_real {n : ℕ} (f g : Fin n → EReal) (hf : ∀ k, ∃ r : ℝ, f k = r) (hg : ∀ k, ∃ r : ℝ, g k = r) (c : ℝ) :
    ∃ r : ℝ, (∑ k, f k * g k) * (c : EReal) = r := by
  choose a ha using hf
  choose b hb using hg
  refine ⟨(∑ k, a k * b k) * c, ?_⟩
  rw [EReal.coe_mul, Finset.sum_congr rfl fun k _ => show f k * g k = ((a k * b k : ℝ) : EReal) by rw [ha, hb, EReal.coe_mul]]
  congr 1
  induction (Finset.univ : Finset (Fin n)) using Finset.induction_on with
  | empty => simp
  | insert i s hi ih => rw [Finset.sum_insert hi, Finset.sum_insert hi, EReal.coe_add, ih]

/-- The constant the scores are multiplied by is a number, -/
theorem scale_real : ∃ r : ℝ, FloatOps.ofBits (F := Ideal) .f32 0x3DB504F3#32 = (r : EReal) := ⟨_, by
  show Ideal.ofBits .f32 0x3DB504F3#32 = _
  unfold Ideal.ofBits Ideal.ieee
  simp
  rfl⟩

/-- and the constant hidden scores are given is minus infinity. -/
theorem hidden : FloatOps.ofBits (F := Ideal) .f32 0xFF800000#32 = (⊥ : EReal) := by
  show Ideal.ofBits .f32 0xFF800000#32 = _
  simp [Ideal.ofBits, Ideal.ieee]

/-! ## The kernel's operations on 896 rows: seven heads of 128 -/

section Kernel

variable {N : Nat}

/-- Seven blocks of rows put under one another. -/
theorem stack_apply (q : Fin 7 → FVec Ideal ⟨2, ![128, 128]⟩ .bf16) (h) (g : Fin 7) (a d : Fin 128) (hr : g.val * 128 + a.val < 896) :
    concatenate ⟨2, ![896, 128]⟩ 0 [⟨⟨2, ![128, 128]⟩, q 0⟩, ⟨⟨2, ![128, 128]⟩, q 1⟩, ⟨⟨2, ![128, 128]⟩, q 2⟩, ⟨⟨2, ![128, 128]⟩, q 3⟩, ⟨⟨2, ![128, 128]⟩, q 4⟩, ⟨⟨2, ![128, 128]⟩, q 5⟩, ⟨⟨2, ![128, 128]⟩, q 6⟩] h
      (ix2 (⟨g.val * 128 + a.val, hr⟩ : Fin 896) d) = q g (ix2 a d) :=
  concatenate_ofFn_apply (t := ⟨2, ![896, 128]⟩) (s₁ := ⟨2, ![128, 128]⟩) 0 q h rfl 128 rfl (ix2 (⟨g.val * 128 + a.val, hr⟩ : Fin 896) d) g
    (by show (g.val * 128 + a.val) / 128 = g.val; omega) (ix2 a d) (by show a.val = (g.val * 128 + a.val) % 128; omega)
    (fun b hb => match b with
      | ⟨0, _⟩ => absurd rfl hb
      | ⟨1, _⟩ => rfl)

/-- Which rows see which keys, as the kernel computes it: row `r` is at position `r % 128 + o`. -/
def kmask (N : Nat) (o : BitVec 32) (h0 : (⟨2, ![896, N]⟩ : Shape).Iotas .tc 32 [0]) (h1 : (⟨2, ![896, N]⟩ : Shape).Iotas .tc 32 [1])
    (hb : (⟨2, ![896, N]⟩ : Shape).Broadcasts ⟨2, ![896, N]⟩) : IVec ⟨2, ![896, N]⟩ 1 :=
  let w : BitVec 32 := Scalar.select (Scalar.cmpi .eq 128#32 0#32) 1#32 128#32
  let r : IVec ⟨2, ![896, N]⟩ 32 := remsi (iota .tc ⟨2, ![896, N]⟩ 32 [0] h0) (broadcast ⟨2, ![896, N]⟩ w)
  cmpi .sle (iota .tc ⟨2, ![896, N]⟩ 32 [1] h1)
    (addi (select (andi (xori (cmpi .slt r (broadcast ⟨2, ![896, N]⟩ 0#32)) (broadcastTo ⟨2, ![896, N]⟩ (broadcast ⟨2, ![896, N]⟩ (Scalar.cmpi .slt w 0#32)) hb))
        (cmpi .ne r (broadcast ⟨2, ![896, N]⟩ 0#32))) (addi r (broadcast ⟨2, ![896, N]⟩ w)) r) (broadcast ⟨2, ![896, N]⟩ o))

/-- The scores of the rows against the keys, hidden keys at minus infinity. -/
def kscore (q : FVec Ideal ⟨2, ![896, 128]⟩ .bf16) (k : FVec Ideal ⟨2, ![N, 128]⟩ .bf16) (mask : IVec ⟨2, ![896, N]⟩ 1) : FVec Ideal ⟨2, ![896, N]⟩ .f32 :=
  select mask (mulf (matmul (DotDims.transposedRhs 896 128 N) none q k (constant ⟨2, ![896, N]⟩ .f32 0x00000000#32)) (broadcast ⟨2, ![896, N]⟩ (Scalar.ofBits .f32 0x3DB504F3#32)))
    (broadcast ⟨2, ![896, N]⟩ (Scalar.ofBits .f32 0xFF800000#32))

/-- The exponentials of the scores, each less the greatest of its row. -/
def kexp (z : FVec Ideal ⟨2, ![896, N]⟩ .f32) (hr : (⟨2, ![896, N]⟩ : Shape).Reduces [1] ⟨1, ![896]⟩) (hφ : FKind.Formats .f32)
    (hm : 0xFF800000#32 = FKind.maximumf.neutral .f32 hφ) (hs : (⟨1, ![896]⟩ : Shape).ShapeCasts ⟨2, ![896, 1]⟩)
    (hb : (⟨2, ![896, 1]⟩ : Shape).Broadcasts ⟨2, ![896, N]⟩) : FVec Ideal ⟨2, ![896, N]⟩ .f32 :=
  exp (subf z (broadcastTo ⟨2, ![896, N]⟩ (shapeCast ⟨2, ![896, 1]⟩ (multiReduction .maximumf [1] ⟨1, ![896]⟩ z 0xFF800000#32 hr hφ hm) hs) hb))

/-- The values averaged by the weights. -/
def kavg (z : FVec Ideal ⟨2, ![896, N]⟩ .f32) (v : FVec Ideal ⟨2, ![N, 128]⟩ .bf16) (hr : (⟨2, ![896, N]⟩ : Shape).Reduces [1] ⟨1, ![896]⟩) (hφ : FKind.Formats .f32)
    (hm : 0xFF800000#32 = FKind.maximumf.neutral .f32 hφ) (ha : 0x00000000#32 = FKind.add.neutral .f32 hφ) (hs : (⟨1, ![896]⟩ : Shape).ShapeCasts ⟨2, ![896, 1]⟩)
    (hb : (⟨2, ![896, 1]⟩ : Shape).Broadcasts ⟨2, ![896, N]⟩) (ht : FTy.bits .bf16 < FTy.bits .f32) : FVec Ideal ⟨2, ![896, 128]⟩ .f32 :=
  matmul (DotDims.plain 896 N 128) none
    (truncf .bf16 (divf (kexp z hr hφ hm hs hb) (broadcastTo ⟨2, ![896, N]⟩ (shapeCast ⟨2, ![896, 1]⟩ (multiReduction .add [1] ⟨1, ![896]⟩ (kexp z hr hφ hm hs hb) 0x00000000#32 hr hφ ha) hs) hb)) ht)
    v (constant ⟨2, ![896, 128]⟩ .f32 0x00000000#32)

/-- A row's position as the kernel's whole numbers give it. -/
theorem rowpos : ∀ r : Fin 896,
    Scalar.select ((IntOp.cmpi .slt (IntOp.remsi .vector (BitVec.ofNat 32 r.val) 128#32) 0#32 ^^^ (0#1)) &&& IntOp.cmpi .ne (IntOp.remsi .vector (BitVec.ofNat 32 r.val) 128#32) 0#32)
      (IntOp.remsi .vector (BitVec.ofNat 32 r.val) 128#32 + 128#32) (IntOp.remsi .vector (BitVec.ofNat 32 r.val) 128#32) = BitVec.ofNat 32 (r.val % 128) := by
  decide +kernel

theorem kmask_apply (hN : N ≤ 640) (o : Nat) (ho : o ≤ 512) (h0) (h1) (hb) (r : Fin 896) (s : Fin N) :
    kmask N (BitVec.ofNat 32 o) h0 h1 hb (ix2 r s) = if s.val ≤ r.val % 128 + o then 1#1 else 0#1 := by
  refine (show _ = IntOp.cmpi .sle (BitVec.ofNat 32 (0 * N + s.val)) (Scalar.select ((IntOp.cmpi .slt (IntOp.remsi .vector (BitVec.ofNat 32 (0 * 896 + r.val)) 128#32) 0#32 ^^^ (0#1)) &&& IntOp.cmpi .ne (IntOp.remsi .vector (BitVec.ofNat 32 (0 * 896 + r.val)) 128#32) 0#32)
      (IntOp.remsi .vector (BitVec.ofNat 32 (0 * 896 + r.val)) 128#32 + 128#32) (IntOp.remsi .vector (BitVec.ofNat 32 (0 * 896 + r.val)) 128#32) + BitVec.ofNat 32 o) from rfl).trans ?_
  rw [show 0 * 896 + r.val = r.val by omega, show 0 * N + s.val = s.val by omega, rowpos r]
  rw [← BitVec.ofNat_add]
  have hs := s.isLt
  have hr := Nat.mod_lt r.val (show 0 < 128 by decide)
  have e : (BitVec.ofNat 32 s.val).sle (BitVec.ofNat 32 (r.val % 128 + o)) = decide (s.val ≤ r.val % 128 + o) := by
    have ti : ∀ n : ℕ, n < 2 ^ 31 → (BitVec.ofNat 32 n).toInt = (n : ℤ) := fun n hn => by
      rw [BitVec.toInt_eq_toNat_cond, BitVec.toNat_ofNat, Nat.mod_eq_of_lt (by omega), if_pos (by omega)]
    rw [BitVec.sle_eq_decide, ti _ (by omega), ti _ (by omega)]
    exact decide_eq_decide.2 (by omega)
  show BitVec.ofBool ((BitVec.ofNat 32 s.val).sle (BitVec.ofNat 32 (r.val % 128 + o))) = _
  rw [e]
  by_cases h : s.val ≤ r.val % 128 + o <;> simp [h]

theorem kscore_apply (q : FVec Ideal ⟨2, ![896, 128]⟩ .bf16) (k : FVec Ideal ⟨2, ![N, 128]⟩ .bf16) (mask : IVec ⟨2, ![896, N]⟩ 1) (r : Fin 896) (s : Fin N) :
    kscore q k mask (ix2 r s) = if mask (ix2 r s) = 1#1 then (∑ d : Fin 128, q (ix2 r d) * k (ix2 s d)) * FloatOps.ofBits (F := Ideal) .f32 0x3DB504F3#32 else ⊥ := by
  show Scalar.select (mask (ix2 r s)) (FloatOps.matmul (DotDims.transposedRhs 896 128 N) none q k _ (ix2 r s) * _) (FloatOps.ofBits (F := Ideal) .f32 0xFF800000#32) = _
  rw [Ideal.matmul_transposedRhs_apply, hidden, show constant (F := Ideal) ⟨2, ![896, N]⟩ .f32 0x00000000#32 (ix2 r s) = 0 from Ideal.ofBits_zero_f32, zero_add]
  rfl

theorem lift_row (hr : (⟨2, ![896, N]⟩ : Shape).Reduces [1] ⟨1, ![896]⟩) (p : Fin 896) (k : Fin N) : hr.lift (ix1 p) k = ix2 p k :=
  funext fun a => Fin.ext (by match a with | ⟨0, _⟩ => rfl | ⟨1, _⟩ => rfl)

theorem kexp_apply (z : FVec Ideal ⟨2, ![896, N]⟩ .f32) (hr) (hφ) (hm) (hs) (hb) (r : Fin 896) (s : Fin N) (Z : ℕ → EReal) (hZ : ∀ s : Fin N, z (ix2 r s) = Z s.val) :
    kexp z hr hφ hm hs hb (ix2 r s) = Ideal.exp (Z s.val - top N Z) := by
  show Ideal.exp (z (ix2 r s) - broadcastTo ⟨2, ![896, N]⟩ (shapeCast ⟨2, ![896, 1]⟩ _ hs) hb (ix2 r s)) = _
  rw [Cert.Quant.bcast_col, Cert.Quant.cast_col, Ideal.multiReduction_maximumf_single, hZ, hidden]
  refine congrArg (fun t => Ideal.exp (Z s.val - t)) (fold_top _ Z fun k => ?_)
  exact (congrArg z (lift_row hr r k)).trans (hZ k)

theorem kavg_apply (z : FVec Ideal ⟨2, ![896, N]⟩ .f32) (v : FVec Ideal ⟨2, ![N, 128]⟩ .bf16) (hr) (hφ) (hm) (ha) (hs) (hb) (ht) (r : Fin 896) (c : Fin 128)
    (Z V : ℕ → EReal) (hZ : ∀ s : Fin N, z (ix2 r s) = Z s.val) (hV : ∀ s : Fin N, v (ix2 s c) = V s.val) :
    kavg z v hr hφ hm ha hs hb ht (ix2 r c) = soft N Z V := by
  have hE : ∀ s : Fin N, kexp z hr hφ hm hs hb (ix2 r s) = Ideal.exp (Z s.val - top N Z) := fun s => kexp_apply z hr hφ hm hs hb r s Z hZ
  unfold kavg
  generalize kexp z hr hφ hm hs hb = E at hE ⊢
  have hS : multiReduction .add [1] ⟨1, ![896]⟩ E 0x00000000#32 hr hφ ha (ix1 r) = mass N Z := by
    rw [Ideal.multiReduction_add_single]
    exact sum_range _ (fun s => Ideal.exp (Z s - top N Z)) fun k => (congrArg E (lift_row hr r k)).trans (hE k)
  generalize multiReduction .add [1] ⟨1, ![896]⟩ E 0x00000000#32 hr hφ ha = S at hS ⊢
  show FloatOps.matmul (DotDims.plain 896 N 128) none _ v _ (ix2 r c) = _
  rw [Ideal.matmul_plain_apply]
  rw [show constant (F := Ideal) ⟨2, ![896, 128]⟩ .f32 0x00000000#32 (ix2 r c) = 0 from Ideal.ofBits_zero_f32, zero_add]
  unfold soft
  refine sum_range _ (fun s => weight N Z s * V s) fun s => ?_
  rw [hV s]
  refine congrArg (· * V s.val) ?_
  show Ideal.div (E (ix2 r s)) (broadcastTo ⟨2, ![896, N]⟩ (shapeCast ⟨2, ![896, 1]⟩ S hs) hb (ix2 r s)) = _
  rw [Cert.Quant.bcast_col, Cert.Quant.cast_col, hS, hE]
  rfl

end Kernel

end Cert.Attn

end
-- ==== Proof.AttentionBlock.lean ====
/- The attention call: what its body leaves in its block, for any point of the grid. The body works on five blocks of 128
   queries, each against the keys up to its own end; every one of them is the same average over all 640 keys, hidden keys
   at minus infinity. -/
module

public import proofs.«01_k».proof.Proof.Gen.AttentionIdeal.Value
public import proofs.«01_k».proof.Proof.Attention

@[expose] public section

set_option maxRecDepth 16384

noncomputable section

open Idealize.ShloMosaic Idealize.ShloMosaic.TcCoe Idealize.ShloMosaic.ValueIdx Idealize.SL.Sem
open Idealize.ShloMosaic.Pipeline (Dat Window)
open scoped BigOperators

namespace Cert.Attn

/-- A matrix read at two whole numbers, zero outside it. -/
def rd {n m : ℕ} (x : (⟨2, ![n, m]⟩ : Shape).Idx → EReal) (i j : ℕ) : EReal := if h : i < n ∧ j < m then x (ix2 ⟨i, h.1⟩ ⟨j, h.2⟩) else 0

theorem rd_ix2 {n m : ℕ} (x : (⟨2, ![n, m]⟩ : Shape).Idx → EReal) (a : Fin n) (b : Fin m) : rd x a.val b.val = x (ix2 a b) := dif_pos ⟨a.isLt, b.isLt⟩

theorem rd_eq {n m : ℕ} (x : (⟨2, ![n, m]⟩ : Shape).Idx → EReal) (i j : ℕ) (k : (⟨2, ![n, m]⟩ : Shape).Idx) (h0 : (k 0).val = i) (h1 : (k 1).val = j) : x k = rd x i j := by
  subst h0 h1
  exact (congrArg x (eq_ix2 k)).trans (rd_ix2 x (k 0) (k 1)).symm

/-- The score of a query against a key, minus infinity where the key comes after the query. -/
def score (Q : ℕ → EReal) (K : ℕ → ℕ → EReal) (p s : ℕ) : EReal :=
  if s ≤ p then (∑ d : Fin 128, Q d.val * K s d.val) * FloatOps.ofBits (F := Ideal) .f32 0x3DB504F3#32 else ⊥

theorem score_ne_top {Q : ℕ → EReal} {K : ℕ → ℕ → EReal} (hQ : ∀ d < 128, ∃ r : ℝ, Q d = r) (p : ℕ) (hK : ∀ s ≤ p, ∀ d < 128, ∃ r : ℝ, K s d = r) (s : ℕ) : score Q K p s ≠ ⊤ := by
  unfold score
  split_ifs with h
  · obtain ⟨c, hc⟩ := scale_real
    rw [hc]
    obtain ⟨r, hr⟩ := dot_real (fun d : Fin 128 => Q d.val) (fun d : Fin 128 => K s d.val) (fun d => hQ _ d.isLt) (fun d => hK s h _ d.isLt) c
    rw [hr]
    exact EReal.coe_ne_top r
  · exact bot_ne_top

theorem score_zero_ne_bot {Q : ℕ → EReal} {K : ℕ → ℕ → EReal} (hQ : ∀ d < 128, ∃ r : ℝ, Q d = r) (p : ℕ) (hK : ∀ s ≤ p, ∀ d < 128, ∃ r : ℝ, K s d = r) : score Q K p 0 ≠ ⊥ := by
  unfold score
  rw [if_pos (Nat.zero_le p)]
  obtain ⟨c, hc⟩ := scale_real
  rw [hc]
  obtain ⟨r, hr⟩ := dot_real (fun d : Fin 128 => Q d.val) (fun d : Fin 128 => K 0 d.val) (fun d => hQ _ d.isLt) (fun d => hK 0 (Nat.zero_le p) _ d.isLt) c
  rw [hr]
  exact EReal.coe_ne_bot r

/-- A query against 640 keys and values. -/
def att (Q : ℕ → EReal) (K : ℕ → ℕ → EReal) (V : ℕ → EReal) (p : ℕ) : EReal := soft 640 (score Q K p) V

/-- Stopping at any key after the query gives the same. -/
theorem att_eq {Q : ℕ → EReal} {K : ℕ → ℕ → EReal} (V : ℕ → EReal) (p n : ℕ) (hp : p < n) (hn : n ≤ 640) (hQ : ∀ d < 128, ∃ r : ℝ, Q d = r)
    (hK : ∀ s ≤ p, ∀ d < 128, ∃ r : ℝ, K s d = r) : soft n (score Q K p) V = att Q K V p :=
  soft_pad hn (fun s hs => if_neg (by omega)) (i := 0) (by omega) (score_zero_ne_bot hQ p hK) (score_ne_top hQ p hK)

theorem att_congr {Q Q' : ℕ → EReal} {K K' : ℕ → ℕ → EReal} {V V' : ℕ → EReal} (p : ℕ) (hQ : ∀ d < 128, Q d = Q' d) (hK : ∀ s < 640, ∀ d < 128, K s d = K' s d)
    (hV : ∀ s < 640, V s = V' s) : att Q K V p = att Q' K' V' p := by
  refine soft_congr (fun s hs => ?_) hV
  unfold score
  refine if_congr Iff.rfl (congrArg (· * _) (Finset.sum_congr rfl fun d _ => ?_)) rfl
  rw [hQ _ d.isLt, hK s hs _ d.isLt]

/-- What one block of the call holds, from its queries, keys and values. -/
def blockAtt (x : (⟨2, ![640, 896]⟩ : Shape).Idx → EReal) (k v : (⟨2, ![640, 128]⟩ : Shape).Idx → EReal) (p l : ℕ) : EReal :=
  att (fun d => rd x p (l / 128 * 128 + d)) (rd k) (fun s => rd v s (l % 128)) p

end Cert.Attn

namespace Cert.AttentionIdeal.Sum

open Cert.AttentionIdeal Cert.AttentionIdeal.Gen Cert.Attn

theorem inb_q (o : ℕ) (ho : o ≤ 512) (g : Fin 7) : ∀ a, (![o, g.val * 128] : Fin 2 → Nat) a + S128x128.size a ≤ S640x896.size a := fun a => by
  have := g.isLt
  match a with
  | ⟨0, _⟩ => show o + 128 ≤ 640; omega
  | ⟨1, _⟩ => show g.val * 128 + 128 ≤ 896; omega

/-- ONE BLOCK OF QUERIES: the rows of head `g` of the average over the keys up to its end, at an index. -/
theorem piece_apply (x : Vec Ideal S640x896 .bf16) (k v : Vec Ideal S640x128 .bf16) (hx : ∀ i, ∃ r : ℝ, x i = r) (hk : ∀ i, ∃ r : ℝ, k i = r)
    (o N : ℕ) (ho : o ≤ 512) (hN : N = o + 128) (g : Fin 7) (b : ℕ) (hb : b = g.val * 128)
    (K V : FVec Ideal ⟨2, ![N, 128]⟩ .bf16) (hK : ∀ (s : Fin N) (d : Fin 128), K (ix2 s d) = rd k s.val d.val) (hV : ∀ (s : Fin N) (d : Fin 128), V (ix2 s d) = rd v s.val d.val)
    (w : FVec Ideal S896x128 .f32) (hc) (h0) (h1) (hbb) (hr) (hφ) (hm) (ha) (hs) (hbc) (ht)
    (hw : w = kavg (kscore (concatenate S896x128 0
        [⟨S128x128, View.ld (Val := Elt Ideal) (e' := .bf16) x (Rect.unit (s := S640x896) ![o, (0 : Fin 7).val * 128] S128x128.size (inb_q o ho 0))⟩,
         ⟨S128x128, View.ld (Val := Elt Ideal) (e' := .bf16) x (Rect.unit (s := S640x896) ![o, (1 : Fin 7).val * 128] S128x128.size (inb_q o ho 1))⟩,
         ⟨S128x128, View.ld (Val := Elt Ideal) (e' := .bf16) x (Rect.unit (s := S640x896) ![o, (2 : Fin 7).val * 128] S128x128.size (inb_q o ho 2))⟩,
         ⟨S128x128, View.ld (Val := Elt Ideal) (e' := .bf16) x (Rect.unit (s := S640x896) ![o, (3 : Fin 7).val * 128] S128x128.size (inb_q o ho 3))⟩,
         ⟨S128x128, View.ld (Val := Elt Ideal) (e' := .bf16) x (Rect.unit (s := S640x896) ![o, (4 : Fin 7).val * 128] S128x128.size (inb_q o ho 4))⟩,
         ⟨S128x128, View.ld (Val := Elt Ideal) (e' := .bf16) x (Rect.unit (s := S640x896) ![o, (5 : Fin 7).val * 128] S128x128.size (inb_q o ho 5))⟩,
         ⟨S128x128, View.ld (Val := Elt Ideal) (e' := .bf16) x (Rect.unit (s := S640x896) ![o, (6 : Fin 7).val * 128] S128x128.size (inb_q o ho 6))⟩] hc)
      K (kmask N (BitVec.ofNat 32 o) h0 h1 hbb)) V hr hφ hm ha hs hbc ht)
    (hsl : S896x128.Slices ![b, 0] S128x128) (inb : ∀ a, (![o, b] : Fin 2 → Nat) a + S128x128.size a ≤ S640x896.size a) (y : S128x128.Idx) :
    extractStridedSlice S128x128 ![b, 0] w hsl y
      = (fun z : S640x896.Idx => blockAtt x k v (z 0).val (z 1).val) ((Rect.unit (s := S640x896) ![o, b] S128x128.size inb).emb y) := by
  obtain ⟨a, c, rfl⟩ : ∃ (a : Fin 128) (c : Fin 128), y = ix2 a c := ⟨y 0, y 1, eq_ix2 (n0 := 128) (n1 := 128) y⟩
  subst hb hN
  have hg := g.isLt
  have hA := a.isLt
  have hC := c.isLt
  have hrow : g.val * 128 + a.val < 896 := by omega
  rw [extractStridedSlice_apply (s := S896x128) (t := S128x128) ![g.val * 128, 0] w hsl (ix2 a c) (ix2 (⟨g.val * 128 + a.val, hrow⟩ : Fin 896) c) (fun e => match e with
    | ⟨0, _⟩ => rfl
    | ⟨1, _⟩ => (Nat.zero_add c.val).symm)]
  rw [hw]
  have e0 : (((Rect.unit (s := S640x896) ![o, g.val * 128] S128x128.size inb).emb (ix2 a c)) 0).val = o + a.val := by
    show o + 1 * a.val = o + a.val; omega
  have e1 : (((Rect.unit (s := S640x896) ![o, g.val * 128] S128x128.size inb).emb (ix2 a c)) 1).val = g.val * 128 + c.val := by
    show g.val * 128 + 1 * c.val = g.val * 128 + c.val; omega
  show _ = blockAtt x k v (((Rect.unit (s := S640x896) ![o, g.val * 128] S128x128.size inb).emb (ix2 a c)) 0).val (((Rect.unit (s := S640x896) ![o, g.val * 128] S128x128.size inb).emb (ix2 a c)) 1).val
  rw [e0, e1]
  unfold blockAtt
  rw [show (g.val * 128 + c.val) / 128 = g.val by omega, show (g.val * 128 + c.val) % 128 = c.val by omega]
  have hq : ∀ d < 128, ∃ r : ℝ, rd x (o + a.val) (g.val * 128 + d) = r := fun d hd => by
    unfold rd; rw [dif_pos ⟨by omega, by omega⟩]; exact hx _
  have hkk : ∀ s ≤ o + a.val, ∀ d < 128, ∃ r : ℝ, rd k s d = r := fun s hs d hd => by
    unfold rd; rw [dif_pos ⟨by omega, by omega⟩]; exact hk _
  rw [← att_eq _ (o + a.val) (o + 128) (by omega) (by omega) hq hkk]
  refine kavg_apply _ V hr hφ hm ha hs hbc ht _ c _ _ (fun s => ?_) (fun s => hV s c)
  rw [kscore_apply, kmask_apply (by omega) o ho]
  unfold score
  have hmod : (g.val * 128 + a.val) % 128 = a.val := by omega
  have hst : ∀ d : Fin 128, _ = x _ := fun d => stack_apply
    (fun g' : Fin 7 => View.ld (Val := Elt Ideal) (e' := .bf16) x (Rect.unit (s := S640x896) ![o, g'.val * 128] S128x128.size (inb_q o ho g'))) hc g a d hrow
  by_cases h : s.val ≤ a.val + o
  · rw [if_pos (show (if s.val ≤ (g.val * 128 + a.val) % 128 + o then 1#1 else 0#1) = 1#1 from if_pos (by omega)), if_pos (by omega)]
    refine congrArg (· * _) (Finset.sum_congr rfl fun d _ => ?_)
    rw [hK]
    refine congrArg (· * _) ((hst d).trans (rd_eq x _ _ _ ?_ ?_))
    · show o + 1 * a.val = o + a.val; omega
    · show g.val * 128 + 1 * d.val = g.val * 128 + d.val; omega
  · have hd : (if s.val ≤ (g.val * 128 + a.val) % 128 + o then 1#1 else 0#1) = 0#1 := if_neg (by omega)
    rw [if_neg (by show ¬ (if s.val ≤ (g.val * 128 + a.val) % 128 + o then 1#1 else 0#1) = 1#1; rw [hd]; decide), if_neg (by omega)]

/-- Keys or values up to a row, read from the block. -/
theorem part_apply (k : Vec Ideal S640x128 .bf16) (N : ℕ) (inb : ∀ a, (![0, 0] : Fin 2 → Nat) a + (⟨2, ![N, 128]⟩ : Shape).size a ≤ S640x128.size a) (s : Fin N) (d : Fin 128) :
    View.ld (Val := Elt Ideal) (e' := .bf16) k (Rect.unit (s := S640x128) ![0, 0] (⟨2, ![N, 128]⟩ : Shape).size inb) (ix2 s d) = rd k s.val d.val :=
  rd_eq k _ _ _ (by show 0 + 1 * s.val = s.val; omega) (by show 0 + 1 * d.val = d.val; omega)

theorem piece0 (x : Vec Ideal S640x896 .bf16) (k v : Vec Ideal S640x128 .bf16) (hx : ∀ i, ∃ r : ℝ, x i = r) (hk : ∀ i, ∃ r : ℝ, k i = r)
    (g : Fin 7) (b : ℕ) (hb : b = g.val * 128) (hsl : S896x128.Slices ![b, 0] S128x128) (inb : ∀ a, (![0, b] : Fin 2 → Nat) a + S128x128.size a ≤ S640x896.size a) (y : S128x128.Idx) :
    extractStridedSlice S128x128 ![b, 0]
      (k0_pay8 (F := Ideal) (k0_pay6 (F := Ideal) (View.ld (Val := Elt Ideal) (e' := .bf16) x (Rect.unit (s := S640x896) ![0, 0] S128x128.size inb_S640x896_S128x128_0_0)) (View.ld (Val := Elt Ideal) (e' := .bf16) x (Rect.unit (s := S640x896) ![0, 128] S128x128.size inb_S640x896_S128x128_0_128)) (View.ld (Val := Elt Ideal) (e' := .bf16) x (Rect.unit (s := S640x896) ![0, 256] S128x128.size inb_S640x896_S128x128_0_256)) (View.ld (Val := Elt Ideal) (e' := .bf16) x (Rect.unit (s := S640x896) ![0, 384] S128x128.size inb_S640x896_S128x128_0_384)) (View.ld (Val := Elt Ideal) (e' := .bf16) x (Rect.unit (s := S640x896) ![0, 512] S128x128.size inb_S640x896_S128x128_0_512)) (View.ld (Val := Elt Ideal) (e' := .bf16) x (Rect.unit (s := S640x896) ![0, 640] S128x128.size inb_S640x896_S128x128_0_640)) (View.ld (Val := Elt Ideal) (e' := .bf16) x (Rect.unit (s := S640x896) ![0, 768] S128x128.size inb_S640x896_S128x128_0_768)) (View.ld (Val := Elt Ideal) (e' := .bf16) k (Rect.unit (s := S640x128) ![0, 0] S128x128.size inb_S640x128_S128x128_0_0))) k0_pay7 (View.ld (Val := Elt Ideal) (e' := .bf16) v (Rect.unit (s := S640x128) ![0, 0] S128x128.size inb_S640x128_S128x128_0_0))) hsl y
      = (fun z : S640x896.Idx => blockAtt x k v (z 0).val (z 1).val) ((Rect.unit (s := S640x896) ![0, b] S128x128.size inb).emb y) :=
  piece_apply x k v hx hk 0 128 (by decide) rfl g b hb _ _ (part_apply k 128 inb_S640x128_S128x128_0_0) (part_apply v 128 inb_S640x128_S128x128_0_0) _
    concatenates_S128x128_S128x128_S128x128_S128x128_S128x128_S128x128_S128x128_S896x128_d0 iota_S896x128_d0_w32 iota_S896x128_d1_w32 broadcasts_S896x128_S896x128
    reduces_S896x128_S896 (.inl rfl) rfl rfl shapeCasts_S896_S896x1 broadcasts_S896x1_S896x128 bitsLt_bf16_f32 rfl hsl inb y

theorem piece1 (x : Vec Ideal S640x896 .bf16) (k v : Vec Ideal S640x128 .bf16) (hx : ∀ i, ∃ r : ℝ, x i = r) (hk : ∀ i, ∃ r : ℝ, k i = r)
    (g : Fin 7) (b : ℕ) (hb : b = g.val * 128) (hsl : S896x128.Slices ![b, 0] S128x128) (inb : ∀ a, (![128, b] : Fin 2 → Nat) a + S128x128.size a ≤ S640x896.size a) (y : S128x128.Idx) :
    extractStridedSlice S128x128 ![b, 0]
      (k0_pay18 (F := Ideal) (k0_pay16 (F := Ideal) (View.ld (Val := Elt Ideal) (e' := .bf16) x (Rect.unit (s := S640x896) ![128, 0] S128x128.size inb_S640x896_S128x128_128_0)) (View.ld (Val := Elt Ideal) (e' := .bf16) x (Rect.unit (s := S640x896) ![128, 128] S128x128.size inb_S640x896_S128x128_128_128)) (View.ld (Val := Elt Ideal) (e' := .bf16) x (Rect.unit (s := S640x896) ![128, 256] S128x128.size inb_S640x896_S128x128_128_256)) (View.ld (Val := Elt Ideal) (e' := .bf16) x (Rect.unit (s := S640x896) ![128, 384] S128x128.size inb_S640x896_S128x128_128_384)) (View.ld (Val := Elt Ideal) (e' := .bf16) x (Rect.unit (s := S640x896) ![128, 512] S128x128.size inb_S640x896_S128x128_128_512)) (View.ld (Val := Elt Ideal) (e' := .bf16) x (Rect.unit (s := S640x896) ![128, 640] S128x128.size inb_S640x896_S128x128_128_640)) (View.ld (Val := Elt Ideal) (e' := .bf16) x (Rect.unit (s := S640x896) ![128, 768] S128x128.size inb_S640x896_S128x128_128_768)) (View.ld (Val := Elt Ideal) (e' := .bf16) k (Rect.unit (s := S640x128) ![0, 0] S256x128.size inb_S640x128_S256x128_0_0))) (k0_pay17 (F := Ideal) (View.ld (Val := Elt Ideal) (e' := .bf16) x (Rect.unit (s := S640x896) ![128, 0] S128x128.size inb_S640x896_S128x128_128_0)) (View.ld (Val := Elt Ideal) (e' := .bf16) x (Rect.unit (s := S640x896) ![128, 128] S128x128.size inb_S640x896_S128x128_128_128)) (View.ld (Val := Elt Ideal) (e' := .bf16) x (Rect.unit (s := S640x896) ![128, 256] S128x128.size inb_S640x896_S128x128_128_256)) (View.ld (Val := Elt Ideal) (e' := .bf16) x (Rect.unit (s := S640x896) ![128, 384] S128x128.size inb_S640x896_S128x128_128_384)) (View.ld (Val := Elt Ideal) (e' := .bf16) x (Rect.unit (s := S640x896) ![128, 512] S128x128.size inb_S640x896_S128x128_128_512)) (View.ld (Val := Elt Ideal) (e' := .bf16) x (Rect.unit (s := S640x896) ![128, 640] S128x128.size inb_S640x896_S128x128_128_640)) (View.ld (Val := Elt Ideal) (e' := .bf16) x (Rect.unit (s := S640x896) ![128, 768] S128x128.size inb_S640x896_S128x128_128_768)) (View.ld (Val := Elt Ideal) (e' := .bf16) k (Rect.unit (s := S640x128) ![0, 0] S256x128.size inb_S640x128_S256x128_0_0))) (View.ld (Val := Elt Ideal) (e' := .bf16) v (Rect.unit (s := S640x128) ![0, 0] S256x128.size inb_S640x128_S256x128_0_0))) hsl y
      = (fun z : S640x896.Idx => blockAtt x k v (z 0).val (z 1).val) ((Rect.unit (s := S640x896) ![128, b] S128x128.size inb).emb y) :=
  piece_apply x k v hx hk 128 256 (by decide) rfl g b hb _ _ (part_apply k 256 inb_S640x128_S256x128_0_0) (part_apply v 256 inb_S640x128_S256x128_0_0) _
    concatenates_S128x128_S128x128_S128x128_S128x128_S128x128_S128x128_S128x128_S896x128_d0 iota_S896x256_d0_w32 iota_S896x256_d1_w32 broadcasts_S896x256_S896x256
    reduces_S896x256_S896 (.inl rfl) rfl rfl shapeCasts_S896_S896x1 broadcasts_S896x1_S896x256 bitsLt_bf16_f32 rfl hsl inb y

theorem piece2 (x : Vec Ideal S640x896 .bf16) (k v : Vec Ideal S640x128 .bf16) (hx : ∀ i, ∃ r : ℝ, x i = r) (hk : ∀ i, ∃ r : ℝ, k i = r)
    (g : Fin 7) (b : ℕ) (hb : b = g.val * 128) (hsl : S896x128.Slices ![b, 0] S128x128) (inb : ∀ a, (![256, b] : Fin 2 → Nat) a + S128x128.size a ≤ S640x896.size a) (y : S128x128.Idx) :
    extractStridedSlice S128x128 ![b, 0]
      (k0_pay27 (F := Ideal) (k0_pay26 (F := Ideal) (View.ld (Val := Elt Ideal) (e' := .bf16) x (Rect.unit (s := S640x896) ![256, 0] S128x128.size inb_S640x896_S128x128_256_0)) (View.ld (Val := Elt Ideal) (e' := .bf16) x (Rect.unit (s := S640x896) ![256, 128] S128x128.size inb_S640x896_S128x128_256_128)) (View.ld (Val := Elt Ideal) (e' := .bf16) x (Rect.unit (s := S640x896) ![256, 256] S128x128.size inb_S640x896_S128x128_256_256)) (View.ld (Val := Elt Ideal) (e' := .bf16) x (Rect.unit (s := S640x896) ![256, 384] S128x128.size inb_S640x896_S128x128_256_384)) (View.ld (Val := Elt Ideal) (e' := .bf16) x (Rect.unit (s := S640x896) ![256, 512] S128x128.size inb_S640x896_S128x128_256_512)) (View.ld (Val := Elt Ideal) (e' := .bf16) x (Rect.unit (s := S640x896) ![256, 640] S128x128.size inb_S640x896_S128x128_256_640)) (View.ld (Val := Elt Ideal) (e' := .bf16) x (Rect.unit (s := S640x896) ![256, 768] S128x128.size inb_S640x896_S128x128_256_768)) (View.ld (Val := Elt Ideal) (e' := .bf16) k (Rect.unit (s := S640x128) ![0, 0] S384x128.size inb_S640x128_S384x128_0_0))) (View.ld (Val := Elt Ideal) (e' := .bf16) v (Rect.unit (s := S640x128) ![0, 0] S384x128.size inb_S640x128_S384x128_0_0))) hsl y
      = (fun z : S640x896.Idx => blockAtt x k v (z 0).val (z 1).val) ((Rect.unit (s := S640x896) ![256, b] S128x128.size inb).emb y) :=
  piece_apply x k v hx hk 256 384 (by decide) rfl g b hb _ _ (part_apply k 384 inb_S640x128_S384x128_0_0) (part_apply v 384 inb_S640x128_S384x128_0_0) _
    concatenates_S128x128_S128x128_S128x128_S128x128_S128x128_S128x128_S128x128_S896x128_d0 iota_S896x384_d0_w32 iota_S896x384_d1_w32 broadcasts_S896x384_S896x384
    reduces_S896x384_S896 (.inl rfl) rfl rfl shapeCasts_S896_S896x1 broadcasts_S896x1_S896x384 bitsLt_bf16_f32 rfl hsl inb y

theorem piece3 (x : Vec Ideal S640x896 .bf16) (k v : Vec Ideal S640x128 .bf16) (hx : ∀ i, ∃ r : ℝ, x i = r) (hk : ∀ i, ∃ r : ℝ, k i = r)
    (g : Fin 7) (b : ℕ) (hb : b = g.val * 128) (hsl : S896x128.Slices ![b, 0] S128x128) (inb : ∀ a, (![384, b] : Fin 2 → Nat) a + S128x128.size a ≤ S640x896.size a) (y : S128x128.Idx) :
    extractStridedSlice S128x128 ![b, 0]
      (k0_pay35 (F := Ideal) (View.ld (Val := Elt Ideal) (e' := .bf16) x (Rect.unit (s := S640x896) ![384, 0] S128x128.size inb_S640x896_S128x128_384_0)) (View.ld (Val := Elt Ideal) (e' := .bf16) x (Rect.unit (s := S640x896) ![384, 128] S128x128.size inb_S640x896_S128x128_384_128)) (View.ld (Val := Elt Ideal) (e' := .bf16) x (Rect.unit (s := S640x896) ![384, 256] S128x128.size inb_S640x896_S128x128_384_256)) (View.ld (Val := Elt Ideal) (e' := .bf16) x (Rect.unit (s := S640x896) ![384, 384] S128x128.size inb_S640x896_S128x128_384_384)) (View.ld (Val := Elt Ideal) (e' := .bf16) x (Rect.unit (s := S640x896) ![384, 512] S128x128.size inb_S640x896_S128x128_384_512)) (View.ld (Val := Elt Ideal) (e' := .bf16) x (Rect.unit (s := S640x896) ![384, 640] S128x128.size inb_S640x896_S128x128_384_640)) (View.ld (Val := Elt Ideal) (e' := .bf16) x (Rect.unit (s := S640x896) ![384, 768] S128x128.size inb_S640x896_S128x128_384_768)) (View.ld (Val := Elt Ideal) (e' := .bf16) k (Rect.unit (s := S640x128) ![0, 0] S512x128.size inb_S640x128_S512x128_0_0)) (View.ld (Val := Elt Ideal) (e' := .bf16) v (Rect.unit (s := S640x128) ![0, 0] S512x128.size inb_S640x128_S512x128_0_0))) hsl y
      = (fun z : S640x896.Idx => blockAtt x k v (z 0).val (z 1).val) ((Rect.unit (s := S640x896) ![384, b] S128x128.size inb).emb y) :=
  piece_apply x k v hx hk 384 512 (by decide) rfl g b hb _ _ (part_apply k 512 inb_S640x128_S512x128_0_0) (part_apply v 512 inb_S640x128_S512x128_0_0) _
    concatenates_S128x128_S128x128_S128x128_S128x128_S128x128_S128x128_S128x128_S896x128_d0 iota_S896x512_d0_w32 iota_S896x512_d1_w32 broadcasts_S896x512_S896x512
    reduces_S896x512_S896 (.inl rfl) rfl rfl shapeCasts_S896_S896x1 broadcasts_S896x1_S896x512 bitsLt_bf16_f32 rfl hsl inb y

theorem piece4 (x : Vec Ideal S640x896 .bf16) (k v : Vec Ideal S640x128 .bf16) (hx : ∀ i, ∃ r : ℝ, x i = r) (hk : ∀ i, ∃ r : ℝ, k i = r)
    (g : Fin 7) (b : ℕ) (hb : b = g.val * 128) (hsl : S896x128.Slices ![b, 0] S128x128) (inb : ∀ a, (![512, b] : Fin 2 → Nat) a + S128x128.size a ≤ S640x896.size a) (y : S128x128.Idx) :
    extractStridedSlice S128x128 ![b, 0]
      (k0_pay44 (F := Ideal) (k0_pay43 (F := Ideal) (View.ld (Val := Elt Ideal) (e' := .bf16) x (Rect.unit (s := S640x896) ![512, 0] S128x128.size inb_S640x896_S128x128_512_0)) (View.ld (Val := Elt Ideal) (e' := .bf16) x (Rect.unit (s := S640x896) ![512, 128] S128x128.size inb_S640x896_S128x128_512_128)) (View.ld (Val := Elt Ideal) (e' := .bf16) x (Rect.unit (s := S640x896) ![512, 256] S128x128.size inb_S640x896_S128x128_512_256)) (View.ld (Val := Elt Ideal) (e' := .bf16) x (Rect.unit (s := S640x896) ![512, 384] S128x128.size inb_S640x896_S128x128_512_384)) (View.ld (Val := Elt Ideal) (e' := .bf16) x (Rect.unit (s := S640x896) ![512, 512] S128x128.size inb_S640x896_S128x128_512_512)) (View.ld (Val := Elt Ideal) (e' := .bf16) x (Rect.unit (s := S640x896) ![512, 640] S128x128.size inb_S640x896_S128x128_512_640)) (View.ld (Val := Elt Ideal) (e' := .bf16) x (Rect.unit (s := S640x896) ![512, 768] S128x128.size inb_S640x896_S128x128_512_768))) (View.ld (Val := Elt Ideal) (e' := .bf16) k (Rect.unit (s := S640x128) ![0, 0] S640x128.size inb_S640x128_S640x128_0_0)) (constant S896x640 .f32 0x00000000#32) (View.ld (Val := Elt Ideal) (e' := .bf16) v (Rect.unit (s := S640x128) ![0, 0] S640x128.size inb_S640x128_S640x128_0_0))) hsl y
      = (fun z : S640x896.Idx => blockAtt x k v (z 0).val (z 1).val) ((Rect.unit (s := S640x896) ![512, b] S128x128.size inb).emb y) :=
  piece_apply x k v hx hk 512 640 (by decide) rfl g b hb _ _ (part_apply k 640 inb_S640x128_S640x128_0_0) (part_apply v 640 inb_S640x128_S640x128_0_0) _
    concatenates_S128x128_S128x128_S128x128_S128x128_S128x128_S128x128_S128x128_S896x128_d0 iota_S896x640_d0_w32 iota_S896x640_d1_w32 broadcasts_S896x640_S896x640
    reduces_S896x640_S896 (.inl rfl) rfl rfl shapeCasts_S896_S896x1 broadcasts_S896x1_S896x640 bitsLt_bf16_f32 rfl hsl inb y

theorem hz : (![0, 0] : Fin 2 → Nat) = fun _ => 0 := funext fun a => by fin_cases a <;> rfl

section
variable (m : (ℓ : Loc nD τ sig) → Buf (Elt Ideal) ℓ) (ρ : Dev nD → PrngReg)

/-- WHAT THE BODY LEAVES at an index of its block, where queries and keys are numbers. -/
theorem block_apply (c : Dev nD) (t : Fin cfg0.N) (hx : ∀ i : S640x896.Idx, ∃ r : ℝ, (X0_0 m c t i : EReal) = (r : EReal)) (hk : ∀ i : S640x128.Idx, ∃ r : ℝ, (iblk m c 1 t i : EReal) = (r : EReal)) (a : Fin 640) (l : Fin 896) :
    outsAt0 m c t (ix2 a l) = blockAtt (X0_0 m c t) (iblk m c 1 t) (iblk m c 2 t) a.val l.val := by
  unfold outsAt0 out0_A_3
  rw [View.read_writes_eq_canon _ _ _ (cover0_A_3 c _ _ _ _ _ _ _ _ _ _ _ _)]
  refine View.canon_apply_of_pieces (Val := Elt Ideal) (e := .f32)
    (fun z : S640x896.Idx => blockAtt (X0_0 m c t) (iblk m c 1 t) (iblk m c 2 t) (z 0).val (z 1).val) _ ?_ (ix2 a l) (cover0_A_3 c _ _ _ _ _ _ _ _ _ _ _ _ (ix2 a l))
  unfold kernelRun0_A
  dsimp only
  sl_unfold_words
  simp only [View.readAt_eq_ld, (hs0_0 t).read_unread, (hs0_1 t).read_unread, (hs0_2 t).read_unread]
  exact
    List.forall_mem_cons.2 ⟨piece4 _ _ _ hx hk 6 768 rfl slices_S896x128_o768_0_S128x128 inb_S640x896_S128x128_512_768,
    List.forall_mem_cons.2 ⟨piece4 _ _ _ hx hk 5 640 rfl slices_S896x128_o640_0_S128x128 inb_S640x896_S128x128_512_640,
    List.forall_mem_cons.2 ⟨piece4 _ _ _ hx hk 4 512 rfl slices_S896x128_o512_0_S128x128 inb_S640x896_S128x128_512_512,
    List.forall_mem_cons.2 ⟨piece4 _ _ _ hx hk 3 384 rfl slices_S896x128_o384_0_S128x128 inb_S640x896_S128x128_512_384,
    List.forall_mem_cons.2 ⟨piece4 _ _ _ hx hk 2 256 rfl slices_S896x128_o256_0_S128x128 inb_S640x896_S128x128_512_256,
    List.forall_mem_cons.2 ⟨piece4 _ _ _ hx hk 1 128 rfl slices_S896x128_o128_0_S128x128 inb_S640x896_S128x128_512_128,
    List.forall_mem_cons.2 ⟨piece4 _ _ _ hx hk 0 0 rfl slices_S896x128_o0_0_S128x128 inb_S640x896_S128x128_512_0,
    List.forall_mem_cons.2 ⟨piece3 _ _ _ hx hk 6 768 rfl slices_S896x128_o768_0_S128x128 inb_S640x896_S128x128_384_768,
    List.forall_mem_cons.2 ⟨piece3 _ _ _ hx hk 5 640 rfl slices_S896x128_o640_0_S128x128 inb_S640x896_S128x128_384_640,
    List.forall_mem_cons.2 ⟨piece3 _ _ _ hx hk 4 512 rfl slices_S896x128_o512_0_S128x128 inb_S640x896_S128x128_384_512,
    List.forall_mem_cons.2 ⟨piece3 _ _ _ hx hk 3 384 rfl slices_S896x128_o384_0_S128x128 inb_S640x896_S128x128_384_384,
    List.forall_mem_cons.2 ⟨piece3 _ _ _ hx hk 2 256 rfl slices_S896x128_o256_0_S128x128 inb_S640x896_S128x128_384_256,
    List.forall_mem_cons.2 ⟨piece3 _ _ _ hx hk 1 128 rfl slices_S896x128_o128_0_S128x128 inb_S640x896_S128x128_384_128,
    List.forall_mem_cons.2 ⟨piece3 _ _ _ hx hk 0 0 rfl slices_S896x128_o0_0_S128x128 inb_S640x896_S128x128_384_0,
    List.forall_mem_cons.2 ⟨piece2 _ _ _ hx hk 6 768 rfl slices_S896x128_o768_0_S128x128 inb_S640x896_S128x128_256_768,
    List.forall_mem_cons.2 ⟨piece2 _ _ _ hx hk 5 640 rfl slices_S896x128_o640_0_S128x128 inb_S640x896_S128x128_256_640,
    List.forall_mem_cons.2 ⟨piece2 _ _ _ hx hk 4 512 rfl slices_S896x128_o512_0_S128x128 inb_S640x896_S128x128_256_512,
    List.forall_mem_cons.2 ⟨piece2 _ _ _ hx hk 3 384 rfl slices_S896x128_o384_0_S128x128 inb_S640x896_S128x128_256_384,
    List.forall_mem_cons.2 ⟨piece2 _ _ _ hx hk 2 256 rfl slices_S896x128_o256_0_S128x128 inb_S640x896_S128x128_256_256,
    List.forall_mem_cons.2 ⟨piece2 _ _ _ hx hk 1 128 rfl slices_S896x128_o128_0_S128x128 inb_S640x896_S128x128_256_128,
    List.forall_mem_cons.2 ⟨piece2 _ _ _ hx hk 0 0 rfl slices_S896x128_o0_0_S128x128 inb_S640x896_S128x128_256_0,
    List.forall_mem_cons.2 ⟨piece1 _ _ _ hx hk 6 768 rfl slices_S896x128_o768_0_S128x128 inb_S640x896_S128x128_128_768,
    List.forall_mem_cons.2 ⟨piece1 _ _ _ hx hk 5 640 rfl slices_S896x128_o640_0_S128x128 inb_S640x896_S128x128_128_640,
    List.forall_mem_cons.2 ⟨piece1 _ _ _ hx hk 4 512 rfl slices_S896x128_o512_0_S128x128 inb_S640x896_S128x128_128_512,
    List.forall_mem_cons.2 ⟨piece1 _ _ _ hx hk 3 384 rfl slices_S896x128_o384_0_S128x128 inb_S640x896_S128x128_128_384,
    List.forall_mem_cons.2 ⟨piece1 _ _ _ hx hk 2 256 rfl slices_S896x128_o256_0_S128x128 inb_S640x896_S128x128_128_256,
    List.forall_mem_cons.2 ⟨piece1 _ _ _ hx hk 1 128 rfl slices_S896x128_o128_0_S128x128 inb_S640x896_S128x128_128_128,
    List.forall_mem_cons.2 ⟨piece1 _ _ _ hx hk 0 0 rfl slices_S896x128_o0_0_S128x128 inb_S640x896_S128x128_128_0,
    List.forall_mem_cons.2 ⟨piece0 _ _ _ hx hk 6 768 rfl slices_S896x128_o768_0_S128x128 inb_S640x896_S128x128_0_768,
    List.forall_mem_cons.2 ⟨piece0 _ _ _ hx hk 5 640 rfl slices_S896x128_o640_0_S128x128 inb_S640x896_S128x128_0_640,
    List.forall_mem_cons.2 ⟨piece0 _ _ _ hx hk 4 512 rfl slices_S896x128_o512_0_S128x128 inb_S640x896_S128x128_0_512,
    List.forall_mem_cons.2 ⟨piece0 _ _ _ hx hk 3 384 rfl slices_S896x128_o384_0_S128x128 inb_S640x896_S128x128_0_384,
    List.forall_mem_cons.2 ⟨piece0 _ _ _ hx hk 2 256 rfl slices_S896x128_o256_0_S128x128 inb_S640x896_S128x128_0_256,
    List.forall_mem_cons.2 ⟨piece0 _ _ _ hx hk 1 128 rfl slices_S896x128_o128_0_S128x128 inb_S640x896_S128x128_0_128,
    List.forall_mem_cons.2 ⟨piece0 _ _ _ hx hk 0 0 rfl slices_S896x128_o0_0_S128x128 inb_S640x896_S128x128_0_0,
    List.forall_mem_nil _⟩⟩⟩⟩⟩⟩⟩⟩⟩⟩⟩⟩⟩⟩⟩⟩⟩⟩⟩⟩⟩⟩⟩⟩⟩⟩⟩⟩⟩⟩⟩⟩⟩⟩⟩

end

end Cert.AttentionIdeal.Sum

end
-- ==== Proof.AttentionRead.lean ====
/- The reference of the attention call: its result at an index. -/
module

public import proofs.«01_k».proof.Proof.Gen.AttentionRefIdeal.Read
public import proofs.«01_k».proof.Proof.AttentionBlock
public import Idealize.ShloMosaic.Lib.Pipeline.ValueKit

@[expose] public section

set_option maxRecDepth 65536

noncomputable section

open Idealize.ShloMosaic hiding ix0 ix1 ix2 ix3 ix4 ix5 eq_ix1 eq_ix2
open Idealize.ShloMosaic.TcCoe Idealize.ShloMosaic.ValueIdx Idealize.SL.Sem
open scoped BigOperators

namespace Cert.Attn

/-- THE MATHEMATICS OF THE CALL: row `a` and column `c` of its result. Columns come in 56 heads of 128, seven heads to each
    pair of keys and values; rows in two sequences of 640. -/
def whole (x : (⟨2, ![1280, 9216]⟩ : Shape).Idx → EReal) (a c : ℕ) : EReal :=
  att (fun d => rd x a (c / 128 * 128 + d)) (fun s d => rd x (a / 640 * 640 + s) (7168 + c / 896 * 128 + d))
    (fun s => rd x (a / 640 * 640 + s) (8192 + c / 896 * 128 + c % 128)) (a % 640)

end Cert.Attn

namespace Cert.AttentionRefIdeal.Sum

open Cert.AttentionRefIdeal Cert.AttentionRefIdeal.Gen Cert.AttentionRefIdeal.Read Cert.Attn

variable (x : Vec Ideal S1280x9216 .bf16)

theorem q_at (b : Fin 2) (p : Fin 640) (h : Fin 8) (g : Fin 7) (e : Fin 128) :
    val_main_v1 (F := Ideal) x (ix5 b p h g e) = rd x (b.val * 640 + p.val) ((h.val * 7 + g.val) * 128 + e.val) := by
  have := b.isLt; have := p.isLt; have := h.isLt; have := g.isLt; have := e.isLt
  rw [val_main_v1_apply, val_main_v0_apply]
  refine rd_eq x _ _ _ ?_ ?_
  · show ((((b.val * 640 + p.val) * 8 + h.val) * 7 + g.val) * 128 + e.val) / 7168 = _; omega
  · show ((((b.val * 640 + p.val) * 8 + h.val) * 7 + g.val) * 128 + e.val) % 7168 = _; omega

theorem k_at (b : Fin 2) (s : Fin 640) (h : Fin 8) (e : Fin 128) :
    val_main_v3 (F := Ideal) x (ix4 b s h e) = rd x (b.val * 640 + s.val) (7168 + h.val * 128 + e.val) := by
  have := b.isLt; have := s.isLt; have := h.isLt; have := e.isLt
  rw [val_main_v3_apply, val_main_v2_apply]
  refine rd_eq x _ _ _ ?_ ?_
  · show (((b.val * 640 + s.val) * 8 + h.val) * 128 + e.val) / 1024 = _; omega
  · show 7168 + (((b.val * 640 + s.val) * 8 + h.val) * 128 + e.val) % 1024 = _; omega

theorem v_at (b : Fin 2) (s : Fin 640) (h : Fin 8) (e : Fin 128) :
    val_main_v5 (F := Ideal) x (ix4 b s h e) = rd x (b.val * 640 + s.val) (8192 + h.val * 128 + e.val) := by
  have := b.isLt; have := s.isLt; have := h.isLt; have := e.isLt
  rw [val_main_v5_apply, val_main_v4_apply]
  refine rd_eq x _ _ _ ?_ ?_
  · show (((b.val * 640 + s.val) * 8 + h.val) * 128 + e.val) / 1024 = _; omega
  · show 8192 + (((b.val * 640 + s.val) * 8 + h.val) * 128 + e.val) % 1024 = _; omega

/-- The scores of one query. -/
def Z (b : Fin 2) (h : Fin 8) (g : Fin 7) (p : Fin 640) : ℕ → EReal :=
  score (fun d => rd x (b.val * 640 + p.val) ((h.val * 7 + g.val) * 128 + d)) (fun s d => rd x (b.val * 640 + s) (7168 + h.val * 128 + d)) p.val

theorem dot_at (b : Fin 2) (h : Fin 8) (g : Fin 7) (p s : Fin 640) :
    val_main_v7 (F := Ideal) x (ix5 b h g p s)
      = ∑ e : Fin 128, rd x (b.val * 640 + p.val) ((h.val * 7 + g.val) * 128 + e.val) * rd x (b.val * 640 + s.val) (7168 + h.val * 128 + e.val) := by
  rw [val_main_v7_apply]
  refine (val_main_v6_apply x _).trans (Finset.sum_congr rfl fun e _ => ?_)
  have i : lidx_main_v6 (idx_main_v7 (ix5 b h g p s)) e = ix4 b s h e := funext fun d => Fin.ext (by match d with | ⟨0, _⟩ => rfl | ⟨1, _⟩ => rfl | ⟨2, _⟩ => rfl | ⟨3, _⟩ => rfl)
  have i' : ridx_main_v6 (idx_main_v7 (ix5 b h g p s)) e = ix5 b p h g e := funext fun d => Fin.ext (by match d with | ⟨0, _⟩ => rfl | ⟨1, _⟩ => rfl | ⟨2, _⟩ => rfl | ⟨3, _⟩ => rfl | ⟨4, _⟩ => rfl)
  rw [i, i', k_at, q_at]
  exact mul_comm (G := EReal) _ _

theorem mask_at (p s : Fin 640) : val_main_v15 (F := Ideal) (ix2 p s) = if s.val ≤ p.val then 1#1 else 0#1 := by
  rw [val_main_v15_apply, val_main_v13_apply, val_main_v11_apply, val_main_v10_apply, val_main_v14_apply, val_main_v12_apply, val_main_v10_apply]
  show BitVec.ofBool ((BitVec.ofNat 32 s.val).sle (BitVec.ofNat 32 p.val)) = _
  have hp := p.isLt
  have hs := s.isLt
  have ti : ∀ n : ℕ, n < 2 ^ 31 → (BitVec.ofNat 32 n).toInt = (n : ℤ) := fun n hn => by
    rw [BitVec.toInt_eq_toNat_cond, BitVec.toNat_ofNat, Nat.mod_eq_of_lt (by omega), if_pos (by omega)]
  rw [BitVec.sle_eq_decide, ti _ (by omega), ti _ (by omega)]
  by_cases h : s.val ≤ p.val <;> simp [h]

theorem z_at (b : Fin 2) (h : Fin 8) (g : Fin 7) (p s : Fin 640) : val_main_v16 (F := Ideal) x (ix5 b h g p s) = Z x b h g p s.val := by
  have i : idx_main_call0_v1 (ix5 b h g p s) = ix2 p s := funext fun d => Fin.ext (by match d with | ⟨0, _⟩ => rfl | ⟨1, _⟩ => rfl)
  rw [val_main_v16_apply, val_main_call0_v1_apply, i, mask_at, val_main_v9_apply, dot_at, val_main_call0_v2_apply, val_main_call0_v0_apply, val_main_v8_apply, val_main_cst_apply, val_main_cst_0_apply, Attn.hidden]
  unfold Z score Scalar.select
  by_cases hc : s.val ≤ p.val
  · rw [if_pos hc, if_pos hc, if_pos (by decide)]; rfl
  · rw [if_neg hc, if_neg hc, if_neg (by decide)]

theorem top_at (b : Fin 2) (h : Fin 8) (g : Fin 7) (p : Fin 640) : val_main_v19 (F := Ideal) x (ix4 b h g p) = top 640 (Z x b h g p) := by
  rw [val_main_v19_apply, val_main_v18_apply, val_main_cst_2_apply, Attn.hidden]
  have e : val_main_v17 (F := Ideal) x (ix4 b h g p) = top 640 (Z x b h g p) := by
    unfold val_main_v17
    have hr : S2x8x7x640x640.Reduces [4] S2x8x7x640 := by decide
    refine (Host.reduce_eq_fold_single (FloatOps.maximumf (F := Ideal) (φ := .f32)) _ _ _ hr _ _).trans ?_
    rw [val_main_cst_1_apply, Attn.hidden]
    refine fold_top _ _ fun k => ?_
    have i : hr.lift (ix4 b h g p) k = (ix5 b h g p k : S2x8x7x640x640.Idx) := funext fun d => Fin.ext (by match d with | ⟨0, _⟩ => rfl | ⟨1, _⟩ => rfl | ⟨2, _⟩ => rfl | ⟨3, _⟩ => rfl | ⟨4, _⟩ => rfl)
    exact (congrArg (val_main_v16 (F := Ideal) x) i).trans (z_at x b h g p k)
  rw [e]
  exact bot_sup_eq _

theorem exp_at (b : Fin 2) (h : Fin 8) (g : Fin 7) (p s : Fin 640) : val_main_v23 (F := Ideal) x (ix5 b h g p s) = Ideal.exp (Z x b h g p s.val - top 640 (Z x b h g p)) := by
  have i : idx_main_v20 (idx_main_v21 (ix5 b h g p s)) = ix4 b h g p := funext fun d => Fin.ext (by match d with | ⟨0, _⟩ => rfl | ⟨1, _⟩ => rfl | ⟨2, _⟩ => rfl | ⟨3, _⟩ => rfl)
  rw [val_main_v23_apply, val_main_v22_apply, val_main_v21_apply, val_main_v20_apply, i, top_at, z_at]
  rfl

theorem mass_at (b : Fin 2) (h : Fin 8) (g : Fin 7) (p : Fin 640) : val_main_v24 (F := Ideal) x (ix4 b h g p) = mass 640 (Z x b h g p) := by
  rw [val_main_v24_apply]
  show Ideal.ofBits .f32 0x00000000#32 + _ = _
  rw [Ideal.ofBits_zero_f32, zero_add]
  refine sum_range _ (fun s => Ideal.exp (Z x b h g p s - top 640 (Z x b h g p))) fun k => ?_
  have i : idx_main_v24 (ix4 b h g p) k = ix5 b h g p k := funext fun d => Fin.ext (by match d with | ⟨0, _⟩ => rfl | ⟨1, _⟩ => rfl | ⟨2, _⟩ => rfl | ⟨3, _⟩ => rfl | ⟨4, _⟩ => rfl)
  rw [i, exp_at]

theorem weight_at (b : Fin 2) (h : Fin 8) (g : Fin 7) (p s : Fin 640) : val_main_v28 (F := Ideal) x (ix5 b h g p s) = weight 640 (Z x b h g p) s.val := by
  have i : idx_main_v25 (idx_main_v26 (ix5 b h g p s)) = ix4 b h g p := funext fun d => Fin.ext (by match d with | ⟨0, _⟩ => rfl | ⟨1, _⟩ => rfl | ⟨2, _⟩ => rfl | ⟨3, _⟩ => rfl)
  rw [val_main_v28_apply, val_main_v27_apply, val_main_v26_apply, val_main_v25_apply, i, exp_at, mass_at]
  rfl

/-- The reference's result at an index. -/
theorem v31_apply (i : S1280x7168.Idx) : val_main_v31 (F := Ideal) x i = whole x (i 0).val (i 1).val := by
  obtain ⟨a, c, rfl⟩ : ∃ (a : Fin 1280) (c : Fin 7168), i = ix2 a c := ⟨i 0, i 1, eq_ix2 (n0 := 1280) (n1 := 7168) i⟩
  show _ = whole x a.val c.val
  have ha := a.isLt
  have hc := c.isLt
  obtain ⟨b, hb⟩ : ∃ b : Fin 2, b.val = a.val / 640 := ⟨⟨a.val / 640, by omega⟩, rfl⟩
  obtain ⟨p, hp⟩ : ∃ p : Fin 640, p.val = a.val % 640 := ⟨⟨a.val % 640, by omega⟩, rfl⟩
  obtain ⟨h, hh⟩ : ∃ h : Fin 8, h.val = c.val / 896 := ⟨⟨c.val / 896, by omega⟩, rfl⟩
  obtain ⟨g, hg⟩ : ∃ g : Fin 7, g.val = c.val / 128 % 7 := ⟨⟨c.val / 128 % 7, by omega⟩, rfl⟩
  obtain ⟨d, hd⟩ : ∃ d : Fin 128, d.val = c.val % 128 := ⟨⟨c.val % 128, by omega⟩, rfl⟩
  have e : idx_main_v30 (idx_main_v31 (ix2 a c)) = ix5 b h d g p := funext fun u => Fin.ext (by
    match u with
    | ⟨0, _⟩ => show (a.val * 7168 + c.val) / 4587520 = b.val; omega
    | ⟨1, _⟩ => show (a.val * 7168 + c.val) / 896 % 8 = h.val; omega
    | ⟨2, _⟩ => show (a.val * 7168 + c.val) % 128 = d.val; omega
    | ⟨3, _⟩ => show (a.val * 7168 + c.val) / 128 % 7 = g.val; omega
    | ⟨4, _⟩ => show (a.val * 7168 + c.val) / 7168 % 640 = p.val; omega)
  rw [val_main_v31_apply, val_main_v30_apply, e]
  refine (val_main_v29_apply x _).trans ?_
  have k : (∑ s : Fin 640, val_main_v5 (F := Ideal) x (lidx_main_v29 (ix5 b h d g p) s) * val_main_v28 (F := Ideal) x (ridx_main_v29 (ix5 b h d g p) s) : EReal)
      = soft 640 (Z x b h g p) (fun s => rd x (b.val * 640 + s) (8192 + h.val * 128 + d.val)) := by
    refine sum_range _ (fun s => weight 640 (Z x b h g p) s * rd x (b.val * 640 + s) (8192 + h.val * 128 + d.val)) fun s => ?_
    have i : lidx_main_v29 (ix5 b h d g p) s = ix4 b s h d := funext fun u => Fin.ext (by match u with | ⟨0, _⟩ => rfl | ⟨1, _⟩ => rfl | ⟨2, _⟩ => rfl | ⟨3, _⟩ => rfl)
    have i' : ridx_main_v29 (ix5 b h d g p) s = ix5 b h g p s := funext fun u => Fin.ext (by match u with | ⟨0, _⟩ => rfl | ⟨1, _⟩ => rfl | ⟨2, _⟩ => rfl | ⟨3, _⟩ => rfl | ⟨4, _⟩ => rfl)
    rw [i, i', v_at, weight_at]
    exact mul_comm (G := EReal) _ _
  refine k.trans ?_
  unfold whole att Z
  rw [hp, hb, hh, hg, hd, show c.val / 896 * 7 + c.val / 128 % 7 = c.val / 128 by omega, show a.val / 640 * 640 + a.val % 640 = a.val by omega]

end Cert.AttentionRefIdeal.Sum

end
-- ==== Proof.AttentionValue.lean ====
/- The attention call. The kernel's result array, block by block, and the reference's result are the same function of the
   argument, where queries and keys are numbers: each query's average of the values by the weights of its scores. -/
module

public import proofs.«01_k».proof.Defs
public import proofs.«01_k».proof.Proof.Gen.Attention.Frame
public import proofs.«01_k».proof.Proof.Gen.AttentionIdeal.Value
public import proofs.«01_k».proof.Proof.Gen.AttentionRefIdeal.Run
public import proofs.«01_k».proof.Proof.AttentionRead
public import Idealize.ShloMosaic.Lib.Quiescent

@[expose] public section

set_option maxRecDepth 16384

noncomputable section

open Idealize.ShloMosaic hiding ix0 ix1 ix2 ix3 ix4 ix5 eq_ix1 eq_ix2
open Idealize.ShloMosaic.TcCoe Idealize.ShloMosaic.ValueIdx Idealize.SL.Sem
open Idealize.ShloMosaic.Pipeline (Dat Window)
open scoped BigOperators

/-! ## The precondition -/

namespace Cert.Pre_finite_keys

theorem slices : S1280x9216.Slices ![0, 0] S1280x8192 := by decide
theorem bcast : S_.BroadcastsInDim S1280x8192 (![] : Fin 0 → Fin S1280x8192.rank) := by decide

/-- The function's facts. -/
instance facts : Facts := ⟨slices, bcast⟩

theorem number_of_between (x : EReal) (h : x ≠ ⊥) (h' : x ≠ ⊤) : ∃ r : ℝ, x = r := ⟨x.toReal, (EReal.coe_toReal h' h).symm⟩

/-- Where the function is all ones, every query and every key is a number. -/
theorem number (x : FVec Ideal S1280x9216 .bf16) (h : fn (F := Ideal) x = fun _ => 1#1) (i j : ℕ) (hi : i < 1280) (hj : j < 8192) : ∃ r : ℝ, Cert.Attn.rd x i j = r := by
  have e := congrFun h (ix2 (⟨i, hi⟩ : Fin 1280) (⟨j, hj⟩ : Fin 8192))
  have s : extractStridedSlice S1280x8192 ![0, 0] x slices (ix2 (⟨i, hi⟩ : Fin 1280) (⟨j, hj⟩ : Fin 8192)) = Cert.Attn.rd x i j :=
    (extractStridedSlice_apply (s := S1280x9216) (t := S1280x8192) ![0, 0] x slices (ix2 ⟨i, hi⟩ ⟨j, hj⟩) (ix2 (⟨i, hi⟩ : Fin 1280) (⟨j, by omega⟩ : Fin 9216)) (fun a => match a with
      | ⟨0, _⟩ => (Nat.zero_add i).symm
      | ⟨1, _⟩ => (Nat.zero_add j).symm)).trans (Cert.Attn.rd_ix2 x ⟨i, hi⟩ ⟨j, by omega⟩).symm
  have lo : FloatOps.ofBits (F := Ideal) .bf16 0xFF80#16 = (⊥ : EReal) := by
    show Ideal.ofBits .bf16 0xFF80#16 = _
    simp [Ideal.ofBits, Ideal.ieee]
  have hi' : FloatOps.ofBits (F := Ideal) .bf16 0x7F80#16 = (⊤ : EReal) := by
    show Ideal.ofBits .bf16 0x7F80#16 = _
    simp [Ideal.ofBits, Ideal.ieee]
  have e' : FloatOps.cmpf (F := Ideal) (φ := .bf16) .ogt (Cert.Attn.rd x i j) (FloatOps.ofBits (F := Ideal) .bf16 0xFF80#16)
      &&& FloatOps.cmpf (F := Ideal) (φ := .bf16) .olt (Cert.Attn.rd x i j) (FloatOps.ofBits (F := Ideal) .bf16 0x7F80#16) = 1#1 := by
    rw [← s]; exact e
  rw [lo, hi'] at e'
  generalize Cert.Attn.rd x i j = y at e' ⊢
  refine number_of_between y ?_ ?_
  · rintro rfl
    revert e'
    show BitVec.ofBool (decide ((⊥ : EReal) < ⊥)) &&& BitVec.ofBool (decide ((⊥ : EReal) < ⊤)) = 1#1 → False
    simp
  · rintro rfl
    revert e'
    show BitVec.ofBool (decide ((⊥ : EReal) < ⊤)) &&& BitVec.ofBool (decide ((⊤ : EReal) < ⊤)) = 1#1 → False
    simp

end Cert.Pre_finite_keys

/-! ## The kernel -/

namespace Cert.AttentionIdeal.Sum

open Cert.AttentionIdeal Cert.AttentionIdeal.Gen Cert.Attn

section
variable (m : (ℓ : Loc nD τ sig) → Buf (Elt Ideal) ℓ) (ρ : Dev nD → PrngReg)

theorem ix0_0 : ∀ t : Fin cfg0.N, win0_0.index t 0 = t.val / 8 := (by decide +kernel : ∀ t : Fin grid0.N, win0_0.index t 0 = t.val / 8)
theorem ix0_1 : ∀ t : Fin cfg0.N, win0_0.index t 1 = t.val % 8 := (by decide +kernel : ∀ t : Fin grid0.N, win0_0.index t 1 = t.val % 8)
theorem ix1_0 : ∀ t : Fin cfg0.N, win0_1.index t 0 = t.val / 8 := (by decide +kernel : ∀ t : Fin grid0.N, win0_1.index t 0 = t.val / 8)
theorem ix1_1 : ∀ t : Fin cfg0.N, win0_1.index t 1 = 56 + t.val % 8 := (by decide +kernel : ∀ t : Fin grid0.N, win0_1.index t 1 = 56 + t.val % 8)
theorem ix2_0 : ∀ t : Fin cfg0.N, win0_2.index t 0 = t.val / 8 := (by decide +kernel : ∀ t : Fin grid0.N, win0_2.index t 0 = t.val / 8)
theorem ix2_1 : ∀ t : Fin cfg0.N, win0_2.index t 1 = 64 + t.val % 8 := (by decide +kernel : ∀ t : Fin grid0.N, win0_2.index t 1 = 64 + t.val % 8)
theorem ix3_0 : ∀ t : Fin cfg0.N, win0_3.index t 0 = t.val / 8 := (by decide +kernel : ∀ t : Fin grid0.N, win0_3.index t 0 = t.val / 8)
theorem ix3_1 : ∀ t : Fin cfg0.N, win0_3.index t 1 = t.val % 8 := (by decide +kernel : ∀ t : Fin grid0.N, win0_3.index t 1 = t.val % 8)

theorem lt_N (t : Fin cfg0.N) : t.val < 16 := lt_of_lt_of_eq t.isLt N_0

theorem blk0 (c : Dev nD) (t : Fin cfg0.N) (a : Fin 640) (l : Fin 896) :
    X0_0 m c t (ix2 a l) = rd (m ((c : Thread nD τ).loc main_arg0)) (t.val / 8 * 640 + a.val) (t.val % 8 * 896 + l.val) := by
  unfold X0_0 Pipeline.Window.fill
  rw [dif_pos (moved0_0 t (ix2 a l))]
  refine rd_eq (n := 1280) (m := 9216) (m ((c : Thread nD τ).loc main_arg0)) _ _ ((win0_0.rect t).emb _) ?_ ?_
  · exact (Window.rect_emb_val win0_0 t _ 0).trans (congrArg (· * 640 + a.val) (ix0_0 t))
  · exact (Window.rect_emb_val win0_0 t _ 1).trans (congrArg (· * 896 + l.val) (ix0_1 t))

theorem blk1 (c : Dev nD) (t : Fin cfg0.N) (a : Fin 640) (l : Fin 128) :
    iblk m c 1 t (ix2 a l) = rd (m ((c : Thread nD τ).loc main_arg0)) (t.val / 8 * 640 + a.val) ((56 + t.val % 8) * 128 + l.val) := by
  refine rd_eq (n := 1280) (m := 9216) (m ((c : Thread nD τ).loc main_arg0)) _ _ ((win0_1.rect t).emb (ix2 a l)) ?_ ?_
  · exact (Window.rect_emb_val win0_1 t _ 0).trans (congrArg (· * 640 + a.val) (ix1_0 t))
  · exact (Window.rect_emb_val win0_1 t _ 1).trans (congrArg (· * 128 + l.val) (ix1_1 t))

theorem blk2 (c : Dev nD) (t : Fin cfg0.N) (a : Fin 640) (l : Fin 128) :
    iblk m c 2 t (ix2 a l) = rd (m ((c : Thread nD τ).loc main_arg0)) (t.val / 8 * 640 + a.val) ((64 + t.val % 8) * 128 + l.val) := by
  refine rd_eq (n := 1280) (m := 9216) (m ((c : Thread nD τ).loc main_arg0)) _ _ ((win0_2.rect t).emb (ix2 a l)) ?_ ?_
  · exact (Window.rect_emb_val win0_2 t _ 0).trans (congrArg (· * 640 + a.val) (ix2_0 t))
  · exact (Window.rect_emb_val win0_2 t _ 1).trans (congrArg (· * 128 + l.val) (ix2_1 t))

/-- What the kernel's result array is shown to hold. -/
def val (c : Dev nD) : Buf (Elt Ideal) ((c : Thread nD τ).loc main_v0) := fun i =>
  whole (m ((c : Thread nD τ).loc main_arg0)) (i 0).val (i 1).val

/-- Every query and every key of the argument is a number. -/
def Numbers (c : Dev nD) : Prop := ∀ i j : ℕ, i < 1280 → j < 8192 → ∃ r : ℝ, rd (n := 1280) (m := 9216) (m ((c : Thread nD τ).loc main_arg0)) i j = (r : EReal)

/-- What the body leaves at an index of its block. -/
theorem outs_apply (c : Dev nD) (hn : Numbers m c) (t : Fin cfg0.N) (a : Fin 640) (l : Fin 896) :
    outsAt0 m c t (ix2 a l) = whole (m ((c : Thread nD τ).loc main_arg0)) (t.val / 8 * 640 + a.val) (t.val % 8 * 896 + l.val) := by
  have ht := lt_N t
  have ha := a.isLt
  have hl := l.isLt
  refine (block_apply m c t (fun i => ?_) (fun i => ?_) a l).trans ?_
  · obtain ⟨a, l, rfl⟩ : ∃ (a : Fin 640) (l : Fin 896), i = ix2 a l := ⟨i 0, i 1, eq_ix2 (n0 := 640) (n1 := 896) i⟩
    rw [blk0]; exact hn _ _ (by omega) (by omega)
  · obtain ⟨a, l, rfl⟩ : ∃ (a : Fin 640) (l : Fin 128), i = ix2 a l := ⟨i 0, i 1, eq_ix2 (n0 := 640) (n1 := 128) i⟩
    rw [blk1]; exact hn _ _ (by omega) (by omega)
  · unfold blockAtt whole
    rw [show (t.val / 8 * 640 + a.val) % 640 = a.val by omega, show (t.val / 8 * 640 + a.val) / 640 = t.val / 8 by omega,
      show (t.val % 8 * 896 + l.val) / 896 = t.val % 8 by omega, show (t.val % 8 * 896 + l.val) % 128 = l.val % 128 by omega,
      show (t.val % 8 * 896 + l.val) / 128 = t.val % 8 * 7 + l.val / 128 by omega]
    refine att_congr a.val (fun d hd => ?_) (fun s hs d hd => ?_) (fun s hs => ?_)
    · refine (rd_ix2 _ a ⟨l.val / 128 * 128 + d, by omega⟩).trans ((blk0 m c t a ⟨l.val / 128 * 128 + d, by omega⟩).trans (congrArg (rd _ _) ?_))
      show t.val % 8 * 896 + (l.val / 128 * 128 + d) = (t.val % 8 * 7 + l.val / 128) * 128 + d
      omega
    · refine (rd_ix2 _ ⟨s, hs⟩ ⟨d, hd⟩).trans ((blk1 m c t ⟨s, hs⟩ ⟨d, hd⟩).trans (congrArg (rd _ _) ?_))
      show (56 + t.val % 8) * 128 + d = 7168 + t.val % 8 * 128 + d
      omega
    · refine (rd_ix2 _ ⟨s, hs⟩ ⟨l.val % 128, by omega⟩).trans ((blk2 m c t ⟨s, hs⟩ ⟨l.val % 128, by omega⟩).trans (congrArg (rd _ _) ?_))
      show (64 + t.val % 8) * 128 + l.val % 128 = 8192 + t.val % 8 * 128 + l.val % 128
      omega

/-- What point `t` writes back is block `t` of `val`. -/
theorem flushed_eq (c : Dev nD) (hn : Numbers m c) (t : Fin cfg0.N) :
    (dats m 0 c).flushed 3 t = ((cfg0.win 3).blk t).view.read (Elt Ideal) (val m c) := by
  rw [Value.flushed3]
  funext j
  obtain ⟨a, l, rfl⟩ : ∃ (a : Fin 640) (l : Fin 896), j = ix2 a l := ⟨j 0, j 1, eq_ix2 (n0 := 640) (n1 := 896) j⟩
  show outsAt0 m c t (ix2 a l) = val m c ((win0_3.rect t).emb (ix2 a l))
  refine (outs_apply m c hn t a l).trans ?_
  show _ = whole (m ((c : Thread nD τ).loc main_arg0)) (((win0_3.rect t).emb (ix2 a l)) 0).val (((win0_3.rect t).emb (ix2 a l)) 1).val
  rw [show (((win0_3.rect t).emb (ix2 a l)) 0).val = t.val / 8 * 640 + a.val from
      (Window.rect_emb_val win0_3 t (ix2 (n0 := 640) (n1 := 896) a l) 0).trans (congrArg (· * 640 + a.val) (ix3_0 t)),
    show (((win0_3.rect t).emb (ix2 a l)) 1).val = t.val % 8 * 896 + l.val from
      (Window.rect_emb_val win0_3 t (ix2 (n0 := 640) (n1 := 896) a l) 1).trans (congrArg (· * 896 + l.val) (ix3_1 t))]

/-- The blocks tile the result array. -/
theorem cover (i : S1280x7168.Idx) : ∃ t : Fin cfg0.N, (cfg0.win 3).flush t = true ∧ i ∈ ((cfg0.win 3).blk t).view.set := by
  have h0 : (i 0 : Nat) < 1280 := (i 0).isLt
  have h1 : (i 1 : Nat) < 7168 := (i 1).isLt
  have hN : cfg0.N = 16 := N_0
  have ht : (i 0 : Nat) / 640 * 8 + (i 1 : Nat) / 896 < cfg0.N := by omega
  refine ⟨⟨_, ht⟩, flush0_3 _, ?_⟩
  generalize hT : (⟨_, ht⟩ : Fin cfg0.N) = t
  have tv : t.val = (i 0 : Nat) / 640 * 8 + (i 1 : Nat) / 896 := by rw [← hT]
  show i ∈ ((View.whole main_v0).slice (win0_3.rect t)).set
  rw [View.set_slice_whole, Rect.mem_set_unit]
  intro d
  match d with
  | ⟨0, _⟩ =>
    show win0_3.index t 0 * 640 ≤ (i 0 : Nat) ∧ (i 0 : Nat) < win0_3.index t 0 * 640 + 640
    rw [ix3_0]; omega
  | ⟨1, _⟩ =>
    show win0_3.index t 1 * 896 ≤ (i 1 : Nat) ∧ (i 1 : Nat) < win0_3.index t 1 * 896 + 896
    rw [ix3_1]; omega

theorem final (c : Dev nD) (hn : Numbers m c) : (dats m 0 c).arrAt 3 cfg0.N = val m c :=
  (dats m 0 c).arrAt_eq_of_cover 3 (val m c) (fun t _ => flushed_eq m c hn t) cover

end

end Cert.AttentionIdeal.Sum

/-! ## The claims -/

namespace Cert.Proof.AttentionClaims

theorem frame_p : Cert.quiescent_Attention := fun m ρ _ => Cert.Attention.Gen.frame m ρ
theorem frame_pi : Cert.quiescent_AttentionIdeal := fun m ρ _ => Cert.AttentionIdeal.Gen.frame m ρ
theorem frame_pi_pre : Cert.quiescent_AttentionIdeal_pre_finite_keys := fun m ρ _ => Cert.AttentionIdeal.Gen.frame m ρ
theorem frame_ri : Cert.quiescent_AttentionRefIdeal := fun m ρ _ =>
  (θ_run Cert.AttentionRefIdeal.defs _ _).mono (fun r h => ⟨fun c => (h c).2, Idealize.ShloMosaic.sem_eq_zero_of_no_sems (by decide) r.2⟩)
    (Cert.AttentionRefIdeal.Value.run (F := Ideal) m ρ)
theorem frame_ri_pre : Cert.quiescent_AttentionRefIdeal_pre_finite_keys := fun m ρ _ => frame_ri m ρ trivial
theorem preserves : Cert.preserves_Attention_AttentionIdeal := trivial

/-- Where queries and keys are numbers, both programs end with each query's average of the values by the weights of its scores. -/
theorem algebraic : Cert.algebraic_AttentionIdeal_AttentionRefIdeal_pre_finite_keys := by
  intro m ρ m' ρ' hp hag
  refine ⟨fun c => Cert.AttentionIdeal.Sum.val m c, ?_, ?_⟩
  · exact (θ_run _ _ _).mono (fun _ h c => ⟨(h c).1.trans (Cert.AttentionIdeal.Sum.final m c fun i j hi hj => Cert.Pre_finite_keys.number _ (hp c) i j hi hj), (h c).2⟩)
      (Cert.AttentionIdeal.Value.run_blocks m ρ)
  · refine (θ_run _ _ _).mono (fun _ h c => ⟨(h c).1.trans ?_, (h c).2⟩) (Cert.AttentionRefIdeal.Value.run (F := Ideal) m' ρ')
    rw [Cert.AttentionRefIdeal.Read.val_main_v31_eq, hag c]
    exact funext fun i => Cert.AttentionRefIdeal.Sum.v31_apply _ i

end Cert.Proof.AttentionClaims

end
-- ==== Proof.lean ====
/- The proof of the claim: for every pair, the three frames, the idealization and the equality with the reference. -/
module

public import proofs.«01_k».proof.Defs
public import proofs.«01_k».proof.Proof.Gen.GateUp
public import proofs.«01_k».proof.Proof.Gen.GateUp.Frame
public import proofs.«01_k».proof.Proof.Gen.GateUpIdeal
public import proofs.«01_k».proof.Proof.Gen.GateUpIdeal.Frame
public import proofs.«01_k».proof.Proof.Gen.GateUpIdeal.Value
public import proofs.«01_k».proof.Proof.Gen.GateUpRefIdeal
public import proofs.«01_k».proof.Proof.Gen.GateUpRefIdeal.Run
public import proofs.«01_k».proof.Proof.Gen.GateUpRefIdeal.Read
public import proofs.«01_k».proof.Proof.Gen.Down0
public import proofs.«01_k».proof.Proof.Gen.Down0.Frame
public import proofs.«01_k».proof.Proof.Gen.Down0Ideal
public import proofs.«01_k».proof.Proof.Gen.Down0Ideal.Frame
public import proofs.«01_k».proof.Proof.Gen.Down0Ideal.Value
public import proofs.«01_k».proof.Proof.Gen.Down0RefIdeal
public import proofs.«01_k».proof.Proof.Gen.Down0RefIdeal.Run
public import proofs.«01_k».proof.Proof.Gen.Down0RefIdeal.Read
public import proofs.«01_k».proof.Proof.Gen.Down1
public import proofs.«01_k».proof.Proof.Gen.Down1.Frame
public import proofs.«01_k».proof.Proof.Gen.Down1Ideal
public import proofs.«01_k».proof.Proof.Gen.Down1Ideal.Frame
public import proofs.«01_k».proof.Proof.Gen.Down1Ideal.Value
public import proofs.«01_k».proof.Proof.Gen.Down1RefIdeal
public import proofs.«01_k».proof.Proof.Gen.Down1RefIdeal.Run
public import proofs.«01_k».proof.Proof.Gen.Down1RefIdeal.Read
public import proofs.«01_k».proof.Proof.Gen.Out0
public import proofs.«01_k».proof.Proof.Gen.Out0.Frame
public import proofs.«01_k».proof.Proof.Gen.Out0Ideal
public import proofs.«01_k».proof.Proof.Gen.Out0Ideal.Frame
public import proofs.«01_k».proof.Proof.Gen.Out0Ideal.Value
public import proofs.«01_k».proof.Proof.Gen.Out0RefIdeal
public import proofs.«01_k».proof.Proof.Gen.Out0RefIdeal.Run
public import proofs.«01_k».proof.Proof.Gen.Out0RefIdeal.Read
public import proofs.«01_k».proof.Proof.Gen.Out1
public import proofs.«01_k».proof.Proof.Gen.Out1.Frame
public import proofs.«01_k».proof.Proof.Gen.Out1Ideal
public import proofs.«01_k».proof.Proof.Gen.Out1Ideal.Frame
public import proofs.«01_k».proof.Proof.Gen.Out1Ideal.Value
public import proofs.«01_k».proof.Proof.Gen.Out1RefIdeal
public import proofs.«01_k».proof.Proof.Gen.Out1RefIdeal.Run
public import proofs.«01_k».proof.Proof.Gen.Out1RefIdeal.Read
public import proofs.«01_k».proof.Proof.Gen.QuantIn
public import proofs.«01_k».proof.Proof.Gen.QuantIn.Frame
public import proofs.«01_k».proof.Proof.Gen.QuantInIdeal
public import proofs.«01_k».proof.Proof.Gen.QuantInIdeal.Frame
public import proofs.«01_k».proof.Proof.Gen.QuantInIdeal.Value
public import proofs.«01_k».proof.Proof.Gen.QuantInRefIdeal
public import proofs.«01_k».proof.Proof.Gen.QuantInRefIdeal.Run
public import proofs.«01_k».proof.Proof.Gen.QuantInRefIdeal.Read
public import proofs.«01_k».proof.Proof.Gen.QuantAttn
public import proofs.«01_k».proof.Proof.Gen.QuantAttn.Frame
public import proofs.«01_k».proof.Proof.Gen.QuantAttnIdeal
public import proofs.«01_k».proof.Proof.Gen.QuantAttnIdeal.Frame
public import proofs.«01_k».proof.Proof.Gen.QuantAttnIdeal.Value
public import proofs.«01_k».proof.Proof.Gen.QuantAttnRefIdeal
public import proofs.«01_k».proof.Proof.Gen.QuantAttnRefIdeal.Run
public import proofs.«01_k».proof.Proof.Gen.QuantAttnRefIdeal.Read
public import proofs.«01_k».proof.Proof.Gen.QuantPost
public import proofs.«01_k».proof.Proof.Gen.QuantPost.Frame
public import proofs.«01_k».proof.Proof.Gen.QuantPostIdeal
public import proofs.«01_k».proof.Proof.Gen.QuantPostIdeal.Frame
public import proofs.«01_k».proof.Proof.Gen.QuantPostIdeal.Value
public import proofs.«01_k».proof.Proof.Gen.QuantPostRefIdeal
public import proofs.«01_k».proof.Proof.Gen.QuantPostRefIdeal.Run
public import proofs.«01_k».proof.Proof.Gen.QuantPostRefIdeal.Read
public import proofs.«01_k».proof.Proof.Gen.QuantFfn
public import proofs.«01_k».proof.Proof.Gen.QuantFfn.Frame
public import proofs.«01_k».proof.Proof.Gen.QuantFfnIdeal
public import proofs.«01_k».proof.Proof.Gen.QuantFfnIdeal.Frame
public import proofs.«01_k».proof.Proof.Gen.QuantFfnIdeal.Value
public import proofs.«01_k».proof.Proof.Gen.QuantFfnRefIdeal
public import proofs.«01_k».proof.Proof.Gen.QuantFfnRefIdeal.Run
public import proofs.«01_k».proof.Proof.Gen.QuantFfnRefIdeal.Read
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.Attention
public import proofs.«01_k».proof.Proof.Gen.Attention.Frame
public import proofs.«01_k».proof.Proof.Gen.AttentionIdeal
public import proofs.«01_k».proof.Proof.Gen.AttentionIdeal.Frame
public import proofs.«01_k».proof.Proof.Gen.AttentionIdeal.Value
public import proofs.«01_k».proof.Proof.Gen.AttentionRefIdeal
public import proofs.«01_k».proof.Proof.Gen.AttentionRefIdeal.Run
public import proofs.«01_k».proof.Proof.Gen.AttentionRefIdeal.Read
public import proofs.«01_k».proof.Proof.Gen.On_first_rows_Down0Ideal
public import proofs.«01_k».proof.Proof.Gen.On_first_rows_Out0Ideal
public import proofs.«01_k».proof.Proof.GateUpValue
public import proofs.«01_k».proof.Proof.Down0Value
public import proofs.«01_k».proof.Proof.Down1Value
public import proofs.«01_k».proof.Proof.Out0Value
public import proofs.«01_k».proof.Proof.Out1Value
public import proofs.«01_k».proof.Proof.QuantInValue
public import proofs.«01_k».proof.Proof.QuantAttnValue
public import proofs.«01_k».proof.Proof.QuantPostValue
public import proofs.«01_k».proof.Proof.QuantFfnValue
public import proofs.«01_k».proof.Proof.QkvValue
public import proofs.«01_k».proof.Proof.AttentionValue

@[expose] public section

namespace Cert.Proof

/-- The claims of Defs.lean, pair by pair. -/
theorem claim : Cert.Claim :=
  ⟨Cert.GateUp.Gen.facts,
    Cert.GateUpIdeal.Gen.facts,
    Cert.GateUpRefIdeal.Gen.facts,
    Cert.Down0.Gen.facts,
    Cert.Down0Ideal.Gen.facts,
    Cert.Down0RefIdeal.Gen.facts,
    Cert.Down1.Gen.facts,
    Cert.Down1Ideal.Gen.facts,
    Cert.Down1RefIdeal.Gen.facts,
    Cert.Out0.Gen.facts,
    Cert.Out0Ideal.Gen.facts,
    Cert.Out0RefIdeal.Gen.facts,
    Cert.Out1.Gen.facts,
    Cert.Out1Ideal.Gen.facts,
    Cert.Out1RefIdeal.Gen.facts,
    Cert.QuantIn.Gen.facts,
    Cert.QuantInIdeal.Gen.facts,
    Cert.QuantInRefIdeal.Gen.facts,
    Cert.QuantAttn.Gen.facts,
    Cert.QuantAttnIdeal.Gen.facts,
    Cert.QuantAttnRefIdeal.Gen.facts,
    Cert.QuantPost.Gen.facts,
    Cert.QuantPostIdeal.Gen.facts,
    Cert.QuantPostRefIdeal.Gen.facts,
    Cert.QuantFfn.Gen.facts,
    Cert.QuantFfnIdeal.Gen.facts,
    Cert.QuantFfnRefIdeal.Gen.facts,
    Cert.Qkv.Gen.facts,
    Cert.QkvIdeal.Gen.facts,
    Cert.QkvRefIdeal.Gen.facts,
    Cert.Attention.Gen.facts,
    Cert.AttentionIdeal.Gen.facts,
    Cert.AttentionRefIdeal.Gen.facts,
    Cert.Pre_finite_keys.facts,
    Cert.On_first_rows_Down0Ideal.Gen.facts,
    Cert.On_first_rows_Out0Ideal.Gen.facts,
    GateUpClaims.frame_p,
    GateUpClaims.frame_pi,
    GateUpClaims.frame_ri,
    Down0Claims.frame_p,
    Down0Claims.frame_pi,
    Down0Claims.frame_ri,
    Down1Claims.frame_p,
    Down1Claims.frame_pi,
    Down1Claims.frame_ri,
    Out0Claims.frame_p,
    Out0Claims.frame_pi,
    Out0Claims.frame_ri,
    Out1Claims.frame_p,
    Out1Claims.frame_pi,
    Out1Claims.frame_ri,
    QuantInClaims.frame_p,
    QuantInClaims.frame_pi,
    QuantInClaims.frame_ri,
    QuantAttnClaims.frame_p,
    QuantAttnClaims.frame_pi,
    QuantAttnClaims.frame_ri,
    QuantPostClaims.frame_p,
    QuantPostClaims.frame_pi,
    QuantPostClaims.frame_ri,
    QuantFfnClaims.frame_p,
    QuantFfnClaims.frame_pi,
    QuantFfnClaims.frame_ri,
    QkvClaims.frame_p,
    QkvClaims.frame_pi,
    QkvClaims.frame_ri,
    AttentionClaims.frame_p,
    AttentionClaims.frame_pi,
    AttentionClaims.frame_pi_pre,
    AttentionClaims.frame_ri,
    AttentionClaims.frame_ri_pre,
    GateUpClaims.preserves,
    GateUpClaims.algebraic,
    Down0Claims.preserves,
    Down0Claims.algebraic,
    Down1Claims.preserves,
    Down1Claims.algebraic,
    Out0Claims.preserves,
    Out0Claims.algebraic,
    Out1Claims.preserves,
    Out1Claims.algebraic,
    QuantInClaims.preserves,
    QuantInClaims.algebraic,
    QuantAttnClaims.preserves,
    QuantAttnClaims.algebraic,
    QuantPostClaims.preserves,
    QuantPostClaims.algebraic,
    QuantFfnClaims.preserves,
    QuantFfnClaims.algebraic,
    QkvClaims.preserves,
    QkvClaims.algebraic,
    AttentionClaims.preserves,
    AttentionClaims.algebraic⟩

end Cert.Proof

end
